-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_qkv [hPre_finite_qkv : Cert.Pre_finite_qkv.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_qkv.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_qkv [hPre_finite_qkv : Cert.Pre_finite_qkv.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_qkv.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_qkvd [hPre_finite_qkvd : Cert.Pre_finite_qkvd.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_qkvd.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_qkvd [hPre_finite_qkvd : Cert.Pre_finite_qkvd.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_qkvd.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Kernel2Ideal_pre_finite_qkv [hKernel2Ideal : Cert.Kernel2Ideal.Facts] [hPre_finite_qkv : Cert.Pre_finite_qkv.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_qkv m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Reference2Ideal_pre_finite_qkv [hReference2Ideal : Cert.Reference2Ideal.Facts] [hPre_finite_qkv : Cert.Pre_finite_qkv.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_qkv m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite_qkvd [hKernel3Ideal : Cert.Kernel3Ideal.Facts] [hPre_finite_qkvd : Cert.Pre_finite_qkvd.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_qkvd m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite_qkvd [hReference3Ideal : Cert.Reference3Ideal.Facts] [hPre_finite_qkvd : Cert.Pre_finite_qkvd.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_qkvd m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5)
      ∧ r.2.mem ((c.tc : Thread Cert.Kernel4.nD Cert.Kernel4.τ).loc Cert.Kernel4.main_arg6) = m ((c.tc : Thread Cert.Kernel4.nD Cert.Kernel4.τ).loc Cert.Kernel4.main_arg6))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
      ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5)
      ∧ r.2.mem ((c.tc : Thread Cert.Reference4Ideal.nD Cert.Reference4Ideal.τ).loc Cert.Reference4Ideal.main_arg6) = m ((c.tc : Thread Cert.Reference4Ideal.nD Cert.Reference4Ideal.τ).loc Cert.Reference4Ideal.main_arg6))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v6_0)) (v1 : (c : Dev Cert.KernelIdeal.nD) → Buf (Elt Ideal) ((c.tc : Thread Cert.KernelIdeal.nD Cert.KernelIdeal.τ).loc Cert.KernelIdeal.main_v7_0)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v8)) (v4 : (c : Dev Cert.KernelIdeal.nD) → Buf (Elt Ideal) ((c.tc : Thread Cert.KernelIdeal.nD Cert.KernelIdeal.τ).loc Cert.KernelIdeal.main_v9)) (v5 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v6_0) = v0 c
          ∧ r.2.mem ((c.tc : Thread Cert.KernelIdeal.nD Cert.KernelIdeal.τ).loc Cert.KernelIdeal.main_v7_0) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v8) = v3 c
          ∧ r.2.mem ((c.tc : Thread Cert.KernelIdeal.nD Cert.KernelIdeal.τ).loc Cert.KernelIdeal.main_v9) = v4 c
          ∧ r.2.mem ((c.tc : Thread Cert.KernelIdeal.nD Cert.KernelIdeal.τ).loc Cert.KernelIdeal.main_v10) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_v60) = v1 c
          ∧ r.2.mem ((c.tc : Thread Cert.ReferenceIdeal.nD Cert.ReferenceIdeal.τ).loc Cert.ReferenceIdeal.main_v45) = v2 c
          ∧ r.2.mem ((c.tc : Thread Cert.ReferenceIdeal.nD Cert.ReferenceIdeal.τ).loc Cert.ReferenceIdeal.main_v61) = v3 c
          ∧ r.2.mem ((c.tc : Thread Cert.ReferenceIdeal.nD Cert.ReferenceIdeal.τ).loc Cert.ReferenceIdeal.main_v62) = v4 c
          ∧ r.2.mem ((c.tc : Thread Cert.ReferenceIdeal.nD Cert.ReferenceIdeal.τ).loc Cert.ReferenceIdeal.main_v28) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  IdealRules.named_const.Statement Cert.Kernel2Ideal.κ "masked" .f32 0xF149F2CA#32 ⊥
  ∧ IdealRules.named_const.Statement Cert.Kernel2Ideal.κ "scale2" .f32 0x3DD53B95#32 (((Real.sqrt 192)⁻¹ * (Real.log 2)⁻¹ : ℝ) : EReal)
  ∧ IdealRules.named_const.Statement Cert.Kernel2Ideal.κ "scale" .f32 0x3D93CD3A#32 (((Real.sqrt 192)⁻¹ : ℝ) : EReal)

def algebraic_Kernel2Ideal_Reference2Ideal_pre_finite_qkv [hKernel2Ideal : Cert.Kernel2Ideal.Facts] [hReference2Ideal : Cert.Reference2Ideal.Facts] [hPre_finite_qkv : Cert.Pre_finite_qkv.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_qkv m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v8_0)) (v1 : (c : Dev Cert.Kernel2Ideal.nD) → Buf (Elt Ideal) ((c.tc : Thread Cert.Kernel2Ideal.nD Cert.Kernel2Ideal.τ).loc Cert.Kernel2Ideal.main_v8_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v8_0) = v0 c
          ∧ r.2.mem ((c.tc : Thread Cert.Kernel2Ideal.nD Cert.Kernel2Ideal.τ).loc Cert.Kernel2Ideal.main_v8_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v42) = v0 c
          ∧ r.2.mem ((c.tc : Thread Cert.Reference2Ideal.nD Cert.Reference2Ideal.τ).loc Cert.Reference2Ideal.main_v43) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  IdealRules.named_const.Statement Cert.Kernel3Ideal.κ "log2e" .f32 0x3FB8AA3B#32 (((Real.log 2)⁻¹ : ℝ) : EReal)
  ∧ IdealRules.named_const.Statement Cert.Kernel3Ideal.κ "scale2" .f32 0x3DD53B95#32 (((Real.sqrt 192)⁻¹ * (Real.log 2)⁻¹ : ℝ) : EReal)
  ∧ IdealRules.named_const.Statement Cert.Kernel3Ideal.κ "scale" .f32 0x3D93CD3A#32 (((Real.sqrt 192)⁻¹ : ℝ) : EReal)

def algebraic_Kernel3Ideal_Reference3Ideal_pre_finite_qkvd [hKernel3Ideal : Cert.Kernel3Ideal.Facts] [hReference3Ideal : Cert.Reference3Ideal.Facts] [hPre_finite_qkvd : Cert.Pre_finite_qkvd.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_qkvd m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v58_0)) (v1 : (c : Dev Cert.Kernel3Ideal.nD) → Buf (Elt Ideal) ((c.tc : Thread Cert.Kernel3Ideal.nD Cert.Kernel3Ideal.τ).loc Cert.Kernel3Ideal.main_v58_1)) (v2 : (c : Dev Cert.Kernel3Ideal.nD) → Buf (Elt Ideal) ((c.tc : Thread Cert.Kernel3Ideal.nD Cert.Kernel3Ideal.τ).loc Cert.Kernel3Ideal.main_v58_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v58_0) = v0 c
          ∧ r.2.mem ((c.tc : Thread Cert.Kernel3Ideal.nD Cert.Kernel3Ideal.τ).loc Cert.Kernel3Ideal.main_v58_1) = v1 c
          ∧ r.2.mem ((c.tc : Thread Cert.Kernel3Ideal.nD Cert.Kernel3Ideal.τ).loc Cert.Kernel3Ideal.main_v58_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v67) = v0 c
          ∧ r.2.mem ((c.tc : Thread Cert.Reference3Ideal.nD Cert.Reference3Ideal.τ).loc Cert.Reference3Ideal.main_v69) = v1 c
          ∧ r.2.mem ((c.tc : Thread Cert.Reference3Ideal.nD Cert.Reference3Ideal.τ).loc Cert.Reference3Ideal.main_v70) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)
      ∧ m' ((c.tc : Thread Cert.Reference4Ideal.nD Cert.Reference4Ideal.τ).loc Cert.Reference4Ideal.main_arg6) = m ((c.tc : Thread Cert.Kernel4Ideal.nD Cert.Kernel4Ideal.τ).loc Cert.Kernel4Ideal.main_arg6)) →
    ∃ (v0 : (c : Dev Cert.Kernel4Ideal.nD) → Buf (Elt Ideal) ((c.tc : Thread Cert.Kernel4Ideal.nD Cert.Kernel4Ideal.τ).loc Cert.Kernel4Ideal.main_v11)) (v1 : (c : Dev Cert.Kernel4Ideal.nD) → Buf (Elt Ideal) ((c.tc : Thread Cert.Kernel4Ideal.nD Cert.Kernel4Ideal.τ).loc Cert.Kernel4Ideal.main_v16_0)) (v2 : (c : Dev Cert.Kernel4Ideal.nD) → Buf (Elt Ideal) ((c.tc : Thread Cert.Kernel4Ideal.nD Cert.Kernel4Ideal.τ).loc Cert.Kernel4Ideal.main_v16_2)) (v3 : (c : Dev Cert.Kernel4Ideal.nD) → Buf (Elt Ideal) ((c.tc : Thread Cert.Kernel4Ideal.nD Cert.Kernel4Ideal.τ).loc Cert.Kernel4Ideal.main_v16_6)) (v4 : (c : Dev Cert.Kernel4Ideal.nD) → Buf (Elt Ideal) ((c.tc : Thread Cert.Kernel4Ideal.nD Cert.Kernel4Ideal.τ).loc Cert.Kernel4Ideal.main_v16_7)) (v5 : (c : Dev Cert.Kernel4Ideal.nD) → Buf (Elt Ideal) ((c.tc : Thread Cert.Kernel4Ideal.nD Cert.Kernel4Ideal.τ).loc Cert.Kernel4Ideal.main_v17)) (v6 : (c : Dev Cert.Kernel4Ideal.nD) → Buf (Elt Ideal) ((c.tc : Thread Cert.Kernel4Ideal.nD Cert.Kernel4Ideal.τ).loc Cert.Kernel4Ideal.main_v16_1)) (v7 : (c : Dev Cert.Kernel4Ideal.nD) → Buf (Elt Ideal) ((c.tc : Thread Cert.Kernel4Ideal.nD Cert.Kernel4Ideal.τ).loc Cert.Kernel4Ideal.main_v16_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v11) = v0 c
          ∧ r.2.mem ((c.tc : Thread Cert.Kernel4Ideal.nD Cert.Kernel4Ideal.τ).loc Cert.Kernel4Ideal.main_v16_0) = v1 c
          ∧ r.2.mem ((c.tc : Thread Cert.Kernel4Ideal.nD Cert.Kernel4Ideal.τ).loc Cert.Kernel4Ideal.main_v16_2) = v2 c
          ∧ r.2.mem ((c.tc : Thread Cert.Kernel4Ideal.nD Cert.Kernel4Ideal.τ).loc Cert.Kernel4Ideal.main_v16_6) = v3 c
          ∧ r.2.mem ((c.tc : Thread Cert.Kernel4Ideal.nD Cert.Kernel4Ideal.τ).loc Cert.Kernel4Ideal.main_v16_7) = v4 c
          ∧ r.2.mem ((c.tc : Thread Cert.Kernel4Ideal.nD Cert.Kernel4Ideal.τ).loc Cert.Kernel4Ideal.main_v17) = v5 c
          ∧ r.2.mem ((c.tc : Thread Cert.Kernel4Ideal.nD Cert.Kernel4Ideal.τ).loc Cert.Kernel4Ideal.main_v16_1) = v6 c
          ∧ r.2.mem ((c.tc : Thread Cert.Kernel4Ideal.nD Cert.Kernel4Ideal.τ).loc Cert.Kernel4Ideal.main_v16_3) = v7 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5)
          ∧ r.2.mem ((c.tc : Thread Cert.Kernel4Ideal.nD Cert.Kernel4Ideal.τ).loc Cert.Kernel4Ideal.main_arg6) = m ((c.tc : Thread Cert.Kernel4Ideal.nD Cert.Kernel4Ideal.τ).loc Cert.Kernel4Ideal.main_arg6))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v34) = v0 c
          ∧ r.2.mem ((c.tc : Thread Cert.Reference4Ideal.nD Cert.Reference4Ideal.τ).loc Cert.Reference4Ideal.main_v94) = v1 c
          ∧ r.2.mem ((c.tc : Thread Cert.Reference4Ideal.nD Cert.Reference4Ideal.τ).loc Cert.Reference4Ideal.main_v96) = v2 c
          ∧ r.2.mem ((c.tc : Thread Cert.Reference4Ideal.nD Cert.Reference4Ideal.τ).loc Cert.Reference4Ideal.main_v97) = v3 c
          ∧ r.2.mem ((c.tc : Thread Cert.Reference4Ideal.nD Cert.Reference4Ideal.τ).loc Cert.Reference4Ideal.main_v98) = v4 c
          ∧ r.2.mem ((c.tc : Thread Cert.Reference4Ideal.nD Cert.Reference4Ideal.τ).loc Cert.Reference4Ideal.main_v37) = v5 c
          ∧ r.2.mem ((c.tc : Thread Cert.Reference4Ideal.nD Cert.Reference4Ideal.τ).loc Cert.Reference4Ideal.main_v85) = v6 c
          ∧ r.2.mem ((c.tc : Thread Cert.Reference4Ideal.nD Cert.Reference4Ideal.τ).loc Cert.Reference4Ideal.main_v91) = v7 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5)
          ∧ r.2.mem ((c.tc : Thread Cert.Reference4Ideal.nD Cert.Reference4Ideal.τ).loc Cert.Reference4Ideal.main_arg6) = m' ((c.tc : Thread Cert.Reference4Ideal.nD Cert.Reference4Ideal.τ).loc Cert.Reference4Ideal.main_arg6))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v23) = v0 c
          ∧ r.2.mem ((c.tc : Thread Cert.Reference5Ideal.nD Cert.Reference5Ideal.τ).loc Cert.Reference5Ideal.main_v4) = v1 c
          ∧ r.2.mem ((c.tc : Thread Cert.Reference5Ideal.nD Cert.Reference5Ideal.τ).loc Cert.Reference5Ideal.main_v10) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "inv192" .f32 0x3BAAAAAB#32 ((192⁻¹ : ℝ) : EReal)

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)) →
    ∃ (v0 : (c : Dev Cert.Kernel6Ideal.nD) → Buf (Elt Ideal) ((c.tc : Thread Cert.Kernel6Ideal.nD Cert.Kernel6Ideal.τ).loc Cert.Kernel6Ideal.main_v52_0)) (v1 : (c : Dev Cert.Kernel6Ideal.nD) → Buf (Elt Ideal) ((c.tc : Thread Cert.Kernel6Ideal.nD Cert.Kernel6Ideal.τ).loc Cert.Kernel6Ideal.main_v52_1)) (v2 : (c : Dev Cert.Kernel6Ideal.nD) → Buf (Elt Ideal) ((c.tc : Thread Cert.Kernel6Ideal.nD Cert.Kernel6Ideal.τ).loc Cert.Kernel6Ideal.main_v52_2)) (v3 : (c : Dev Cert.Kernel6Ideal.nD) → Buf (Elt Ideal) ((c.tc : Thread Cert.Kernel6Ideal.nD Cert.Kernel6Ideal.τ).loc Cert.Kernel6Ideal.main_v52_3)) (v4 : (c : Dev Cert.Kernel6Ideal.nD) → Buf (Elt Ideal) ((c.tc : Thread Cert.Kernel6Ideal.nD Cert.Kernel6Ideal.τ).loc Cert.Kernel6Ideal.main_v52_4)) (v5 : (c : Dev Cert.Kernel6Ideal.nD) → Buf (Elt Ideal) ((c.tc : Thread Cert.Kernel6Ideal.nD Cert.Kernel6Ideal.τ).loc Cert.Kernel6Ideal.main_v52_5)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v52_0) = v0 c
          ∧ r.2.mem ((c.tc : Thread Cert.Kernel6Ideal.nD Cert.Kernel6Ideal.τ).loc Cert.Kernel6Ideal.main_v52_1) = v1 c
          ∧ r.2.mem ((c.tc : Thread Cert.Kernel6Ideal.nD Cert.Kernel6Ideal.τ).loc Cert.Kernel6Ideal.main_v52_2) = v2 c
          ∧ r.2.mem ((c.tc : Thread Cert.Kernel6Ideal.nD Cert.Kernel6Ideal.τ).loc Cert.Kernel6Ideal.main_v52_3) = v3 c
          ∧ r.2.mem ((c.tc : Thread Cert.Kernel6Ideal.nD Cert.Kernel6Ideal.τ).loc Cert.Kernel6Ideal.main_v52_4) = v4 c
          ∧ r.2.mem ((c.tc : Thread Cert.Kernel6Ideal.nD Cert.Kernel6Ideal.τ).loc Cert.Kernel6Ideal.main_v52_5) = v5 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v197) = v0 c
          ∧ r.2.mem ((c.tc : Thread Cert.Reference6Ideal.nD Cert.Reference6Ideal.τ).loc Cert.Reference6Ideal.main_v200) = v1 c
          ∧ r.2.mem ((c.tc : Thread Cert.Reference6Ideal.nD Cert.Reference6Ideal.τ).loc Cert.Reference6Ideal.main_v202) = v2 c
          ∧ r.2.mem ((c.tc : Thread Cert.Reference6Ideal.nD Cert.Reference6Ideal.τ).loc Cert.Reference6Ideal.main_v205) = v3 c
          ∧ r.2.mem ((c.tc : Thread Cert.Reference6Ideal.nD Cert.Reference6Ideal.τ).loc Cert.Reference6Ideal.main_v208) = v4 c
          ∧ r.2.mem ((c.tc : Thread Cert.Reference6Ideal.nD Cert.Reference6Ideal.τ).loc Cert.Reference6Ideal.main_v211) = v5 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts) (hPre_finite_qkv : Cert.Pre_finite_qkv.Facts) (hPre_finite_qkvd : Cert.Pre_finite_qkvd.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_qkv (hKernel2Ideal := hKernel2Ideal) (hPre_finite_qkv := hPre_finite_qkv)
    ∧ quiescent_Reference2Ideal (hReference2Ideal := hReference2Ideal)
    ∧ quiescent_Reference2Ideal_pre_finite_qkv (hReference2Ideal := hReference2Ideal) (hPre_finite_qkv := hPre_finite_qkv)
    ∧ quiescent_Kernel3 (hKernel3 := hKernel3)
    ∧ quiescent_Kernel3Ideal (hKernel3Ideal := hKernel3Ideal)
    ∧ quiescent_Kernel3Ideal_pre_finite_qkvd (hKernel3Ideal := hKernel3Ideal) (hPre_finite_qkvd := hPre_finite_qkvd)
    ∧ quiescent_Reference3Ideal (hReference3Ideal := hReference3Ideal)
    ∧ quiescent_Reference3Ideal_pre_finite_qkvd (hReference3Ideal := hReference3Ideal) (hPre_finite_qkvd := hPre_finite_qkvd)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_qkv (hKernel2Ideal := hKernel2Ideal) (hReference2Ideal := hReference2Ideal) (hPre_finite_qkv := hPre_finite_qkv)
    ∧ preserves_Kernel3_Kernel3Ideal
    ∧ algebraic_Kernel3Ideal_Reference3Ideal_pre_finite_qkvd (hKernel3Ideal := hKernel3Ideal) (hReference3Ideal := hReference3Ideal) (hPre_finite_qkvd := hPre_finite_qkvd)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩

class Facts : Prop where
  bcast_S_S8192x1024 : S_.BroadcastsInDim S8192x1024 (![] : Fin 0 → Fin S8192x1024.rank)
  reducesTo_S8192x1024_S_d0_1 : S8192x1024.ReducesTo [0, 1] S_
  h_S_ : 0 < S_.numel
  bcast_S_S1024 : S_.BroadcastsInDim S1024 (![] : Fin 0 → Fin S1024.rank)
  reducesTo_S1024_S_d0 : S1024.ReducesTo [0] S_
  bcast_S_S1024x2816 : S_.BroadcastsInDim S1024x2816 (![] : Fin 0 → Fin S1024x2816.rank)
  reducesTo_S1024x2816_S_d0_1 : S1024x2816.ReducesTo [0, 1] S_
  bcast_S_S2816x1024 : S_.BroadcastsInDim S2816x1024 (![] : Fin 0 → Fin S2816x1024.rank)
  reducesTo_S2816x1024_S_d0_1 : S2816x1024.ReducesTo [0, 1] S_

variable [Facts]

def fn_part1 {F : FTy → Type} [FloatOps F] (main_arg4 : FVec F S2816x1024 .f32) (main_arg5 : FVec F S8192x1024 .f32) (main_v13 : IVec S_ 1) (main_v16 : IVec S1024x2816 1) : IVec S_ 1 :=
  let main_c_5 : IVec S_ 1 := constantI S_ 1 1#1
  let main_v17 : IVec S_ 1 := (fun x v => Host.reduce IntOp.andi x v reducesTo_S1024x2816_S_d0_1 h_S_) main_v16 main_c_5
  let main_v18 : IVec S_ 1 := andi main_v13 main_v17
  let main_v19 : FVec F S2816x1024 .f32 := Host.absf main_arg4
  let main_cst_6 : FVec F S_ .f32 := constant S_ .f32 0x7F800000#32
  let main_v20 : FVec F S2816x1024 .f32 := broadcastInDim S2816x1024 ![] bcast_S_S2816x1024 main_cst_6
  let main_v21 : IVec S2816x1024 1 := cmpf .olt main_v19 main_v20
  let main_c_7 : IVec S_ 1 := constantI S_ 1 1#1
  let main_v22 : IVec S_ 1 := (fun x v => Host.reduce IntOp.andi x v reducesTo_S2816x1024_S_d0_1 h_S_) main_v21 main_c_7
  let main_v23 : IVec S_ 1 := andi main_v18 main_v22
  let main_v24 : FVec F S8192x1024 .f32 := Host.absf main_arg5
  let main_cst_8 : FVec F S_ .f32 := constant S_ .f32 0x7F800000#32
  let main_v25 : FVec F S8192x1024 .f32 := broadcastInDim S8192x1024 ![] bcast_S_S8192x1024 main_cst_8
  let main_v26 : IVec S8192x1024 1 := cmpf .olt main_v24 main_v25
  let main_c_9 : IVec S_ 1 := constantI S_ 1 1#1
  let main_v27 : IVec S_ 1 := (fun x v => Host.reduce IntOp.andi x v reducesTo_S8192x1024_S_d0_1 h_S_) main_v26 main_c_9
  let main_v28 : IVec S_ 1 := andi main_v23 main_v27
  main_v28

def fn {F : FTy → Type} [FloatOps F] (main_arg0 : FVec F S8192x1024 .f32) (main_arg1 : FVec F S1024 .f32) (main_arg2 : FVec F S1024x2816 .f32) (main_arg3 : FVec F S1024x2816 .f32) (main_arg4 : FVec F S2816x1024 .f32) (main_arg5 : FVec F S8192x1024 .f32) : IVec S_ 1 :=
  let main_v0 : FVec F S8192x1024 .f32 := Host.absf main_arg0
  let main_cst : FVec F S_ .f32 := constant S_ .f32 0x7F800000#32
  let main_v1 : FVec F S8192x1024 .f32 := broadcastInDim S8192x1024 ![] bcast_S_S8192x1024 main_cst
  let main_v2 : IVec S8192x1024 1 := cmpf .olt main_v0 main_v1
  let main_c : IVec S_ 1 := constantI S_ 1 1#1
  let main_v3 : IVec S_ 1 := (fun x v => Host.reduce IntOp.andi x v reducesTo_S8192x1024_S_d0_1 h_S_) main_v2 main_c
  let main_v4 : FVec F S1024 .f32 := Host.absf main_arg1
  let main_cst_0 : FVec F S_ .f32 := constant S_ .f32 0x7F800000#32
  let main_v5 : FVec F S1024 .f32 := broadcastInDim S1024 ![] bcast_S_S1024 main_cst_0
  let main_v6 : IVec S1024 1 := cmpf .olt main_v4 main_v5
  let main_c_1 : IVec S_ 1 := constantI S_ 1 1#1
  let main_v7 : IVec S_ 1 := (fun x v => Host.reduce IntOp.andi x v reducesTo_S1024_S_d0 h_S_) main_v6 main_c_1
  let main_v8 : IVec S_ 1 := andi main_v3 main_v7
  let main_v9 : FVec F S1024x2816 .f32 := Host.absf main_arg2
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_c_3 : IVec S_ 1 := constantI S_ 1 1#1
  let main_v12 : IVec S_ 1 := (fun x v => Host.reduce IntOp.andi x v reducesTo_S1024x2816_S_d0_1 h_S_) main_v11 main_c_3
  let main_v13 : IVec S_ 1 := andi main_v8 main_v12
  let main_v14 : FVec F S1024x2816 .f32 := Host.absf main_arg3
  let main_cst_4 : FVec F S_ .f32 := constant S_ .f32 0x7F800000#32
  let main_v15 : FVec F S1024x2816 .f32 := broadcastInDim S1024x2816 ![] bcast_S_S1024x2816 main_cst_4
  let main_v16 : IVec S1024x2816 1 := cmpf .olt main_v14 main_v15
  fn_part1 (F := F) main_arg4 main_arg5 main_v13 main_v16
-- ==== Pre_finite_qkv.lean ====
abbrev S8192x4x192 : Shape := ⟨3, ![8192, 4, 192]⟩
abbrev S8192x4x128 : Shape := ⟨3, ![8192, 4, 128]⟩
abbrev S_ : Shape := ⟨0, ![]⟩

class Facts : Prop where
  bcast_S_S8192x4x192 : S_.BroadcastsInDim S8192x4x192 (![] : Fin 0 → Fin S8192x4x192.rank)
  reducesTo_S8192x4x192_S_d0_1_2 : S8192x4x192.ReducesTo [0, 1, 2] S_
  h_S_ : 0 < S_.numel
  bcast_S_S8192x4x128 : S_.BroadcastsInDim S8192x4x128 (![] : Fin 0 → Fin S8192x4x128.rank)
  reducesTo_S8192x4x128_S_d0_1_2 : S8192x4x128.ReducesTo [0, 1, 2] S_

variable [Facts]

def fn {F : FTy → Type} [FloatOps F] (main_arg0 : FVec F S8192x4x192 .f32) (main_arg1 : FVec F S8192x4x192 .f32) (main_arg2 : FVec F S8192x4x128 .f32) : IVec S_ 1 :=
  let main_v0 : FVec F S8192x4x192 .f32 := Host.absf main_arg0
  let main_cst : FVec F S_ .f32 := constant S_ .f32 0x7F800000#32
  let main_v1 : FVec F S8192x4x192 .f32 := broadcastInDim S8192x4x192 ![] bcast_S_S8192x4x192 main_cst
  let main_v2 : IVec S8192x4x192 1 := cmpf .olt main_v0 main_v1
  let main_c : IVec S_ 1 := constantI S_ 1 1#1
  let main_v3 : IVec S_ 1 := (fun x v => Host.reduce IntOp.andi x v reducesTo_S8192x4x192_S_d0_1_2 h_S_) main_v2 main_c
  let main_v4 : FVec F S8192x4x192 .f32 := Host.absf main_arg1
  let main_cst_0 : FVec F S_ .f32 := constant S_ .f32 0x7F800000#32
  let main_v5 : FVec F S8192x4x192 .f32 := broadcastInDim S8192x4x192 ![] bcast_S_S8192x4x192 main_cst_0
  let main_v6 : IVec S8192x4x192 1 := cmpf .olt main_v4 main_v5
  let main_c_1 : IVec S_ 1 := constantI S_ 1 1#1
  let main_v7 : IVec S_ 1 := (fun x v => Host.reduce IntOp.andi x v reducesTo_S8192x4x192_S_d0_1_2 h_S_) main_v6 main_c_1
  let main_v8 : IVec S_ 1 := andi main_v3 main_v7
  let main_v9 : FVec F S8192x4x128 .f32 := Host.absf main_arg2
  let main_cst_2 : FVec F S_ .f32 := constant S_ .f32 0x7F800000#32
  let main_v10 : FVec F S8192x4x128 .f32 := broadcastInDim S8192x4x128 ![] bcast_S_S8192x4x128 main_cst_2
  let main_v11 : IVec S8192x4x128 1 := cmpf .olt main_v9 main_v10
  let main_c_3 : IVec S_ 1 := constantI S_ 1 1#1
  let main_v12 : IVec S_ 1 := (fun x v => Host.reduce IntOp.andi x v reducesTo_S8192x4x128_S_d0_1_2 h_S_) main_v11 main_c_3
  let main_v13 : IVec S_ 1 := andi main_v8 main_v12
  main_v13
-- ==== Pre_finite_qkvd.lean ====
abbrev S8192x4x192 : Shape := ⟨3, ![8192, 4, 192]⟩
abbrev S8192x4x128 : Shape := ⟨3, ![8192, 4, 128]⟩
abbrev S_ : Shape := ⟨0, ![]⟩

class Facts : Prop where
  bcast_S_S8192x4x192 : S_.BroadcastsInDim S8192x4x192 (![] : Fin 0 → Fin S8192x4x192.rank)
  reducesTo_S8192x4x192_S_d0_1_2 : S8192x4x192.ReducesTo [0, 1, 2] S_
  h_S_ : 0 < S_.numel
  bcast_S_S8192x4x128 : S_.BroadcastsInDim S8192x4x128 (![] : Fin 0 → Fin S8192x4x128.rank)
  reducesTo_S8192x4x128_S_d0_1_2 : S8192x4x128.ReducesTo [0, 1, 2] S_

variable [Facts]

def fn_part1 {F : FTy → Type} [FloatOps F] (main_v13 : IVec S_ 1) (main_v16 : IVec S8192x4x128 1) : IVec S_ 1 :=
  let main_c_5 : IVec S_ 1 := constantI S_ 1 1#1
  let main_v17 : IVec S_ 1 := (fun x v => Host.reduce IntOp.andi x v reducesTo_S8192x4x128_S_d0_1_2 h_S_) main_v16 main_c_5
  let main_v18 : IVec S_ 1 := andi main_v13 main_v17
  main_v18

def fn {F : FTy → Type} [FloatOps F] (main_arg0 : FVec F S8192x4x192 .f32) (main_arg1 : FVec F S8192x4x192 .f32) (main_arg2 : FVec F S8192x4x128 .f32) (main_arg3 : FVec F S8192x4x128 .f32) : IVec S_ 1 :=
  let main_v0 : FVec F S8192x4x192 .f32 := Host.absf main_arg0
  let main_cst : FVec F S_ .f32 := constant S_ .f32 0x7F800000#32
  let main_v1 : FVec F S8192x4x192 .f32 := broadcastInDim S8192x4x192 ![] bcast_S_S8192x4x192 main_cst
  let main_v2 : IVec S8192x4x192 1 := cmpf .olt main_v0 main_v1
  let main_c : IVec S_ 1 := constantI S_ 1 1#1
  let main_v3 : IVec S_ 1 := (fun x v => Host.reduce IntOp.andi x v reducesTo_S8192x4x192_S_d0_1_2 h_S_) main_v2 main_c
  let main_v4 : FVec F S8192x4x192 .f32 := Host.absf main_arg1
  let main_cst_0 : FVec F S_ .f32 := constant S_ .f32 0x7F800000#32
  let main_v5 : FVec F S8192x4x192 .f32 := broadcastInDim S8192x4x192 ![] bcast_S_S8192x4x192 main_cst_0
  let main_v6 : IVec S8192x4x192 1 := cmpf .olt main_v4 main_v5
  let main_c_1 : IVec S_ 1 := constantI S_ 1 1#1
  let main_v7 : IVec S_ 1 := (fun x v => Host.reduce IntOp.andi x v reducesTo_S8192x4x192_S_d0_1_2 h_S_) main_v6 main_c_1
  let main_v8 : IVec S_ 1 := andi main_v3 main_v7
  let main_v9 : FVec F S8192x4x128 .f32 := Host.absf main_arg2
  let main_cst_2 : FVec F S_ .f32 := constant S_ .f32 0x7F800000#32
  let main_v10 : FVec F S8192x4x128 .f32 := broadcastInDim S8192x4x128 ![] bcast_S_S8192x4x128 main_cst_2
  let main_v11 : IVec S8192x4x128 1 := cmpf .olt main_v9 main_v10
  let main_c_3 : IVec S_ 1 := constantI S_ 1 1#1
  let main_v12 : IVec S_ 1 := (fun x v => Host.reduce IntOp.andi x v reducesTo_S8192x4x128_S_d0_1_2 h_S_) main_v11 main_c_3
  let main_v13 : IVec S_ 1 := andi main_v8 main_v12
  let main_v14 : FVec F S8192x4x128 .f32 := Host.absf main_arg3
  let main_cst_4 : FVec F S_ .f32 := constant S_ .f32 0x7F800000#32
  let main_v15 : FVec F S8192x4x128 .f32 := broadcastInDim S8192x4x128 ![] bcast_S_S8192x4x128 main_cst_4
  let main_v16 : IVec S8192x4x128 1 := cmpf .olt main_v14 main_v15
  fn_part1 (F := F) main_v13 main_v16
-- ==== Kernel.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S1x1024 : Shape := ⟨2, ![1, 1024]⟩
abbrev S8192x2816 : Shape := ⟨2, ![8192, 2816]⟩
abbrev S256x1024 : Shape := ⟨2, ![256, 1024]⟩
abbrev S256x2816 : Shape := ⟨2, ![256, 2816]⟩
abbrev S256 : Shape := ⟨1, ![256]⟩
abbrev S256x1 : Shape := ⟨2, ![256, 1]⟩
abbrev S1408x1024 : Shape := ⟨2, ![1408, 1024]⟩
abbrev S256x1408 : Shape := ⟨2, ![256, 1408]⟩
abbrev S1024x1024 : Shape := ⟨2, ![1024, 1024]⟩

abbrev nBuf : Space → Nat
  | .hbm => 26
  | .vmem => 52
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S1x1024, .f32⟩
  | .hbm, ⟨7, _⟩ => ⟨S2816x1024, .f32⟩
  | .hbm, ⟨8, _⟩ => ⟨S2816x1024, .bf16⟩
  | .hbm, ⟨9, _⟩ => ⟨S2816x1024, .f32⟩
  | .hbm, ⟨10, _⟩ => ⟨S2816x1024, .bf16⟩
  | .hbm, ⟨11, _⟩ => ⟨S2816x1024, .bf16⟩
  | .hbm, ⟨12, _⟩ => ⟨S8192x1024, .f32⟩
  | .hbm, ⟨13, _⟩ => ⟨S8192x1024, .bf16⟩
  | .hbm, ⟨14, _⟩ => ⟨S8192x2816, .bf16⟩
  | .hbm, ⟨15, _⟩ => ⟨S8192x2816, .bf16⟩
  | .hbm, ⟨16, _⟩ => ⟨S8192x2816, .bf16⟩
  | .hbm, ⟨17, _⟩ => ⟨S8192x1024, .f32⟩
  | .hbm, ⟨18, _⟩ => ⟨S8192x2816, .bf16⟩
  | .hbm, ⟨19, _⟩ => ⟨S8192x2816, .bf16⟩
  | .hbm, ⟨20, _⟩ => ⟨S8192x1024, .bf16⟩
  | .hbm, ⟨21, _⟩ => ⟨S1x1024, .f32⟩
  | .hbm, ⟨22, _⟩ => ⟨S2816x1024, .f32⟩
  | .hbm, ⟨23, _⟩ => ⟨S2816x1024, .f32⟩
  | .hbm, ⟨24, _⟩ => ⟨S2816x1024, .f32⟩
  | .hbm, ⟨25, _⟩ => ⟨S1024, .f32⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S2816x1024, .bf16⟩
  | .local _ .vmem, ⟨4, _⟩ => ⟨S2816x1024, .bf16⟩
  | .local _ .vmem, ⟨5, _⟩ => ⟨S2816x1024, .bf16⟩
  | .local _ .vmem, ⟨6, _⟩ => ⟨S256x1024, .f32⟩
  | .local _ .vmem, ⟨7, _⟩ => ⟨S256x1024, .f32⟩
  | .local _ .vmem, ⟨8, _⟩ => ⟨S256x1024, .bf16⟩
  | .local _ .vmem, ⟨9, _⟩ => ⟨S256x1024, .bf16⟩
  | .local _ .vmem, ⟨10, _⟩ => ⟨S256x2816, .bf16⟩
  | .local _ .vmem, ⟨11, _⟩ => ⟨S256x2816, .bf16⟩
  | .local _ .vmem, ⟨12, _⟩ => ⟨S256x2816, .bf16⟩
  | .local _ .vmem, ⟨13, _⟩ => ⟨S256x2816, .bf16⟩
  | .local _ .vmem, ⟨14, _⟩ => ⟨S256x2816, .bf16⟩
  | .local _ .vmem, ⟨15, _⟩ => ⟨S256x2816, .bf16⟩
  | .local _ .vmem, ⟨16, _⟩ => ⟨S256x1024, .f32⟩
  | .local _ .vmem, ⟨17, _⟩ => ⟨S256x1024, .f32⟩
  | .local _ .vmem, ⟨18, _⟩ => ⟨S1x1024, .f32⟩
  | .local _ .vmem, ⟨19, _⟩ => ⟨S256x1024, .f32⟩
  | .local _ .vmem, ⟨20, _⟩ => ⟨S256x1024, .f32⟩
  | .local _ .vmem, ⟨21, _⟩ => ⟨S256x2816, .bf16⟩
  | .local _ .vmem, ⟨22, _⟩ => ⟨S256x2816, .bf16⟩
  | .local _ .vmem, ⟨23, _⟩ => ⟨S256x2816, .bf16⟩
  | .local _ .vmem, ⟨24, _⟩ => ⟨S256x2816, .bf16⟩
  | .local _ .vmem, ⟨25, _⟩ => ⟨S2816x1024, .bf16⟩
  | .local _ .vmem, ⟨26, _⟩ => ⟨S2816x1024, .bf16⟩
  | .local _ .vmem, ⟨27, _⟩ => ⟨S2816x1024, .bf16⟩
  | .local _ .vmem, ⟨28, _⟩ => ⟨S256x1024, .f32⟩
  | .local _ .vmem, ⟨29, _⟩ => ⟨S256x1024, .f32⟩
  | .local _ .vmem, ⟨30, _⟩ => ⟨S256x2816, .bf16⟩
  | .local _ .vmem, ⟨31, _⟩ => ⟨S256x2816, .bf16⟩
  | .local _ .vmem, ⟨32, _⟩ => ⟨S256x2816, .bf16⟩
  | .local _ .vmem, ⟨33, _⟩ => ⟨S256x2816, .bf16⟩
  | .local _ .vmem, ⟨34, _⟩ => ⟨S256x1024, .bf16⟩
  | .local _ .vmem, ⟨35, _⟩ => ⟨S256x1024, .bf16⟩
  | .local _ .vmem, ⟨36, _⟩ => ⟨S1x1024, .f32⟩
  | .local _ .vmem, ⟨37, _⟩ => ⟨S1024x2816, .bf16⟩
  | .local _ .vmem, ⟨38, _⟩ => ⟨S1024x2816, .bf16⟩
  | .local _ .vmem, ⟨39, _⟩ => ⟨S1024x1024, .bf16⟩
  | .local _ .vmem, ⟨40, _⟩ => ⟨S1024x1024, .bf16⟩
  | .local _ .vmem, ⟨41, _⟩ => ⟨S2816x1024, .f32⟩
  | .local _ .vmem, ⟨42, _⟩ => ⟨S1024x2816, .bf16⟩
  | .local _ .vmem, ⟨43, _⟩ => ⟨S1024x2816, .bf16⟩
  | .local _ .vmem, ⟨44, _⟩ => ⟨S1024x1024, .bf16⟩
  | .local _ .vmem, ⟨45, _⟩ => ⟨S1024x1024, .bf16⟩
  | .local _ .vmem, ⟨46, _⟩ => ⟨S2816x1024, .f32⟩
  | .local _ .vmem, ⟨47, _⟩ => ⟨S1024x2816, .bf16⟩
  | .local _ .vmem, ⟨48, _⟩ => ⟨S1024x2816, .bf16⟩
  | .local _ .vmem, ⟨49, _⟩ => ⟨S1024x1024, .bf16⟩
  | .local _ .vmem, ⟨50, _⟩ => ⟨S1024x1024, .bf16⟩
  | .local _ .vmem, ⟨51, _⟩ => ⟨S2816x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v6_3 : Ref sig .tc := ⟨.hbm, 15, rfl⟩
abbrev main_v6_4 : Ref sig .tc := ⟨.hbm, 16, rfl⟩
abbrev main_v7_0 : Ref sig .tc := ⟨.hbm, 17, rfl⟩
abbrev main_v7_1 : Ref sig .tc := ⟨.hbm, 18, rfl⟩
abbrev main_v7_2 : Ref sig .tc := ⟨.hbm, 19, rfl⟩
abbrev main_v7_3 : Ref sig .tc := ⟨.hbm, 20, rfl⟩
abbrev main_v7_4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc1_stg0_0 : Ref sig .tc := ⟨.vmem, 16, rfl⟩
abbrev cc1_stg0_1 : Ref sig .tc := ⟨.vmem, 17, rfl⟩
abbrev cc1_stg1_0 : Ref sig .tc := ⟨.vmem, 18, rfl⟩
abbrev cc1_stg2_0 : Ref sig .tc := ⟨.vmem, 19, rfl⟩
abbrev cc1_stg2_1 : Ref sig .tc := ⟨.vmem, 20, rfl⟩
abbrev cc1_stg3_0 : Ref sig .tc := ⟨.vmem, 21, rfl⟩
abbrev cc1_stg3_1 : Ref sig .tc := ⟨.vmem, 22, rfl⟩
abbrev cc1_stg4_0 : Ref sig .tc := ⟨.vmem, 23, rfl⟩
abbrev cc1_stg4_1 : Ref sig .tc := ⟨.vmem, 24, rfl⟩
abbrev cc1_stg5_0 : Ref sig .tc := ⟨.vmem, 25, rfl⟩
abbrev cc1_stg6_0 : Ref sig .tc := ⟨.vmem, 26, rfl⟩
abbrev cc1_stg7_0 : Ref sig .tc := ⟨.vmem, 27, rfl⟩
abbrev cc1_stg8_0 : Ref sig .tc := ⟨.vmem, 28, rfl⟩
abbrev cc1_stg8_1 : Ref sig .tc := ⟨.vmem, 29, rfl⟩
abbrev cc1_stg9_0 : Ref sig .tc := ⟨.vmem, 30, rfl⟩
abbrev cc1_stg9_1 : Ref sig .tc := ⟨.vmem, 31, rfl⟩
abbrev cc1_stg10_0 : Ref sig .tc := ⟨.vmem, 32, rfl⟩
abbrev cc1_stg10_1 : Ref sig .tc := ⟨.vmem, 33, rfl⟩
abbrev cc1_stg11_0 : Ref sig .tc := ⟨.vmem, 34, rfl⟩
abbrev cc1_stg11_1 : Ref sig .tc := ⟨.vmem, 35, rfl⟩
abbrev cc1_stg12_0 : Ref sig .tc := ⟨.vmem, 36, rfl⟩
abbrev cc2_stg0_0 : Ref sig .tc := ⟨.vmem, 37, rfl⟩
abbrev cc2_stg0_1 : Ref sig .tc := ⟨.vmem, 38, rfl⟩
abbrev cc2_stg1_0 : Ref sig .tc := ⟨.vmem, 39, rfl⟩
abbrev cc2_stg1_1 : Ref sig .tc := ⟨.vmem, 40, rfl⟩
abbrev cc2_stg2_0 : Ref sig .tc := ⟨.vmem, 41, rfl⟩
abbrev cc3_stg0_0 : Ref sig .tc := ⟨.vmem, 42, rfl⟩
abbrev cc3_stg0_1 : Ref sig .tc := ⟨.vmem, 43, rfl⟩
abbrev cc3_stg1_0 : Ref sig .tc := ⟨.vmem, 44, rfl⟩
abbrev cc3_stg1_1 : Ref sig .tc := ⟨.vmem, 45, rfl⟩
abbrev cc3_stg2_0 : Ref sig .tc := ⟨.vmem, 46, rfl⟩
abbrev cc4_stg0_0 : Ref sig .tc := ⟨.vmem, 47, rfl⟩
abbrev cc4_stg0_1 : Ref sig .tc := ⟨.vmem, 48, rfl⟩
abbrev cc4_stg1_0 : Ref sig .tc := ⟨.vmem, 49, rfl⟩
abbrev cc4_stg1_1 : Ref sig .tc := ⟨.vmem, 50, rfl⟩
abbrev cc4_stg2_0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc1_sem0_0 : DmaSem sig := 16
abbrev cc1_sem0_1 : DmaSem sig := 17
abbrev cc1_sem1_0 : DmaSem sig := 18
abbrev cc1_sem2_0 : DmaSem sig := 19
abbrev cc1_sem2_1 : DmaSem sig := 20
abbrev cc1_sem3_0 : DmaSem sig := 21
abbrev cc1_sem3_1 : DmaSem sig := 22
abbrev cc1_sem4_0 : DmaSem sig := 23
abbrev cc1_sem4_1 : DmaSem sig := 24
abbrev cc1_sem5_0 : DmaSem sig := 25
abbrev cc1_sem6_0 : DmaSem sig := 26
abbrev cc1_sem7_0 : DmaSem sig := 27
abbrev cc1_sem8_0 : DmaSem sig := 28
abbrev cc1_sem8_1 : DmaSem sig := 29
abbrev cc1_sem9_0 : DmaSem sig := 30
abbrev cc1_sem9_1 : DmaSem sig := 31
abbrev cc1_sem10_0 : DmaSem sig := 32
abbrev cc1_sem10_1 : DmaSem sig := 33
abbrev cc1_sem11_0 : DmaSem sig := 34
abbrev cc1_sem11_1 : DmaSem sig := 35
abbrev cc1_sem12_0 : DmaSem sig := 36
abbrev cc2_sem0_0 : DmaSem sig := 37
abbrev cc2_sem0_1 : DmaSem sig := 38
abbrev cc2_sem1_0 : DmaSem sig := 39
abbrev cc2_sem1_1 : DmaSem sig := 40
abbrev cc2_sem2_0 : DmaSem sig := 41
abbrev cc3_sem0_0 : DmaSem sig := 42
abbrev cc3_sem0_1 : DmaSem sig := 43
abbrev cc3_sem1_0 : DmaSem sig := 44
abbrev cc3_sem1_1 : DmaSem sig := 45
abbrev cc3_sem2_0 : DmaSem sig := 46
abbrev cc4_sem0_0 : DmaSem sig := 47
abbrev cc4_sem0_1 : DmaSem sig := 48
abbrev cc4_sem1_0 : DmaSem sig := 49
abbrev cc4_sem1_1 : DmaSem sig := 50
abbrev cc4_sem2_0 : DmaSem sig := 51

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x2816 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2816 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2816 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S256x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S256x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S256x2816 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S256x2816 .bf16 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 1 → Memref sig .tc .vmem S2816x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2816x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S2816x1024 .bf16 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x2816 .bf16 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x2816 .bf16 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S256x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 1 → Memref sig .tc .vmem S1x1024 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1024x2816 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S2816x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]

abbrev grid3 : Pipeline.Grid := ⟨2, ![1, 8], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage3_0 : Fin 2 → Memref sig .tc .vmem S1024x2816 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![false, true]

abbrev stage3_1 : Fin 2 → Memref sig .tc .vmem S1024x1024 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true, true]

abbrev stage3_2 : Fin 1 → Memref sig .tc .vmem S2816x1024 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![true, false]

abbrev grid4 : Pipeline.Grid := ⟨2, ![1, 8], ![false, false]⟩

def cc4_transform_0 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc4_transform_1 (i : grid4.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc4_transform_2 (i : grid4.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage4_0 : Fin 2 → Memref sig .tc .vmem S1024x2816 .bf16 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![false, true]

abbrev stage4_1 : Fin 2 → Memref sig .tc .vmem S1024x1024 .bf16 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true, true]

abbrev stage4_2 : Fin 1 → Memref sig .tc .vmem S2816x1024 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![true, false]
-- ==== ReferenceIdeal.lean ====
abbrev S8192x1024 : Shape := ⟨2, ![8192, 1024]⟩
abbrev S1024 : Shape := ⟨1, ![1024]⟩
abbrev S1024x2816 : Shape := ⟨2, ![1024, 2816]⟩
abbrev S2816x1024 : Shape := ⟨2, ![2816, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x2816 : Shape := ⟨2, ![8192, 2816]⟩

abbrev nBuf : Space → Nat
  | .hbm => 95
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S8192x1024, .f32⟩
  | .hbm, ⟨6, _⟩ => ⟨S8192x1024, .f32⟩
  | .hbm, ⟨7, _⟩ => ⟨S_, .f32⟩
  | .hbm, ⟨8, _⟩ => ⟨S8192, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S_, .f32⟩
  | .hbm, ⟨14, _⟩ => ⟨S8192x1, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S_, .f32⟩
  | .hbm, ⟨19, _⟩ => ⟨S8192x1, .f32⟩
  | .hbm, ⟨20, _⟩ => ⟨S8192x1, .f32⟩
  | .hbm, ⟨21, _⟩ => ⟨S8192x1024, .f32⟩
  | .hbm, ⟨22, _⟩ => ⟨S8192x1024, .f32⟩
  | .hbm, ⟨23, _⟩ => ⟨S1x1024, .f32⟩
  | .hbm, ⟨24, _⟩ => ⟨S8192x1024, .f32⟩
  | .hbm, ⟨25, _⟩ => ⟨S8192x1024, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S_, .f32⟩
  | .hbm, ⟨30, _⟩ => ⟨S8192x2816, .f32⟩
  | .hbm, ⟨31, _⟩ => ⟨S8192x2816, .f32⟩
  | .hbm, ⟨32, _⟩ => ⟨S_, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S8192x2816, .f32⟩
  | .hbm, ⟨39, _⟩ => ⟨S8192x2816, .f32⟩
  | .hbm, ⟨40, _⟩ => ⟨S8192x2816, .f32⟩
  | .hbm, ⟨41, _⟩ => ⟨S8192x2816, .f32⟩
  | .hbm, ⟨42, _⟩ => ⟨S8192x1024, .f32⟩
  | .hbm, ⟨43, _⟩ => ⟨S_, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S8192x1024, .f32⟩
  | .hbm, ⟨48, _⟩ => ⟨S_, .f32⟩
  | .hbm, ⟨49, _⟩ => ⟨S8192x1024, .f32⟩
  | .hbm, ⟨50, _⟩ => ⟨S8192x1024, .f32⟩
  | .hbm, ⟨51, _⟩ => ⟨S1024x2816, .f32⟩
  | .hbm, ⟨52, _⟩ => ⟨S2816x1024, .f32⟩
  | .hbm, ⟨53, _⟩ => ⟨S8192x2816, .f32⟩
  | .hbm, ⟨54, _⟩ => ⟨S8192x2816, .f32⟩
  | .hbm, ⟨55, _⟩ => ⟨S8192x2816, .f32⟩
  | .hbm, ⟨56, _⟩ => ⟨S2816x1024, .f32⟩
  | .hbm, ⟨57, _⟩ => ⟨S1024x2816, .f32⟩
  | .hbm, ⟨58, _⟩ => ⟨S8192x1024, .f32⟩
  | .hbm, ⟨59, _⟩ => ⟨S8192x2816, .f32⟩
  | .hbm, ⟨60, _⟩ => ⟨S8192x2816, .f32⟩
  | .hbm, ⟨61, _⟩ => ⟨S8192x2816, .f32⟩
  | .hbm, ⟨62, _⟩ => ⟨S8192x2816, .f32⟩
  | .hbm, ⟨63, _⟩ => ⟨S2816x1024, .f32⟩
  | .hbm, ⟨64, _⟩ => ⟨S1024x2816, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S_, .f32⟩
  | .hbm, ⟨69, _⟩ => ⟨S1024, .f32⟩
  | .hbm, ⟨70, _⟩ => ⟨S1x1024, .f32⟩
  | .hbm, ⟨71, _⟩ => ⟨S8192x1024, .f32⟩
  | .hbm, ⟨72, _⟩ => ⟨S8192x1024, .f32⟩
  | .hbm, ⟨73, _⟩ => ⟨S_, .f32⟩
  | .hbm, ⟨74, _⟩ => ⟨S1024, .f32⟩
  | .hbm, ⟨75, _⟩ => ⟨S8192x1024, .f32⟩
  | .hbm, ⟨76, _⟩ => ⟨S_, .f32⟩
  | .hbm, ⟨77, _⟩ => ⟨S8192, .f32⟩
  | .hbm, ⟨78, _⟩ => ⟨S8192x1, .f32⟩
  | .hbm, ⟨79, _⟩ => ⟨S8192x1024, .f32⟩
  | .hbm, ⟨80, _⟩ => ⟨S8192x1024, .f32⟩
  | .hbm, ⟨81, _⟩ => ⟨S8192x1024, .f32⟩
  | .hbm, ⟨82, _⟩ => ⟨S8192x1, .f32⟩
  | .hbm, ⟨83, _⟩ => ⟨S_, .f32⟩
  | .hbm, ⟨84, _⟩ => ⟨S8192x1, .f32⟩
  | .hbm, ⟨85, _⟩ => ⟨S8192x1, .f32⟩
  | .hbm, ⟨86, _⟩ => ⟨S_, .f32⟩
  | .hbm, ⟨87, _⟩ => ⟨S8192, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S8192x1024, .f32⟩
  | .hbm, ⟨93, _⟩ => ⟨S2816x1024, .f32⟩
  | .hbm, ⟨94, _⟩ => ⟨S2816x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_cst_2 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_call0_v0 : Ref sig .tc := ⟨.hbm, 27, rfl⟩
abbrev main_call0_v1 : Ref sig .tc := ⟨.hbm, 28, rfl⟩
abbrev main_call0_cst : Ref sig .tc := ⟨.hbm, 29, rfl⟩
abbrev main_call0_v2 : Ref sig .tc := ⟨.hbm, 30, rfl⟩
abbrev main_call0_v3 : Ref sig .tc := ⟨.hbm, 31, rfl⟩
abbrev main_call0_cst_0 : Ref sig .tc := ⟨.hbm, 32, rfl⟩
abbrev main_call0_v4 : Ref sig .tc := ⟨.hbm, 33, rfl⟩
abbrev main_v17_2 : Ref sig .tc := ⟨.hbm, 34, rfl⟩
abbrev main_call0_cst_1 : Ref sig .tc := ⟨.hbm, 35, rfl⟩
abbrev main_call0_v6 : Ref sig .tc := ⟨.hbm, 36, rfl⟩
abbrev main_call0_v7 : Ref sig .tc := ⟨.hbm, 37, rfl⟩
abbrev main_v17_1 : Ref sig .tc := ⟨.hbm, 38, rfl⟩
abbrev main_v17_0 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_cst_3 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_call1_v0 : Ref sig .tc := ⟨.hbm, 59, rfl⟩
abbrev main_call1_v1 : Ref sig .tc := ⟨.hbm, 60, rfl⟩
abbrev main_call1_v2 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_5 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_cst_6 : Ref sig .tc := ⟨.hbm, 73, rfl⟩
abbrev main_v45 : Ref sig .tc := ⟨.hbm, 74, rfl⟩
abbrev main_v46 : Ref sig .tc := ⟨.hbm, 75, rfl⟩
abbrev main_cst_7 : Ref sig .tc := ⟨.hbm, 76, rfl⟩
abbrev main_v47 : Ref sig .tc := ⟨.hbm, 77, rfl⟩
abbrev main_v48 : Ref sig .tc := ⟨.hbm, 78, rfl⟩
abbrev main_v49 : Ref sig .tc := ⟨.hbm, 79, rfl⟩
abbrev main_v50 : Ref sig .tc := ⟨.hbm, 80, rfl⟩
abbrev main_v51 : Ref sig .tc := ⟨.hbm, 81, rfl⟩
abbrev main_v52 : Ref sig .tc := ⟨.hbm, 82, rfl⟩
abbrev main_cst_8 : Ref sig .tc := ⟨.hbm, 83, rfl⟩
abbrev main_v53 : Ref sig .tc := ⟨.hbm, 84, rfl⟩
abbrev main_v54 : Ref sig .tc := ⟨.hbm, 85, rfl⟩
abbrev main_cst_9 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩

abbrev nD : Nat := 1
abbrev τ : Topo := Topo.v7x

variable {F : FTy → Type} [FloatOps F]
-- ==== Kernel2.lean ====
abbrev S8192x4x192 : Shape := ⟨3, ![8192, 4, 192]⟩
abbrev S8192x4x128 : Shape := ⟨3, ![8192, 4, 128]⟩
abbrev S_ : Shape := ⟨0, ![]⟩
abbrev S8192x4x256 : Shape := ⟨3, ![8192, 4, 256]⟩
abbrev S4x8192x256 : Shape := ⟨3, ![4, 8192, 256]⟩
abbrev S4x8192x128 : Shape := ⟨3, ![4, 8192, 128]⟩
abbrev S4x16x1x512 : Shape := ⟨4, ![4, 16, 1, 512]⟩
abbrev S1x512x256 : Shape := ⟨3, ![1, 512, 256]⟩
abbrev S1x8192x256 : Shape := ⟨3, ![1, 8192, 256]⟩
abbrev S1x8192x128 : Shape := ⟨3, ![1, 8192, 128]⟩
abbrev S1x512x128 : Shape := ⟨3, ![1, 512, 128]⟩
abbrev S1x1x1x512 : Shape := ⟨4, ![1, 1, 1, 512]⟩
abbrev S512x256 : Shape := ⟨2, ![512, 256]⟩
abbrev S512x1 : Shape := ⟨2, ![512, 1]⟩
abbrev S512x128 : Shape := ⟨2, ![512, 128]⟩
abbrev S1x2048x256 : Shape := ⟨3, ![1, 2048, 256]⟩
abbrev S2048x256 : Shape := ⟨2, ![2048, 256]⟩
abbrev S512x2048 : Shape := ⟨2, ![512, 2048]⟩
abbrev S512 : Shape := ⟨1, ![512]⟩
abbrev S1x2048x128 : Shape := ⟨3, ![1, 2048, 128]⟩
abbrev S2048x128 : Shape := ⟨2, ![2048, 128]⟩
abbrev S1x1024x256 : Shape := ⟨3, ![1, 1024, 256]⟩
abbrev S1024x256 : Shape := ⟨2, ![1024, 256]⟩
abbrev S512x1024 : Shape := ⟨2, ![512, 1024]⟩
abbrev S1x1024x128 : Shape := ⟨3, ![1, 1024, 128]⟩
abbrev S1024x128 : Shape := ⟨2, ![1024, 128]⟩
abbrev S512x512 : Shape := ⟨2, ![512, 512]⟩
abbrev S128x512 : Shape := ⟨2, ![128, 512]⟩
abbrev S1x512 : Shape := ⟨2, ![1, 512]⟩

abbrev nBuf : Space → Nat
  | .hbm => 17
  | .vmem => 10
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S_, .i32⟩
  | .hbm, ⟨4, _⟩ => ⟨S_, .f32⟩
  | .hbm, ⟨5, _⟩ => ⟨S8192x4x256, .f32⟩
  | .hbm, ⟨6, _⟩ => ⟨S4x8192x256, .f32⟩
  | .hbm, ⟨7, _⟩ => ⟨S4x8192x256, .bf16⟩
  | .hbm, ⟨8, _⟩ => ⟨S_, .i32⟩
  | .hbm, ⟨9, _⟩ => ⟨S_, .f32⟩
  | .hbm, ⟨10, _⟩ => ⟨S8192x4x256, .f32⟩
  | .hbm, ⟨11, _⟩ => ⟨S4x8192x256, .f32⟩
  | .hbm, ⟨12, _⟩ => ⟨S4x8192x256, .bf16⟩
  | .hbm, ⟨13, _⟩ => ⟨S4x8192x128, .f32⟩
  | .hbm, ⟨14, _⟩ => ⟨S4x8192x128, .bf16⟩
  | .hbm, ⟨15, _⟩ => ⟨S4x8192x128, .f32⟩
  | .hbm, ⟨16, _⟩ => ⟨S4x16x1x512, .f32⟩
  | .local _ .vmem, ⟨0, _⟩ => ⟨S1x512x256, .bf16⟩
  | .local _ .vmem, ⟨1, _⟩ => ⟨S1x512x256, .bf16⟩
  | .local _ .vmem, ⟨2, _⟩ => ⟨S1x8192x256, .bf16⟩
  | .local _ .vmem, ⟨3, _⟩ => ⟨S1x8192x256, .bf16⟩
  | .local _ .vmem, ⟨4, _⟩ => ⟨S1x8192x128, .bf16⟩
  | .local _ .vmem, ⟨5, _⟩ => ⟨S1x8192x128, .bf16⟩
  | .local _ .vmem, ⟨6, _⟩ => ⟨S1x512x128, .f32⟩
  | .local _ .vmem, ⟨7, _⟩ => ⟨S1x512x128, .f32⟩
  | .local _ .vmem, ⟨8, _⟩ => ⟨S1x1x1x512, .f32⟩
  | .local _ .vmem, ⟨9, _⟩ => ⟨S1x1x1x512, .f32⟩
  | _, _ => ⟨S8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c_0 : Ref sig .tc := ⟨.hbm, 8, rfl⟩
abbrev main_call1_v0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8_0 : Ref sig .tc := ⟨.hbm, 15, rfl⟩
abbrev main_v8_1 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 16], ![false, false]⟩

@[reducible] def k0_t1_loop (i : grid0.Coords) : Scf.Loop 32 :=
  let c0_i32_9 : BitVec 32 := 0#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_9
  let c1_i32_10 : BitVec 32 := 1#32
  let v25 : BitVec 32 := Scalar.divsi v23 c1_i32_10
  let v26 : BitVec 32 := Scalar.muli v25 c1_i32_10
  let v27 : BitVec 32 := Scalar.addi c0_i32_9 v26
  let c1_i32_11 : BitVec 32 := 1#32
  ⟨c0_i32_9, v27, c1_i32_11⟩
def k0_mult1 (i : grid0.Coords) (k0_t1 : Fin (k0_t1_loop i).trips) : BitVec 32 :=
  let c0_i32_57 : BitVec 32 := 0#32
  let c4_i32_56 : BitVec 32 := 4#32
  let c0_i32_9 : BitVec 32 := 0#32
  let c1_i32_11 : BitVec 32 := 1#32
  let arg7 : BitVec 32 := Scf.iv c0_i32_9 c1_i32_11 k0_t1
  let v135 : BitVec 32 := Scalar.muli c4_i32_56 arg7
  let v136 : BitVec 32 := Scalar.addi c0_i32_57 v135
  let c512_i32_58 : BitVec 32 := 512#32
  let v137 : BitVec 32 := Scalar.muli v136 c512_i32_58
  v137
def k0_off1 (i : grid0.Coords) (k0_t1 : Fin (k0_t1_loop i).trips) : Fin 3 → Nat :=
  let c0_59 : Index := 0#32
  let c0_i32_57 : BitVec 32 := 0#32
  let c4_i32_56 : BitVec 32 := 4#32
  let c0_i32_9 : BitVec 32 := 0#32
  let c1_i32_11 : BitVec 32 := 1#32
  let arg7 : BitVec 32 := Scf.iv c0_i32_9 c1_i32_11 k0_t1
  let v135 : BitVec 32 := Scalar.muli c4_i32_56 arg7
  let v136 : BitVec 32 := Scalar.addi c0_i32_57 v135
  let c512_i32_58 : BitVec 32 := 512#32
  let v137 : BitVec 32 := Scalar.muli v136 c512_i32_58
  let v138 : BitVec 32 := v137
  let v139 : Index := Scalar.indexCast v138
  let c0_60 : Index := 0#32
  ![0, v139.toNat, 0]
def k0_off2 (i : grid0.Coords) (k0_t1 : Fin (k0_t1_loop i).trips) : Fin 3 → Nat :=
  let c0_66 : Index := 0#32
  let c0_i32_57 : BitVec 32 := 0#32
  let c4_i32_56 : BitVec 32 := 4#32
  let c0_i32_9 : BitVec 32 := 0#32
  let c1_i32_11 : BitVec 32 := 1#32
  let arg7 : BitVec 32 := Scf.iv c0_i32_9 c1_i32_11 k0_t1
  let v135 : BitVec 32 := Scalar.muli c4_i32_56 arg7
  let v136 : BitVec 32 := Scalar.addi c0_i32_57 v135
  let c512_i32_58 : BitVec 32 := 512#32
  let v137 : BitVec 32 := Scalar.muli v136 c512_i32_58
  let v138 : BitVec 32 := v137
  let v162 : Index := Scalar.indexCast v138
  let c0_67 : Index := 0#32
  ![0, v162.toNat, 0]
@[reducible] def k0_t2_loop (i : grid0.Coords) : Scf.Loop 32 :=
  let c0_i32_9 : BitVec 32 := 0#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_9
  let c1_i32_10 : BitVec 32 := 1#32
  let v25 : BitVec 32 := Scalar.divsi v23 c1_i32_10
  let v26 : BitVec 32 := Scalar.muli v25 c1_i32_10
  let v27 : BitVec 32 := Scalar.addi c0_i32_9 v26
  let v24 : BitVec 32 := Scalar.addi c0_i32_9 v23
  let c1_i32_12 : BitVec 32 := 1#32
  ⟨v27, v24, c1_i32_12⟩
def k0_mult2 (i : grid0.Coords) (k0_t2 : Fin (k0_t2_loop i).trips) : BitVec 32 :=
  let c0_i32_57 : BitVec 32 := 0#32
  let c4_i32_56 : BitVec 32 := 4#32
  let c0_i32_9 : BitVec 32 := 0#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_9
  let c1_i32_10 : BitVec 32 := 1#32
  let v25 : BitVec 32 := Scalar.divsi v23 c1_i32_10
  let v26 : BitVec 32 := Scalar.muli v25 c1_i32_10
  let v27 : BitVec 32 := Scalar.addi c0_i32_9 v26
  let c1_i32_12 : BitVec 32 := 1#32
  let arg7 : BitVec 32 := Scf.iv v27 c1_i32_12 k0_t2
  let v135 : BitVec 32 := Scalar.muli c4_i32_56 arg7
  let v136 : BitVec 32 := Scalar.addi c0_i32_57 v135
  let c512_i32_58 : BitVec 32 := 512#32
  let v137 : BitVec 32 := Scalar.muli v136 c512_i32_58
  v137
def k0_off3 (i : grid0.Coords) (k0_t2 : Fin (k0_t2_loop i).trips) : Fin 3 → Nat :=
  let c0_59 : Index := 0#32
  let c0_i32_57 : BitVec 32 := 0#32
  let c4_i32_56 : BitVec 32 := 4#32
  let c0_i32_9 : BitVec 32 := 0#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_9
  let c1_i32_10 : BitVec 32 := 1#32
  let v25 : BitVec 32 := Scalar.divsi v23 c1_i32_10
  let v26 : BitVec 32 := Scalar.muli v25 c1_i32_10
  let v27 : BitVec 32 := Scalar.addi c0_i32_9 v26
  let c1_i32_12 : BitVec 32 := 1#32
  let arg7 : BitVec 32 := Scf.iv v27 c1_i32_12 k0_t2
  let v135 : BitVec 32 := Scalar.muli c4_i32_56 arg7
  let v136 : BitVec 32 := Scalar.addi c0_i32_57 v135
  let c512_i32_58 : BitVec 32 := 512#32
  let v137 : BitVec 32 := Scalar.muli v136 c512_i32_58
  let v138 : BitVec 32 := v137
  let v139 : Index := Scalar.indexCast v138
  let c0_60 : Index := 0#32
  ![0, v139.toNat, 0]
def k0_off4 (i : grid0.Coords) (k0_t2 : Fin (k0_t2_loop i).trips) : Fin 3 → Nat :=
  let c0_66 : Index := 0#32
  let c0_i32_57 : BitVec 32 := 0#32
  let c4_i32_56 : BitVec 32 := 4#32
  let c0_i32_9 : BitVec 32 := 0#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v23 : BitVec 32 := Scalar.subi v22 c0_i32_9
  let c1_i32_10 : BitVec 32 := 1#32
  let v25 : BitVec 32 := Scalar.divsi v23 c1_i32_10
  let v26 : BitVec 32 := Scalar.muli v25 c1_i32_10
  let v27 : BitVec 32 := Scalar.addi c0_i32_9 v26
  let c1_i32_12 : BitVec 32 := 1#32
  let arg7 : BitVec 32 := Scf.iv v27 c1_i32_12 k0_t2
  let v135 : BitVec 32 := Scalar.muli c4_i32_56 arg7
  let v136 : BitVec 32 := Scalar.addi c0_i32_57 v135
  let c512_i32_58 : BitVec 32 := 512#32
  let v137 : BitVec 32 := Scalar.muli v136 c512_i32_58
  let v138 : BitVec 32 := v137
  let v162 : Index := Scalar.indexCast v138
  let c0_67 : Index := 0#32
  ![0, v162.toNat, 0]
@[reducible] def k0_t3_loop (i : grid0.Coords) : Scf.Loop 32 :=
  let c0_i32_21 : BitVec 32 := 0#32
  let arg1 : BitVec 32 := BitVec.ofNat 32 (i 1).val
  let c0_i32_14 : BitVec 32 := 0#32
  let c4_i32_13 : BitVec 32 := 4#32
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let v32 : BitVec 32 := Scalar.subi arg1 v31
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c2_i32 : BitVec 32 := 2#32
  let c0_i32_17 : BitVec 32 := 0#32
  let v39 : BitVec 1 := Scalar.cmpi .sgt c2_i32 c0_i32_17
  let v40 : BitVec 32 := Scalar.extui v39
  let c0_i32_18 : BitVec 32 := 0#32
  let v41 : BitVec 1 := Scalar.cmpi .slt c2_i32 c0_i32_18
  let v42 : BitVec 32 := Scalar.extui v41
  let v43 : BitVec 32 := Scalar.subi v40 v42
  let v44 : BitVec 1 := Scalar.cmpi .ne v38 v43
  let v45 : BitVec 32 := Scalar.remsi v32 c2_i32
  let c0_i32_19 : BitVec 32 := 0#32
  let v46 : BitVec 1 := Scalar.cmpi .ne v45 c0_i32_19
  let v47 : BitVec 1 := Scalar.andi v44 v46
  let v33 : BitVec 32 := Scalar.divsi v32 c2_i32
  let c1_i32_20 : BitVec 32 := 1#32
  let v48 : BitVec 32 := Scalar.subi v33 c1_i32_20
  let v49 : BitVec 32 := Scalar.select v47 v48 v33
  let v50 : BitVec 32 := Scalar.subi v49 c0_i32_21
  let c1_i32_22 : BitVec 32 := 1#32
  let v52 : BitVec 32 := Scalar.divsi v50 c1_i32_22
  let v53 : BitVec 32 := Scalar.muli v52 c1_i32_22
  let v54 : BitVec 32 := Scalar.addi c0_i32_21 v53
  let c1_i32_23 : BitVec 32 := 1#32
  ⟨c0_i32_21, v54, c1_i32_23⟩
def k0_mult3 (i : grid0.Coords) (k0_t3 : Fin (k0_t3_loop i).trips) : BitVec 32 :=
  let c0_i32_14 : BitVec 32 := 0#32
  let c4_i32_13 : BitVec 32 := 4#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let c2_i32_56 : BitVec 32 := 2#32
  let c0_i32_21 : BitVec 32 := 0#32
  let c1_i32_23 : BitVec 32 := 1#32
  let arg7 : BitVec 32 := Scf.iv c0_i32_21 c1_i32_23 k0_t3
  let v135 : BitVec 32 := Scalar.muli c2_i32_56 arg7
  let v136 : BitVec 32 := Scalar.addi v31 v135
  let c512_i32_57 : BitVec 32 := 512#32
  let v137 : BitVec 32 := Scalar.muli v136 c512_i32_57
  v137
def k0_off5 (i : grid0.Coords) (k0_t3 : Fin (k0_t3_loop i).trips) : Fin 3 → Nat :=
  let c0_58 : Index := 0#32
  let c0_i32_14 : BitVec 32 := 0#32
  let c4_i32_13 : BitVec 32 := 4#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let c2_i32_56 : BitVec 32 := 2#32
  let c0_i32_21 : BitVec 32 := 0#32
  let c1_i32_23 : BitVec 32 := 1#32
  let arg7 : BitVec 32 := Scf.iv c0_i32_21 c1_i32_23 k0_t3
  let v135 : BitVec 32 := Scalar.muli c2_i32_56 arg7
  let v136 : BitVec 32 := Scalar.addi v31 v135
  let c512_i32_57 : BitVec 32 := 512#32
  let v137 : BitVec 32 := Scalar.muli v136 c512_i32_57
  let v138 : BitVec 32 := v137
  let v139 : Index := Scalar.indexCast v138
  let c0_59 : Index := 0#32
  ![0, v139.toNat, 0]
def k0_off6 (i : grid0.Coords) (k0_t3 : Fin (k0_t3_loop i).trips) : Fin 3 → Nat :=
  let c0_65 : Index := 0#32
  let c0_i32_14 : BitVec 32 := 0#32
  let c4_i32_13 : BitVec 32 := 4#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let c2_i32_56 : BitVec 32 := 2#32
  let c0_i32_21 : BitVec 32 := 0#32
  let c1_i32_23 : BitVec 32 := 1#32
  let arg7 : BitVec 32 := Scf.iv c0_i32_21 c1_i32_23 k0_t3
  let v135 : BitVec 32 := Scalar.muli c2_i32_56 arg7
  let v136 : BitVec 32 := Scalar.addi v31 v135
  let c512_i32_57 : BitVec 32 := 512#32
  let v137 : BitVec 32 := Scalar.muli v136 c512_i32_57
  let v138 : BitVec 32 := v137
  let v162 : Index := Scalar.indexCast v138
  let c0_66 : Index := 0#32
  ![0, v162.toNat, 0]
@[reducible] def k0_t4_loop (i : grid0.Coords) : Scf.Loop 32 :=
  let c0_i32_21 : BitVec 32 := 0#32
  let arg1 : BitVec 32 := BitVec.ofNat 32 (i 1).val
  let c0_i32_14 : BitVec 32 := 0#32
  let c4_i32_13 : BitVec 32 := 4#32
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let v32 : BitVec 32 := Scalar.subi arg1 v31
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c2_i32 : BitVec 32 := 2#32
  let c0_i32_17 : BitVec 32 := 0#32
  let v39 : BitVec 1 := Scalar.cmpi .sgt c2_i32 c0_i32_17
  let v40 : BitVec 32 := Scalar.extui v39
  let c0_i32_18 : BitVec 32 := 0#32
  let v41 : BitVec 1 := Scalar.cmpi .slt c2_i32 c0_i32_18
  let v42 : BitVec 32 := Scalar.extui v41
  let v43 : BitVec 32 := Scalar.subi v40 v42
  let v44 : BitVec 1 := Scalar.cmpi .ne v38 v43
  let v45 : BitVec 32 := Scalar.remsi v32 c2_i32
  let c0_i32_19 : BitVec 32 := 0#32
  let v46 : BitVec 1 := Scalar.cmpi .ne v45 c0_i32_19
  let v47 : BitVec 1 := Scalar.andi v44 v46
  let v33 : BitVec 32 := Scalar.divsi v32 c2_i32
  let c1_i32_20 : BitVec 32 := 1#32
  let v48 : BitVec 32 := Scalar.subi v33 c1_i32_20
  let v49 : BitVec 32 := Scalar.select v47 v48 v33
  let v50 : BitVec 32 := Scalar.subi v49 c0_i32_21
  let c1_i32_22 : BitVec 32 := 1#32
  let v52 : BitVec 32 := Scalar.divsi v50 c1_i32_22
  let v53 : BitVec 32 := Scalar.muli v52 c1_i32_22
  let v54 : BitVec 32 := Scalar.addi c0_i32_21 v53
  let v51 : BitVec 32 := Scalar.addi c0_i32_21 v50
  let c1_i32_24 : BitVec 32 := 1#32
  ⟨v54, v51, c1_i32_24⟩
def k0_mult4 (i : grid0.Coords) (k0_t4 : Fin (k0_t4_loop i).trips) : BitVec 32 :=
  let c0_i32_14 : BitVec 32 := 0#32
  let c4_i32_13 : BitVec 32 := 4#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let c2_i32_56 : BitVec 32 := 2#32
  let c0_i32_21 : BitVec 32 := 0#32
  let v32 : BitVec 32 := Scalar.subi arg1 v31
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c2_i32 : BitVec 32 := 2#32
  let c0_i32_17 : BitVec 32 := 0#32
  let v39 : BitVec 1 := Scalar.cmpi .sgt c2_i32 c0_i32_17
  let v40 : BitVec 32 := Scalar.extui v39
  let c0_i32_18 : BitVec 32 := 0#32
  let v41 : BitVec 1 := Scalar.cmpi .slt c2_i32 c0_i32_18
  let v42 : BitVec 32 := Scalar.extui v41
  let v43 : BitVec 32 := Scalar.subi v40 v42
  let v44 : BitVec 1 := Scalar.cmpi .ne v38 v43
  let v45 : BitVec 32 := Scalar.remsi v32 c2_i32
  let c0_i32_19 : BitVec 32 := 0#32
  let v46 : BitVec 1 := Scalar.cmpi .ne v45 c0_i32_19
  let v47 : BitVec 1 := Scalar.andi v44 v46
  let v33 : BitVec 32 := Scalar.divsi v32 c2_i32
  let c1_i32_20 : BitVec 32 := 1#32
  let v48 : BitVec 32 := Scalar.subi v33 c1_i32_20
  let v49 : BitVec 32 := Scalar.select v47 v48 v33
  let v50 : BitVec 32 := Scalar.subi v49 c0_i32_21
  let c1_i32_22 : BitVec 32 := 1#32
  let v52 : BitVec 32 := Scalar.divsi v50 c1_i32_22
  let v53 : BitVec 32 := Scalar.muli v52 c1_i32_22
  let v54 : BitVec 32 := Scalar.addi c0_i32_21 v53
  let c1_i32_24 : BitVec 32 := 1#32
  let arg7 : BitVec 32 := Scf.iv v54 c1_i32_24 k0_t4
  let v135 : BitVec 32 := Scalar.muli c2_i32_56 arg7
  let v136 : BitVec 32 := Scalar.addi v31 v135
  let c512_i32_57 : BitVec 32 := 512#32
  let v137 : BitVec 32 := Scalar.muli v136 c512_i32_57
  v137
def k0_off7 (i : grid0.Coords) (k0_t4 : Fin (k0_t4_loop i).trips) : Fin 3 → Nat :=
  let c0_58 : Index := 0#32
  let c0_i32_14 : BitVec 32 := 0#32
  let c4_i32_13 : BitVec 32 := 4#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let c2_i32_56 : BitVec 32 := 2#32
  let c0_i32_21 : BitVec 32 := 0#32
  let v32 : BitVec 32 := Scalar.subi arg1 v31
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c2_i32 : BitVec 32 := 2#32
  let c0_i32_17 : BitVec 32 := 0#32
  let v39 : BitVec 1 := Scalar.cmpi .sgt c2_i32 c0_i32_17
  let v40 : BitVec 32 := Scalar.extui v39
  let c0_i32_18 : BitVec 32 := 0#32
  let v41 : BitVec 1 := Scalar.cmpi .slt c2_i32 c0_i32_18
  let v42 : BitVec 32 := Scalar.extui v41
  let v43 : BitVec 32 := Scalar.subi v40 v42
  let v44 : BitVec 1 := Scalar.cmpi .ne v38 v43
  let v45 : BitVec 32 := Scalar.remsi v32 c2_i32
  let c0_i32_19 : BitVec 32 := 0#32
  let v46 : BitVec 1 := Scalar.cmpi .ne v45 c0_i32_19
  let v47 : BitVec 1 := Scalar.andi v44 v46
  let v33 : BitVec 32 := Scalar.divsi v32 c2_i32
  let c1_i32_20 : BitVec 32 := 1#32
  let v48 : BitVec 32 := Scalar.subi v33 c1_i32_20
  let v49 : BitVec 32 := Scalar.select v47 v48 v33
  let v50 : BitVec 32 := Scalar.subi v49 c0_i32_21
  let c1_i32_22 : BitVec 32 := 1#32
  let v52 : BitVec 32 := Scalar.divsi v50 c1_i32_22
  let v53 : BitVec 32 := Scalar.muli v52 c1_i32_22
  let v54 : BitVec 32 := Scalar.addi c0_i32_21 v53
  let c1_i32_24 : BitVec 32 := 1#32
  let arg7 : BitVec 32 := Scf.iv v54 c1_i32_24 k0_t4
  let v135 : BitVec 32 := Scalar.muli c2_i32_56 arg7
  let v136 : BitVec 32 := Scalar.addi v31 v135
  let c512_i32_57 : BitVec 32 := 512#32
  let v137 : BitVec 32 := Scalar.muli v136 c512_i32_57
  let v138 : BitVec 32 := v137
  let v139 : Index := Scalar.indexCast v138
  let c0_59 : Index := 0#32
  ![0, v139.toNat, 0]
def k0_off8 (i : grid0.Coords) (k0_t4 : Fin (k0_t4_loop i).trips) : Fin 3 → Nat :=
  let c0_65 : Index := 0#32
  let c0_i32_14 : BitVec 32 := 0#32
  let c4_i32_13 : BitVec 32 := 4#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let c2_i32_56 : BitVec 32 := 2#32
  let c0_i32_21 : BitVec 32 := 0#32
  let v32 : BitVec 32 := Scalar.subi arg1 v31
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c2_i32 : BitVec 32 := 2#32
  let c0_i32_17 : BitVec 32 := 0#32
  let v39 : BitVec 1 := Scalar.cmpi .sgt c2_i32 c0_i32_17
  let v40 : BitVec 32 := Scalar.extui v39
  let c0_i32_18 : BitVec 32 := 0#32
  let v41 : BitVec 1 := Scalar.cmpi .slt c2_i32 c0_i32_18
  let v42 : BitVec 32 := Scalar.extui v41
  let v43 : BitVec 32 := Scalar.subi v40 v42
  let v44 : BitVec 1 := Scalar.cmpi .ne v38 v43
  let v45 : BitVec 32 := Scalar.remsi v32 c2_i32
  let c0_i32_19 : BitVec 32 := 0#32
  let v46 : BitVec 1 := Scalar.cmpi .ne v45 c0_i32_19
  let v47 : BitVec 1 := Scalar.andi v44 v46
  let v33 : BitVec 32 := Scalar.divsi v32 c2_i32
  let c1_i32_20 : BitVec 32 := 1#32
  let v48 : BitVec 32 := Scalar.subi v33 c1_i32_20
  let v49 : BitVec 32 := Scalar.select v47 v48 v33
  let v50 : BitVec 32 := Scalar.subi v49 c0_i32_21
  let c1_i32_22 : BitVec 32 := 1#32
  let v52 : BitVec 32 := Scalar.divsi v50 c1_i32_22
  let v53 : BitVec 32 := Scalar.muli v52 c1_i32_22
  let v54 : BitVec 32 := Scalar.addi c0_i32_21 v53
  let c1_i32_24 : BitVec 32 := 1#32
  let arg7 : BitVec 32 := Scf.iv v54 c1_i32_24 k0_t4
  let v135 : BitVec 32 := Scalar.muli c2_i32_56 arg7
  let v136 : BitVec 32 := Scalar.addi v31 v135
  let c512_i32_57 : BitVec 32 := 512#32
  let v137 : BitVec 32 := Scalar.muli v136 c512_i32_57
  let v138 : BitVec 32 := v137
  let v162 : Index := Scalar.indexCast v138
  let c0_66 : Index := 0#32
  ![0, v162.toNat, 0]
@[reducible] def k0_t5_loop (i : grid0.Coords) : Scf.Loop 32 :=
  let c0_i32_33 : BitVec 32 := 0#32
  let arg1 : BitVec 32 := BitVec.ofNat 32 (i 1).val
  let c0_i32_14 : BitVec 32 := 0#32
  let c4_i32_13 : BitVec 32 := 4#32
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let c2_i32_25 : BitVec 32 := 2#32
  let v32 : BitVec 32 := Scalar.subi arg1 v31
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c2_i32 : BitVec 32 := 2#32
  let c0_i32_17 : BitVec 32 := 0#32
  let v39 : BitVec 1 := Scalar.cmpi .sgt c2_i32 c0_i32_17
  let v40 : BitVec 32 := Scalar.extui v39
  let c0_i32_18 : BitVec 32 := 0#32
  let v41 : BitVec 1 := Scalar.cmpi .slt c2_i32 c0_i32_18
  let v42 : BitVec 32 := Scalar.extui v41
  let v43 : BitVec 32 := Scalar.subi v40 v42
  let v44 : BitVec 1 := Scalar.cmpi .ne v38 v43
  let v45 : BitVec 32 := Scalar.remsi v32 c2_i32
  let c0_i32_19 : BitVec 32 := 0#32
  let v46 : BitVec 1 := Scalar.cmpi .ne v45 c0_i32_19
  let v47 : BitVec 1 := Scalar.andi v44 v46
  let v33 : BitVec 32 := Scalar.divsi v32 c2_i32
  let c1_i32_20 : BitVec 32 := 1#32
  let v48 : BitVec 32 := Scalar.subi v33 c1_i32_20
  let v49 : BitVec 32 := Scalar.select v47 v48 v33
  let v57 : BitVec 32 := Scalar.muli c2_i32_25 v49
  let v58 : BitVec 32 := Scalar.addi v31 v57
  let v59 : BitVec 32 := Scalar.subi arg1 v58
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c1_i32_26 : BitVec 32 := 1#32
  let c0_i32_29 : BitVec 32 := 0#32
  let v66 : BitVec 1 := Scalar.cmpi .sgt c1_i32_26 c0_i32_29
  let v67 : BitVec 32 := Scalar.extui v66
  let c0_i32_30 : BitVec 32 := 0#32
  let v68 : BitVec 1 := Scalar.cmpi .slt c1_i32_26 c0_i32_30
  let v69 : BitVec 32 := Scalar.extui v68
  let v70 : BitVec 32 := Scalar.subi v67 v69
  let v71 : BitVec 1 := Scalar.cmpi .ne v65 v70
  let v72 : BitVec 32 := Scalar.remsi v59 c1_i32_26
  let c0_i32_31 : BitVec 32 := 0#32
  let v73 : BitVec 1 := Scalar.cmpi .ne v72 c0_i32_31
  let v74 : BitVec 1 := Scalar.andi v71 v73
  let v60 : BitVec 32 := Scalar.divsi v59 c1_i32_26
  let c1_i32_32 : BitVec 32 := 1#32
  let v75 : BitVec 32 := Scalar.subi v60 c1_i32_32
  let v76 : BitVec 32 := Scalar.select v74 v75 v60
  let v77 : BitVec 32 := Scalar.subi v76 c0_i32_33
  let c1_i32_34 : BitVec 32 := 1#32
  let v79 : BitVec 32 := Scalar.divsi v77 c1_i32_34
  let v80 : BitVec 32 := Scalar.muli v79 c1_i32_34
  let v81 : BitVec 32 := Scalar.addi c0_i32_33 v80
  let c1_i32_35 : BitVec 32 := 1#32
  ⟨c0_i32_33, v81, c1_i32_35⟩
def k0_mult5 (i : grid0.Coords) (k0_t5 : Fin (k0_t5_loop i).trips) : BitVec 32 :=
  let c0_i32_14 : BitVec 32 := 0#32
  let c4_i32_13 : BitVec 32 := 4#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let c2_i32_25 : BitVec 32 := 2#32
  let v32 : BitVec 32 := Scalar.subi arg1 v31
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c2_i32 : BitVec 32 := 2#32
  let c0_i32_17 : BitVec 32 := 0#32
  let v39 : BitVec 1 := Scalar.cmpi .sgt c2_i32 c0_i32_17
  let v40 : BitVec 32 := Scalar.extui v39
  let c0_i32_18 : BitVec 32 := 0#32
  let v41 : BitVec 1 := Scalar.cmpi .slt c2_i32 c0_i32_18
  let v42 : BitVec 32 := Scalar.extui v41
  let v43 : BitVec 32 := Scalar.subi v40 v42
  let v44 : BitVec 1 := Scalar.cmpi .ne v38 v43
  let v45 : BitVec 32 := Scalar.remsi v32 c2_i32
  let c0_i32_19 : BitVec 32 := 0#32
  let v46 : BitVec 1 := Scalar.cmpi .ne v45 c0_i32_19
  let v47 : BitVec 1 := Scalar.andi v44 v46
  let v33 : BitVec 32 := Scalar.divsi v32 c2_i32
  let c1_i32_20 : BitVec 32 := 1#32
  let v48 : BitVec 32 := Scalar.subi v33 c1_i32_20
  let v49 : BitVec 32 := Scalar.select v47 v48 v33
  let v57 : BitVec 32 := Scalar.muli c2_i32_25 v49
  let v58 : BitVec 32 := Scalar.addi v31 v57
  let c1_i32_56 : BitVec 32 := 1#32
  let c0_i32_33 : BitVec 32 := 0#32
  let c1_i32_35 : BitVec 32 := 1#32
  let arg7 : BitVec 32 := Scf.iv c0_i32_33 c1_i32_35 k0_t5
  let v135 : BitVec 32 := Scalar.muli c1_i32_56 arg7
  let v136 : BitVec 32 := Scalar.addi v58 v135
  let c512_i32_57 : BitVec 32 := 512#32
  let v137 : BitVec 32 := Scalar.muli v136 c512_i32_57
  v137
def k0_off9 (i : grid0.Coords) (k0_t5 : Fin (k0_t5_loop i).trips) : Fin 3 → Nat :=
  let c0_58 : Index := 0#32
  let c0_i32_14 : BitVec 32 := 0#32
  let c4_i32_13 : BitVec 32 := 4#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let c2_i32_25 : BitVec 32 := 2#32
  let v32 : BitVec 32 := Scalar.subi arg1 v31
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c2_i32 : BitVec 32 := 2#32
  let c0_i32_17 : BitVec 32 := 0#32
  let v39 : BitVec 1 := Scalar.cmpi .sgt c2_i32 c0_i32_17
  let v40 : BitVec 32 := Scalar.extui v39
  let c0_i32_18 : BitVec 32 := 0#32
  let v41 : BitVec 1 := Scalar.cmpi .slt c2_i32 c0_i32_18
  let v42 : BitVec 32 := Scalar.extui v41
  let v43 : BitVec 32 := Scalar.subi v40 v42
  let v44 : BitVec 1 := Scalar.cmpi .ne v38 v43
  let v45 : BitVec 32 := Scalar.remsi v32 c2_i32
  let c0_i32_19 : BitVec 32 := 0#32
  let v46 : BitVec 1 := Scalar.cmpi .ne v45 c0_i32_19
  let v47 : BitVec 1 := Scalar.andi v44 v46
  let v33 : BitVec 32 := Scalar.divsi v32 c2_i32
  let c1_i32_20 : BitVec 32 := 1#32
  let v48 : BitVec 32 := Scalar.subi v33 c1_i32_20
  let v49 : BitVec 32 := Scalar.select v47 v48 v33
  let v57 : BitVec 32 := Scalar.muli c2_i32_25 v49
  let v58 : BitVec 32 := Scalar.addi v31 v57
  let c1_i32_56 : BitVec 32 := 1#32
  let c0_i32_33 : BitVec 32 := 0#32
  let c1_i32_35 : BitVec 32 := 1#32
  let arg7 : BitVec 32 := Scf.iv c0_i32_33 c1_i32_35 k0_t5
  let v135 : BitVec 32 := Scalar.muli c1_i32_56 arg7
  let v136 : BitVec 32 := Scalar.addi v58 v135
  let c512_i32_57 : BitVec 32 := 512#32
  let v137 : BitVec 32 := Scalar.muli v136 c512_i32_57
  let v138 : BitVec 32 := v137
  let v139 : Index := Scalar.indexCast v138
  let c0_59 : Index := 0#32
  ![0, v139.toNat, 0]
def k0_off10 (i : grid0.Coords) (k0_t5 : Fin (k0_t5_loop i).trips) : Fin 3 → Nat :=
  let c0_65 : Index := 0#32
  let c0_i32_14 : BitVec 32 := 0#32
  let c4_i32_13 : BitVec 32 := 4#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let c2_i32_25 : BitVec 32 := 2#32
  let v32 : BitVec 32 := Scalar.subi arg1 v31
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c2_i32 : BitVec 32 := 2#32
  let c0_i32_17 : BitVec 32 := 0#32
  let v39 : BitVec 1 := Scalar.cmpi .sgt c2_i32 c0_i32_17
  let v40 : BitVec 32 := Scalar.extui v39
  let c0_i32_18 : BitVec 32 := 0#32
  let v41 : BitVec 1 := Scalar.cmpi .slt c2_i32 c0_i32_18
  let v42 : BitVec 32 := Scalar.extui v41
  let v43 : BitVec 32 := Scalar.subi v40 v42
  let v44 : BitVec 1 := Scalar.cmpi .ne v38 v43
  let v45 : BitVec 32 := Scalar.remsi v32 c2_i32
  let c0_i32_19 : BitVec 32 := 0#32
  let v46 : BitVec 1 := Scalar.cmpi .ne v45 c0_i32_19
  let v47 : BitVec 1 := Scalar.andi v44 v46
  let v33 : BitVec 32 := Scalar.divsi v32 c2_i32
  let c1_i32_20 : BitVec 32 := 1#32
  let v48 : BitVec 32 := Scalar.subi v33 c1_i32_20
  let v49 : BitVec 32 := Scalar.select v47 v48 v33
  let v57 : BitVec 32 := Scalar.muli c2_i32_25 v49
  let v58 : BitVec 32 := Scalar.addi v31 v57
  let c1_i32_56 : BitVec 32 := 1#32
  let c0_i32_33 : BitVec 32 := 0#32
  let c1_i32_35 : BitVec 32 := 1#32
  let arg7 : BitVec 32 := Scf.iv c0_i32_33 c1_i32_35 k0_t5
  let v135 : BitVec 32 := Scalar.muli c1_i32_56 arg7
  let v136 : BitVec 32 := Scalar.addi v58 v135
  let c512_i32_57 : BitVec 32 := 512#32
  let v137 : BitVec 32 := Scalar.muli v136 c512_i32_57
  let v138 : BitVec 32 := v137
  let v162 : Index := Scalar.indexCast v138
  let c0_66 : Index := 0#32
  ![0, v162.toNat, 0]
@[reducible] def k0_t6_loop (i : grid0.Coords) : Scf.Loop 32 :=
  let c0_i32_33 : BitVec 32 := 0#32
  let arg1 : BitVec 32 := BitVec.ofNat 32 (i 1).val
  let c0_i32_14 : BitVec 32 := 0#32
  let c4_i32_13 : BitVec 32 := 4#32
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let c2_i32_25 : BitVec 32 := 2#32
  let v32 : BitVec 32 := Scalar.subi arg1 v31
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c2_i32 : BitVec 32 := 2#32
  let c0_i32_17 : BitVec 32 := 0#32
  let v39 : BitVec 1 := Scalar.cmpi .sgt c2_i32 c0_i32_17
  let v40 : BitVec 32 := Scalar.extui v39
  let c0_i32_18 : BitVec 32 := 0#32
  let v41 : BitVec 1 := Scalar.cmpi .slt c2_i32 c0_i32_18
  let v42 : BitVec 32 := Scalar.extui v41
  let v43 : BitVec 32 := Scalar.subi v40 v42
  let v44 : BitVec 1 := Scalar.cmpi .ne v38 v43
  let v45 : BitVec 32 := Scalar.remsi v32 c2_i32
  let c0_i32_19 : BitVec 32 := 0#32
  let v46 : BitVec 1 := Scalar.cmpi .ne v45 c0_i32_19
  let v47 : BitVec 1 := Scalar.andi v44 v46
  let v33 : BitVec 32 := Scalar.divsi v32 c2_i32
  let c1_i32_20 : BitVec 32 := 1#32
  let v48 : BitVec 32 := Scalar.subi v33 c1_i32_20
  let v49 : BitVec 32 := Scalar.select v47 v48 v33
  let v57 : BitVec 32 := Scalar.muli c2_i32_25 v49
  let v58 : BitVec 32 := Scalar.addi v31 v57
  let v59 : BitVec 32 := Scalar.subi arg1 v58
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c1_i32_26 : BitVec 32 := 1#32
  let c0_i32_29 : BitVec 32 := 0#32
  let v66 : BitVec 1 := Scalar.cmpi .sgt c1_i32_26 c0_i32_29
  let v67 : BitVec 32 := Scalar.extui v66
  let c0_i32_30 : BitVec 32 := 0#32
  let v68 : BitVec 1 := Scalar.cmpi .slt c1_i32_26 c0_i32_30
  let v69 : BitVec 32 := Scalar.extui v68
  let v70 : BitVec 32 := Scalar.subi v67 v69
  let v71 : BitVec 1 := Scalar.cmpi .ne v65 v70
  let v72 : BitVec 32 := Scalar.remsi v59 c1_i32_26
  let c0_i32_31 : BitVec 32 := 0#32
  let v73 : BitVec 1 := Scalar.cmpi .ne v72 c0_i32_31
  let v74 : BitVec 1 := Scalar.andi v71 v73
  let v60 : BitVec 32 := Scalar.divsi v59 c1_i32_26
  let c1_i32_32 : BitVec 32 := 1#32
  let v75 : BitVec 32 := Scalar.subi v60 c1_i32_32
  let v76 : BitVec 32 := Scalar.select v74 v75 v60
  let v77 : BitVec 32 := Scalar.subi v76 c0_i32_33
  let c1_i32_34 : BitVec 32 := 1#32
  let v79 : BitVec 32 := Scalar.divsi v77 c1_i32_34
  let v80 : BitVec 32 := Scalar.muli v79 c1_i32_34
  let v81 : BitVec 32 := Scalar.addi c0_i32_33 v80
  let v78 : BitVec 32 := Scalar.addi c0_i32_33 v77
  let c1_i32_36 : BitVec 32 := 1#32
  ⟨v81, v78, c1_i32_36⟩
def k0_mult6 (i : grid0.Coords) (k0_t6 : Fin (k0_t6_loop i).trips) : BitVec 32 :=
  let c0_i32_14 : BitVec 32 := 0#32
  let c4_i32_13 : BitVec 32 := 4#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let c2_i32_25 : BitVec 32 := 2#32
  let v32 : BitVec 32 := Scalar.subi arg1 v31
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c2_i32 : BitVec 32 := 2#32
  let c0_i32_17 : BitVec 32 := 0#32
  let v39 : BitVec 1 := Scalar.cmpi .sgt c2_i32 c0_i32_17
  let v40 : BitVec 32 := Scalar.extui v39
  let c0_i32_18 : BitVec 32 := 0#32
  let v41 : BitVec 1 := Scalar.cmpi .slt c2_i32 c0_i32_18
  let v42 : BitVec 32 := Scalar.extui v41
  let v43 : BitVec 32 := Scalar.subi v40 v42
  let v44 : BitVec 1 := Scalar.cmpi .ne v38 v43
  let v45 : BitVec 32 := Scalar.remsi v32 c2_i32
  let c0_i32_19 : BitVec 32 := 0#32
  let v46 : BitVec 1 := Scalar.cmpi .ne v45 c0_i32_19
  let v47 : BitVec 1 := Scalar.andi v44 v46
  let v33 : BitVec 32 := Scalar.divsi v32 c2_i32
  let c1_i32_20 : BitVec 32 := 1#32
  let v48 : BitVec 32 := Scalar.subi v33 c1_i32_20
  let v49 : BitVec 32 := Scalar.select v47 v48 v33
  let v57 : BitVec 32 := Scalar.muli c2_i32_25 v49
  let v58 : BitVec 32 := Scalar.addi v31 v57
  let c1_i32_56 : BitVec 32 := 1#32
  let c0_i32_33 : BitVec 32 := 0#32
  let v59 : BitVec 32 := Scalar.subi arg1 v58
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c1_i32_26 : BitVec 32 := 1#32
  let c0_i32_29 : BitVec 32 := 0#32
  let v66 : BitVec 1 := Scalar.cmpi .sgt c1_i32_26 c0_i32_29
  let v67 : BitVec 32 := Scalar.extui v66
  let c0_i32_30 : BitVec 32 := 0#32
  let v68 : BitVec 1 := Scalar.cmpi .slt c1_i32_26 c0_i32_30
  let v69 : BitVec 32 := Scalar.extui v68
  let v70 : BitVec 32 := Scalar.subi v67 v69
  let v71 : BitVec 1 := Scalar.cmpi .ne v65 v70
  let v72 : BitVec 32 := Scalar.remsi v59 c1_i32_26
  let c0_i32_31 : BitVec 32 := 0#32
  let v73 : BitVec 1 := Scalar.cmpi .ne v72 c0_i32_31
  let v74 : BitVec 1 := Scalar.andi v71 v73
  let v60 : BitVec 32 := Scalar.divsi v59 c1_i32_26
  let c1_i32_32 : BitVec 32 := 1#32
  let v75 : BitVec 32 := Scalar.subi v60 c1_i32_32
  let v76 : BitVec 32 := Scalar.select v74 v75 v60
  let v77 : BitVec 32 := Scalar.subi v76 c0_i32_33
  let c1_i32_34 : BitVec 32 := 1#32
  let v79 : BitVec 32 := Scalar.divsi v77 c1_i32_34
  let v80 : BitVec 32 := Scalar.muli v79 c1_i32_34
  let v81 : BitVec 32 := Scalar.addi c0_i32_33 v80
  let c1_i32_36 : BitVec 32 := 1#32
  let arg7 : BitVec 32 := Scf.iv v81 c1_i32_36 k0_t6
  let v135 : BitVec 32 := Scalar.muli c1_i32_56 arg7
  let v136 : BitVec 32 := Scalar.addi v58 v135
  let c512_i32_57 : BitVec 32 := 512#32
  let v137 : BitVec 32 := Scalar.muli v136 c512_i32_57
  v137
def k0_off11 (i : grid0.Coords) (k0_t6 : Fin (k0_t6_loop i).trips) : Fin 3 → Nat :=
  let c0_58 : Index := 0#32
  let c0_i32_14 : BitVec 32 := 0#32
  let c4_i32_13 : BitVec 32 := 4#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let c2_i32_25 : BitVec 32 := 2#32
  let v32 : BitVec 32 := Scalar.subi arg1 v31
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c2_i32 : BitVec 32 := 2#32
  let c0_i32_17 : BitVec 32 := 0#32
  let v39 : BitVec 1 := Scalar.cmpi .sgt c2_i32 c0_i32_17
  let v40 : BitVec 32 := Scalar.extui v39
  let c0_i32_18 : BitVec 32 := 0#32
  let v41 : BitVec 1 := Scalar.cmpi .slt c2_i32 c0_i32_18
  let v42 : BitVec 32 := Scalar.extui v41
  let v43 : BitVec 32 := Scalar.subi v40 v42
  let v44 : BitVec 1 := Scalar.cmpi .ne v38 v43
  let v45 : BitVec 32 := Scalar.remsi v32 c2_i32
  let c0_i32_19 : BitVec 32 := 0#32
  let v46 : BitVec 1 := Scalar.cmpi .ne v45 c0_i32_19
  let v47 : BitVec 1 := Scalar.andi v44 v46
  let v33 : BitVec 32 := Scalar.divsi v32 c2_i32
  let c1_i32_20 : BitVec 32 := 1#32
  let v48 : BitVec 32 := Scalar.subi v33 c1_i32_20
  let v49 : BitVec 32 := Scalar.select v47 v48 v33
  let v57 : BitVec 32 := Scalar.muli c2_i32_25 v49
  let v58 : BitVec 32 := Scalar.addi v31 v57
  let c1_i32_56 : BitVec 32 := 1#32
  let c0_i32_33 : BitVec 32 := 0#32
  let v59 : BitVec 32 := Scalar.subi arg1 v58
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c1_i32_26 : BitVec 32 := 1#32
  let c0_i32_29 : BitVec 32 := 0#32
  let v66 : BitVec 1 := Scalar.cmpi .sgt c1_i32_26 c0_i32_29
  let v67 : BitVec 32 := Scalar.extui v66
  let c0_i32_30 : BitVec 32 := 0#32
  let v68 : BitVec 1 := Scalar.cmpi .slt c1_i32_26 c0_i32_30
  let v69 : BitVec 32 := Scalar.extui v68
  let v70 : BitVec 32 := Scalar.subi v67 v69
  let v71 : BitVec 1 := Scalar.cmpi .ne v65 v70
  let v72 : BitVec 32 := Scalar.remsi v59 c1_i32_26
  let c0_i32_31 : BitVec 32 := 0#32
  let v73 : BitVec 1 := Scalar.cmpi .ne v72 c0_i32_31
  let v74 : BitVec 1 := Scalar.andi v71 v73
  let v60 : BitVec 32 := Scalar.divsi v59 c1_i32_26
  let c1_i32_32 : BitVec 32 := 1#32
  let v75 : BitVec 32 := Scalar.subi v60 c1_i32_32
  let v76 : BitVec 32 := Scalar.select v74 v75 v60
  let v77 : BitVec 32 := Scalar.subi v76 c0_i32_33
  let c1_i32_34 : BitVec 32 := 1#32
  let v79 : BitVec 32 := Scalar.divsi v77 c1_i32_34
  let v80 : BitVec 32 := Scalar.muli v79 c1_i32_34
  let v81 : BitVec 32 := Scalar.addi c0_i32_33 v80
  let c1_i32_36 : BitVec 32 := 1#32
  let arg7 : BitVec 32 := Scf.iv v81 c1_i32_36 k0_t6
  let v135 : BitVec 32 := Scalar.muli c1_i32_56 arg7
  let v136 : BitVec 32 := Scalar.addi v58 v135
  let c512_i32_57 : BitVec 32 := 512#32
  let v137 : BitVec 32 := Scalar.muli v136 c512_i32_57
  let v138 : BitVec 32 := v137
  let v139 : Index := Scalar.indexCast v138
  let c0_59 : Index := 0#32
  ![0, v139.toNat, 0]
def k0_off12 (i : grid0.Coords) (k0_t6 : Fin (k0_t6_loop i).trips) : Fin 3 → Nat :=
  let c0_65 : Index := 0#32
  let c0_i32_14 : BitVec 32 := 0#32
  let c4_i32_13 : BitVec 32 := 4#32
  let arg1 : BitVec 32 := BitVec.ofNat 32 (i 1).val
  let c0_i32 : BitVec 32 := 0#32
  let v5 : BitVec 32 := Scalar.subi arg1 c0_i32
  let c0_i32_4 : BitVec 32 := 0#32
  let v7 : BitVec 1 := Scalar.cmpi .sgt v5 c0_i32_4
  let v8 : BitVec 32 := Scalar.extui v7
  let c0_i32_5 : BitVec 32 := 0#32
  let v9 : BitVec 1 := Scalar.cmpi .slt v5 c0_i32_5
  let v10 : BitVec 32 := Scalar.extui v9
  let v11 : BitVec 32 := Scalar.subi v8 v10
  let c4_i32 : BitVec 32 := 4#32
  let c0_i32_6 : BitVec 32 := 0#32
  let v12 : BitVec 1 := Scalar.cmpi .sgt c4_i32 c0_i32_6
  let v13 : BitVec 32 := Scalar.extui v12
  let c0_i32_7 : BitVec 32 := 0#32
  let v14 : BitVec 1 := Scalar.cmpi .slt c4_i32 c0_i32_7
  let v15 : BitVec 32 := Scalar.extui v14
  let v16 : BitVec 32 := Scalar.subi v13 v15
  let v17 : BitVec 1 := Scalar.cmpi .ne v11 v16
  let v18 : BitVec 32 := Scalar.remsi v5 c4_i32
  let c0_i32_8 : BitVec 32 := 0#32
  let v19 : BitVec 1 := Scalar.cmpi .ne v18 c0_i32_8
  let v20 : BitVec 1 := Scalar.andi v17 v19
  let v6 : BitVec 32 := Scalar.divsi v5 c4_i32
  let c1_i32 : BitVec 32 := 1#32
  let v21 : BitVec 32 := Scalar.subi v6 c1_i32
  let v22 : BitVec 32 := Scalar.select v20 v21 v6
  let v30 : BitVec 32 := Scalar.muli c4_i32_13 v22
  let v31 : BitVec 32 := Scalar.addi c0_i32_14 v30
  let c2_i32_25 : BitVec 32 := 2#32
  let v32 : BitVec 32 := Scalar.subi arg1 v31
  let c0_i32_15 : BitVec 32 := 0#32
  let v34 : BitVec 1 := Scalar.cmpi .sgt v32 c0_i32_15
  let v35 : BitVec 32 := Scalar.extui v34
  let c0_i32_16 : BitVec 32 := 0#32
  let v36 : BitVec 1 := Scalar.cmpi .slt v32 c0_i32_16
  let v37 : BitVec 32 := Scalar.extui v36
  let v38 : BitVec 32 := Scalar.subi v35 v37
  let c2_i32 : BitVec 32 := 2#32
  let c0_i32_17 : BitVec 32 := 0#32
  let v39 : BitVec 1 := Scalar.cmpi .sgt c2_i32 c0_i32_17
  let v40 : BitVec 32 := Scalar.extui v39
  let c0_i32_18 : BitVec 32 := 0#32
  let v41 : BitVec 1 := Scalar.cmpi .slt c2_i32 c0_i32_18
  let v42 : BitVec 32 := Scalar.extui v41
  let v43 : BitVec 32 := Scalar.subi v40 v42
  let v44 : BitVec 1 := Scalar.cmpi .ne v38 v43
  let v45 : BitVec 32 := Scalar.remsi v32 c2_i32
  let c0_i32_19 : BitVec 32 := 0#32
  let v46 : BitVec 1 := Scalar.cmpi .ne v45 c0_i32_19
  let v47 : BitVec 1 := Scalar.andi v44 v46
  let v33 : BitVec 32 := Scalar.divsi v32 c2_i32
  let c1_i32_20 : BitVec 32 := 1#32
  let v48 : BitVec 32 := Scalar.subi v33 c1_i32_20
  let v49 : BitVec 32 := Scalar.select v47 v48 v33
  let v57 : BitVec 32 := Scalar.muli c2_i32_25 v49
  let v58 : BitVec 32 := Scalar.addi v31 v57
  let c1_i32_56 : BitVec 32 := 1#32
  let c0_i32_33 : BitVec 32 := 0#32
  let v59 : BitVec 32 := Scalar.subi arg1 v58
  let c0_i32_27 : BitVec 32 := 0#32
  let v61 : BitVec 1 := Scalar.cmpi .sgt v59 c0_i32_27
  let v62 : BitVec 32 := Scalar.extui v61
  let c0_i32_28 : BitVec 32 := 0#32
  let v63 : BitVec 1 := Scalar.cmpi .slt v59 c0_i32_28
  let v64 : BitVec 32 := Scalar.extui v63
  let v65 : BitVec 32 := Scalar.subi v62 v64
  let c1_i32_26 : BitVec 32 := 1#32
  let c0_i32_29 : BitVec 32 := 0#32
  let v66 : BitVec 1 := Scalar.cmpi .sgt c1_i32_26 c0_i32_29
  let v67 : BitVec 32 := Scalar.extui v66
  let c0_i32_30 : BitVec 32 := 0#32
  let v68 : BitVec 1 := Scalar.cmpi .slt c1_i32_26 c0_i32_30
  let v69 : BitVec 32 := Scalar.extui v68
  let v70 : BitVec 32 := Scalar.subi v67 v69
  let v71 : BitVec 1 := Scalar.cmpi .ne v65 v70
  let v72 : BitVec 32 := Scalar.remsi v59 c1_i32_26
  let c0_i32_31 : BitVec 32 := 0#32
  let v73 : BitVec 1 := Scalar.cmpi .ne v72 c0_i32_31
  let v74 : BitVec 1 := Scalar.andi v71 v73
  let v60 : BitVec 32 := Scalar.divsi v59 c1_i32_26
  let c1_i32_32 : BitVec 32 := 1#32
  let v75 : BitVec 32 := Scalar.subi v60 c1_i32_32
  let v76 : BitVec 32 := Scalar.select v74 v75 v60
  let v77 : BitVec 32 := Scalar.subi v76 c0_i32_33
  let c1_i32_34 : BitVec 32 := 1#32
  let v79 : BitVec 32 := Scalar.divsi v77 c1_i32_34
  let v80 : BitVec 32 := Scalar.muli v79 c1_i32_34
  let v81 : BitVec 32 := Scalar.addi c0_i32_33 v80
  let c1_i32_36 : BitVec 32 := 1#32
  let arg7 : BitVec 32 := Scf.iv v81 c1_i32_36 k0_t6
  let v135 : BitVec 32 := Scalar.muli c1_i32_56 arg7
  let v136 : BitVec 32 := Scalar.addi v58 v135
  let c512_i32_57 : BitVec 32 := 512#32
  let v137 : BitVec 32 := Scalar.muli v136 c512_i32_57
  let v138 : BitVec 32 := v137
  let v162 : Index := Scalar.indexCast v138
  let c0_66 : Index := 0#32
  ![0, v162.toNat, 0]
def k0_mult7 (i : grid0.Coords) : BitVec 32 :=
  let arg1 : BitVec 32 := BitVec.ofNat 32 (i 1).val
  let c512_i32 : BitVec 32 := 512#32
  let v84 : BitVec 32 := Scalar.muli arg1 c512_i32
  v84
def k0_off13 (i : grid0.Coords) : Fin 3 → Nat :=
  let c0_37 : Index := 0#32
  let arg1 : BitVec 32 := BitVec.ofNat 32 (i 1).val
  let c512_i32 : BitVec 32 := 512#32
  let v84 : BitVec 32 := Scalar.muli arg1 c512_i32
  let v85 : BitVec 32 := v84
  let v86 : Index := Scalar.indexCast v85
  let c0_38 : Index := 0#32
  ![0, v86.toNat, 0]
def k0_off14 (i : grid0.Coords) : Fin 3 → Nat :=
  let c0_45 : Index := 0#32
  let arg1 : BitVec 32 := BitVec.ofNat 32 (i 1).val
  let c512_i32 : BitVec 32 := 512#32
  let v84 : BitVec 32 := Scalar.muli arg1 c512_i32
  let v85 : BitVec 32 := v84
  let v114 : Index := Scalar.indexCast v85
  let c0_46 : Index := 0#32
  ![0, v114.toNat, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

abbrev stage0_0 : Fin 2 → Memref sig .tc .vmem S1x512x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8192x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Kernel2Ideal.lean ====
variable {F : FTy → Type} [FloatOps F] [Named F]
def κ : String → Option EReal := fun
  | "masked" => some ⊥
  | "scale" => some (((Real.sqrt 192)⁻¹ : ℝ) : EReal)
  | "scale2" => some (((Real.sqrt 192)⁻¹ * (Real.log 2)⁻¹ : ℝ) : EReal)
  | _ => none
-- ==== Reference2Ideal.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S4x8192x128 : Shape := ⟨3, ![4, 8192, 128]⟩
abbrev S4x16x1x512 : Shape := ⟨4, ![4, 16, 1, 512]⟩

abbrev nBuf : Space → Nat
  | .hbm => 63
  | .vmem => 0
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S4x8192x8192, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S4x8192x8192, .f32⟩
  | .hbm, ⟨9, _⟩ => ⟨S4x8192x8192, .f32⟩
  | .hbm, ⟨10, _⟩ => ⟨S8192, .i32⟩
  | .hbm, ⟨11, _⟩ => ⟨S1x8192, .i32⟩
  | .hbm, ⟨12, _⟩ => ⟨S8192x1, .i32⟩
  | .hbm, ⟨13, _⟩ => ⟨S8192x8192, .i32⟩
  | .hbm, ⟨14, _⟩ => ⟨S8192x8192, .i32⟩
  | .hbm, ⟨15, _⟩ => ⟨S8192x8192, .i1⟩
  | .hbm, ⟨16, _⟩ => ⟨S1x8192x8192, .i1⟩
  | .hbm, ⟨17, _⟩ => ⟨S_, .f32⟩
  | .hbm, ⟨18, _⟩ => ⟨S_, .f32⟩
  | .hbm, ⟨19, _⟩ => ⟨S4x8192x8192, .i1⟩
  | .hbm, ⟨20, _⟩ => ⟨S4x8192x8192, .f32⟩
  | .hbm, ⟨21, _⟩ => ⟨S4x8192x8192, .f32⟩
  | .hbm, ⟨22, _⟩ => ⟨S4x8192x8192, .f32⟩
  | .hbm, ⟨23, _⟩ => ⟨S_, .f32⟩
  | .hbm, ⟨24, _⟩ => ⟨S4x8192, .f32⟩
  | .hbm, ⟨25, _⟩ => ⟨S4x8192, .f32⟩
  | .hbm, ⟨26, _⟩ => ⟨S4x8192x8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S4x8192x8192, .f32⟩
  | .hbm, ⟨32, _⟩ => ⟨S4x8192x8192, .f32⟩
  | .hbm, ⟨33, _⟩ => ⟨S8192, .i32⟩
  | .hbm, ⟨34, _⟩ => ⟨S1x8192, .i32⟩
  | .hbm, ⟨35, _⟩ => ⟨S8192x1, .i32⟩
  | .hbm, ⟨36, _⟩ => ⟨S8192x8192, .i32⟩
  | .hbm, ⟨37, _⟩ => ⟨S8192x8192, .i32⟩
  | .hbm, ⟨38, _⟩ => ⟨S8192x8192, .i1⟩
  | .hbm, ⟨39, _⟩ => ⟨S1x8192x8192, .i1⟩
  | .hbm, ⟨40, _⟩ => ⟨S_, .f32⟩
  | .hbm, ⟨41, _⟩ => ⟨S_, .f32⟩
  | .hbm, ⟨42, _⟩ => ⟨S4x8192x8192, .i1⟩
  | .hbm, ⟨43, _⟩ => ⟨S4x8192x8192, .f32⟩
  | .hbm, ⟨44, _⟩ => ⟨S4x8192x8192, .f32⟩
  | .hbm, ⟨45, _⟩ => ⟨S_, .f32⟩
  | .hbm, ⟨46, _⟩ => ⟨S4x8192, .f32⟩
  | .hbm, ⟨47, _⟩ => ⟨S_, .f32⟩
  | .hbm, ⟨48, _⟩ => ⟨S4x8192, .f32⟩
  | .hbm, ⟨49, _⟩ => ⟨S4x8192, .f32⟩
  | .hbm, ⟨50, _⟩ => ⟨S4x8192x1, .f32⟩
  | .hbm, ⟨51, _⟩ => ⟨S4x8192x8192, .f32⟩
  | .hbm, ⟨52, _⟩ => ⟨S4x8192x8192, .f32⟩
  | .hbm, ⟨53, _⟩ => ⟨S4x8192x8192, .f32⟩
  | .hbm, ⟨54, _⟩ => ⟨S_, .f32⟩
  | .hbm, ⟨55, _⟩ => ⟨S4x8192, .f32⟩
  | .hbm, ⟨56, _⟩ => ⟨S4x8192x1, .f32⟩
  | .hbm, ⟨57, _⟩ => ⟨S4x8192x8192, .f32⟩
  | .hbm, ⟨58, _⟩ => ⟨S4x8192x8192, .f32⟩
  | .hbm, ⟨59, _⟩ => ⟨S4x128x8192, .f32⟩
  | .hbm, ⟨60, _⟩ => ⟨S8192x4x128, .f32⟩
  | .hbm, ⟨61, _⟩ => ⟨S4x8192x128, .f32⟩
  | .hbm, ⟨62, _⟩ => ⟨S4x16x1x512, .f32⟩
  | _, _ => ⟨S8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_call0_v0 : Ref sig .tc := ⟨.hbm, 18, rfl⟩
abbrev main_call0_v1 : Ref sig .tc := ⟨.hbm, 19, rfl⟩
abbrev main_call0_v2 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_cst_3 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_call1_v0 : Ref sig .tc := ⟨.hbm, 41, rfl⟩
abbrev main_call1_v1 : Ref sig .tc := ⟨.hbm, 42, rfl⟩
abbrev main_call1_v2 : Ref sig .tc := ⟨.hbm, 43, rfl⟩
abbrev main_v28 : Ref sig .tc := ⟨.hbm, 44, rfl⟩
abbrev main_cst_6 : Ref sig .tc := ⟨.hbm, 45, rfl⟩
abbrev main_v29 : Ref sig .tc := ⟨.hbm, 46, rfl⟩
abbrev main_cst_7 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_cst_8 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩

abbrev nD : Nat := 1
abbrev τ : Topo := Topo.v7x

variable {F : FTy → Type} [FloatOps F]
-- ==== Kernel3.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S4x8192 : Shape := ⟨2, ![4, 8192]⟩
abbrev S4x8192x128 : Shape := ⟨3, ![4, 8192, 128]⟩
abbrev S4x8192x1 : Shape := ⟨3, ![4, 8192, 1]⟩
abbrev S4x128x8192 : Shape := ⟨3, ![4, 128, 8192]⟩
abbrev S8192x4x256 : Shape := ⟨3, ![8192, 4, 256]⟩
abbrev S4x8192x256 : Shape := ⟨3, ![4, 8192, 256]⟩
abbrev S4x16x1x512 : Shape := ⟨4, ![4, 16, 1, 512]⟩
abbrev S1x8192x256 : Shape := ⟨3, ![1, 8192, 256]⟩
abbrev S1x8192x128 : Shape := ⟨3, ![1, 8192, 128]⟩
abbrev S1x16x1x512 : Shape := ⟨4, ![1, 16, 1, 512]⟩
abbrev S1x512x256 : Shape := ⟨3, ![1, 512, 256]⟩
abbrev S1x512x128 : Shape := ⟨3, ![1, 512, 128]⟩
abbrev S512x2048 : Shape := ⟨2, ![512, 2048]⟩
abbrev S512x256 : Shape := ⟨2, ![512, 256]⟩
abbrev S512x128 : Shape := ⟨2, ![512, 128]⟩
abbrev S512x512 : Shape := ⟨2, ![512, 512]⟩
abbrev S1x1x1x512 : Shape := ⟨4, ![1, 1, 1, 512]⟩
abbrev S1x512 : Shape := ⟨2, ![1, 512]⟩
abbrev S32x512 : Shape := ⟨2, ![32, 512]⟩
abbrev S1x2048x256 : Shape := ⟨3, ![1, 2048, 256]⟩
abbrev S2048x256 : Shape := ⟨2, ![2048, 256]⟩
abbrev S1x2048x128 : Shape := ⟨3, ![1, 2048, 128]⟩
abbrev S2048x128 : Shape := ⟨2, ![2048, 128]⟩
abbrev S1x2048 : Shape := ⟨2, ![1, 2048]⟩
abbrev S32x2048 : Shape := ⟨2, ![32, 2048]⟩
abbrev S1x1024x256 : Shape := ⟨3, ![1, 1024, 256]⟩
abbrev S1024x256 : Shape := ⟨2, ![1024, 256]⟩
abbrev S1x1024x128 : Shape := ⟨3, ![1, 1024, 128]⟩
abbrev S1024x128 : Shape := ⟨2, ![1024, 128]⟩
abbrev S512x1024 : Shape := ⟨2, ![512, 1024]⟩
abbrev S1x1024 : Shape := ⟨2, ![1, 1024]⟩
abbrev S32x1024 : Shape := ⟨2, ![32, 1024]⟩

abbrev nBuf : Space → Nat
  | .hbm => 86
  | .vmem => 22
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S4x8192x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8192x8192, .f32⟩
  | .hbm, ⟨10, _⟩ => ⟨S4x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S1x8192x8192, .i1⟩
  | .hbm, ⟨18, _⟩ => ⟨S_, .f32⟩
  | .hbm, ⟨19, _⟩ => ⟨S_, .f32⟩
  | .hbm, ⟨20, _⟩ => ⟨S4x8192x8192, .i1⟩
  | .hbm, ⟨21, _⟩ => ⟨S4x8192x8192, .f32⟩
  | .hbm, ⟨22, _⟩ => ⟨S4x8192x8192, .f32⟩
  | .hbm, ⟨23, _⟩ => ⟨S4x8192x8192, .f32⟩
  | .hbm, ⟨24, _⟩ => ⟨S_, .f32⟩
  | .hbm, ⟨25, _⟩ => ⟨S4x8192, .f32⟩
  | .hbm, ⟨26, _⟩ => ⟨S4x8192, .f32⟩
  | .hbm, ⟨27, _⟩ => ⟨S4x8192x128, .f32⟩
  | .hbm, ⟨28, _⟩ => ⟨S4x8192x8192, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S4x8192x8192, .f32⟩
  | .hbm, ⟨34, _⟩ => ⟨S4x8192x8192, .f32⟩
  | .hbm, ⟨35, _⟩ => ⟨S8192, .i32⟩
  | .hbm, ⟨36, _⟩ => ⟨S1x8192, .i32⟩
  | .hbm, ⟨37, _⟩ => ⟨S8192x1, .i32⟩
  | .hbm, ⟨38, _⟩ => ⟨S8192x8192, .i32⟩
  | .hbm, ⟨39, _⟩ => ⟨S8192x8192, .i32⟩
  | .hbm, ⟨40, _⟩ => ⟨S8192x8192, .i1⟩
  | .hbm, ⟨41, _⟩ => ⟨S1x8192x8192, .i1⟩
  | .hbm, ⟨42, _⟩ => ⟨S_, .f32⟩
  | .hbm, ⟨43, _⟩ => ⟨S_, .f32⟩
  | .hbm, ⟨44, _⟩ => ⟨S4x8192x8192, .i1⟩
  | .hbm, ⟨45, _⟩ => ⟨S4x8192x8192, .f32⟩
  | .hbm, ⟨46, _⟩ => ⟨S4x8192x8192, .f32⟩
  | .hbm, ⟨47, _⟩ => ⟨S_, .f32⟩
  | .hbm, ⟨48, _⟩ => ⟨S4x8192, .f32⟩
  | .hbm, ⟨49, _⟩ => ⟨S_, .f32⟩
  | .hbm, ⟨50, _⟩ => ⟨S4x8192, .f32⟩
  | .hbm, ⟨51, _⟩ => ⟨S4x8192, .f32⟩
  | .hbm, ⟨52, _⟩ => ⟨S4x8192x1, .f32⟩
  | .hbm, ⟨53, _⟩ => ⟨S4x8192x8192, .f32⟩
  | .hbm, ⟨54, _⟩ => ⟨S4x8192x8192, .f32⟩
  | .hbm, ⟨55, _⟩ => ⟨S4x8192x8192, .f32⟩
  | .hbm, ⟨56, _⟩ => ⟨S_, .f32⟩
  | .hbm, ⟨57, _⟩ => ⟨S4x8192, .f32⟩
  | .hbm, ⟨58, _⟩ => ⟨S4x8192x1, .f32⟩
  | .hbm, ⟨59, _⟩ => ⟨S4x8192x8192, .f32⟩
  | .hbm, ⟨60, _⟩ => ⟨S4x8192x8192, .f32⟩
  | .hbm, ⟨61, _⟩ => ⟨S4x128x8192, .f32⟩
  | .hbm, ⟨62, _⟩ => ⟨S8192x4x128, .f32⟩
  | .hbm, ⟨63, _⟩ => ⟨S4x8192x128, .f32⟩
  | .hbm, ⟨64, _⟩ => ⟨S4x8192x128, .f32⟩
  | .hbm, ⟨65, _⟩ => ⟨S_, .f32⟩
  | .hbm, ⟨66, _⟩ => ⟨S4x8192, .f32⟩
  | .hbm, ⟨67, _⟩ => ⟨S_, .i32⟩
  | .hbm, ⟨68, _⟩ => ⟨S_, .f32⟩
  | .hbm, ⟨69, _⟩ => ⟨S8192x4x256, .f32⟩
  | .hbm, ⟨70, _⟩ => ⟨S4x8192x256, .f32⟩
  | .hbm, ⟨71, _⟩ => ⟨S4x8192x256, .bf16⟩
  | .hbm, ⟨72, _⟩ => ⟨S_, .i32⟩
  | .hbm, ⟨73, _⟩ => ⟨S_, .f32⟩
  | .hbm, ⟨74, _⟩ => ⟨S8192x4x256, .f32⟩
  | .hbm, ⟨75, _⟩ => ⟨S4x8192x256, .f32⟩
  | .hbm, ⟨76, _⟩ => ⟨S4x8192x256, .bf16⟩
  | .hbm, ⟨77, _⟩ => ⟨S4x8192x128, .f32⟩
  | .hbm, ⟨78, _⟩ => ⟨S4x8192x128, .bf16⟩
  | .hbm, ⟨79, _⟩ => ⟨S4x8192x128, .f32⟩
  | .hbm, ⟨80, _⟩ => ⟨S4x8192x128, .bf16⟩
  | .hbm, ⟨81, _⟩ => ⟨S4x16x1x512, .f32⟩
  | .hbm, ⟨82, _⟩ => ⟨S4x16x1x512, .f32⟩
  | .hbm, ⟨83, _⟩ => ⟨S4x8192x256, .f32⟩
  | .hbm, ⟨84, _⟩ => ⟨S4x8192x256, .f32⟩
  | .hbm, ⟨85, _⟩ => ⟨S4x8192x128, .f32⟩
  | .local _ .vmem, ⟨0, _⟩ => ⟨S1x8192x256, .bf16⟩
  | .local _ .vmem, ⟨1, _⟩ => ⟨S1x8192x256, .bf16⟩
  | .local _ .vmem, ⟨2, _⟩ => ⟨S1x8192x128, .bf16⟩
  | .local _ .vmem, ⟨3, _⟩ => ⟨S1x8192x128, .bf16⟩
  | .local _ .vmem, ⟨4, _⟩ => ⟨S1x16x1x512, .f32⟩
  | .local _ .vmem, ⟨5, _⟩ => ⟨S1x16x1x512, .f32⟩
  | .local _ .vmem, ⟨6, _⟩ => ⟨S1x16x1x512, .f32⟩
  | .local _ .vmem, ⟨7, _⟩ => ⟨S1x16x1x512, .f32⟩
  | .local _ .vmem, ⟨8, _⟩ => ⟨S1x512x256, .bf16⟩
  | .local _ .vmem, ⟨9, _⟩ => ⟨S1x512x256, .bf16⟩
  | .local _ .vmem, ⟨10, _⟩ => ⟨S1x512x128, .bf16⟩
  | .local _ .vmem, ⟨11, _⟩ => ⟨S1x512x128, .bf16⟩
  | .local _ .vmem, ⟨12, _⟩ => ⟨S1x8192x256, .f32⟩
  | .local _ .vmem, ⟨13, _⟩ => ⟨S1x8192x256, .f32⟩
  | .local _ .vmem, ⟨14, _⟩ => ⟨S1x512x256, .f32⟩
  | .local _ .vmem, ⟨15, _⟩ => ⟨S1x512x256, .f32⟩
  | .local _ .vmem, ⟨16, _⟩ => ⟨S1x512x128, .f32⟩
  | .local _ .vmem, ⟨17, _⟩ => ⟨S1x512x128, .f32⟩
  | .local _ .vmem, ⟨18, _⟩ => ⟨S512x2048, .f32⟩
  | .local _ .vmem, ⟨19, _⟩ => ⟨S512x2048, .f32⟩
  | .local _ .vmem, ⟨20, _⟩ => ⟨S512x2048, .bf16⟩
  | .local _ .vmem, ⟨21, _⟩ => ⟨S512x2048, .bf16⟩
  | _, _ => ⟨S8192x4x192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_v12 : Ref sig .tc := ⟨.hbm, 22, rfl⟩
abbrev main_v13 : Ref sig .tc := ⟨.hbm, 23, rfl⟩
abbrev main_cst_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_3 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_5 : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_v29 : Ref sig .tc := ⟨.hbm, 46, rfl⟩
abbrev main_cst_6 : Ref sig .tc := ⟨.hbm, 47, rfl⟩
abbrev main_v30 : Ref sig .tc := ⟨.hbm, 48, rfl⟩
abbrev main_cst_7 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_cst_8 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_cst_9 : Ref sig .tc := ⟨.hbm, 65, rfl⟩
abbrev main_v45 : Ref sig .tc := ⟨.hbm, 66, rfl⟩
abbrev main_c : Ref sig .tc := ⟨.hbm, 67, rfl⟩
abbrev main_call2_v0 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_c_10 : Ref sig .tc := ⟨.hbm, 72, rfl⟩
abbrev main_call3_v0 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58_0 : Ref sig .tc := ⟨.hbm, 83, rfl⟩
abbrev main_v58_1 : Ref sig .tc := ⟨.hbm, 84, rfl⟩
abbrev main_v58_2 : Ref sig .tc := ⟨.hbm, 85, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c512_i32 : BitVec 32 := 512#32
  let v15 : BitVec 32 := Scalar.muli arg1 c512_i32
  v15
def k0_off1 (i : grid0.Coords) : Fin 3 → Nat :=
  let c0_13 : Index := 0#32
  let arg1 : BitVec 32 := BitVec.ofNat 32 (i 1).val
  let c512_i32 : BitVec 32 := 512#32
  let v15 : BitVec 32 := Scalar.muli arg1 c512_i32
  let v16 : BitVec 32 := v15
  let v17 : Index := Scalar.indexCast v16
  let c0_14 : Index := 0#32
  ![0, v17.toNat, 0]
def k0_off2 (i : grid0.Coords) : Fin 3 → Nat :=
  let c0_15 : Index := 0#32
  let arg1 : BitVec 32 := BitVec.ofNat 32 (i 1).val
  let c512_i32 : BitVec 32 := 512#32
  let v15 : BitVec 32 := Scalar.muli arg1 c512_i32
  let v16 : BitVec 32 := v15
  let v20 : Index := Scalar.indexCast v16
  let c0_16 : Index := 0#32
  ![0, v20.toNat, 0]
def k0_off3 (i : grid0.Coords) : Fin 4 → Nat :=
  let c0_24 : Index := 0#32
  let arg1 : BitVec 32 := BitVec.ofNat 32 (i 1).val
  let c0_i32_23 : BitVec 32 := 0#32
  let v31 : BitVec 32 := Scalar.addi arg1 c0_i32_23
  let v32 : Index := Scalar.indexCast v31
  let c0_25 : Index := 0#32
  let c0_26 : Index := 0#32
  ![0, v32.toNat, 0, 0]
@[reducible] def k0_t1_loop (i : grid0.Coords) : Scf.Loop 32 :=
  let c0_i32_224 : BitVec 32 := 0#32
  let c16_i32 : BitVec 32 := 16#32
  let arg1 : BitVec 32 := BitVec.ofNat 32 (i 1).val
  let c1_i32 : BitVec 32 := 1#32
  let v498 : BitVec 32 := Scalar.addi arg1 c1_i32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v517 : BitVec 32 := Scalar.subi v516 c0_i32_224
  let c1_i32_225 : BitVec 32 := 1#32
  let v519 : BitVec 32 := Scalar.divsi v517 c1_i32_225
  let v520 : BitVec 32 := Scalar.muli v519 c1_i32_225
  let v521 : BitVec 32 := Scalar.addi c0_i32_224 v520
  let c1_i32_226 : BitVec 32 := 1#32
  ⟨c0_i32_224, v521, c1_i32_226⟩
def k0_mult2 (i : grid0.Coords) (k0_t1 : Fin (k0_t1_loop i).trips) : BitVec 32 :=
  let arg1 : BitVec 32 := BitVec.ofNat 32 (i 1).val
  let c1_i32 : BitVec 32 := 1#32
  let v498 : BitVec 32 := Scalar.addi arg1 c1_i32
  let c4_i32_255 : BitVec 32 := 4#32
  let c0_i32_224 : BitVec 32 := 0#32
  let c1_i32_226 : BitVec 32 := 1#32
  let arg15 : BitVec 32 := Scf.iv c0_i32_224 c1_i32_226 k0_t1
  let v572 : BitVec 32 := Scalar.muli c4_i32_255 arg15
  let v573 : BitVec 32 := Scalar.addi v498 v572
  let c512_i32_256 : BitVec 32 := 512#32
  let v574 : BitVec 32 := Scalar.muli v573 c512_i32_256
  v574
def k0_off4 (i : grid0.Coords) (k0_t1 : Fin (k0_t1_loop i).trips) : Fin 3 → Nat :=
  let c0_257 : Index := 0#32
  let arg1 : BitVec 32 := BitVec.ofNat 32 (i 1).val
  let c1_i32 : BitVec 32 := 1#32
  let v498 : BitVec 32 := Scalar.addi arg1 c1_i32
  let c4_i32_255 : BitVec 32 := 4#32
  let c0_i32_224 : BitVec 32 := 0#32
  let c1_i32_226 : BitVec 32 := 1#32
  let arg15 : BitVec 32 := Scf.iv c0_i32_224 c1_i32_226 k0_t1
  let v572 : BitVec 32 := Scalar.muli c4_i32_255 arg15
  let v573 : BitVec 32 := Scalar.addi v498 v572
  let c512_i32_256 : BitVec 32 := 512#32
  let v574 : BitVec 32 := Scalar.muli v573 c512_i32_256
  let v575 : BitVec 32 := v574
  let v576 : Index := Scalar.indexCast v575
  let c0_258 : Index := 0#32
  ![0, v576.toNat, 0]
def k0_off5 (i : grid0.Coords) (k0_t1 : Fin (k0_t1_loop i).trips) : Fin 3 → Nat :=
  let c0_259 : Index := 0#32
  let arg1 : BitVec 32 := BitVec.ofNat 32 (i 1).val
  let c1_i32 : BitVec 32 := 1#32
  let v498 : BitVec 32 := Scalar.addi arg1 c1_i32
  let c4_i32_255 : BitVec 32 := 4#32
  let c0_i32_224 : BitVec 32 := 0#32
  let c1_i32_226 : BitVec 32 := 1#32
  let arg15 : BitVec 32 := Scf.iv c0_i32_224 c1_i32_226 k0_t1
  let v572 : BitVec 32 := Scalar.muli c4_i32_255 arg15
  let v573 : BitVec 32 := Scalar.addi v498 v572
  let c512_i32_256 : BitVec 32 := 512#32
  let v574 : BitVec 32 := Scalar.muli v573 c512_i32_256
  let v575 : BitVec 32 := v574
  let v579 : Index := Scalar.indexCast v575
  let c0_260 : Index := 0#32
  ![0, v579.toNat, 0]
def k0_off6 (i : grid0.Coords) (k0_t1 : Fin (k0_t1_loop i).trips) (c0_i32_267 : BitVec 32) : Fin 4 → Nat :=
  let c0_268 : Index := 0#32
  let arg1 : BitVec 32 := BitVec.ofNat 32 (i 1).val
  let c1_i32 : BitVec 32 := 1#32
  let v498 : BitVec 32 := Scalar.addi arg1 c1_i32
  let c4_i32_255 : BitVec 32 := 4#32
  let c0_i32_224 : BitVec 32 := 0#32
  let c1_i32_226 : BitVec 32 := 1#32
  let arg15 : BitVec 32 := Scf.iv c0_i32_224 c1_i32_226 k0_t1
  let v572 : BitVec 32 := Scalar.muli c4_i32_255 arg15
  let v573 : BitVec 32 := Scalar.addi v498 v572
  let v590 : BitVec 32 := Scalar.addi v573 c0_i32_267
  let v591 : Index := Scalar.indexCast v590
  let c0_269 : Index := 0#32
  let c0_270 : Index := 0#32
  ![0, v591.toNat, 0, 0]
@[reducible] def k0_t2_loop (i : grid0.Coords) : Scf.Loop 32 :=
  let c0_i32_224 : BitVec 32 := 0#32
  let c16_i32 : BitVec 32 := 16#32
  let arg1 : BitVec 32 := BitVec.ofNat 32 (i 1).val
  let c1_i32 : BitVec 32 := 1#32
  let v498 : BitVec 32 := Scalar.addi arg1 c1_i32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v517 : BitVec 32 := Scalar.subi v516 c0_i32_224
  let c1_i32_225 : BitVec 32 := 1#32
  let v519 : BitVec 32 := Scalar.divsi v517 c1_i32_225
  let v520 : BitVec 32 := Scalar.muli v519 c1_i32_225
  let v521 : BitVec 32 := Scalar.addi c0_i32_224 v520
  let v518 : BitVec 32 := Scalar.addi c0_i32_224 v517
  let c1_i32_227 : BitVec 32 := 1#32
  ⟨v521, v518, c1_i32_227⟩
def k0_mult3 (i : grid0.Coords) (k0_t2 : Fin (k0_t2_loop i).trips) : BitVec 32 :=
  let arg1 : BitVec 32 := BitVec.ofNat 32 (i 1).val
  let c1_i32 : BitVec 32 := 1#32
  let v498 : BitVec 32 := Scalar.addi arg1 c1_i32
  let c4_i32_255 : BitVec 32 := 4#32
  let c0_i32_224 : BitVec 32 := 0#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v517 : BitVec 32 := Scalar.subi v516 c0_i32_224
  let c1_i32_225 : BitVec 32 := 1#32
  let v519 : BitVec 32 := Scalar.divsi v517 c1_i32_225
  let v520 : BitVec 32 := Scalar.muli v519 c1_i32_225
  let v521 : BitVec 32 := Scalar.addi c0_i32_224 v520
  let c1_i32_227 : BitVec 32 := 1#32
  let arg15 : BitVec 32 := Scf.iv v521 c1_i32_227 k0_t2
  let v572 : BitVec 32 := Scalar.muli c4_i32_255 arg15
  let v573 : BitVec 32 := Scalar.addi v498 v572
  let c512_i32_256 : BitVec 32 := 512#32
  let v574 : BitVec 32 := Scalar.muli v573 c512_i32_256
  v574
def k0_off7 (i : grid0.Coords) (k0_t2 : Fin (k0_t2_loop i).trips) : Fin 3 → Nat :=
  let c0_257 : Index := 0#32
  let arg1 : BitVec 32 := BitVec.ofNat 32 (i 1).val
  let c1_i32 : BitVec 32 := 1#32
  let v498 : BitVec 32 := Scalar.addi arg1 c1_i32
  let c4_i32_255 : BitVec 32 := 4#32
  let c0_i32_224 : BitVec 32 := 0#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v517 : BitVec 32 := Scalar.subi v516 c0_i32_224
  let c1_i32_225 : BitVec 32 := 1#32
  let v519 : BitVec 32 := Scalar.divsi v517 c1_i32_225
  let v520 : BitVec 32 := Scalar.muli v519 c1_i32_225
  let v521 : BitVec 32 := Scalar.addi c0_i32_224 v520
  let c1_i32_227 : BitVec 32 := 1#32
  let arg15 : BitVec 32 := Scf.iv v521 c1_i32_227 k0_t2
  let v572 : BitVec 32 := Scalar.muli c4_i32_255 arg15
  let v573 : BitVec 32 := Scalar.addi v498 v572
  let c512_i32_256 : BitVec 32 := 512#32
  let v574 : BitVec 32 := Scalar.muli v573 c512_i32_256
  let v575 : BitVec 32 := v574
  let v576 : Index := Scalar.indexCast v575
  let c0_258 : Index := 0#32
  ![0, v576.toNat, 0]
def k0_off8 (i : grid0.Coords) (k0_t2 : Fin (k0_t2_loop i).trips) : Fin 3 → Nat :=
  let c0_259 : Index := 0#32
  let arg1 : BitVec 32 := BitVec.ofNat 32 (i 1).val
  let c1_i32 : BitVec 32 := 1#32
  let v498 : BitVec 32 := Scalar.addi arg1 c1_i32
  let c4_i32_255 : BitVec 32 := 4#32
  let c0_i32_224 : BitVec 32 := 0#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v517 : BitVec 32 := Scalar.subi v516 c0_i32_224
  let c1_i32_225 : BitVec 32 := 1#32
  let v519 : BitVec 32 := Scalar.divsi v517 c1_i32_225
  let v520 : BitVec 32 := Scalar.muli v519 c1_i32_225
  let v521 : BitVec 32 := Scalar.addi c0_i32_224 v520
  let c1_i32_227 : BitVec 32 := 1#32
  let arg15 : BitVec 32 := Scf.iv v521 c1_i32_227 k0_t2
  let v572 : BitVec 32 := Scalar.muli c4_i32_255 arg15
  let v573 : BitVec 32 := Scalar.addi v498 v572
  let c512_i32_256 : BitVec 32 := 512#32
  let v574 : BitVec 32 := Scalar.muli v573 c512_i32_256
  let v575 : BitVec 32 := v574
  let v579 : Index := Scalar.indexCast v575
  let c0_260 : Index := 0#32
  ![0, v579.toNat, 0]
def k0_off9 (i : grid0.Coords) (k0_t2 : Fin (k0_t2_loop i).trips) (c0_i32_267 : BitVec 32) : Fin 4 → Nat :=
  let c0_268 : Index := 0#32
  let arg1 : BitVec 32 := BitVec.ofNat 32 (i 1).val
  let c1_i32 : BitVec 32 := 1#32
  let v498 : BitVec 32 := Scalar.addi arg1 c1_i32
  let c4_i32_255 : BitVec 32 := 4#32
  let c0_i32_224 : BitVec 32 := 0#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v517 : BitVec 32 := Scalar.subi v516 c0_i32_224
  let c1_i32_225 : BitVec 32 := 1#32
  let v519 : BitVec 32 := Scalar.divsi v517 c1_i32_225
  let v520 : BitVec 32 := Scalar.muli v519 c1_i32_225
  let v521 : BitVec 32 := Scalar.addi c0_i32_224 v520
  let c1_i32_227 : BitVec 32 := 1#32
  let arg15 : BitVec 32 := Scf.iv v521 c1_i32_227 k0_t2
  let v572 : BitVec 32 := Scalar.muli c4_i32_255 arg15
  let v573 : BitVec 32 := Scalar.addi v498 v572
  let v590 : BitVec 32 := Scalar.addi v573 c0_i32_267
  let v591 : Index := Scalar.indexCast v590
  let c0_269 : Index := 0#32
  let c0_270 : Index := 0#32
  ![0, v591.toNat, 0, 0]
@[reducible] def k0_t3_loop (i : grid0.Coords) : Scf.Loop 32 :=
  let c0_i32_237 : BitVec 32 := 0#32
  let c16_i32_229 : BitVec 32 := 16#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v542 : BitVec 32 := Scalar.subi v541 c0_i32_237
  let c1_i32_238 : BitVec 32 := 1#32
  let v544 : BitVec 32 := Scalar.divsi v542 c1_i32_238
  let v545 : BitVec 32 := Scalar.muli v544 c1_i32_238
  let v546 : BitVec 32 := Scalar.addi c0_i32_237 v545
  let c1_i32_239 : BitVec 32 := 1#32
  ⟨c0_i32_237, v546, c1_i32_239⟩
def k0_mult4 (i : grid0.Coords) (k0_t3 : Fin (k0_t3_loop i).trips) : BitVec 32 :=
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_255 : BitVec 32 := 2#32
  let c0_i32_237 : BitVec 32 := 0#32
  let c1_i32_239 : BitVec 32 := 1#32
  let arg15 : BitVec 32 := Scf.iv c0_i32_237 c1_i32_239 k0_t3
  let v572 : BitVec 32 := Scalar.muli c2_i32_255 arg15
  let v573 : BitVec 32 := Scalar.addi v523 v572
  let c512_i32_256 : BitVec 32 := 512#32
  let v574 : BitVec 32 := Scalar.muli v573 c512_i32_256
  v574
def k0_off10 (i : grid0.Coords) (k0_t3 : Fin (k0_t3_loop i).trips) : Fin 3 → Nat :=
  let c0_257 : Index := 0#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_255 : BitVec 32 := 2#32
  let c0_i32_237 : BitVec 32 := 0#32
  let c1_i32_239 : BitVec 32 := 1#32
  let arg15 : BitVec 32 := Scf.iv c0_i32_237 c1_i32_239 k0_t3
  let v572 : BitVec 32 := Scalar.muli c2_i32_255 arg15
  let v573 : BitVec 32 := Scalar.addi v523 v572
  let c512_i32_256 : BitVec 32 := 512#32
  let v574 : BitVec 32 := Scalar.muli v573 c512_i32_256
  let v575 : BitVec 32 := v574
  let v576 : Index := Scalar.indexCast v575
  let c0_258 : Index := 0#32
  ![0, v576.toNat, 0]
def k0_off11 (i : grid0.Coords) (k0_t3 : Fin (k0_t3_loop i).trips) : Fin 3 → Nat :=
  let c0_259 : Index := 0#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_255 : BitVec 32 := 2#32
  let c0_i32_237 : BitVec 32 := 0#32
  let c1_i32_239 : BitVec 32 := 1#32
  let arg15 : BitVec 32 := Scf.iv c0_i32_237 c1_i32_239 k0_t3
  let v572 : BitVec 32 := Scalar.muli c2_i32_255 arg15
  let v573 : BitVec 32 := Scalar.addi v523 v572
  let c512_i32_256 : BitVec 32 := 512#32
  let v574 : BitVec 32 := Scalar.muli v573 c512_i32_256
  let v575 : BitVec 32 := v574
  let v579 : Index := Scalar.indexCast v575
  let c0_260 : Index := 0#32
  ![0, v579.toNat, 0]
def k0_off12 (i : grid0.Coords) (k0_t3 : Fin (k0_t3_loop i).trips) (c0_i32_267 : BitVec 32) : Fin 4 → Nat :=
  let c0_268 : Index := 0#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_255 : BitVec 32 := 2#32
  let c0_i32_237 : BitVec 32 := 0#32
  let c1_i32_239 : BitVec 32 := 1#32
  let arg15 : BitVec 32 := Scf.iv c0_i32_237 c1_i32_239 k0_t3
  let v572 : BitVec 32 := Scalar.muli c2_i32_255 arg15
  let v573 : BitVec 32 := Scalar.addi v523 v572
  let v590 : BitVec 32 := Scalar.addi v573 c0_i32_267
  let v591 : Index := Scalar.indexCast v590
  let c0_269 : Index := 0#32
  let c0_270 : Index := 0#32
  ![0, v591.toNat, 0, 0]
@[reducible] def k0_t4_loop (i : grid0.Coords) : Scf.Loop 32 :=
  let c0_i32_237 : BitVec 32 := 0#32
  let c16_i32_229 : BitVec 32 := 16#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v542 : BitVec 32 := Scalar.subi v541 c0_i32_237
  let c1_i32_238 : BitVec 32 := 1#32
  let v544 : BitVec 32 := Scalar.divsi v542 c1_i32_238
  let v545 : BitVec 32 := Scalar.muli v544 c1_i32_238
  let v546 : BitVec 32 := Scalar.addi c0_i32_237 v545
  let v543 : BitVec 32 := Scalar.addi c0_i32_237 v542
  let c1_i32_240 : BitVec 32 := 1#32
  ⟨v546, v543, c1_i32_240⟩
def k0_mult5 (i : grid0.Coords) (k0_t4 : Fin (k0_t4_loop i).trips) : BitVec 32 :=
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_255 : BitVec 32 := 2#32
  let c0_i32_237 : BitVec 32 := 0#32
  let c16_i32_229 : BitVec 32 := 16#32
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v542 : BitVec 32 := Scalar.subi v541 c0_i32_237
  let c1_i32_238 : BitVec 32 := 1#32
  let v544 : BitVec 32 := Scalar.divsi v542 c1_i32_238
  let v545 : BitVec 32 := Scalar.muli v544 c1_i32_238
  let v546 : BitVec 32 := Scalar.addi c0_i32_237 v545
  let c1_i32_240 : BitVec 32 := 1#32
  let arg15 : BitVec 32 := Scf.iv v546 c1_i32_240 k0_t4
  let v572 : BitVec 32 := Scalar.muli c2_i32_255 arg15
  let v573 : BitVec 32 := Scalar.addi v523 v572
  let c512_i32_256 : BitVec 32 := 512#32
  let v574 : BitVec 32 := Scalar.muli v573 c512_i32_256
  v574
def k0_off13 (i : grid0.Coords) (k0_t4 : Fin (k0_t4_loop i).trips) : Fin 3 → Nat :=
  let c0_257 : Index := 0#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_255 : BitVec 32 := 2#32
  let c0_i32_237 : BitVec 32 := 0#32
  let c16_i32_229 : BitVec 32 := 16#32
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v542 : BitVec 32 := Scalar.subi v541 c0_i32_237
  let c1_i32_238 : BitVec 32 := 1#32
  let v544 : BitVec 32 := Scalar.divsi v542 c1_i32_238
  let v545 : BitVec 32 := Scalar.muli v544 c1_i32_238
  let v546 : BitVec 32 := Scalar.addi c0_i32_237 v545
  let c1_i32_240 : BitVec 32 := 1#32
  let arg15 : BitVec 32 := Scf.iv v546 c1_i32_240 k0_t4
  let v572 : BitVec 32 := Scalar.muli c2_i32_255 arg15
  let v573 : BitVec 32 := Scalar.addi v523 v572
  let c512_i32_256 : BitVec 32 := 512#32
  let v574 : BitVec 32 := Scalar.muli v573 c512_i32_256
  let v575 : BitVec 32 := v574
  let v576 : Index := Scalar.indexCast v575
  let c0_258 : Index := 0#32
  ![0, v576.toNat, 0]
def k0_off14 (i : grid0.Coords) (k0_t4 : Fin (k0_t4_loop i).trips) : Fin 3 → Nat :=
  let c0_259 : Index := 0#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_255 : BitVec 32 := 2#32
  let c0_i32_237 : BitVec 32 := 0#32
  let c16_i32_229 : BitVec 32 := 16#32
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v542 : BitVec 32 := Scalar.subi v541 c0_i32_237
  let c1_i32_238 : BitVec 32 := 1#32
  let v544 : BitVec 32 := Scalar.divsi v542 c1_i32_238
  let v545 : BitVec 32 := Scalar.muli v544 c1_i32_238
  let v546 : BitVec 32 := Scalar.addi c0_i32_237 v545
  let c1_i32_240 : BitVec 32 := 1#32
  let arg15 : BitVec 32 := Scf.iv v546 c1_i32_240 k0_t4
  let v572 : BitVec 32 := Scalar.muli c2_i32_255 arg15
  let v573 : BitVec 32 := Scalar.addi v523 v572
  let c512_i32_256 : BitVec 32 := 512#32
  let v574 : BitVec 32 := Scalar.muli v573 c512_i32_256
  let v575 : BitVec 32 := v574
  let v579 : Index := Scalar.indexCast v575
  let c0_260 : Index := 0#32
  ![0, v579.toNat, 0]
def k0_off15 (i : grid0.Coords) (k0_t4 : Fin (k0_t4_loop i).trips) (c0_i32_267 : BitVec 32) : Fin 4 → Nat :=
  let c0_268 : Index := 0#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_255 : BitVec 32 := 2#32
  let c0_i32_237 : BitVec 32 := 0#32
  let c16_i32_229 : BitVec 32 := 16#32
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v542 : BitVec 32 := Scalar.subi v541 c0_i32_237
  let c1_i32_238 : BitVec 32 := 1#32
  let v544 : BitVec 32 := Scalar.divsi v542 c1_i32_238
  let v545 : BitVec 32 := Scalar.muli v544 c1_i32_238
  let v546 : BitVec 32 := Scalar.addi c0_i32_237 v545
  let c1_i32_240 : BitVec 32 := 1#32
  let arg15 : BitVec 32 := Scf.iv v546 c1_i32_240 k0_t4
  let v572 : BitVec 32 := Scalar.muli c2_i32_255 arg15
  let v573 : BitVec 32 := Scalar.addi v523 v572
  let v590 : BitVec 32 := Scalar.addi v573 c0_i32_267
  let v591 : Index := Scalar.indexCast v590
  let c0_269 : Index := 0#32
  let c0_270 : Index := 0#32
  ![0, v591.toNat, 0, 0]
@[reducible] def k0_t5_loop (i : grid0.Coords) : Scf.Loop 32 :=
  let c0_i32_251 : BitVec 32 := 0#32
  let c16_i32_242 : BitVec 32 := 16#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_241 : BitVec 32 := 2#32
  let c16_i32_229 : BitVec 32 := 16#32
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v547 : BitVec 32 := Scalar.muli c2_i32_241 v541
  let v548 : BitVec 32 := Scalar.addi v523 v547
  let v549 : BitVec 32 := Scalar.subi c16_i32_242 v548
  let c0_i32_244 : BitVec 32 := 0#32
  let v551 : BitVec 1 := Scalar.cmpi .sgt v549 c0_i32_244
  let v552 : BitVec 32 := Scalar.extui v551
  let c0_i32_245 : BitVec 32 := 0#32
  let v553 : BitVec 1 := Scalar.cmpi .slt v549 c0_i32_245
  let v554 : BitVec 32 := Scalar.extui v553
  let v555 : BitVec 32 := Scalar.subi v552 v554
  let c1_i32_243 : BitVec 32 := 1#32
  let c0_i32_246 : BitVec 32 := 0#32
  let v556 : BitVec 1 := Scalar.cmpi .sgt c1_i32_243 c0_i32_246
  let v557 : BitVec 32 := Scalar.extui v556
  let c0_i32_247 : BitVec 32 := 0#32
  let v558 : BitVec 1 := Scalar.cmpi .slt c1_i32_243 c0_i32_247
  let v559 : BitVec 32 := Scalar.extui v558
  let v560 : BitVec 32 := Scalar.subi v557 v559
  let v561 : BitVec 1 := Scalar.cmpi .ne v555 v560
  let v562 : BitVec 32 := Scalar.remsi v549 c1_i32_243
  let c0_i32_248 : BitVec 32 := 0#32
  let v563 : BitVec 1 := Scalar.cmpi .ne v562 c0_i32_248
  let v564 : BitVec 1 := Scalar.andi v561 v563
  let v550 : BitVec 32 := Scalar.divsi v549 c1_i32_243
  let c1_i32_249 : BitVec 32 := 1#32
  let v565 : BitVec 32 := Scalar.subi v550 c1_i32_249
  let v566 : BitVec 32 := Scalar.select v564 v565 v550
  let v567 : BitVec 32 := Scalar.subi v566 c0_i32_251
  let c1_i32_252 : BitVec 32 := 1#32
  let v569 : BitVec 32 := Scalar.divsi v567 c1_i32_252
  let v570 : BitVec 32 := Scalar.muli v569 c1_i32_252
  let v571 : BitVec 32 := Scalar.addi c0_i32_251 v570
  let c1_i32_253 : BitVec 32 := 1#32
  ⟨c0_i32_251, v571, c1_i32_253⟩
def k0_mult6 (i : grid0.Coords) (k0_t5 : Fin (k0_t5_loop i).trips) : BitVec 32 :=
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_241 : BitVec 32 := 2#32
  let c16_i32_229 : BitVec 32 := 16#32
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v547 : BitVec 32 := Scalar.muli c2_i32_241 v541
  let v548 : BitVec 32 := Scalar.addi v523 v547
  let c1_i32_255 : BitVec 32 := 1#32
  let c0_i32_251 : BitVec 32 := 0#32
  let c1_i32_253 : BitVec 32 := 1#32
  let arg15 : BitVec 32 := Scf.iv c0_i32_251 c1_i32_253 k0_t5
  let v572 : BitVec 32 := Scalar.muli c1_i32_255 arg15
  let v573 : BitVec 32 := Scalar.addi v548 v572
  let c512_i32_256 : BitVec 32 := 512#32
  let v574 : BitVec 32 := Scalar.muli v573 c512_i32_256
  v574
def k0_off16 (i : grid0.Coords) (k0_t5 : Fin (k0_t5_loop i).trips) : Fin 3 → Nat :=
  let c0_257 : Index := 0#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_241 : BitVec 32 := 2#32
  let c16_i32_229 : BitVec 32 := 16#32
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v547 : BitVec 32 := Scalar.muli c2_i32_241 v541
  let v548 : BitVec 32 := Scalar.addi v523 v547
  let c1_i32_255 : BitVec 32 := 1#32
  let c0_i32_251 : BitVec 32 := 0#32
  let c1_i32_253 : BitVec 32 := 1#32
  let arg15 : BitVec 32 := Scf.iv c0_i32_251 c1_i32_253 k0_t5
  let v572 : BitVec 32 := Scalar.muli c1_i32_255 arg15
  let v573 : BitVec 32 := Scalar.addi v548 v572
  let c512_i32_256 : BitVec 32 := 512#32
  let v574 : BitVec 32 := Scalar.muli v573 c512_i32_256
  let v575 : BitVec 32 := v574
  let v576 : Index := Scalar.indexCast v575
  let c0_258 : Index := 0#32
  ![0, v576.toNat, 0]
def k0_off17 (i : grid0.Coords) (k0_t5 : Fin (k0_t5_loop i).trips) : Fin 3 → Nat :=
  let c0_259 : Index := 0#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_241 : BitVec 32 := 2#32
  let c16_i32_229 : BitVec 32 := 16#32
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v547 : BitVec 32 := Scalar.muli c2_i32_241 v541
  let v548 : BitVec 32 := Scalar.addi v523 v547
  let c1_i32_255 : BitVec 32 := 1#32
  let c0_i32_251 : BitVec 32 := 0#32
  let c1_i32_253 : BitVec 32 := 1#32
  let arg15 : BitVec 32 := Scf.iv c0_i32_251 c1_i32_253 k0_t5
  let v572 : BitVec 32 := Scalar.muli c1_i32_255 arg15
  let v573 : BitVec 32 := Scalar.addi v548 v572
  let c512_i32_256 : BitVec 32 := 512#32
  let v574 : BitVec 32 := Scalar.muli v573 c512_i32_256
  let v575 : BitVec 32 := v574
  let v579 : Index := Scalar.indexCast v575
  let c0_260 : Index := 0#32
  ![0, v579.toNat, 0]
def k0_off18 (i : grid0.Coords) (k0_t5 : Fin (k0_t5_loop i).trips) : Fin 4 → Nat :=
  let c0_268 : Index := 0#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_241 : BitVec 32 := 2#32
  let c16_i32_229 : BitVec 32 := 16#32
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v547 : BitVec 32 := Scalar.muli c2_i32_241 v541
  let v548 : BitVec 32 := Scalar.addi v523 v547
  let c1_i32_255 : BitVec 32 := 1#32
  let c0_i32_251 : BitVec 32 := 0#32
  let c1_i32_253 : BitVec 32 := 1#32
  let arg15 : BitVec 32 := Scf.iv c0_i32_251 c1_i32_253 k0_t5
  let v572 : BitVec 32 := Scalar.muli c1_i32_255 arg15
  let v573 : BitVec 32 := Scalar.addi v548 v572
  let c0_i32_267 : BitVec 32 := 0#32
  let v590 : BitVec 32 := Scalar.addi v573 c0_i32_267
  let v591 : Index := Scalar.indexCast v590
  let c0_269 : Index := 0#32
  let c0_270 : Index := 0#32
  ![0, v591.toNat, 0, 0]
@[reducible] def k0_t6_loop (i : grid0.Coords) : Scf.Loop 32 :=
  let c0_i32_251 : BitVec 32 := 0#32
  let c16_i32_242 : BitVec 32 := 16#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_241 : BitVec 32 := 2#32
  let c16_i32_229 : BitVec 32 := 16#32
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v547 : BitVec 32 := Scalar.muli c2_i32_241 v541
  let v548 : BitVec 32 := Scalar.addi v523 v547
  let v549 : BitVec 32 := Scalar.subi c16_i32_242 v548
  let c0_i32_244 : BitVec 32 := 0#32
  let v551 : BitVec 1 := Scalar.cmpi .sgt v549 c0_i32_244
  let v552 : BitVec 32 := Scalar.extui v551
  let c0_i32_245 : BitVec 32 := 0#32
  let v553 : BitVec 1 := Scalar.cmpi .slt v549 c0_i32_245
  let v554 : BitVec 32 := Scalar.extui v553
  let v555 : BitVec 32 := Scalar.subi v552 v554
  let c1_i32_243 : BitVec 32 := 1#32
  let c0_i32_246 : BitVec 32 := 0#32
  let v556 : BitVec 1 := Scalar.cmpi .sgt c1_i32_243 c0_i32_246
  let v557 : BitVec 32 := Scalar.extui v556
  let c0_i32_247 : BitVec 32 := 0#32
  let v558 : BitVec 1 := Scalar.cmpi .slt c1_i32_243 c0_i32_247
  let v559 : BitVec 32 := Scalar.extui v558
  let v560 : BitVec 32 := Scalar.subi v557 v559
  let v561 : BitVec 1 := Scalar.cmpi .ne v555 v560
  let v562 : BitVec 32 := Scalar.remsi v549 c1_i32_243
  let c0_i32_248 : BitVec 32 := 0#32
  let v563 : BitVec 1 := Scalar.cmpi .ne v562 c0_i32_248
  let v564 : BitVec 1 := Scalar.andi v561 v563
  let v550 : BitVec 32 := Scalar.divsi v549 c1_i32_243
  let c1_i32_249 : BitVec 32 := 1#32
  let v565 : BitVec 32 := Scalar.subi v550 c1_i32_249
  let v566 : BitVec 32 := Scalar.select v564 v565 v550
  let v567 : BitVec 32 := Scalar.subi v566 c0_i32_251
  let c1_i32_252 : BitVec 32 := 1#32
  let v569 : BitVec 32 := Scalar.divsi v567 c1_i32_252
  let v570 : BitVec 32 := Scalar.muli v569 c1_i32_252
  let v571 : BitVec 32 := Scalar.addi c0_i32_251 v570
  let v568 : BitVec 32 := Scalar.addi c0_i32_251 v567
  let c1_i32_254 : BitVec 32 := 1#32
  ⟨v571, v568, c1_i32_254⟩
def k0_mult7 (i : grid0.Coords) (k0_t6 : Fin (k0_t6_loop i).trips) : BitVec 32 :=
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_241 : BitVec 32 := 2#32
  let c16_i32_229 : BitVec 32 := 16#32
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v547 : BitVec 32 := Scalar.muli c2_i32_241 v541
  let v548 : BitVec 32 := Scalar.addi v523 v547
  let c1_i32_255 : BitVec 32 := 1#32
  let c0_i32_251 : BitVec 32 := 0#32
  let c16_i32_242 : BitVec 32 := 16#32
  let v549 : BitVec 32 := Scalar.subi c16_i32_242 v548
  let c0_i32_244 : BitVec 32 := 0#32
  let v551 : BitVec 1 := Scalar.cmpi .sgt v549 c0_i32_244
  let v552 : BitVec 32 := Scalar.extui v551
  let c0_i32_245 : BitVec 32 := 0#32
  let v553 : BitVec 1 := Scalar.cmpi .slt v549 c0_i32_245
  let v554 : BitVec 32 := Scalar.extui v553
  let v555 : BitVec 32 := Scalar.subi v552 v554
  let c1_i32_243 : BitVec 32 := 1#32
  let c0_i32_246 : BitVec 32 := 0#32
  let v556 : BitVec 1 := Scalar.cmpi .sgt c1_i32_243 c0_i32_246
  let v557 : BitVec 32 := Scalar.extui v556
  let c0_i32_247 : BitVec 32 := 0#32
  let v558 : BitVec 1 := Scalar.cmpi .slt c1_i32_243 c0_i32_247
  let v559 : BitVec 32 := Scalar.extui v558
  let v560 : BitVec 32 := Scalar.subi v557 v559
  let v561 : BitVec 1 := Scalar.cmpi .ne v555 v560
  let v562 : BitVec 32 := Scalar.remsi v549 c1_i32_243
  let c0_i32_248 : BitVec 32 := 0#32
  let v563 : BitVec 1 := Scalar.cmpi .ne v562 c0_i32_248
  let v564 : BitVec 1 := Scalar.andi v561 v563
  let v550 : BitVec 32 := Scalar.divsi v549 c1_i32_243
  let c1_i32_249 : BitVec 32 := 1#32
  let v565 : BitVec 32 := Scalar.subi v550 c1_i32_249
  let v566 : BitVec 32 := Scalar.select v564 v565 v550
  let v567 : BitVec 32 := Scalar.subi v566 c0_i32_251
  let c1_i32_252 : BitVec 32 := 1#32
  let v569 : BitVec 32 := Scalar.divsi v567 c1_i32_252
  let v570 : BitVec 32 := Scalar.muli v569 c1_i32_252
  let v571 : BitVec 32 := Scalar.addi c0_i32_251 v570
  let c1_i32_254 : BitVec 32 := 1#32
  let arg15 : BitVec 32 := Scf.iv v571 c1_i32_254 k0_t6
  let v572 : BitVec 32 := Scalar.muli c1_i32_255 arg15
  let v573 : BitVec 32 := Scalar.addi v548 v572
  let c512_i32_256 : BitVec 32 := 512#32
  let v574 : BitVec 32 := Scalar.muli v573 c512_i32_256
  v574
def k0_off19 (i : grid0.Coords) (k0_t6 : Fin (k0_t6_loop i).trips) : Fin 3 → Nat :=
  let c0_257 : Index := 0#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_241 : BitVec 32 := 2#32
  let c16_i32_229 : BitVec 32 := 16#32
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v547 : BitVec 32 := Scalar.muli c2_i32_241 v541
  let v548 : BitVec 32 := Scalar.addi v523 v547
  let c1_i32_255 : BitVec 32 := 1#32
  let c0_i32_251 : BitVec 32 := 0#32
  let c16_i32_242 : BitVec 32 := 16#32
  let v549 : BitVec 32 := Scalar.subi c16_i32_242 v548
  let c0_i32_244 : BitVec 32 := 0#32
  let v551 : BitVec 1 := Scalar.cmpi .sgt v549 c0_i32_244
  let v552 : BitVec 32 := Scalar.extui v551
  let c0_i32_245 : BitVec 32 := 0#32
  let v553 : BitVec 1 := Scalar.cmpi .slt v549 c0_i32_245
  let v554 : BitVec 32 := Scalar.extui v553
  let v555 : BitVec 32 := Scalar.subi v552 v554
  let c1_i32_243 : BitVec 32 := 1#32
  let c0_i32_246 : BitVec 32 := 0#32
  let v556 : BitVec 1 := Scalar.cmpi .sgt c1_i32_243 c0_i32_246
  let v557 : BitVec 32 := Scalar.extui v556
  let c0_i32_247 : BitVec 32 := 0#32
  let v558 : BitVec 1 := Scalar.cmpi .slt c1_i32_243 c0_i32_247
  let v559 : BitVec 32 := Scalar.extui v558
  let v560 : BitVec 32 := Scalar.subi v557 v559
  let v561 : BitVec 1 := Scalar.cmpi .ne v555 v560
  let v562 : BitVec 32 := Scalar.remsi v549 c1_i32_243
  let c0_i32_248 : BitVec 32 := 0#32
  let v563 : BitVec 1 := Scalar.cmpi .ne v562 c0_i32_248
  let v564 : BitVec 1 := Scalar.andi v561 v563
  let v550 : BitVec 32 := Scalar.divsi v549 c1_i32_243
  let c1_i32_249 : BitVec 32 := 1#32
  let v565 : BitVec 32 := Scalar.subi v550 c1_i32_249
  let v566 : BitVec 32 := Scalar.select v564 v565 v550
  let v567 : BitVec 32 := Scalar.subi v566 c0_i32_251
  let c1_i32_252 : BitVec 32 := 1#32
  let v569 : BitVec 32 := Scalar.divsi v567 c1_i32_252
  let v570 : BitVec 32 := Scalar.muli v569 c1_i32_252
  let v571 : BitVec 32 := Scalar.addi c0_i32_251 v570
  let c1_i32_254 : BitVec 32 := 1#32
  let arg15 : BitVec 32 := Scf.iv v571 c1_i32_254 k0_t6
  let v572 : BitVec 32 := Scalar.muli c1_i32_255 arg15
  let v573 : BitVec 32 := Scalar.addi v548 v572
  let c512_i32_256 : BitVec 32 := 512#32
  let v574 : BitVec 32 := Scalar.muli v573 c512_i32_256
  let v575 : BitVec 32 := v574
  let v576 : Index := Scalar.indexCast v575
  let c0_258 : Index := 0#32
  ![0, v576.toNat, 0]
def k0_off20 (i : grid0.Coords) (k0_t6 : Fin (k0_t6_loop i).trips) : Fin 3 → Nat :=
  let c0_259 : Index := 0#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_241 : BitVec 32 := 2#32
  let c16_i32_229 : BitVec 32 := 16#32
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v547 : BitVec 32 := Scalar.muli c2_i32_241 v541
  let v548 : BitVec 32 := Scalar.addi v523 v547
  let c1_i32_255 : BitVec 32 := 1#32
  let c0_i32_251 : BitVec 32 := 0#32
  let c16_i32_242 : BitVec 32 := 16#32
  let v549 : BitVec 32 := Scalar.subi c16_i32_242 v548
  let c0_i32_244 : BitVec 32 := 0#32
  let v551 : BitVec 1 := Scalar.cmpi .sgt v549 c0_i32_244
  let v552 : BitVec 32 := Scalar.extui v551
  let c0_i32_245 : BitVec 32 := 0#32
  let v553 : BitVec 1 := Scalar.cmpi .slt v549 c0_i32_245
  let v554 : BitVec 32 := Scalar.extui v553
  let v555 : BitVec 32 := Scalar.subi v552 v554
  let c1_i32_243 : BitVec 32 := 1#32
  let c0_i32_246 : BitVec 32 := 0#32
  let v556 : BitVec 1 := Scalar.cmpi .sgt c1_i32_243 c0_i32_246
  let v557 : BitVec 32 := Scalar.extui v556
  let c0_i32_247 : BitVec 32 := 0#32
  let v558 : BitVec 1 := Scalar.cmpi .slt c1_i32_243 c0_i32_247
  let v559 : BitVec 32 := Scalar.extui v558
  let v560 : BitVec 32 := Scalar.subi v557 v559
  let v561 : BitVec 1 := Scalar.cmpi .ne v555 v560
  let v562 : BitVec 32 := Scalar.remsi v549 c1_i32_243
  let c0_i32_248 : BitVec 32 := 0#32
  let v563 : BitVec 1 := Scalar.cmpi .ne v562 c0_i32_248
  let v564 : BitVec 1 := Scalar.andi v561 v563
  let v550 : BitVec 32 := Scalar.divsi v549 c1_i32_243
  let c1_i32_249 : BitVec 32 := 1#32
  let v565 : BitVec 32 := Scalar.subi v550 c1_i32_249
  let v566 : BitVec 32 := Scalar.select v564 v565 v550
  let v567 : BitVec 32 := Scalar.subi v566 c0_i32_251
  let c1_i32_252 : BitVec 32 := 1#32
  let v569 : BitVec 32 := Scalar.divsi v567 c1_i32_252
  let v570 : BitVec 32 := Scalar.muli v569 c1_i32_252
  let v571 : BitVec 32 := Scalar.addi c0_i32_251 v570
  let c1_i32_254 : BitVec 32 := 1#32
  let arg15 : BitVec 32 := Scf.iv v571 c1_i32_254 k0_t6
  let v572 : BitVec 32 := Scalar.muli c1_i32_255 arg15
  let v573 : BitVec 32 := Scalar.addi v548 v572
  let c512_i32_256 : BitVec 32 := 512#32
  let v574 : BitVec 32 := Scalar.muli v573 c512_i32_256
  let v575 : BitVec 32 := v574
  let v579 : Index := Scalar.indexCast v575
  let c0_260 : Index := 0#32
  ![0, v579.toNat, 0]
def k0_off21 (i : grid0.Coords) (k0_t6 : Fin (k0_t6_loop i).trips) : Fin 4 → Nat :=
  let c0_268 : Index := 0#32
  let arg1 : BitVec 32 := BitVec.ofNat 32 (i 1).val
  let c1_i32 : BitVec 32 := 1#32
  let v498 : BitVec 32 := Scalar.addi arg1 c1_i32
  let c4_i32_228 : BitVec 32 := 4#32
  let c16_i32 : BitVec 32 := 16#32
  let v499 : BitVec 32 := Scalar.subi c16_i32 v498
  let c0_i32_217 : BitVec 32 := 0#32
  let v501 : BitVec 1 := Scalar.cmpi .sgt v499 c0_i32_217
  let v502 : BitVec 32 := Scalar.extui v501
  let c0_i32_218 : BitVec 32 := 0#32
  let v503 : BitVec 1 := Scalar.cmpi .slt v499 c0_i32_218
  let v504 : BitVec 32 := Scalar.extui v503
  let v505 : BitVec 32 := Scalar.subi v502 v504
  let c4_i32 : BitVec 32 := 4#32
  let c0_i32_219 : BitVec 32 := 0#32
  let v506 : BitVec 1 := Scalar.cmpi .sgt c4_i32 c0_i32_219
  let v507 : BitVec 32 := Scalar.extui v506
  let c0_i32_220 : BitVec 32 := 0#32
  let v508 : BitVec 1 := Scalar.cmpi .slt c4_i32 c0_i32_220
  let v509 : BitVec 32 := Scalar.extui v508
  let v510 : BitVec 32 := Scalar.subi v507 v509
  let v511 : BitVec 1 := Scalar.cmpi .ne v505 v510
  let v512 : BitVec 32 := Scalar.remsi v499 c4_i32
  let c0_i32_221 : BitVec 32 := 0#32
  let v513 : BitVec 1 := Scalar.cmpi .ne v512 c0_i32_221
  let v514 : BitVec 1 := Scalar.andi v511 v513
  let v500 : BitVec 32 := Scalar.divsi v499 c4_i32
  let c1_i32_222 : BitVec 32 := 1#32
  let v515 : BitVec 32 := Scalar.subi v500 c1_i32_222
  let v516 : BitVec 32 := Scalar.select v514 v515 v500
  let v522 : BitVec 32 := Scalar.muli c4_i32_228 v516
  let v523 : BitVec 32 := Scalar.addi v498 v522
  let c2_i32_241 : BitVec 32 := 2#32
  let c16_i32_229 : BitVec 32 := 16#32
  let v524 : BitVec 32 := Scalar.subi c16_i32_229 v523
  let c0_i32_230 : BitVec 32 := 0#32
  let v526 : BitVec 1 := Scalar.cmpi .sgt v524 c0_i32_230
  let v527 : BitVec 32 := Scalar.extui v526
  let c0_i32_231 : BitVec 32 := 0#32
  let v528 : BitVec 1 := Scalar.cmpi .slt v524 c0_i32_231
  let v529 : BitVec 32 := Scalar.extui v528
  let v530 : BitVec 32 := Scalar.subi v527 v529
  let c2_i32 : BitVec 32 := 2#32
  let c0_i32_232 : BitVec 32 := 0#32
  let v531 : BitVec 1 := Scalar.cmpi .sgt c2_i32 c0_i32_232
  let v532 : BitVec 32 := Scalar.extui v531
  let c0_i32_233 : BitVec 32 := 0#32
  let v533 : BitVec 1 := Scalar.cmpi .slt c2_i32 c0_i32_233
  let v534 : BitVec 32 := Scalar.extui v533
  let v535 : BitVec 32 := Scalar.subi v532 v534
  let v536 : BitVec 1 := Scalar.cmpi .ne v530 v535
  let v537 : BitVec 32 := Scalar.remsi v524 c2_i32
  let c0_i32_234 : BitVec 32 := 0#32
  let v538 : BitVec 1 := Scalar.cmpi .ne v537 c0_i32_234
  let v539 : BitVec 1 := Scalar.andi v536 v538
  let v525 : BitVec 32 := Scalar.divsi v524 c2_i32
  let c1_i32_235 : BitVec 32 := 1#32
  let v540 : BitVec 32 := Scalar.subi v525 c1_i32_235
  let v541 : BitVec 32 := Scalar.select v539 v540 v525
  let v547 : BitVec 32 := Scalar.muli c2_i32_241 v541
  let v548 : BitVec 32 := Scalar.addi v523 v547
  let c1_i32_255 : BitVec 32 := 1#32
  let c0_i32_251 : BitVec 32 := 0#32
  let c16_i32_242 : BitVec 32 := 16#32
  let v549 : BitVec 32 := Scalar.subi c16_i32_242 v548
  let c0_i32_244 : BitVec 32 := 0#32
  let v551 : BitVec 1 := Scalar.cmpi .sgt v549 c0_i32_244
  let v552 : BitVec 32 := Scalar.extui v551
  let c0_i32_245 : BitVec 32 := 0#32
  let v553 : BitVec 1 := Scalar.cmpi .slt v549 c0_i32_245
  let v554 : BitVec 32 := Scalar.extui v553
  let v555 : BitVec 32 := Scalar.subi v552 v554
  let c1_i32_243 : BitVec 32 := 1#32
  let c0_i32_246 : BitVec 32 := 0#32
  let v556 : BitVec 1 := Scalar.cmpi .sgt c1_i32_243 c0_i32_246
  let v557 : BitVec 32 := Scalar.extui v556
  let c0_i32_247 : BitVec 32 := 0#32
  let v558 : BitVec 1 := Scalar.cmpi .slt c1_i32_243 c0_i32_247
  let v559 : BitVec 32 := Scalar.extui v558
  let v560 : BitVec 32 := Scalar.subi v557 v559
  let v561 : BitVec 1 := Scalar.cmpi .ne v555 v560
  let v562 : BitVec 32 := Scalar.remsi v549 c1_i32_243
  let c0_i32_248 : BitVec 32 := 0#32
  let v563 : BitVec 1 := Scalar.cmpi .ne v562 c0_i32_248
  let v564 : BitVec 1 := Scalar.andi v561 v563
  let v550 : BitVec 32 := Scalar.divsi v549 c1_i32_243
  let c1_i32_249 : BitVec 32 := 1#32
  let v565 : BitVec 32 := Scalar.subi v550 c1_i32_249
  let v566 : BitVec 32 := Scalar.select v564 v565 v550
  let v567 : BitVec 32 := Scalar.subi v566 c0_i32_251
  let c1_i32_252 : BitVec 32 := 1#32
  let v569 : BitVec 32 := Scalar.divsi v567 c1_i32_252
  let v570 : BitVec 32 := Scalar.muli v569 c1_i32_252
  let v571 : BitVec 32 := Scalar.addi c0_i32_251 v570
  let c1_i32_254 : BitVec 32 := 1#32
  let arg15 : BitVec 32 := Scf.iv v571 c1_i32_254 k0_t6
  let v572 : BitVec 32 := Scalar.muli c1_i32_255 arg15
  let v573 : BitVec 32 := Scalar.addi v548 v572
  let c0_i32_267 : BitVec 32 := 0#32
  let v590 : BitVec 32 := Scalar.addi v573 c0_i32_267
  let v591 : Index := Scalar.indexCast v590
  let c0_269 : Index := 0#32
  let c0_270 : Index := 0#32
  ![0, v591.toNat, 0, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x8192x256 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x8192x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x16x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x512x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8192x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x512x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S1x512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]
-- ==== Kernel3Ideal.lean ====
variable {F : FTy → Type} [FloatOps F] [Named F]
def κ : String → Option EReal := fun
  | "log2e" => some (((Real.log 2)⁻¹ : ℝ) : EReal)
  | "scale" => some (((Real.sqrt 192)⁻¹ : ℝ) : EReal)
  | "scale2" => some (((Real.sqrt 192)⁻¹ * (Real.log 2)⁻¹ : ℝ) : EReal)
  | _ => none
-- ==== Reference3Ideal.lean ====
abbrev S8192x4x192 : Shape := ⟨3, ![8192, 4, 192]⟩
abbrev S8192x4x128 : Shape := ⟨3, ![8192, 4, 128]⟩
abbrev S4x8192x8192 : Shape := ⟨3, ![4, 8192, 8192]⟩
abbrev S_ : Shape := ⟨0, ![]⟩
abbrev S8192 : Shape := ⟨1, ![8192]⟩
abbrev S1x8192 : Shape := ⟨2, ![1, 8192]⟩
abbrev S8192x1 : Shape := ⟨2, ![8192, 1]⟩
abbrev S8192x8192 : Shape := ⟨2, ![8192, 8192]⟩
abbrev S1x8192x8192 : Shape := ⟨3, ![1, 8192, 8192]⟩
abbrev S4x8192 : Shape := ⟨2, ![4, 8192]⟩
abbrev S4x8192x1 : Shape := ⟨3, ![4, 8192, 1]⟩
abbrev S4x128x8192 : Shape := ⟨3, ![4, 128, 8192]⟩
abbrev S4x8192x192 : Shape := ⟨3, ![4, 8192, 192]⟩
abbrev S8192x4x256 : Shape := ⟨3, ![8192, 4, 256]⟩
abbrev S4x8192x256 : Shape := ⟨3, ![4, 8192, 256]⟩
abbrev S4x8192x128 : Shape := ⟨3, ![4, 8192, 128]⟩

abbrev nBuf : Space → Nat
  | .hbm => 101
  | .vmem => 0
  | .smem => 0
  | _ => 0

abbrev bufTy : (tb : Table) → Fin (tcTables nBuf tb) → BufTy
  | .hbm, ⟨0, _⟩ => ⟨S8192x4x192, .f32⟩
  | .hbm, ⟨1, _⟩ => ⟨S8192x4x192, .f32⟩
  | .hbm, ⟨2, _⟩ => ⟨S8192x4x128, .f32⟩
  | .hbm, ⟨3, _⟩ => ⟨S8192x4x128, .f32⟩
  | .hbm, ⟨4, _⟩ => ⟨S4x8192x8192, .f32⟩
  | .hbm, ⟨5, _⟩ => ⟨S_, .f32⟩
  | .hbm, ⟨6, _⟩ => ⟨S_, .f32⟩
  | .hbm, ⟨7, _⟩ => ⟨S_, .f32⟩
  | .hbm, ⟨8, _⟩ => ⟨S_, .f32⟩
  | .hbm, ⟨9, _⟩ => ⟨S4x8192x8192, .f32⟩
  | .hbm, ⟨10, _⟩ => ⟨S4x8192x8192, .f32⟩
  | .hbm, ⟨11, _⟩ => ⟨S8192, .i32⟩
  | .hbm, ⟨12, _⟩ => ⟨S1x8192, .i32⟩
  | .hbm, ⟨13, _⟩ => ⟨S8192x1, .i32⟩
  | .hbm, ⟨14, _⟩ => ⟨S8192x8192, .i32⟩
  | .hbm, ⟨15, _⟩ => ⟨S8192x8192, .i32⟩
  | .hbm, ⟨16, _⟩ => ⟨S8192x8192, .i1⟩
  | .hbm, ⟨17, _⟩ => ⟨S1x8192x8192, .i1⟩
  | .hbm, ⟨18, _⟩ => ⟨S_, .f32⟩
  | .hbm, ⟨19, _⟩ => ⟨S_, .f32⟩
  | .hbm, ⟨20, _⟩ => ⟨S4x8192x8192, .i1⟩
  | .hbm, ⟨21, _⟩ => ⟨S4x8192x8192, .f32⟩
  | .hbm, ⟨22, _⟩ => ⟨S4x8192x8192, .f32⟩
  | .hbm, ⟨23, _⟩ => ⟨S_, .f32⟩
  | .hbm, ⟨24, _⟩ => ⟨S4x8192x8192, .f32⟩
  | .hbm, ⟨25, _⟩ => ⟨S_, .f32⟩
  | .hbm, ⟨26, _⟩ => ⟨S4x8192, .f32⟩
  | .hbm, ⟨27, _⟩ => ⟨S4x8192x1, .f32⟩
  | .hbm, ⟨28, _⟩ => ⟨S4x8192x8192, .f32⟩
  | .hbm, ⟨29, _⟩ => ⟨S4x8192x8192, .i1⟩
  | .hbm, ⟨30, _⟩ => ⟨S4x8192x8192, .f32⟩
  | .hbm, ⟨31, _⟩ => ⟨S_, .f32⟩
  | .hbm, ⟨32, _⟩ => ⟨S4x8192, .f32⟩
  | .hbm, ⟨33, _⟩ => ⟨S_, .f32⟩
  | .hbm, ⟨34, _⟩ => ⟨S4x8192, .f32⟩
  | .hbm, ⟨35, _⟩ => ⟨S4x8192, .f32⟩
  | .hbm, ⟨36, _⟩ => ⟨S_, .f32⟩
  | .hbm, ⟨37, _⟩ => ⟨S4x8192, .f32⟩
  | .hbm, ⟨38, _⟩ => ⟨S4x8192, .i1⟩
  | .hbm, ⟨39, _⟩ => ⟨S_, .f32⟩
  | .hbm, ⟨40, _⟩ => ⟨S4x8192, .f32⟩
  | .hbm, ⟨41, _⟩ => ⟨S4x8192, .i1⟩
  | .hbm, ⟨42, _⟩ => ⟨S_, .f32⟩
  | .hbm, ⟨43, _⟩ => ⟨S4x8192, .f32⟩
  | .hbm, ⟨44, _⟩ => ⟨S_, .f32⟩
  | .hbm, ⟨45, _⟩ => ⟨S4x8192, .f32⟩
  | .hbm, ⟨46, _⟩ => ⟨S_, .f32⟩
  | .hbm, ⟨47, _⟩ => ⟨S4x8192, .f32⟩
  | .hbm, ⟨48, _⟩ => ⟨S4x8192, .f32⟩
  | .hbm, ⟨49, _⟩ => ⟨S4x8192, .f32⟩
  | .hbm, ⟨50, _⟩ => ⟨S4x8192x1, .f32⟩
  | .hbm, ⟨51, _⟩ => ⟨S4x8192x8192, .f32⟩
  | .hbm, ⟨52, _⟩ => ⟨S4x8192x8192, .f32⟩
  | .hbm, ⟨53, _⟩ => ⟨S4x8192x8192, .f32⟩
  | .hbm, ⟨54, _⟩ => ⟨S_, .f32⟩
  | .hbm, ⟨55, _⟩ => ⟨S4x8192, .f32⟩
  | .hbm, ⟨56, _⟩ => ⟨S4x8192x1, .f32⟩
  | .hbm, ⟨57, _⟩ => ⟨S4x8192x8192, .f32⟩
  | .hbm, ⟨58, _⟩ => ⟨S4x8192x8192, .f32⟩
  | .hbm, ⟨59, _⟩ => ⟨S4x8192x1, .f32⟩
  | .hbm, ⟨60, _⟩ => ⟨S_, .f32⟩
  | .hbm, ⟨61, _⟩ => ⟨S4x8192x1, .f32⟩
  | .hbm, ⟨62, _⟩ => ⟨S4x8192x1, .f32⟩
  | .hbm, ⟨63, _⟩ => ⟨S4x128x8192, .f32⟩
  | .hbm, ⟨64, _⟩ => ⟨S8192x4x128, .f32⟩
  | .hbm, ⟨65, _⟩ => ⟨S4x128x8192, .f32⟩
  | .hbm, ⟨66, _⟩ => ⟨S4x8192x8192, .f32⟩
  | .hbm, ⟨67, _⟩ => ⟨S4x128x8192, .f32⟩
  | .hbm, ⟨68, _⟩ => ⟨S8192x4x128, .f32⟩
  | .hbm, ⟨69, _⟩ => ⟨S4x8192x8192, .f32⟩
  | .hbm, ⟨70, _⟩ => ⟨S4x8192x8192, .f32⟩
  | .hbm, ⟨71, _⟩ => ⟨S4x8192x8192, .f32⟩
  | .hbm, ⟨72, _⟩ => ⟨S_, .f32⟩
  | .hbm, ⟨73, _⟩ => ⟨S4x8192, .f32⟩
  | .hbm, ⟨74, _⟩ => ⟨S4x8192x1, .f32⟩
  | .hbm, ⟨75, _⟩ => ⟨S4x8192x1, .f32⟩
  | .hbm, ⟨76, _⟩ => ⟨S4x8192x8192, .f32⟩
  | .hbm, ⟨77, _⟩ => ⟨S4x8192x8192, .f32⟩
  | .hbm, ⟨78, _⟩ => ⟨S_, .f32⟩
  | .hbm, ⟨79, _⟩ => ⟨S4x8192, .f32⟩
  | .hbm, ⟨80, _⟩ => ⟨S4x8192x8192, .f32⟩
  | .hbm, ⟨81, _⟩ => ⟨S4x8192x8192, .f32⟩
  | .hbm, ⟨82, _⟩ => ⟨S4x8192x8192, .f32⟩
  | .hbm, ⟨83, _⟩ => ⟨S_, .f32⟩
  | .hbm, ⟨84, _⟩ => ⟨S4x8192x8192, .f32⟩
  | .hbm, ⟨85, _⟩ => ⟨S4x8192x8192, .f32⟩
  | .hbm, ⟨86, _⟩ => ⟨S4x8192x8192, .f32⟩
  | .hbm, ⟨87, _⟩ => ⟨S4x8192x8192, .f32⟩
  | .hbm, ⟨88, _⟩ => ⟨S4x8192x192, .f32⟩
  | .hbm, ⟨89, _⟩ => ⟨S8192x4x192, .f32⟩
  | .hbm, ⟨90, _⟩ => ⟨S4x8192x192, .f32⟩
  | .hbm, ⟨91, _⟩ => ⟨S8192x4x192, .f32⟩
  | .hbm, ⟨92, _⟩ => ⟨S_, .i32⟩
  | .hbm, ⟨93, _⟩ => ⟨S_, .f32⟩
  | .hbm, ⟨94, _⟩ => ⟨S8192x4x256, .f32⟩
  | .hbm, ⟨95, _⟩ => ⟨S4x8192x256, .f32⟩
  | .hbm, ⟨96, _⟩ => ⟨S_, .i32⟩
  | .hbm, ⟨97, _⟩ => ⟨S_, .f32⟩
  | .hbm, ⟨98, _⟩ => ⟨S8192x4x256, .f32⟩
  | .hbm, ⟨99, _⟩ => ⟨S4x8192x256, .f32⟩
  | .hbm, ⟨100, _⟩ => ⟨S4x8192x128, .f32⟩
  | _, _ => ⟨S8192x4x192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_call0_v0 : Ref sig .tc := ⟨.hbm, 19, rfl⟩
abbrev main_v12_1 : Ref sig .tc := ⟨.hbm, 20, rfl⟩
abbrev main_call0_v2 : Ref sig .tc := ⟨.hbm, 21, rfl⟩
abbrev main_v12_0 : Ref sig .tc := ⟨.hbm, 22, rfl⟩
abbrev main_call0_cst : Ref sig .tc := ⟨.hbm, 23, rfl⟩
abbrev main_v12_2 : Ref sig .tc := ⟨.hbm, 24, rfl⟩
abbrev main_cst_2 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_3 : Ref sig .tc := ⟨.hbm, 31, rfl⟩
abbrev main_v18 : Ref sig .tc := ⟨.hbm, 32, rfl⟩
abbrev main_cst_4 : Ref sig .tc := ⟨.hbm, 33, rfl⟩
abbrev main_v19 : Ref sig .tc := ⟨.hbm, 34, rfl⟩
abbrev main_v20 : Ref sig .tc := ⟨.hbm, 35, rfl⟩
abbrev main_cst_5 : Ref sig .tc := ⟨.hbm, 36, rfl⟩
abbrev main_v21 : Ref sig .tc := ⟨.hbm, 37, rfl⟩
abbrev main_v22 : Ref sig .tc := ⟨.hbm, 38, rfl⟩
abbrev main_cst_6 : Ref sig .tc := ⟨.hbm, 39, rfl⟩
abbrev main_v23 : Ref sig .tc := ⟨.hbm, 40, rfl⟩
abbrev main_v24 : Ref sig .tc := ⟨.hbm, 41, rfl⟩
abbrev main_cst_7 : Ref sig .tc := ⟨.hbm, 42, rfl⟩
abbrev main_v25 : Ref sig .tc := ⟨.hbm, 43, rfl⟩
abbrev main_cst_8 : Ref sig .tc := ⟨.hbm, 44, rfl⟩
abbrev main_v26 : Ref sig .tc := ⟨.hbm, 45, rfl⟩
abbrev main_cst_9 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_10 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_cst_11 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_cst_12 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_cst_13 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_call1_cst : Ref sig .tc := ⟨.hbm, 83, rfl⟩
abbrev main_call1_v0 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_c : Ref sig .tc := ⟨.hbm, 92, rfl⟩
abbrev main_call2_v0 : Ref sig .tc := ⟨.hbm, 93, rfl⟩
abbrev main_v66 : Ref sig .tc := ⟨.hbm, 94, rfl⟩
abbrev main_v67 : Ref sig .tc := ⟨.hbm, 95, rfl⟩
abbrev main_c_14 : Ref sig .tc := ⟨.hbm, 96, rfl⟩
abbrev main_call3_v0 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩

abbrev nD : Nat := 1
abbrev τ : Topo := Topo.v7x

variable {F : FTy → Type} [FloatOps F]
-- ==== Kernel4.lean ====
abbrev S8192x1024 : Shape := ⟨2, ![8192, 1024]⟩
abbrev S8192x512 : Shape := ⟨2, ![8192, 512]⟩
abbrev S512 : Shape := ⟨1, ![512]⟩
abbrev S1024x1024 : Shape := ⟨2, ![1024, 1024]⟩
abbrev S4x1x128 : Shape := ⟨3, ![4, 1, 128]⟩
abbrev S512x1024 : Shape := ⟨2, ![512, 1024]⟩
abbrev S4x128x1024 : Shape := ⟨3, ![4, 128, 1024]⟩
abbrev S8192x4x128 : Shape := ⟨3, ![8192, 4, 128]⟩
abbrev S4x8192x128 : Shape := ⟨3, ![4, 8192, 128]⟩
abbrev S4x512x128 : Shape := ⟨3, ![4, 512, 128]⟩
abbrev S1x512x128 : Shape := ⟨3, ![1, 512, 128]⟩
abbrev S512x128 : Shape := ⟨2, ![512, 128]⟩
abbrev S512x1 : Shape := ⟨2, ![512, 1]⟩
abbrev S1x1x128 : Shape := ⟨3, ![1, 1, 128]⟩
abbrev S1x128 : Shape := ⟨2, ![1, 128]⟩
abbrev S1x128x1024 : Shape := ⟨3, ![1, 128, 1024]⟩
abbrev S128x1024 : Shape := ⟨2, ![128, 1024]⟩
abbrev S4x16x1x512 : Shape := ⟨4, ![4, 16, 1, 512]⟩
abbrev S8x8192x128 : Shape := ⟨3, ![8, 8192, 128]⟩
abbrev S4x1x1x512 : Shape := ⟨4, ![4, 1, 1, 512]⟩
abbrev S8x512x128 : Shape := ⟨3, ![8, 512, 128]⟩
abbrev S128 : Shape := ⟨1, ![128]⟩
abbrev S128x512 : Shape := ⟨2, ![128, 512]⟩
abbrev S1x512 : Shape := ⟨2, ![1, 512]⟩
abbrev S1x1x1x512 : Shape := ⟨4, ![1, 1, 1, 512]⟩

abbrev nBuf : Space → Nat
  | .hbm => 32
  | .vmem => 41
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S8192x1024, .f32⟩
  | .hbm, ⟨7, _⟩ => ⟨S1024x1024, .bf16⟩
  | .hbm, ⟨8, _⟩ => ⟨S4x1x128, .f32⟩
  | .hbm, ⟨9, _⟩ => ⟨S4x1x128, .f32⟩
  | .hbm, ⟨10, _⟩ => ⟨S512x1024, .bf16⟩
  | .hbm, ⟨11, _⟩ => ⟨S4x128x1024, .bf16⟩
  | .hbm, ⟨12, _⟩ => ⟨S512x1024, .bf16⟩
  | .hbm, ⟨13, _⟩ => ⟨S4x128x1024, .bf16⟩
  | .hbm, ⟨14, _⟩ => ⟨S8192x4x128, .f32⟩
  | .hbm, ⟨15, _⟩ => ⟨S4x8192x128, .f32⟩
  | .hbm, ⟨16, _⟩ => ⟨S8192x4x128, .f32⟩
  | .hbm, ⟨17, _⟩ => ⟨S4x8192x128, .f32⟩
  | .hbm, ⟨18, _⟩ => ⟨S8192x1024, .f32⟩
  | .hbm, ⟨19, _⟩ => ⟨S8192x4x128, .f32⟩
  | .hbm, ⟨20, _⟩ => ⟨S4x8192x128, .f32⟩
  | .hbm, ⟨21, _⟩ => ⟨S8192x4x128, .f32⟩
  | .hbm, ⟨22, _⟩ => ⟨S4x8192x128, .f32⟩
  | .hbm, ⟨23, _⟩ => ⟨S4x8192x128, .bf16⟩
  | .hbm, ⟨24, _⟩ => ⟨S4x16x1x512, .f32⟩
  | .hbm, ⟨25, _⟩ => ⟨S4x8192x128, .f32⟩
  | .hbm, ⟨26, _⟩ => ⟨S8x8192x128, .f32⟩
  | .hbm, ⟨27, _⟩ => ⟨S8192x1024, .bf16⟩
  | .hbm, ⟨28, _⟩ => ⟨S8192x1024, .bf16⟩
  | .hbm, ⟨29, _⟩ => ⟨S4x1x128, .f32⟩
  | .hbm, ⟨30, _⟩ => ⟨S4x1x128, .f32⟩
  | .hbm, ⟨31, _⟩ => ⟨S1024x1024, .f32⟩
  | .local _ .vmem, ⟨0, _⟩ => ⟨S512x1024, .f32⟩
  | .local _ .vmem, ⟨1, _⟩ => ⟨S512x1024, .f32⟩
  | .local _ .vmem, ⟨2, _⟩ => ⟨S4x512x128, .f32⟩
  | .local _ .vmem, ⟨3, _⟩ => ⟨S4x512x128, .f32⟩
  | .local _ .vmem, ⟨4, _⟩ => ⟨S4x512x128, .f32⟩
  | .local _ .vmem, ⟨5, _⟩ => ⟨S4x512x128, .f32⟩
  | .local _ .vmem, ⟨6, _⟩ => ⟨S4x1x128, .f32⟩
  | .local _ .vmem, ⟨7, _⟩ => ⟨S4x1x128, .f32⟩
  | .local _ .vmem, ⟨8, _⟩ => ⟨S4x128x1024, .bf16⟩
  | .local _ .vmem, ⟨9, _⟩ => ⟨S4x128x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S4x512x128, .f32⟩
  | .local _ .vmem, ⟨15, _⟩ => ⟨S4x512x128, .f32⟩
  | .local _ .vmem, ⟨16, _⟩ => ⟨S4x512x128, .f32⟩
  | .local _ .vmem, ⟨17, _⟩ => ⟨S4x512x128, .f32⟩
  | .local _ .vmem, ⟨18, _⟩ => ⟨S4x1x128, .f32⟩
  | .local _ .vmem, ⟨19, _⟩ => ⟨S4x1x128, .f32⟩
  | .local _ .vmem, ⟨20, _⟩ => ⟨S4x128x1024, .bf16⟩
  | .local _ .vmem, ⟨21, _⟩ => ⟨S4x128x1024, .bf16⟩
  | .local _ .vmem, ⟨22, _⟩ => ⟨S4x512x128, .bf16⟩
  | .local _ .vmem, ⟨23, _⟩ => ⟨S4x512x128, .bf16⟩
  | .local _ .vmem, ⟨24, _⟩ => ⟨S4x1x1x512, .f32⟩
  | .local _ .vmem, ⟨25, _⟩ => ⟨S4x1x1x512, .f32⟩
  | .local _ .vmem, ⟨26, _⟩ => ⟨S4x512x128, .f32⟩
  | .local _ .vmem, ⟨27, _⟩ => ⟨S4x512x128, .f32⟩
  | .local _ .vmem, ⟨28, _⟩ => ⟨S8x512x128, .f32⟩
  | .local _ .vmem, ⟨29, _⟩ => ⟨S8x512x128, .f32⟩
  | .local _ .vmem, ⟨30, _⟩ => ⟨S512x1024, .bf16⟩
  | .local _ .vmem, ⟨31, _⟩ => ⟨S512x1024, .bf16⟩
  | .local _ .vmem, ⟨32, _⟩ => ⟨S512x1024, .bf16⟩
  | .local _ .vmem, ⟨33, _⟩ => ⟨S512x1024, .bf16⟩
  | .local _ .vmem, ⟨34, _⟩ => ⟨S4x1x128, .f32⟩
  | .local _ .vmem, ⟨35, _⟩ => ⟨S4x1x128, .f32⟩
  | .local _ .vmem, ⟨36, _⟩ => ⟨S1024x1024, .bf16⟩
  | .local _ .vmem, ⟨37, _⟩ => ⟨S1024x1024, .bf16⟩
  | .local _ .vmem, ⟨38, _⟩ => ⟨S1024x1024, .bf16⟩
  | .local _ .vmem, ⟨39, _⟩ => ⟨S1024x1024, .bf16⟩
  | .local _ .vmem, ⟨40, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | _, _ => false

abbrev semScoped : Fin 0 → Bool
  | ⟨_, h⟩ => absurd h (Nat.not_lt_zero _)

abbrev dmaSemScoped : Fin 41 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | _ => false

abbrev sig : RefSig :=
  ofTc nBuf bufTy 0 41 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16_0 : Ref sig .tc := ⟨.hbm, 23, rfl⟩
abbrev main_v16_1 : Ref sig .tc := ⟨.hbm, 24, rfl⟩
abbrev main_v16_2 : Ref sig .tc := ⟨.hbm, 25, rfl⟩
abbrev main_v16_3 : Ref sig .tc := ⟨.hbm, 26, rfl⟩
abbrev main_v16_4 : Ref sig .tc := ⟨.hbm, 27, rfl⟩
abbrev main_v16_5 : Ref sig .tc := ⟨.hbm, 28, rfl⟩
abbrev main_v16_6 : Ref sig .tc := ⟨.hbm, 29, rfl⟩
abbrev main_v16_7 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg7_1 : Ref sig .tc := ⟨.vmem, 23, rfl⟩
abbrev cc1_stg8_0 : Ref sig .tc := ⟨.vmem, 24, rfl⟩
abbrev cc1_stg8_1 : Ref sig .tc := ⟨.vmem, 25, rfl⟩
abbrev cc1_stg9_0 : Ref sig .tc := ⟨.vmem, 26, rfl⟩
abbrev cc1_stg9_1 : Ref sig .tc := ⟨.vmem, 27, rfl⟩
abbrev cc1_stg10_0 : Ref sig .tc := ⟨.vmem, 28, rfl⟩
abbrev cc1_stg10_1 : Ref sig .tc := ⟨.vmem, 29, rfl⟩
abbrev cc1_stg11_0 : Ref sig .tc := ⟨.vmem, 30, rfl⟩
abbrev cc1_stg11_1 : Ref sig .tc := ⟨.vmem, 31, rfl⟩
abbrev cc1_stg12_0 : Ref sig .tc := ⟨.vmem, 32, rfl⟩
abbrev cc1_stg12_1 : Ref sig .tc := ⟨.vmem, 33, rfl⟩
abbrev cc1_stg13_0 : Ref sig .tc := ⟨.vmem, 34, rfl⟩
abbrev cc1_stg14_0 : Ref sig .tc := ⟨.vmem, 35, rfl⟩
abbrev cc2_stg0_0 : Ref sig .tc := ⟨.vmem, 36, rfl⟩
abbrev cc2_stg0_1 : Ref sig .tc := ⟨.vmem, 37, rfl⟩
abbrev cc2_stg1_0 : Ref sig .tc := ⟨.vmem, 38, rfl⟩
abbrev cc2_stg1_1 : Ref sig .tc := ⟨.vmem, 39, rfl⟩
abbrev cc2_stg2_0 : Ref sig .tc := ⟨.vmem, 40, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem7_1 : DmaSem sig := 23
abbrev cc1_sem8_0 : DmaSem sig := 24
abbrev cc1_sem8_1 : DmaSem sig := 25
abbrev cc1_sem9_0 : DmaSem sig := 26
abbrev cc1_sem9_1 : DmaSem sig := 27
abbrev cc1_sem10_0 : DmaSem sig := 28
abbrev cc1_sem10_1 : DmaSem sig := 29
abbrev cc1_sem11_0 : DmaSem sig := 30
abbrev cc1_sem11_1 : DmaSem sig := 31
abbrev cc1_sem12_0 : DmaSem sig := 32
abbrev cc1_sem12_1 : DmaSem sig := 33
abbrev cc1_sem13_0 : DmaSem sig := 34
abbrev cc1_sem14_0 : DmaSem sig := 35
abbrev cc2_sem0_0 : DmaSem sig := 36
abbrev cc2_sem0_1 : DmaSem sig := 37
abbrev cc2_sem1_0 : DmaSem sig := 38
abbrev cc2_sem1_1 : DmaSem sig := 39
abbrev cc2_sem2_0 : DmaSem sig := 40

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4x512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S4x1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x128x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x128x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_6 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_7 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_8 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc1_transform_9 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_10 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_12 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_13 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc1_transform_14 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage1_0 : Fin 2 → Memref sig .tc .vmem S512x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4x512x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S4x1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S4x1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S4x128x1024 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S4x128x1024 .bf16 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S4x512x128 .bf16 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S4x1x1x512 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S4x512x128 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S8x512x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 2 → Memref sig .tc .vmem S512x1024 .bf16 := fun | 0 => Memref.whole cc1_stg11_0 | 1 => Memref.whole cc1_stg11_1 | ⟨_ + 2, h⟩ => absurd h (Nat.not_lt.2 (Nat.le_add_left _ _))
abbrev sem1_11 : Fin 2 → DmaSem sig := fun | 0 => cc1_sem11_0 | 1 => cc1_sem11_1 | ⟨_ + 2, h⟩ => absurd h (Nat.not_lt.2 (Nat.le_add_left _ _))
abbrev reads1_11 : Fin grid1.rank → Bool := ![true]

abbrev stage1_12 : Fin 2 → Memref sig .tc .vmem S512x1024 .bf16 := fun | 0 => Memref.whole cc1_stg12_0 | 1 => Memref.whole cc1_stg12_1 | ⟨_ + 2, h⟩ => absurd h (Nat.not_lt.2 (Nat.le_add_left _ _))
abbrev sem1_12 : Fin 2 → DmaSem sig := fun | 0 => cc1_sem12_0 | 1 => cc1_sem12_1 | ⟨_ + 2, h⟩ => absurd h (Nat.not_lt.2 (Nat.le_add_left _ _))
abbrev reads1_12 : Fin grid1.rank → Bool := ![true]

abbrev stage1_13 : Fin 1 → Memref sig .tc .vmem S4x1x128 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false]

abbrev stage1_14 : Fin 1 → Memref sig .tc .vmem S4x1x128 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false]

abbrev grid2 : Pipeline.Grid := ⟨2, ![1, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage2_0 : Fin 2 → Memref sig .tc .vmem S1024x1024 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![false, true]

abbrev stage2_1 : Fin 2 → Memref sig .tc .vmem S1024x1024 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 1 → Memref sig .tc .vmem S1024x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![true, false]
-- ==== Reference4Ideal.lean ====
abbrev S8192x1024 : Shape := ⟨2, ![8192, 1024]⟩
abbrev S8192x512 : Shape := ⟨2, ![8192, 512]⟩
abbrev S512 : Shape := ⟨1, ![512]⟩
abbrev S1024x1024 : Shape := ⟨2, ![1024, 1024]⟩
abbrev S_ : Shape := ⟨0, ![]⟩
abbrev S8192 : Shape := ⟨1, ![8192]⟩
abbrev S8192x1 : Shape := ⟨2, ![8192, 1]⟩
abbrev S1x512 : Shape := ⟨2, ![1, 512]⟩
abbrev S8192x4x128 : Shape := ⟨3, ![8192, 4, 128]⟩
abbrev S4x8192x128 : Shape := ⟨3, ![4, 8192, 128]⟩
abbrev S4x8192 : Shape := ⟨2, ![4, 8192]⟩
abbrev S4x16x1x512 : Shape := ⟨4, ![4, 16, 1, 512]⟩
abbrev S8192x8x64 : Shape := ⟨3, ![8192, 8, 64]⟩
abbrev S8x8192x64 : Shape := ⟨3, ![8, 8192, 64]⟩
abbrev S8x8192 : Shape := ⟨2, ![8, 8192]⟩
abbrev S8x8192x1 : Shape := ⟨3, ![8, 8192, 1]⟩
abbrev S8x8192x128 : Shape := ⟨3, ![8, 8192, 128]⟩
abbrev S4x1x128 : Shape := ⟨3, ![4, 1, 128]⟩

abbrev nBuf : Space → Nat
  | .hbm => 126
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x512, .f32⟩
  | .hbm, ⟨2, _⟩ => ⟨S8192x512, .f32⟩
  | .hbm, ⟨3, _⟩ => ⟨S512, .f32⟩
  | .hbm, ⟨4, _⟩ => ⟨S512, .f32⟩
  | .hbm, ⟨5, _⟩ => ⟨S1024x1024, .f32⟩
  | .hbm, ⟨6, _⟩ => ⟨S8192x1024, .f32⟩
  | .hbm, ⟨7, _⟩ => ⟨S8192x512, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S_, .f32⟩
  | .hbm, ⟨20, _⟩ => ⟨S8192x1, .f32⟩
  | .hbm, ⟨21, _⟩ => ⟨S8192x1, .f32⟩
  | .hbm, ⟨22, _⟩ => ⟨S8192x512, .f32⟩
  | .hbm, ⟨23, _⟩ => ⟨S8192x512, .f32⟩
  | .hbm, ⟨24, _⟩ => ⟨S1x512, .f32⟩
  | .hbm, ⟨25, _⟩ => ⟨S8192x512, .f32⟩
  | .hbm, ⟨26, _⟩ => ⟨S8192x512, .f32⟩
  | .hbm, ⟨27, _⟩ => ⟨S8192x512, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S_, .f32⟩
  | .hbm, ⟨35, _⟩ => ⟨S8192x1, .f32⟩
  | .hbm, ⟨36, _⟩ => ⟨S8192x1, .f32⟩
  | .hbm, ⟨37, _⟩ => ⟨S8192x1, .f32⟩
  | .hbm, ⟨38, _⟩ => ⟨S8192x1, .f32⟩
  | .hbm, ⟨39, _⟩ => ⟨S_, .f32⟩
  | .hbm, ⟨40, _⟩ => ⟨S8192x1, .f32⟩
  | .hbm, ⟨41, _⟩ => ⟨S8192x1, .f32⟩
  | .hbm, ⟨42, _⟩ => ⟨S8192x512, .f32⟩
  | .hbm, ⟨43, _⟩ => ⟨S8192x512, .f32⟩
  | .hbm, ⟨44, _⟩ => ⟨S1x512, .f32⟩
  | .hbm, ⟨45, _⟩ => ⟨S8192x512, .f32⟩
  | .hbm, ⟨46, _⟩ => ⟨S8192x512, .f32⟩
  | .hbm, ⟨47, _⟩ => ⟨S8192x1024, .f32⟩
  | .hbm, ⟨48, _⟩ => ⟨S8192x1024, .f32⟩
  | .hbm, ⟨49, _⟩ => ⟨S8192x1024, .f32⟩
  | .hbm, ⟨50, _⟩ => ⟨S8192x1024, .f32⟩
  | .hbm, ⟨51, _⟩ => ⟨S1024x1024, .f32⟩
  | .hbm, ⟨52, _⟩ => ⟨S1024x1024, .f32⟩
  | .hbm, ⟨53, _⟩ => ⟨S8192x1024, .f32⟩
  | .hbm, ⟨54, _⟩ => ⟨S8192x512, .f32⟩
  | .hbm, ⟨55, _⟩ => ⟨S8192x512, .f32⟩
  | .hbm, ⟨56, _⟩ => ⟨S8192x512, .f32⟩
  | .hbm, ⟨57, _⟩ => ⟨S_, .f32⟩
  | .hbm, ⟨58, _⟩ => ⟨S512, .f32⟩
  | .hbm, ⟨59, _⟩ => ⟨S1x512, .f32⟩
  | .hbm, ⟨60, _⟩ => ⟨S8192x512, .f32⟩
  | .hbm, ⟨61, _⟩ => ⟨S8192x512, .f32⟩
  | .hbm, ⟨62, _⟩ => ⟨S_, .f32⟩
  | .hbm, ⟨63, _⟩ => ⟨S512, .f32⟩
  | .hbm, ⟨64, _⟩ => ⟨S8192x512, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S8192x512, .f32⟩
  | .hbm, ⟨69, _⟩ => ⟨S8192x512, .f32⟩
  | .hbm, ⟨70, _⟩ => ⟨S8192x1, .f32⟩
  | .hbm, ⟨71, _⟩ => ⟨S_, .f32⟩
  | .hbm, ⟨72, _⟩ => ⟨S8192x1, .f32⟩
  | .hbm, ⟨73, _⟩ => ⟨S8192x1, .f32⟩
  | .hbm, ⟨74, _⟩ => ⟨S_, .f32⟩
  | .hbm, ⟨75, _⟩ => ⟨S8192, .f32⟩
  | .hbm, ⟨76, _⟩ => ⟨S8192x512, .f32⟩
  | .hbm, ⟨77, _⟩ => ⟨S8192x512, .f32⟩
  | .hbm, ⟨78, _⟩ => ⟨S8192x512, .f32⟩
  | .hbm, ⟨79, _⟩ => ⟨S8192x512, .f32⟩
  | .hbm, ⟨80, _⟩ => ⟨S8192x512, .f32⟩
  | .hbm, ⟨81, _⟩ => ⟨S8192x512, .f32⟩
  | .hbm, ⟨82, _⟩ => ⟨S_, .f32⟩
  | .hbm, ⟨83, _⟩ => ⟨S512, .f32⟩
  | .hbm, ⟨84, _⟩ => ⟨S1x512, .f32⟩
  | .hbm, ⟨85, _⟩ => ⟨S8192x512, .f32⟩
  | .hbm, ⟨86, _⟩ => ⟨S8192x512, .f32⟩
  | .hbm, ⟨87, _⟩ => ⟨S_, .f32⟩
  | .hbm, ⟨88, _⟩ => ⟨S512, .f32⟩
  | .hbm, ⟨89, _⟩ => ⟨S8192x512, .f32⟩
  | .hbm, ⟨90, _⟩ => ⟨S_, .f32⟩
  | .hbm, ⟨91, _⟩ => ⟨S8192, .f32⟩
  | .hbm, ⟨92, _⟩ => ⟨S8192x1, .f32⟩
  | .hbm, ⟨93, _⟩ => ⟨S8192x512, .f32⟩
  | .hbm, ⟨94, _⟩ => ⟨S8192x512, .f32⟩
  | .hbm, ⟨95, _⟩ => ⟨S8192x1, .f32⟩
  | .hbm, ⟨96, _⟩ => ⟨S_, .f32⟩
  | .hbm, ⟨97, _⟩ => ⟨S8192x1, .f32⟩
  | .hbm, ⟨98, _⟩ => ⟨S8192x1, .f32⟩
  | .hbm, ⟨99, _⟩ => ⟨S_, .f32⟩
  | .hbm, ⟨100, _⟩ => ⟨S8192, .f32⟩
  | .hbm, ⟨101, _⟩ => ⟨S8192x512, .f32⟩
  | .hbm, ⟨102, _⟩ => ⟨S8192x512, .f32⟩
  | .hbm, ⟨103, _⟩ => ⟨S8192x512, .f32⟩
  | .hbm, ⟨104, _⟩ => ⟨S8192x512, .f32⟩
  | .hbm, ⟨105, _⟩ => ⟨S8192x512, .f32⟩
  | .hbm, ⟨106, _⟩ => ⟨S8192x512, .f32⟩
  | .hbm, ⟨107, _⟩ => ⟨S8192x4x128, .f32⟩
  | .hbm, ⟨108, _⟩ => ⟨S4x8192x128, .f32⟩
  | .hbm, ⟨109, _⟩ => ⟨S_, .f32⟩
  | .hbm, ⟨110, _⟩ => ⟨S4x8192, .f32⟩
  | .hbm, ⟨111, _⟩ => ⟨S4x16x1x512, .f32⟩
  | .hbm, ⟨112, _⟩ => ⟨S8192x512, .f32⟩
  | .hbm, ⟨113, _⟩ => ⟨S8192x8x64, .f32⟩
  | .hbm, ⟨114, _⟩ => ⟨S8x8192x64, .f32⟩
  | .hbm, ⟨115, _⟩ => ⟨S_, .f32⟩
  | .hbm, ⟨116, _⟩ => ⟨S8x8192, .f32⟩
  | .hbm, ⟨117, _⟩ => ⟨S8x8192x1, .f32⟩
  | .hbm, ⟨118, _⟩ => ⟨S8x8192x128, .f32⟩
  | .hbm, ⟨119, _⟩ => ⟨S8192x4x128, .f32⟩
  | .hbm, ⟨120, _⟩ => ⟨S4x8192x128, .f32⟩
  | .hbm, ⟨121, _⟩ => ⟨S4x8192x128, .bf16⟩
  | .hbm, ⟨122, _⟩ => ⟨S8192x4x128, .f32⟩
  | .hbm, ⟨123, _⟩ => ⟨S4x8192x128, .f32⟩
  | .hbm, ⟨124, _⟩ => ⟨S4x1x128, .f32⟩
  | .hbm, ⟨125, _⟩ => ⟨S4x1x128, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_cst : Ref sig .tc := ⟨.hbm, 8, rfl⟩
abbrev main_v1 : Ref sig .tc := ⟨.hbm, 9, rfl⟩
abbrev main_v2 : Ref sig .tc := ⟨.hbm, 10, rfl⟩
abbrev main_cst_0 : Ref sig .tc := ⟨.hbm, 11, rfl⟩
abbrev main_v3 : Ref sig .tc := ⟨.hbm, 12, rfl⟩
abbrev main_v4 : Ref sig .tc := ⟨.hbm, 13, rfl⟩
abbrev main_cst_1 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_cst_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_cst_4 : Ref sig .tc := ⟨.hbm, 31, rfl⟩
abbrev main_v19 : Ref sig .tc := ⟨.hbm, 32, rfl⟩
abbrev main_v20 : Ref sig .tc := ⟨.hbm, 33, rfl⟩
abbrev main_cst_5 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_6 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_cst_7 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_cst_8 : Ref sig .tc := ⟨.hbm, 62, rfl⟩
abbrev main_v46 : Ref sig .tc := ⟨.hbm, 63, rfl⟩
abbrev main_v47 : Ref sig .tc := ⟨.hbm, 64, rfl⟩
abbrev main_cst_9 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_10 : Ref sig .tc := ⟨.hbm, 71, rfl⟩
abbrev main_v53 : Ref sig .tc := ⟨.hbm, 72, rfl⟩
abbrev main_v54 : Ref sig .tc := ⟨.hbm, 73, rfl⟩
abbrev main_cst_11 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_cst_12 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_cst_13 : Ref sig .tc := ⟨.hbm, 87, rfl⟩
abbrev main_v66 : Ref sig .tc := ⟨.hbm, 88, rfl⟩
abbrev main_v67 : Ref sig .tc := ⟨.hbm, 89, rfl⟩
abbrev main_cst_14 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_v71 : Ref sig .tc := ⟨.hbm, 94, rfl⟩
abbrev main_v72 : Ref sig .tc := ⟨.hbm, 95, rfl⟩
abbrev main_cst_15 : Ref sig .tc := ⟨.hbm, 96, rfl⟩
abbrev main_v73 : Ref sig .tc := ⟨.hbm, 97, rfl⟩
abbrev main_v74 : Ref sig .tc := ⟨.hbm, 98, rfl⟩
abbrev main_cst_16 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_cst_17 : Ref sig .tc := ⟨.hbm, 109, rfl⟩
abbrev main_v84 : Ref sig .tc := ⟨.hbm, 110, rfl⟩
abbrev main_v85 : Ref sig .tc := ⟨.hbm, 111, rfl⟩
abbrev main_v86 : Ref sig .tc := ⟨.hbm, 112, rfl⟩
abbrev main_v87 : Ref sig .tc := ⟨.hbm, 113, rfl⟩
abbrev main_v88 : Ref sig .tc := ⟨.hbm, 114, rfl⟩
abbrev main_cst_18 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_v98 : Ref sig .tc := ⟨.hbm, 125, rfl⟩

abbrev nD : Nat := 1
abbrev τ : Topo := Topo.v7x

variable {F : FTy → Type} [FloatOps F]
-- ==== Kernel5.lean ====
abbrev S2x352x1024 : Shape := ⟨3, ![2, 352, 1024]⟩
abbrev S1x352x1024 : Shape := ⟨3, ![1, 352, 1024]⟩

abbrev nBuf : Space → Nat
  | .hbm => 7
  | .vmem => 14
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S2x352x1024, .f32⟩
  | .hbm, ⟨5, _⟩ => ⟨S2x352x1024, .f32⟩
  | .hbm, ⟨6, _⟩ => ⟨S2x352x1024, .f32⟩
  | .local _ .vmem, ⟨0, _⟩ => ⟨S1x352x1024, .f32⟩
  | .local _ .vmem, ⟨1, _⟩ => ⟨S1x352x1024, .f32⟩
  | .local _ .vmem, ⟨2, _⟩ => ⟨S1x352x1024, .f32⟩
  | .local _ .vmem, ⟨3, _⟩ => ⟨S1x352x1024, .f32⟩
  | .local _ .vmem, ⟨4, _⟩ => ⟨S1x352x1024, .f32⟩
  | .local _ .vmem, ⟨5, _⟩ => ⟨S1x352x1024, .f32⟩
  | .local _ .vmem, ⟨6, _⟩ => ⟨S1x352x1024, .f32⟩
  | .local _ .vmem, ⟨7, _⟩ => ⟨S1x352x1024, .f32⟩
  | .local _ .vmem, ⟨8, _⟩ => ⟨S1x352x1024, .f32⟩
  | .local _ .vmem, ⟨9, _⟩ => ⟨S1x352x1024, .f32⟩
  | .local _ .vmem, ⟨10, _⟩ => ⟨S1x352x1024, .f32⟩
  | .local _ .vmem, ⟨11, _⟩ => ⟨S1x352x1024, .f32⟩
  | .local _ .vmem, ⟨12, _⟩ => ⟨S1x352x1024, .f32⟩
  | .local _ .vmem, ⟨13, _⟩ => ⟨S1x352x1024, .f32⟩
  | _, _ => ⟨S2x352x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x352x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x352x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x352x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x352x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x352x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x352x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x352x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S2x352x1024 : Shape := ⟨3, ![2, 352, 1024]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2x352x1024, .f32⟩
  | .hbm, ⟨1, _⟩ => ⟨S2x352x1024, .f32⟩
  | .hbm, ⟨2, _⟩ => ⟨S2x352x1024, .f32⟩
  | .hbm, ⟨3, _⟩ => ⟨S2x352x1024, .f32⟩
  | .hbm, ⟨4, _⟩ => ⟨S_, .f32⟩
  | .hbm, ⟨5, _⟩ => ⟨S2x352x1024, .f32⟩
  | .hbm, ⟨6, _⟩ => ⟨S2x352x1024, .f32⟩
  | .hbm, ⟨7, _⟩ => ⟨S_, .f32⟩
  | .hbm, ⟨8, _⟩ => ⟨S2x352x1024, .f32⟩
  | .hbm, ⟨9, _⟩ => ⟨S2x352x1024, .f32⟩
  | .hbm, ⟨10, _⟩ => ⟨S2x352x1024, .f32⟩
  | .hbm, ⟨11, _⟩ => ⟨S_, .f32⟩
  | .hbm, ⟨12, _⟩ => ⟨S2x352x1024, .f32⟩
  | .hbm, ⟨13, _⟩ => ⟨S2x352x1024, .f32⟩
  | .hbm, ⟨14, _⟩ => ⟨S2x352x1024, .f32⟩
  | .hbm, ⟨15, _⟩ => ⟨S_, .f32⟩
  | .hbm, ⟨16, _⟩ => ⟨S2x352x1024, .f32⟩
  | .hbm, ⟨17, _⟩ => ⟨S2x352x1024, .f32⟩
  | .hbm, ⟨18, _⟩ => ⟨S2x352x1024, .f32⟩
  | .hbm, ⟨19, _⟩ => ⟨S_, .f32⟩
  | .hbm, ⟨20, _⟩ => ⟨S2x352x1024, .f32⟩
  | .hbm, ⟨21, _⟩ => ⟨S2x352x1024, .f32⟩
  | .hbm, ⟨22, _⟩ => ⟨S_, .f32⟩
  | .hbm, ⟨23, _⟩ => ⟨S2x352x1024, .f32⟩
  | .hbm, ⟨24, _⟩ => ⟨S2x352x1024, .f32⟩
  | .hbm, ⟨25, _⟩ => ⟨S2x352x1024, .f32⟩
  | .hbm, ⟨26, _⟩ => ⟨S_, .f32⟩
  | .hbm, ⟨27, _⟩ => ⟨S2x352x1024, .f32⟩
  | .hbm, ⟨28, _⟩ => ⟨S2x352x1024, .f32⟩
  | .hbm, ⟨29, _⟩ => ⟨S2x352x1024, .f32⟩
  | .hbm, ⟨30, _⟩ => ⟨S_, .f32⟩
  | .hbm, ⟨31, _⟩ => ⟨S2x352x1024, .f32⟩
  | .hbm, ⟨32, _⟩ => ⟨S2x352x1024, .f32⟩
  | .hbm, ⟨33, _⟩ => ⟨S2x352x1024, .f32⟩
  | .hbm, ⟨34, _⟩ => ⟨S_, .f32⟩
  | .hbm, ⟨35, _⟩ => ⟨S2x352x1024, .f32⟩
  | .hbm, ⟨36, _⟩ => ⟨S2x352x1024, .f32⟩
  | _, _ => ⟨S2x352x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1024x1216 : Shape := ⟨2, ![1024, 1216]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S192 : Shape := ⟨1, ![192]⟩
abbrev S64 : Shape := ⟨1, ![64]⟩
abbrev S1216x1024 : Shape := ⟨2, ![1216, 1024]⟩
abbrev S448x1024 : Shape := ⟨2, ![448, 1024]⟩
abbrev S_ : Shape := ⟨0, ![]⟩
abbrev S64x1024 : Shape := ⟨2, ![64, 1024]⟩
abbrev S768x1024 : Shape := ⟨2, ![768, 1024]⟩
abbrev S1280x1024 : Shape := ⟨2, ![1280, 1024]⟩
abbrev S768x256 : Shape := ⟨2, ![768, 256]⟩
abbrev S4x192x256 : Shape := ⟨3, ![4, 192, 256]⟩
abbrev S4x256x256 : Shape := ⟨3, ![4, 256, 256]⟩
abbrev S1x1024 : Shape := ⟨2, ![1, 1024]⟩
abbrev S1x256 : Shape := ⟨2, ![1, 256]⟩
abbrev S1x128 : Shape := ⟨2, ![1, 128]⟩
abbrev S1024x128 : Shape := ⟨2, ![1024, 128]⟩
abbrev S1x192 : Shape := ⟨2, ![1, 192]⟩
abbrev S1x64 : Shape := ⟨2, ![1, 64]⟩
abbrev S8192 : Shape := ⟨1, ![8192]⟩
abbrev S32 : Shape := ⟨1, ![32]⟩
abbrev S8192x1 : Shape := ⟨2, ![8192, 1]⟩
abbrev S1x32 : Shape := ⟨2, ![1, 32]⟩
abbrev S8192x32 : Shape := ⟨2, ![8192, 32]⟩
abbrev S8192x128 : Shape := ⟨2, ![8192, 128]⟩
abbrev S4x8192x256 : Shape := ⟨3, ![4, 8192, 256]⟩
abbrev S4x8192x128 : Shape := ⟨3, ![4, 8192, 128]⟩
abbrev S2x8192x128 : Shape := ⟨3, ![2, 8192, 128]⟩
abbrev S512x1024 : Shape := ⟨2, ![512, 1024]⟩
abbrev S512x128 : Shape := ⟨2, ![512, 128]⟩
abbrev S4x512x256 : Shape := ⟨3, ![4, 512, 256]⟩
abbrev S4x512x128 : Shape := ⟨3, ![4, 512, 128]⟩
abbrev S2x512x128 : Shape := ⟨3, ![2, 512, 128]⟩
abbrev S512 : Shape := ⟨1, ![512]⟩
abbrev S512x1 : Shape := ⟨2, ![512, 1]⟩
abbrev S512x1280 : Shape := ⟨2, ![512, 1280]⟩
abbrev S512x256 : Shape := ⟨2, ![512, 256]⟩
abbrev S1x256x256 : Shape := ⟨3, ![1, 256, 256]⟩
abbrev S256x256 : Shape := ⟨2, ![256, 256]⟩
abbrev S1x512x128 : Shape := ⟨3, ![1, 512, 128]⟩

abbrev nBuf : Space → Nat
  | .hbm => 81
  | .vmem => 30
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1024x1216, .f32⟩
  | .hbm, ⟨3, _⟩ => ⟨S256, .f32⟩
  | .hbm, ⟨4, _⟩ => ⟨S256x768, .f32⟩
  | .hbm, ⟨5, _⟩ => ⟨S128, .f32⟩
  | .hbm, ⟨6, _⟩ => ⟨S128x1024, .f32⟩
  | .hbm, ⟨7, _⟩ => ⟨S192, .f32⟩
  | .hbm, ⟨8, _⟩ => ⟨S192, .f32⟩
  | .hbm, ⟨9, _⟩ => ⟨S64, .f32⟩
  | .hbm, ⟨10, _⟩ => ⟨S64, .f32⟩
  | .hbm, ⟨11, _⟩ => ⟨S1216x1024, .f32⟩
  | .hbm, ⟨12, _⟩ => ⟨S1216x1024, .bf16⟩
  | .hbm, ⟨13, _⟩ => ⟨S448x1024, .bf16⟩
  | .hbm, ⟨14, _⟩ => ⟨S_, .bf16⟩
  | .hbm, ⟨15, _⟩ => ⟨S64x1024, .bf16⟩
  | .hbm, ⟨16, _⟩ => ⟨S768x1024, .bf16⟩
  | .hbm, ⟨17, _⟩ => ⟨S1280x1024, .bf16⟩
  | .hbm, ⟨18, _⟩ => ⟨S768x256, .f32⟩
  | .hbm, ⟨19, _⟩ => ⟨S768x256, .bf16⟩
  | .hbm, ⟨20, _⟩ => ⟨S4x192x256, .bf16⟩
  | .hbm, ⟨21, _⟩ => ⟨S_, .i32⟩
  | .hbm, ⟨22, _⟩ => ⟨S_, .bf16⟩
  | .hbm, ⟨23, _⟩ => ⟨S4x256x256, .bf16⟩
  | .hbm, ⟨24, _⟩ => ⟨S1x1024, .f32⟩
  | .hbm, ⟨25, _⟩ => ⟨S1x256, .f32⟩
  | .hbm, ⟨26, _⟩ => ⟨S1x128, .f32⟩
  | .hbm, ⟨27, _⟩ => ⟨S1024x128, .f32⟩
  | .hbm, ⟨28, _⟩ => ⟨S1024x128, .bf16⟩
  | .hbm, ⟨29, _⟩ => ⟨S1x192, .f32⟩
  | .hbm, ⟨30, _⟩ => ⟨S1x128, .f32⟩
  | .hbm, ⟨31, _⟩ => ⟨S1x192, .f32⟩
  | .hbm, ⟨32, _⟩ => ⟨S1x64, .f32⟩
  | .hbm, ⟨33, _⟩ => ⟨S_, .i32⟩
  | .hbm, ⟨34, _⟩ => ⟨S_, .f32⟩
  | .hbm, ⟨35, _⟩ => ⟨S1x128, .f32⟩
  | .hbm, ⟨36, _⟩ => ⟨S1x192, .f32⟩
  | .hbm, ⟨37, _⟩ => ⟨S1x128, .f32⟩
  | .hbm, ⟨38, _⟩ => ⟨S1x192, .f32⟩
  | .hbm, ⟨39, _⟩ => ⟨S1x64, .f32⟩
  | .hbm, ⟨40, _⟩ => ⟨S_, .i32⟩
  | .hbm, ⟨41, _⟩ => ⟨S_, .f32⟩
  | .hbm, ⟨42, _⟩ => ⟨S1x128, .f32⟩
  | .hbm, ⟨43, _⟩ => ⟨S1x64, .f32⟩
  | .hbm, ⟨44, _⟩ => ⟨S1x128, .f32⟩
  | .hbm, ⟨45, _⟩ => ⟨S1x64, .f32⟩
  | .hbm, ⟨46, _⟩ => ⟨S1x128, .f32⟩
  | .hbm, ⟨47, _⟩ => ⟨S8192, .f32⟩
  | .hbm, ⟨48, _⟩ => ⟨S32, .f32⟩
  | .hbm, ⟨49, _⟩ => ⟨S_, .f32⟩
  | .hbm, ⟨50, _⟩ => ⟨S32, .f32⟩
  | .hbm, ⟨51, _⟩ => ⟨S32, .f32⟩
  | .hbm, ⟨52, _⟩ => ⟨S_, .f32⟩
  | .hbm, ⟨53, _⟩ => ⟨S32, .f32⟩
  | .hbm, ⟨54, _⟩ => ⟨S32, .f32⟩
  | .hbm, ⟨55, _⟩ => ⟨S_, .f32⟩
  | .hbm, ⟨56, _⟩ => ⟨S32, .f32⟩
  | .hbm, ⟨57, _⟩ => ⟨S32, .f32⟩
  | .hbm, ⟨58, _⟩ => ⟨S_, .f32⟩
  | .hbm, ⟨59, _⟩ => ⟨S32, .f32⟩
  | .hbm, ⟨60, _⟩ => ⟨S32, .f32⟩
  | .hbm, ⟨61, _⟩ => ⟨S_, .f32⟩
  | .hbm, ⟨62, _⟩ => ⟨S32, .f32⟩
  | .hbm, ⟨63, _⟩ => ⟨S32, .f32⟩
  | .hbm, ⟨64, _⟩ => ⟨S8192x1, .f32⟩
  | .hbm, ⟨65, _⟩ => ⟨S1x32, .f32⟩
  | .hbm, ⟨66, _⟩ => ⟨S8192x32, .f32⟩
  | .hbm, ⟨67, _⟩ => ⟨S8192x32, .f32⟩
  | .hbm, ⟨68, _⟩ => ⟨S8192x32, .f32⟩
  | .hbm, ⟨69, _⟩ => ⟨S8192x32, .f32⟩
  | .hbm, ⟨70, _⟩ => ⟨S8192x32, .f32⟩
  | .hbm, ⟨71, _⟩ => ⟨S8192x128, .f32⟩
  | .hbm, ⟨72, _⟩ => ⟨S8192x32, .f32⟩
  | .hbm, ⟨73, _⟩ => ⟨S8192x32, .f32⟩
  | .hbm, ⟨74, _⟩ => ⟨S8192x128, .f32⟩
  | .hbm, ⟨75, _⟩ => ⟨S4x8192x256, .bf16⟩
  | .hbm, ⟨76, _⟩ => ⟨S4x8192x256, .bf16⟩
  | .hbm, ⟨77, _⟩ => ⟨S4x8192x128, .bf16⟩
  | .hbm, ⟨78, _⟩ => ⟨S4x8192x128, .bf16⟩
  | .hbm, ⟨79, _⟩ => ⟨S2x8192x128, .bf16⟩
  | .hbm, ⟨80, _⟩ => ⟨S2x8192x128, .bf16⟩
  | .local _ .vmem, ⟨0, _⟩ => ⟨S512x1024, .f32⟩
  | .local _ .vmem, ⟨1, _⟩ => ⟨S512x1024, .f32⟩
  | .local _ .vmem, ⟨2, _⟩ => ⟨S512x128, .f32⟩
  | .local _ .vmem, ⟨3, _⟩ => ⟨S512x128, .f32⟩
  | .local _ .vmem, ⟨4, _⟩ => ⟨S512x128, .f32⟩
  | .local _ .vmem, ⟨5, _⟩ => ⟨S512x128, .f32⟩
  | .local _ .vmem, ⟨6, _⟩ => ⟨S1x1024, .f32⟩
  | .local _ .vmem, ⟨7, _⟩ => ⟨S1280x1024, .bf16⟩
  | .local _ .vmem, ⟨8, _⟩ => ⟨S1x256, .f32⟩
  | .local _ .vmem, ⟨9, _⟩ => ⟨S4x256x256, .bf16⟩
  | .local _ .vmem, ⟨10, _⟩ => ⟨S1x128, .f32⟩
  | .local _ .vmem, ⟨11, _⟩ => ⟨S1024x128, .bf16⟩
  | .local _ .vmem, ⟨12, _⟩ => ⟨S1x128, .f32⟩
  | .local _ .vmem, ⟨13, _⟩ => ⟨S1x128, .f32⟩
  | .local _ .vmem, ⟨14, _⟩ => ⟨S1x128, .f32⟩
  | .local _ .vmem, ⟨15, _⟩ => ⟨S1x128, .f32⟩
  | .local _ .vmem, ⟨16, _⟩ => ⟨S1x128, .f32⟩
  | .local _ .vmem, ⟨17, _⟩ => ⟨S1x128, .f32⟩
  | .local _ .vmem, ⟨18, _⟩ => ⟨S4x512x256, .bf16⟩
  | .local _ .vmem, ⟨19, _⟩ => ⟨S4x512x256, .bf16⟩
  | .local _ .vmem, ⟨20, _⟩ => ⟨S4x512x256, .bf16⟩
  | .local _ .vmem, ⟨21, _⟩ => ⟨S4x512x256, .bf16⟩
  | .local _ .vmem, ⟨22, _⟩ => ⟨S4x512x128, .bf16⟩
  | .local _ .vmem, ⟨23, _⟩ => ⟨S4x512x128, .bf16⟩
  | .local _ .vmem, ⟨24, _⟩ => ⟨S4x512x128, .bf16⟩
  | .local _ .vmem, ⟨25, _⟩ => ⟨S4x512x128, .bf16⟩
  | .local _ .vmem, ⟨26, _⟩ => ⟨S2x512x128, .bf16⟩
  | .local _ .vmem, ⟨27, _⟩ => ⟨S2x512x128, .bf16⟩
  | .local _ .vmem, ⟨28, _⟩ => ⟨S2x512x128, .bf16⟩
  | .local _ .vmem, ⟨29, _⟩ => ⟨S2x512x128, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_cst : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_c : Ref sig .tc := ⟨.hbm, 21, rfl⟩
abbrev main_call0_v0 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_c_0 : Ref sig .tc := ⟨.hbm, 33, rfl⟩
abbrev main_call1_v0 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_c_1 : Ref sig .tc := ⟨.hbm, 40, rfl⟩
abbrev main_call2_v0 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_2 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_cst_4 : Ref sig .tc := ⟨.hbm, 55, rfl⟩
abbrev main_v35 : Ref sig .tc := ⟨.hbm, 56, rfl⟩
abbrev main_v36 : Ref sig .tc := ⟨.hbm, 57, rfl⟩
abbrev main_cst_5 : Ref sig .tc := ⟨.hbm, 58, rfl⟩
abbrev main_v37 : Ref sig .tc := ⟨.hbm, 59, rfl⟩
abbrev main_v38 : Ref sig .tc := ⟨.hbm, 60, rfl⟩
abbrev main_cst_6 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52_0 : Ref sig .tc := ⟨.hbm, 75, rfl⟩
abbrev main_v52_1 : Ref sig .tc := ⟨.hbm, 76, rfl⟩
abbrev main_v52_2 : Ref sig .tc := ⟨.hbm, 77, rfl⟩
abbrev main_v52_3 : Ref sig .tc := ⟨.hbm, 78, rfl⟩
abbrev main_v52_4 : Ref sig .tc := ⟨.hbm, 79, rfl⟩
abbrev main_v52_5 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_stg14_0 : Ref sig .tc := ⟨.vmem, 17, rfl⟩
abbrev cc0_stg15_0 : Ref sig .tc := ⟨.vmem, 18, rfl⟩
abbrev cc0_stg15_1 : Ref sig .tc := ⟨.vmem, 19, rfl⟩
abbrev cc0_stg16_0 : Ref sig .tc := ⟨.vmem, 20, rfl⟩
abbrev cc0_stg16_1 : Ref sig .tc := ⟨.vmem, 21, rfl⟩
abbrev cc0_stg17_0 : Ref sig .tc := ⟨.vmem, 22, rfl⟩
abbrev cc0_stg17_1 : Ref sig .tc := ⟨.vmem, 23, rfl⟩
abbrev cc0_stg18_0 : Ref sig .tc := ⟨.vmem, 24, rfl⟩
abbrev cc0_stg18_1 : Ref sig .tc := ⟨.vmem, 25, rfl⟩
abbrev cc0_stg19_0 : Ref sig .tc := ⟨.vmem, 26, rfl⟩
abbrev cc0_stg19_1 : Ref sig .tc := ⟨.vmem, 27, rfl⟩
abbrev cc0_stg20_0 : Ref sig .tc := ⟨.vmem, 28, rfl⟩
abbrev cc0_stg20_1 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16
abbrev cc0_sem14_0 : DmaSem sig := 17
abbrev cc0_sem15_0 : DmaSem sig := 18
abbrev cc0_sem15_1 : DmaSem sig := 19
abbrev cc0_sem16_0 : DmaSem sig := 20
abbrev cc0_sem16_1 : DmaSem sig := 21
abbrev cc0_sem17_0 : DmaSem sig := 22
abbrev cc0_sem17_1 : DmaSem sig := 23
abbrev cc0_sem18_0 : DmaSem sig := 24
abbrev cc0_sem18_1 : DmaSem sig := 25
abbrev cc0_sem19_0 : DmaSem sig := 26
abbrev cc0_sem19_1 : DmaSem sig := 27
abbrev cc0_sem20_0 : DmaSem sig := 28
abbrev cc0_sem20_1 : DmaSem sig := 29

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_17 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_18 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_19 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_20 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1280x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1024x128 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x128 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x128 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S4x512x256 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S4x512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S4x512x128 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S4x512x128 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S2x512x128 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S2x512x128 .bf16 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]
-- ==== Kernel6Ideal.lean ====
variable {F : FTy → Type} [FloatOps F] [Named F]
def κ : String → Option EReal := fun
  | "inv192" => some ((192⁻¹ : ℝ) : EReal)
  | _ => none
-- ==== Reference6Ideal.lean ====
abbrev S8192x1024 : Shape := ⟨2, ![8192, 1024]⟩
abbrev S1024 : Shape := ⟨1, ![1024]⟩
abbrev S1024x1216 : Shape := ⟨2, ![1024, 1216]⟩
abbrev S256 : Shape := ⟨1, ![256]⟩
abbrev S256x768 : Shape := ⟨2, ![256, 768]⟩
abbrev S128 : Shape := ⟨1, ![128]⟩
abbrev S128x1024 : Shape := ⟨2, ![128, 1024]⟩
abbrev S192 : Shape := ⟨1, ![192]⟩
abbrev S64 : Shape := ⟨1, ![64]⟩
abbrev S8192 : Shape := ⟨1, ![8192]⟩
abbrev S32 : Shape := ⟨1, ![32]⟩
abbrev S_ : Shape := ⟨0, ![]⟩
abbrev S8192x1 : Shape := ⟨2, ![8192, 1]⟩
abbrev S1x32 : Shape := ⟨2, ![1, 32]⟩
abbrev S8192x32 : Shape := ⟨2, ![8192, 32]⟩
abbrev S1x1024 : Shape := ⟨2, ![1, 1024]⟩
abbrev S8192x1216 : Shape := ⟨2, ![8192, 1216]⟩
abbrev S8192x256 : Shape := ⟨2, ![8192, 256]⟩
abbrev S8192x128 : Shape := ⟨2, ![8192, 128]⟩
abbrev S8192x64 : Shape := ⟨2, ![8192, 64]⟩
abbrev S8192x512 : Shape := ⟨2, ![8192, 512]⟩
abbrev S1x256 : Shape := ⟨2, ![1, 256]⟩
abbrev S8192x768 : Shape := ⟨2, ![8192, 768]⟩
abbrev S8192x4x192 : Shape := ⟨3, ![8192, 4, 192]⟩
abbrev S1x128 : Shape := ⟨2, ![1, 128]⟩
abbrev S8192x4x256 : Shape := ⟨3, ![8192, 4, 256]⟩
abbrev S8192x4x128 : Shape := ⟨3, ![8192, 4, 128]⟩
abbrev S8192x1x64 : Shape := ⟨3, ![8192, 1, 64]⟩
abbrev S8192x4x64 : Shape := ⟨3, ![8192, 4, 64]⟩
abbrev S8192x4 : Shape := ⟨2, ![8192, 4]⟩
abbrev S8192x4x1 : Shape := ⟨3, ![8192, 4, 1]⟩
abbrev S1x1x192 : Shape := ⟨3, ![1, 1, 192]⟩
abbrev S8192x4x32 : Shape := ⟨3, ![8192, 4, 32]⟩
abbrev S8192x1x32 : Shape := ⟨3, ![8192, 1, 32]⟩
abbrev S8192x8x64 : Shape := ⟨3, ![8192, 8, 64]⟩
abbrev S8192x8 : Shape := ⟨2, ![8192, 8]⟩
abbrev S8192x8x1 : Shape := ⟨3, ![8192, 8, 1]⟩
abbrev S1x1x64 : Shape := ⟨3, ![1, 1, 64]⟩
abbrev S8192x8x32 : Shape := ⟨3, ![8192, 8, 32]⟩
abbrev S8192x2x64 : Shape := ⟨3, ![8192, 2, 64]⟩
abbrev S8192x2 : Shape := ⟨2, ![8192, 2]⟩
abbrev S8192x2x1 : Shape := ⟨3, ![8192, 2, 1]⟩
abbrev S8192x2x32 : Shape := ⟨3, ![8192, 2, 32]⟩
abbrev S4x8192x256 : Shape := ⟨3, ![4, 8192, 256]⟩
abbrev S4x8192x128 : Shape := ⟨3, ![4, 8192, 128]⟩
abbrev S8192x2x128 : Shape := ⟨3, ![8192, 2, 128]⟩
abbrev S2x8192x128 : Shape := ⟨3, ![2, 8192, 128]⟩

abbrev nBuf : Space → Nat
  | .hbm => 253
  | .vmem => 0
  | .smem => 0
  | _ => 0

abbrev hbmTy0_0 (i : Nat) : BufTy := match i % 128 with
  | 0 => ⟨S8192x1024, .f32⟩
  | 1 => ⟨S1024, .f32⟩
  | 2 => ⟨S1024x1216, .f32⟩
  | 3 => ⟨S256, .f32⟩
  | 4 => ⟨S256x768, .f32⟩
  | 5 => ⟨S128, .f32⟩
  | 6 => ⟨S128x1024, .f32⟩
  | 7 => ⟨S192, .f32⟩
  | 8 => ⟨S192, .f32⟩
  | 9 => ⟨S64, .f32⟩
  | 10 => ⟨S64, .f32⟩
  | 11 => ⟨S8192, .f32⟩
  | 12 => ⟨S32, .f32⟩
  | 13 => ⟨S_, .f32⟩
  | 14 => ⟨S32, .f32⟩
  | 15 => ⟨S32, .f32⟩
  | 16 => ⟨S_, .f32⟩
  | 17 => ⟨S32, .f32⟩
  | 18 => ⟨S32, .f32⟩
  | 19 => ⟨S_, .f32⟩
  | 20 => ⟨S32, .f32⟩
  | 21 => ⟨S32, .f32⟩
  | 22 => ⟨S_, .f32⟩
  | 23 => ⟨S32, .f32⟩
  | 24 => ⟨S32, .f32⟩
  | 25 => ⟨S_, .f32⟩
  | 26 => ⟨S32, .f32⟩
  | 27 => ⟨S32, .f32⟩
  | 28 => ⟨S8192x1, .f32⟩
  | 29 => ⟨S1x32, .f32⟩
  | 30 => ⟨S8192x32, .f32⟩
  | 31 => ⟨S8192x32, .f32⟩
  | 32 => ⟨S8192x32, .f32⟩
  | 33 => ⟨S8192x32, .f32⟩
  | 34 => ⟨S8192x32, .f32⟩
  | 35 => ⟨S8192x1024, .f32⟩
  | 36 => ⟨S_, .f32⟩
  | 37 => ⟨S8192, .f32⟩
  | 38 => ⟨S8192x1, .f32⟩
  | 39 => ⟨S_, .f32⟩
  | 40 => ⟨S8192x1, .f32⟩
  | 41 => ⟨S8192x1, .f32⟩
  | 42 => ⟨S_, .f32⟩
  | 43 => ⟨S8192x1, .f32⟩
  | 44 => ⟨S8192x1, .f32⟩
  | 45 => ⟨S8192x1, .f32⟩
  | 46 => ⟨S8192x1024, .f32⟩
  | 47 => ⟨S8192x1024, .f32⟩
  | 48 => ⟨S1x1024, .f32⟩
  | 49 => ⟨S8192x1024, .f32⟩
  | 50 => ⟨S8192x1024, .f32⟩
  | 51 => ⟨S8192x1216, .f32⟩
  | 52 => ⟨S8192x256, .f32⟩
  | 53 => ⟨S8192x128, .f32⟩
  | 54 => ⟨S8192x64, .f32⟩
  | 55 => ⟨S8192x512, .f32⟩
  | 56 => ⟨S8192x128, .f32⟩
  | 57 => ⟨S8192x128, .f32⟩
  | 58 => ⟨S8192x256, .f32⟩
  | 59 => ⟨S_, .f32⟩
  | 60 => ⟨S8192, .f32⟩
  | 61 => ⟨S8192x1, .f32⟩
  | 62 => ⟨S_, .f32⟩
  | 63 => ⟨S8192x1, .f32⟩
  | 64 => ⟨S8192x1, .f32⟩
  | 65 => ⟨S_, .f32⟩
  | 66 => ⟨S8192x1, .f32⟩
  | 67 => ⟨S8192x1, .f32⟩
  | 68 => ⟨S8192x1, .f32⟩
  | 69 => ⟨S8192x256, .f32⟩
  | 70 => ⟨S8192x256, .f32⟩
  | 71 => ⟨S1x256, .f32⟩
  | 72 => ⟨S8192x256, .f32⟩
  | 73 => ⟨S8192x256, .f32⟩
  | 74 => ⟨S8192x768, .f32⟩
  | 75 => ⟨S8192x4x192, .f32⟩
  | 76 => ⟨S8192x128, .f32⟩
  | 77 => ⟨S_, .f32⟩
  | 78 => ⟨S8192, .f32⟩
  | 79 => ⟨S8192x1, .f32⟩
  | 80 => ⟨S_, .f32⟩
  | 81 => ⟨S8192x1, .f32⟩
  | 82 => ⟨S8192x1, .f32⟩
  | 83 => ⟨S_, .f32⟩
  | 84 => ⟨S8192x1, .f32⟩
  | 85 => ⟨S8192x1, .f32⟩
  | 86 => ⟨S8192x1, .f32⟩
  | 87 => ⟨S8192x128, .f32⟩
  | 88 => ⟨S8192x128, .f32⟩
  | 89 => ⟨S1x128, .f32⟩
  | 90 => ⟨S8192x128, .f32⟩
  | 91 => ⟨S8192x128, .f32⟩
  | 92 => ⟨S8192x1024, .f32⟩
  | 93 => ⟨S8192x4x256, .f32⟩
  | 94 => ⟨S8192x4x128, .f32⟩
  | 95 => ⟨S8192x4x128, .f32⟩
  | 96 => ⟨S8192x1x64, .f32⟩
  | 97 => ⟨S8192x4x64, .f32⟩
  | 98 => ⟨S8192x4x192, .f32⟩
  | 99 => ⟨S8192x4x192, .f32⟩
  | 100 => ⟨S_, .f32⟩
  | 101 => ⟨S8192x4, .f32⟩
  | 102 => ⟨S8192x4x1, .f32⟩
  | 103 => ⟨S_, .f32⟩
  | 104 => ⟨S8192x4x1, .f32⟩
  | 105 => ⟨S8192x4x1, .f32⟩
  | 106 => ⟨S_, .f32⟩
  | 107 => ⟨S8192x4x1, .f32⟩
  | 108 => ⟨S8192x4x1, .f32⟩
  | 109 => ⟨S8192x4x1, .f32⟩
  | 110 => ⟨S8192x4x192, .f32⟩
  | 111 => ⟨S8192x4x192, .f32⟩
  | 112 => ⟨S1x1x192, .f32⟩
  | 113 => ⟨S8192x4x192, .f32⟩
  | 114 => ⟨S8192x4x192, .f32⟩
  | 115 => ⟨S8192x4x192, .f32⟩
  | 116 => ⟨S_, .f32⟩
  | 117 => ⟨S8192x4, .f32⟩
  | 118 => ⟨S8192x4x1, .f32⟩
  | 119 => ⟨S_, .f32⟩
  | 120 => ⟨S8192x4x1, .f32⟩
  | 121 => ⟨S8192x4x1, .f32⟩
  | 122 => ⟨S_, .f32⟩
  | 123 => ⟨S8192x4x1, .f32⟩
  | 124 => ⟨S8192x4x1, .f32⟩
  | 125 => ⟨S8192x4x1, .f32⟩
  | 126 => ⟨S8192x4x192, .f32⟩
  | 127 => ⟨S8192x4x192, .f32⟩
  | _ => ⟨S8192x1024, .f32⟩

abbrev hbmTy0_1 (i : Nat) : BufTy := match i % 128 with
  | 0 => ⟨S1x1x192, .f32⟩
  | 1 => ⟨S8192x4x192, .f32⟩
  | 2 => ⟨S8192x4x192, .f32⟩
  | 3 => ⟨S8192x4x128, .f32⟩
  | 4 => ⟨S8192x4x64, .f32⟩
  | 5 => ⟨S8192x4x32, .f32⟩
  | 6 => ⟨S8192x4x32, .f32⟩
  | 7 => ⟨S8192x1x32, .f32⟩
  | 8 => ⟨S8192x1x32, .f32⟩
  | 9 => ⟨S8192x4x32, .f32⟩
  | 10 => ⟨S8192x4x32, .f32⟩
  | 11 => ⟨S8192x4x32, .f32⟩
  | 12 => ⟨S8192x4x32, .f32⟩
  | 13 => ⟨S8192x4x32, .f32⟩
  | 14 => ⟨S8192x4x32, .f32⟩
  | 15 => ⟨S8192x4x32, .f32⟩
  | 16 => ⟨S8192x4x32, .f32⟩
  | 17 => ⟨S8192x4x32, .f32⟩
  | 18 => ⟨S8192x4x32, .f32⟩
  | 19 => ⟨S8192x4x64, .f32⟩
  | 20 => ⟨S8192x4x192, .f32⟩
  | 21 => ⟨S8192x4x128, .f32⟩
  | 22 => ⟨S8192x4x64, .f32⟩
  | 23 => ⟨S8192x4x32, .f32⟩
  | 24 => ⟨S8192x4x32, .f32⟩
  | 25 => ⟨S8192x1x32, .f32⟩
  | 26 => ⟨S8192x1x32, .f32⟩
  | 27 => ⟨S8192x4x32, .f32⟩
  | 28 => ⟨S8192x4x32, .f32⟩
  | 29 => ⟨S8192x4x32, .f32⟩
  | 30 => ⟨S8192x4x32, .f32⟩
  | 31 => ⟨S8192x4x32, .f32⟩
  | 32 => ⟨S8192x4x32, .f32⟩
  | 33 => ⟨S8192x4x32, .f32⟩
  | 34 => ⟨S8192x4x32, .f32⟩
  | 35 => ⟨S8192x4x32, .f32⟩
  | 36 => ⟨S8192x4x32, .f32⟩
  | 37 => ⟨S8192x4x64, .f32⟩
  | 38 => ⟨S8192x4x192, .f32⟩
  | 39 => ⟨S8192x8x64, .f32⟩
  | 40 => ⟨S8192x8x64, .f32⟩
  | 41 => ⟨S_, .f32⟩
  | 42 => ⟨S8192x8, .f32⟩
  | 43 => ⟨S8192x8x1, .f32⟩
  | 44 => ⟨S_, .f32⟩
  | 45 => ⟨S8192x8x1, .f32⟩
  | 46 => ⟨S8192x8x1, .f32⟩
  | 47 => ⟨S_, .f32⟩
  | 48 => ⟨S8192x8x1, .f32⟩
  | 49 => ⟨S8192x8x1, .f32⟩
  | 50 => ⟨S8192x8x1, .f32⟩
  | 51 => ⟨S8192x8x64, .f32⟩
  | 52 => ⟨S8192x8x64, .f32⟩
  | 53 => ⟨S1x1x64, .f32⟩
  | 54 => ⟨S8192x8x64, .f32⟩
  | 55 => ⟨S8192x8x64, .f32⟩
  | 56 => ⟨S8192x8x32, .f32⟩
  | 57 => ⟨S8192x8x32, .f32⟩
  | 58 => ⟨S8192x1x32, .f32⟩
  | 59 => ⟨S8192x1x32, .f32⟩
  | 60 => ⟨S8192x8x32, .f32⟩
  | 61 => ⟨S8192x8x32, .f32⟩
  | 62 => ⟨S8192x8x32, .f32⟩
  | 63 => ⟨S8192x8x32, .f32⟩
  | 64 => ⟨S8192x8x32, .f32⟩
  | 65 => ⟨S8192x8x32, .f32⟩
  | 66 => ⟨S8192x8x32, .f32⟩
  | 67 => ⟨S8192x8x32, .f32⟩
  | 68 => ⟨S8192x8x32, .f32⟩
  | 69 => ⟨S8192x8x32, .f32⟩
  | 70 => ⟨S8192x8x64, .f32⟩
  | 71 => ⟨S8192x2x64, .f32⟩
  | 72 => ⟨S8192x2x64, .f32⟩
  | 73 => ⟨S_, .f32⟩
  | 74 => ⟨S8192x2, .f32⟩
  | 75 => ⟨S8192x2x1, .f32⟩
  | 76 => ⟨S_, .f32⟩
  | 77 => ⟨S8192x2x1, .f32⟩
  | 78 => ⟨S8192x2x1, .f32⟩
  | 79 => ⟨S_, .f32⟩
  | 80 => ⟨S8192x2x1, .f32⟩
  | 81 => ⟨S8192x2x1, .f32⟩
  | 82 => ⟨S8192x2x1, .f32⟩
  | 83 => ⟨S8192x2x64, .f32⟩
  | 84 => ⟨S8192x2x64, .f32⟩
  | 85 => ⟨S1x1x64, .f32⟩
  | 86 => ⟨S8192x2x64, .f32⟩
  | 87 => ⟨S8192x2x64, .f32⟩
  | 88 => ⟨S8192x2x32, .f32⟩
  | 89 => ⟨S8192x2x32, .f32⟩
  | 90 => ⟨S8192x1x32, .f32⟩
  | 91 => ⟨S8192x1x32, .f32⟩
  | 92 => ⟨S8192x2x32, .f32⟩
  | 93 => ⟨S8192x2x32, .f32⟩
  | 94 => ⟨S8192x2x32, .f32⟩
  | 95 => ⟨S8192x2x32, .f32⟩
  | 96 => ⟨S8192x2x32, .f32⟩
  | 97 => ⟨S8192x2x32, .f32⟩
  | 98 => ⟨S8192x2x32, .f32⟩
  | 99 => ⟨S8192x2x32, .f32⟩
  | 100 => ⟨S8192x2x32, .f32⟩
  | 101 => ⟨S8192x2x32, .f32⟩
  | 102 => ⟨S8192x2x64, .f32⟩
  | 103 => ⟨S8192x2x64, .f32⟩
  | 104 => ⟨S_, .i32⟩
  | 105 => ⟨S_, .f32⟩
  | 106 => ⟨S8192x4x256, .f32⟩
  | 107 => ⟨S4x8192x256, .f32⟩
  | 108 => ⟨S4x8192x256, .bf16⟩
  | 109 => ⟨S_, .i32⟩
  | 110 => ⟨S_, .f32⟩
  | 111 => ⟨S8192x4x256, .f32⟩
  | 112 => ⟨S4x8192x256, .f32⟩
  | 113 => ⟨S4x8192x256, .bf16⟩
  | 114 => ⟨S4x8192x128, .f32⟩
  | 115 => ⟨S4x8192x128, .bf16⟩
  | 116 => ⟨S8192x4x128, .f32⟩
  | 117 => ⟨S4x8192x128, .f32⟩
  | 118 => ⟨S4x8192x128, .bf16⟩
  | 119 => ⟨S8192x2x128, .f32⟩
  | 120 => ⟨S2x8192x128, .f32⟩
  | 121 => ⟨S2x8192x128, .bf16⟩
  | 122 => ⟨S8192x2x128, .f32⟩
  | 123 => ⟨S2x8192x128, .f32⟩
  | 124 => ⟨S2x8192x128, .bf16⟩
  | _ => ⟨S8192x1024, .f32⟩

abbrev hbmTy (i : Nat) : BufTy := match i / 128 with
  | 0 => hbmTy0_0 i
  | 1 => hbmTy0_1 i
  | _ => ⟨S8192x1024, .f32⟩

abbrev bufTy : (tb : Table) → Fin (tcTables nBuf tb) → BufTy
  | .hbm, ⟨i, _⟩ => hbmTy i
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_cst : Ref sig .tc := ⟨.hbm, 13, rfl⟩
abbrev main_v2 : Ref sig .tc := ⟨.hbm, 14, rfl⟩
abbrev main_v3 : Ref sig .tc := ⟨.hbm, 15, rfl⟩
abbrev main_cst_0 : Ref sig .tc := ⟨.hbm, 16, rfl⟩
abbrev main_v4 : Ref sig .tc := ⟨.hbm, 17, rfl⟩
abbrev main_v5 : Ref sig .tc := ⟨.hbm, 18, rfl⟩
abbrev main_cst_1 : Ref sig .tc := ⟨.hbm, 19, rfl⟩
abbrev main_v6 : Ref sig .tc := ⟨.hbm, 20, rfl⟩
abbrev main_v7 : Ref sig .tc := ⟨.hbm, 21, rfl⟩
abbrev main_cst_2 : Ref sig .tc := ⟨.hbm, 22, rfl⟩
abbrev main_v8 : Ref sig .tc := ⟨.hbm, 23, rfl⟩
abbrev main_v9 : Ref sig .tc := ⟨.hbm, 24, rfl⟩
abbrev main_cst_3 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_cst_6 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_v40 : Ref sig .tc := ⟨.hbm, 60, rfl⟩
abbrev main_v41 : Ref sig .tc := ⟨.hbm, 61, rfl⟩
abbrev main_cst_8 : Ref sig .tc := ⟨.hbm, 62, rfl⟩
abbrev main_v42 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩
abbrev main_v56 : Ref sig .tc := ⟨.hbm, 79, rfl⟩
abbrev main_cst_11 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_cst_13 : Ref sig .tc := ⟨.hbm, 100, rfl⟩
abbrev main_v75 : Ref sig .tc := ⟨.hbm, 101, rfl⟩
abbrev main_v76 : Ref sig .tc := ⟨.hbm, 102, rfl⟩
abbrev main_cst_14 : Ref sig .tc := ⟨.hbm, 103, rfl⟩
abbrev main_v77 : Ref sig .tc := ⟨.hbm, 104, rfl⟩
abbrev main_v78 : Ref sig .tc := ⟨.hbm, 105, rfl⟩
abbrev main_cst_15 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_cst_16 : Ref sig .tc := ⟨.hbm, 116, rfl⟩
abbrev main_v88 : Ref sig .tc := ⟨.hbm, 117, rfl⟩
abbrev main_v89 : Ref sig .tc := ⟨.hbm, 118, rfl⟩
abbrev main_cst_17 : Ref sig .tc := ⟨.hbm, 119, rfl⟩
abbrev main_v90 : Ref sig .tc := ⟨.hbm, 120, rfl⟩
abbrev main_v91 : Ref sig .tc := ⟨.hbm, 121, rfl⟩
abbrev main_cst_18 : Ref sig .tc := ⟨.hbm, 122, rfl⟩
abbrev main_v92 : Ref sig .tc := ⟨.hbm, 123, rfl⟩
abbrev main_v93 : Ref sig .tc := ⟨.hbm, 124, rfl⟩
abbrev main_v94 : Ref sig .tc := ⟨.hbm, 125, rfl⟩
abbrev main_v95 : Ref sig .tc := ⟨.hbm, 126, rfl⟩
abbrev main_v96 : Ref sig .tc := ⟨.hbm, 127, rfl⟩
abbrev main_v97 : Ref sig .tc := ⟨.hbm, 128, rfl⟩
abbrev main_v98 : Ref sig .tc := ⟨.hbm, 129, rfl⟩
abbrev main_v99 : Ref sig .tc := ⟨.hbm, 130, rfl⟩
abbrev main_v100 : Ref sig .tc := ⟨.hbm, 131, rfl⟩
abbrev main_v101 : Ref sig .tc := ⟨.hbm, 132, rfl⟩
abbrev main_v102 : Ref sig .tc := ⟨.hbm, 133, rfl⟩
abbrev main_v103 : Ref sig .tc := ⟨.hbm, 134, rfl⟩
abbrev main_v104 : Ref sig .tc := ⟨.hbm, 135, rfl⟩
abbrev main_v105 : Ref sig .tc := ⟨.hbm, 136, rfl⟩
abbrev main_v106 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_v112 : Ref sig .tc := ⟨.hbm, 143, rfl⟩
abbrev main_v113 : Ref sig .tc := ⟨.hbm, 144, rfl⟩
abbrev main_v114 : Ref sig .tc := ⟨.hbm, 145, rfl⟩
abbrev main_v115 : Ref sig .tc := ⟨.hbm, 146, rfl⟩
abbrev main_v116 : Ref sig .tc := ⟨.hbm, 147, rfl⟩
abbrev main_v117 : Ref sig .tc := ⟨.hbm, 148, rfl⟩
abbrev main_v118 : Ref sig .tc := ⟨.hbm, 149, rfl⟩
abbrev main_v119 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_cst_19 : Ref sig .tc := ⟨.hbm, 169, rfl⟩
abbrev main_v138 : Ref sig .tc := ⟨.hbm, 170, rfl⟩
abbrev main_v139 : Ref sig .tc := ⟨.hbm, 171, rfl⟩
abbrev main_cst_20 : Ref sig .tc := ⟨.hbm, 172, rfl⟩
abbrev main_v140 : Ref sig .tc := ⟨.hbm, 173, rfl⟩
abbrev main_v141 : Ref sig .tc := ⟨.hbm, 174, rfl⟩
abbrev main_cst_21 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_cst_22 : Ref sig .tc := ⟨.hbm, 201, rfl⟩
abbrev main_v167 : Ref sig .tc := ⟨.hbm, 202, rfl⟩
abbrev main_v168 : Ref sig .tc := ⟨.hbm, 203, rfl⟩
abbrev main_cst_23 : Ref sig .tc := ⟨.hbm, 204, rfl⟩
abbrev main_v169 : Ref sig .tc := ⟨.hbm, 205, rfl⟩
abbrev main_v170 : Ref sig .tc := ⟨.hbm, 206, rfl⟩
abbrev main_cst_24 : Ref sig .tc := ⟨.hbm, 207, rfl⟩
abbrev main_v171 : Ref sig .tc := ⟨.hbm, 208, rfl⟩
abbrev main_v172 : Ref sig .tc := ⟨.hbm, 209, rfl⟩
abbrev main_v173 : Ref sig .tc := ⟨.hbm, 210, rfl⟩
abbrev main_v174 : Ref sig .tc := ⟨.hbm, 211, rfl⟩
abbrev main_v175 : Ref sig .tc := ⟨.hbm, 212, rfl⟩
abbrev main_v176 : Ref sig .tc := ⟨.hbm, 213, rfl⟩
abbrev main_v177 : Ref sig .tc := ⟨.hbm, 214, rfl⟩
abbrev main_v178 : Ref sig .tc := ⟨.hbm, 215, rfl⟩
abbrev main_v179 : Ref sig .tc := ⟨.hbm, 216, rfl⟩
abbrev main_v180 : Ref sig .tc := ⟨.hbm, 217, rfl⟩
abbrev main_v181 : Ref sig .tc := ⟨.hbm, 218, rfl⟩
abbrev main_v182 : Ref sig .tc := ⟨.hbm, 219, rfl⟩
abbrev main_v183 : Ref sig .tc := ⟨.hbm, 220, rfl⟩
abbrev main_v184 : Ref sig .tc := ⟨.hbm, 221, rfl⟩
abbrev main_v185 : Ref sig .tc := ⟨.hbm, 222, rfl⟩
abbrev main_v186 : Ref sig .tc := ⟨.hbm, 223, rfl⟩
abbrev main_v187 : Ref sig .tc := ⟨.hbm, 224, rfl⟩
abbrev main_v188 : Ref sig .tc := ⟨.hbm, 225, rfl⟩
abbrev main_v189 : Ref sig .tc := ⟨.hbm, 226, rfl⟩
abbrev main_v190 : Ref sig .tc := ⟨.hbm, 227, rfl⟩
abbrev main_v191 : Ref sig .tc := ⟨.hbm, 228, rfl⟩
abbrev main_v192 : Ref sig .tc := ⟨.hbm, 229, rfl⟩
abbrev main_v193 : Ref sig .tc := ⟨.hbm, 230, rfl⟩
abbrev main_v194 : Ref sig .tc := ⟨.hbm, 231, rfl⟩
abbrev main_c : Ref sig .tc := ⟨.hbm, 232, rfl⟩
abbrev main_call0_v0 : Ref sig .tc := ⟨.hbm, 233, rfl⟩
abbrev main_v195 : Ref sig .tc := ⟨.hbm, 234, rfl⟩
abbrev main_v196 : Ref sig .tc := ⟨.hbm, 235, rfl⟩
abbrev main_v197 : Ref sig .tc := ⟨.hbm, 236, rfl⟩
abbrev main_c_25 : Ref sig .tc := ⟨.hbm, 237, rfl⟩
abbrev main_call1_v0 : Ref sig .tc := ⟨.hbm, 238, rfl⟩
abbrev main_v198 : Ref sig .tc := ⟨.hbm, 239, rfl⟩
abbrev main_v199 : Ref sig .tc := ⟨.hbm, 240, rfl⟩
abbrev main_v200 : Ref sig .tc := ⟨.hbm, 241, rfl⟩
abbrev main_v201 : Ref sig .tc := ⟨.hbm, 242, rfl⟩
abbrev main_v202 : Ref sig .tc := ⟨.hbm, 243, rfl⟩
abbrev main_v203 : Ref sig .tc := ⟨.hbm, 244, rfl⟩
abbrev main_v204 : Ref sig .tc := ⟨.hbm, 245, rfl⟩
abbrev main_v205 : Ref sig .tc := ⟨.hbm, 246, rfl⟩
abbrev main_v206 : Ref sig .tc := ⟨.hbm, 247, rfl⟩
abbrev main_v207 : Ref sig .tc := ⟨.hbm, 248, rfl⟩
abbrev main_v208 : Ref sig .tc := ⟨.hbm, 249, rfl⟩
abbrev main_v209 : Ref sig .tc := ⟨.hbm, 250, rfl⟩
abbrev main_v210 : Ref sig .tc := ⟨.hbm, 251, rfl⟩
abbrev main_v211 : Ref sig .tc := ⟨.hbm, 252, rfl⟩

abbrev nD : Nat := 1
abbrev τ : Topo := Topo.v7x

variable {F : FTy → Type} [FloatOps F]
-- ==== Proof.Finite.lean ====
/- What the precondition says: an array all of whose entries are smaller in size than infinity holds real numbers. -/
module

public import proofs.«01_k».proof.Proof.Gen.Pre_finite
public import Idealize.ShloMosaic.Lib.ReduceAll
public import Idealize.ShloMosaic.Lib.Pipeline.ValueKit

@[expose] public section

noncomputable section

namespace Cert.Ffn

open Idealize.ShloMosaic
open Cert.Pre_finite Cert.Pre_finite.Gen

instance : Subsingleton S_.Idx := ⟨fun a b => funext fun k => k.elim0⟩

/-- An extended real smaller in size than infinity is its real part. -/
theorem real_of_abs_lt (x : EReal) (h : Ideal.cmp .olt (max x (-x)) (Ideal.ofBits .f32 0x7F800000#32) = 1#1) :
    x = (x.toReal : EReal) := by
  rw [show Ideal.ofBits .f32 0x7F800000#32 = ⊤ by simp [Ideal.ofBits, Ideal.ieee]] at h
  have h' : max x (-x) < ⊤ := by
    by_contra hn
    simp [Ideal.cmp, hn] at h
  rw [max_lt_iff] at h'
  refine (EReal.coe_toReal h'.1.ne ?_).symm
  rintro rfl
  simp at h'

/-- An array the test passes holds real numbers. -/
theorem real_of_all {s : Shape} {axes : List (Fin s.rank)} (x : FVec Ideal s .f32) (hb : S_.BroadcastsInDim s (![] : Fin 0 → Fin s.rank))
    (hr : s.ReducesTo axes S_) (h0 : 0 < S_.numel) (j : S_.Idx)
    (e : Host.reduce IntOp.andi (cmpf .olt (Host.absf x) (broadcastInDim s ![] hb (constant S_ .f32 0x7F800000#32)))
      (constantI S_ 1 1#1) hr h0 j = 1#1) (i : s.Idx) : x i = ((x i).toReal : EReal) :=
  real_of_abs_lt (x i) (Host.reduce_andi_all _ _ hr h0 j e i)

variable (x0 : FVec Ideal S8192x1024 .f32) (x1 : FVec Ideal S1024 .f32) (x2 x3 : FVec Ideal S1024x2816 .f32)
    (x4 : FVec Ideal S2816x1024 .f32) (x5 : FVec Ideal S8192x1024 .f32)

/-- Under the precondition every argument holds real numbers. -/
theorem real_of_finite (h : fn (F := Ideal) x0 x1 x2 x3 x4 x5 = fun _ => 1#1) :
    (∀ i, x0 i = ((x0 i).toReal : EReal)) ∧ (∀ i, x1 i = ((x1 i).toReal : EReal))
    ∧ (∀ i, x2 i = ((x2 i).toReal : EReal)) ∧ (∀ i, x3 i = ((x3 i).toReal : EReal))
    ∧ (∀ i, x4 i = ((x4 i).toReal : EReal)) ∧ (∀ i, x5 i = ((x5 i).toReal : EReal)) := by
  have e := congrFun h (Shape.Idx.first Facts.h_S_)
  obtain ⟨e, e5⟩ := IntOp.andi_eq_one.1 e
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨real_of_all x0 _ _ _ _ e0, real_of_all x1 _ _ _ _ e1, real_of_all x2 _ _ _ _ e2, real_of_all x3 _ _ _ _ e3,
    real_of_all x4 _ _ _ _ e4, real_of_all x5 _ _ _ _ e5⟩

end Cert.Ffn

end
-- ==== Proof.Spec.lean ====
/- The macaron feed-forward block over the real numbers, one token row at a time: the forward row, the row of the
   input's gradient, and the four parameter gradients as sums over the rows. Both programs are shown to compute
   these numbers. -/
module

public import Idealize.ShloMosaic.PureOps.Ideal
public import Idealize.ShloMosaic.Lib.Pipeline.ValueKit

@[expose] public section

noncomputable section

namespace Cert.Ffn

open Idealize.ShloMosaic

/-! ## Real numbers inside the extended reals -/

/-- A finite sum of reals, taken in the extended reals, is the real sum. -/
theorem coe_sum {ι : Type*} (s : Finset ι) (f : ι → ℝ) : ∑ i ∈ s, (f i : EReal) = ((∑ i ∈ s, f i : ℝ) : EReal) :=
  (map_sum (⟨⟨((↑) : ℝ → EReal), EReal.coe_zero⟩, EReal.coe_add⟩ : ℝ →+ EReal) f s).symm

/-- The normalisation's small constant: the binary32 number nearest one millionth. -/
def eps : ℝ := 8796093 * (2 : ℝ) ^ (-43 : ℤ)

theorem eps_pos : 0 < eps := by unfold eps; positivity

theorem bits_eps : Ideal.ofBits .f32 0x358637BD#32 = (eps : EReal) := by
  unfold eps
  simp [Ideal.ofBits, Ideal.ieee, -EReal.coe_mul]
theorem bits_half : Ideal.ofBits .f32 0x3F000000#32 = ((1 / 2 : ℝ) : EReal) := by
  simp [Ideal.ofBits, Ideal.ieee, -EReal.coe_mul]; norm_num
theorem bits_neg_half : Ideal.ofBits .f32 0xBF000000#32 = ((-1 / 2 : ℝ) : EReal) := by
  simp [Ideal.ofBits, Ideal.ieee, -EReal.coe_mul]; norm_num
theorem bits_1024th : Ideal.ofBits .f32 0x3A800000#32 = ((1 / 1024 : ℝ) : EReal) := by
  simp [Ideal.ofBits, Ideal.ieee, -EReal.coe_mul]; norm_num
theorem bits_1024 : Ideal.ofBits .f32 0x44800000#32 = ((1024 : ℝ) : EReal) := by
  simp [Ideal.ofBits, Ideal.ieee, -EReal.coe_mul]; norm_num
theorem bits_one : Ideal.ofBits .f32 0x3F800000#32 = ((1 : ℝ) : EReal) := by
  simp [Ideal.ofBits, Ideal.ieee, -EReal.coe_mul]; norm_num
theorem bits_zero : Ideal.ofBits .f32 0x00000000#32 = ((0 : ℝ) : EReal) := by
  simp [Ideal.ofBits, Ideal.ieee, -EReal.coe_mul]

/-! ## The block, row by row -/

/-- A token's row of features. -/
abbrev Row := Fin 1024 → ℝ

/-- Mean square of a row plus the small constant. -/
def power (x : Row) : ℝ := (∑ k, x k * x k) * (1 / 1024) + eps

theorem power_pos (x : Row) : 0 < power x :=
  add_pos_of_nonneg_of_pos (mul_nonneg (Finset.sum_nonneg fun k _ => mul_self_nonneg _) (by norm_num)) eps_pos

/-- One over the root mean square. -/
def invRms (x : Row) : ℝ := (Real.sqrt (power x))⁻¹

/-- At the ideal values a reciprocal root of a positive real is the real one. -/
theorem rsqrt_power (x : Row) :
    Ideal.rsqrt (((∑ k, x k * x k) * (1 / 1024) + eps : ℝ) : EReal) = (invRms x : EReal) := by
  have h := power_pos x
  rw [show (∑ k, x k * x k) * (1 / 1024) + eps = power x from rfl, Ideal.rsqrt_coe, if_neg (not_lt.mpr h.le),
    if_neg h.ne']; rfl

/-- The logistic function. -/
def logi (a : ℝ) : ℝ := (1 + Real.exp (-a))⁻¹

theorem logistic_real (a : ℝ) : Ideal.logistic (a : EReal) = (logi a : EReal) := Ideal.logistic_coe a

/-- The block's parameters: the norm's gain and the three weight matrices, each a row of 1024 per hidden feature. -/
structure Par where
  gain : Row
  gate : Fin 2816 → Row
  up : Fin 2816 → Row
  down : Fin 2816 → Row

namespace Par

variable (P : Par) (x y : Row)

/-- The normalised row, scaled by the gain. -/
def hid (k : Fin 1024) : ℝ := x k * invRms x * P.gain k
/-- The gate's preactivation. -/
def a (f : Fin 2816) : ℝ := ∑ k, P.hid x k * P.gate f k
/-- The up projection. -/
def u (f : Fin 2816) : ℝ := ∑ k, P.hid x k * P.up f k
/-- SiLU of the gate. -/
def silu (f : Fin 2816) : ℝ := P.a x f * logi (P.a x f)
/-- The gated hidden feature. -/
def s (f : Fin 2816) : ℝ := P.silu x f * P.u x f
/-- Derivative of the gated feature in the gate's preactivation. -/
def slope (f : Fin 2816) : ℝ := P.u x f * (logi (P.a x f) * (1 + P.a x f * (1 - logi (P.a x f))))
/-- The block's output row: half the feed-forward added to the input. -/
def out (k : Fin 1024) : ℝ := x k + 1 / 2 * ∑ f, P.s x f * P.down f k
/-- The cotangent of the feed-forward, from the output's cotangent `y`. -/
def dy (k : Fin 1024) : ℝ := 1 / 2 * y k
/-- The cotangent of the gated feature. -/
def ds (f : Fin 2816) : ℝ := ∑ k, dy y k * P.down f k
/-- The cotangent of the gate's preactivation. -/
def da (f : Fin 2816) : ℝ := P.ds y f * P.slope x f
/-- The cotangent of the up projection. -/
def du (f : Fin 2816) : ℝ := P.ds y f * P.silu x f
/-- The cotangent of the normalised, scaled row. -/
def dh (k : Fin 1024) : ℝ := (∑ f, P.da x y f * P.gate f k) + ∑ f, P.du x y f * P.up f k
/-- The cotangent of the normalised row. -/
def dn (k : Fin 1024) : ℝ := P.dh x y k * P.gain k
/-- The row's part of the gain's gradient. -/
def dg (k : Fin 1024) : ℝ := P.dh x y k * (x k * invRms x)
/-- The input's gradient row. -/
def dx (k : Fin 1024) : ℝ :=
  y k + invRms x * (P.dn x y k - x k * invRms x * ((∑ j, P.dn x y j * (x j * invRms x)) * (1 / 1024)))

end Par

/-! ## A sum over the hidden features in two halves -/

/-- The hidden feature in the first half. -/
abbrev lo (q : Fin 1408) : Fin 2816 := ⟨q, by omega⟩
/-- The hidden feature in the second half. -/
abbrev hi (q : Fin 1408) : Fin 2816 := ⟨1408 + q, by omega⟩

theorem sum_halves (F : Fin 2816 → ℝ) : ∑ f, F f = (∑ q, F (lo q)) + ∑ q, F (hi q) :=
  Fin.sum_univ_add (a := 1408) (b := 1408) F

end Cert.Ffn

end
-- ==== Proof.RefRow.lean ====
/- What the reference computes, stage by stage at an index: over real arguments each stage holds the real numbers of
   `Spec`. -/
module

public import proofs.«01_k».proof.Proof.Spec
public import proofs.«01_k».proof.Proof.Gen.ReferenceIdeal.Read

@[expose] public section

set_option maxRecDepth 16384

noncomputable section

namespace Cert.Ffn

open Idealize.ShloMosaic Idealize.SL.Sem
open Cert.ReferenceIdeal Cert.ReferenceIdeal.Gen Cert.ReferenceIdeal.Read

/-- The reference's arguments are real: the input rows `X`, the parameters `P`, the cotangent rows `Y`. -/
structure RefArgs (P : Par) (X Y : Fin 8192 → Row) (x0 : FVec Ideal S8192x1024 .f32) (x1 : FVec Ideal S1024 .f32)
    (x2 x3 : FVec Ideal S1024x2816 .f32) (x4 : FVec Ideal S2816x1024 .f32) (x5 : FVec Ideal S8192x1024 .f32) : Prop where
  hx : ∀ i k, x0 (ix2 i k) = (X i k : EReal)
  gain : ∀ k, x1 (ix1 k) = (P.gain k : EReal)
  gate : ∀ f k, x2 (ix2 k f) = (P.gate f k : EReal)
  up : ∀ f k, x3 (ix2 k f) = (P.up f k : EReal)
  down : ∀ f k, x4 (ix2 f k) = (P.down f k : EReal)
  hy : ∀ i k, x5 (ix2 i k) = (Y i k : EReal)

/-- The reciprocal root over the power is the reciprocal root cubed. -/
theorem invRms_div (x : Row) : invRms x / power x = invRms x * invRms x * invRms x := by
  rw [show invRms x * invRms x = (power x)⁻¹ by
    rw [invRms, ← mul_inv, Real.mul_self_sqrt (power_pos x).le], div_eq_mul_inv, mul_comm]

section

variable {P : Par} {X Y : Fin 8192 → Row} {x0 : FVec Ideal S8192x1024 .f32} {x1 : FVec Ideal S1024 .f32}
    {x2 x3 : FVec Ideal S1024x2816 .f32} {x4 : FVec Ideal S2816x1024 .f32} {x5 : FVec Ideal S8192x1024 .f32}
    (H : RefArgs P X Y x0 x1 x2 x3 x4 x5) (i : Fin 8192) (k : Fin 1024) (f : Fin 2816)
include H

/-! ## The forward pass -/

theorem ref_power : val_main_v6 (F := Ideal) x0 (ix2 i 0) = (power (X i) : EReal) := by
  pointwise [val_main_v6, val_main_v5, val_main_v4, val_main_v3, val_main_v2, val_main_v1, val_main_v0, val_main_cst,
    val_main_cst_0, val_main_cst_1]
  simp only [H.hx, bits_1024, bits_eps, zero_add, ← EReal.coe_mul, coe_sum]
  rw [Ideal.div_coe (by norm_num), ← EReal.coe_mul, ← EReal.coe_add]; rfl

theorem ref_inv : val_main_v7 (F := Ideal) x0 (ix2 i 0) = (invRms (X i) : EReal) := by
  pointwise [val_main_v7]
  rw [ref_power H]; exact rsqrt_power (X i)

theorem ref_unit : val_main_v12 (F := Ideal) x0 (ix2 i k) = ((X i k * invRms (X i) : ℝ) : EReal) := by
  pointwise [val_main_v12, val_main_v11]
  rw [ref_inv H, H.hx, ← EReal.coe_mul]

theorem ref_hid : val_main_v15 (F := Ideal) x0 x1 (ix2 i k) = (P.hid (X i) k : EReal) := by
  pointwise [val_main_v15, val_main_v14, val_main_v13]
  rw [ref_unit H, H.gain, ← EReal.coe_mul]; rfl

theorem ref_a : val_main_v16 (F := Ideal) x0 x1 x2 (ix2 i f) = (P.a (X i) f : EReal) := by
  pointwise [val_main_v16]
  simp only [ref_hid H, H.gate, ← EReal.coe_mul, coe_sum]; rfl

theorem ref_u : val_main_v18 (F := Ideal) x0 x1 x3 (ix2 i f) = (P.u (X i) f : EReal) := by
  pointwise [val_main_v18]
  simp only [ref_hid H, H.up, ← EReal.coe_mul, coe_sum]; rfl

theorem ref_logi : val_main_v17_2 (F := Ideal) x0 x1 x2 (ix2 i f) = (logi (P.a (X i) f) : EReal) := by
  pointwise [val_main_v17_2, val_main_call0_v4, val_main_call0_v3, val_main_call0_v2, val_main_call0_v1,
    val_main_call0_v0, val_main_call0_cst, val_main_call0_cst_0]
  rw [ref_a H]
  exact logistic_real _

theorem ref_silu : val_main_v17_0 (F := Ideal) x0 x1 x2 (ix2 i f) = (P.silu (X i) f : EReal) := by
  pointwise [val_main_v17_0]
  rw [ref_a H, ref_logi H, ← EReal.coe_mul]; rfl

theorem ref_s : val_main_v19 (F := Ideal) x0 x1 x2 x3 (ix2 i f) = (P.s (X i) f : EReal) := by
  pointwise [val_main_v19]
  rw [ref_silu H, ref_u H, ← EReal.coe_mul]; rfl

theorem ref_out : val_main_v23 (F := Ideal) x0 x1 x2 x3 x4 (ix2 i k) = (P.out (X i) k : EReal) := by
  pointwise [val_main_v23, val_main_v22, val_main_v21, val_main_v20, val_main_cst_3]
  simp only [ref_s H, H.hx, H.down, bits_half, ← EReal.coe_mul, coe_sum, ← EReal.coe_add]; rfl

/-! ## The gradients of the weights -/

theorem ref_dy : val_main_v26 (F := Ideal) x5 (ix2 i k) = (Par.dy (Y i) k : EReal) := by
  pointwise [val_main_v26, val_main_v25, val_main_v24, val_main_cst_4]
  rw [H.hy, bits_half, ← EReal.coe_mul]; rfl

theorem ref_ds : val_main_v29 (F := Ideal) x4 x5 (ix2 i f) = (P.ds (Y i) f : EReal) := by
  pointwise [val_main_v29]
  simp only [ref_dy H, H.down, ← EReal.coe_mul, coe_sum]; rfl

theorem ref_du : val_main_v30 (F := Ideal) x0 x1 x2 x4 x5 (ix2 i f) = (P.du (X i) (Y i) f : EReal) := by
  pointwise [val_main_v30]
  rw [ref_silu H, ref_ds H, ← EReal.coe_mul, mul_comm]; rfl

theorem ref_da : val_main_v35 (F := Ideal) x0 x1 x2 x3 x4 x5 (ix2 i f) = (P.da (X i) (Y i) f : EReal) := by
  pointwise [val_main_v35, val_main_call1_v2, val_main_call1_v1, val_main_call1_v0, val_main_v31, val_main_v17_1,
    val_main_call0_v7, val_main_call0_v6, val_main_call0_cst_1]
  simp only [ref_a H, ref_u H, ref_ds H, ref_logi H, ← EReal.coe_one, ← EReal.coe_mul, ← EReal.coe_add, ← EReal.coe_sub]
  refine congrArg _ ?_
  rw [Par.da, Par.slope]; ring

theorem ref_dwd : val_main_v28 (F := Ideal) x0 x1 x2 x3 x5 (ix2 f k)
    = ((∑ i, P.s (X i) f * Par.dy (Y i) k : ℝ) : EReal) := by
  pointwise [val_main_v28, val_main_v27]
  simp only [ref_dy H, ref_s H, ← EReal.coe_mul, coe_sum, mul_comm]

theorem ref_dwu : val_main_v62 (F := Ideal) x0 x1 x2 x4 x5 (ix2 f k)
    = ((∑ i, P.du (X i) (Y i) f * P.hid (X i) k : ℝ) : EReal) := by
  pointwise [val_main_v62, val_main_v33, val_main_v32]
  simp only [ref_du H, ref_hid H, ← EReal.coe_mul, coe_sum]

theorem ref_dwg : val_main_v61 (F := Ideal) x0 x1 x2 x3 x4 x5 (ix2 f k)
    = ((∑ i, P.da (X i) (Y i) f * P.hid (X i) k : ℝ) : EReal) := by
  pointwise [val_main_v61, val_main_v37, val_main_v36]
  simp only [ref_da H, ref_hid H, ← EReal.coe_mul, coe_sum]

/-! ## The gradients of the gain and of the input -/

theorem ref_dh : val_main_v39 (F := Ideal) x0 x1 x2 x3 x4 x5 (ix2 i k) = (P.dh (X i) (Y i) k : EReal) := by
  pointwise [val_main_v39, val_main_v38, val_main_v34]
  simp only [ref_da H, ref_du H, H.gate, H.up, ← EReal.coe_mul, coe_sum, ← EReal.coe_add]
  rw [Par.dh, add_comm]

theorem ref_dg : val_main_v45 (F := Ideal) x0 x1 x2 x3 x4 x5 (ix1 k)
    = ((∑ i, P.dg (X i) (Y i) k : ℝ) : EReal) := by
  pointwise [val_main_v45, val_main_v42, val_main_v41, val_main_v40, val_main_cst_6, val_main_cst_5]
  simp only [ref_unit H, ref_dh H, zero_add, ← EReal.coe_mul, coe_sum]
  simp only [Finset.univ_unique, Finset.sum_singleton, mul_comm _ (P.dh _ _ _)]
  rfl

theorem ref_dn : val_main_v44 (F := Ideal) x0 x1 x2 x3 x4 x5 (ix2 i k) = (P.dn (X i) (Y i) k : EReal) := by
  pointwise [val_main_v44, val_main_v43, val_main_v13]
  rw [ref_dh H, H.gain, ← EReal.coe_mul]; rfl

/-- The gradient through the reciprocal root, per token: the sum over the row, times minus a half, over the power. -/
theorem ref_pull : val_main_v55 (F := Ideal) x0 x1 x2 x3 x4 x5 (ix1 i)
    = (((∑ j, X i j * P.dn (X i) (Y i) j) * (-1 / 2 * (invRms (X i) / power (X i))) / 1024 : ℝ) : EReal) := by
  pointwise [val_main_v55, val_main_v54, val_main_v53, val_main_v52, val_main_v48, val_main_v47, val_main_v46,
    val_main_v10, val_main_v9, val_main_v8, val_main_cst_2, val_main_cst_7, val_main_cst_8, val_main_cst_9]
  simp only [H.hx, ref_dn H, ref_inv H, ref_power H, bits_neg_half, bits_1024, zero_add, ← EReal.coe_mul, coe_sum]
  rw [Fin.sum_univ_one, ref_inv H, ref_power H, Ideal.div_coe (power_pos (X i)).ne', Ideal.div_coe (by norm_num)]
  simp only [← EReal.coe_mul, mul_one_div]

theorem ref_dx : val_main_v60 (F := Ideal) x0 x1 x2 x3 x4 x5 (ix2 i k) = (P.dx (X i) (Y i) k : EReal) := by
  pointwise [val_main_v60, val_main_v59, val_main_v58, val_main_v57, val_main_v56, val_main_v51, val_main_v50,
    val_main_v49]
  simp only [H.hx, H.hy, ref_dn H, ref_inv H, ref_pull H, ← EReal.coe_mul, ← EReal.coe_add]
  refine congrArg _ ?_
  rw [Par.dx, invRms_div, show (∑ j, P.dn (X i) (Y i) j * (X i j * invRms (X i)))
    = (∑ j, X i j * P.dn (X i) (Y i) j) * invRms (X i) by
      rw [Finset.sum_mul]; exact Finset.sum_congr rfl fun j _ => by ring]
  ring

end

end Cert.Ffn

end
-- ==== Proof.RunValues.lean ====
/- The kernel program's run, concluding what every result array and every argument array holds and that every
   semaphore counter is zero: the launch of the generated frame, its last state read at the results too. -/
module

public import proofs.«01_k».proof.Proof.Gen.KernelIdeal.Frame

@[expose] public section

set_option maxRecDepth 16384

noncomputable section

namespace Cert.Ffn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates with every buffer of the TensorCore's program at the last boundary's contents `W7`. -/
theorem run_buffers : θ_run defs (onTc (τ := τ) (main (F := F))) ⟨m, fun _ => 0, ρ⟩ (fun r =>
      ∀ c : Dev nD, ∀ b : Ref sig .tc, ¬ (Proc.tc.devRef (τ := τ) b).isScoped = true →
        r.2.mem ((c.tc : Thread nD τ).loc b) = W7 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun c => by
        dsimp only [Pipeline.Seg.post, hseg, Pipeline.HostSeg.ofOps]
        iintro ⟨Hh, Hp, HO⟩
        isplitl [Hh Hp]
        · isplitl [Hh]; · iexact Hh
          iexact Hp
        iexact HO⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h hz => fun c b hb => h c _ (mem_uc b hb))

end Cert.Ffn

end
-- ==== Proof.FwdRow.lean ====
/- The forward kernel's stores at one row of a block: over real inputs each holds the real numbers of `Spec`. -/
module

public import proofs.«01_k».proof.Proof.Spec
public import proofs.«01_k».proof.Proof.Gen.KernelIdeal.Skeleton
public import Idealize.ShloMosaic.Lib.Pipeline.ValueKit

@[expose] public section

set_option maxRecDepth 16384

noncomputable section

namespace Cert.Ffn

open Idealize.ShloMosaic Idealize.SL.Sem
open Cert.KernelIdeal Cert.KernelIdeal.Gen

variable (P : Par) (x : Row) (p : Fin 256)

/-- The normalised row, scaled by the gain. -/
theorem hid_row (v0 : Vec Ideal S256x1024 .f32) (v11 : Vec Ideal S1x1024 .f32)
    (hx : ∀ k, v0 (ix2 p k) = (x k : EReal)) (hg : ∀ k, v11 (ix2 0 k) = (P.gain k : EReal)) (k : Fin 1024) :
    k0_pay2 v0 v11 (ix2 p k) = (P.hid x k : EReal) := by
  pointwise [k0_pay2]
  simp only [hx, hg, bits_1024th, bits_eps, ← EReal.coe_mul, coe_sum, ← EReal.coe_add, rsqrt_power]
  rfl

section Chunk

/-! One chunk `e` of the hidden features: the row `hh` of the normalised block against the chunk's weight rows. -/

variable (e : Fin 1408 → Fin 2816) (v15 : Vec Ideal S256x1024 .bf16) (w w' : Vec Ideal S1408x1024 .bf16)
    (hh : ∀ k, v15 (ix2 p k) = (P.hid x k : EReal)) (hw : ∀ q k, w (ix2 q k) = (P.gate (e q) k : EReal))
    (hw' : ∀ q k, w' (ix2 q k) = (P.up (e q) k : EReal)) (q : Fin 1408)
include hh

include hw in
theorem a_row : k0_pay12 v15 w (ix2 p q) = (P.a x (e q) : EReal) := by
  pointwise [k0_pay12]
  simp only [hh, hw, ← EReal.coe_mul, coe_sum]
  rfl

include hw' in
theorem u_row : k0_pay13 v15 w' (ix2 p q) = (P.u x (e q) : EReal) := by
  pointwise [k0_pay13]
  simp only [hh, hw', ← EReal.coe_mul, coe_sum]
  rfl

include hw in
theorem sig_row : k0_pay14 v15 w (ix2 p q) = (logi (P.a x (e q)) : EReal) := by
  pointwise [k0_pay14]
  rw [a_row P x p e v15 w hh hw, logistic_real]

include hw in
theorem silu_row : k0_pay15 v15 w (ix2 p q) = (P.silu x (e q) : EReal) := by
  pointwise [k0_pay15]
  rw [a_row P x p e v15 w hh hw, sig_row P x p e v15 w hh hw, ← EReal.coe_mul]
  rfl

include hw hw' in
theorem s_row : k0_pay16 v15 w w' (ix2 p q) = (P.s x (e q) : EReal) := by
  pointwise [k0_pay16]
  rw [silu_row P x p e v15 w hh hw, u_row P x p e v15 w' hh hw', ← EReal.coe_mul]
  rfl

include hw hw' in
theorem slope_row : k0_pay17 v15 w w' (ix2 p q) = (P.slope x (e q) : EReal) := by
  pointwise [k0_pay17]
  rw [a_row P x p e v15 w hh hw, u_row P x p e v15 w' hh hw', sig_row P x p e v15 w hh hw]
  simp only [← EReal.coe_one, ← EReal.coe_mul, ← EReal.coe_add, ← EReal.coe_sub]
  rfl

end Chunk

/-- The output row, from the two chunks' gated features and down weights. -/
theorem out_row (v0 : Vec Ideal S256x1024 .f32) (s1 s2 : Vec Ideal S256x1408 .bf16) (w1 w2 : Vec Ideal S1408x1024 .bf16)
    (hx : ∀ k, v0 (ix2 p k) = (x k : EReal))
    (hs1 : ∀ q, s1 (ix2 p q) = (P.s x (lo q) : EReal)) (hs2 : ∀ q, s2 (ix2 p q) = (P.s x (hi q) : EReal))
    (hw1 : ∀ q k, w1 (ix2 q k) = (P.down (lo q) k : EReal)) (hw2 : ∀ q k, w2 (ix2 q k) = (P.down (hi q) k : EReal))
    (k : Fin 1024) :
    k0_pay1 v0 (k0_pay11 (k0_pay3 (F := Ideal)) s1 w1) s2 (k0_pay19 w2) (constant S256x1024 .f32 0x00000000#32) (ix2 p k)
      = (P.out x k : EReal) := by
  pointwise [k0_pay1, k0_pay11, k0_pay3, k0_pay19]
  simp only [hx, hs1, hs2, hw1, hw2, bits_half, bits_zero, ← EReal.coe_mul, coe_sum, ← EReal.coe_add]
  rw [Par.out, sum_halves]

end Cert.Ffn

end
-- ==== Proof.Tiles.lean ====
/- Reading a block, or half of one, at an index; and the index of a stored tile from its place in the block. -/
module

public import proofs.«01_k».proof.Proof.Spec
public import proofs.«01_k».proof.Proof.Gen.KernelIdeal.Frame.Region0

@[expose] public section

set_option maxRecDepth 16384

noncomputable section

namespace Cert.Ffn

open Idealize.ShloMosaic Idealize.ShloMosaic.TcCoe Idealize.SL.Sem
open Cert.KernelIdeal Cert.KernelIdeal.Gen

/-! Loads of a block and of the two halves of a weight matrix, at an index. -/

theorem ld_x (x : Vec Ideal S256x1024 .f32) (p : Fin 256) (k : Fin 1024) :
    View.ld x r0_0 (ix2 p k) = x (ix2 p k) := by
  rw [View.ld_apply]; blk_ext [Rect.idx_unit_val]
theorem ld_gain (x : Vec Ideal S1x1024 .f32) (k : Fin 1024) : View.ld x r0_1 (ix2 (0 : Fin 1) k) = x (ix2 (0 : Fin 1) k) := by
  rw [View.ld_apply]; blk_ext [Rect.idx_unit_val]
theorem ld_lo (x : Vec Ideal S2816x1024 .bf16) (q : Fin 1408) (k : Fin 1024) :
    View.ld x r0_2 (ix2 q k) = x (ix2 (lo q) k) := by
  rw [View.ld_apply]; blk_ext [Rect.idx_unit_val]
theorem ld_hi (x : Vec Ideal S2816x1024 .bf16) (q : Fin 1408) (k : Fin 1024) :
    View.ld x r0_4 (ix2 q k) = x (ix2 (hi q) k) := by
  rw [View.ld_apply]; blk_ext [Rect.idx_unit_val]

theorem ld_col_lo (x : Vec Ideal S256x2816 .bf16) (p : Fin 256) (q : Fin 1408) :
    View.ld x r0_3 (ix2 p q) = x (ix2 p (lo q)) := by
  rw [View.ld_apply]; blk_ext [Rect.idx_unit_val]
theorem ld_col_hi (x : Vec Ideal S256x2816 .bf16) (p : Fin 256) (q : Fin 1408) :
    View.ld x r0_5 (ix2 p q) = x (ix2 p (hi q)) := by
  rw [View.ld_apply]; blk_ext [Rect.idx_unit_val]

/-! An index of a stored tile, from the place it has in the block. -/

theorem at_row {p : Fin 256} {k : Fin 1024} {i : S256x1024.Idx} (h0 : (p : ℕ) = i 0) (h1 : (k : ℕ) = i 1) :
    i = ix2 p k := funext fun a => Fin.ext (match a with | ⟨0, _⟩ => h0.symm | ⟨1, _⟩ => h1.symm)
theorem at_lo {p : Fin 256} {f : Fin 2816} {i : S256x1408.Idx} (h0 : (p : ℕ) = i 0) (h1 : (f : ℕ) = i 1) :
    ∃ q : Fin 1408, f = lo q ∧ i = ix2 p q :=
  ⟨i 1, Fin.ext h1, funext fun a => Fin.ext (match a with | ⟨0, _⟩ => h0.symm | ⟨1, _⟩ => rfl)⟩
theorem at_hi {p : Fin 256} {f : Fin 2816} {i : S256x1408.Idx} (h0 : (p : ℕ) = i 0) (h1 : (f : ℕ) = 1408 + i 1) :
    ∃ q : Fin 1408, f = hi q ∧ i = ix2 p q :=
  ⟨i 1, Fin.ext h1, funext fun a => Fin.ext (match a with | ⟨0, _⟩ => h0.symm | ⟨1, _⟩ => rfl)⟩

theorem ex_row (y : S256x1024.Idx) : ∃ (p : Fin 256) (k : Fin 1024), y = ix2 p k :=
  ⟨y 0, y 1, funext fun a => match a with | ⟨0, _⟩ => rfl | ⟨1, _⟩ => rfl⟩
theorem ex_wide (y : S256x2816.Idx) : ∃ (p : Fin 256) (f : Fin 2816), y = ix2 p f :=
  ⟨y 0, y 1, funext fun a => match a with | ⟨0, _⟩ => rfl | ⟨1, _⟩ => rfl⟩

end Cert.Ffn

end
-- ==== Proof.FwdBlock.lean ====
/- What the forward kernel's body leaves in its five output blocks, from real input blocks. -/
module

public import proofs.«01_k».proof.Proof.FwdRow
public import proofs.«01_k».proof.Proof.Tiles
public import proofs.«01_k».proof.Proof.Gen.KernelIdeal.Frame.Region0

@[expose] public section

set_option maxRecDepth 16384

noncomputable section

namespace Cert.Ffn

open Idealize.ShloMosaic Idealize.ShloMosaic.TcCoe Idealize.SL.Sem
open Cert.KernelIdeal Cert.KernelIdeal.Gen

variable (P : Par) (x : Row) (p : Fin 256)
variable (x0 : Vec Ideal S256x1024 .f32) (x1 : Vec Ideal S1x1024 .f32) (x2 x3 x4 : Vec Ideal S2816x1024 .bf16)

/-- Real blocks: row `p` of the input block is `x`, the others the parameters. -/
structure FwdBlocks : Prop where
  x : ∀ k, x0 (ix2 p k) = (x k : EReal)
  gain : ∀ k, x1 (ix2 (0 : Fin 1) k) = (P.gain k : EReal)
  gate : ∀ f k, x2 (ix2 f k) = (P.gate f k : EReal)
  up : ∀ f k, x3 (ix2 f k) = (P.up f k : EReal)
  down : ∀ f k, x4 (ix2 f k) = (P.down f k : EReal)

variable {P x p x0 x1 x2 x3 x4} (h : FwdBlocks P x p x0 x1 x2 x3 x4)
include h

theorem hid_ld (k : Fin 1024) : k0_pay2 (View.ld x0 r0_0) (View.ld x1 r0_1) (ix2 p k) = (P.hid x k : EReal) :=
  hid_row P x p _ _ (fun k => (ld_x x0 p k).trans (h.x k)) (fun k => (ld_gain x1 k).trans (h.gain k)) k

theorem s_lo (q : Fin 1408) :
    k0_pay8 (View.ld x0 r0_0) (View.ld x1 r0_1) (View.ld x2 r0_2) (View.ld x3 r0_2) (ix2 p q) = (P.s x (lo q) : EReal) :=
  s_row P x p lo _ _ _ (hid_ld h) (fun q k => (ld_lo x2 q k).trans (h.gate _ k)) (fun q k => (ld_lo x3 q k).trans (h.up _ k)) q

theorem s_hi (q : Fin 1408) :
    k0_pay16 (k0_pay20 x0 x1 x2 x3 x4) (View.ld x2 r0_4) (View.ld x3 r0_4) (ix2 p q) = (P.s x (hi q) : EReal) :=
  s_row P x p hi _ _ _ (hid_ld h) (fun q k => (ld_hi x2 q k).trans (h.gate _ k)) (fun q k => (ld_hi x3 q k).trans (h.up _ k)) q

theorem y_block (k : Fin 1024) : out0_5 x0 x1 x2 x3 x4 (ix2 p k) = (P.out x k : EReal) := by
  canon_tiles i hi
  obtain rfl := at_row hi0 hi1
  exact out_row P x p _ _ _ _ _ (fun k => (ld_x x0 p k).trans (h.x k)) (s_lo h) (s_hi h)
    (fun q k => (ld_lo x4 q k).trans (h.down _ k)) (fun q k => (ld_hi x4 q k).trans (h.down _ k)) k

theorem h_block (k : Fin 1024) : out0_6 x0 x1 x2 x3 x4 (ix2 p k) = (P.hid x k : EReal) := by
  canon_tiles i hi
  obtain rfl := at_row hi0 hi1
  exact hid_ld h k

theorem s_block (f : Fin 2816) : out0_7 x0 x1 x2 x3 x4 (ix2 p f) = (P.s x f : EReal) := by
  canon_tiles i hi
  · obtain ⟨q, rfl, rfl⟩ := at_hi hi0 hi1
    exact s_hi h q
  · obtain ⟨q, rfl, rfl⟩ := at_lo hi0 hi1
    exact s_lo h q

theorem slope_block (f : Fin 2816) : out0_8 x0 x1 x2 x3 x4 (ix2 p f) = (P.slope x f : EReal) := by
  canon_tiles i hi
  · obtain ⟨q, rfl, rfl⟩ := at_hi hi0 hi1
    exact slope_row P x p hi _ _ _ (hid_ld h) (fun q k => (ld_hi x2 q k).trans (h.gate _ k))
      (fun q k => (ld_hi x3 q k).trans (h.up _ k)) q
  · obtain ⟨q, rfl, rfl⟩ := at_lo hi0 hi1
    exact slope_row P x p lo _ _ _ (hid_ld h) (fun q k => (ld_lo x2 q k).trans (h.gate _ k))
      (fun q k => (ld_lo x3 q k).trans (h.up _ k)) q

theorem silu_block (f : Fin 2816) : out0_9 x0 x1 x2 x3 x4 (ix2 p f) = (P.silu x f : EReal) := by
  canon_tiles i hi
  · obtain ⟨q, rfl, rfl⟩ := at_hi hi0 hi1
    exact silu_row P x p hi _ _ (hid_ld h) (fun q k => (ld_hi x2 q k).trans (h.gate _ k)) q
  · obtain ⟨q, rfl, rfl⟩ := at_lo hi0 hi1
    exact silu_row P x p lo _ _ (hid_ld h) (fun q k => (ld_lo x2 q k).trans (h.gate _ k)) q

end Cert.Ffn

end
-- ==== Proof.Fwd.lean ====
/- What the forward kernel leaves in its five arrays: 32 blocks of 256 rows, each row the real numbers of `Spec`. -/
module

public import proofs.«01_k».proof.Proof.FwdBlock

@[expose] public section

set_option maxRecDepth 16384

noncomputable section

namespace Cert.Ffn

open Idealize.ShloMosaic Idealize.ShloMosaic.TcCoe Idealize.SL.Sem
open Idealize.ShloMosaic.Pipeline (Dat)
open Cert.KernelIdeal Cert.KernelIdeal.Gen

/-- The block each window of the forward kernel holds at a point. -/
theorem fwd_idx : ∀ t : Fin cfg0.N, win0_0.index t = ![t.val, 0] ∧ win0_1.index t = ![0, 0] ∧ win0_2.index t = ![0, 0]
    ∧ win0_3.index t = ![0, 0] ∧ win0_4.index t = ![0, 0] ∧ win0_5.index t = ![t.val, 0] ∧ win0_6.index t = ![t.val, 0]
    ∧ win0_7.index t = ![t.val, 0] ∧ win0_8.index t = ![t.val, 0] ∧ win0_9.index t = ![t.val, 0] :=
  (by decide +kernel : ∀ t : Fin grid0.N, _)

variable (P : Par) (X : Fin 8192 → Row)
variable (V : (c : Dev nD) → (b : Ref sig .tc) → Buf (Elt Ideal) ((c : Thread nD τ).loc b)) (c : Dev nD)

/-- The arrays the forward kernel is given hold the real inputs. -/
structure FwdIn : Prop where
  x : ∀ i : Fin 8192, ∀ k : Fin 1024, (V c main_arg0 (ix2 i k) : EReal) = (X i k : EReal)
  gain : ∀ k : Fin 1024, (V c main_v0 (ix2 (0 : Fin 1) k) : EReal) = (P.gain k : EReal)
  gate : ∀ f : Fin 2816, ∀ k : Fin 1024, (V c main_v2 (ix2 f k) : EReal) = (P.gate f k : EReal)
  up : ∀ f : Fin 2816, ∀ k : Fin 1024, (V c main_v4 (ix2 f k) : EReal) = (P.up f k : EReal)
  down : ∀ f : Fin 2816, ∀ k : Fin 1024, (V c main_v5 (ix2 f k) : EReal) = (P.down f k : EReal)

/-- The token whose row is row `p` of block `t`. -/
abbrev tok (t : Fin cfg0.N) (p : Fin 256) : Fin 8192 :=
  ⟨t * 256 + p, by have := lt_of_lt_of_eq t.isLt N_0; omega⟩

variable {P X V c} (h : FwdIn P X V c)
include h

/-- The blocks the body reads at point `t` hold the rows of `X` from `256 t` on, and the parameters. -/
theorem fwd_blocks (t : Fin cfg0.N) (p : Fin 256) :
    FwdBlocks P (X (tok t p)) p (iblk0 V c 0 t) (iblk0 V c 1 t) (iblk0 V c 2 t) (iblk0 V c 3 t) (iblk0 V c 4 t) where
  x k := (show _ = V c main_arg0 (ix2 (tok t p) k) by blk_ext [iblk0, fwd_idx t]).trans (h.x _ k)
  gain k := (show _ = V c main_v0 (ix2 (0 : Fin 1) k) by blk_ext [iblk0, fwd_idx t]).trans (h.gain k)
  gate f k := (show _ = V c main_v2 (ix2 f k) by blk_ext [iblk0, fwd_idx t]).trans (h.gate f k)
  up f k := (show _ = V c main_v4 (ix2 f k) by blk_ext [iblk0, fwd_idx t]).trans (h.up f k)
  down f k := (show _ = V c main_v5 (ix2 f k) by blk_ext [iblk0, fwd_idx t]).trans (h.down f k)

theorem y_array (i : Fin 8192) (k : Fin 1024) :
    ((dat0 V c).arrAt 5 cfg0.N (ix2 i k) : EReal) = (P.out (X i) k : EReal) := by
  refine congrFun ((dat0 V c).arrAt_eq_of_covers 5 (fun j => (P.out (X (j 0)) (j 1) : EReal)) (by decide +kernel)
    fun t _ y => ?_) (ix2 i k)
  blk_simp
  rw [after0_5]
  obtain ⟨p, k, rfl⟩ := ex_row y
  rw [show (win0_5.blk t).view.emb (ix2 p k) = ix2 (tok t p) k by blk_ext [fwd_idx t]]
  exact y_block (fwd_blocks h t p) k

theorem h_array (i : Fin 8192) (k : Fin 1024) :
    ((dat0 V c).arrAt 6 cfg0.N (ix2 i k) : EReal) = (P.hid (X i) k : EReal) := by
  refine congrFun ((dat0 V c).arrAt_eq_of_covers 6 (fun j => (P.hid (X (j 0)) (j 1) : EReal)) (by decide +kernel)
    fun t _ y => ?_) (ix2 i k)
  blk_simp
  rw [after0_6]
  obtain ⟨p, k, rfl⟩ := ex_row y
  rw [show (win0_6.blk t).view.emb (ix2 p k) = ix2 (tok t p) k by blk_ext [fwd_idx t]]
  exact h_block (fwd_blocks h t p) k

theorem s_array (i : Fin 8192) (f : Fin 2816) :
    ((dat0 V c).arrAt 7 cfg0.N (ix2 i f) : EReal) = (P.s (X i) f : EReal) := by
  refine congrFun ((dat0 V c).arrAt_eq_of_covers 7 (fun j => (P.s (X (j 0)) (j 1) : EReal)) (by decide +kernel)
    fun t _ y => ?_) (ix2 i f)
  blk_simp
  rw [after0_7]
  obtain ⟨p, f, rfl⟩ := ex_wide y
  rw [show (win0_7.blk t).view.emb (ix2 p f) = ix2 (tok t p) f by blk_ext [fwd_idx t]]
  exact s_block (fwd_blocks h t p) f

theorem slope_array (i : Fin 8192) (f : Fin 2816) :
    ((dat0 V c).arrAt 8 cfg0.N (ix2 i f) : EReal) = (P.slope (X i) f : EReal) := by
  refine congrFun ((dat0 V c).arrAt_eq_of_covers 8 (fun j => (P.slope (X (j 0)) (j 1) : EReal)) (by decide +kernel)
    fun t _ y => ?_) (ix2 i f)
  blk_simp
  rw [after0_8]
  obtain ⟨p, f, rfl⟩ := ex_wide y
  rw [show (win0_8.blk t).view.emb (ix2 p f) = ix2 (tok t p) f by blk_ext [fwd_idx t]]
  exact slope_block (fwd_blocks h t p) f

theorem silu_array (i : Fin 8192) (f : Fin 2816) :
    ((dat0 V c).arrAt 9 cfg0.N (ix2 i f) : EReal) = (P.silu (X i) f : EReal) := by
  refine congrFun ((dat0 V c).arrAt_eq_of_covers 9 (fun j => (P.silu (X (j 0)) (j 1) : EReal)) (by decide +kernel)
    fun t _ y => ?_) (ix2 i f)
  blk_simp
  rw [after0_9]
  obtain ⟨p, f, rfl⟩ := ex_wide y
  rw [show (win0_9.blk t).view.emb (ix2 p f) = ix2 (tok t p) f by blk_ext [fwd_idx t]]
  exact silu_block (fwd_blocks h t p) f

end Cert.Ffn

end
-- ==== Proof.DgradRow.lean ====
/- The backward kernel's stores at one row of a block: over real inputs each holds the real numbers of `Spec`. -/
module

public import proofs.«01_k».proof.Proof.Spec
public import proofs.«01_k».proof.Proof.Gen.KernelIdeal.Skeleton
public import Idealize.ShloMosaic.Lib.Pipeline.ValueKit

@[expose] public section

set_option maxRecDepth 16384

noncomputable section

namespace Cert.Ffn

open Idealize.ShloMosaic Idealize.SL.Sem
open Cert.KernelIdeal Cert.KernelIdeal.Gen

variable (P : Par) (x y : Row) (p : Fin 256)

section Norm

variable (v0 : Vec Ideal S256x1024 .f32) (hx : ∀ k, v0 (ix2 p k) = (x k : EReal))
include hx

/-- The row's reciprocal root mean square. -/
theorem inv_row : k1_pay5 v0 (ix2 p (0 : Fin 1)) = (invRms x : EReal) := by
  pointwise [k1_pay5]
  simp only [hx, bits_1024th, bits_eps, ← EReal.coe_mul, coe_sum, ← EReal.coe_add, rsqrt_power]

/-- The normalised row. -/
theorem unit_row (k : Fin 1024) : k1_pay6 v0 (ix2 p k) = ((x k * invRms x : ℝ) : EReal) := by
  pointwise [k1_pay6]
  rw [inv_row x p v0 hx, hx, ← EReal.coe_mul]

end Norm

/-- The cotangent of the feed-forward. -/
theorem dy_row (v13 : Vec Ideal S256x1024 .f32) (hy : ∀ k, v13 (ix2 p k) = (y k : EReal)) (k : Fin 1024) :
    k1_pay7 v13 (ix2 p k) = (Par.dy y k : EReal) := by
  pointwise [k1_pay7]
  simp only [hy, bits_half, ← EReal.coe_mul]
  rfl

section Chunk

/-! One chunk `e` of the hidden features. -/

variable (e : Fin 1408 → Fin 2816) (v16 : Vec Ideal S256x1024 .bf16) (w : Vec Ideal S1408x1024 .bf16)
    (fa fu : Vec Ideal S256x1408 .bf16)
    (hd : ∀ k, v16 (ix2 p k) = (Par.dy y k : EReal)) (hw : ∀ q k, w (ix2 q k) = (P.down (e q) k : EReal))
    (hfa : ∀ q, fa (ix2 p q) = (P.slope x (e q) : EReal)) (hfu : ∀ q, fu (ix2 p q) = (P.silu x (e q) : EReal))
    (q : Fin 1408)
include hd hw

theorem ds_row : k1_pay12 v16 w (ix2 p q) = (P.ds y (e q) : EReal) := by
  pointwise [k1_pay12]
  simp only [hd, hw, ← EReal.coe_mul, coe_sum]
  rfl

include hfa in
theorem da_row : k1_pay13 v16 w fa (ix2 p q) = (P.da x y (e q) : EReal) := by
  pointwise [k1_pay13]
  rw [ds_row P y p e v16 w hd hw, hfa, ← EReal.coe_mul]
  rfl

include hfu in
theorem du_row : k1_pay14 v16 w fu (ix2 p q) = (P.du x y (e q) : EReal) := by
  pointwise [k1_pay14]
  rw [ds_row P y p e v16 w hd hw, hfu, ← EReal.coe_mul]
  rfl

end Chunk

/-- The cotangent of the normalised, scaled row: four products, two per chunk. -/
theorem dh_row (v16 : Vec Ideal S256x1024 .bf16) (da1 du1 fa2 fu2 : Vec Ideal S256x1408 .bf16)
    (wg1 wu1 wd2 wg2 wu2 : Vec Ideal S1408x1024 .bf16)
    (hd : ∀ k, v16 (ix2 p k) = (Par.dy y k : EReal))
    (ha1 : ∀ q, da1 (ix2 p q) = (P.da x y (lo q) : EReal)) (hu1 : ∀ q, du1 (ix2 p q) = (P.du x y (lo q) : EReal))
    (hfa : ∀ q, fa2 (ix2 p q) = (P.slope x (hi q) : EReal)) (hfu : ∀ q, fu2 (ix2 p q) = (P.silu x (hi q) : EReal))
    (hg1 : ∀ q k, wg1 (ix2 q k) = (P.gate (lo q) k : EReal)) (hg2 : ∀ q k, wg2 (ix2 q k) = (P.gate (hi q) k : EReal))
    (hp1 : ∀ q k, wu1 (ix2 q k) = (P.up (lo q) k : EReal)) (hp2 : ∀ q k, wu2 (ix2 q k) = (P.up (hi q) k : EReal))
    (hw2 : ∀ q k, wd2 (ix2 q k) = (P.down (hi q) k : EReal)) (k : Fin 1024) :
    k1_pay15 v16 (k1_pay8 (F := Ideal)) da1 du1 wg1 wu1 wd2 fa2 fu2 wg2 wu2 (ix2 p k) = (P.dh x y k : EReal) := by
  pointwise [k1_pay15, k1_pay8]
  simp only [da_row P x y p hi v16 wd2 fa2 hd hw2 hfa, du_row P x y p hi v16 wd2 fu2 hd hw2 hfu, ha1, hu1, hg1, hg2, hp1,
    hp2, ← EReal.coe_mul, coe_sum, ← EReal.coe_add]
  rw [Par.dh, sum_halves, sum_halves]
  congr 1
  ring

/-- The input's gradient row. -/
theorem dx_row (g : Vec Ideal S1x1024 .f32) (v0 v13 dh : Vec Ideal S256x1024 .f32)
    (hg : ∀ k, g (ix2 (0 : Fin 1) k) = (P.gain k : EReal)) (hx : ∀ k, v0 (ix2 p k) = (x k : EReal))
    (hy : ∀ k, v13 (ix2 p k) = (y k : EReal)) (hdh : ∀ k, dh (ix2 p k) = (P.dh x y k : EReal)) (k : Fin 1024) :
    k1_pay3 (k1_pay4 g) (k1_pay5 v0) (k1_pay6 v0) v13 dh (ix2 p k) = (P.dx x y k : EReal) := by
  pointwise [k1_pay3, k1_pay4]
  simp only [hg, hy, hdh, inv_row x p v0 hx, unit_row x p v0 hx, bits_1024th, ← EReal.coe_mul, coe_sum, ← EReal.coe_add,
    ← EReal.coe_sub]
  rfl

/-- The block's part of the gain's gradient, added to what was there. -/
theorem dg_rows (X Y : Fin 256 → Row) (v0 dh : Vec Ideal S256x1024 .f32) (acc : Vec Ideal S1x1024 .f32)
    (hx : ∀ p k, v0 (ix2 p k) = (X p k : EReal)) (hdh : ∀ p k, dh (ix2 p k) = (P.dh (X p) (Y p) k : EReal)) (k : Fin 1024) :
    k1_pay2 (k1_pay6 v0) dh acc (ix2 (0 : Fin 1) k)
      = acc (ix2 (0 : Fin 1) k) + ((∑ p, P.dg (X p) (Y p) k : ℝ) : EReal) := by
  pointwise [k1_pay2]
  simp only [hdh, fun p => unit_row (X p) p v0 (hx p), ← EReal.coe_mul, coe_sum]
  rfl

end Cert.Ffn

end
-- ==== Proof.Dgrad.lean ====
/- What the backward kernel leaves in its five arrays: four of them a block of 256 rows per point, the gain's gradient
   one resident block every point adds its rows to. -/
module

public import proofs.«01_k».proof.Proof.DgradRow
public import proofs.«01_k».proof.Proof.Tiles
public import proofs.«01_k».proof.Proof.Gen.KernelIdeal.Frame.Region1

@[expose] public section

set_option maxRecDepth 16384

noncomputable section

namespace Cert.Ffn

open Idealize.ShloMosaic Idealize.ShloMosaic.TcCoe Idealize.SL.Sem
open Idealize.ShloMosaic.Pipeline (Dat)
open Cert.KernelIdeal Cert.KernelIdeal.Gen

/-! ## One point's blocks -/

section Block

variable (P : Par) (x y : Row) (p : Fin 256)
variable (x0 : Vec Ideal S256x1024 .f32) (x1 : Vec Ideal S1x1024 .f32) (x2 : Vec Ideal S256x1024 .f32)
  (x3 x4 : Vec Ideal S256x2816 .bf16) (x5 x6 x7 : Vec Ideal S2816x1024 .bf16)

/-- Real blocks: row `p` of the input and of the cotangent, the forward pass's two saved rows, the parameters. -/
structure DgradBlocks : Prop where
  hx : ∀ k, x0 (ix2 p k) = (x k : EReal)
  gain : ∀ k, x1 (ix2 (0 : Fin 1) k) = (P.gain k : EReal)
  hy : ∀ k, x2 (ix2 p k) = (y k : EReal)
  slope : ∀ f, x3 (ix2 p f) = (P.slope x f : EReal)
  silu : ∀ f, x4 (ix2 p f) = (P.silu x f : EReal)
  gate : ∀ f k, x5 (ix2 f k) = (P.gate f k : EReal)
  up : ∀ f k, x6 (ix2 f k) = (P.up f k : EReal)
  down : ∀ f k, x7 (ix2 f k) = (P.down f k : EReal)

/-- The cotangent of the normalised, scaled rows, as the body computes it from its blocks. -/
abbrev dhBlock : Vec Ideal S256x1024 .f32 :=
  k1_pay15 (k1_pay7 x2) (k1_pay8 (F := Ideal)) (k1_pay10 x2 (View.ld x7 r0_2) (View.ld x3 r0_3))
    (k1_pay11 x2 (View.ld x7 r0_2) (View.ld x4 r0_3)) (View.ld x5 r0_2) (View.ld x6 r0_2) (View.ld x7 r0_4)
    (View.ld x3 r0_5) (View.ld x4 r0_5) (View.ld x5 r0_4) (View.ld x6 r0_4)

variable {P x y p x0 x1 x2 x3 x4 x5 x6 x7} (h : DgradBlocks P x y p x0 x1 x2 x3 x4 x5 x6 x7)
include h

theorem dy_block (k : Fin 1024) : k1_pay7 x2 (ix2 p k) = (Par.dy y k : EReal) := dy_row y p x2 h.hy k

theorem da_lo (q : Fin 1408) :
    k1_pay10 x2 (View.ld x7 r0_2) (View.ld x3 r0_3) (ix2 p q) = (P.da x y (lo q) : EReal) :=
  da_row P x y p lo (k1_pay7 x2) _ _ (dy_block h) (fun q k => (ld_lo x7 q k).trans (h.down _ k))
    (fun q => (ld_col_lo x3 p q).trans (h.slope _)) q

theorem du_lo (q : Fin 1408) :
    k1_pay11 x2 (View.ld x7 r0_2) (View.ld x4 r0_3) (ix2 p q) = (P.du x y (lo q) : EReal) :=
  du_row P x y p lo (k1_pay7 x2) _ _ (dy_block h) (fun q k => (ld_lo x7 q k).trans (h.down _ k))
    (fun q => (ld_col_lo x4 p q).trans (h.silu _)) q

theorem da_hi (q : Fin 1408) :
    k1_pay13 (k1_pay7 x2) (View.ld x7 r0_4) (View.ld x3 r0_5) (ix2 p q) = (P.da x y (hi q) : EReal) :=
  da_row P x y p hi _ _ _ (dy_block h) (fun q k => (ld_hi x7 q k).trans (h.down _ k))
    (fun q => (ld_col_hi x3 p q).trans (h.slope _)) q

theorem du_hi (q : Fin 1408) :
    k1_pay14 (k1_pay7 x2) (View.ld x7 r0_4) (View.ld x4 r0_5) (ix2 p q) = (P.du x y (hi q) : EReal) :=
  du_row P x y p hi _ _ _ (dy_block h) (fun q k => (ld_hi x7 q k).trans (h.down _ k))
    (fun q => (ld_col_hi x4 p q).trans (h.silu _)) q

theorem dh_block (k : Fin 1024) : dhBlock x2 x3 x4 x5 x6 x7 (ix2 p k) = (P.dh x y k : EReal) :=
  dh_row P x y p _ _ _ _ _ _ _ _ _ _ (dy_block h) (da_lo h) (du_lo h)
    (fun q => (ld_col_hi x3 p q).trans (h.slope _)) (fun q => (ld_col_hi x4 p q).trans (h.silu _))
    (fun q k => (ld_lo x5 q k).trans (h.gate _ k)) (fun q k => (ld_hi x5 q k).trans (h.gate _ k))
    (fun q k => (ld_lo x6 q k).trans (h.up _ k)) (fun q k => (ld_hi x6 q k).trans (h.up _ k))
    (fun q k => (ld_hi x7 q k).trans (h.down _ k)) k

theorem dx_block (k : Fin 1024) :
    k1_pay3 (k1_pay4 x1) (k1_pay5 x0) (k1_pay6 x0) x2 (dhBlock x2 x3 x4 x5 x6 x7) (ix2 p k) = (P.dx x y k : EReal) :=
  dx_row P x y p _ _ _ _ h.gain h.hx h.hy (dh_block h) k

end Block

/-! ## The arrays -/

/-- The block each window of the backward kernel holds at a point. -/
theorem bwd_idx : ∀ t : Fin cfg1.N, win1_0.index t = ![t.val, 0] ∧ win1_1.index t = ![0, 0] ∧ win1_2.index t = ![t.val, 0]
    ∧ win1_3.index t = ![t.val, 0] ∧ win1_4.index t = ![t.val, 0] ∧ win1_5.index t = ![0, 0] ∧ win1_6.index t = ![0, 0]
    ∧ win1_7.index t = ![0, 0] ∧ win1_8.index t = ![t.val, 0] ∧ win1_9.index t = ![t.val, 0]
    ∧ win1_10.index t = ![t.val, 0] ∧ win1_11.index t = ![t.val, 0] ∧ win1_12.index t = ![0, 0] :=
  (by decide +kernel : ∀ t : Fin grid1.N, _)

variable (P : Par) (X Y : Fin 8192 → Row)
variable (V : (c : Dev nD) → (b : Ref sig .tc) → Buf (Elt Ideal) ((c : Thread nD τ).loc b)) (c : Dev nD)

/-- The arrays the backward kernel is given hold the real inputs and the forward pass's saved rows. -/
structure DgradIn : Prop where
  x : ∀ (i : Fin 8192) (k : Fin 1024), (V c main_arg0 (ix2 i k) : EReal) = (X i k : EReal)
  gain : ∀ k : Fin 1024, (V c main_v0 (ix2 (0 : Fin 1) k) : EReal) = (P.gain k : EReal)
  y : ∀ (i : Fin 8192) (k : Fin 1024), (V c main_arg5 (ix2 i k) : EReal) = (Y i k : EReal)
  slope : ∀ (i : Fin 8192) (f : Fin 2816), (V c main_v6_3 (ix2 i f) : EReal) = (P.slope (X i) f : EReal)
  silu : ∀ (i : Fin 8192) (f : Fin 2816), (V c main_v6_4 (ix2 i f) : EReal) = (P.silu (X i) f : EReal)
  gate : ∀ (f : Fin 2816) (k : Fin 1024), (V c main_v2 (ix2 f k) : EReal) = (P.gate f k : EReal)
  up : ∀ (f : Fin 2816) (k : Fin 1024), (V c main_v4 (ix2 f k) : EReal) = (P.up f k : EReal)
  down : ∀ (f : Fin 2816) (k : Fin 1024), (V c main_v5 (ix2 f k) : EReal) = (P.down f k : EReal)

/-- The token whose row is row `p` of block `t`. -/
abbrev tok1 (t : Fin cfg1.N) (p : Fin 256) : Fin 8192 :=
  ⟨t * 256 + p, by have := lt_of_lt_of_eq t.isLt N_1; omega⟩

variable {P X Y V c} (h : DgradIn P X Y V c)
include h

/-- The blocks the body reads at point `t` hold the rows from `256 t` on, and the parameters. -/
theorem bwd_blocks (t : Fin cfg1.N) (p : Fin 256) :
    DgradBlocks P (X (tok1 t p)) (Y (tok1 t p)) p (iblk1 V c 0 t) (iblk1 V c 1 t) (iblk1 V c 2 t) (iblk1 V c 3 t)
      (iblk1 V c 4 t) (iblk1 V c 5 t) (iblk1 V c 6 t) (iblk1 V c 7 t) where
  hx k := (show _ = V c main_arg0 (ix2 (tok1 t p) k) by blk_ext [iblk1, bwd_idx t]).trans (h.x _ k)
  gain k := (show _ = V c main_v0 (ix2 (0 : Fin 1) k) by blk_ext [iblk1, bwd_idx t]).trans (h.gain k)
  hy k := (show _ = V c main_arg5 (ix2 (tok1 t p) k) by blk_ext [iblk1, bwd_idx t]).trans (h.y _ k)
  slope f := (show _ = V c main_v6_3 (ix2 (tok1 t p) f) by blk_ext [iblk1, bwd_idx t]).trans (h.slope _ f)
  silu f := (show _ = V c main_v6_4 (ix2 (tok1 t p) f) by blk_ext [iblk1, bwd_idx t]).trans (h.silu _ f)
  gate f k := (show _ = V c main_v2 (ix2 f k) by blk_ext [iblk1, bwd_idx t]).trans (h.gate f k)
  up f k := (show _ = V c main_v4 (ix2 f k) by blk_ext [iblk1, bwd_idx t]).trans (h.up f k)
  down f k := (show _ = V c main_v5 (ix2 f k) by blk_ext [iblk1, bwd_idx t]).trans (h.down f k)

theorem dx_at (t : Fin cfg1.N) (p : Fin 256) (k : Fin 1024) :
    (outsAt1 V c t.val t.isLt).1 (ix2 p k) = (P.dx (X (tok1 t p)) (Y (tok1 t p)) k : EReal) := by
  by_cases h0 : t.val % 32 = 0
  · rw [outsAt1_A V c t h0]; frame_out
    exact dx_block (bwd_blocks h t p) k
  · rw [outsAt1_B V c t h0]; frame_out
    exact dx_block (bwd_blocks h t p) k

theorem da_at (t : Fin cfg1.N) (p : Fin 256) (f : Fin 2816) :
    (outsAt1 V c t.val t.isLt).2.1 (ix2 p f) = (P.da (X (tok1 t p)) (Y (tok1 t p)) f : EReal) := by
  by_cases h0 : t.val % 32 = 0
  · rw [outsAt1_A V c t h0]; frame_out
    canon_tiles i hi
    · obtain ⟨q, rfl, rfl⟩ := at_hi hi0 hi1; exact da_hi (bwd_blocks h t p) q
    · obtain ⟨q, rfl, rfl⟩ := at_lo hi0 hi1; exact da_lo (bwd_blocks h t p) q
  · rw [outsAt1_B V c t h0]; frame_out
    canon_tiles i hi
    · obtain ⟨q, rfl, rfl⟩ := at_hi hi0 hi1; exact da_hi (bwd_blocks h t p) q
    · obtain ⟨q, rfl, rfl⟩ := at_lo hi0 hi1; exact da_lo (bwd_blocks h t p) q

theorem du_at (t : Fin cfg1.N) (p : Fin 256) (f : Fin 2816) :
    (outsAt1 V c t.val t.isLt).2.2.1 (ix2 p f) = (P.du (X (tok1 t p)) (Y (tok1 t p)) f : EReal) := by
  by_cases h0 : t.val % 32 = 0
  · rw [outsAt1_A V c t h0]; frame_out
    canon_tiles i hi
    · obtain ⟨q, rfl, rfl⟩ := at_hi hi0 hi1; exact du_hi (bwd_blocks h t p) q
    · obtain ⟨q, rfl, rfl⟩ := at_lo hi0 hi1; exact du_lo (bwd_blocks h t p) q
  · rw [outsAt1_B V c t h0]; frame_out
    canon_tiles i hi
    · obtain ⟨q, rfl, rfl⟩ := at_hi hi0 hi1; exact du_hi (bwd_blocks h t p) q
    · obtain ⟨q, rfl, rfl⟩ := at_lo hi0 hi1; exact du_lo (bwd_blocks h t p) q

theorem dy_at (t : Fin cfg1.N) (p : Fin 256) (k : Fin 1024) :
    (outsAt1 V c t.val t.isLt).2.2.2.1 (ix2 p k) = (Par.dy (Y (tok1 t p)) k : EReal) := by
  by_cases h0 : t.val % 32 = 0
  · rw [outsAt1_A V c t h0]; frame_out
    exact dy_block (bwd_blocks h t p) k
  · rw [outsAt1_B V c t h0]; frame_out
    exact dy_block (bwd_blocks h t p) k

theorem dx_array (i : Fin 8192) (k : Fin 1024) :
    ((dat1 V c).arrAt 8 cfg1.N (ix2 i k) : EReal) = (P.dx (X i) (Y i) k : EReal) := by
  refine congrFun ((dat1 V c).arrAt_eq_of_covers 8 (fun j => (P.dx (X (j 0)) (Y (j 0)) (j 1) : EReal)) (by decide +kernel)
    fun t _ y => ?_) (ix2 i k)
  blk_simp
  rw [after1_8]
  obtain ⟨p, k, rfl⟩ := ex_row y
  rw [show (win1_8.blk t).view.emb (ix2 p k) = ix2 (tok1 t p) k by blk_ext [bwd_idx t]]
  exact dx_at h t p k

theorem da_array (i : Fin 8192) (f : Fin 2816) :
    ((dat1 V c).arrAt 9 cfg1.N (ix2 i f) : EReal) = (P.da (X i) (Y i) f : EReal) := by
  refine congrFun ((dat1 V c).arrAt_eq_of_covers 9 (fun j => (P.da (X (j 0)) (Y (j 0)) (j 1) : EReal)) (by decide +kernel)
    fun t _ y => ?_) (ix2 i f)
  blk_simp
  rw [after1_9]
  obtain ⟨p, f, rfl⟩ := ex_wide y
  rw [show (win1_9.blk t).view.emb (ix2 p f) = ix2 (tok1 t p) f by blk_ext [bwd_idx t]]
  exact da_at h t p f

theorem du_array (i : Fin 8192) (f : Fin 2816) :
    ((dat1 V c).arrAt 10 cfg1.N (ix2 i f) : EReal) = (P.du (X i) (Y i) f : EReal) := by
  refine congrFun ((dat1 V c).arrAt_eq_of_covers 10 (fun j => (P.du (X (j 0)) (Y (j 0)) (j 1) : EReal)) (by decide +kernel)
    fun t _ y => ?_) (ix2 i f)
  blk_simp
  rw [after1_10]
  obtain ⟨p, f, rfl⟩ := ex_wide y
  rw [show (win1_10.blk t).view.emb (ix2 p f) = ix2 (tok1 t p) f by blk_ext [bwd_idx t]]
  exact du_at h t p f

theorem dy_array (i : Fin 8192) (k : Fin 1024) :
    ((dat1 V c).arrAt 11 cfg1.N (ix2 i k) : EReal) = (Par.dy (Y i) k : EReal) := by
  refine congrFun ((dat1 V c).arrAt_eq_of_covers 11 (fun j => (Par.dy (Y (j 0)) (j 1) : EReal)) (by decide +kernel)
    fun t _ y => ?_) (ix2 i k)
  blk_simp
  rw [after1_11]
  obtain ⟨p, k, rfl⟩ := ex_row y
  rw [show (win1_11.blk t).view.emb (ix2 p k) = ix2 (tok1 t p) k by blk_ext [bwd_idx t]]
  exact dy_at h t p k

/-- One point's addition to the resident block of the gain's gradient. -/
theorem dg_step (t : Fin cfg1.N) (acc : Vec Ideal S1x1024 .f32) (j : S1x1024.Idx) :
    k1_pay2 (k1_pay6 (iblk1 V c 0 t))
        (dhBlock (iblk1 V c 2 t) (iblk1 V c 3 t) (iblk1 V c 4 t) (iblk1 V c 5 t) (iblk1 V c 6 t) (iblk1 V c 7 t)) acc j
      = acc j + ((∑ p, P.dg (X (tok1 t p)) (Y (tok1 t p)) (j 1) : ℝ) : EReal) := by
  obtain ⟨k, rfl⟩ : ∃ k : Fin 1024, j = ix2 (0 : Fin 1) k :=
    ⟨j 1, funext fun a => match a with | ⟨0, _⟩ => Subsingleton.elim (α := Fin 1) _ _ | ⟨1, _⟩ => rfl⟩
  exact dg_rows P (fun p => X (tok1 t p)) (fun p => Y (tok1 t p)) _ _ acc (fun p => (bwd_blocks h t p).hx)
    (fun p => dh_block (bwd_blocks h t p)) k

/-- The gain's gradient: the rows of all tokens summed. -/
theorem dg_array (k : Fin 1024) :
    ((dat1 V c).arrAt 12 cfg1.N (ix2 (0 : Fin 1) k) : EReal) = ((∑ i, P.dg (X i) (Y i) k : ℝ) : EReal) := by
  refine congrFun ((dat1 V c).arrAt_eq_of_covers 12 (fun j => ((∑ i, P.dg (X i) (Y i) (j 1) : ℝ) : EReal))
    (by decide +kernel) fun t hf y => ?_) (ix2 (0 : Fin 1) k)
  blk_simp
  rw [after1_12, Pipeline.eq_sum_fin_of_reset_step_apply_of_flush (fun n h => (outsAt1 V c n h).2.2.2.2) 32 (fun _ => 0)
    (fun t j => ((∑ p, P.dg (X (tok1 t p)) (Y (tok1 t p)) (j 1) : ℝ) : EReal))
    (fun t h0 j => by
      rw [outsAt1_A V c t h0]; frame_out
      exact (dg_step h t _ j).trans (congrArg (· + _) (show k1_pay1 (F := Ideal) j = 0 by pointwise [k1_pay1])))
    (fun t h0 j => by rw [outsAt1_B V c t h0]; frame_out; exact dg_step h t _ j)
    t ((flush1_12 t).mp hf) _, zero_add]
  have ht : t.val < 32 := lt_of_lt_of_eq t.isLt N_1
  have he : ((win1_12.blk t).view.emb y : S1x1024.Idx) = y := by blk_ext [bwd_idx t]
  show (_ : EReal) = _
  rw [he, coe_sum]
  refine congrArg _ (Fin.sum_mul_add_congr fun s p hl => ?_)
  rw [show tok1 ⟨32 * (t.val / 32) + s.val, _⟩ p = ⟨s.val * 256 + p.val, hl⟩ from Fin.ext (by dsimp only; omega)]

end Cert.Ffn

end
-- ==== Proof.Wgrad.lean ====
/- The three weight-gradient products: each of 8 points adds the product of 1024 tokens' rows to one resident block,
   which so ends as the sum over all 8192 tokens. -/
module

public import proofs.«01_k».proof.Proof.Spec
public import proofs.«01_k».proof.Proof.Gen.KernelIdeal.Frame.Region2
public import proofs.«01_k».proof.Proof.Gen.KernelIdeal.Frame.Region3
public import proofs.«01_k».proof.Proof.Gen.KernelIdeal.Frame.Region4

@[expose] public section

set_option maxRecDepth 16384

noncomputable section

namespace Cert.Ffn

open Idealize.ShloMosaic Idealize.ShloMosaic.TcCoe Idealize.SL.Sem
open Idealize.ShloMosaic.Pipeline (Dat)
open Cert.KernelIdeal Cert.KernelIdeal.Gen

variable (L : Fin 8192 → Fin 2816 → ℝ) (R : Fin 8192 → Row)

/-- Token `q` of the 1024 that point `t` of a product reads. -/
abbrev tok8 {n : ℕ} (hn : n = 8) (t : Fin n) (q : Fin 1024) : Fin 8192 := ⟨t * 1024 + q, by omega⟩

/-- The product over one point's tokens. -/
def part {n : ℕ} (hn : n = 8) (t : Fin n) (f : Fin 2816) (k : Fin 1024) : ℝ :=
  ∑ q, L (tok8 hn t q) f * R (tok8 hn t q) k

/-- The points' products sum to the product over all tokens. -/
theorem sum_part {n : ℕ} (hn : n = 8) (f : Fin 2816) (k : Fin 1024) :
    ∑ t : Fin n, (part L R hn t f k : EReal) = ((∑ i, L i f * R i k : ℝ) : EReal) := by
  subst hn
  rw [coe_sum]
  exact congrArg _ (Fin.sum_mul_add_congr fun t q hl => rfl)

variable {L R}

/-- The accumulating store: what was there plus the product over the point's tokens. -/
theorem wgrad_step (acc : Vec Ideal S2816x1024 .f32) (l : Vec Ideal S1024x2816 .bf16) (r : Vec Ideal S1024x1024 .bf16)
    {n : ℕ} (hn : n = 8) (t : Fin n) (hl : ∀ q f, l (ix2 q f) = (L (tok8 hn t q) f : EReal))
    (hr : ∀ q k, r (ix2 q k) = (R (tok8 hn t q) k : EReal))
    (j : S2816x1024.Idx) :
    k2_pay2 acc l r j = acc j + (part L R hn t (j 0) (j 1) : EReal) := by
  obtain ⟨f, k, rfl⟩ : ∃ (f : Fin 2816) (k : Fin 1024), j = ix2 f k :=
    ⟨j 0, j 1, funext fun a => match a with | ⟨0, _⟩ => rfl | ⟨1, _⟩ => rfl⟩
  pointwise [k2_pay2]
  simp only [hl, hr, ← EReal.coe_mul, coe_sum]
  rfl

/-- The first point's store, over the zero block. -/
theorem wgrad_first (l : Vec Ideal S1024x2816 .bf16) (r : Vec Ideal S1024x1024 .bf16)
    {n : ℕ} (hn : n = 8) (t : Fin n) (hl : ∀ q f, l (ix2 q f) = (L (tok8 hn t q) f : EReal))
    (hr : ∀ q k, r (ix2 q k) = (R (tok8 hn t q) k : EReal)) (j : S2816x1024.Idx) :
    k2_pay2 (k2_pay1 (F := Ideal)) l r j = 0 + (part L R hn t (j 0) (j 1) : EReal) :=
  (wgrad_step _ l r hn t hl hr j).trans (congrArg (· + _) (show k2_pay1 (F := Ideal) j = 0 by pointwise [k2_pay1]))

variable (V : (c : Dev nD) → (b : Ref sig .tc) → Buf (Elt Ideal) ((c : Thread nD τ).loc b)) (c : Dev nD)

theorem idx2 : ∀ t : Fin cfg2.N, win2_0.index t = ![t.val, 0] ∧ win2_1.index t = ![t.val, 0] ∧ win2_2.index t = ![0, 0] :=
  (by decide +kernel : ∀ t : Fin grid2.N, _)

/-- The first product's array. -/
theorem wgrad2 (hl : ∀ (i : Fin 8192) (f : Fin 2816), (V c main_v7_1 (ix2 i f) : EReal) = (L i f : EReal))
    (hr : ∀ (i : Fin 8192) (k : Fin 1024), (V c main_v6_1 (ix2 i k) : EReal) = (R i k : EReal))
    (f : Fin 2816) (k : Fin 1024) :
    ((dat2 V c).arrAt 2 cfg2.N (ix2 f k) : EReal) = ((∑ i, L i f * R i k : ℝ) : EReal) := by
  have el (t : Fin cfg2.N) (q f) : iblk2 V c 0 t (ix2 q f) = (L (tok8 N_2 t q) f : EReal) :=
    (show _ = V c main_v7_1 (ix2 (tok8 N_2 t q) f) by blk_ext [iblk2, idx2 t]).trans (hl _ f)
  have er (t : Fin cfg2.N) (q k) : iblk2 V c 1 t (ix2 q k) = (R (tok8 N_2 t q) k : EReal) :=
    (show _ = V c main_v6_1 (ix2 (tok8 N_2 t q) k) by blk_ext [iblk2, idx2 t]).trans (hr _ k)
  refine congrFun ((dat2 V c).arrAt_eq_of_after_last 2 t2_7 (by decide +kernel)
    (fun j => ((∑ i, L i (j 0) * R i (j 1) : ℝ) : EReal)) fun j => ?_) (ix2 f k)
  blk_simp
  rw [after2_2, Pipeline.eq_sum_fin_of_reset_step_apply_last (fun n h => outsAt2 V c n h) 8 (fun _ => 0)
    (fun t j => (part L R N_2 t (j 0) (j 1) : EReal))
    (fun t h j => by rw [outsAt2_A V c t h]; frame_out; exact wgrad_first _ _ _ t (el t) (er t) j)
    (fun t h j => by rw [outsAt2_B V c t h]; frame_out; exact wgrad_step _ _ _ _ t (el t) (er t) j)
    (le_of_eq N_2) t2_7 rfl j, zero_add]
  exact sum_part L R N_2 (j 0) (j 1)

theorem idx3 : ∀ t : Fin cfg3.N, win3_0.index t = ![t.val, 0] ∧ win3_1.index t = ![t.val, 0] ∧ win3_2.index t = ![0, 0] :=
  (by decide +kernel : ∀ t : Fin grid3.N, _)

/-- The second product's array. -/
theorem wgrad3 (hl : ∀ (i : Fin 8192) (f : Fin 2816), (V c main_v7_2 (ix2 i f) : EReal) = (L i f : EReal))
    (hr : ∀ (i : Fin 8192) (k : Fin 1024), (V c main_v6_1 (ix2 i k) : EReal) = (R i k : EReal))
    (f : Fin 2816) (k : Fin 1024) :
    ((dat3 V c).arrAt 2 cfg3.N (ix2 f k) : EReal) = ((∑ i, L i f * R i k : ℝ) : EReal) := by
  have el (t : Fin cfg3.N) (q f) : iblk3 V c 0 t (ix2 q f) = (L (tok8 N_3 t q) f : EReal) :=
    (show _ = V c main_v7_2 (ix2 (tok8 N_3 t q) f) by blk_ext [iblk3, idx3 t]).trans (hl _ f)
  have er (t : Fin cfg3.N) (q k) : iblk3 V c 1 t (ix2 q k) = (R (tok8 N_3 t q) k : EReal) :=
    (show _ = V c main_v6_1 (ix2 (tok8 N_3 t q) k) by blk_ext [iblk3, idx3 t]).trans (hr _ k)
  refine congrFun ((dat3 V c).arrAt_eq_of_after_last 2 t3_7 (by decide +kernel)
    (fun j => ((∑ i, L i (j 0) * R i (j 1) : ℝ) : EReal)) fun j => ?_) (ix2 f k)
  blk_simp
  rw [after3_2, Pipeline.eq_sum_fin_of_reset_step_apply_last (fun n h => outsAt3 V c n h) 8 (fun _ => 0)
    (fun t j => (part L R N_3 t (j 0) (j 1) : EReal))
    (fun t h j => by rw [outsAt3_A V c t h]; frame_out; exact wgrad_first _ _ _ t (el t) (er t) j)
    (fun t h j => by rw [outsAt3_B V c t h]; frame_out; exact wgrad_step _ _ _ _ t (el t) (er t) j)
    (le_of_eq N_3) t3_7 rfl j, zero_add]
  exact sum_part L R N_3 (j 0) (j 1)

theorem idx4 : ∀ t : Fin cfg4.N, win4_0.index t = ![t.val, 0] ∧ win4_1.index t = ![t.val, 0] ∧ win4_2.index t = ![0, 0] :=
  (by decide +kernel : ∀ t : Fin grid4.N, _)

/-- The third product's array. -/
theorem wgrad4 (hl : ∀ (i : Fin 8192) (f : Fin 2816), (V c main_v6_2 (ix2 i f) : EReal) = (L i f : EReal))
    (hr : ∀ (i : Fin 8192) (k : Fin 1024), (V c main_v7_3 (ix2 i k) : EReal) = (R i k : EReal))
    (f : Fin 2816) (k : Fin 1024) :
    ((dat4 V c).arrAt 2 cfg4.N (ix2 f k) : EReal) = ((∑ i, L i f * R i k : ℝ) : EReal) := by
  have el (t : Fin cfg4.N) (q f) : iblk4 V c 0 t (ix2 q f) = (L (tok8 N_4 t q) f : EReal) :=
    (show _ = V c main_v6_2 (ix2 (tok8 N_4 t q) f) by blk_ext [iblk4, idx4 t]).trans (hl _ f)
  have er (t : Fin cfg4.N) (q k) : iblk4 V c 1 t (ix2 q k) = (R (tok8 N_4 t q) k : EReal) :=
    (show _ = V c main_v7_3 (ix2 (tok8 N_4 t q) k) by blk_ext [iblk4, idx4 t]).trans (hr _ k)
  refine congrFun ((dat4 V c).arrAt_eq_of_after_last 2 t4_7 (by decide +kernel)
    (fun j => ((∑ i, L i (j 0) * R i (j 1) : ℝ) : EReal)) fun j => ?_) (ix2 f k)
  blk_simp
  rw [after4_2, Pipeline.eq_sum_fin_of_reset_step_apply_last (fun n h => outsAt4 V c n h) 8 (fun _ => 0)
    (fun t j => (part L R N_4 t (j 0) (j 1) : EReal))
    (fun t h j => by rw [outsAt4_A V c t h]; frame_out; exact wgrad_first _ _ _ t (el t) (er t) j)
    (fun t h j => by rw [outsAt4_B V c t h]; frame_out; exact wgrad_step _ _ _ _ t (el t) (er t) j)
    (le_of_eq N_4) t4_7 rfl j, zero_add]
  exact sum_part L R N_4 (j 0) (j 1)

end Cert.Ffn

end
-- ==== Proof.Values.lean ====
/- From the launch memory to the results: what the host's preparation hands each kernel call, and what each result
   array holds at the end, over real arguments. -/
module

public import proofs.«01_k».proof.Proof.Fwd
public import proofs.«01_k».proof.Proof.Dgrad
public import proofs.«01_k».proof.Proof.Wgrad
public import proofs.«01_k».proof.Proof.Gen.KernelIdeal.Frame.Fold0

@[expose] public section

set_option maxRecDepth 16384

noncomputable section

namespace Cert.Ffn

open Idealize.ShloMosaic Idealize.ShloMosaic.TcCoe Idealize.SL.Sem Idealize.ShloMosaic.StableHlo
open Cert.KernelIdeal Cert.KernelIdeal.Gen

variable (P : Par) (X Y : Fin 8192 → Row)
variable (m : (ℓ : Loc nD τ sig) → Buf (Elt Ideal) ℓ) (ρ : Dev nD → PrngReg) (c : Dev nD)

/-- The argument arrays hold the real input rows, parameters and cotangent rows. -/
structure ArgsIn : Prop where
  x : ∀ (i : Fin 8192) (k : Fin 1024), (m ((c : Thread nD τ).loc main_arg0) (ix2 i k) : EReal) = (X i k : EReal)
  gain : ∀ k : Fin 1024, (m ((c : Thread nD τ).loc main_arg1) (ix1 k) : EReal) = (P.gain k : EReal)
  gate : ∀ (f : Fin 2816) (k : Fin 1024), (m ((c : Thread nD τ).loc main_arg2) (ix2 k f) : EReal) = (P.gate f k : EReal)
  up : ∀ (f : Fin 2816) (k : Fin 1024), (m ((c : Thread nD τ).loc main_arg3) (ix2 k f) : EReal) = (P.up f k : EReal)
  down : ∀ (f : Fin 2816) (k : Fin 1024), (m ((c : Thread nD τ).loc main_arg4) (ix2 f k) : EReal) = (P.down f k : EReal)
  y : ∀ (i : Fin 8192) (k : Fin 1024), (m ((c : Thread nD τ).loc main_arg5) (ix2 i k) : EReal) = (Y i k : EReal)

/-! ## What the host prepares -/

theorem prep_gain (k : Fin 1024) :
    (V1 m ρ c main_v0 (ix2 (0 : Fin 1) k) : EReal) = m ((c : Thread nD τ).loc main_arg1) (ix1 k) := by
  rw [show V1 m ρ c main_v0 = broadcastInDim S1x1024 ![1] bcast_S1024_S1x1024_1 (m ((c : Thread nD τ).loc main_arg1)) by
    simp only [V1, W1, hostOps0]; after_results_simp <;> rfl]
  generalize m ((c : Thread nD τ).loc main_arg1) = v
  pointwise []

theorem prep_gate (f : Fin 2816) (k : Fin 1024) :
    (V1 m ρ c main_v2 (ix2 f k) : EReal) = m ((c : Thread nD τ).loc main_arg2) (ix2 k f) := by
  rw [show V1 m ρ c main_v2 = truncf (F := Ideal) .bf16 (transpose S2816x1024 [1, 0] (m ((c : Thread nD τ).loc main_arg2))
      transposes_S1024x2816_S2816x1024_1_0) bitsLt_bf16_f32 by
    simp only [V1, W1, hostOps0]; after_results_simp <;> rfl]
  generalize m ((c : Thread nD τ).loc main_arg2) = v
  pointwise []

theorem prep_up (f : Fin 2816) (k : Fin 1024) :
    (V1 m ρ c main_v4 (ix2 f k) : EReal) = m ((c : Thread nD τ).loc main_arg3) (ix2 k f) := by
  rw [show V1 m ρ c main_v4 = truncf (F := Ideal) .bf16 (transpose S2816x1024 [1, 0] (m ((c : Thread nD τ).loc main_arg3))
      transposes_S1024x2816_S2816x1024_1_0) bitsLt_bf16_f32 by
    simp only [V1, W1, hostOps0]; after_results_simp <;> rfl]
  generalize m ((c : Thread nD τ).loc main_arg3) = v
  pointwise []

theorem prep_down (f : Fin 2816) (k : Fin 1024) :
    (V1 m ρ c main_v5 (ix2 f k) : EReal) = m ((c : Thread nD τ).loc main_arg4) (ix2 f k) := by
  rw [show V1 m ρ c main_v5 = truncf (F := Ideal) .bf16 (m ((c : Thread nD τ).loc main_arg4)) bitsLt_bf16_f32 by
    simp only [V1, W1, hostOps0]; after_results_simp <;> rfl]
  rfl

variable {P X Y m c} (h : ArgsIn P X Y m c)
include h

theorem fwd_in : FwdIn P X (V1 m ρ) c where
  x i k := (congrFun (W1_args m ρ c main_arg0 (by decide)) _).trans (h.x i k)
  gain k := (prep_gain m ρ c k).trans (h.gain k)
  gate f k := (prep_gate m ρ c f k).trans (h.gate f k)
  up f k := (prep_up m ρ c f k).trans (h.up f k)
  down f k := (prep_down m ρ c f k).trans (h.down f k)

/-! ## What the later calls are given -/

theorem dgrad_in : DgradIn P X Y (V2 m ρ) c where
  x i k := (congrFun (W2_args m ρ c main_arg0 (by decide)) _).trans (h.x i k)
  gain k := (congrFun (W2_of m ρ c main_v0 (by decide +kernel)) _).trans ((fwd_in ρ h).gain k)
  y i k := (congrFun (W2_args m ρ c main_arg5 (by decide)) _).trans (h.y i k)
  slope i f := (congrFun (W2_arr m ρ c 8) _).trans (slope_array (fwd_in ρ h) i f)
  silu i f := (congrFun (W2_arr m ρ c 9) _).trans (silu_array (fwd_in ρ h) i f)
  gate f k := (congrFun (W2_of m ρ c main_v2 (by decide +kernel)) _).trans ((fwd_in ρ h).gate f k)
  up f k := (congrFun (W2_of m ρ c main_v4 (by decide +kernel)) _).trans ((fwd_in ρ h).up f k)
  down f k := (congrFun (W2_of m ρ c main_v5 (by decide +kernel)) _).trans ((fwd_in ρ h).down f k)

/-- The normalised rows, as the weight gradients' calls find them. -/
theorem hid_kept (i : Fin 8192) (k : Fin 1024) : (V3 m ρ c main_v6_1 (ix2 i k) : EReal) = (P.hid (X i) k : EReal) :=
  (congrFun (W3_of m ρ c main_v6_1 (by decide +kernel)) _).trans
    ((congrFun (W2_arr m ρ c 6) _).trans (h_array (fwd_in ρ h) i k))

/-! ## The results -/

theorem out_y (i : Fin 8192) (k : Fin 1024) :
    (W7 m ρ c (Proc.devRef .tc main_v6_0) (ix2 i k) : EReal) = (P.out (X i) k : EReal) :=
  (congrFun ((W7_of m ρ c main_v6_0 (by decide)).trans <| (W6_of m ρ c main_v6_0 (by decide +kernel)).trans <|
    (W5_of m ρ c main_v6_0 (by decide +kernel)).trans <| (W4_of m ρ c main_v6_0 (by decide +kernel)).trans <|
    (W3_of m ρ c main_v6_0 (by decide +kernel)).trans (W2_arr m ρ c 5)) _).trans (y_array (fwd_in ρ h) i k)

theorem out_dx (i : Fin 8192) (k : Fin 1024) :
    (W7 m ρ c (Proc.devRef .tc main_v7_0) (ix2 i k) : EReal) = (P.dx (X i) (Y i) k : EReal) :=
  (congrFun ((W7_of m ρ c main_v7_0 (by decide)).trans <| (W6_of m ρ c main_v7_0 (by decide +kernel)).trans <|
    (W5_of m ρ c main_v7_0 (by decide +kernel)).trans <| (W4_of m ρ c main_v7_0 (by decide +kernel)).trans
    (W3_arr m ρ c 8)) _).trans (dx_array (dgrad_in ρ h) i k)

theorem out_dg (k : Fin 1024) :
    (W7 m ρ c (Proc.devRef .tc main_v11) (ix1 k) : EReal) = ((∑ i, P.dg (X i) (Y i) k : ℝ) : EReal) := by
  rw [show W7 m ρ c (Proc.devRef .tc main_v11)
      = shapeCast S1024 (W6 m ρ c (Proc.devRef .tc main_v7_4)) shapeCasts_S1x1024_S1024 by
    simp only [W7, hostOps5]; after_results_simp <;> rfl]
  have e := (congrFun ((W6_of m ρ c main_v7_4 (by decide +kernel)).trans <|
    (W5_of m ρ c main_v7_4 (by decide +kernel)).trans <| (W4_of m ρ c main_v7_4 (by decide +kernel)).trans
    (W3_arr m ρ c 12)) (ix2 (0 : Fin 1) k)).trans (dg_array (dgrad_in ρ h) k)
  revert e
  generalize W6 m ρ c (Proc.devRef .tc main_v7_4) = v
  intro e
  pointwise []
  exact e

theorem out_dwg (f : Fin 2816) (k : Fin 1024) : (W7 m ρ c (Proc.devRef .tc main_v8) (ix2 f k) : EReal)
    = ((∑ i, P.da (X i) (Y i) f * P.hid (X i) k : ℝ) : EReal) :=
  (congrFun ((W7_of m ρ c main_v8 (by decide)).trans <| (W6_of m ρ c main_v8 (by decide +kernel)).trans <|
    (W5_of m ρ c main_v8 (by decide +kernel)).trans (W4_arr m ρ c 2)) _).trans
    (wgrad2 (V3 m ρ) c (L := fun i f => P.da (X i) (Y i) f) (R := fun i k => P.hid (X i) k)
      (fun i f => (congrFun (W3_arr m ρ c 9) _).trans (da_array (dgrad_in ρ h) i f)) (hid_kept ρ h) f k)

theorem out_dwu (f : Fin 2816) (k : Fin 1024) : (W7 m ρ c (Proc.devRef .tc main_v9) (ix2 f k) : EReal)
    = ((∑ i, P.du (X i) (Y i) f * P.hid (X i) k : ℝ) : EReal) :=
  (congrFun ((W7_of m ρ c main_v9 (by decide)).trans <| (W6_of m ρ c main_v9 (by decide +kernel)).trans
    (W5_arr m ρ c 2)) _).trans
    (wgrad3 (V4 m ρ) c (L := fun i f => P.du (X i) (Y i) f) (R := fun i k => P.hid (X i) k)
      (fun i f => (congrFun ((W4_of m ρ c main_v7_2 (by decide +kernel)).trans (W3_arr m ρ c 10)) _).trans
        (du_array (dgrad_in ρ h) i f))
      (fun i k => (congrFun (W4_of m ρ c main_v6_1 (by decide +kernel)) _).trans (hid_kept ρ h i k)) f k)

theorem out_dwd (f : Fin 2816) (k : Fin 1024) : (W7 m ρ c (Proc.devRef .tc main_v10) (ix2 f k) : EReal)
    = ((∑ i, P.s (X i) f * Par.dy (Y i) k : ℝ) : EReal) :=
  (congrFun ((W7_of m ρ c main_v10 (by decide)).trans (W6_arr m ρ c 2)) _).trans
    (wgrad4 (V5 m ρ) c (L := fun i f => P.s (X i) f) (R := fun i k => Par.dy (Y i) k)
      (fun i f => (congrFun ((W5_of m ρ c main_v6_2 (by decide +kernel)).trans <|
        (W4_of m ρ c main_v6_2 (by decide +kernel)).trans <| (W3_of m ρ c main_v6_2 (by decide +kernel)).trans
        (W2_arr m ρ c 7)) _).trans (s_array (fwd_in ρ h) i f))
      (fun i k => (congrFun ((W5_of m ρ c main_v7_3 (by decide +kernel)).trans <|
        (W4_of m ρ c main_v7_3 (by decide +kernel)).trans (W3_arr m ρ c 11)) _).trans (dy_array (dgrad_in ρ h) i k)) f k)

end Cert.Ffn

end
-- ==== Proof.Equation.lean ====
/- The value claim: from finite arguments the kernel program and the reference end with the same six arrays. -/
module

public import proofs.«01_k».proof.Defs
public import proofs.«01_k».proof.Proof.Finite
public import proofs.«01_k».proof.Proof.RefRow
public import proofs.«01_k».proof.Proof.RunValues
public import proofs.«01_k».proof.Proof.Values
public import Idealize.ShloMosaic.Lib.Claim

@[expose] public section

set_option maxRecDepth 16384

noncomputable section

namespace Cert.Ffn

open Idealize.ShloMosaic Idealize.ShloMosaic.TcCoe Idealize.SL.Sem

/-- Two arrays of rank two that hold the same extended reals are equal. -/
theorem ext2 {n₀ n₁ : ℕ} (f g : (⟨2, ![n₀, n₁]⟩ : Shape).Idx → EReal)
    (h : ∀ (a : Fin n₀) (b : Fin n₁), f (ix2 a b) = g (ix2 a b)) : f = g :=
  funext fun i => by rw [eq_ix2 i]; exact h _ _

/-- Two arrays of rank one that hold the same extended reals are equal. -/
theorem ext1 {n₀ : ℕ} (f g : (⟨1, ![n₀]⟩ : Shape).Idx → EReal) (h : ∀ a : Fin n₀, f (ix1 a) = g (ix1 a)) : f = g :=
  funext fun i => by rw [eq_ix1 i]; exact h _

section

open Cert.KernelIdeal

variable (m : (ℓ : Loc nD τ sig) → Buf (Elt Ideal) ℓ) (c : Dev nD)

/-- The real rows and parameters that the kernel program's argument arrays hold. -/
def rowsX : Fin 8192 → Row := fun i k => EReal.toReal (m ((c : Thread nD τ).loc main_arg0) (ix2 i k))
def rowsY : Fin 8192 → Row := fun i k => EReal.toReal (m ((c : Thread nD τ).loc main_arg5) (ix2 i k))
def par : Par where
  gain k := EReal.toReal (m ((c : Thread nD τ).loc main_arg1) (ix1 k))
  gate f k := EReal.toReal (m ((c : Thread nD τ).loc main_arg2) (ix2 k f))
  up f k := EReal.toReal (m ((c : Thread nD τ).loc main_arg3) (ix2 k f))
  down f k := EReal.toReal (m ((c : Thread nD τ).loc main_arg4) (ix2 f k))

theorem args_in (h : Cert.Pre_KernelIdeal_finite (hPre_finite := Cert.Pre_finite.Gen.facts) m) :
    ArgsIn (par m c) (rowsX m c) (rowsY m c) m c := by
  obtain ⟨h0, h1, h2, h3, h4, h5⟩ := real_of_finite _ _ _ _ _ _ (h c)
  exact ⟨fun _ _ => h0 _, fun _ => h1 _, fun _ _ => h2 _, fun _ _ => h3 _, fun _ _ => h4 _, fun _ _ => h5 _⟩

end

theorem algebraic : Cert.algebraic_KernelIdeal_ReferenceIdeal_pre_finite (hKernelIdeal := Cert.KernelIdeal.Gen.facts)
    (hReferenceIdeal := Cert.ReferenceIdeal.Gen.facts) (hPre_finite := Cert.Pre_finite.Gen.facts) := by
  intro m g m' g' hpre hagree
  have hin c := args_in m c hpre
  have href c := RefArgs.mk (P := par m c) (X := rowsX m c) (Y := rowsY m c) (hin c).x (hin c).gain (hin c).gate
    (hin c).up (hin c).down (hin c).y
  refine ⟨_, _, _, _, _, _, (θ_run _ _ _).mono (fun r h c => ⟨h c _ (by decide), h c _ (by decide), h c _ (by decide),
    h c _ (by decide), h c _ (by decide), h c _ (by decide), ?_, ?_, ?_, ?_, ?_, ?_⟩) (run_buffers m g), ?_⟩
  · exact (h c _ (by decide)).trans (Cert.KernelIdeal.Gen.W7_main_arg0 m g c)
  · exact (h c _ (by decide)).trans (Cert.KernelIdeal.Gen.W7_main_arg1 m g c)
  · exact (h c _ (by decide)).trans (Cert.KernelIdeal.Gen.W7_main_arg2 m g c)
  · exact (h c _ (by decide)).trans (Cert.KernelIdeal.Gen.W7_main_arg3 m g c)
  · exact (h c _ (by decide)).trans (Cert.KernelIdeal.Gen.W7_main_arg4 m g c)
  · exact (h c _ (by decide)).trans (Cert.KernelIdeal.Gen.W7_main_arg5 m g c)
  refine (θ_run _ _ _).mono (fun r h c => ?_) (Cert.ReferenceIdeal.Value.run m' g')
  obtain ⟨a0, a1, a2, a3, a4, a5⟩ := hagree c
  obtain ⟨r0, r1, r2, r3, r4, r5, hargs⟩ := h c
  rw [Cert.ReferenceIdeal.Read.val_main_v60_eq] at r1
  rw [Cert.ReferenceIdeal.Read.val_main_v45_eq] at r2
  rw [Cert.ReferenceIdeal.Read.val_main_v61_eq] at r3
  rw [Cert.ReferenceIdeal.Read.val_main_v23_eq] at r0
  rw [Cert.ReferenceIdeal.Read.val_main_v62_eq] at r4
  rw [Cert.ReferenceIdeal.Read.val_main_v28_eq] at r5
  rw [a0, a1, a2, a3, a4] at r0
  rw [a0, a1, a2, a3, a4, a5] at r1 r2 r3
  rw [a0, a1, a2, a4, a5] at r4
  rw [a0, a1, a2, a3, a5] at r5
  refine ⟨r0.trans (ext2 _ _ fun i k => ?_), r1.trans (ext2 _ _ fun i k => ?_), r2.trans (ext1 _ _ fun k => ?_),
    r3.trans (ext2 _ _ fun f k => ?_), r4.trans (ext2 _ _ fun f k => ?_), r5.trans (ext2 _ _ fun f k => ?_), hargs⟩
  · exact (ref_out (href c) i k).trans (out_y g (hin c) i k).symm
  · exact (ref_dx (href c) i k).trans (out_dx g (hin c) i k).symm
  · exact (ref_dg (href c) k).trans (out_dg g (hin c) k).symm
  · exact (ref_dwg (href c) k f).trans (out_dwg g (hin c) f k).symm
  · exact (ref_dwu (href c) k f).trans (out_dwu g (hin c) f k).symm
  · exact (ref_dwd (href c) k f).trans (out_dwd g (hin c) f k).symm

end Cert.Ffn

end
-- ==== Proof.AttSpec.lean ====
/- Causal softmax attention over the real numbers, one query row at a time: the running maximum, the running sum of
   weights and the running weighted sum of values which the kernel carries from key block to key block, what they are
   after `n` keys, and the output and the logarithm of the sum they end in. -/
module

public import proofs.«01_k».proof.Proof.Spec

@[expose] public section

noncomputable section

namespace Cert.Att

open Idealize.ShloMosaic
open Cert.Ffn (coe_sum)

/-- One over the square root of the 192 lanes of a head. -/
def scale : ℝ := (Real.sqrt 192)⁻¹
/-- The scale of a score whose weight is a power of two. -/
def scale2 : ℝ := (Real.sqrt 192)⁻¹ * (Real.log 2)⁻¹

/-- A power of two at the scale of base two is the exponential at the scale. -/
theorem exp2_real (a : ℝ) : Ideal.exp2 ((a : EReal) * (scale2 : EReal)) = (Real.exp (scale * a) : EReal) := by
  rw [← EReal.coe_mul, Ideal.exp2_coe]
  have h : Real.log 2 ≠ 0 := (Real.log_pos (by norm_num)).ne'
  congr 1
  change (2 : ℝ) ^ (a * scale2) = _
  rw [Real.rpow_def_of_pos (by norm_num)]
  congr 1
  unfold scale2 scale
  field_simp

/-- The weight of a masked score is zero. -/
theorem exp2_masked (M : ℝ) : Ideal.exp2 (((⊥ : EReal) - (M : EReal)) * (scale2 : EReal)) = 0 := by
  have h : (0 : ℝ) < scale2 := by
    unfold scale2
    exact mul_pos (inv_pos.mpr (Real.sqrt_pos.mpr (by norm_num))) (inv_pos.mpr (Real.log_pos (by norm_num)))
  rw [sub_eq_add_neg, EReal.bot_add, EReal.bot_mul_coe_of_pos h, Ideal.exp2_bot]

/-- What the kernel carries for a query row: the maximum of the scores so far, the sum of the weights, and the
weighted sum of the values. -/
@[ext] structure Carry where
  m : EReal
  l : EReal
  acc : Fin 128 → EReal

namespace Carry

variable {W : ℕ}

/-- The maximum after a further block of scores. -/
def next (r : Carry) (s : Fin W → EReal) : EReal := max r.m (Finset.fold max ⊥ s Finset.univ)

/-- What is carried after a further block of scores `s` and values `v`. -/
def step (r : Carry) (s : Fin W → EReal) (v : Fin W → Fin 128 → EReal) : Carry where
  m := r.next s
  l := Ideal.exp2 ((r.m - r.next s) * (scale2 : EReal)) * r.l
    + ∑ j, Ideal.exp2 ((s j - r.next s) * (scale2 : EReal))
  acc d := Ideal.exp2 ((r.m - r.next s) * (scale2 : EReal)) * r.acc d
    + ∑ j, Ideal.exp2 ((s j - r.next s) * (scale2 : EReal)) * v j d

end Carry

variable (x : ℕ → ℝ) (V : ℕ → Fin 128 → ℝ)

/-- The sum of the weights of the first `n` keys, relative to `M`. -/
def weight (n : ℕ) (M : ℝ) : ℝ := ∑ c ∈ Finset.range n, Real.exp (scale * (x c - M))
/-- The weighted sum of the values of the first `n` keys, relative to `M`. -/
def mean (n : ℕ) (M : ℝ) (d : Fin 128) : ℝ := ∑ c ∈ Finset.range n, Real.exp (scale * (x c - M)) * V c d

/-- What is carried once the first `n` keys have been read. -/
def Holds (n : ℕ) (r : Carry) : Prop :=
  (n = 0 ∧ r.m = ⊥ ∧ r.l = 0 ∧ ∀ d, r.acc d = 0)
  ∨ ∃ M : ℝ, r.m = (M : EReal) ∧ r.l = (weight x n M : EReal) ∧ ∀ d, r.acc d = (mean x V n M d : EReal)

/-- Moving the reference maximum scales every weight alike. -/
theorem exp_shift (a M M' : ℝ) : Real.exp (scale * (M - M')) * Real.exp (scale * (a - M)) = Real.exp (scale * (a - M')) := by
  rw [← Real.exp_add]; congr 1; ring

theorem weight_shift (n : ℕ) (M M' : ℝ) : Real.exp (scale * (M - M')) * weight x n M = weight x n M' := by
  simp only [weight, Finset.mul_sum, exp_shift]

theorem mean_shift (n : ℕ) (M M' : ℝ) (d : Fin 128) : Real.exp (scale * (M - M')) * mean x V n M d = mean x V n M' d := by
  simp only [mean, Finset.mul_sum, ← mul_assoc, exp_shift]

/-- A fold of the maximum over reals and `⊥`, some entry real, is real. -/
theorem fold_max_real {W : ℕ} (s : Fin W → EReal) (hs : ∀ j, s j ≠ ⊤) (j0 : Fin W) (h0 : s j0 ≠ ⊥) :
    ∃ M : ℝ, Finset.fold max ⊥ s Finset.univ = (M : EReal) := by
  have ht : Finset.fold max ⊥ s Finset.univ ≠ ⊤ := by
    rw [← lt_top_iff_ne_top, Finset.fold_max_lt]
    exact ⟨bot_lt_top, fun j _ => lt_top_iff_ne_top.mpr (hs j)⟩
  have hb : Finset.fold max ⊥ s Finset.univ ≠ ⊥ := by
    rw [← bot_lt_iff_ne_bot, Finset.lt_fold_max]
    exact Or.inr ⟨j0, Finset.mem_univ _, bot_lt_iff_ne_bot.mpr h0⟩
  exact ⟨_, (EReal.coe_toReal ht hb).symm⟩

/-- A sum over a block of `W` keys of which the first `N` count, joined to the sum over the keys before it. -/
theorem sum_block {W : ℕ} (n N : ℕ) (hN : N ≤ W) (f : ℕ → ℝ) :
    ∑ c ∈ Finset.range n, f c + ∑ j : Fin W, (if j.val < N then f (n + j) else 0) = ∑ c ∈ Finset.range (n + N), f c := by
  rw [Finset.sum_range_add, Finset.sum_range (fun i => f (n + i))]
  congr 1
  rw [← Finset.sum_filter]
  refine (Finset.sum_bij' (fun j _ => Fin.castLE hN j) (fun j hj => ⟨j.val, (Finset.mem_filter.mp hj).2⟩) ?_ ?_ ?_ ?_ ?_).symm
  all_goals simp

/-- One more block of keys, of which the first `N` are not masked. -/
theorem Holds.step {n : ℕ} {r : Carry} (h : Holds x V n r) {W : ℕ} (N : ℕ) (h0 : 0 < N) (hN : N ≤ W)
    (s : Fin W → EReal) (v : Fin W → Fin 128 → EReal) (hs : ∀ j, s j = if j.val < N then (x (n + j) : EReal) else ⊥)
    (hv : ∀ j d, v j d = (V (n + j) d : EReal)) : Holds x V (n + N) (r.step s v) := by
  obtain ⟨B, hB⟩ := fold_max_real s (fun j => by rw [hs]; split <;> simp) ⟨0, by omega⟩ (by rw [hs, if_pos h0]; simp)
  have hw : ∀ (M : ℝ) (j : Fin W), Ideal.exp2 ((s j - (M : EReal)) * (scale2 : EReal))
      = ((if j.val < N then Real.exp (scale * (x (n + j) - M)) else 0 : ℝ) : EReal) := by
    intro M j
    rw [hs]
    split
    · rw [← EReal.coe_sub, exp2_real]
    · rw [exp2_masked, EReal.coe_zero]
  have hwv : ∀ (M : ℝ) (d : Fin 128) (j : Fin W), Ideal.exp2 ((s j - (M : EReal)) * (scale2 : EReal)) * v j d
      = ((if j.val < N then Real.exp (scale * (x (n + j) - M)) * V (n + j) d else 0 : ℝ) : EReal) := by
    intro M d j
    rw [hw, hv, ← EReal.coe_mul]
    split <;> simp
  refine Or.inr ?_
  rcases h with ⟨rfl, hm, hl, ha⟩ | ⟨M, hm, hl, ha⟩
  · have hnx : r.next s = (B : EReal) := by rw [Carry.next, hm, hB]; exact max_eq_right bot_le
    refine ⟨B, hnx, ?_, fun d => ?_⟩
    · change _ * _ + ∑ j, _ = _
      rw [hnx, hl, mul_zero, zero_add]
      simp only [hw, coe_sum]
      rw [weight, ← sum_block 0 N hN]; simp
    · change _ * _ + ∑ j, _ = _
      rw [hnx, ha, mul_zero, zero_add]
      simp only [hwv, coe_sum]
      rw [mean, ← sum_block 0 N hN]; simp
  · have hnx : r.next s = ((max M B : ℝ) : EReal) := by rw [Carry.next, hm, hB]; exact (EReal.coe_strictMono.monotone.map_max).symm
    generalize max M B = M' at hnx
    refine ⟨M', hnx, ?_, fun d => ?_⟩
    · change _ * _ + ∑ j, _ = _
      rw [hnx, hl, hm, ← EReal.coe_sub, exp2_real, ← EReal.coe_mul, weight_shift]
      simp only [hw, coe_sum]
      rw [← EReal.coe_add, weight, weight, ← sum_block n N hN]
    · change _ * _ + ∑ j, _ = _
      rw [hnx, ha, hm, ← EReal.coe_sub, exp2_real, ← EReal.coe_mul, mean_shift]
      simp only [hwv, coe_sum]
      rw [← EReal.coe_add, mean, mean, ← sum_block n N hN]

/-- A run of blocks of `W` keys, none masked. -/
theorem Holds.run {n W : ℕ} (hW : 0 < W) (f : ℕ → Carry) (T : ℕ) (h : Holds x V n (f 0))
    (hf : ∀ k < T, ∃ (s : Fin W → EReal) (v : Fin W → Fin 128 → EReal), f (k + 1) = (f k).step s v
      ∧ (∀ j, s j = (x (n + W * k + j) : EReal)) ∧ ∀ j d, v j d = (V (n + W * k + j) d : EReal)) :
    Holds x V (n + W * T) (f T) := by
  induction T with
  | zero => simpa using h
  | succ T ih =>
    obtain ⟨s, v, e, hs, hv⟩ := hf T (Nat.lt_succ_self T)
    rw [e, Nat.mul_succ, ← Nat.add_assoc]
    exact Holds.step x V (ih fun k hk => hf k (Nat.lt_succ_of_lt hk)) W hW le_rfl s v (fun j => by rw [hs, if_pos j.isLt]) hv

/-! ## What a row ends in -/

/-- The attention output of a row that sees the first `n` keys. -/
def out (n : ℕ) (d : Fin 128) : ℝ := mean x V n 0 d / weight x n 0
/-- The logarithm of the sum of the exponentials of a row's scaled scores. -/
def lse (n : ℕ) : ℝ := Real.log (weight x n 0)

theorem weight_pos {n : ℕ} (hn : 0 < n) (M : ℝ) : 0 < weight x n M :=
  Finset.sum_pos (fun _ _ => Real.exp_pos _) (by simpa using hn.ne')

theorem out_shift (n : ℕ) (M : ℝ) (d : Fin 128) : mean x V n M d / weight x n M = out x V n d := by
  rw [out, ← mean_shift x V n M 0, ← weight_shift x n M 0, mul_div_mul_left _ _ (Real.exp_pos _).ne']

theorem lse_shift {n : ℕ} (hn : 0 < n) (M : ℝ) : M * scale + Real.log (weight x n M) = lse x n := by
  rw [lse, ← weight_shift x n M 0, Real.log_mul (Real.exp_pos _).ne' (weight_pos x hn M).ne', Real.log_exp]
  ring

/-- The row's output and logarithm from what is carried at its end. -/
theorem Holds.final {n : ℕ} (hn : 0 < n) {r : Carry} (h : Holds x V n r) :
    (∀ d, Ideal.div (r.acc d) r.l = (out x V n d : EReal))
    ∧ r.m * (scale : EReal) + Ideal.log r.l = (lse x n : EReal) := by
  rcases h with ⟨h, -⟩ | ⟨M, hm, hl, ha⟩
  · omega
  have hw := weight_pos x hn M
  refine ⟨fun d => ?_, ?_⟩
  · rw [ha, hl, Ideal.div_coe hw.ne', ← EReal.coe_mul, mul_one_div, out_shift]
  · rw [hm, hl, Ideal.log_coe, if_neg (not_le.mpr hw), ← EReal.coe_mul, ← EReal.coe_add, lse_shift x hn]

end Cert.Att

end
-- ==== Proof.AttStep.lean ====
/- The attention kernel's stores at one query row: a wide block of keys takes the carried maximum, sum and weighted
   sum one step. -/
module

public import proofs.«01_k».proof.Proof.AttSpec
public import proofs.«01_k».proof.Proof.Gen.Kernel2Ideal.Skeleton
public import Idealize.ShloMosaic.Lib.Pipeline.ValueKit

@[expose] public section

set_option maxRecDepth 16384

noncomputable section

namespace Cert.Att

open Idealize.ShloMosaic Idealize.SL.Sem
open Cert.Kernel2Ideal Cert.Kernel2Ideal.Gen

/-! ## The constants -/

theorem neg_inf : Ideal.ofBits .f32 0xFF800000#32 = ⊥ := by simp [Ideal.ofBits, Ideal.ieee]
theorem masked_eq : Named.named (F := Ideal) κ "masked" (φ := .f32) 0xF149F2CA#32 = ⊥ :=
  (IdealRules.named_const.statement κ "masked" .f32 0xF149F2CA#32 ⊥ rfl).2.2
theorem scale_eq : Named.named (F := Ideal) κ "scale" (φ := .f32) 0x3D93CD3A#32 = (scale : EReal) :=
  (IdealRules.named_const.statement κ "scale" .f32 0x3D93CD3A#32 _ rfl).2.2
theorem scale2_eq : Named.named (F := Ideal) κ "scale2" (φ := .f32) 0x3DD53B95#32 = (scale2 : EReal) :=
  (IdealRules.named_const.statement κ "scale2" .f32 0x3DD53B95#32 _ rfl).2.2

/-- What the kernel carries for the 512 rows of a block of queries. -/
abbrev State := FVec Ideal S512x1 .f32 × FVec Ideal S512x1 .f32 × FVec Ideal S512x128 .f32

/-- One row of it. -/
def State.row (T : State) (p : Fin 512) : Carry := ⟨T.1 (ix2 p 0), T.2.1 (ix2 p 0), fun d => T.2.2 (ix2 p d)⟩

/-- The scores of a query row against a block of keys. -/
def scores {W : ℕ} (q : Fin 256 → EReal) (k : Fin W → Fin 256 → EReal) (j : Fin W) : EReal := ∑ e, q e * k j e

/-- Nothing has been read. -/
theorem row_start (p : Fin 512) : State.row (k0_pay4, k0_pay5, k0_pay6) p = ⟨⊥, 0, fun _ => 0⟩ := by
  have h1 : (k0_pay4 : FVec Ideal S512x1 .f32) (ix2 p 0) = ⊥ := by pointwise [k0_pay4]; exact masked_eq
  have h2 : (k0_pay5 : FVec Ideal S512x1 .f32) (ix2 p 0) = 0 := by pointwise [k0_pay5]
  have h3 : ∀ d, (k0_pay6 : FVec Ideal S512x128 .f32) (ix2 p d) = 0 := by intro d; pointwise [k0_pay6]
  exact Carry.ext h1 h2 (funext h3)

section Wide

variable (q : Vec Ideal S1x512x256 .bf16) (T : State) (k : Vec Ideal S1x2048x256 .bf16) (v : Vec Ideal S1x2048x128 .bf16)
  (p : Fin 512)

/-- A wide block of keys. -/
theorem row_wide : State.row (k0_pay8 q T.1 k, k0_pay11 q T.1 T.2.1 k, k0_pay12 q T.1 T.2.2 k v) p
    = (T.row p).step (scores (fun e => q (ix3 0 p e)) fun j e => k (ix3 0 j e)) fun j d => v (ix3 0 j d) := by
  have hm : k0_pay8 q T.1 k (ix2 p 0)
      = (T.row p).next (scores (fun e => q (ix3 0 p e)) fun j e => k (ix3 0 j e)) := by
    pointwise [k0_pay8, k0_pay7, k0_pay3]; rw [neg_inf]; rfl
  have hs : ∀ j, k0_pay7 q k (ix2 p j) = scores (fun e => q (ix3 0 p e)) (fun j e => k (ix3 0 j e)) j := by
    intro j; pointwise [k0_pay7, k0_pay3]; rfl
  refine Carry.ext hm ?_ (funext fun d => ?_)
  · change k0_pay11 q T.1 T.2.1 k (ix2 p 0) = _
    pointwise [k0_pay11, k0_pay9, k0_pay10]
    simp only [hm, hs, scale2_eq]; rfl
  · change k0_pay12 q T.1 T.2.2 k v (ix2 p d) = _
    pointwise [k0_pay12, k0_pay9, k0_pay10]
    simp only [hm, hs, scale2_eq]; rfl

end Wide

end Cert.Att

end
-- ==== Proof.AttNarrow.lean ====
/- The attention kernel's stores at one query row, for the middle and the narrow blocks of keys and for the block on
   the diagonal, whose scores right of the diagonal are masked; and the two stores at the end. -/
module

public import proofs.«01_k».proof.Proof.AttStep

@[expose] public section

set_option maxRecDepth 16384

noncomputable section

namespace Cert.Att

open Idealize.ShloMosaic Idealize.SL.Sem
open Cert.Kernel2Ideal Cert.Kernel2Ideal.Gen

section Middle

variable (q : FVec Ideal S512x256 .bf16) (T : State) (k : Vec Ideal S1x1024x256 .bf16) (v : Vec Ideal S1x1024x128 .bf16)
  (p : Fin 512)

/-- A block of keys of the middle width. -/
theorem row_middle : State.row (k0_pay20 q T.1 k, k0_pay23 q T.1 T.2.1 k, k0_pay24 q T.1 T.2.2 k v) p
    = (T.row p).step (scores (fun e => q (ix2 p e)) fun j e => k (ix3 0 j e)) fun j d => v (ix3 0 j d) := by
  have hm : k0_pay20 q T.1 k (ix2 p 0) = (T.row p).next (scores (fun e => q (ix2 p e)) fun j e => k (ix3 0 j e)) := by
    pointwise [k0_pay20, k0_pay19]; rw [neg_inf]; rfl
  have hs : ∀ j, k0_pay19 q k (ix2 p j) = scores (fun e => q (ix2 p e)) (fun j e => k (ix3 0 j e)) j := by
    intro j; pointwise [k0_pay19]; rfl
  refine Carry.ext hm ?_ (funext fun d => ?_)
  · change k0_pay23 q T.1 T.2.1 k (ix2 p 0) = _
    pointwise [k0_pay23, k0_pay21, k0_pay22]
    simp only [hm, hs, scale2_eq]; rfl
  · change k0_pay24 q T.1 T.2.2 k v (ix2 p d) = _
    pointwise [k0_pay24, k0_pay21, k0_pay22]
    simp only [hm, hs, scale2_eq]; rfl

end Middle

section Narrow

variable (q : FVec Ideal S512x256 .bf16) (T : State) (k : Vec Ideal S1x512x256 .bf16) (v : Vec Ideal S1x512x128 .bf16)
  (p : Fin 512)

/-- A narrow block of keys. -/
theorem row_narrow : State.row (k0_pay32 q T.1 k, k0_pay35 q T.1 T.2.1 k, k0_pay36 q T.1 T.2.2 k v) p
    = (T.row p).step (scores (fun e => q (ix2 p e)) fun j e => k (ix3 0 j e)) fun j d => v (ix3 0 j d) := by
  have hm : k0_pay32 q T.1 k (ix2 p 0) = (T.row p).next (scores (fun e => q (ix2 p e)) fun j e => k (ix3 0 j e)) := by
    pointwise [k0_pay32, k0_pay31]; rw [neg_inf]; rfl
  have hs : ∀ j, k0_pay31 q k (ix2 p j) = scores (fun e => q (ix2 p e)) (fun j e => k (ix3 0 j e)) j := by
    intro j; pointwise [k0_pay31]; rfl
  refine Carry.ext hm ?_ (funext fun d => ?_)
  · change k0_pay35 q T.1 T.2.1 k (ix2 p 0) = _
    pointwise [k0_pay35, k0_pay33, k0_pay34]
    simp only [hm, hs, scale2_eq]; rfl
  · change k0_pay36 q T.1 T.2.2 k v (ix2 p d) = _
    pointwise [k0_pay36, k0_pay33, k0_pay34]
    simp only [hm, hs, scale2_eq]; rfl

/-- The scores of the block on the diagonal: a key after the query is masked. -/
def diagonal (s : Fin 512 → EReal) (j : Fin 512) : EReal := if j.val < p.val + 1 then s j else ⊥

/-- The comparison of a key's place with a query's. -/
theorem le_place (j r : ℕ) (hj : j < 8192) (hr : r < 8192) :
    IntOp.cmpi .sle (BitVec.ofNat 32 j) (BitVec.ofNat 32 r) = if j < r + 1 then 1#1 else 0#1 := by
  have e : (BitVec.ofNat 32 j).sle (BitVec.ofNat 32 r) = decide (j < r + 1) := by
    rw [BitVec.sle_eq_decide, BitVec.toInt_eq_toNat_of_lt, BitVec.toInt_eq_toNat_of_lt]
    · simp only [BitVec.toNat_ofNat]
      rw [Nat.mod_eq_of_lt (by omega), Nat.mod_eq_of_lt (by omega)]
      simp only [decide_eq_decide]; omega
    · rw [BitVec.toNat_ofNat, Nat.mod_eq_of_lt (by omega)]; omega
    · rw [BitVec.toNat_ofNat, Nat.mod_eq_of_lt (by omega)]; omega
  simp only [IntOp.cmpi, e]
  by_cases h : j < r + 1 <;> simp [h]

/-- The block on the diagonal: the maximum, the sum, and the weighted sum over the sum. -/
theorem row_diagonal :
    let c := (T.row p).step (diagonal p (scores (fun e => q (ix2 p e)) fun j e => k (ix3 0 j e))) fun j d => v (ix3 0 j d)
    k0_pay44 q T.1 k (ix2 p 0) = c.m ∧ k0_pay47 q T.1 T.2.1 k (ix2 p 0) = c.l
    ∧ ∀ d, k0_pay48 q T.1 T.2.1 T.2.2 k v (ix2 p d) = Ideal.div (c.acc d) c.l := by
  intro c
  have hs : ∀ j, k0_pay43 q k (ix2 p j) = diagonal p (scores (fun e => q (ix2 p e)) fun j e => k (ix3 0 j e)) j := by
    intro j; pointwise [k0_pay43]
    rw [masked_eq, le_place _ _ (by omega) (by omega), diagonal]
    split <;> rfl
  have hm : k0_pay44 q T.1 k (ix2 p 0)
      = (T.row p).next (diagonal p (scores (fun e => q (ix2 p e)) fun j e => k (ix3 0 j e))) := by
    pointwise [k0_pay44]; rw [neg_inf]; simp only [hs]; rfl
  have hl : k0_pay47 q T.1 T.2.1 k (ix2 p 0) = c.l := by
    pointwise [k0_pay47, k0_pay45, k0_pay46]
    simp only [hm, hs, scale2_eq]; rfl
  refine ⟨hm, hl, fun d => ?_⟩
  pointwise [k0_pay48, k0_pay45, k0_pay46]
  rw [hl]
  simp only [hm, hs, scale2_eq]; rfl

end Narrow

/-- The output's block holds the last division's rows. -/
theorem out_store (a : FVec Ideal S512x128 .f32) (p : Fin 512) (d : Fin 128) : k0_pay1 a (ix3 0 p d) = a (ix2 p d) := by
  pointwise [k0_pay1]

/-- The logarithm's block holds the scaled maximum plus the logarithm of the sum. -/
theorem lse_store (m l : FVec Ideal S512x1 .f32) (p : Fin 512) :
    k0_pay2 m l (ix4 0 0 0 p) = m (ix2 p 0) * (scale : EReal) + Ideal.log (l (ix2 p 0)) := by
  pointwise [k0_pay2]; rw [scale_eq]

/-- The queries' block, its leading axis of one dropped. -/
theorem query_row (q : Vec Ideal S1x512x256 .bf16) (p : Fin 512) (e : Fin 256) : k0_pay3 q (ix2 p e) = q (ix3 0 p e) := by
  pointwise [k0_pay3]

end Cert.Att

end
-- ==== Proof.AttLoops.lean ====
/- The attention kernel's loops over blocks of keys: how many trips each makes and which keys a trip reads, and, over
   real inputs, what a query row carries after them. Block `b` of queries reads `b / 4` wide blocks, at most one block
   of the middle width, at most one narrow block, and the block on the diagonal; the three loops for left-over trips
   make none. -/
module

public import proofs.«01_k».proof.Proof.AttNarrow
public import proofs.«01_k».proof.Proof.Gen.Kernel2Ideal.Value
public import Idealize.ShloMosaic.Lib.WholeRead

@[expose] public section

set_option maxRecDepth 16384

noncomputable section

namespace Cert.Att

open Idealize.ShloMosaic Idealize.ShloMosaic.TcCoe Idealize.SL.Sem
open Cert.Kernel2Ideal Cert.Kernel2Ideal.Gen
open Cert.Ffn (coe_sum)

/-! ## Trips and places -/

theorem trips1 : ∀ i : grid0.Coords, (k0_t1_loop i).trips = (i 1).val / 4 := by decide +kernel
theorem trips2 : ∀ i : grid0.Coords, (k0_t2_loop i).trips = 0 := by decide +kernel
theorem trips3 : ∀ i : grid0.Coords, (k0_t3_loop i).trips = (i 1).val % 4 / 2 := by decide +kernel
theorem trips4 : ∀ i : grid0.Coords, (k0_t4_loop i).trips = 0 := by decide +kernel
theorem trips5 : ∀ i : grid0.Coords, (k0_t5_loop i).trips = (i 1).val % 2 := by decide +kernel
theorem trips6 : ∀ i : grid0.Coords, (k0_t6_loop i).trips = 0 := by decide +kernel

theorem place1 : ∀ (i : grid0.Coords) (k : Fin (k0_t1_loop i).trips), k0_off1 i k = ![0, 0 + 2048 * k.val, 0] := by
  decide +kernel
theorem place2 : ∀ (i : grid0.Coords) (k : Fin (k0_t1_loop i).trips), k0_off2 i k = ![0, 0 + 2048 * k.val, 0] := by
  decide +kernel
theorem place5 : ∀ (i : grid0.Coords) (k : Fin (k0_t3_loop i).trips),
    k0_off5 i k = ![0, 0 + 2048 * ((i 1).val / 4) + 1024 * k.val, 0] := by decide +kernel
theorem place6 : ∀ (i : grid0.Coords) (k : Fin (k0_t3_loop i).trips),
    k0_off6 i k = ![0, 0 + 2048 * ((i 1).val / 4) + 1024 * k.val, 0] := by decide +kernel
theorem place9 : ∀ (i : grid0.Coords) (k : Fin (k0_t5_loop i).trips),
    k0_off9 i k = ![0, 0 + 2048 * ((i 1).val / 4) + 1024 * ((i 1).val % 4 / 2) + 512 * k.val, 0] := by decide +kernel
theorem place10 : ∀ (i : grid0.Coords) (k : Fin (k0_t5_loop i).trips),
    k0_off10 i k = ![0, 0 + 2048 * ((i 1).val / 4) + 1024 * ((i 1).val % 4 / 2) + 512 * k.val, 0] := by decide +kernel

/-- A load of `W` keys at `o` from a head's block reads keys `o, o + 1, …`. -/
theorem read_keys {L : ℕ} (m : Memref sig .tc .vmem ⟨3, ![1, 8192, L]⟩ .bf16) (hm : m.IsWhole)
    (X : Vec Ideal ⟨3, ![1, 8192, L]⟩ .bf16) (A : ℕ → Fin L → ℝ)
    (hX : ∀ (j : Fin 8192) e, X (ix3 0 j e) = (A j e : EReal)) {W : ℕ} {off : Fin 3 → ℕ} (o : ℕ) (ho : off = ![0, o, 0])
    (h : ∀ a, off a + (![1, W, L] : Fin 3 → ℕ) a ≤ (⟨3, ![1, 8192, L]⟩ : Shape).size a) (j : Fin W) (e : Fin L) :
    View.readAt (Elt Ideal) m.view (Rect.unit (s := ⟨3, ![1, 8192, L]⟩) off ![1, W, L] h).toLoadRect (hm.unread X)
      (ix3 0 j e) = (A (o + j) e : EReal) := by
  subst ho
  have hj : o + j.val < 8192 := by have := h 1; simp at this; omega
  rw [hm.readAt_unread, ← hX ⟨o + j, hj⟩ e]
  congr 1
  funext a
  fin_cases a <;> apply Fin.ext <;> simp [LoadRect.idx, Rect.unit, Rect.toLoadRect, ix3]

variable (c : Dev nD) (i : grid0.Coords) (arg2 : Memref sig .tc .vmem S1x512x256 .bf16) (harg2 : arg2.IsWhole)
  (arg3 : Memref sig .tc .vmem S1x8192x256 .bf16) (harg3 : arg3.IsWhole) (arg4 : Memref sig .tc .vmem S1x8192x128 .bf16)
  (harg4 : arg4.IsWhole) (arg5 : Memref sig .tc .vmem S1x512x128 .f32) (harg5 : arg5.IsWhole)
  (arg6 : Memref sig .tc .vmem S1x1x1x512 .f32) (harg6 : arg6.IsWhole)
  (x1 : Vec Ideal S1x8192x256 .bf16) (x2 : Vec Ideal S1x8192x128 .bf16)
  (Q : Fin 256 → ℝ) (K : ℕ → Fin 256 → ℝ) (V : ℕ → Fin 128 → ℝ)
  (hk : ∀ (j : Fin 8192) e, x1 (ix3 0 j e) = (K j e : EReal)) (hv : ∀ (j : Fin 8192) d, x2 (ix3 0 j d) = (V j d : EReal))

/-- The score of the query row `Q` against key `c`. -/
def score (c : ℕ) : ℝ := ∑ e, Q e * K c e

theorem scores_real {W : ℕ} (o : ℕ) (q : Fin 256 → EReal) (k : Fin W → Fin 256 → EReal) (hq : ∀ e, q e = (Q e : EReal))
    (hk : ∀ j e, k j e = (K (o + j) e : EReal)) (j : Fin W) : scores q k j = (score Q K (o + j) : EReal) := by
  simp only [scores, hq, hk, ← EReal.coe_mul, coe_sum]; rfl

include hk hv

/-- The wide blocks. -/
theorem holds_wide (v0 : Vec Ideal S1x512x256 .bf16) (p : Fin 512) (hq : ∀ e, v0 (ix3 0 p e) = (Q e : EReal))
    (init : State) (n : ℕ) (hn : n = 0) (h : Holds (score Q K) V n (init.row p)) :
    Holds (score Q K) V (n + 2048 * (k0_t1_loop i).trips)
      (State.row (st_k0_t1 Variants.none c none i arg2 harg2 arg3 harg3 arg4 harg4 arg5 harg5 arg6 harg6 v0
        (harg3.unread x1) (harg4.unread x2) init (k0_t1_loop i).trips) p) := by
  subst hn
  refine Holds.run _ _ (by norm_num) (fun k => State.row (st_k0_t1 Variants.none c none i arg2 harg2 arg3 harg3 arg4 harg4
    arg5 harg5 arg6 harg6 v0 (harg3.unread x1) (harg4.unread x2) init k) p) _ h fun k hk' => ?_
  beta_reduce
  rw [st_k0_t1_succ (k := ⟨k, hk'⟩)]
  unfold tripR_k0_t1
  rw [trip_k0_t1.eq_1]
  exact ⟨_, _, row_wide _ _ _ _ _,
    scores_real _ _ _ _ _ hq fun j e => read_keys arg3 harg3 x1 K hk _ (place1 i ⟨k, hk'⟩) _ j e,
    fun j d => read_keys arg4 harg4 x2 V hv _ (place2 i ⟨k, hk'⟩) _ j d⟩

/-- The block of the middle width. -/
theorem holds_middle (a1 : BitVec 32) (v1 : FVec Ideal S512x256 .bf16) (b0 b1 : FVec Ideal S512x1 .f32)
    (b2 : FVec Ideal S512x128 .f32) (w0 w1 w2 w3 w4 : BitVec 32) (p : Fin 512) (hq : ∀ e, v1 (ix2 p e) = (Q e : EReal))
    (init : State) (n : ℕ) (hn : n = 0 + 2048 * ((i 1).val / 4)) (h : Holds (score Q K) V n (init.row p)) :
    Holds (score Q K) V (n + 1024 * (k0_t3_loop i).trips)
      (State.row (st_k0_t3 Variants.none c none i arg2 harg2 arg3 harg3 arg4 harg4 arg5 harg5 arg6 harg6 a1 v1 b0 b1 b2
        w0 w1 w2 w3 w4 (harg3.unread x1) (harg4.unread x2) init (k0_t3_loop i).trips) p) := by
  subst hn
  refine Holds.run _ _ (by norm_num) (fun k => State.row (st_k0_t3 Variants.none c none i arg2 harg2 arg3 harg3 arg4 harg4
    arg5 harg5 arg6 harg6 a1 v1 b0 b1 b2 w0 w1 w2 w3 w4 (harg3.unread x1) (harg4.unread x2) init k) p) _ h fun k hk' => ?_
  beta_reduce
  rw [st_k0_t3_succ (k := ⟨k, hk'⟩)]
  unfold tripR_k0_t3
  rw [trip_k0_t3.eq_1]
  exact ⟨_, _, row_middle _ _ _ _ _,
    scores_real _ _ _ _ _ hq fun j e => read_keys arg3 harg3 x1 K hk _ (place5 i ⟨k, hk'⟩) _ j e,
    fun j d => read_keys arg4 harg4 x2 V hv _ (place6 i ⟨k, hk'⟩) _ j d⟩

/-- The narrow block. -/
theorem holds_narrow (a1 : BitVec 32) (v1 : FVec Ideal S512x256 .bf16) (b0 b1 : FVec Ideal S512x1 .f32)
    (b2 : FVec Ideal S512x128 .f32) (w0 w1 w2 : BitVec 32) (p : Fin 512) (hq : ∀ e, v1 (ix2 p e) = (Q e : EReal))
    (init : State) (n : ℕ) (hn : n = 0 + 2048 * ((i 1).val / 4) + 1024 * ((i 1).val % 4 / 2))
    (h : Holds (score Q K) V n (init.row p)) :
    Holds (score Q K) V (n + 512 * (k0_t5_loop i).trips)
      (State.row (st_k0_t5 Variants.none c none i arg2 harg2 arg3 harg3 arg4 harg4 arg5 harg5 arg6 harg6 a1 v1 b0 b1 b2
        w0 w1 w2 (harg3.unread x1) (harg4.unread x2) init (k0_t5_loop i).trips) p) := by
  subst hn
  refine Holds.run _ _ (by norm_num) (fun k => State.row (st_k0_t5 Variants.none c none i arg2 harg2 arg3 harg3 arg4 harg4
    arg5 harg5 arg6 harg6 a1 v1 b0 b1 b2 w0 w1 w2 (harg3.unread x1) (harg4.unread x2) init k) p) _ h fun k hk' => ?_
  beta_reduce
  rw [st_k0_t5_succ (k := ⟨k, hk'⟩)]
  unfold tripR_k0_t5
  rw [trip_k0_t5.eq_1]
  exact ⟨_, _, row_narrow _ _ _ _ _,
    scores_real _ _ _ _ _ hq fun j e => read_keys arg3 harg3 x1 K hk _ (place9 i ⟨k, hk'⟩) _ j e,
    fun j d => read_keys arg4 harg4 x2 V hv _ (place10 i ⟨k, hk'⟩) _ j d⟩

end Cert.Att

end
-- ==== Proof.AttBlock.lean ====
/- The attention kernel at one grid point over real inputs: row `p` of query block `b` holds the attention output and
   the logarithm of the sum over keys `0 … 512 b + p`. -/
module

public import proofs.«01_k».proof.Proof.AttLoops
public import Idealize.ShloMosaic.Lib.VecWindow

@[expose] public section

set_option maxRecDepth 16384

noncomputable section

namespace Cert.Att

open Idealize.ShloMosaic Idealize.ShloMosaic.TcCoe Idealize.SL.Sem
open Cert.Kernel2Ideal Cert.Kernel2Ideal.Gen

variable (c : Dev nD) (i : grid0.Coords) (arg2 : Memref sig .tc .vmem S1x512x256 .bf16) (harg2 : arg2.IsWhole)
  (arg3 : Memref sig .tc .vmem S1x8192x256 .bf16) (harg3 : arg3.IsWhole) (arg4 : Memref sig .tc .vmem S1x8192x128 .bf16)
  (harg4 : arg4.IsWhole) (arg5 : Memref sig .tc .vmem S1x512x128 .f32) (harg5 : arg5.IsWhole)
  (arg6 : Memref sig .tc .vmem S1x1x1x512 .f32) (harg6 : arg6.IsWhole)
  (x0 : Vec Ideal S1x512x256 .bf16) (x1 : Vec Ideal S1x8192x256 .bf16) (x2 : Vec Ideal S1x8192x128 .bf16)
  (Q : Fin 256 → ℝ) (K : ℕ → Fin 256 → ℝ) (V : ℕ → Fin 128 → ℝ) (p : Fin 512)
  (hq : ∀ e, x0 (ix3 0 p e) = (Q e : EReal))
  (hk : ∀ (j : Fin 8192) e, x1 (ix3 0 j e) = (K j e : EReal)) (hv : ∀ (j : Fin 8192) d, x2 (ix3 0 j d) = (V j d : EReal))

theorem read_query (e : Fin 256) :
    View.readAt (Elt Ideal) arg2.view (Rect.unit ![0, 0, 0] S1x512x256.size inb_S1x512x256_S1x512x256_0_0_0).toLoadRect
      (harg2.unread x0) (ix3 0 p e) = x0 (ix3 0 p e) := by
  rw [harg2.readAt_unread]
  congr 1
  funext a
  fin_cases a <;> apply Fin.ext <;> simp [LoadRect.idx, Rect.unit, Rect.toLoadRect, ix3]

include hq hk hv

/-- After the wide blocks. -/
theorem after_wide : Holds (score Q K) V (0 + 2048 * ((i 1).val / 4)) (State.row
    (kernelRun0_A.sl.r_1 c i arg2 harg2 arg3 harg3 arg4 harg4 arg5 harg5 arg6 harg6 x0 x1 x2,
      kernelRun0_A.sl.r_2 c i arg2 harg2 arg3 harg3 arg4 harg4 arg5 harg5 arg6 harg6 x0 x1 x2,
      kernelRun0_A.sl.r_3 c i arg2 harg2 arg3 harg3 arg4 harg4 arg5 harg5 arg6 harg6 x0 x1 x2) p) := by
  unfold kernelRun0_A.sl.r_1 kernelRun0_A.sl.r_2 kernelRun0_A.sl.r_3
  rw [show Scf.trips (k0_t2_loop i).lb (k0_t2_loop i).ub (k0_t2_loop i).st = 0 from trips2 i]
  simp only [st_k0_t2_zero]
  rw [← trips1 i]
  refine holds_wide c i arg2 harg2 arg3 harg3 arg4 harg4 arg5 harg5 arg6 harg6 x1 x2 Q K V hk hv _ p
    (fun e => (read_query arg2 harg2 x0 p e).trans (hq e)) _ 0 rfl (Or.inl ⟨rfl, ?_⟩)
  rw [row_start]
  exact ⟨rfl, rfl, fun _ => rfl⟩

theorem query_real (e : Fin 256) : kernelRun0_A.sl.r c arg2 harg2 x0 (ix2 p e) = (Q e : EReal) := by
  unfold kernelRun0_A.sl.r
  rw [query_row, read_query, hq]

/-- After the block of the middle width. -/
theorem after_middle : Holds (score Q K) V (0 + 2048 * ((i 1).val / 4) + 1024 * ((i 1).val % 4 / 2)) (State.row
    (kernelRun0_A.sl.r_4 c i arg2 harg2 arg3 harg3 arg4 harg4 arg5 harg5 arg6 harg6 x0 x1 x2,
      kernelRun0_A.sl.r_5 c i arg2 harg2 arg3 harg3 arg4 harg4 arg5 harg5 arg6 harg6 x0 x1 x2,
      kernelRun0_A.sl.r_6 c i arg2 harg2 arg3 harg3 arg4 harg4 arg5 harg5 arg6 harg6 x0 x1 x2) p) := by
  unfold kernelRun0_A.sl.r_4 kernelRun0_A.sl.r_5 kernelRun0_A.sl.r_6
  rw [show Scf.trips (k0_t4_loop i).lb (k0_t4_loop i).ub (k0_t4_loop i).st = 0 from trips4 i]
  simp only [st_k0_t4_zero]
  rw [← trips3 i]
  exact holds_middle c i arg2 harg2 arg3 harg3 arg4 harg4 arg5 harg5 arg6 harg6 x1 x2 Q K V hk hv _ _ _ _ _ _ _ _ _ _ p
    (query_real c arg2 harg2 x0 x1 x2 Q K V p hq hk hv) _ _ rfl
    (after_wide c i arg2 harg2 arg3 harg3 arg4 harg4 arg5 harg5 arg6 harg6 x0 x1 x2 Q K V p hq hk hv)

/-- The sum, the maximum and the quotient the run ends in, after the narrow block and the block on the diagonal. -/
theorem at_end : ∃ r : Carry, Holds (score Q K) V (512 * (i 1).val + (p.val + 1)) r
    ∧ kernelRun0_A.sl.r_7 c i arg2 harg2 arg3 harg3 arg4 harg4 arg5 harg5 arg6 harg6 x0 x1 x2 (ix2 p 0) = r.m
    ∧ kernelRun0_A.sl.r_8 c i arg2 harg2 arg3 harg3 arg4 harg4 arg5 harg5 arg6 harg6 x0 x1 x2 (ix2 p 0) = r.l
    ∧ ∀ d, kernelRun0_A.sl.r_9 c i arg2 harg2 arg3 harg3 arg4 harg4 arg5 harg5 arg6 harg6 x0 x1 x2 (ix2 p d)
        = Ideal.div (r.acc d) r.l := by
  unfold kernelRun0_A.sl.r_7 kernelRun0_A.sl.r_8 kernelRun0_A.sl.r_9
  rw [show Scf.trips (k0_t6_loop i).lb (k0_t6_loop i).ub (k0_t6_loop i).st = 0 from trips6 i]
  rw [show Scf.trips (k0_t5_loop i).lb (k0_t5_loop i).ub (k0_t5_loop i).st = (k0_t5_loop i).trips from rfl, st_k0_t6_zero]
  have h := holds_narrow c i arg2 harg2 arg3 harg3 arg4 harg4 arg5 harg5 arg6 harg6 x1 x2 Q K V hk hv
    (BitVec.ofNat 32 (i 1).val) _ (kernelRun0_A.sl.r_4 c i arg2 harg2 arg3 harg3 arg4 harg4 arg5 harg5 arg6 harg6 x0 x1 x2)
    (kernelRun0_A.sl.r_5 c i arg2 harg2 arg3 harg3 arg4 harg4 arg5 harg5 arg6 harg6 x0 x1 x2)
    (kernelRun0_A.sl.r_6 c i arg2 harg2 arg3 harg3 arg4 harg4 arg5 harg5 arg6 harg6 x0 x1 x2)
    (kernelRun0_A.sl.v58 i) 0#32 (kernelRun0_A.sl.v77 i) p (query_real c arg2 harg2 x0 x1 x2 Q K V p hq hk hv) _ _ rfl
    (after_middle c i arg2 harg2 arg3 harg3 arg4 harg4 arg5 harg5 arg6 harg6 x0 x1 x2 Q K V p hq hk hv)
  have hs := scores_real Q K (512 * (i 1).val) _ _ (query_real c arg2 harg2 x0 x1 x2 Q K V p hq hk hv)
    fun j e => read_keys (W := 512) arg3 harg3 x1 K hk _ (k0_off13_eq i) (k0_off13_inb i) j e
  have hv' := fun j d => read_keys (W := 512) arg4 harg4 x2 V hv _ (k0_off14_eq i) (k0_off14_inb i) j d
  generalize st_k0_t5 (F := Ideal) Variants.none c none i arg2 harg2 arg3 harg3 arg4 harg4 arg5 harg5 arg6 harg6 _ _ _ _ _ _ _ _ _ _ _ _ = T
    at h ⊢
  rw [trips5 i, show 0 + 2048 * ((i 1).val / 4) + 1024 * ((i 1).val % 4 / 2) + 512 * ((i 1).val % 2) = 512 * (i 1).val
    by omega] at h
  refine ⟨_, Holds.step _ _ h (p.val + 1) (Nat.succ_pos _) (by omega) _ _ (fun j => ?_) hv', row_diagonal _ T _ _ p⟩
  rw [diagonal, hs]

/-- The output's block. -/
theorem out_block (d : Fin 128) :
    out0_A_3 c i arg2 harg2 arg3 harg3 arg4 harg4 arg5 harg5 arg6 harg6 x0 x1 x2 (ix3 0 p d)
      = (out (score Q K) V (512 * (i 1).val + (p.val + 1)) d : EReal) := by
  obtain ⟨r, h, -, -, hd⟩ := at_end c i arg2 harg2 arg3 harg3 arg4 harg4 arg5 harg5 arg6 harg6 x0 x1 x2 Q K V p hq hk hv
  rw [← (h.final _ _ (by omega)).1 d, ← hd d, ← out_store (kernelRun0_A.sl.r_9 c i arg2 harg2 arg3 harg3 arg4 harg4 arg5
    harg5 arg6 harg6 x0 x1 x2)]
  simp only [out0_A_3, kernelRun0_A]
  exact congrFun (View.read_writes_full VO0_3 _ _ _ _) _

/-- The block of logarithms. -/
theorem lse_block : out0_A_4 c i arg2 harg2 arg3 harg3 arg4 harg4 arg5 harg5 arg6 harg6 x0 x1 x2 (ix4 0 0 0 p)
    = (lse (score Q K) (512 * (i 1).val + (p.val + 1)) : EReal) := by
  obtain ⟨r, h, hm, hl, -⟩ := at_end c i arg2 harg2 arg3 harg3 arg4 harg4 arg5 harg5 arg6 harg6 x0 x1 x2 Q K V p hq hk hv
  rw [← (h.final _ _ (by omega)).2, ← hm, ← hl, ← lse_store]
  simp only [out0_A_4, kernelRun0_A]
  exact congrFun (View.read_writes_full VO0_4 _ _ _ _) _

end Cert.Att

end
-- ==== Proof.AttFwd.lean ====
/- What the attention kernel leaves in its two arrays: token `t` of head `h` holds the attention output, and the
   logarithm of the sum, over keys `0 … t`. -/
module

public import proofs.«01_k».proof.Proof.AttBlock
public import Idealize.ShloMosaic.Lib.KernelVsHost

@[expose] public section

set_option maxRecDepth 16384

noncomputable section

namespace Cert.Att

open Idealize.ShloMosaic Idealize.ShloMosaic.TcCoe Idealize.SL.Sem
open Cert.Kernel2Ideal Cert.Kernel2Ideal.Gen

/-! ## The attention of the real inputs -/

/-- Queries or keys: a row of 192 lanes per token and head. -/
abbrev Lanes := ℕ → Fin 4 → Fin 192 → ℝ
/-- Values: a row of 128 lanes per token and head. -/
abbrev Vals := ℕ → Fin 4 → Fin 128 → ℝ

/-- The raw score of token `t` against key `c` in head `h`. -/
def raw (q k : Lanes) (h : Fin 4) (t c : ℕ) : ℝ := ∑ e, q t h e * k c h e

/-- A row of 192 lanes filled up with zeros to 256. -/
def filled (a : Fin 192 → ℝ) (e : Fin 256) : ℝ := if he : e.val < 192 then a ⟨e, he⟩ else 0

/-- The zeros add nothing to a score. -/
theorem score_filled (q k : Lanes) (h : Fin 4) (t : ℕ) :
    score (filled (q t h)) (fun c => filled (k c h)) = raw q k h t := by
  funext c
  rw [score, raw, Fin.sum_univ_add (a := 192) (b := 64)]
  simp [filled]

/-! ## The arrays the kernel is given -/

/-- Heads first, lanes filled up. -/
theorem lanes_array (x : FVec Ideal S8192x4x192 .f32) (h : Fin 4) (j : Fin 8192) (e : Fin 256) :
    truncf (F := Ideal) .bf16 (transpose S4x8192x256 [1, 0, 2] (pad S8192x4x256 ![0, 0, 0] ![0, 0, 64] ![0, 0, 0] x
      (sitofp (F := Ideal) .f32 (constantI S_ 32 0#32)) pads_S8192x4x192_S8192x4x256_000_000_0640 h_S_)
      transposes_S8192x4x256_S4x8192x256_1_0_2) bitsLt_bf16_f32 (ix3 h j e)
      = if he : e.val < 192 then x (ix3 j h ⟨e, he⟩) else (0 : EReal) := by
  generalize hy : pad S8192x4x256 ![0, 0, 0] ![0, 0, 64] ![0, 0, 0] x (sitofp (F := Ideal) .f32 (constantI S_ 32 0#32))
    pads_S8192x4x192_S8192x4x256_000_000_0640 h_S_ = y
  pointwise []
  subst hy
  split
  · next he =>
    refine pad_apply_of_inside _ _ _ _ _ _ _ _ (ix3 j h ⟨e, he⟩) fun a => ?_
    fin_cases a <;> simp [ix3]
  · next he =>
    rw [pad_apply_of_not_inside _ _ _ _ _ _ _ _ (2 : Fin 3) (by simp [ix3]; omega)]
    pointwise []
    change (((0#32 : BitVec 32).toInt : ℝ) : EReal) = 0
    simp

theorem values_array (x : FVec Ideal S8192x4x128 .f32) (h : Fin 4) (j : Fin 8192) (d : Fin 128) :
    truncf (F := Ideal) .bf16 (transpose S4x8192x128 [1, 0, 2] x transposes_S8192x4x128_S4x8192x128_1_0_2)
      bitsLt_bf16_f32 (ix3 h j d) = x (ix3 j h d) := by
  pointwise []

theorem ex3 (y : S1x512x128.Idx) : ∃ (p : Fin 512) (d : Fin 128), y = ix3 0 p d := by
  refine ⟨y 1, y 2, ?_⟩
  funext a; fin_cases a <;> first | rfl | exact Subsingleton.elim (α := Fin 1) _ _
theorem ex4 (y : S1x1x1x512.Idx) : ∃ p : Fin 512, y = ix4 0 0 0 p := by
  refine ⟨y 3, ?_⟩
  funext a; fin_cases a <;> first | rfl | exact Subsingleton.elim (α := Fin 1) _ _

variable (m : (a : Loc nD τ sig) → Buf (Elt Ideal) a) (c : Dev nD) (q k : Lanes) (v : Vals)

/-- The arguments hold the real inputs. -/
structure Args : Prop where
  q : ∀ (j : Fin 8192) h e, (m ((c : Thread nD τ).loc main_arg0) (ix3 j h e) : EReal) = (q j h e : EReal)
  k : ∀ (j : Fin 8192) h e, (m ((c : Thread nD τ).loc main_arg1) (ix3 j h e) : EReal) = (k j h e : EReal)
  v : ∀ (j : Fin 8192) h d, (m ((c : Thread nD τ).loc main_arg2) (ix3 j h d) : EReal) = (v j h d : EReal)

variable {m c q k v} (H : Args m c q k v)
include H

theorem q_entry (h : Fin 4) (j : Fin 8192) (e : Fin 256) : (V m c main_v2 (ix3 h j e) : EReal) = (filled (q j h) e : EReal) := by
  rw [show V m c main_v2 = truncf (F := Ideal) .bf16 (transpose S4x8192x256 [1, 0, 2] (pad S8192x4x256 ![0, 0, 0]
    ![0, 0, 64] ![0, 0, 0] (m ((c : Thread nD τ).loc main_arg0)) (sitofp (F := Ideal) .f32 (constantI S_ 32 0#32))
    pads_S8192x4x192_S8192x4x256_000_000_0640 h_S_) transposes_S8192x4x256_S4x8192x256_1_0_2) bitsLt_bf16_f32 by
      simp only [V, hostOps0, hostOps0_1, hostOps0_2, hostOps0_3, hostOps0_4, List.flatten, List.append]; after_results_simp <;> rfl]
  refine (lanes_array _ h j e).trans ?_
  unfold filled
  split
  · exact H.q j h _
  · rfl

theorem k_entry (h : Fin 4) (j : Fin 8192) (e : Fin 256) : (V m c main_v5 (ix3 h j e) : EReal) = (filled (k j h) e : EReal) := by
  rw [show V m c main_v5 = truncf (F := Ideal) .bf16 (transpose S4x8192x256 [1, 0, 2] (pad S8192x4x256 ![0, 0, 0]
    ![0, 0, 64] ![0, 0, 0] (m ((c : Thread nD τ).loc main_arg1)) (sitofp (F := Ideal) .f32 (constantI S_ 32 0#32))
    pads_S8192x4x192_S8192x4x256_000_000_0640 h_S_) transposes_S8192x4x256_S4x8192x256_1_0_2) bitsLt_bf16_f32 by
      simp only [V, hostOps0, hostOps0_1, hostOps0_2, hostOps0_3, hostOps0_4, List.flatten, List.append]; after_results_simp <;> rfl]
  refine (lanes_array _ h j e).trans ?_
  unfold filled
  split
  · exact H.k j h _
  · rfl

theorem v_entry (h : Fin 4) (j : Fin 8192) (d : Fin 128) : (V m c main_v7 (ix3 h j d) : EReal) = (v j h d : EReal) := by
  rw [show V m c main_v7 = truncf (F := Ideal) .bf16 (transpose S4x8192x128 [1, 0, 2] (m ((c : Thread nD τ).loc main_arg2))
    transposes_S8192x4x128_S4x8192x128_1_0_2) bitsLt_bf16_f32 by
      simp only [V, hostOps0, hostOps0_1, hostOps0_2, hostOps0_3, hostOps0_4, List.flatten, List.append]; after_results_simp <;> rfl]
  exact (values_array _ h j d).trans (H.v j h d)

/-! ## The arrays it leaves -/

omit H in
/-- The block each window holds at a point. -/
theorem att_idx : ∀ t : Fin cfg0.N, win0_0.index t = ![t.val / 16, t.val % 16, 0] ∧ win0_1.index t = ![t.val / 16, 0, 0]
    ∧ win0_2.index t = ![t.val / 16, 0, 0] ∧ win0_3.index t = ![t.val / 16, t.val % 16, 0]
    ∧ win0_4.index t = ![t.val / 16, t.val % 16, 0, 0] ∧ (grid0.coords t 1).val = t.val % 16 :=
  (by decide +kernel : ∀ t : Fin grid0.N, _)

/-- The head a point works on. -/
abbrev head (t : Fin cfg0.N) : Fin 4 := ⟨t / 16, by have := lt_of_lt_of_eq t.isLt N_0; omega⟩
/-- The token of row `p` of its block of queries. -/
abbrev tok (t : Fin cfg0.N) (p : Fin 512) : Fin 8192 := ⟨512 * (t % 16) + p, by omega⟩

theorem q_block (t : Fin cfg0.N) (p : Fin 512) (e : Fin 256) :
    (iblk m c 0 t (ix3 0 p e) : EReal) = (filled (q (tok t p) (head t)) e : EReal) :=
  (show _ = V m c main_v2 (ix3 (head t) (tok t p) e) by blk_ext [iblk, att_idx t]).trans (q_entry H _ _ _)
theorem k_block (t : Fin cfg0.N) (j : Fin 8192) (e : Fin 256) :
    (iblk m c 1 t (ix3 0 j e) : EReal) = (filled (k j (head t)) e : EReal) :=
  (show _ = V m c main_v5 (ix3 (head t) j e) by blk_ext [iblk, att_idx t]).trans (k_entry H _ _ _)
theorem v_block (t : Fin cfg0.N) (j : Fin 8192) (d : Fin 128) :
    (iblk m c 2 t (ix3 0 j d) : EReal) = (v j (head t) d : EReal) :=
  (show _ = V m c main_v7 (ix3 (head t) j d) by blk_ext [iblk, att_idx t]).trans (v_entry H _ _ _)

/-- The output of token `t` of head `h`. -/
def outAt (q k : Lanes) (v : Vals) (h : Fin 4) (t : Fin 8192) (d : Fin 128) : EReal :=
  (out (raw q k h t) (fun c => v c h) (t.val + 1) d : EReal)
/-- The logarithm of the sum, token `p` of query block `b` of head `h`. -/
def lseAt (q k : Lanes) (h : Fin 4) (b : Fin 16) (p : Fin 512) : EReal :=
  (lse (raw q k h (512 * b.val + p.val)) (512 * b.val + p.val + 1) : EReal)

/-- The array of outputs. -/
theorem out_array (h : Fin 4) (t : Fin 8192) (d : Fin 128) :
    ((dats m 0 c).arrAt 3 cfg0.N (ix3 h t d) : EReal) = outAt q k v h t d := by
  refine congrFun ((dats m 0 c).arrAt_eq_of_covers 3 (fun j => outAt q k v (j 0) (j 1) (j 2)) (by decide +kernel)
    fun t _ y => ?_) (ix3 h t d)
  blk_simp
  rw [after0_3]
  obtain ⟨p, d, rfl⟩ := ex3 y
  rw [show (win0_3.blk t).view.emb (ix3 0 p d) = ix3 (head t) (tok t p) d by blk_ext [att_idx t]]
  simp only [outsAt0]
  refine (out_block c (grid0.coords t) _ _ _ _ _ _ _ _ _ _ _ _ _ (filled (q (tok t p) (head t)))
    (fun j => filled (k j (head t))) (fun j => v j (head t)) p (q_block H t p) (k_block H t) (v_block H t) d).trans ?_
  rw [score_filled, (att_idx t).2.2.2.2.2]
  rfl

/-- The array of logarithms. -/
theorem lse_array (h : Fin 4) (b : Fin 16) (p : Fin 512) :
    ((dats m 0 c).arrAt 4 cfg0.N (ix4 h b 0 p) : EReal) = lseAt q k h b p := by
  refine congrFun ((dats m 0 c).arrAt_eq_of_covers 4 (fun j => lseAt q k (j 0) (j 1) (j 3)) (by decide +kernel)
    fun t _ y => ?_) (ix4 h b 0 p)
  blk_simp
  rw [after0_4]
  obtain ⟨p, rfl⟩ := ex4 y
  rw [show (win0_4.blk t).view.emb (ix4 0 0 0 p) = ix4 (head t) ⟨t % 16, by omega⟩ 0 p by blk_ext [att_idx t]]
  simp only [outsAt0]
  refine (lse_block c (grid0.coords t) _ _ _ _ _ _ _ _ _ _ _ _ _ (filled (q (tok t p) (head t)))
    (fun j => filled (k j (head t))) (fun j => v j (head t)) p (q_block H t p) (k_block H t) (v_block H t)).trans ?_
  rw [score_filled, (att_idx t).2.2.2.2.2]
  rfl

end Cert.Att

end
-- ==== Proof.AttRef.lean ====
/- What the attention reference computes, stage by stage at an index: over real arguments it holds the attention output
   and the logarithm of the sum of `AttSpec`. -/
module

public import proofs.«01_k».proof.Proof.AttFwd
public import proofs.«01_k».proof.Proof.Gen.Reference2Ideal.Read

@[expose] public section

set_option maxRecDepth 16384

noncomputable section

namespace Cert.Att

open Idealize.ShloMosaic Idealize.SL.Sem
open Cert.Reference2Ideal Cert.Reference2Ideal.Gen Cert.Reference2Ideal.Read
open Cert.Ffn (coe_sum)

theorem bits_192 : Ideal.ofBits .f32 0x43400000#32 = ((192 : ℝ) : EReal) := by
  simp [Ideal.ofBits, Ideal.ieee, -EReal.coe_mul]; norm_num

/-- The reference's arguments are real. -/
structure RefArgs (q k : Lanes) (v : Vals) (x0 x1 : FVec Ideal S8192x4x192 .f32) (x2 : FVec Ideal S8192x4x128 .f32) :
    Prop where
  q : ∀ (j : Fin 8192) h e, x0 (ix3 j h e) = (q j h e : EReal)
  k : ∀ (j : Fin 8192) h e, x1 (ix3 j h e) = (k j h e : EReal)
  v : ∀ (j : Fin 8192) h d, x2 (ix3 j h d) = (v j h d : EReal)

variable {q k : Lanes} {v : Vals} {x0 x1 : FVec Ideal S8192x4x192 .f32} {x2 : FVec Ideal S8192x4x128 .f32}
    (H : RefArgs q k v x0 x1 x2) (h : Fin 4) (t c : Fin 8192)

theorem max_bot (y : EReal) :
    FloatOps.maximumf (F := Ideal) (φ := .f32) (FloatOps.ofBits .f32 0xFF800000#32) y = y :=
  (congrArg (fun z : EReal => max z y) neg_inf).trans (max_eq_right bot_le)

/-- A maximum over the last of three axes, whatever their sizes, is real where no entry of the row is `⊤` and one of them
is not `⊥`. -/
theorem max_last {n0 n1 n2 : ℕ} {u : Shape} (x : FVec Ideal ⟨3, ![n0, n1, n2]⟩ .f32) (init : FVec Ideal u .f32)
    (hr : (⟨3, ![n0, n1, n2]⟩ : Shape).ReducesTo [2] ⟨2, ![n0, n1]⟩) (hu : 0 < u.numel) (a : Fin n0) (b : Fin n1)
    (hi : init (Shape.Idx.first hu) = ⊥) (hs : ∀ c, x (ix3 a b c) ≠ ⊤) (c0 : Fin n2) (h0 : x (ix3 a b c0) ≠ ⊥) :
    ∃ M : ℝ, Host.reduce FloatOps.maximumf x init hr hu (ix2 a b) = (M : EReal) := by
  obtain ⟨M, hM⟩ := fold_max_real (fun c : Fin n2 => x (ix3 a b c)) hs c0 h0
  refine ⟨M, Eq.trans ?_ hM⟩
  rw [← hi]
  pointwise

theorem ref_scale (i0 : S_.Idx) : val_main_v2 (F := Ideal) i0 = (scale : EReal) := by
  pointwise [val_main_v2, val_main_v1, val_main_cst, val_main_cst_0]
  rw [bits_192, Ideal.sqrt_coe, if_neg (by norm_num), Ideal.div_coe (by positivity), one_mul]
  simp [scale]

/-- The two results take the same masked scores. -/
theorem same : val_main_v28 (F := Ideal) x0 x1 = val_main_v12 (F := Ideal) x0 x1 := rfl

include H in
theorem ref_score : val_main_v12 (F := Ideal) x0 x1 (ix3 h t c)
    = if c.val < t.val + 1 then ((scale * raw q k h t c : ℝ) : EReal) else ⊥ := by
  pointwise [val_main_v12, val_main_call0_v0, val_main_call0_v1, val_main_call0_v2, val_main_cst_1, val_main_v11,
    val_main_v10, val_main_v9, val_main_v8, val_main_v7, val_main_v6, val_main_v5, val_main_v4, val_main_v3, val_main_v0]
  rw [le_place c.val t.val c.isLt t.isLt, ref_scale]
  simp only [H.q, H.k, ← EReal.coe_mul, coe_sum]
  by_cases hc : c.val < t.val + 1
  · rw [if_pos hc, if_pos hc]
    exact congrArg (fun r : ℝ => (r : EReal)) (mul_comm (raw q k h t c) scale)
  · rw [if_neg hc, if_neg hc]
    exact neg_inf

include H in
theorem ref_max : ∃ M : ℝ, val_main_v31 (F := Ideal) x0 x1 (ix2 h t) = (M : EReal) := by
  have hs : ∀ c, val_main_v28 (F := Ideal) x0 x1 (ix3 h t c) ≠ ⊤ := by
    intro c
    rw [same, ref_score H]
    split
    · exact EReal.coe_ne_top _
    · exact bot_ne_top
  have h0 : val_main_v28 (F := Ideal) x0 x1 (ix3 h t t) ≠ ⊥ := by
    rw [same, ref_score H, if_pos (Nat.lt_succ_self _)]
    exact EReal.coe_ne_bot _
  obtain ⟨M, hM⟩ := max_last (val_main_v28 (F := Ideal) x0 x1) (val_main_cst_6 (F := Ideal))
    reducesTo_S4x8192x8192_S4x8192_d2 h_S_ h t neg_inf hs t h0
  refine ⟨M, ?_⟩
  rw [val_main_v31_apply, val_main_v30_apply, val_main_cst_7_apply, max_bot, val_main_v29]
  exact hM

theorem ref_lse (b : Fin 16) (p : Fin 512) : val_main_v43 (F := Ideal) x0 x1 (ix4 h b 0 p) = val_main_v15 (F := Ideal) x0 x1 (ix2 h ⟨512 * b.val + p.val, by omega⟩) := by
  pointwise [val_main_v43]
  simp only [Nat.mul_comm]

/-- A sum over the keys in which the masked ones are zero, as a sum over the unmasked ones. -/
theorem sum_kept (f : ℕ → ℝ) :
    ∑ c : Fin 8192, (if c.val < t.val + 1 then f c.val else 0) = ∑ c ∈ Finset.range (t.val + 1), f c := by
  have := sum_block 0 (t.val + 1) (Nat.succ_le_of_lt t.isLt) f
  simpa using this

include H in
theorem ref_logsum : val_main_v15 (F := Ideal) x0 x1 (ix2 h t) = (lse (raw q k h t) (t.val + 1) : EReal) := by
  pointwise [val_main_v15, val_main_v14, val_main_v13, val_main_cst_2]
  have hx : ∀ c : Fin 8192, Ideal.exp (val_main_v12 (F := Ideal) x0 x1 (ix3 h t c))
      = (((if c.val < t.val + 1 then Real.exp (scale * (raw q k h t c.val - 0)) else 0 : ℝ)) : EReal) := by
    intro c
    rw [ref_score H]
    split
    · rw [sub_zero, Ideal.exp_coe]
    · simp
  simp only [hx]
  rw [coe_sum, sum_kept t (fun c => Real.exp (scale * (raw q k h t c - 0)))]
  change Ideal.log ((weight (raw q k h t) (t.val + 1) 0 : ℝ) : EReal) = _
  rw [Ideal.log_coe, if_neg (not_le.2 (weight_pos _ (Nat.succ_pos _) _))]
  rfl

include H in
/-- The exponential the soft-max takes of a score less the largest. -/
theorem ref_exp : ∃ M : ℝ, ∀ c : Fin 8192,
    Ideal.exp (val_main_v12 (F := Ideal) x0 x1 (ix3 h t c) - val_main_v31 (F := Ideal) x0 x1 (ix2 h t))
      = (((if c.val < t.val + 1 then Real.exp (scale * (raw q k h t c.val - M)) else 0 : ℝ)) : EReal) := by
  obtain ⟨M, hM⟩ := ref_max H h t
  refine ⟨M / scale, fun c => ?_⟩
  rw [hM, ref_score H]
  split
  · rw [← EReal.coe_sub, Ideal.exp_coe]
    refine congrArg (fun r : ℝ => ((Real.exp r : ℝ) : EReal)) ?_
    have : scale ≠ 0 := by rw [scale]; positivity
    field_simp
  · simp

include H in
theorem ref_out (d : Fin 128) : val_main_v42 (F := Ideal) x0 x1 x2 (ix3 h t d) = outAt q k v h t d := by
  obtain ⟨M, hM⟩ := ref_exp H h t
  have hs : val_main_v36 (F := Ideal) x0 x1 (ix2 h t) = (weight (raw q k h t) (t.val + 1) M : EReal) := by
    pointwise [val_main_v36, val_main_v35, val_main_v34, val_main_v33, val_main_v32, val_main_cst_8]
    rw [same]
    simp only [hM]
    rw [coe_sum, sum_kept t (fun c => Real.exp (scale * (raw q k h t c - M)))]
    rfl
  pointwise [val_main_v42, val_main_v41, val_main_v40, val_main_v39, val_main_v38, val_main_v37, val_main_v35, val_main_v34, val_main_v33, val_main_v32]
  rw [same, hs]
  simp only [hM, H.v, Ideal.div_coe (weight_pos (raw q k h t) (Nat.succ_pos t.val) M).ne', ← EReal.coe_mul]
  rw [coe_sum, outAt, ← out_shift _ _ _ M]
  congr 1
  rw [mean, Finset.sum_div, ← sum_kept t]
  refine Finset.sum_congr rfl fun c _ => ?_
  split
  · ring
  · ring

end Cert.Att

end
-- ==== Proof.AttEquation.lean ====
/- The value claim of the attention forward call: from finite queries, keys and values the kernel program and the
   reference end with the same two arrays. -/
module

public import proofs.«01_k».proof.Defs
public import proofs.«01_k».proof.Proof.Finite
public import proofs.«01_k».proof.Proof.AttRef
public import Idealize.ShloMosaic.Lib.Claim

@[expose] public section

set_option maxRecDepth 16384

noncomputable section

namespace Cert.Att

open Idealize.ShloMosaic Idealize.ShloMosaic.TcCoe Idealize.SL.Sem
open Cert.Ffn (real_of_all)

section

open Cert.Pre_finite_qkv

/-- The side conditions of the precondition. -/
theorem qkv_facts : Cert.Pre_finite_qkv.Facts where
  bcast_S_S8192x4x192 := by decide
  reducesTo_S8192x4x192_S_d0_1_2 := by decide
  h_S_ := by decide
  bcast_S_S8192x4x128 := by decide
  reducesTo_S8192x4x128_S_d0_1_2 := by decide

/-- Under the precondition every argument holds real numbers. -/
theorem real_of_finite_qkv [Facts] (x0 x1 : FVec Ideal S8192x4x192 .f32) (x2 : FVec Ideal S8192x4x128 .f32)
    (h : fn (F := Ideal) x0 x1 x2 = fun _ => 1#1) :
    (∀ i, x0 i = ((x0 i).toReal : EReal)) ∧ (∀ i, x1 i = ((x1 i).toReal : EReal))
    ∧ (∀ i, x2 i = ((x2 i).toReal : EReal)) := by
  have e := congrFun h (Shape.Idx.first Facts.h_S_)
  obtain ⟨e, e2⟩ := IntOp.andi_eq_one.1 e
  obtain ⟨e0, e1⟩ := IntOp.andi_eq_one.1 e
  exact ⟨real_of_all x0 _ _ _ _ e0, real_of_all x1 _ _ _ _ e1, real_of_all x2 _ _ _ _ e2⟩

end

/-- Two arrays of rank three that hold the same extended reals are equal. -/
theorem ext3 {n₀ n₁ n₂ : ℕ} (f g : (⟨3, ![n₀, n₁, n₂]⟩ : Shape).Idx → EReal)
    (h : ∀ (a : Fin n₀) (b : Fin n₁) (c : Fin n₂), f (ix3 a b c) = g (ix3 a b c)) : f = g :=
  funext fun i => by rw [eq_ix3 i]; exact h _ _ _

/-- The same at rank four, the third axis of extent one. -/
theorem ext4 {n₀ n₁ n₃ : ℕ} (f g : (⟨4, ![n₀, n₁, 1, n₃]⟩ : Shape).Idx → EReal)
    (h : ∀ (a : Fin n₀) (b : Fin n₁) (d : Fin n₃), f (ix4 a b 0 d) = g (ix4 a b 0 d)) : f = g :=
  funext fun i => by
    rw [eq_ix4 i]
    obtain hz : i 2 = (0 : Fin 1) := Fin.fin_one_eq_zero _
    rw [hz]
    exact h _ _ _

section

open Cert.Kernel2Ideal

variable (m : (ℓ : Loc nD τ sig) → Buf (Elt Ideal) ℓ) (c : Dev nD)

/-- The real queries, keys and values that the kernel program's argument arrays hold. -/
def queries : Lanes := fun j h e => EReal.toReal (m ((c : Thread nD τ).loc main_arg0) (ix3 (Fin.ofNat 8192 j) h e))
def keys : Lanes := fun j h e => EReal.toReal (m ((c : Thread nD τ).loc main_arg1) (ix3 (Fin.ofNat 8192 j) h e))
def values : Vals := fun j h d => EReal.toReal (m ((c : Thread nD τ).loc main_arg2) (ix3 (Fin.ofNat 8192 j) h d))

theorem ofNat_val (j : Fin 8192) : Fin.ofNat 8192 j.val = j := Fin.ext (Nat.mod_eq_of_lt j.isLt)

theorem args_in (h : Cert.Pre_Kernel2Ideal_finite_qkv (hPre_finite_qkv := qkv_facts) m) :
    Args m c (queries m c) (keys m c) (values m c) := by
  obtain ⟨h0, h1, h2⟩ := @real_of_finite_qkv qkv_facts _ _ _ (h c)
  exact ⟨fun j _ _ => by rw [queries, ofNat_val]; exact h0 _, fun j _ _ => by rw [keys, ofNat_val]; exact h1 _,
    fun j _ _ => by rw [values, ofNat_val]; exact h2 _⟩

end

theorem algebraic : Cert.algebraic_Kernel2Ideal_Reference2Ideal_pre_finite_qkv
    (hKernel2Ideal := Cert.Kernel2Ideal.Gen.facts) (hReference2Ideal := Cert.Reference2Ideal.Gen.facts)
    (hPre_finite_qkv := qkv_facts) := by
  intro m g m' g' hpre hagree
  have hin c := args_in m c hpre
  have href c := RefArgs.mk (q := queries m c) (k := keys m c) (v := values m c) (hin c).q (hin c).k (hin c).v
  refine ⟨_, _, Cert.Kernel2Ideal.Value.run_blocks m g, ?_⟩
  refine (θ_run _ _ _).mono (fun r h c => ?_) (Cert.Reference2Ideal.Value.run m' g')
  obtain ⟨a0, a1, a2⟩ := hagree c
  obtain ⟨r0, r1, hargs⟩ := h c
  rw [Cert.Reference2Ideal.Read.val_main_v42_eq] at r0
  rw [Cert.Reference2Ideal.Read.val_main_v43_eq] at r1
  rw [a0, a1, a2] at r0
  rw [a0, a1] at r1
  refine ⟨r0.trans (ext3 _ _ fun h t d => ?_), r1.trans (ext4 _ _ fun h b p => ?_), hargs⟩
  · exact (ref_out (href c) h t d).trans (out_array (hin c) h t d).symm
  · exact (ref_lse h b p).trans ((ref_logsum (href c) h _).trans (lse_array (hin c) h b p).symm)

end Cert.Att

end
-- ==== Proof.BwdLoops.lean ====
/- The loops of the attention backward call's body, for the program over the reals. -/
module

public import proofs.«01_k».proof.Proof.Gen.Kernel3Ideal.Loops
public import Idealize.ShloMosaic.Lib.LoopRemainder

@[expose] public section

set_option maxRecDepth 65536
set_option maxHeartbeats 4000000

noncomputable section

namespace Cert.Kernel3Ideal.Run

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- A memref held whole at the contents `f`. -/
abbrev held {s : Shape} {d : EltTy} (c : Dev nD) (a : Memref sig .tc .vmem s d) (f : a.view.ty.Contents (Elt F)) : sProp 𝕄 :=
  a.view.loc (c : Thread nD τ) ↦[a.view.set]{fullShare} f

section
variable (c : Dev nD) (arg2 : Memref sig .tc .vmem S1x8192x256 .bf16) (arg3 : Memref sig .tc .vmem S1x8192x128 .bf16)
  (arg4 arg5 : Memref sig .tc .vmem S1x16x1x512 .f32) (arg8 : Memref sig .tc .vmem S1x8192x256 .f32)
  (arg9 : Memref sig .tc .vmem S1x512x256 .f32) (arg10 : Memref sig .tc .vmem S1x512x128 .f32)
  (arg11 arg12 : Memref sig .tc .vmem S512x2048 .f32) (arg13 arg14 : Memref sig .tc .vmem S512x2048 .bf16)
  (X2 : arg2.view.ty.Contents (Elt F)) (X3 : arg3.view.ty.Contents (Elt F)) (X4 : arg4.view.ty.Contents (Elt F))
  (X5 : arg5.view.ty.Contents (Elt F))
  (g8 : arg8.view.ty.Contents (Elt F)) (g9 : arg9.view.ty.Contents (Elt F)) (g10 : arg10.view.ty.Contents (Elt F))

/-- What one step of a loop works with: the whole inputs, the three sums at given contents, the four scratch arrays at any. -/
abbrev around : sProp 𝕄 :=
  iprop(held c arg2 X2 ∗ held c arg3 X3 ∗ held c arg4 X4 ∗ held c arg5 X5 ∗ held c arg8 g8 ∗ held c arg9 g9 ∗ held c arg10 g10
    ∗ (∃ g, held c arg11 g) ∗ (∃ g, held c arg12 g) ∗ (∃ g, held c arg13 g) ∗ (∃ g, held c arg14 g))

/-- The same before step `k` of a loop, each sum at `k` steps of its rule from where it began. -/
abbrev before (s8 : ℕ → arg8.view.ty.Contents (Elt F)) (s9 : ℕ → arg9.view.ty.Contents (Elt F))
    (s10 : ℕ → arg10.view.ty.Contents (Elt F)) (k : ℕ) : sProp 𝕄 :=
  iprop(held c arg2 X2 ∗ held c arg3 X3 ∗ held c arg4 X4 ∗ held c arg5 X5 ∗ (∃ g, held c arg8 g ∗ ⌜g = s8 k⌝)
    ∗ (∃ g, held c arg9 g ∗ ⌜g = s9 k⌝) ∗ (∃ g, held c arg10 g ∗ ⌜g = s10 k⌝)
    ∗ (∃ g, held c arg11 g) ∗ (∃ g, held c arg12 g) ∗ (∃ g, held c arg13 g) ∗ (∃ g, held c arg14 g))

end

/-- `k` steps of a rule that asks for the step's number to be below `n`; beyond `n` nothing changes. -/
abbrev steps {α : Type} (n : ℕ) (f : Fin n → α → α) (a : α) (k : ℕ) : α :=
  Nat.rec a (fun j x => if h : j < n then f ⟨j, h⟩ x else x) k

theorem steps_succ {α : Type} (n : ℕ) (f : Fin n → α → α) (a : α) (k : Fin n) :
    steps n f a (k.val + 1) = f k (steps n f a k.val) := dif_pos k.isLt

/-- The same under a name that is not unfolded: what a loop that has ended leaves. -/
@[irreducible] def total {α : Type} (n : ℕ) (f : Fin n → α → α) (a : α) (k : ℕ) : α := steps n f a k

theorem steps_total {α : Type} (n : ℕ) (f : Fin n → α → α) (a : α) (k : ℕ) : steps n f a k = total n f a k := by
  unfold total; rfl

variable (i : grid0.Coords) (arg2 : Memref sig .tc .vmem S1x8192x256 .bf16) (harg2 : arg2.IsWhole) (arg3 : Memref sig .tc .vmem S1x8192x128 .bf16) (harg3 : arg3.IsWhole) (arg4 : Memref sig .tc .vmem S1x16x1x512 .f32) (harg4 : arg4.IsWhole) (arg5 : Memref sig .tc .vmem S1x16x1x512 .f32) (harg5 : arg5.IsWhole) (arg6 : Memref sig .tc .vmem S1x512x256 .bf16) (harg6 : arg6.IsWhole) (arg7 : Memref sig .tc .vmem S1x512x128 .bf16) (harg7 : arg7.IsWhole) (arg8 : Memref sig .tc .vmem S1x8192x256 .f32) (harg8 : arg8.IsWhole) (arg9 : Memref sig .tc .vmem S1x512x256 .f32) (harg9 : arg9.IsWhole) (arg10 : Memref sig .tc .vmem S1x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S512x2048 .bf16) (harg14 : arg14.IsWhole) (v4 : FVec F S512x256 .bf16) (v6 : FVec F S512x128 .bf16)
    (X2 : arg2.view.ty.Contents (Elt F)) (X3 : arg3.view.ty.Contents (Elt F)) (X4 : arg4.view.ty.Contents (Elt F)) (X5 : arg5.view.ty.Contents (Elt F))

/-- One step of the loop over 2048 queries: how it changes the three sums, found by running it. -/
@[irreducible] def trip1 (c : Dev nD) (k : Fin (k0_t1_loop i).trips) :
    Σ' (R8 : arg8.view.ty.Contents (Elt F) → arg8.view.ty.Contents (Elt F)) (R9 : arg9.view.ty.Contents (Elt F) → arg9.view.ty.Contents (Elt F)),
    { R10 : arg10.view.ty.Contents (Elt F) → arg10.view.ty.Contents (Elt F) // ∀ (arg1 : BitVec 32) (v16 : BitVec 32) (v473 : Vec F S512x512 .bf16) (v490 : Vec F S1x512x256 .f32) (v498 : BitVec 32) (E : Set ℕ) (g8 : arg8.view.ty.Contents (Elt F)) (g9 : arg9.view.ty.Contents (Elt F)) (g10 : arg10.view.ty.Contents (Elt F)),
      around c arg2 arg3 arg4 arg5 arg8 arg9 arg10 arg11 arg12 arg13 arg14 X2 X3 X4 X5 g8 g9 g10
      ⊢ wp frame (wpE (defs₀ (F := F)) Variants.none (c : Thread nD τ) none) E
          (k0_t1_body (F := F) i arg2 harg2 arg3 harg3 arg4 harg4 arg5 harg5 arg6 harg6 arg7 harg7 arg8 harg8 arg9 harg9 arg10 harg10 arg11 harg11 arg12 harg12 arg13 harg13 arg14 harg14 arg1 v4 v6 v16 v473 v490 v498 k ())
          (fun _ => around c arg2 arg3 arg4 arg5 arg8 arg9 arg10 arg11 arg12 arg13 arg14 X2 X3 X4 X5 (R8 g8) (R9 g9) (R10 g10)) } := by
  refine ⟨?_, ?_, ?_, fun arg1 v16 v473 v490 v498 E g8 g9 g10 => ?run⟩
  case run =>
    unfold k0_t1_body
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    iintro ⟨H2, H3, H4, H5, H8, H9, H10, ⟨%f11, H11⟩, ⟨%f12, H12⟩, ⟨%f13, H13⟩, ⟨%f14, H14⟩⟩
    sl_exec
    sl_step
    sl_close

set_option warn.classDefReducibility false in
/-- The loop over 2048 queries: before step `k` each sum is at `k` steps from where it began. -/
@[sl_loop] def loop1 (arg1 : BitVec 32) (v16 : BitVec 32) (v473 : Vec F S512x512 .bf16) (v490 : Vec F S1x512x256 .f32) (v498 : BitVec 32) (c : Dev nD) (E : Set ℕ) (X8 : arg8.view.ty.Contents (Elt F)) (X9 : arg9.view.ty.Contents (Elt F)) (X10 : arg10.view.ty.Contents (Elt F)) :
    LoopInvTy_k0_t1 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 arg1 v4 v6 v16 v473 v490 v498 where
  inv k _ := before c arg2 arg3 arg4 arg5 arg8 arg9 arg10 arg11 arg12 arg13 arg14 X2 X3 X4 X5
    (steps _ (fun j => (trip1 i arg2 harg2 arg3 harg3 arg4 harg4 arg5 harg5 arg6 harg6 arg7 harg7 arg8 harg8 arg9 harg9 arg10 harg10 arg11 harg11 arg12 harg12 arg13 harg13 arg14 harg14 v4 v6 X2 X3 X4 X5 c j).1) X8)
    (steps _ (fun j => (trip1 i arg2 harg2 arg3 harg3 arg4 harg4 arg5 harg5 arg6 harg6 arg7 harg7 arg8 harg8 arg9 harg9 arg10 harg10 arg11 harg11 arg12 harg12 arg13 harg13 arg14 harg14 v4 v6 X2 X3 X4 X5 c j).2.1) X9)
    (steps _ (fun j => (trip1 i arg2 harg2 arg3 harg3 arg4 harg4 arg5 harg5 arg6 harg6 arg7 harg7 arg8 harg8 arg9 harg9 arg10 harg10 arg11 harg11 arg12 harg12 arg13 harg13 arg14 harg14 v4 v6 X2 X3 X4 X5 c j).2.2.1) X10) k
  step k _ := by
    iintro ⟨H2, H3, H4, H5, ⟨%g8, H8, %h8⟩, ⟨%g9, H9, %h9⟩, ⟨%g10, H10, %h10⟩, ⟨%f11, H11⟩, ⟨%f12, H12⟩, ⟨%f13, H13⟩, ⟨%f14, H14⟩⟩
    subst h8 h9 h10
    iapply (wp_wand_r Idealize.ShloMosaic.frame (wpE (defs₀ (F := F)) Variants.none (c : Thread nD τ) none) E)
    isplitl [H2 H3 H4 H5 H8 H9 H10 H11 H12 H13 H14]
    · iapply ((trip1 i arg2 harg2 arg3 harg3 arg4 harg4 arg5 harg5 arg6 harg6 arg7 harg7 arg8 harg8 arg9 harg9 arg10 harg10 arg11 harg11 arg12 harg12 arg13 harg13 arg14 harg14 v4 v6 X2 X3 X4 X5 c k).2.2.2 arg1 v16 v473 v490 v498 E _ _ _)
      sl_close
    · iintro %_u ⟨H2, H3, H4, H5, H8, H9, H10, ⟨%e11, H11⟩, ⟨%e12, H12⟩, ⟨%e13, H13⟩, ⟨%e14, H14⟩⟩
      isplitl [H2]; · iexact H2
      isplitl [H3]; · iexact H3
      isplitl [H4]; · iexact H4
      isplitl [H5]; · iexact H5
      isplitl [H8]; · iexists _; isplitl [H8]; · iexact H8
                      ipureintro; exact (steps_succ _ _ _ k).symm
      isplitl [H9]; · iexists _; isplitl [H9]; · iexact H9
                      ipureintro; exact (steps_succ _ _ _ k).symm
      isplitl [H10]; · iexists _; isplitl [H10]; · iexact H10
                       ipureintro; exact (steps_succ _ _ _ k).symm
      sl_close

/-- One step of the loop over 1024 queries: how it changes the three sums, found by running it. -/
@[irreducible] def trip3 (c : Dev nD) (k : Fin (k0_t3_loop i).trips) :
    Σ' (R8 : arg8.view.ty.Contents (Elt F) → arg8.view.ty.Contents (Elt F)) (R9 : arg9.view.ty.Contents (Elt F) → arg9.view.ty.Contents (Elt F)),
    { R10 : arg10.view.ty.Contents (Elt F) → arg10.view.ty.Contents (Elt F) // ∀ (v523 : BitVec 32) (v524 : BitVec 32) (c2_i32 : BitVec 32) (v525 : BitVec 32) (v526 : BitVec 1) (E : Set ℕ) (g8 : arg8.view.ty.Contents (Elt F)) (g9 : arg9.view.ty.Contents (Elt F)) (g10 : arg10.view.ty.Contents (Elt F)),
      around c arg2 arg3 arg4 arg5 arg8 arg9 arg10 arg11 arg12 arg13 arg14 X2 X3 X4 X5 g8 g9 g10
      ⊢ wp frame (wpE (defs₀ (F := F)) Variants.none (c : Thread nD τ) none) E
          (k0_t3_body (F := F) i arg2 harg2 arg3 harg3 arg4 harg4 arg5 harg5 arg6 harg6 arg7 harg7 arg8 harg8 arg9 harg9 arg10 harg10 arg11 harg11 arg12 harg12 arg13 harg13 arg14 harg14 v4 v6 v523 v524 c2_i32 v525 v526 k ())
          (fun _ => around c arg2 arg3 arg4 arg5 arg8 arg9 arg10 arg11 arg12 arg13 arg14 X2 X3 X4 X5 (R8 g8) (R9 g9) (R10 g10)) } := by
  refine ⟨?_, ?_, ?_, fun v523 v524 c2_i32 v525 v526 E g8 g9 g10 => ?run⟩
  case run =>
    unfold k0_t3_body
    simp only [k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton]
    iintro ⟨H2, H3, H4, H5, H8, H9, H10, ⟨%f11, H11⟩, ⟨%f12, H12⟩, ⟨%f13, H13⟩, ⟨%f14, H14⟩⟩
    sl_exec
    sl_step
    sl_close

set_option warn.classDefReducibility false in
/-- The loop over 1024 queries: before step `k` each sum is at `k` steps from where it began. -/
@[sl_loop] def loop3 (v523 : BitVec 32) (v524 : BitVec 32) (c2_i32 : BitVec 32) (v525 : BitVec 32) (v526 : BitVec 1) (c : Dev nD) (E : Set ℕ) (X8 : arg8.view.ty.Contents (Elt F)) (X9 : arg9.view.ty.Contents (Elt F)) (X10 : arg10.view.ty.Contents (Elt F)) :
    LoopInvTy_k0_t3 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 v4 v6 v523 v524 c2_i32 v525 v526 where
  inv k _ := before c arg2 arg3 arg4 arg5 arg8 arg9 arg10 arg11 arg12 arg13 arg14 X2 X3 X4 X5
    (steps _ (fun j => (trip3 i arg2 harg2 arg3 harg3 arg4 harg4 arg5 harg5 arg6 harg6 arg7 harg7 arg8 harg8 arg9 harg9 arg10 harg10 arg11 harg11 arg12 harg12 arg13 harg13 arg14 harg14 v4 v6 X2 X3 X4 X5 c j).1) X8)
    (steps _ (fun j => (trip3 i arg2 harg2 arg3 harg3 arg4 harg4 arg5 harg5 arg6 harg6 arg7 harg7 arg8 harg8 arg9 harg9 arg10 harg10 arg11 harg11 arg12 harg12 arg13 harg13 arg14 harg14 v4 v6 X2 X3 X4 X5 c j).2.1) X9)
    (steps _ (fun j => (trip3 i arg2 harg2 arg3 harg3 arg4 harg4 arg5 harg5 arg6 harg6 arg7 harg7 arg8 harg8 arg9 harg9 arg10 harg10 arg11 harg11 arg12 harg12 arg13 harg13 arg14 harg14 v4 v6 X2 X3 X4 X5 c j).2.2.1) X10) k
  step k _ := by
    iintro ⟨H2, H3, H4, H5, ⟨%g8, H8, %h8⟩, ⟨%g9, H9, %h9⟩, ⟨%g10, H10, %h10⟩, ⟨%f11, H11⟩, ⟨%f12, H12⟩, ⟨%f13, H13⟩, ⟨%f14, H14⟩⟩
    subst h8 h9 h10
    iapply (wp_wand_r Idealize.ShloMosaic.frame (wpE (defs₀ (F := F)) Variants.none (c : Thread nD τ) none) E)
    isplitl [H2 H3 H4 H5 H8 H9 H10 H11 H12 H13 H14]
    · iapply ((trip3 i arg2 harg2 arg3 harg3 arg4 harg4 arg5 harg5 arg6 harg6 arg7 harg7 arg8 harg8 arg9 harg9 arg10 harg10 arg11 harg11 arg12 harg12 arg13 harg13 arg14 harg14 v4 v6 X2 X3 X4 X5 c k).2.2.2 v523 v524 c2_i32 v525 v526 E _ _ _)
      sl_close
    · iintro %_u ⟨H2, H3, H4, H5, H8, H9, H10, ⟨%e11, H11⟩, ⟨%e12, H12⟩, ⟨%e13, H13⟩, ⟨%e14, H14⟩⟩
      isplitl [H2]; · iexact H2
      isplitl [H3]; · iexact H3
      isplitl [H4]; · iexact H4
      isplitl [H5]; · iexact H5
      isplitl [H8]; · iexists _; isplitl [H8]; · iexact H8
                      ipureintro; exact (steps_succ _ _ _ k).symm
      isplitl [H9]; · iexists _; isplitl [H9]; · iexact H9
                      ipureintro; exact (steps_succ _ _ _ k).symm
      isplitl [H10]; · iexists _; isplitl [H10]; · iexact H10
                       ipureintro; exact (steps_succ _ _ _ k).symm
      sl_close

/-- One step of the loop over 512 queries: how it changes the three sums, found by running it. -/
@[irreducible] def trip5 (c : Dev nD) (k : Fin (k0_t5_loop i).trips) :
    Σ' (R8 : arg8.view.ty.Contents (Elt F) → arg8.view.ty.Contents (Elt F)) (R9 : arg9.view.ty.Contents (Elt F) → arg9.view.ty.Contents (Elt F)),
    { R10 : arg10.view.ty.Contents (Elt F) → arg10.view.ty.Contents (Elt F) // ∀ (v548 : BitVec 32) (E : Set ℕ) (g8 : arg8.view.ty.Contents (Elt F)) (g9 : arg9.view.ty.Contents (Elt F)) (g10 : arg10.view.ty.Contents (Elt F)),
      around c arg2 arg3 arg4 arg5 arg8 arg9 arg10 arg11 arg12 arg13 arg14 X2 X3 X4 X5 g8 g9 g10
      ⊢ wp frame (wpE (defs₀ (F := F)) Variants.none (c : Thread nD τ) none) E
          (k0_t5_body (F := F) i arg2 harg2 arg3 harg3 arg4 harg4 arg5 harg5 arg6 harg6 arg7 harg7 arg8 harg8 arg9 harg9 arg10 harg10 arg11 harg11 arg12 harg12 arg13 harg13 arg14 harg14 v4 v6 v548 k ())
          (fun _ => around c arg2 arg3 arg4 arg5 arg8 arg9 arg10 arg11 arg12 arg13 arg14 X2 X3 X4 X5 (R8 g8) (R9 g9) (R10 g10)) } := by
  refine ⟨?_, ?_, ?_, fun v548 E g8 g9 g10 => ?run⟩
  case run =>
    unfold k0_t5_body
    simp only [k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton]
    iintro ⟨H2, H3, H4, H5, H8, H9, H10, ⟨%f11, H11⟩, ⟨%f12, H12⟩, ⟨%f13, H13⟩, ⟨%f14, H14⟩⟩
    sl_exec
    sl_step
    sl_close

set_option warn.classDefReducibility false in
/-- The loop over 512 queries: before step `k` each sum is at `k` steps from where it began. -/
@[sl_loop] def loop5 (v548 : BitVec 32) (c : Dev nD) (E : Set ℕ) (X8 : arg8.view.ty.Contents (Elt F)) (X9 : arg9.view.ty.Contents (Elt F)) (X10 : arg10.view.ty.Contents (Elt F)) :
    LoopInvTy_k0_t5 (F := F) Unit ℕ (UR sig nD τ) ℕ Variants.none c none E i arg2 harg2 arg3 harg3 arg4 harg4 arg5 harg5 arg6 harg6 arg7 harg7 arg8 harg8 arg9 harg9 arg10 harg10 arg11 harg11 arg12 harg12 arg13 harg13 arg14 harg14 v4 v6 v548 where
  inv k _ := before c arg2 arg3 arg4 arg5 arg8 arg9 arg10 arg11 arg12 arg13 arg14 X2 X3 X4 X5
    (steps _ (fun j => (trip5 i arg2 harg2 arg3 harg3 arg4 harg4 arg5 harg5 arg6 harg6 arg7 harg7 arg8 harg8 arg9 harg9 arg10 harg10 arg11 harg11 arg12 harg12 arg13 harg13 arg14 harg14 v4 v6 X2 X3 X4 X5 c j).1) X8)
    (steps _ (fun j => (trip5 i arg2 harg2 arg3 harg3 arg4 harg4 arg5 harg5 arg6 harg6 arg7 harg7 arg8 harg8 arg9 harg9 arg10 harg10 arg11 harg11 arg12 harg12 arg13 harg13 arg14 harg14 v4 v6 X2 X3 X4 X5 c j).2.1) X9)
    (steps _ (fun j => (trip5 i arg2 harg2 arg3 harg3 arg4 harg4 arg5 harg5 arg6 harg6 arg7 harg7 arg8 harg8 arg9 harg9 arg10 harg10 arg11 harg11 arg12 harg12 arg13 harg13 arg14 harg14 v4 v6 X2 X3 X4 X5 c j).2.2.1) X10) k
  step k _ := by
    iintro ⟨H2, H3, H4, H5, ⟨%g8, H8, %h8⟩, ⟨%g9, H9, %h9⟩, ⟨%g10, H10, %h10⟩, ⟨%f11, H11⟩, ⟨%f12, H12⟩, ⟨%f13, H13⟩, ⟨%f14, H14⟩⟩
    subst h8 h9 h10
    iapply (wp_wand_r Idealize.ShloMosaic.frame (wpE (defs₀ (F := F)) Variants.none (c : Thread nD τ) none) E)
    isplitl [H2 H3 H4 H5 H8 H9 H10 H11 H12 H13 H14]
    · iapply ((trip5 i arg2 harg2 arg3 harg3 arg4 harg4 arg5 harg5 arg6 harg6 arg7 harg7 arg8 harg8 arg9 harg9 arg10 harg10 arg11 harg11 arg12 harg12 arg13 harg13 arg14 harg14 v4 v6 X2 X3 X4 X5 c k).2.2.2 v548 E _ _ _)
      sl_close
    · iintro %_u ⟨H2, H3, H4, H5, H8, H9, H10, ⟨%e11, H11⟩, ⟨%e12, H12⟩, ⟨%e13, H13⟩, ⟨%e14, H14⟩⟩
      isplitl [H2]; · iexact H2
      isplitl [H3]; · iexact H3
      isplitl [H4]; · iexact H4
      isplitl [H5]; · iexact H5
      isplitl [H8]; · iexists _; isplitl [H8]; · iexact H8
                      ipureintro; exact (steps_succ _ _ _ k).symm
      isplitl [H9]; · iexists _; isplitl [H9]; · iexact H9
                      ipureintro; exact (steps_succ _ _ _ k).symm
      isplitl [H10]; · iexists _; isplitl [H10]; · iexact H10
                       ipureintro; exact (steps_succ _ _ _ k).symm
      sl_close

end Cert.Kernel3Ideal.Run
-- ==== Proof.BwdRun.lean ====
/- The whole body of the attention backward call, run for the program over the reals. -/
module

public import proofs.«01_k».proof.Proof.BwdLoops
public import proofs.«01_k».proof.Proof.Gen.Kernel3Ideal.Launch
public import proofs.«01_k».proof.Proof.Gen.Kernel3Ideal.Points
public import Idealize.ShloMosaic.Lib.Pipeline.Kit
public import Idealize.ShloMosaic.Lib.Pipeline.FrameBody

@[expose] public section

set_option maxRecDepth 65536
set_option maxHeartbeats 4000000

noncomputable section

namespace Cert.Kernel3Ideal.Run

open Cert.Kernel3Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (i : grid0.Coords) (arg2 : Memref sig .tc .vmem S1x8192x256 .bf16) (harg2 : arg2.IsWhole) (arg3 : Memref sig .tc .vmem S1x8192x128 .bf16) (harg3 : arg3.IsWhole) (arg4 : Memref sig .tc .vmem S1x16x1x512 .f32) (harg4 : arg4.IsWhole) (arg5 : Memref sig .tc .vmem S1x16x1x512 .f32) (harg5 : arg5.IsWhole) (arg6 : Memref sig .tc .vmem S1x512x256 .bf16) (harg6 : arg6.IsWhole) (arg7 : Memref sig .tc .vmem S1x512x128 .bf16) (harg7 : arg7.IsWhole) (arg8 : Memref sig .tc .vmem S1x8192x256 .f32) (harg8 : arg8.IsWhole) (arg9 : Memref sig .tc .vmem S1x512x256 .f32) (harg9 : arg9.IsWhole) (arg10 : Memref sig .tc .vmem S1x512x128 .f32) (harg10 : arg10.IsWhole) (arg11 : Memref sig .tc .vmem S512x2048 .f32) (harg11 : arg11.IsWhole) (arg12 : Memref sig .tc .vmem S512x2048 .f32) (harg12 : arg12.IsWhole) (arg13 : Memref sig .tc .vmem S512x2048 .bf16) (harg13 : arg13.IsWhole) (arg14 : Memref sig .tc .vmem S512x2048 .bf16) (harg14 : arg14.IsWhole)

/-- The condition under which a point starts the sums over a head anew: it is the head's first. -/
abbrev first (i : grid0.Coords) : Prop :=
  Scalar.cmpi .ne (Scalar.extui (Scalar.cmpi .eq (BitVec.ofNat 32 (i 1).val) 0#32) : BitVec 32) 0#32 = 1#1

section
variable (c : Dev nD) (x2 : Vec F S1x8192x256 .bf16) (x3 : Vec F S1x8192x128 .bf16) (x4 : Vec F S1x16x1x512 .f32) (x5 : Vec F S1x16x1x512 .f32)
    (x6 : Vec F S1x512x256 .bf16) (x7 : Vec F S1x512x128 .bf16)

/-- What the body is given and gives back: the six inputs whole, the four scratch arrays at any contents. -/
abbrev kept : sProp 𝕄 :=
  iprop(owns (c : Thread nD τ) arg2 fullShare x2 ∗ owns (c : Thread nD τ) arg3 fullShare x3 ∗ owns (c : Thread nD τ) arg4 fullShare x4
    ∗ owns (c : Thread nD τ) arg5 fullShare x5 ∗ owns (c : Thread nD τ) arg6 fullShare x6 ∗ owns (c : Thread nD τ) arg7 fullShare x7
    ∗ (∃ g, held c arg11 g) ∗ (∃ g, held c arg12 g) ∗ (∃ g, held c arg13 g) ∗ (∃ g, held c arg14 g))
end

/-- The whole body on a head's first point: what it makes of the three sums, found by running it. -/
@[irreducible] def runFirst (h : first i) (c : Dev nD) (x2 : Vec F S1x8192x256 .bf16) (x3 : Vec F S1x8192x128 .bf16) (x4 : Vec F S1x16x1x512 .f32) (x5 : Vec F S1x16x1x512 .f32)
    (x6 : Vec F S1x512x256 .bf16) (x7 : Vec F S1x512x128 .bf16) :
    Σ' (R8 : arg8.view.ty.Contents (Elt F)) (R9 : arg9.view.ty.Contents (Elt F)),
    { R10 : arg10.view.ty.Contents (Elt F) // ∀ (E : Set ℕ) (K : PUnit → sProp 𝕄) (g8 : arg8.view.ty.Contents (Elt F)) (g9 : arg9.view.ty.Contents (Elt F)) (g10 : arg10.view.ty.Contents (Elt F)),
      iprop(kept arg2 arg3 arg4 arg5 arg6 arg7 arg11 arg12 arg13 arg14 c x2 x3 x4 x5 x6 x7 ∗ held c arg8 g8 ∗ held c arg9 g9 ∗ held c arg10 g10
        ∗ (iprop(kept arg2 arg3 arg4 arg5 arg6 arg7 arg11 arg12 arg13 arg14 c x2 x3 x4 x5 x6 x7 ∗ held c arg8 R8 ∗ held c arg9 R9 ∗ held c arg10 R10) -∗ K ⟨⟩))
      ⊢ wp frame (wpE (defs₀ (F := F)) Variants.none (c : Thread nD τ) none) E
          (cc0_mla_bwd (F := F) i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K g8 g9 g10 => ?run⟩
  case run =>
    simp only [cc0_mla_bwd_eq_skeleton]; unfold cc0_mla_bwd_skel
    simp only [k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold kept owns
    iintro ⟨⟨⟨%f2, %h2, H2⟩, ⟨%f3, %h3, H3⟩, ⟨%f4, %h4, H4⟩, ⟨%f5, %h5, H5⟩, ⟨%f6, %h6, H6⟩, ⟨%f7, %h7, H7⟩, ⟨%f11, H11⟩, ⟨%f12, H12⟩, ⟨%f13, H13⟩, ⟨%f14, H14⟩⟩, H8, H9, H10, Hk⟩
    obtain rfl := harg2.eq_unread h2; obtain rfl := harg3.eq_unread h3; obtain rfl := harg4.eq_unread h4
    obtain rfl := harg5.eq_unread h5; obtain rfl := harg6.eq_unread h6; obtain rfl := harg7.eq_unread h7
    sl_exec (disch := first | sl_exact h)
    simp only [steps_total]
    sl_exec
    simp only [steps_total]
    sl_exec
    simp only [steps_total]
    sl_step
    iapply Hk
    isplitl [H2 H3 H4 H5 H6 H7 H11 H12 H13 H14]
    · isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H11]; · iexists _; iexact H11
      isplitl [H12]; · iexists _; iexact H12
      isplitl [H13]; · iexists _; iexact H13
      iexists _; iexact H14
    isplitl [H8]; · iexact H8
    isplitl [H9]; · iexact H9
    iexact H10

/-- The whole body on a head's later points: what it makes of the three sums, found by running it. -/
@[irreducible] def runLater (h : ¬ first i) (c : Dev nD) (x2 : Vec F S1x8192x256 .bf16) (x3 : Vec F S1x8192x128 .bf16) (x4 : Vec F S1x16x1x512 .f32) (x5 : Vec F S1x16x1x512 .f32)
    (x6 : Vec F S1x512x256 .bf16) (x7 : Vec F S1x512x128 .bf16) :
    Σ' (R8 : arg8.view.ty.Contents (Elt F) → arg8.view.ty.Contents (Elt F)) (R9 : arg9.view.ty.Contents (Elt F)),
    { R10 : arg10.view.ty.Contents (Elt F) // ∀ (E : Set ℕ) (K : PUnit → sProp 𝕄) (g8 : arg8.view.ty.Contents (Elt F)) (g9 : arg9.view.ty.Contents (Elt F)) (g10 : arg10.view.ty.Contents (Elt F)),
      iprop(kept arg2 arg3 arg4 arg5 arg6 arg7 arg11 arg12 arg13 arg14 c x2 x3 x4 x5 x6 x7 ∗ held c arg8 g8 ∗ held c arg9 g9 ∗ held c arg10 g10
        ∗ (iprop(kept arg2 arg3 arg4 arg5 arg6 arg7 arg11 arg12 arg13 arg14 c x2 x3 x4 x5 x6 x7 ∗ held c arg8 (R8 g8) ∗ held c arg9 R9 ∗ held c arg10 R10) -∗ K ⟨⟩))
      ⊢ wp frame (wpE (defs₀ (F := F)) Variants.none (c : Thread nD τ) none) E
          (cc0_mla_bwd (F := F) i arg2 harg2 arg3 harg3 arg4 harg4 arg5 harg5 arg6 harg6 arg7 harg7 arg8 harg8 arg9 harg9 arg10 harg10 arg11 harg11 arg12 harg12 arg13 harg13 arg14 harg14) K } := by
  refine ⟨?_, ?_, ?_, fun E K g8 g9 g10 => ?run⟩
  case run =>
    simp only [cc0_mla_bwd_eq_skeleton]; unfold cc0_mla_bwd_skel
    simp only [k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton]
    unfold kept owns
    iintro ⟨⟨⟨%f2, %h2, H2⟩, ⟨%f3, %h3, H3⟩, ⟨%f4, %h4, H4⟩, ⟨%f5, %h5, H5⟩, ⟨%f6, %h6, H6⟩, ⟨%f7, %h7, H7⟩, ⟨%f11, H11⟩, ⟨%f12, H12⟩, ⟨%f13, H13⟩, ⟨%f14, H14⟩⟩, H8, H9, H10, Hk⟩
    obtain rfl := harg2.eq_unread h2; obtain rfl := harg3.eq_unread h3; obtain rfl := harg4.eq_unread h4
    obtain rfl := harg5.eq_unread h5; obtain rfl := harg6.eq_unread h6; obtain rfl := harg7.eq_unread h7
    sl_exec (disch := first | sl_exact h)
    simp only [steps_total]
    sl_exec
    simp only [steps_total]
    sl_exec
    simp only [steps_total]
    sl_step
    iapply Hk
    isplitl [H2 H3 H4 H5 H6 H7 H11 H12 H13 H14]
    · isplitl [H2]
      · iexists _; isplitr; · ipureintro; exact harg2.read_unread _
        iexact H2
      isplitl [H3]
      · iexists _; isplitr; · ipureintro; exact harg3.read_unread _
        iexact H3
      isplitl [H4]
      · iexists _; isplitr; · ipureintro; exact harg4.read_unread _
        iexact H4
      isplitl [H5]
      · iexists _; isplitr; · ipureintro; exact harg5.read_unread _
        iexact H5
      isplitl [H6]
      · iexists _; isplitr; · ipureintro; exact harg6.read_unread _
        iexact H6
      isplitl [H7]
      · iexists _; isplitr; · ipureintro; exact harg7.read_unread _
        iexact H7
      isplitl [H11]; · iexists _; iexact H11
      isplitl [H12]; · iexists _; iexact H12
      isplitl [H13]; · iexists _; iexact H13
      iexists _; iexact H14
    isplitl [H8]; · iexact H8
    isplitl [H9]; · iexact H9
    iexact H10

end Cert.Kernel3Ideal.Run
-- ==== Proof.BwdFrame.lean ====
/- The launch of the attention backward call and its frame, for the program over the reals. -/
module

public import proofs.«01_k».proof.Proof.BwdRun
public import Idealize.ShloMosaic.Lib.Claim
public import Idealize.ShloMosaic.Lib.WordCmp

@[expose] public section

set_option maxRecDepth 65536
set_option maxHeartbeats 4000000

noncomputable section

namespace Cert.Kernel3Ideal.Run

open Cert.Kernel3Ideal.Gen
open Idealize.ShloMosaic Idealize.ShloMosaic.TcCoe Idealize.ShloMosaic.Tactic
open Idealize.SL Idealize.SL.RA Idealize.SL.BI
open scoped Idealize.SL.BI
open Idealize.ShloMosaic.Rounds
open Idealize.ShloMosaic.Pipeline (Dat Cfg Window BodyObligation cellOf)
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A core's arrays when the kernel starts: after the host operations that come before it. -/
abbrev V (c : Dev nD) (b : Ref sig .tc) : Buf (Elt F) ((c : Thread nD τ).loc b) :=
  StableHlo.after (List.flatten [hostOps0, hostOps0_1, hostOps0_2, hostOps0_3, hostOps0_4, hostOps0_5, hostOps0_6, hostOps0_7, hostOps0_8]) (fun b => m (c, b)) b

theorem hostOps0_fresh : (hostOps0 : List (HloOp τ sig (Elt F))).Forall fun op => op.fresh = ∅ := by
  simp only [List.Forall]; repeat' constructor
theorem hostOps0_1_fresh : (hostOps0_1 : List (HloOp τ sig (Elt F))).Forall fun op => op.fresh = ∅ := by
  simp only [List.Forall]; repeat' constructor
theorem hostOps0_2_fresh : (hostOps0_2 : List (HloOp τ sig (Elt F))).Forall fun op => op.fresh = ∅ := by
  simp only [List.Forall]; repeat' constructor
theorem hostOps0_3_fresh : (hostOps0_3 : List (HloOp τ sig (Elt F))).Forall fun op => op.fresh = ∅ := by
  simp only [List.Forall]; repeat' constructor
theorem hostOps0_4_fresh : (hostOps0_4 : List (HloOp τ sig (Elt F))).Forall fun op => op.fresh = ∅ := by
  simp only [List.Forall]; repeat' constructor
theorem hostOps0_5_fresh : (hostOps0_5 : List (HloOp τ sig (Elt F))).Forall fun op => op.fresh = ∅ := by
  simp only [List.Forall]; repeat' constructor
theorem hostOps0_6_fresh : (hostOps0_6 : List (HloOp τ sig (Elt F))).Forall fun op => op.fresh = ∅ := by
  simp only [List.Forall]; repeat' constructor
theorem hostOps0_7_fresh : (hostOps0_7 : List (HloOp τ sig (Elt F))).Forall fun op => op.fresh = ∅ := by
  simp only [List.Forall]; repeat' constructor
theorem hostOps0_8_fresh : (hostOps0_8 : List (HloOp τ sig (Elt F))).Forall fun op => op.fresh = ∅ := by
  simp only [List.Forall]; repeat' constructor

/-- The program up to the kernel: its host operations, then the kernel. -/
theorem hmain (𝒱₀ : Variants) : Pipeline.HMain (Ix := Unit) (Name := ℕ) (U := UR sig nD τ) (Lvl := ℕ) cfgs 0 defs₀ 𝒱₀ m (main (F := F)) (V m) :=
  Pipeline.hmain_prefixes cfgs 0 defs₀ 𝒱₀ m main [hostOps0, hostOps0_1, hostOps0_2, hostOps0_3, hostOps0_4, hostOps0_5, hostOps0_6, hostOps0_7, hostOps0_8]
    (by simp only [List.Forall]; exact ⟨hostOps0_sub, hostOps0_1_sub, hostOps0_2_sub, hostOps0_3_sub, hostOps0_4_sub, hostOps0_5_sub, hostOps0_6_sub, hostOps0_7_sub, hostOps0_8_sub⟩)
    (by simp only [List.Forall]; exact ⟨hostOps0_fresh, hostOps0_1_fresh, hostOps0_2_fresh, hostOps0_3_fresh, hostOps0_4_fresh, hostOps0_5_fresh, hostOps0_6_fresh, hostOps0_7_fresh, hostOps0_8_fresh⟩) main_chain

/-- No host operation writes an argument. -/
theorem V_of_unwritten (c : Dev nD) (b : Ref sig .tc)
    (h : (List.flatten [hostOps0, hostOps0_1, hostOps0_2, hostOps0_3, hostOps0_4, hostOps0_5, hostOps0_6, hostOps0_7, hostOps0_8] : List (HloOp τ sig (Elt F))).Forall fun op => (Proc.devRef .tc b : DevRef τ sig) ∉ op.writes) :
    V m c b = m ((c : Thread nD τ).loc b) :=
  StableHlo.after_of_forall_not_mem (b := Proc.devRef .tc b) _ _ (List.forall_iff_forall_mem.mp h)

theorem V_main_arg0 (c : Dev nD) : V m c main_arg0 = m ((c : Thread nD τ).loc main_arg0) :=
  V_of_unwritten m c main_arg0 (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem V_main_arg1 (c : Dev nD) : V m c main_arg1 = m ((c : Thread nD τ).loc main_arg1) :=
  V_of_unwritten m c main_arg1 (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem V_main_arg2 (c : Dev nD) : V m c main_arg2 = m ((c : Thread nD τ).loc main_arg2) :=
  V_of_unwritten m c main_arg2 (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))
theorem V_main_arg3 (c : Dev nD) : V m c main_arg3 = m ((c : Thread nD τ).loc main_arg3) :=
  V_of_unwritten m c main_arg3 (by
    simp only [hostOps0, hostOps0_1, hostOps0_2, hostOps0_3, hostOps0_4, hostOps0_5, hostOps0_6, hostOps0_7, hostOps0_8, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide))

/-- A window's block at a point, read off its array as the kernel finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

abbrev ms0 (t : Fin cfg0.N) : Memref sig .tc .vmem S1x8192x256 .bf16 := win0_0.stage (cfg0.slots t 0)
abbrev hs0 (t : Fin cfg0.N) : (ms0 t).IsWhole := hstage0_0 ((cfg0.slots t 0).cast nbuf0_0)
abbrev ms1 (t : Fin cfg0.N) : Memref sig .tc .vmem S1x8192x128 .bf16 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x16x1x512 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S1x16x1x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x512x256 .bf16 := win0_4.stage (cfg0.slots t 4)
abbrev hs4 (t : Fin cfg0.N) : (ms4 t).IsWhole := hstage0_4 ((cfg0.slots t 4).cast nbuf0_4)
abbrev ms5 (t : Fin cfg0.N) : Memref sig .tc .vmem S1x512x128 .bf16 := win0_5.stage (cfg0.slots t 5)
abbrev hs5 (t : Fin cfg0.N) : (ms5 t).IsWhole := hstage0_5 ((cfg0.slots t 5).cast nbuf0_5)
abbrev ms6 (t : Fin cfg0.N) : Memref sig .tc .vmem S1x8192x256 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S1x512x256 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S1x512x128 .f32 := win0_8.stage (cfg0.slots t 8)
abbrev hs8 (t : Fin cfg0.N) : (ms8 t).IsWhole := hstage0_8 ((cfg0.slots t 8).cast nbuf0_8)

/-- A point starts the sums anew when its number is a multiple of 16. -/
theorem first_iff : ∀ t : Fin cfg0.N, first (grid0.coords t) ↔ t.val % 16 = 0 :=
  (fun t => by
    have ht : t.val < 64 := Nat.lt_of_lt_of_eq t.isLt N_0
    have e1 : (grid0.coords t 1).val = t.val / 1 % 16 := Pipeline.Grid.coords_val t 1 (by decide) rfl
    simp only [first, e1]
    word_cmp
   : ∀ t : Fin grid0.N, first (grid0.coords t) ↔ t.val % 16 = 0)

/-- The body's run at a head's first point, -/
abbrev atFirst (c : Dev nD) (t : Fin cfg0.N) (h : t.val % 16 = 0) :=
  runFirst (F := F) (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) ((first_iff t).mpr h) c (iblk m c 0 t) (iblk m c 1 t) (iblk m c 2 t) (iblk m c 3 t) (iblk m c 4 t) (iblk m c 5 t)

/-- and at its later ones. -/
abbrev atLater (c : Dev nD) (t : Fin cfg0.N) (h : ¬ t.val % 16 = 0) :=
  runLater (F := F) (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) (fun hf => h ((first_iff t).mp hf)) c (iblk m c 0 t) (iblk m c 1 t) (iblk m c 2 t) (iblk m c 3 t) (iblk m c 4 t) (iblk m c 5 t)

/-- The sum over a head's queries after a point: started at the head's first point, then carried on. -/
def dqAt (c : Dev nD) : (n : ℕ) → n < cfg0.N → Vec F S1x8192x256 .f32
  | 0, hn => (ms6 ⟨0, hn⟩).view.read (Elt F) (atFirst m c ⟨0, hn⟩ (Nat.zero_mod _)).1
  | n + 1, hn =>
    if h : (n + 1) % 16 = 0 then (ms6 ⟨n + 1, hn⟩).view.read (Elt F) (atFirst m c ⟨n + 1, hn⟩ h).1
    else (ms6 ⟨n + 1, hn⟩).view.read (Elt F)
      ((atLater m c ⟨n + 1, hn⟩ h).1 ((hs6 ⟨n + 1, hn⟩).unread (dqAt c n (Nat.lt_of_succ_lt hn))))

theorem dqAt_first (c : Dev nD) (t : Fin cfg0.N) (h : t.val % 16 = 0) :
    dqAt m c t.val t.isLt = (ms6 t).view.read (Elt F) (atFirst m c t h).1 := by
  obtain ⟨n, hn⟩ := t
  cases n with
  | zero => exact rfl
  | succ n => exact (dif_pos h).trans rfl

theorem dqAt_later (c : Dev nD) (t : Fin cfg0.N) (h : ¬ t.val % 16 = 0) :
    dqAt m c t.val t.isLt = (ms6 t).view.read (Elt F)
      ((atLater m c t h).1 ((hs6 t).unread (dqAt m c (t.val - 1) (Nat.lt_of_le_of_lt (Nat.sub_le _ _) t.isLt)))) := by
  obtain ⟨n, hn⟩ := t
  cases n with
  | zero => exact absurd (Nat.zero_mod _) h
  | succ n => exact (dif_neg h).trans rfl

/-- The two sums over a block of keys after a point. -/
def dkAt (c : Dev nD) (t : Fin cfg0.N) : Vec F S1x512x256 .f32 :=
  if h : t.val % 16 = 0 then (ms7 t).view.read (Elt F) (atFirst m c t h).2.1 else (ms7 t).view.read (Elt F) (atLater m c t h).2.1
def dvAt (c : Dev nD) (t : Fin cfg0.N) : Vec F S1x512x128 .f32 :=
  if h : t.val % 16 = 0 then (ms8 t).view.read (Elt F) (atFirst m c t h).2.2.1 else (ms8 t).view.read (Elt F) (atLater m c t h).2.2.1

/-- What every array and every staging buffer holds, point by point. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => dqAt m c t.val t.isLt
    | ⟨7, _⟩ => dkAt m c t
    | ⟨8, _⟩ => dvAt m c t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = dqAt m c t.val t.isLt := by dsimp only [dats]
theorem after7 (c : Dev nD) (t : Fin cfg0.N) : (dats m 0 c).after 7 t = dkAt m c t := by dsimp only [dats]
theorem after8 (c : Dev nD) (t : Fin cfg0.N) : (dats m 0 c).after 8 t = dvAt m c t := by dsimp only [dats]

/-- An input's staging buffer holds its block at every point. -/
theorem before0 (c : Dev nD) (t : Fin cfg0.N) (d) : (dats m 0 c).before 0 t d = iblk m c 0 t :=
  ((dats m 0 c).before_in_eq_fetched 0 rfl (fun _ => rfl) (fun _ _ _ => rfl) (fun t => by rw [after0]; unfold Dat.blockOf iblk; rw [A_eq]; try rfl) t d).trans
    (by unfold Dat.fetched Dat.blockOf iblk; rw [A_eq]; try rfl)
theorem before1 (c : Dev nD) (t : Fin cfg0.N) (d) : (dats m 0 c).before 1 t d = iblk m c 1 t :=
  ((dats m 0 c).before_in_eq_fetched 1 rfl (fun _ => rfl) (fun _ _ _ => rfl) (fun t => by rw [after1]; unfold Dat.blockOf iblk; rw [A_eq]; try rfl) t d).trans
    (by unfold Dat.fetched Dat.blockOf iblk; rw [A_eq]; try rfl)
theorem before2 (c : Dev nD) (t : Fin cfg0.N) (d) : (dats m 0 c).before 2 t d = iblk m c 2 t :=
  ((dats m 0 c).before_in_eq_fetched 2 rfl (fun _ => rfl) (fun _ _ _ => rfl) (fun t => by rw [after2]; unfold Dat.blockOf iblk; rw [A_eq]; try rfl) t d).trans
    (by unfold Dat.fetched Dat.blockOf iblk; rw [A_eq]; try rfl)
theorem before3 (c : Dev nD) (t : Fin cfg0.N) (d) : (dats m 0 c).before 3 t d = iblk m c 3 t :=
  ((dats m 0 c).before_in_eq_fetched 3 rfl (fun _ => rfl) (fun _ _ _ => rfl) (fun t => by rw [after3]; unfold Dat.blockOf iblk; rw [A_eq]; try rfl) t d).trans
    (by unfold Dat.fetched Dat.blockOf iblk; rw [A_eq]; try rfl)
theorem before4 (c : Dev nD) (t : Fin cfg0.N) (d) : (dats m 0 c).before 4 t d = iblk m c 4 t :=
  ((dats m 0 c).before_in_eq_fetched 4 rfl (fun _ => rfl) (fun _ _ _ => rfl) (fun t => by rw [after4]; unfold Dat.blockOf iblk; rw [A_eq]; try rfl) t d).trans
    (by unfold Dat.fetched Dat.blockOf iblk; rw [A_eq]; try rfl)
theorem before5 (c : Dev nD) (t : Fin cfg0.N) (d) : (dats m 0 c).before 5 t d = iblk m c 5 t :=
  ((dats m 0 c).before_in_eq_fetched 5 rfl (fun _ => rfl) (fun _ _ _ => rfl) (fun t => by rw [after5]; unfold Dat.blockOf iblk; rw [A_eq]; try rfl) t d).trans
    (by unfold Dat.fetched Dat.blockOf iblk; rw [A_eq]; try rfl)

/-- The sum over a head's queries is kept from point to point within the head. -/
theorem before6 (c : Dev nD) (t : Fin cfg0.N) (h : ¬ t.val % 16 = 0) (d) :
    (dats m 0 c).before 6 t d = dqAt m c (t.val - 1) (Nat.lt_of_le_of_lt (Nat.sub_le _ _) t.isLt) := by
  have hN : t.val < 64 := lt_of_lt_of_eq t.isLt (show cfg0.N = 64 from N_0)
  rw [Dat.before_out_kept _ 6 rfl t (by omega) (Bool.eq_false_iff.mpr fun h => by have := (flush0_6 _).mp h; dsimp only at this; omega)
    (fun _ => rfl) (fun _ _ => rfl)]
  dsimp only [dats]

/-- A scratch array held as a buffer is held as the whole of its memref. -/
theorem held_scratch (c : Dev nD) (b : Ref sig .tc) :
    (iprop(∃ f : Buf (Elt F) ((c : Thread nD τ).loc b), ((c : Thread nD τ).loc b) ↦{fullShare} f) : sProp 𝕄)
      = iprop(∃ g, (Memref.whole b).view.loc (c : Thread nD τ) ↦[(Memref.whole b).view.set]{fullShare} g) := by
  have hs : (Memref.whole b).view.set = Finset.univ := View.set_whole b
  rw [hs]

/-- What the body is called with at a point, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

/-- and what it returns. -/
def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

/-- The body at any point: its run, first or later. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = Pipeline.ΦA spec0 c from rfl, show (dats m 0 c).Φ t.castSucc = Pipeline.ΦA spec0 c from rfl,
    show (dats m 0 c).owesAt () t.succ = (dats m 0 c).owesAt () t.castSucc from rfl,
    after0, after1, after2, after3, after4, after5, after6, after7, after8]
  unfold Pipeline.ΦA
  rw [scopedRest0_eq, held_scratch, held_scratch, held_scratch, held_scratch]
  by_cases h : t.val % 16 = 0
  · rw [dqAt_first m c t h, dkAt, dvAt, dif_pos h, dif_pos h]
    iintro ⟨⟨⟨H11, H12, H13, H14⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    unfold owns
    icases H6 with ⟨%f6, %e6, H6⟩
    icases H7 with ⟨%f7, %e7, H7⟩
    icases H8 with ⟨%f8, %e8, H8⟩
    iapply ((atFirst m c t h).2.2.2 Set.univ _ _ _ _)
    isplitl [H0 H1 H2 H3 H4 H5 H11 H12 H13 H14]
    · unfold kept owns
      isplitl [H0]; · iexact H0
      isplitl [H1]; · iexact H1
      isplitl [H2]; · iexact H2
      isplitl [H3]; · iexact H3
      isplitl [H4]; · iexact H4
      isplitl [H5]; · iexact H5
      isplitl [H11]; · iexact H11
      isplitl [H12]; · iexact H12
      isplitl [H13]; · iexact H13
      iexact H14
    isplitl [H6]; · iexact H6
    isplitl [H7]; · iexact H7
    isplitl [H8]; · iexact H8
    unfold kept owns
    iintro ⟨⟨H0, H1, H2, H3, H4, H5, H11, H12, H13, H14⟩, H6, H7, H8⟩
    isplitl [H11 H12 H13 H14 Hr]
    · isplitl [H11 H12 H13 H14]
      · isplitl [H11]; · iexact H11
        isplitl [H12]; · iexact H12
        isplitl [H13]; · iexact H13
        iexact H14
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr
      swap; · iexact H6
      ipureintro; rfl
    isplitl [H7]
    · iexists _; isplitr
      swap; · iexact H7
      ipureintro; rfl
    iexists _; isplitr
    swap; · iexact H8
    ipureintro; rfl
  · rw [dqAt_later m c t h, dkAt, dvAt, dif_neg h, dif_neg h]; simp only [before6 m c t h]
    iintro ⟨⟨⟨H11, H12, H13, H14⟩, Hr⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    unfold owns
    icases H6 with ⟨%f6, %e6, H6⟩
    icases H7 with ⟨%f7, %e7, H7⟩
    icases H8 with ⟨%f8, %e8, H8⟩
    obtain rfl := (hs6 t).eq_unread e6
    iapply ((atLater m c t h).2.2.2 Set.univ _ _ _ _)
    isplitl [H0 H1 H2 H3 H4 H5 H11 H12 H13 H14]
    · unfold kept owns
      isplitl [H0]; · iexact H0
      isplitl [H1]; · iexact H1
      isplitl [H2]; · iexact H2
      isplitl [H3]; · iexact H3
      isplitl [H4]; · iexact H4
      isplitl [H5]; · iexact H5
      isplitl [H11]; · iexact H11
      isplitl [H12]; · iexact H12
      isplitl [H13]; · iexact H13
      iexact H14
    isplitl [H6]; · iexact H6
    isplitl [H7]; · iexact H7
    isplitl [H8]; · iexact H8
    unfold kept owns
    iintro ⟨⟨H0, H1, H2, H3, H4, H5, H11, H12, H13, H14⟩, H6, H7, H8⟩
    isplitl [H11 H12 H13 H14 Hr]
    · isplitl [H11 H12 H13 H14]
      · isplitl [H11]; · iexact H11
        isplitl [H12]; · iexact H12
        isplitl [H13]; · iexact H13
        iexact H14
      iexact Hr
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]
    · iexists _; isplitr
      swap; · iexact H6
      ipureintro; rfl
    isplitl [H7]
    · iexists _; isplitr
      swap; · iexact H7
      ipureintro; rfl
    iexists _; isplitr
    swap; · iexact H8
    ipureintro; rfl

/-- The body table's row at a point is the body there. -/
theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

-- the launch rule's implicit arguments are found by unification, which has to unfold plain definitions
set_option backward.isDefEq.respectTransparency.types false in
/-- The launch, with every counter of the machine back at zero. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The launch: every array ends at what its blocks say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end unchanged. -/
theorem kept_args {r} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  ⟨((h c).2 main_arg0 (Pipeline.mem_restRefs_of main_arg0 (by decide) (by decide))).trans (V_main_arg0 m c),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c)⟩

/-- The frame: the program runs, its arguments end unchanged, every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun _ h => ⟨fun c => kept_args m h.1 c, h.2⟩) (run_main_quiescent m ρ)

end Cert.Kernel3Ideal.Run
-- ==== Proof.BwdTile.lean ====
/- The arithmetic of the attention kernel's backward pass on a block of keys and a block of queries, strip of 32 keys by
   strip of 32 keys, and what a tile written strip by strip reads back as. -/
module

public import proofs.«01_k».proof.Proof.AttSpec
public import proofs.«01_k».proof.Proof.BwdRun
public import Idealize.ShloMosaic.Lib.Pipeline.ValueKit
public import Idealize.ShloMosaic.Lib.ValueLayout

@[expose] public section

set_option maxRecDepth 65536

noncomputable section

namespace Cert.Bwd

open Idealize.ShloMosaic Idealize.SL.Sem
open Cert.Kernel3Ideal Cert.Kernel3Ideal.Gen Cert.Att

/-! ## The constants -/

theorem log2e_eq : Named.named (F := Ideal) κ "log2e" (φ := .f32) 0x3FB8AA3B#32 = (((Real.log 2)⁻¹ : ℝ) : EReal) :=
  (IdealRules.named_const.statement κ "log2e" .f32 0x3FB8AA3B#32 _ rfl).2.2
theorem scale_eq : Named.named (F := Ideal) κ "scale" (φ := .f32) 0x3D93CD3A#32 = (scale : EReal) :=
  (IdealRules.named_const.statement κ "scale" .f32 0x3D93CD3A#32 _ rfl).2.2
theorem scale2_eq : Named.named (F := Ideal) κ "scale2" (φ := .f32) 0x3DD53B95#32 = (scale2 : EReal) :=
  (IdealRules.named_const.statement κ "scale2" .f32 0x3DD53B95#32 _ rfl).2.2

/-- A weight from its score and the logarithm of its row's sum, both taken at base two. -/
theorem exp2_shift (a l : ℝ) : Ideal.exp2 ((a : EReal) * (scale2 : EReal) - (l : EReal) * (((Real.log 2)⁻¹ : ℝ) : EReal))
    = (Real.exp (scale * a - l) : EReal) := by
  have h : (a : EReal) * (scale2 : EReal) - (l : EReal) * (((Real.log 2)⁻¹ : ℝ) : EReal)
      = ((a - l / scale : ℝ) : EReal) * (scale2 : EReal) := by
    have hs : scale ≠ 0 := inv_ne_zero (by positivity)
    rw [← EReal.coe_mul, ← EReal.coe_mul, ← EReal.coe_mul, ← EReal.coe_sub]
    congr 1
    rw [show scale2 = scale * (Real.log 2)⁻¹ from rfl]
    field_simp
  rw [h, exp2_real]
  congr 2
  have hs : scale ≠ 0 := inv_ne_zero (by positivity)
  field_simp

/-! ## One head's data -/

/-- One head's queries, keys, values, output gradient, logarithms of the rows' sums and rows' sums of gradient and output. -/
structure Data where
  q : ℕ → Fin 256 → ℝ
  k : ℕ → Fin 256 → ℝ
  v : ℕ → Fin 128 → ℝ
  d : ℕ → Fin 128 → ℝ
  lse : ℕ → ℝ
  sum : ℕ → ℝ

namespace Data
variable (A : Data) (c t : ℕ)

def score : ℝ := ∑ e, A.k c e * A.q t e
def along : ℝ := ∑ e, A.v c e * A.d t e
/-- The weight of key `c` in query `t`'s mean. -/
def weight : ℝ := if c ≤ t then Real.exp (scale * A.score c t - A.lse t) else 0
/-- The gradient of its score. -/
def slope : ℝ := A.weight c t * (A.along c t - A.sum t) * scale

end Data

/-! ## A strip of 32 keys -/

section Strip

variable {W : ℕ} (hb : (⟨2, ![1, W]⟩ : Shape).Broadcasts ⟨2, ![32, W]⟩)
  (hs : (⟨2, ![32, W]⟩ : Shape).ShapeCasts ⟨2, ![32, W]⟩) (hφ : FTy.bits .bf16 < FTy.bits .f32)
  (l u : FVec Ideal ⟨2, ![1, W]⟩ .f32) (x y : FVec Ideal ⟨2, ![32, W]⟩ .f32)

/-- The strip's weights before any is masked. -/
def raw : FVec Ideal ⟨2, ![32, W]⟩ .f32 :=
  exp2 (subf (mulf x (broadcast ⟨2, ![32, W]⟩ (Named.named (F := Ideal) κ "scale2" 0x3DD53B95#32)))
    (broadcastTo ⟨2, ![32, W]⟩ l hb))

/-- A strip as it is stored. -/
def stored (p : FVec Ideal ⟨2, ![32, W]⟩ .f32) : FVec Ideal ⟨2, ![32, W]⟩ .bf16 :=
  shapeCast ⟨2, ![32, W]⟩ (truncf .bf16 p hφ) hs

/-- The gradients of the strip's scores from its weights. -/
def sloped (p : FVec Ideal ⟨2, ![32, W]⟩ .f32) : FVec Ideal ⟨2, ![32, W]⟩ .f32 :=
  mulf (mulf p (subf y (broadcastTo ⟨2, ![32, W]⟩ u hb)))
    (broadcast ⟨2, ![32, W]⟩ (Named.named (F := Ideal) κ "scale" 0x3D93CD3A#32))

theorem stored_eq (p : FVec Ideal ⟨2, ![32, W]⟩ .f32) : stored hs hφ p = p := by
  unfold stored; rw [Idealize.ShloMosaic.shapeCast_self]; rfl

variable (A : Data) (b r o : ℕ)
  (hl : ∀ t : Fin W, l (ix2 0 t) = (A.lse (o + t) : EReal) * (((Real.log 2)⁻¹ : ℝ) : EReal))
  (hu : ∀ t : Fin W, u (ix2 0 t) = (A.sum (o + t) : EReal))

theorem row_apply (a : Fin 32) (t : Fin W) : broadcastTo ⟨2, ![32, W]⟩ l hb (ix2 a t) = l (ix2 0 t) :=
  ValueIdx.broadcastTo_1b_ab_apply l hb a t

include hl in
theorem raw_apply (a : Fin 32) (t : Fin W) (hx : x (ix2 a t) = (A.score (b + (r + a)) (o + t) : EReal)) (hle : b + (r + a.val) ≤ o + t.val) :
    raw hb l x (ix2 a t) = (A.weight (b + (r + a)) (o + t) : EReal) := by
  unfold raw
  change Ideal.exp2 (x (ix2 a t) * Named.named (F := Ideal) κ "scale2" (φ := .f32) 0x3DD53B95#32 - broadcastTo _ l hb (ix2 a t)) = _
  rw [scale2_eq, row_apply, hl, hx, exp2_shift, Data.weight, if_pos hle]

include hu in
theorem sloped_apply (p : FVec Ideal ⟨2, ![32, W]⟩ .f32) (a : Fin 32) (t : Fin W)
    (hy : y (ix2 a t) = (A.along (b + (r + a)) (o + t) : EReal)) (hp : p (ix2 a t) = (A.weight (b + (r + a)) (o + t) : EReal)) :
    sloped hb u y p (ix2 a t) = (A.slope (b + (r + a)) (o + t) : EReal) := by
  unfold sloped
  change p (ix2 a t) * (y (ix2 a t) - broadcastTo _ u hb (ix2 a t)) * Named.named (F := Ideal) κ "scale" (φ := .f32) 0x3D93CD3A#32 = _
  rw [scale_eq, row_apply, hu, hy, hp, ← EReal.coe_sub, ← EReal.coe_mul, ← EReal.coe_mul]
  rfl

include hl in
/-- A strip of weights, none masked. -/
theorem stored_raw (a : Fin 32) (t : Fin W) (hx : x (ix2 a t) = (A.score (b + (r + a)) (o + t) : EReal))
    (hle : b + (r + a.val) ≤ o + t.val) : stored hs hφ (raw hb l x) (ix2 a t) = (A.weight (b + (r + a)) (o + t) : EReal) := by
  rw [stored_eq]; exact raw_apply hb l x A b r o hl a t hx hle

include hl hu in
/-- A strip of gradients of scores, none masked. -/
theorem stored_sloped (a : Fin 32) (t : Fin W) (hx : x (ix2 a t) = (A.score (b + (r + a)) (o + t) : EReal))
    (hy : y (ix2 a t) = (A.along (b + (r + a)) (o + t) : EReal)) (hle : b + (r + a.val) ≤ o + t.val) :
    stored hs hφ (sloped hb u y (raw hb l x)) (ix2 a t) = (A.slope (b + (r + a)) (o + t) : EReal) := by
  rw [stored_eq]
  exact sloped_apply hb u y A b r o hu _ a t hy (raw_apply hb l x A b r o hl a t hx hle)

end Strip

/-! ## A tile -/

section Tile

variable {sig : RefSig} {κ' : Kind} {sp : Space} {e : EltTy} (w : View sig κ' sp S512x2048 e)

/-- The stores, newest first, are strips of 32 rows of `G`, the oldest at row 0. -/
inductive Strips (W : ℕ) (G : ℕ → ℕ → Elt Ideal e) : ℕ → List (View.Piece (Elt Ideal) S512x2048 e) → Prop
  | nil : Strips W G 0 []
  | cons (b : ℕ) (inb : ∀ a, (![b, 0] : Fin 2 → ℕ) a + (![32, W] : Fin 2 → ℕ) a ≤ S512x2048.size a)
      (p : Vec Ideal ⟨2, ![32, W]⟩ e) (L : List (View.Piece (Elt Ideal) S512x2048 e))
      (hp : ∀ (a : Fin 32) (t : Fin W), p (ix2 a t) = G (b + a) t) (h : Strips W G b L) :
      Strips W G (b + 32) (⟨Rect.unit (s := S512x2048) ![b, 0] ![32, W] inb, p⟩ :: L)

theorem Strips.canon {W : ℕ} {G : ℕ → ℕ → Elt Ideal e} {n : ℕ} {L : List (View.Piece (Elt Ideal) S512x2048 e)} (h : Strips W G n L)
    (y : S512x2048.Idx) (h0 : (y 0).val < n) (h1 : (y 1).val < W) : View.canon L y = G (y 0).val (y 1).val := by
  induction h with
  | nil => omega
  | cons b inb p L hp h ih =>
    by_cases hb : (y 0).val < b
    · rw [View.canon_cons_of_not_mem _ _ (fun hm => ?_), ih hb]
      have := (Rect.mem_set_unit (s := S512x2048) (off := ![b, 0]) (size := ![32, W]) (inb := inb)).mp hm 0
      simp at this; omega
    · have hy : y = (Rect.unit (s := S512x2048) ![b, 0] ![32, W] inb).emb
          (ix2 (⟨(y 0).val - b, by omega⟩ : Fin 32) (⟨(y 1).val, h1⟩ : Fin W)) := by
        funext a
        fin_cases a <;> apply Fin.ext <;> simp [Rect.emb, LoadRect.idx, Rect.unit, ix2]
        omega
      conv_lhs => rw [hy]
      rw [View.canon_cons_emb, hp]
      simp only
      congr 1
      omega

/-- A tile written strip by strip, read back whole. -/
theorem Strips.read {W : ℕ} {G : ℕ → ℕ → Elt Ideal e} {L : List (View.Piece (Elt Ideal) S512x2048 e)} (h : Strips W G 512 L)
    (inb : ∀ a, (![0, 0] : Fin 2 → ℕ) a + (![512, W] : Fin 2 → ℕ) a ≤ S512x2048.size a) (c : Fin 512) (t : Fin W) :
    w.readCov L (Rect.unit (s := S512x2048) ![0, 0] ![512, W] inb).toLoadRect (ix2 c t) = G c t := by
  rw [View.readCov_eq_canon']
  beta_reduce
  rw [h.canon]
  · simp [LoadRect.idx, Rect.unit, Rect.toLoadRect, ix2]
  · simp [LoadRect.idx, Rect.unit, Rect.toLoadRect, ix2]
  · simp [LoadRect.idx, Rect.unit, Rect.toLoadRect, ix2]

/-- A tile written whole, one strip of it read back. -/
theorem read_strip {W : ℕ} (G : ℕ → ℕ → Elt Ideal e) (p : Vec Ideal ⟨2, ![512, W]⟩ e)
    (hp : ∀ (c : Fin 512) (t : Fin W), p (ix2 c t) = G c t)
    (inb : ∀ a, (![0, 0] : Fin 2 → ℕ) a + (![512, W] : Fin 2 → ℕ) a ≤ S512x2048.size a) (b : ℕ)
    (inb' : ∀ a, (![b, 0] : Fin 2 → ℕ) a + (![32, W] : Fin 2 → ℕ) a ≤ S512x2048.size a) (a : Fin 32) (t : Fin W) :
    w.readCov [⟨Rect.unit (s := S512x2048) ![0, 0] ![512, W] inb, p⟩]
      (Rect.unit (s := S512x2048) ![b, 0] ![32, W] inb').toLoadRect (ix2 a t) = G (b + a) t := by
  have hb : b + a.val < 512 := by have := inb' 0; simp at this; omega
  rw [View.readCov_eq_canon']
  beta_reduce
  have hy : (Rect.unit (s := S512x2048) ![b, 0] ![32, W] inb').toLoadRect.idx (ix2 a t)
      = (Rect.unit (s := S512x2048) ![0, 0] ![512, W] inb).emb (ix2 (⟨b + a.val, hb⟩ : Fin 512) t) := by
    funext d
    fin_cases d <;> apply Fin.ext <;> simp [Rect.emb, LoadRect.idx, Rect.unit, Rect.toLoadRect, ix2]
  rw [hy, View.canon_cons_emb, hp]

end Tile

end Cert.Bwd

end
-- ==== Proof.BwdSum.lean ====
/- The sums of the attention kernel's backward pass: one block of queries against a block of keys takes each of the three
   sums one block further. -/
module

public import proofs.«01_k».proof.Proof.BwdTile
public import Idealize.ShloMosaic.Lib.WritesUnit

@[expose] public section

set_option maxRecDepth 65536

noncomputable section

namespace Cert.Bwd

open Idealize.ShloMosaic Idealize.SL.Sem
open Cert.Kernel3Ideal Cert.Kernel3Ideal.Gen Cert.Att Cert.Ffn

section Upto

variable (A : Data) (b n : ℕ) (D : ℕ → Fin 256 → ℝ)

/-- Queries `b` up to `n` have met the block of keys at `b`: what the three sums then hold, the first having begun at `D`. -/
structure Upto (y8 : Vec Ideal S1x8192x256 .f32) (y9 : Vec Ideal S1x512x256 .f32) (y10 : Vec Ideal S1x512x128 .f32) : Prop where
  dq : ∀ (t : Fin 8192) (e : Fin 256), y8 (ix3 0 t e)
    = ((D t e + if b ≤ t.val ∧ t.val < n then ∑ c : Fin 512, A.slope (b + c) t * A.k (b + c) e else 0 : ℝ) : EReal)
  dk : ∀ (c : Fin 512) (e : Fin 256), y9 (ix3 0 c e) = ((∑ t ∈ Finset.Ico b n, A.slope (b + c) t * A.q t e : ℝ) : EReal)
  dv : ∀ (c : Fin 512) (e : Fin 128), y10 (ix3 0 c e) = ((∑ t ∈ Finset.Ico b n, A.weight (b + c) t * A.d t e : ℝ) : EReal)

/-- A sum one block further. -/
theorem sum_block {W : ℕ} (hbn : b ≤ n) (f : ℕ → ℝ) :
    ∑ t ∈ Finset.Ico b (n + W), f t = ∑ t ∈ Finset.Ico b n, f t + ∑ j : Fin W, f (n + j) := by
  rw [← Finset.sum_Ico_consecutive f hbn (Nat.le_add_right n W), Finset.sum_Ico_eq_sum_range f n (n + W), Nat.add_sub_cancel_left,
    Fin.sum_univ_eq_sum_range (fun j => f (n + j))]

variable {A b n D}

theorem Upto.step {W : ℕ} {y8 y8' : Vec Ideal S1x8192x256 .f32} {y9 y9' : Vec Ideal S1x512x256 .f32}
    {y10 y10' : Vec Ideal S1x512x128 .f32} (h : Upto A b n D y8 y9 y10) (hbn : b ≤ n)
    (s p : Fin 512 → Fin W → EReal) (hs : ∀ c t, s c t = (A.slope (b + c) (n + t) : EReal))
    (hp : ∀ c t, p c t = (A.weight (b + c) (n + t) : EReal))
    (q : Fin W → Fin 256 → EReal) (hq : ∀ t e, q t e = (A.q (n + t) e : EReal))
    (d : Fin W → Fin 128 → EReal) (hd : ∀ t e, d t e = (A.d (n + t) e : EReal))
    (k : Fin 512 → Fin 256 → EReal) (hk : ∀ c e, k c e = (A.k (b + c) e : EReal))
    (h8 : ∀ (t : Fin 8192) (j : Fin W) e, t.val = n + j.val → y8' (ix3 0 t e) = y8 (ix3 0 t e) + ∑ c, s c j * k c e)
    (h8' : ∀ (t : Fin 8192) e, t.val < n ∨ n + W ≤ t.val → y8' (ix3 0 t e) = y8 (ix3 0 t e))
    (h9 : ∀ c e, y9' (ix3 0 c e) = y9 (ix3 0 c e) + ∑ t, s c t * q t e)
    (h10 : ∀ c e, y10' (ix3 0 c e) = y10 (ix3 0 c e) + ∑ t, p c t * d t e) : Upto A b (n + W) D y8' y9' y10' where
  dq t e := by
    by_cases ht : t.val < n ∨ n + W ≤ t.val
    · rw [h8' t e ht, h.dq]
      congr 4
      simp only [eq_iff_iff]
      omega
    · have hj : t.val = n + (⟨t.val - n, by omega⟩ : Fin W).val := by simp only; omega
      rw [h8 t _ e hj, h.dq, if_neg (by omega), if_pos (by omega)]
      simp only [hs, hk, ← EReal.coe_mul, coe_sum]
      rw [← EReal.coe_add, ← hj, add_zero]
  dk c e := by
    rw [h9, h.dk, sum_block b n hbn]
    simp only [hs, hq, ← EReal.coe_mul, coe_sum]
    rw [← EReal.coe_add]
  dv c e := by
    rw [h10, h.dv, sum_block b n hbn]
    simp only [hp, hd, ← EReal.coe_mul, coe_sum]
    rw [← EReal.coe_add]

end Upto

/-! ## Loads and stores -/

section Reads

variable {sig : RefSig} {κ' : Kind} {sp : Space} {e : EltTy}

/-- A load of `W` rows at `o` reads rows `o, o + 1, …`. -/
theorem load_rows {H L W : ℕ} (w : View sig κ' sp ⟨3, ![1, H, L]⟩ e) (X : w.ty.Contents (Elt Ideal)) {off : Fin 3 → ℕ} (o : ℕ)
    (ho : off = ![0, o, 0]) (h : ∀ a, off a + (![1, W, L] : Fin 3 → ℕ) a ≤ (⟨3, ![1, H, L]⟩ : Shape).size a) (j : Fin W)
    (x : Fin L) (t : Fin H) (ht : t.val = o + j.val) :
    w.readAt (Elt Ideal) (Rect.unit (s := ⟨3, ![1, H, L]⟩) off ![1, W, L] h).toLoadRect X (ix3 0 j x)
      = w.read (Elt Ideal) X (ix3 0 t x) := by
  subst ho
  change w.read (Elt Ideal) X _ = _
  congr 1
  funext a
  fin_cases a <;> apply Fin.ext <;> simp [LoadRect.idx, Rect.unit, Rect.toLoadRect, ix3, ht]

/-- A store of `W` rows at `o`, read back at one of them, -/
theorem store_rows {H L W : ℕ} (w : View sig κ' sp ⟨3, ![1, H, L]⟩ e) (X : w.ty.Contents (Elt Ideal)) {off : Fin 3 → ℕ} (o : ℕ)
    (ho : off = ![0, o, 0]) (h : ∀ a, off a + (![1, W, L] : Fin 3 → ℕ) a ≤ (⟨3, ![1, H, L]⟩ : Shape).size a)
    (p : Vec Ideal ⟨3, ![1, W, L]⟩ e) (j : Fin W) (x : Fin L) (t : Fin H) (ht : t.val = o + j.val) :
    w.read (Elt Ideal) (w.writes (Elt Ideal) X [⟨Rect.unit (s := ⟨3, ![1, H, L]⟩) off ![1, W, L] h, p⟩]) (ix3 0 t x)
      = p (ix3 0 j x) := by
  refine View.read_writes_cons_unit_of_mem w X (s := ⟨3, ![1, H, L]⟩) h p [] (ix3 0 t x) (ix3 0 j x) ho fun a => ?_
  fin_cases a <;> simp [ix3, ht]

/-- and at another. -/
theorem store_other {H L W : ℕ} (w : View sig κ' sp ⟨3, ![1, H, L]⟩ e) (X : w.ty.Contents (Elt Ideal)) {off : Fin 3 → ℕ} (o : ℕ)
    (ho : off = ![0, o, 0]) (h : ∀ a, off a + (![1, W, L] : Fin 3 → ℕ) a ≤ (⟨3, ![1, H, L]⟩ : Shape).size a)
    (p : Vec Ideal ⟨3, ![1, W, L]⟩ e) (x : Fin L) (t : Fin H) (ht : t.val < o ∨ o + W ≤ t.val) :
    w.read (Elt Ideal) (w.writes (Elt Ideal) X [⟨Rect.unit (s := ⟨3, ![1, H, L]⟩) off ![1, W, L] h, p⟩]) (ix3 0 t x)
      = w.read (Elt Ideal) X (ix3 0 t x) :=
  View.read_writes_cons_unit_of_not_mem w X (s := ⟨3, ![1, H, L]⟩) h p [] (ix3 0 t x) ho 1 ht

/-- A row's 512 entries of one block. -/
theorem load_block (w : View sig κ' sp S1x16x1x512 e) (X : w.ty.Contents (Elt Ideal)) {off : Fin 4 → ℕ} (B : Fin 16)
    (ho : off = ![0, B.val, 0, 0]) (h : ∀ a, off a + S1x1x1x512.size a ≤ S1x16x1x512.size a) (j : Fin 512) :
    w.readAt (Elt Ideal) (Rect.unit (s := S1x16x1x512) off S1x1x1x512.size h).toLoadRect X (ix4 0 0 0 j)
      = w.read (Elt Ideal) X (ix4 0 B 0 j) := by
  subst ho
  change w.read (Elt Ideal) X _ = _
  congr 1
  funext a
  fin_cases a <;> apply Fin.ext <;> simp [LoadRect.idx, Rect.unit, Rect.toLoadRect, ix4]

end Reads

end Cert.Bwd

end
-- ==== Proof.BwdDiag.lean ====
/- The attention kernel's backward pass against the block of queries beside its block of keys, where a key after the query
   is masked. -/
module

public import proofs.«01_k».proof.Proof.AttNarrow
public import proofs.«01_k».proof.Proof.BwdSum

@[expose] public section

set_option maxRecDepth 65536
set_option maxHeartbeats 400000

noncomputable section

namespace Cert.Bwd

open Idealize.ShloMosaic Idealize.SL.Sem
open Cert.Kernel3Ideal Cert.Kernel3Ideal.Gen Cert.Kernel3Ideal.Run Cert.Att Cert.Ffn

/-! ## The mask -/

/-- A strip of weights from key `r` of the block, those of keys after the query set to zero. -/
def masked (r : BitVec 32) (p : FVec Ideal S32x512 .f32) : FVec Ideal S32x512 .f32 :=
  select (cmpi .sle (addi (iota .tc S32x512 32 [0] iota_S32x512_d0_w32) (broadcast S32x512 r)) (iota .tc S32x512 32 [1] iota_S32x512_d1_w32))
    p (broadcast S32x512 (Scalar.ofBits (F := Ideal) .f32 0x00000000#32))

theorem masked_apply (r : ℕ) (hr : r ≤ 480) (p : FVec Ideal S32x512 .f32) (a : Fin 32) (t : Fin 512) :
    masked (BitVec.ofNat 32 r) p (ix2 a t) = if r + a.val ≤ t.val then p (ix2 a t) else 0 := by
  have h : IntOp.cmpi .sle (IntOp.addi (BitVec.ofNat 32 a.val) (BitVec.ofNat 32 r)) (BitVec.ofNat 32 t.val)
      = if r + a.val ≤ t.val then 1#1 else 0#1 := by
    change IntOp.cmpi .sle (BitVec.ofNat 32 a.val + BitVec.ofNat 32 r) (BitVec.ofNat 32 t.val) = _
    rw [← BitVec.ofNat_add, le_place _ _ (by omega) (by omega)]
    congr 1
    simp only [eq_iff_iff]; omega
  pointwise [masked]
  rw [h]
  split <;> rfl

section

variable (hb : (⟨2, ![1, 512]⟩ : Shape).Broadcasts ⟨2, ![32, 512]⟩)
  (hs : (⟨2, ![32, 512]⟩ : Shape).ShapeCasts ⟨2, ![32, 512]⟩) (hφ : FTy.bits .bf16 < FTy.bits .f32)
  (l u : FVec Ideal ⟨2, ![1, 512]⟩ .f32) (x y : FVec Ideal ⟨2, ![32, 512]⟩ .f32) (A : Data) (b r : ℕ) (hr : r ≤ 480)
  (hl : ∀ t : Fin 512, l (ix2 0 t) = (A.lse (b + t) : EReal) * (((Real.log 2)⁻¹ : ℝ) : EReal))
  (hu : ∀ t : Fin 512, u (ix2 0 t) = (A.sum (b + t) : EReal))

include hr hl in
theorem masked_raw (a : Fin 32) (t : Fin 512) (hx : x (ix2 a t) = (A.score (b + (r + a)) (b + t) : EReal)) :
    masked (BitVec.ofNat 32 r) (raw hb l x) (ix2 a t) = (A.weight (b + (r + a)) (b + t) : EReal) := by
  rw [masked_apply r hr]
  split
  · exact raw_apply hb l x A b r b hl a t hx (by omega)
  · rw [Data.weight, if_neg (by omega)]; rfl

include hr hl in
/-- A strip of weights. -/
theorem stored_masked (a : Fin 32) (t : Fin 512) (hx : x (ix2 a t) = (A.score (b + (r + a)) (b + t) : EReal)) :
    stored hs hφ (masked (BitVec.ofNat 32 r) (raw hb l x)) (ix2 a t) = (A.weight (b + (r + a)) (b + t) : EReal) := by
  rw [stored_eq]; exact masked_raw hb l x A b r hr hl a t hx

include hr hl hu in
/-- A strip of gradients of scores. -/
theorem stored_masked_sloped (a : Fin 32) (t : Fin 512) (hx : x (ix2 a t) = (A.score (b + (r + a)) (b + t) : EReal))
    (hy : y (ix2 a t) = (A.along (b + (r + a)) (b + t) : EReal)) :
    stored hs hφ (sloped hb u y (masked (BitVec.ofNat 32 r) (raw hb l x))) (ix2 a t) = (A.slope (b + (r + a)) (b + t) : EReal) := by
  rw [stored_eq]
  exact sloped_apply hb u y A b r b hu _ a t hy (masked_raw hb l x A b r hr hl a t hx)

end

/-! ## What is added to each sum -/

theorem add_q_diag (k : FVec Ideal S512x256 .bf16) (s : Vec Ideal S512x512 .bf16) (u : Vec Ideal S1x512x256 .f32) (t : Fin 512)
    (e : Fin 256) : k0_pay455 k s u (ix3 0 t e) = u (ix3 0 t e) + ∑ c, s (ix2 c t) * k (ix2 c e) := by pointwise [k0_pay455]
theorem add_k_diag (q : FVec Ideal S512x256 .bf16) (s : Vec Ideal S512x512 .bf16) (u : Vec Ideal S1x512x256 .f32) (c : Fin 512)
    (e : Fin 256) : k0_pay454 q s u (ix3 0 c e) = u (ix3 0 c e) + ∑ t, s (ix2 c t) * q (ix2 t e) := by pointwise [k0_pay454]
theorem add_v_diag (d : FVec Ideal S512x128 .bf16) (p : Vec Ideal S512x512 .bf16) (u : Vec Ideal S1x512x128 .f32) (c : Fin 512)
    (e : Fin 128) : k0_pay453 d u p (ix3 0 c e) = u (ix3 0 c e) + ∑ t, p (ix2 c t) * d (ix2 t e) := by pointwise [k0_pay453]

theorem score_diag (k q : Vec Ideal S1x512x256 .bf16) (c : Fin 512) (t : Fin 512) :
    k0_pay390 k q (ix2 c t) = ∑ e, k (ix3 0 c e) * q (ix3 0 t e) := by pointwise [k0_pay390, k0_pay384, k0_pay388]
theorem along_diag (v d : Vec Ideal S1x512x128 .bf16) (c : Fin 512) (t : Fin 512) :
    k0_pay392 (k0_pay391 v d) (ix2 c t) = ∑ e, v (ix3 0 c e) * d (ix3 0 t e) := by
  pointwise [k0_pay392, k0_pay391, k0_pay385, k0_pay389]

theorem zero_q (t : Fin 8192) (e : Fin 256) : (k0_pay383 : FVec Ideal S1x8192x256 .f32) (ix3 0 t e) = 0 := by pointwise [k0_pay383]
theorem zero_k (c : Fin 512) (e : Fin 256) : (k0_pay386 : FVec Ideal S1x512x256 .f32) (ix3 0 c e) = 0 := by pointwise [k0_pay386]
theorem zero_v (c : Fin 512) (e : Fin 128) : (k0_pay387 : FVec Ideal S1x512x128 .f32) (ix3 0 c e) = 0 := by pointwise [k0_pay387]

variable (i : grid0.Coords) (arg2 : Memref sig .tc .vmem S1x8192x256 .bf16) (harg2 : arg2.IsWhole)
  (arg3 : Memref sig .tc .vmem S1x8192x128 .bf16) (harg3 : arg3.IsWhole) (arg4 : Memref sig .tc .vmem S1x16x1x512 .f32)
  (harg4 : arg4.IsWhole) (arg5 : Memref sig .tc .vmem S1x16x1x512 .f32) (harg5 : arg5.IsWhole)
  (arg6 : Memref sig .tc .vmem S1x512x256 .bf16) (harg6 : arg6.IsWhole) (arg7 : Memref sig .tc .vmem S1x512x128 .bf16)
  (harg7 : arg7.IsWhole) (arg11 arg12 : Memref sig .tc .vmem S512x2048 .f32) (arg13 arg14 : Memref sig .tc .vmem S512x2048 .bf16)
  (c : Dev nD) (x2 : Vec Ideal S1x8192x256 .bf16) (x3 : Vec Ideal S1x8192x128 .bf16) (x4 x5 : Vec Ideal S1x16x1x512 .f32)
  (x6 : Vec Ideal S1x512x256 .bf16) (x7 : Vec Ideal S1x512x128 .bf16) (A : Data) (b : ℕ)
  (hs : ∀ (a : ℕ) (inb : ∀ d, (![a, 0] : Fin 2 → ℕ) d + (![32, 512] : Fin 2 → ℕ) d ≤ S512x2048.size d) (r : Fin 32) (t : Fin 512),
    arg11.view.readCov (runLater.sl.H11_1 i arg2 harg2 arg6 harg6 c x2 x6) (Rect.unit (s := S512x2048) ![a, 0] ![32, 512] inb).toLoadRect
      (ix2 r t) = (A.score (b + (a + r)) (b + t) : EReal))
  (hd : ∀ (a : ℕ) (inb : ∀ d, (![a, 0] : Fin 2 → ℕ) d + (![32, 512] : Fin 2 → ℕ) d ≤ S512x2048.size d) (r : Fin 32) (t : Fin 512),
    arg12.view.readCov (runLater.sl.H12_1 i arg3 harg3 arg7 harg7 c x3 x7) (Rect.unit (s := S512x2048) ![a, 0] ![32, 512] inb).toLoadRect
      (ix2 r t) = (A.along (b + (a + r)) (b + t) : EReal))
  (hl : ∀ t : Fin 512, runLater.sl.r_5 i arg4 harg4 c x4 (ix2 0 t) = (A.lse (b + t) : EReal) * (((Real.log 2)⁻¹ : ℝ) : EReal))
  (hu : ∀ t : Fin 512, runLater.sl.r_6 i arg5 harg5 c x5 (ix2 0 t) = (A.sum (b + t) : EReal))

include hs hl in
/-- The weights. -/
theorem diag_weights : Strips 512 (fun c t => (A.weight (b + c) (b + t) : EReal)) 512
    (runLater.sl.H13_16 i arg2 harg2 arg4 harg4 arg6 harg6 arg11 c x2 x4 x6) := by
  unfold runLater.sl.H13_16
  repeat' refine Strips.cons _ _ _ _ (fun a t => ?_) ?_
  on_goal 17 => exact Strips.nil
  all_goals exact stored_masked broadcasts_S1x512_S32x512 _ _ _ _ A b _ (by omega) hl a t (hs _ _ a t)

include hs hd hl hu in
/-- The gradients of the scores. -/
theorem diag_slopes : Strips 512 (fun c t => (A.slope (b + c) (b + t) : EReal)) 512
    (runLater.sl.H14_16 i arg2 harg2 arg3 harg3 arg4 harg4 arg5 harg5 arg6 harg6 arg7 harg7 arg11 arg12 c x2 x3 x4 x5 x6 x7) := by
  unfold runLater.sl.H14_16
  repeat' refine Strips.cons _ _ _ _ (fun a t => ?_) ?_
  on_goal 17 => exact Strips.nil
  all_goals exact stored_masked_sloped broadcasts_S1x512_S32x512 _ _ _ _ _ _ A b _ (by omega) hl hu a t (hs _ _ a t) (hd _ _ a t)

/-- A sum's block as the body first writes it, whole: what was stored last. -/
theorem stored_last {H L : ℕ} {sig : RefSig} {κ' : Kind} {sp : Space} {e : EltTy} (w : View sig κ' sp ⟨3, ![1, H, L]⟩ e)
    (X : w.ty.Contents (Elt Ideal)) (h : ∀ a, (![0, 0, 0] : Fin 3 → ℕ) a + (![1, H, L] : Fin 3 → ℕ) a ≤ (⟨3, ![1, H, L]⟩ : Shape).size a)
    (p : Vec Ideal ⟨3, ![1, H, L]⟩ e) (R : List (View.Piece (Elt Ideal) ⟨3, ![1, H, L]⟩ e)) (j : Fin H) (x : Fin L) :
    w.read (Elt Ideal) (w.writes (Elt Ideal) X (⟨Rect.unit (s := ⟨3, ![1, H, L]⟩) ![0, 0, 0] ![1, H, L] h, p⟩ :: R)) (ix3 0 j x)
      = p (ix3 0 j x) := by
  refine View.read_writes_cons_unit_of_mem w X (s := ⟨3, ![1, H, L]⟩) h p R (ix3 0 j x) (ix3 0 j x) rfl fun a => ?_
  fin_cases a <;> simp [ix3]

/-- A block stored whole, read back whole. -/
theorem read_last {H L : ℕ} {sig : RefSig} {κ' : Kind} {sp : Space} {e : EltTy} (w : View sig κ' sp ⟨3, ![1, H, L]⟩ e)
    (h h' : ∀ a, (![0, 0, 0] : Fin 3 → ℕ) a + (![1, H, L] : Fin 3 → ℕ) a ≤ (⟨3, ![1, H, L]⟩ : Shape).size a)
    (p : Vec Ideal ⟨3, ![1, H, L]⟩ e) (j : Fin H) (x : Fin L) :
    w.readCov [⟨Rect.unit (s := ⟨3, ![1, H, L]⟩) ![0, 0, 0] ![1, H, L] h, p⟩]
      (Rect.unit (s := ⟨3, ![1, H, L]⟩) ![0, 0, 0] ![1, H, L] h').toLoadRect (ix3 0 j x) = p (ix3 0 j x) := by
  rw [View.readCov_eq_canon']
  beta_reduce
  have hy : (Rect.unit (s := ⟨3, ![1, H, L]⟩) ![0, 0, 0] ![1, H, L] h').toLoadRect.idx (ix3 0 j x)
      = (Rect.unit (s := ⟨3, ![1, H, L]⟩) ![0, 0, 0] ![1, H, L] h).emb (ix3 0 j x) := rfl
  rw [hy, View.canon_cons_emb]

/-- The first sum when the body has met the block beside its keys. -/
def start8 (arg8 : Memref sig .tc .vmem S1x8192x256 .f32) (g8 : arg8.view.ty.Contents (Elt Ideal)) : arg8.view.ty.Contents (Elt Ideal) :=
  arg8.view.writes (Elt Ideal) g8
    [⟨Rect.unit (s := S1x8192x256) (k0_off1 i) S1x512x256.size (k0_off1_inb i),
      k0_pay455 (runLater.sl.r arg6 harg6 c x6)
        (runLater.sl.v473 i arg2 harg2 arg3 harg3 arg4 harg4 arg5 harg5 arg6 harg6 arg7 harg7 arg11 arg12 arg14 c x2 x3 x4 x5 x6 x7)
        (runLater.sl.r_19 i arg8 g8)⟩]

/-- The block of queries beside the block of keys. -/
theorem diag_step (arg8 : Memref sig .tc .vmem S1x8192x256 .f32) (arg9 : Memref sig .tc .vmem S1x512x256 .f32)
    (arg10 : Memref sig .tc .vmem S1x512x128 .f32) (B : Fin 16) (hB : b = 512 * B.val)
    (h1 : k0_off1 i = ![0, b, 0]) (h2 : k0_off2 i = ![0, b, 0]) (h3 : k0_off3 i = ![0, B.val, 0, 0])
    (hq : ∀ (t : Fin 8192) e, x2 (ix3 0 t e) = (A.q t e : EReal))
    (hdo : ∀ (t : Fin 8192) e, x3 (ix3 0 t e) = (A.d t e : EReal))
    (hlse : ∀ (B : Fin 16) (t : Fin 512), x4 (ix4 0 B 0 t) = (A.lse (512 * B + t) : EReal))
    (hsum : ∀ (B : Fin 16) (t : Fin 512), x5 (ix4 0 B 0 t) = (A.sum (512 * B + t) : EReal))
    (hk : ∀ (c : Fin 512) e, x6 (ix3 0 c e) = (A.k (b + c) e : EReal)) (hv : ∀ (c : Fin 512) e, x7 (ix3 0 c e) = (A.v (b + c) e : EReal))
    (D : ℕ → Fin 256 → ℝ) (g8 : arg8.view.ty.Contents (Elt Ideal))
    (hD : ∀ (t : Fin 8192) e, arg8.view.read (Elt Ideal) g8 (ix3 0 t e) = (D t e : EReal)) :
    Upto A b (b + 512) D
      (arg8.view.read _ (start8 i arg2 harg2 arg3 harg3 arg4 harg4 arg5 harg5 arg6 harg6 arg7 harg7 arg11 arg12 arg14 c x2 x3 x4 x5 x6 x7 arg8 g8))
      (arg9.view.read _ (arg9.view.writes (Elt Ideal) arg9.view.junk
        (runLater.sl.H9_2 i arg2 harg2 arg3 harg3 arg4 harg4 arg5 harg5 arg6 harg6 arg7 harg7 arg9 arg11 arg12 arg14 c x2 x3 x4 x5 x6 x7)))
      (arg10.view.read _ (arg10.view.writes (Elt Ideal) arg10.view.junk
        (runLater.sl.H10_2 i arg2 harg2 arg3 harg3 arg4 harg4 arg6 harg6 arg10 arg11 arg13 c x2 x3 x4 x6))) := by
  have hlt (t : Fin 512) : b + t.val < 8192 := by omega
  have e2 := harg2.read_unread (Val := Elt Ideal) x2
  have e3 := harg3.read_unread (Val := Elt Ideal) x3
  have e4 := harg4.read_unread (Val := Elt Ideal) x4
  have e5 := harg5.read_unread (Val := Elt Ideal) x5
  have e6 := harg6.read_unread (Val := Elt Ideal) x6
  have e7 := harg7.read_unread (Val := Elt Ideal) x7
  have hq' (t : Fin 512) (e : Fin 256) : View.readAt (Elt Ideal) arg2.view
      (Rect.unit (s := S1x8192x256) (k0_off1 i) S1x512x256.size (k0_off1_inb i)).toLoadRect (harg2.unread x2) (ix3 0 t e) = (A.q (b + t) e : EReal) :=
    (load_rows arg2.view _ b h1 _ t e ⟨b + t.val, hlt t⟩ rfl).trans ((congrFun e2 _).trans (hq _ e))
  have hdo' (t : Fin 512) (e : Fin 128) : View.readAt (Elt Ideal) arg3.view
      (Rect.unit (s := S1x8192x128) (k0_off2 i) S1x512x128.size (k0_off2_inb i)).toLoadRect (harg3.unread x3) (ix3 0 t e) = (A.d (b + t) e : EReal) :=
    (load_rows arg3.view _ b h2 _ t e ⟨b + t.val, hlt t⟩ rfl).trans ((congrFun e3 _).trans (hdo _ e))
  have hk' (c : Fin 512) (e : Fin 256) : View.readAt (Elt Ideal) arg6.view
      (Rect.unit (s := S1x512x256) ![0, 0, 0] S1x512x256.size inb_S1x512x256_S1x512x256_0_0_0).toLoadRect (harg6.unread x6) (ix3 0 c e)
      = (A.k (b + c) e : EReal) :=
    (load_rows arg6.view _ 0 rfl _ c e c (Nat.zero_add _).symm).trans ((congrFun e6 _).trans (hk _ e))
  have hv' (c : Fin 512) (e : Fin 128) : View.readAt (Elt Ideal) arg7.view
      (Rect.unit (s := S1x512x128) ![0, 0, 0] S1x512x128.size inb_S1x512x128_S1x512x128_0_0_0).toLoadRect (harg7.unread x7) (ix3 0 c e)
      = (A.v (b + c) e : EReal) :=
    (load_rows arg7.view _ 0 rfl _ c e c (Nat.zero_add _).symm).trans ((congrFun e7 _).trans (hv _ e))
  have hs := fun a inb r t => read_strip arg11.view (fun c t => (A.score (b + c) (b + t) : EReal))
    (k0_pay390 (View.readAt (Elt Ideal) arg6.view
        (Rect.unit (s := S1x512x256) ![0, 0, 0] S1x512x256.size inb_S1x512x256_S1x512x256_0_0_0).toLoadRect (harg6.unread x6))
      (View.readAt (Elt Ideal) arg2.view (Rect.unit (s := S1x8192x256) (k0_off1 i) S1x512x256.size (k0_off1_inb i)).toLoadRect (harg2.unread x2)))
    (fun c t => by
      rw [score_diag]
      simp only [hk', hq', ← EReal.coe_mul, coe_sum]; rfl) inb_S512x2048_S512x512_0_0 a inb r t
  have hd := fun a inb r t => read_strip arg12.view (fun c t => (A.along (b + c) (b + t) : EReal))
    (k0_pay392 (k0_pay391 (View.readAt (Elt Ideal) arg7.view
        (Rect.unit (s := S1x512x128) ![0, 0, 0] S1x512x128.size inb_S1x512x128_S1x512x128_0_0_0).toLoadRect (harg7.unread x7))
      (View.readAt (Elt Ideal) arg3.view (Rect.unit (s := S1x8192x128) (k0_off2 i) S1x512x128.size (k0_off2_inb i)).toLoadRect (harg3.unread x3))))
    (fun c t => by
      rw [along_diag]
      simp only [hv', hdo', ← EReal.coe_mul, coe_sum]; rfl) inb_S512x2048_S512x512_0_0 a inb r t
  have hl (t : Fin 512) : runLater.sl.r_5 i arg4 harg4 c x4 (ix2 0 t) = (A.lse (b + t) : EReal) * (((Real.log 2)⁻¹ : ℝ) : EReal) := by
    unfold runLater.sl.r_5
    pointwise [k0_pay393]
    rw [log2e_eq, load_block arg4.view _ B h3, e4, hlse, hB]
  have hu (t : Fin 512) : runLater.sl.r_6 i arg5 harg5 c x5 (ix2 0 t) = (A.sum (b + t) : EReal) := by
    unfold runLater.sl.r_6
    pointwise [k0_pay394]
    rw [load_block arg5.view _ B h3, e5, hsum, hB]
  have hp (c' t : Fin 512) : runLater.sl.v476 i arg2 harg2 arg4 harg4 arg6 harg6 arg11 arg13 c x2 x4 x6 (ix2 c' t)
      = (A.weight (b + c') (b + t) : EReal) :=
    (diag_weights i arg2 harg2 arg4 harg4 arg6 harg6 arg11 c x2 x4 x6 A b hs hl).read arg13.view inb_S512x2048_S512x512_0_0 c' t
  have hds (c' t : Fin 512) : runLater.sl.v473 i arg2 harg2 arg3 harg3 arg4 harg4 arg5 harg5 arg6 harg6 arg7 harg7 arg11 arg12 arg14 c
      x2 x3 x4 x5 x6 x7 (ix2 c' t) = (A.slope (b + c') (b + t) : EReal) :=
    (diag_slopes i arg2 harg2 arg3 harg3 arg4 harg4 arg5 harg5 arg6 harg6 arg7 harg7 arg11 arg12 c x2 x3 x4 x5 x6 x7 A b hs hd hl hu).read
      arg14.view inb_S512x2048_S512x512_0_0 c' t
  have hq2 (t : Fin 512) (e : Fin 256) : runLater.sl.r_2 i arg2 harg2 c x2 (ix2 t e) = (A.q (b + t) e : EReal) := by
    rw [← hq']; unfold runLater.sl.r_2; pointwise [k0_pay388]
  have hdo2 (t : Fin 512) (e : Fin 128) : runLater.sl.r_3 i arg3 harg3 c x3 (ix2 t e) = (A.d (b + t) e : EReal) := by
    rw [← hdo']; unfold runLater.sl.r_3; pointwise [k0_pay389]
  have hk2 (c' : Fin 512) (e : Fin 256) : runLater.sl.r arg6 harg6 c x6 (ix2 c' e) = (A.k (b + c') e : EReal) := by
    rw [← hk']; unfold runLater.sl.r; pointwise [k0_pay384]
  have h0 : Upto A b b D (arg8.view.read _ g8) (fun _ => (0 : EReal)) (fun _ => (0 : EReal)) :=
    ⟨fun t e => by rw [hD, if_neg (by omega), add_zero], fun c e => by simp, fun c e => by simp⟩
  refine h0.step le_rfl (fun c' t => runLater.sl.v473 i arg2 harg2 arg3 harg3 arg4 harg4 arg5 harg5 arg6 harg6 arg7 harg7 arg11 arg12 arg14 c
      x2 x3 x4 x5 x6 x7 (ix2 c' t))
    (fun c' t => runLater.sl.v476 i arg2 harg2 arg4 harg4 arg6 harg6 arg11 arg13 c x2 x4 x6 (ix2 c' t)) hds hp
    (fun t e => runLater.sl.r_2 i arg2 harg2 c x2 (ix2 t e)) hq2 (fun t e => runLater.sl.r_3 i arg3 harg3 c x3 (ix2 t e)) hdo2
    (fun c' e => runLater.sl.r arg6 harg6 c x6 (ix2 c' e)) hk2 (fun t j e ht => ?_) (fun t e ht => ?_) (fun c' e => ?_) (fun c' e => ?_)
  · unfold start8
    rw [store_rows arg8.view g8 b h1 _ _ j e t ht, add_q_diag]
    congr 1
    exact load_rows arg8.view g8 b h1 (k0_off1_inb i) j e t ht
  · unfold start8
    exact store_other arg8.view g8 b h1 _ _ e t ht
  · unfold runLater.sl.H9_2
    rw [stored_last, add_k_diag]
    congr 1
    exact (read_last arg9.view inb_S1x512x256_S1x512x256_0_0_0 inb_S1x512x256_S1x512x256_0_0_0 (k0_pay386 : FVec Ideal S1x512x256 .f32) c' e).trans (zero_k c' e)
  · unfold runLater.sl.H10_2
    rw [stored_last, add_v_diag]
    congr 1
    exact (read_last arg10.view inb_S1x512x128_S1x512x128_0_0_0 inb_S1x512x128_S1x512x128_0_0_0 (k0_pay387 : FVec Ideal S1x512x128 .f32) c' e).trans (zero_v c' e)

end Cert.Bwd

end
-- ==== Proof.BwdNarrow.lean ====
/- The attention kernel's backward pass against a block of 512 queries. -/
module

public import proofs.«01_k».proof.Proof.BwdSum

@[expose] public section

set_option maxRecDepth 65536
set_option maxHeartbeats 400000

noncomputable section

namespace Cert.Bwd

open Idealize.ShloMosaic Idealize.SL.Sem
open Cert.Kernel3Ideal Cert.Kernel3Ideal.Gen Cert.Kernel3Ideal.Run Cert.Att Cert.Ffn

/-! ## What is added to each sum -/

theorem add_q_narrow (k : FVec Ideal S512x256 .bf16) (s : Vec Ideal S512x512 .bf16) (u : Vec Ideal S1x512x256 .f32) (t : Fin 512)
    (e : Fin 256) : k0_pay1 k s u (ix3 0 t e) = u (ix3 0 t e) + ∑ c, s (ix2 c t) * k (ix2 c e) := by pointwise [k0_pay1]
theorem add_k_narrow (q : FVec Ideal S512x256 .bf16) (s : Vec Ideal S512x512 .bf16) (u : Vec Ideal S1x512x256 .f32) (c : Fin 512)
    (e : Fin 256) : k0_pay319 q s u (ix3 0 c e) = u (ix3 0 c e) + ∑ t, s (ix2 c t) * q (ix2 t e) := by pointwise [k0_pay319]
theorem add_v_narrow (d : FVec Ideal S512x128 .bf16) (p : Vec Ideal S512x512 .bf16) (u : Vec Ideal S1x512x128 .f32) (c : Fin 512)
    (e : Fin 128) : k0_pay318 d u p (ix3 0 c e) = u (ix3 0 c e) + ∑ t, p (ix2 c t) * d (ix2 t e) := by pointwise [k0_pay318]

theorem score_narrow (k : FVec Ideal S512x256 .bf16) (q : Vec Ideal S1x512x256 .bf16) (c : Fin 512) (t : Fin 512) :
    k0_pay259 k q (ix2 c t) = ∑ e, k (ix2 c e) * q (ix3 0 t e) := by pointwise [k0_pay259, k0_pay257]
theorem along_narrow (v : FVec Ideal S512x128 .bf16) (d : Vec Ideal S1x512x128 .bf16) (c : Fin 512) (t : Fin 512) :
    k0_pay260 v d (ix2 c t) = ∑ e, v (ix2 c e) * d (ix3 0 t e) := by pointwise [k0_pay260, k0_pay258]

variable (i : grid0.Coords) (arg2 : Memref sig .tc .vmem S1x8192x256 .bf16) (arg3 : Memref sig .tc .vmem S1x8192x128 .bf16)
  (arg4 arg5 : Memref sig .tc .vmem S1x16x1x512 .f32)
  (arg11 arg12 : Memref sig .tc .vmem S512x2048 .f32) (arg13 arg14 : Memref sig .tc .vmem S512x2048 .bf16)
  (v4 : FVec Ideal S512x256 .bf16) (v6 : FVec Ideal S512x128 .bf16)
  (X2 : arg2.view.ty.Contents (Elt Ideal)) (X3 : arg3.view.ty.Contents (Elt Ideal))
  (X4 : arg4.view.ty.Contents (Elt Ideal)) (X5 : arg5.view.ty.Contents (Elt Ideal)) (k : Fin (k0_t5_loop i).trips)
  (A : Data) (b o : ℕ) (hbo : b + 512 ≤ o)
  (hs : ∀ (a : ℕ) (inb : ∀ d, (![a, 0] : Fin 2 → ℕ) d + (![32, 512] : Fin 2 → ℕ) d ≤ S512x2048.size d) (r : Fin 32) (t : Fin 512),
    arg11.view.readCov (trip5.sl.H11_1 i arg2 v4 X2 k) (Rect.unit (s := S512x2048) ![a, 0] ![32, 512] inb).toLoadRect (ix2 r t)
      = (A.score (b + (a + r)) (o + t) : EReal))
  (hd : ∀ (a : ℕ) (inb : ∀ d, (![a, 0] : Fin 2 → ℕ) d + (![32, 512] : Fin 2 → ℕ) d ≤ S512x2048.size d) (r : Fin 32) (t : Fin 512),
    arg12.view.readCov (trip5.sl.H12_1 i arg3 v6 X3 k) (Rect.unit (s := S512x2048) ![a, 0] ![32, 512] inb).toLoadRect (ix2 r t)
      = (A.along (b + (a + r)) (o + t) : EReal))
  (hl : ∀ t : Fin 512, trip5.sl.r_2 i arg4 X4 k (ix2 0 t) = (A.lse (o + t) : EReal) * (((Real.log 2)⁻¹ : ℝ) : EReal))
  (hu : ∀ t : Fin 512, trip5.sl.r_3 i arg5 X5 k (ix2 0 t) = (A.sum (o + t) : EReal))

include hbo hs hl in
/-- The weights. -/
theorem narrow_weights : Strips 512 (fun c t => (A.weight (b + c) (o + t) : EReal)) 512
    (trip5.sl.H13_16 i arg2 arg4 arg11 v4 X2 X4 k) := by
  unfold trip5.sl.H13_16
  repeat' refine Strips.cons _ _ _ _ (fun a t => ?_) ?_
  on_goal 17 => exact Strips.nil
  all_goals exact stored_raw broadcasts_S1x512_S32x512 _ _ _ _ A b _ o hl a t (hs _ _ a t) (by omega)

include hbo hs hd hl hu in
/-- The gradients of the scores. -/
theorem narrow_slopes : Strips 512 (fun c t => (A.slope (b + c) (o + t) : EReal)) 512
    (trip5.sl.H14_16 i arg2 arg3 arg4 arg5 arg11 arg12 v4 v6 X2 X3 X4 X5 k) := by
  unfold trip5.sl.H14_16
  repeat' refine Strips.cons _ _ _ _ (fun a t => ?_) ?_
  on_goal 17 => exact Strips.nil
  all_goals exact stored_sloped broadcasts_S1x512_S32x512 _ _ _ _ _ _ A b _ o hl hu a t (hs _ _ a t) (hd _ _ a t) (by omega)

/-- One step: 512 more queries. -/
theorem narrow_step (c : Dev nD) {harg2 : arg2.IsWhole} {harg3 : arg3.IsWhole} {harg4 : arg4.IsWhole} {harg5 : arg5.IsWhole}
    {arg6 : Memref sig .tc .vmem S1x512x256 .bf16} {harg6 : arg6.IsWhole} {arg7 : Memref sig .tc .vmem S1x512x128 .bf16}
    {harg7 : arg7.IsWhole} {arg8 : Memref sig .tc .vmem S1x8192x256 .f32} {harg8 : arg8.IsWhole}
    {arg9 : Memref sig .tc .vmem S1x512x256 .f32} {harg9 : arg9.IsWhole} {arg10 : Memref sig .tc .vmem S1x512x128 .f32}
    {harg10 : arg10.IsWhole} {harg11 : arg11.IsWhole} {harg12 : arg12.IsWhole} {harg13 : arg13.IsWhole} {harg14 : arg14.IsWhole}
    (B : Fin 16) (hB : o = 512 * B.val) (hbo : b + 512 ≤ o)
    (h16 : k0_off16 i k = ![0, o, 0]) (h17 : k0_off17 i k = ![0, o, 0]) (h18 : k0_off18 i k = ![0, B.val, 0, 0])
    (hq : ∀ (t : Fin 8192) e, arg2.view.read (Elt Ideal) X2 (ix3 0 t e) = (A.q t e : EReal))
    (hdo : ∀ (t : Fin 8192) e, arg3.view.read (Elt Ideal) X3 (ix3 0 t e) = (A.d t e : EReal))
    (hlse : ∀ (B : Fin 16) (t : Fin 512), arg4.view.read (Elt Ideal) X4 (ix4 0 B 0 t) = (A.lse (512 * B + t) : EReal))
    (hsum : ∀ (B : Fin 16) (t : Fin 512), arg5.view.read (Elt Ideal) X5 (ix4 0 B 0 t) = (A.sum (512 * B + t) : EReal))
    (hk : ∀ (c : Fin 512) e, v4 (ix2 c e) = (A.k (b + c) e : EReal)) (hv : ∀ (c : Fin 512) e, v6 (ix2 c e) = (A.v (b + c) e : EReal))
    (D : ℕ → Fin 256 → ℝ) (g8 : arg8.view.ty.Contents (Elt Ideal)) (g9 : arg9.view.ty.Contents (Elt Ideal))
    (g10 : arg10.view.ty.Contents (Elt Ideal))
    (h : Upto A b o D (arg8.view.read _ g8) (arg9.view.read _ g9) (arg10.view.read _ g10)) :
    let T := trip5 i arg2 harg2 arg3 harg3 arg4 harg4 arg5 harg5 arg6 harg6 arg7 harg7 arg8 harg8 arg9 harg9 arg10 harg10
      arg11 harg11 arg12 harg12 arg13 harg13 arg14 harg14 v4 v6 X2 X3 X4 X5 c k
    Upto A b (o + 512) D (arg8.view.read _ (T.1 g8)) (arg9.view.read _ (T.2.1 g9)) (arg10.view.read _ (T.2.2.val g10)) := by
  have hlt (t : Fin 512) : o + t.val < 8192 := by omega
  have hq' (t : Fin 512) (e : Fin 256) : View.readAt (Elt Ideal) arg2.view
      (Rect.unit (s := S1x8192x256) (k0_off16 i k) S1x512x256.size (k0_off16_inb i k)).toLoadRect X2 (ix3 0 t e) = (A.q (o + t) e : EReal) :=
    (load_rows arg2.view X2 o h16 _ t e ⟨o + t.val, hlt t⟩ rfl).trans (hq _ e)
  have hdo' (t : Fin 512) (e : Fin 128) : View.readAt (Elt Ideal) arg3.view
      (Rect.unit (s := S1x8192x128) (k0_off17 i k) S1x512x128.size (k0_off17_inb i k)).toLoadRect X3 (ix3 0 t e) = (A.d (o + t) e : EReal) :=
    (load_rows arg3.view X3 o h17 _ t e ⟨o + t.val, hlt t⟩ rfl).trans (hdo _ e)
  have hs := fun a inb r t => read_strip arg11.view (fun c t => (A.score (b + c) (o + t) : EReal))
    (k0_pay259 v4 (View.readAt (Elt Ideal) arg2.view (Rect.unit (s := S1x8192x256) (k0_off16 i k) S1x512x256.size (k0_off16_inb i k)).toLoadRect X2))
    (fun c t => by
      rw [score_narrow]
      simp only [hk, hq', ← EReal.coe_mul, coe_sum]; rfl) inb_S512x2048_S512x512_0_0 a inb r t
  have hd := fun a inb r t => read_strip arg12.view (fun c t => (A.along (b + c) (o + t) : EReal))
    (k0_pay260 v6 (View.readAt (Elt Ideal) arg3.view (Rect.unit (s := S1x8192x128) (k0_off17 i k) S1x512x128.size (k0_off17_inb i k)).toLoadRect X3))
    (fun c t => by
      rw [along_narrow]
      simp only [hv, hdo', ← EReal.coe_mul, coe_sum]; rfl) inb_S512x2048_S512x512_0_0 a inb r t
  have hl (t : Fin 512) : trip5.sl.r_2 i arg4 X4 k (ix2 0 t) = (A.lse (o + t) : EReal) * (((Real.log 2)⁻¹ : ℝ) : EReal) := by
    unfold trip5.sl.r_2
    pointwise [k0_pay261]
    rw [log2e_eq, load_block arg4.view X4 B h18, hlse, hB]
  have hu (t : Fin 512) : trip5.sl.r_3 i arg5 X5 k (ix2 0 t) = (A.sum (o + t) : EReal) := by
    unfold trip5.sl.r_3
    pointwise [k0_pay262]
    rw [load_block arg5.view X5 B h18, hsum, hB]
  have hp (c t : Fin 512) : trip5.sl.v923 i arg2 arg4 arg11 arg13 v4 X2 X4 k (ix2 c t) = (A.weight (b + c) (o + t) : EReal) :=
    (narrow_weights i arg2 arg4 arg11 v4 X2 X4 k A b o hbo hs hl).read arg13.view inb_S512x2048_S512x512_0_0 c t
  have hds (c t : Fin 512) : trip5.sl.v920 i arg2 arg3 arg4 arg5 arg11 arg12 arg14 v4 v6 X2 X3 X4 X5 k (ix2 c t)
      = (A.slope (b + c) (o + t) : EReal) := (narrow_slopes i arg2 arg3 arg4 arg5 arg11 arg12 v4 v6 X2 X3 X4 X5 k A b o hbo hs hd hl hu).read arg14.view
    inb_S512x2048_S512x512_0_0 c t
  intro T
  rw [show T = trip5 i arg2 harg2 arg3 harg3 arg4 harg4 arg5 harg5 arg6 harg6 arg7 harg7 arg8 harg8 arg9 harg9 arg10 harg10
      arg11 harg11 arg12 harg12 arg13 harg13 arg14 harg14 v4 v6 X2 X3 X4 X5 c k from rfl, trip5.eq_1]
  have hq2 (t : Fin 512) (e : Fin 256) : trip5.sl.r i arg2 X2 k (ix2 t e) = (A.q (o + t) e : EReal) := by
    rw [← hq']; unfold trip5.sl.r; pointwise [k0_pay257]
  have hdo2 (t : Fin 512) (e : Fin 128) : trip5.sl.r_1 i arg3 X3 k (ix2 t e) = (A.d (o + t) e : EReal) := by
    rw [← hdo']; unfold trip5.sl.r_1; pointwise [k0_pay258]
  dsimp only
  refine h.step (by omega) (fun c t => trip5.sl.v920 i arg2 arg3 arg4 arg5 arg11 arg12 arg14 v4 v6 X2 X3 X4 X5 k (ix2 c t))
    (fun c t => trip5.sl.v923 i arg2 arg4 arg11 arg13 v4 X2 X4 k (ix2 c t)) hds hp (fun t e => trip5.sl.r i arg2 X2 k (ix2 t e)) hq2
    (fun t e => trip5.sl.r_1 i arg3 X3 k (ix2 t e)) hdo2 (fun c e => v4 (ix2 c e)) hk (fun t j e ht => ?_)
    (fun t e ht => ?_) (fun c e => ?_) (fun c e => ?_)
  · rw [store_rows arg8.view g8 o h16 _ _ j e t ht, add_q_narrow, ← load_rows arg8.view g8 o h16 (k0_off16_inb i k) j e t ht]
  · exact store_other arg8.view g8 o h16 _ _ e t ht
  · rw [store_rows arg9.view g9 0 rfl _ _ c e c (Nat.zero_add _).symm, add_k_narrow,
      ← load_rows arg9.view g9 0 rfl inb_S1x512x256_S1x512x256_0_0_0 c e c (Nat.zero_add _).symm]
  · rw [store_rows arg10.view g10 0 rfl _ _ c e c (Nat.zero_add _).symm, add_v_narrow,
      ← load_rows arg10.view g10 0 rfl inb_S1x512x128_S1x512x128_0_0_0 c e c (Nat.zero_add _).symm]

end Cert.Bwd

end
-- ==== Proof.BwdMiddle.lean ====
/- The attention kernel's backward pass against a block of 1024 queries. -/
module

public import proofs.«01_k».proof.Proof.BwdSum

@[expose] public section

set_option maxRecDepth 65536
set_option maxHeartbeats 400000

noncomputable section

namespace Cert.Bwd

open Idealize.ShloMosaic Idealize.SL.Sem
open Cert.Kernel3Ideal Cert.Kernel3Ideal.Gen Cert.Kernel3Ideal.Run Cert.Att Cert.Ffn

/-! ## What is added to each sum -/

theorem add_q_middle (k : FVec Ideal S512x256 .bf16) (s : Vec Ideal S512x1024 .bf16) (u : Vec Ideal S1x1024x256 .f32) (t : Fin 1024)
    (e : Fin 256) : k0_pay460 k s u (ix3 0 t e) = u (ix3 0 t e) + ∑ c, s (ix2 c t) * k (ix2 c e) := by pointwise [k0_pay460]
theorem add_k_middle (q : FVec Ideal S1024x256 .bf16) (s : Vec Ideal S512x1024 .bf16) (u : Vec Ideal S1x512x256 .f32) (c : Fin 512)
    (e : Fin 256) : k0_pay459 q s u (ix3 0 c e) = u (ix3 0 c e) + ∑ t, s (ix2 c t) * q (ix2 t e) := by pointwise [k0_pay459]
theorem add_v_middle (d : FVec Ideal S1024x128 .bf16) (p : Vec Ideal S512x1024 .bf16) (u : Vec Ideal S1x512x128 .f32) (c : Fin 512)
    (e : Fin 128) : k0_pay458 (k0_pay195 d u p) (ix3 0 c e) = u (ix3 0 c e) + ∑ t, p (ix2 c t) * d (ix2 t e) := by pointwise [k0_pay458, k0_pay195]

theorem score_middle (k : FVec Ideal S512x256 .bf16) (q : Vec Ideal S1x1024x256 .bf16) (c : Fin 512) (t : Fin 1024) :
    k0_pay137 k q (ix2 c t) = ∑ e, k (ix2 c e) * q (ix3 0 t e) := by pointwise [k0_pay137, k0_pay135]
theorem along_middle (v : FVec Ideal S512x128 .bf16) (d : Vec Ideal S1x1024x128 .bf16) (c : Fin 512) (t : Fin 1024) :
    k0_pay138 v d (ix2 c t) = ∑ e, v (ix2 c e) * d (ix3 0 t e) := by pointwise [k0_pay138, k0_pay136]

section
variable (x0 x1 : Vec Ideal S1x1x1x512 .f32) (f : ℕ → EReal) (h0 : ∀ j : Fin 512, x0 (ix4 0 0 0 j) = f j)
  (h1 : ∀ j : Fin 512, x1 (ix4 0 0 0 j) = f (512 + j))
include h0 h1

/-- Two blocks side by side. -/
theorem sum_middle (t : Fin 1024) : k0_pay140 x0 x1 (ix2 0 t) = f t := by
  pointwise [k0_pay140]
  by_cases c0 : t.val < 512
  · rw [dif_pos c0]; exact h0 _
  rw [dif_neg c0]; exact (h1 _).trans (congrArg f (by simp only; omega))

theorem lse_middle (t : Fin 1024) : k0_pay139 x0 x1 (ix2 0 t) = f t * (((Real.log 2)⁻¹ : ℝ) : EReal) := by
  rw [← log2e_eq, ← sum_middle x0 x1 f h0 h1 t]
  rfl

end

variable (i : grid0.Coords) (arg2 : Memref sig .tc .vmem S1x8192x256 .bf16) (arg3 : Memref sig .tc .vmem S1x8192x128 .bf16)
  (arg4 arg5 : Memref sig .tc .vmem S1x16x1x512 .f32)
  (arg11 arg12 : Memref sig .tc .vmem S512x2048 .f32) (arg13 arg14 : Memref sig .tc .vmem S512x2048 .bf16)
  (v4 : FVec Ideal S512x256 .bf16) (v6 : FVec Ideal S512x128 .bf16)
  (X2 : arg2.view.ty.Contents (Elt Ideal)) (X3 : arg3.view.ty.Contents (Elt Ideal))
  (X4 : arg4.view.ty.Contents (Elt Ideal)) (X5 : arg5.view.ty.Contents (Elt Ideal)) (k : Fin (k0_t3_loop i).trips)
  (A : Data) (b o : ℕ) (hbo : b + 512 ≤ o)
  (hs : ∀ (a : ℕ) (inb : ∀ d, (![a, 0] : Fin 2 → ℕ) d + (![32, 1024] : Fin 2 → ℕ) d ≤ S512x2048.size d) (r : Fin 32) (t : Fin 1024),
    arg11.view.readCov (trip3.sl.H11_1 i arg2 v4 X2 k) (Rect.unit (s := S512x2048) ![a, 0] ![32, 1024] inb).toLoadRect (ix2 r t)
      = (A.score (b + (a + r)) (o + t) : EReal))
  (hd : ∀ (a : ℕ) (inb : ∀ d, (![a, 0] : Fin 2 → ℕ) d + (![32, 1024] : Fin 2 → ℕ) d ≤ S512x2048.size d) (r : Fin 32) (t : Fin 1024),
    arg12.view.readCov (trip3.sl.H12_1 i arg3 v6 X3 k) (Rect.unit (s := S512x2048) ![a, 0] ![32, 1024] inb).toLoadRect (ix2 r t)
      = (A.along (b + (a + r)) (o + t) : EReal))
  (hl : ∀ t : Fin 1024, trip3.sl.r_2 i arg4 X4 k (ix2 0 t) = (A.lse (o + t) : EReal) * (((Real.log 2)⁻¹ : ℝ) : EReal))
  (hu : ∀ t : Fin 1024, trip3.sl.r_4 i arg5 X5 k (ix2 0 t) = (A.sum (o + t) : EReal))

include hbo hs hl in
/-- The weights. -/
theorem middle_weights : Strips 1024 (fun c t => (A.weight (b + c) (o + t) : EReal)) 512
    (trip3.sl.H13_16 i arg2 arg4 arg11 v4 X2 X4 k) := by
  unfold trip3.sl.H13_16
  repeat' refine Strips.cons _ _ _ _ (fun a t => ?_) ?_
  on_goal 17 => exact Strips.nil
  all_goals exact stored_raw broadcasts_S1x1024_S32x1024 _ _ _ _ A b _ o hl a t (hs _ _ a t) (by omega)

include hbo hs hd hl hu in
/-- The gradients of the scores. -/
theorem middle_slopes : Strips 1024 (fun c t => (A.slope (b + c) (o + t) : EReal)) 512
    (trip3.sl.H14_16 i arg2 arg3 arg4 arg5 arg11 arg12 v4 v6 X2 X3 X4 X5 k) := by
  unfold trip3.sl.H14_16
  repeat' refine Strips.cons _ _ _ _ (fun a t => ?_) ?_
  on_goal 17 => exact Strips.nil
  all_goals exact stored_sloped broadcasts_S1x1024_S32x1024 _ _ _ _ _ _ A b _ o hl hu a t (hs _ _ a t) (hd _ _ a t) (by omega)

/-- One step: 1024 more queries. -/
theorem middle_step (c : Dev nD) {harg2 : arg2.IsWhole} {harg3 : arg3.IsWhole} {harg4 : arg4.IsWhole} {harg5 : arg5.IsWhole}
    {arg6 : Memref sig .tc .vmem S1x512x256 .bf16} {harg6 : arg6.IsWhole} {arg7 : Memref sig .tc .vmem S1x512x128 .bf16}
    {harg7 : arg7.IsWhole} {arg8 : Memref sig .tc .vmem S1x8192x256 .f32} {harg8 : arg8.IsWhole}
    {arg9 : Memref sig .tc .vmem S1x512x256 .f32} {harg9 : arg9.IsWhole} {arg10 : Memref sig .tc .vmem S1x512x128 .f32}
    {harg10 : arg10.IsWhole} {harg11 : arg11.IsWhole} {harg12 : arg12.IsWhole} {harg13 : arg13.IsWhole} {harg14 : arg14.IsWhole}
    (B : Fin 16) (hB : o = 512 * B.val) (hW : o + 1024 ≤ 8192) (hbo : b + 512 ≤ o)
    (h10 : k0_off10 i k = ![0, o, 0]) (h11 : k0_off11 i k = ![0, o, 0]) (h12 : ∀ x : Fin 2, k0_off12 i k (BitVec.ofNat 32 x) = ![0, B.val + x.val, 0, 0])
    (hq : ∀ (t : Fin 8192) e, arg2.view.read (Elt Ideal) X2 (ix3 0 t e) = (A.q t e : EReal))
    (hdo : ∀ (t : Fin 8192) e, arg3.view.read (Elt Ideal) X3 (ix3 0 t e) = (A.d t e : EReal))
    (hlse : ∀ (B : Fin 16) (t : Fin 512), arg4.view.read (Elt Ideal) X4 (ix4 0 B 0 t) = (A.lse (512 * B + t) : EReal))
    (hsum : ∀ (B : Fin 16) (t : Fin 512), arg5.view.read (Elt Ideal) X5 (ix4 0 B 0 t) = (A.sum (512 * B + t) : EReal))
    (hk : ∀ (c : Fin 512) e, v4 (ix2 c e) = (A.k (b + c) e : EReal)) (hv : ∀ (c : Fin 512) e, v6 (ix2 c e) = (A.v (b + c) e : EReal))
    (D : ℕ → Fin 256 → ℝ) (g8 : arg8.view.ty.Contents (Elt Ideal)) (g9 : arg9.view.ty.Contents (Elt Ideal))
    (g10 : arg10.view.ty.Contents (Elt Ideal))
    (h : Upto A b o D (arg8.view.read _ g8) (arg9.view.read _ g9) (arg10.view.read _ g10)) :
    let T := trip3 i arg2 harg2 arg3 harg3 arg4 harg4 arg5 harg5 arg6 harg6 arg7 harg7 arg8 harg8 arg9 harg9 arg10 harg10
      arg11 harg11 arg12 harg12 arg13 harg13 arg14 harg14 v4 v6 X2 X3 X4 X5 c k
    Upto A b (o + 1024) D (arg8.view.read _ (T.1 g8)) (arg9.view.read _ (T.2.1 g9)) (arg10.view.read _ (T.2.2.val g10)) := by
  have hlt (t : Fin 1024) : o + t.val < 8192 := by omega
  have hq' (t : Fin 1024) (e : Fin 256) : View.readAt (Elt Ideal) arg2.view
      (Rect.unit (s := S1x8192x256) (k0_off10 i k) S1x1024x256.size (k0_off10_inb i k)).toLoadRect X2 (ix3 0 t e) = (A.q (o + t) e : EReal) :=
    (load_rows arg2.view X2 o h10 _ t e ⟨o + t.val, hlt t⟩ rfl).trans (hq _ e)
  have hdo' (t : Fin 1024) (e : Fin 128) : View.readAt (Elt Ideal) arg3.view
      (Rect.unit (s := S1x8192x128) (k0_off11 i k) S1x1024x128.size (k0_off11_inb i k)).toLoadRect X3 (ix3 0 t e) = (A.d (o + t) e : EReal) :=
    (load_rows arg3.view X3 o h11 _ t e ⟨o + t.val, hlt t⟩ rfl).trans (hdo _ e)
  have hs := fun a inb r t => read_strip arg11.view (fun c t => (A.score (b + c) (o + t) : EReal))
    (k0_pay137 v4 (View.readAt (Elt Ideal) arg2.view (Rect.unit (s := S1x8192x256) (k0_off10 i k) S1x1024x256.size (k0_off10_inb i k)).toLoadRect X2))
    (fun c t => by
      rw [score_middle]
      simp only [hk, hq', ← EReal.coe_mul, coe_sum]; rfl) inb_S512x2048_S512x1024_0_0 a inb r t
  have hd := fun a inb r t => read_strip arg12.view (fun c t => (A.along (b + c) (o + t) : EReal))
    (k0_pay138 v6 (View.readAt (Elt Ideal) arg3.view (Rect.unit (s := S1x8192x128) (k0_off11 i k) S1x1024x128.size (k0_off11_inb i k)).toLoadRect X3))
    (fun c t => by
      rw [along_middle]
      simp only [hv, hdo', ← EReal.coe_mul, coe_sum]; rfl) inb_S512x2048_S512x1024_0_0 a inb r t
  have hl (t : Fin 1024) : trip3.sl.r_2 i arg4 X4 k (ix2 0 t) = (A.lse (o + t) : EReal) * (((Real.log 2)⁻¹ : ℝ) : EReal) := by
    unfold trip3.sl.r_2
    refine lse_middle _ _ (fun t => (A.lse (o + t) : EReal)) (fun j => ?_) (fun j => ?_) t
    · exact (load_block arg4.view X4 ⟨B.val + 0, by omega⟩ (h12 0) _ j).trans ((hlse _ _).trans (by congr 2; simp only; omega))
    · exact (load_block arg4.view X4 ⟨B.val + 1, by omega⟩ (h12 1) _ j).trans ((hlse _ _).trans (by congr 2; simp only; omega))
  have hu (t : Fin 1024) : trip3.sl.r_4 i arg5 X5 k (ix2 0 t) = (A.sum (o + t) : EReal) := by
    unfold trip3.sl.r_4 trip3.sl.r_3
    refine sum_middle _ _ (fun t => (A.sum (o + t) : EReal)) (fun j => ?_) (fun j => ?_) t
    · exact (load_block arg5.view X5 ⟨B.val + 0, by omega⟩ (h12 0) _ j).trans ((hsum _ _).trans (by congr 2; simp only; omega))
    · exact (load_block arg5.view X5 ⟨B.val + 1, by omega⟩ (h12 1) _ j).trans ((hsum _ _).trans (by congr 2; simp only; omega))
  have hp (c : Fin 512) (t : Fin 1024) : trip3.sl.v933 i arg2 arg4 arg11 arg13 v4 X2 X4 k (ix2 c t) = (A.weight (b + c) (o + t) : EReal) :=
    (middle_weights i arg2 arg4 arg11 v4 X2 X4 k A b o hbo hs hl).read arg13.view inb_S512x2048_S512x1024_0_0 c t
  have hds (c : Fin 512) (t : Fin 1024) : trip3.sl.v930 i arg2 arg3 arg4 arg5 arg11 arg12 arg14 v4 v6 X2 X3 X4 X5 k (ix2 c t)
      = (A.slope (b + c) (o + t) : EReal) := (middle_slopes i arg2 arg3 arg4 arg5 arg11 arg12 v4 v6 X2 X3 X4 X5 k A b o hbo hs hd hl hu).read arg14.view
    inb_S512x2048_S512x1024_0_0 c t
  intro T
  rw [show T = trip3 i arg2 harg2 arg3 harg3 arg4 harg4 arg5 harg5 arg6 harg6 arg7 harg7 arg8 harg8 arg9 harg9 arg10 harg10
      arg11 harg11 arg12 harg12 arg13 harg13 arg14 harg14 v4 v6 X2 X3 X4 X5 c k from rfl, trip3.eq_1]
  have hq2 (t : Fin 1024) (e : Fin 256) : trip3.sl.r i arg2 X2 k (ix2 t e) = (A.q (o + t) e : EReal) := by
    rw [← hq']; unfold trip3.sl.r; pointwise [k0_pay135]
  have hdo2 (t : Fin 1024) (e : Fin 128) : trip3.sl.r_1 i arg3 X3 k (ix2 t e) = (A.d (o + t) e : EReal) := by
    rw [← hdo']; unfold trip3.sl.r_1; pointwise [k0_pay136]
  dsimp only
  refine h.step (by omega) (fun c t => trip3.sl.v930 i arg2 arg3 arg4 arg5 arg11 arg12 arg14 v4 v6 X2 X3 X4 X5 k (ix2 c t))
    (fun c t => trip3.sl.v933 i arg2 arg4 arg11 arg13 v4 X2 X4 k (ix2 c t)) hds hp (fun t e => trip3.sl.r i arg2 X2 k (ix2 t e)) hq2
    (fun t e => trip3.sl.r_1 i arg3 X3 k (ix2 t e)) hdo2 (fun c e => v4 (ix2 c e)) hk (fun t j e ht => ?_)
    (fun t e ht => ?_) (fun c e => ?_) (fun c e => ?_)
  · rw [store_rows arg8.view g8 o h10 _ _ j e t ht, add_q_middle, ← load_rows arg8.view g8 o h10 (k0_off10_inb i k) j e t ht]
  · exact store_other arg8.view g8 o h10 _ _ e t ht
  · rw [store_rows arg9.view g9 0 rfl _ _ c e c (Nat.zero_add _).symm, add_k_middle,
      ← load_rows arg9.view g9 0 rfl inb_S1x512x256_S1x512x256_0_0_0 c e c (Nat.zero_add _).symm]
  · unfold trip3.sl.r_14
    rw [store_rows arg10.view g10 0 rfl _ _ c e c (Nat.zero_add _).symm, add_v_middle,
      ← load_rows arg10.view g10 0 rfl inb_S1x512x128_S1x512x128_0_0_0 c e c (Nat.zero_add _).symm]

end Cert.Bwd

end
-- ==== Proof.BwdWide.lean ====
/- The attention kernel's backward pass against a block of 2048 queries. -/
module

public import proofs.«01_k».proof.Proof.BwdSum

@[expose] public section

set_option maxRecDepth 65536
set_option maxHeartbeats 400000

noncomputable section

namespace Cert.Bwd

open Idealize.ShloMosaic Idealize.SL.Sem
open Cert.Kernel3Ideal Cert.Kernel3Ideal.Gen Cert.Kernel3Ideal.Run Cert.Att Cert.Ffn

/-! ## What is added to each sum -/

theorem add_q_wide (k : FVec Ideal S512x256 .bf16) (s : Vec Ideal S512x2048 .bf16) (u : Vec Ideal S1x2048x256 .f32) (t : Fin 2048)
    (e : Fin 256) : k0_pay456 (k0_pay68 k s u) (ix3 0 t e) = u (ix3 0 t e) + ∑ c, s (ix2 c t) * k (ix2 c e) := by pointwise [k0_pay456, k0_pay68]
theorem add_k_wide (q : FVec Ideal S2048x256 .bf16) (s : Vec Ideal S512x2048 .bf16) (u : Vec Ideal S1x512x256 .f32) (c : Fin 512)
    (e : Fin 256) : k0_pay67 q s u (ix3 0 c e) = u (ix3 0 c e) + ∑ t, s (ix2 c t) * q (ix2 t e) := by pointwise [k0_pay67]
theorem add_v_wide (d : FVec Ideal S2048x128 .bf16) (p : Vec Ideal S512x2048 .bf16) (u : Vec Ideal S1x512x128 .f32) (c : Fin 512)
    (e : Fin 128) : k0_pay66 d u p (ix3 0 c e) = u (ix3 0 c e) + ∑ t, p (ix2 c t) * d (ix2 t e) := by pointwise [k0_pay66]

theorem score_wide (k : FVec Ideal S512x256 .bf16) (q : Vec Ideal S1x2048x256 .bf16) (c : Fin 512) (t : Fin 2048) :
    k0_pay5 k q (ix2 c t) = ∑ e, k (ix2 c e) * q (ix3 0 t e) := by pointwise [k0_pay5, k0_pay3]
theorem along_wide (v : FVec Ideal S512x128 .bf16) (d : Vec Ideal S1x2048x128 .bf16) (c : Fin 512) (t : Fin 2048) :
    k0_pay6 v d (ix2 c t) = ∑ e, v (ix2 c e) * d (ix3 0 t e) := by pointwise [k0_pay6, k0_pay4]

section
variable (x0 x1 x2 x3 : Vec Ideal S1x1x1x512 .f32) (f : ℕ → EReal) (h0 : ∀ j : Fin 512, x0 (ix4 0 0 0 j) = f j)
  (h1 : ∀ j : Fin 512, x1 (ix4 0 0 0 j) = f (512 + j)) (h2 : ∀ j : Fin 512, x2 (ix4 0 0 0 j) = f (1024 + j))
  (h3 : ∀ j : Fin 512, x3 (ix4 0 0 0 j) = f (1536 + j))
include h0 h1 h2 h3

/-- Four blocks side by side. -/
theorem sum_wide (t : Fin 2048) : k0_pay11 x0 x1 x2 x3 (ix2 0 t) = f t := by
  pointwise [k0_pay11]
  by_cases c0 : t.val < 512
  · rw [dif_pos c0]; exact h0 _
  rw [dif_neg c0]
  by_cases c1 : t.val - 512 < 512
  · rw [dif_pos c1]; exact (h1 _).trans (congrArg f (by simp only; omega))
  rw [dif_neg c1]
  by_cases c2 : t.val - 512 - 512 < 512
  · rw [dif_pos c2]; exact (h2 _).trans (congrArg f (by simp only; omega))
  rw [dif_neg c2]; exact (h3 _).trans (congrArg f (by simp only; omega))

theorem lse_wide (t : Fin 2048) : k0_pay10 (k0_pay7 x0) (k0_pay8 x1) (k0_pay9 x2) x3 (ix2 0 t)
    = f t * (((Real.log 2)⁻¹ : ℝ) : EReal) := by
  rw [← log2e_eq, ← sum_wide x0 x1 x2 x3 f h0 h1 h2 h3 t]
  rfl

end

variable (i : grid0.Coords) (arg2 : Memref sig .tc .vmem S1x8192x256 .bf16) (arg3 : Memref sig .tc .vmem S1x8192x128 .bf16)
  (arg4 arg5 : Memref sig .tc .vmem S1x16x1x512 .f32)
  (arg11 arg12 : Memref sig .tc .vmem S512x2048 .f32) (arg13 arg14 : Memref sig .tc .vmem S512x2048 .bf16)
  (v4 : FVec Ideal S512x256 .bf16) (v6 : FVec Ideal S512x128 .bf16)
  (X2 : arg2.view.ty.Contents (Elt Ideal)) (X3 : arg3.view.ty.Contents (Elt Ideal))
  (X4 : arg4.view.ty.Contents (Elt Ideal)) (X5 : arg5.view.ty.Contents (Elt Ideal)) (k : Fin (k0_t1_loop i).trips)
  (A : Data) (b o : ℕ) (hbo : b + 512 ≤ o)
  (hs : ∀ (a : ℕ) (inb : ∀ d, (![a, 0] : Fin 2 → ℕ) d + (![32, 2048] : Fin 2 → ℕ) d ≤ S512x2048.size d) (r : Fin 32) (t : Fin 2048),
    arg11.view.readCov (trip1.sl.H11_1 i arg2 v4 X2 k) (Rect.unit (s := S512x2048) ![a, 0] ![32, 2048] inb).toLoadRect (ix2 r t)
      = (A.score (b + (a + r)) (o + t) : EReal))
  (hd : ∀ (a : ℕ) (inb : ∀ d, (![a, 0] : Fin 2 → ℕ) d + (![32, 2048] : Fin 2 → ℕ) d ≤ S512x2048.size d) (r : Fin 32) (t : Fin 2048),
    arg12.view.readCov (trip1.sl.H12_1 i arg3 v6 X3 k) (Rect.unit (s := S512x2048) ![a, 0] ![32, 2048] inb).toLoadRect (ix2 r t)
      = (A.along (b + (a + r)) (o + t) : EReal))
  (hl : ∀ t : Fin 2048, trip1.sl.r_5 i arg4 X4 k (ix2 0 t) = (A.lse (o + t) : EReal) * (((Real.log 2)⁻¹ : ℝ) : EReal))
  (hu : ∀ t : Fin 2048, trip1.sl.r_6 i arg5 X5 k (ix2 0 t) = (A.sum (o + t) : EReal))

include hbo hs hl in
/-- The weights. -/
theorem wide_weights : Strips 2048 (fun c t => (A.weight (b + c) (o + t) : EReal)) 512
    (trip1.sl.H13_16 i arg2 arg4 arg11 v4 X2 X4 k) := by
  unfold trip1.sl.H13_16
  repeat' refine Strips.cons _ _ _ _ (fun a t => ?_) ?_
  on_goal 17 => exact Strips.nil
  all_goals exact stored_raw broadcasts_S1x2048_S32x2048 _ _ _ _ A b _ o hl a t (hs _ _ a t) (by omega)

include hbo hs hd hl hu in
/-- The gradients of the scores. -/
theorem wide_slopes : Strips 2048 (fun c t => (A.slope (b + c) (o + t) : EReal)) 512
    (trip1.sl.H14_16 i arg2 arg3 arg4 arg5 arg11 arg12 v4 v6 X2 X3 X4 X5 k) := by
  unfold trip1.sl.H14_16
  repeat' refine Strips.cons _ _ _ _ (fun a t => ?_) ?_
  on_goal 17 => exact Strips.nil
  all_goals exact stored_sloped broadcasts_S1x2048_S32x2048 _ _ _ _ _ _ A b _ o hl hu a t (hs _ _ a t) (hd _ _ a t) (by omega)

/-- One step: 2048 more queries. -/
theorem wide_step (c : Dev nD) {harg2 : arg2.IsWhole} {harg3 : arg3.IsWhole} {harg4 : arg4.IsWhole} {harg5 : arg5.IsWhole}
    {arg6 : Memref sig .tc .vmem S1x512x256 .bf16} {harg6 : arg6.IsWhole} {arg7 : Memref sig .tc .vmem S1x512x128 .bf16}
    {harg7 : arg7.IsWhole} {arg8 : Memref sig .tc .vmem S1x8192x256 .f32} {harg8 : arg8.IsWhole}
    {arg9 : Memref sig .tc .vmem S1x512x256 .f32} {harg9 : arg9.IsWhole} {arg10 : Memref sig .tc .vmem S1x512x128 .f32}
    {harg10 : arg10.IsWhole} {harg11 : arg11.IsWhole} {harg12 : arg12.IsWhole} {harg13 : arg13.IsWhole} {harg14 : arg14.IsWhole}
    (B : Fin 16) (hB : o = 512 * B.val) (hW : o + 2048 ≤ 8192) (hbo : b + 512 ≤ o)
    (h4 : k0_off4 i k = ![0, o, 0]) (h5 : k0_off5 i k = ![0, o, 0]) (h6 : ∀ x : Fin 4, k0_off6 i k (BitVec.ofNat 32 x) = ![0, B.val + x.val, 0, 0])
    (hq : ∀ (t : Fin 8192) e, arg2.view.read (Elt Ideal) X2 (ix3 0 t e) = (A.q t e : EReal))
    (hdo : ∀ (t : Fin 8192) e, arg3.view.read (Elt Ideal) X3 (ix3 0 t e) = (A.d t e : EReal))
    (hlse : ∀ (B : Fin 16) (t : Fin 512), arg4.view.read (Elt Ideal) X4 (ix4 0 B 0 t) = (A.lse (512 * B + t) : EReal))
    (hsum : ∀ (B : Fin 16) (t : Fin 512), arg5.view.read (Elt Ideal) X5 (ix4 0 B 0 t) = (A.sum (512 * B + t) : EReal))
    (hk : ∀ (c : Fin 512) e, v4 (ix2 c e) = (A.k (b + c) e : EReal)) (hv : ∀ (c : Fin 512) e, v6 (ix2 c e) = (A.v (b + c) e : EReal))
    (D : ℕ → Fin 256 → ℝ) (g8 : arg8.view.ty.Contents (Elt Ideal)) (g9 : arg9.view.ty.Contents (Elt Ideal))
    (g10 : arg10.view.ty.Contents (Elt Ideal))
    (h : Upto A b o D (arg8.view.read _ g8) (arg9.view.read _ g9) (arg10.view.read _ g10)) :
    let T := trip1 i arg2 harg2 arg3 harg3 arg4 harg4 arg5 harg5 arg6 harg6 arg7 harg7 arg8 harg8 arg9 harg9 arg10 harg10
      arg11 harg11 arg12 harg12 arg13 harg13 arg14 harg14 v4 v6 X2 X3 X4 X5 c k
    Upto A b (o + 2048) D (arg8.view.read _ (T.1 g8)) (arg9.view.read _ (T.2.1 g9)) (arg10.view.read _ (T.2.2.val g10)) := by
  have hlt (t : Fin 2048) : o + t.val < 8192 := by omega
  have hq' (t : Fin 2048) (e : Fin 256) : View.readAt (Elt Ideal) arg2.view
      (Rect.unit (s := S1x8192x256) (k0_off4 i k) S1x2048x256.size (k0_off4_inb i k)).toLoadRect X2 (ix3 0 t e) = (A.q (o + t) e : EReal) :=
    (load_rows arg2.view X2 o h4 _ t e ⟨o + t.val, hlt t⟩ rfl).trans (hq _ e)
  have hdo' (t : Fin 2048) (e : Fin 128) : View.readAt (Elt Ideal) arg3.view
      (Rect.unit (s := S1x8192x128) (k0_off5 i k) S1x2048x128.size (k0_off5_inb i k)).toLoadRect X3 (ix3 0 t e) = (A.d (o + t) e : EReal) :=
    (load_rows arg3.view X3 o h5 _ t e ⟨o + t.val, hlt t⟩ rfl).trans (hdo _ e)
  have hs := fun a inb r t => read_strip arg11.view (fun c t => (A.score (b + c) (o + t) : EReal))
    (k0_pay5 v4 (View.readAt (Elt Ideal) arg2.view (Rect.unit (s := S1x8192x256) (k0_off4 i k) S1x2048x256.size (k0_off4_inb i k)).toLoadRect X2))
    (fun c t => by
      rw [score_wide]
      simp only [hk, hq', ← EReal.coe_mul, coe_sum]; rfl) inb_S512x2048_S512x2048_0_0 a inb r t
  have hd := fun a inb r t => read_strip arg12.view (fun c t => (A.along (b + c) (o + t) : EReal))
    (k0_pay6 v6 (View.readAt (Elt Ideal) arg3.view (Rect.unit (s := S1x8192x128) (k0_off5 i k) S1x2048x128.size (k0_off5_inb i k)).toLoadRect X3))
    (fun c t => by
      rw [along_wide]
      simp only [hv, hdo', ← EReal.coe_mul, coe_sum]; rfl) inb_S512x2048_S512x2048_0_0 a inb r t
  have hl (t : Fin 2048) : trip1.sl.r_5 i arg4 X4 k (ix2 0 t) = (A.lse (o + t) : EReal) * (((Real.log 2)⁻¹ : ℝ) : EReal) := by
    unfold trip1.sl.r_5 trip1.sl.r_2 trip1.sl.r_3 trip1.sl.r_4
    refine lse_wide _ _ _ _ (fun t => (A.lse (o + t) : EReal)) (fun j => ?_) (fun j => ?_) (fun j => ?_) (fun j => ?_) t
    · exact (load_block arg4.view X4 ⟨B.val + 0, by omega⟩ (h6 0) _ j).trans ((hlse _ _).trans (by congr 2; simp only; omega))
    · exact (load_block arg4.view X4 ⟨B.val + 1, by omega⟩ (h6 1) _ j).trans ((hlse _ _).trans (by congr 2; simp only; omega))
    · exact (load_block arg4.view X4 ⟨B.val + 2, by omega⟩ (h6 2) _ j).trans ((hlse _ _).trans (by congr 2; simp only; omega))
    · exact (load_block arg4.view X4 ⟨B.val + 3, by omega⟩ (h6 3) _ j).trans ((hlse _ _).trans (by congr 2; simp only; omega))
  have hu (t : Fin 2048) : trip1.sl.r_6 i arg5 X5 k (ix2 0 t) = (A.sum (o + t) : EReal) := by
    unfold trip1.sl.r_6
    refine sum_wide _ _ _ _ (fun t => (A.sum (o + t) : EReal)) (fun j => ?_) (fun j => ?_) (fun j => ?_) (fun j => ?_) t
    · exact (load_block arg5.view X5 ⟨B.val + 0, by omega⟩ (h6 0) _ j).trans ((hsum _ _).trans (by congr 2; simp only; omega))
    · exact (load_block arg5.view X5 ⟨B.val + 1, by omega⟩ (h6 1) _ j).trans ((hsum _ _).trans (by congr 2; simp only; omega))
    · exact (load_block arg5.view X5 ⟨B.val + 2, by omega⟩ (h6 2) _ j).trans ((hsum _ _).trans (by congr 2; simp only; omega))
    · exact (load_block arg5.view X5 ⟨B.val + 3, by omega⟩ (h6 3) _ j).trans ((hsum _ _).trans (by congr 2; simp only; omega))
  have hp (c : Fin 512) (t : Fin 2048) : trip1.sl.v949 i arg2 arg4 arg11 arg13 v4 X2 X4 k (ix2 c t) = (A.weight (b + c) (o + t) : EReal) :=
    (wide_weights i arg2 arg4 arg11 v4 X2 X4 k A b o hbo hs hl).read arg13.view inb_S512x2048_S512x2048_0_0 c t
  have hds (c : Fin 512) (t : Fin 2048) : trip1.sl.v946 i arg2 arg3 arg4 arg5 arg11 arg12 arg14 v4 v6 X2 X3 X4 X5 k (ix2 c t)
      = (A.slope (b + c) (o + t) : EReal) := (wide_slopes i arg2 arg3 arg4 arg5 arg11 arg12 v4 v6 X2 X3 X4 X5 k A b o hbo hs hd hl hu).read arg14.view
    inb_S512x2048_S512x2048_0_0 c t
  intro T
  rw [show T = trip1 i arg2 harg2 arg3 harg3 arg4 harg4 arg5 harg5 arg6 harg6 arg7 harg7 arg8 harg8 arg9 harg9 arg10 harg10
      arg11 harg11 arg12 harg12 arg13 harg13 arg14 harg14 v4 v6 X2 X3 X4 X5 c k from rfl, trip1.eq_1]
  have hq2 (t : Fin 2048) (e : Fin 256) : trip1.sl.r i arg2 X2 k (ix2 t e) = (A.q (o + t) e : EReal) := by
    rw [← hq']; unfold trip1.sl.r; pointwise [k0_pay3]
  have hdo2 (t : Fin 2048) (e : Fin 128) : trip1.sl.r_1 i arg3 X3 k (ix2 t e) = (A.d (o + t) e : EReal) := by
    rw [← hdo']; unfold trip1.sl.r_1; pointwise [k0_pay4]
  dsimp only
  refine h.step (by omega) (fun c t => trip1.sl.v946 i arg2 arg3 arg4 arg5 arg11 arg12 arg14 v4 v6 X2 X3 X4 X5 k (ix2 c t))
    (fun c t => trip1.sl.v949 i arg2 arg4 arg11 arg13 v4 X2 X4 k (ix2 c t)) hds hp (fun t e => trip1.sl.r i arg2 X2 k (ix2 t e)) hq2
    (fun t e => trip1.sl.r_1 i arg3 X3 k (ix2 t e)) hdo2 (fun c e => v4 (ix2 c e)) hk (fun t j e ht => ?_)
    (fun t e ht => ?_) (fun c e => ?_) (fun c e => ?_)
  · unfold trip1.sl.r_17
    rw [store_rows arg8.view g8 o h4 _ _ j e t ht, add_q_wide, ← load_rows arg8.view g8 o h4 (k0_off4_inb i k) j e t ht]
  · exact store_other arg8.view g8 o h4 _ _ e t ht
  · rw [store_rows arg9.view g9 0 rfl _ _ c e c (Nat.zero_add _).symm, add_k_wide,
      ← load_rows arg9.view g9 0 rfl inb_S1x512x256_S1x512x256_0_0_0 c e c (Nat.zero_add _).symm]
  · rw [store_rows arg10.view g10 0 rfl _ _ c e c (Nat.zero_add _).symm, add_v_wide,
      ← load_rows arg10.view g10 0 rfl inb_S1x512x128_S1x512x128_0_0_0 c e c (Nat.zero_add _).symm]

end Cert.Bwd

end
-- ==== Proof.BwdBody.lean ====
/- The attention kernel's backward pass at one grid point: the block of queries beside the block of keys, then every block
   after it, by fours, then by twos, then singly. -/
module

public import proofs.«01_k».proof.Proof.BwdDiag
public import proofs.«01_k».proof.Proof.BwdNarrow
public import proofs.«01_k».proof.Proof.BwdMiddle
public import proofs.«01_k».proof.Proof.BwdWide

@[expose] public section

set_option maxRecDepth 65536
set_option maxHeartbeats 400000

noncomputable section

namespace Cert.Bwd

open Idealize.ShloMosaic Idealize.SL.Sem
open Cert.Kernel3Ideal Cert.Kernel3Ideal.Gen Cert.Kernel3Ideal.Run Cert.Att Cert.Ffn

/-! ## Trips and places -/

theorem trips1 : ∀ i : grid0.Coords, (k0_t1_loop i).trips = (15 - (i 1).val) / 4 := by decide +kernel
theorem trips3 : ∀ i : grid0.Coords, (k0_t3_loop i).trips = (15 - (i 1).val) % 4 / 2 := by decide +kernel
theorem trips5 : ∀ i : grid0.Coords, (k0_t5_loop i).trips = (15 - (i 1).val) % 2 := by decide +kernel

theorem place1 : ∀ i : grid0.Coords, k0_off1 i = ![0, 512 * (i 1).val, 0] := by decide +kernel
theorem place2 : ∀ i : grid0.Coords, k0_off2 i = ![0, 512 * (i 1).val, 0] := by decide +kernel
theorem place3 : ∀ i : grid0.Coords, k0_off3 i = ![0, (i 1).val, 0, 0] := by decide +kernel
theorem place4 : ∀ (i : grid0.Coords) (k : Fin (k0_t1_loop i).trips), k0_off4 i k = ![0, 512 * (i 1).val + 512 + 2048 * k.val, 0] := by
  decide +kernel
theorem place5 : ∀ (i : grid0.Coords) (k : Fin (k0_t1_loop i).trips), k0_off5 i k = ![0, 512 * (i 1).val + 512 + 2048 * k.val, 0] := by
  decide +kernel
theorem place6 : ∀ (i : grid0.Coords) (k : Fin (k0_t1_loop i).trips) (x : Fin 4),
    k0_off6 i k (BitVec.ofNat 32 x) = ![0, (i 1).val + 1 + 4 * k.val + x.val, 0, 0] := by decide +kernel
theorem place10 : ∀ (i : grid0.Coords) (k : Fin (k0_t3_loop i).trips),
    k0_off10 i k = ![0, 512 * (i 1).val + 512 + 2048 * ((15 - (i 1).val) / 4) + 1024 * k.val, 0] := by decide +kernel
theorem place11 : ∀ (i : grid0.Coords) (k : Fin (k0_t3_loop i).trips),
    k0_off11 i k = ![0, 512 * (i 1).val + 512 + 2048 * ((15 - (i 1).val) / 4) + 1024 * k.val, 0] := by decide +kernel
theorem place12 : ∀ (i : grid0.Coords) (k : Fin (k0_t3_loop i).trips) (x : Fin 2),
    k0_off12 i k (BitVec.ofNat 32 x) = ![0, (i 1).val + 1 + 4 * ((15 - (i 1).val) / 4) + 2 * k.val + x.val, 0, 0] := by decide +kernel
theorem place16 : ∀ (i : grid0.Coords) (k : Fin (k0_t5_loop i).trips), k0_off16 i k
    = ![0, 512 * (i 1).val + 512 + 2048 * ((15 - (i 1).val) / 4) + 1024 * ((15 - (i 1).val) % 4 / 2) + 512 * k.val, 0] := by decide +kernel
theorem place17 : ∀ (i : grid0.Coords) (k : Fin (k0_t5_loop i).trips), k0_off17 i k
    = ![0, 512 * (i 1).val + 512 + 2048 * ((15 - (i 1).val) / 4) + 1024 * ((15 - (i 1).val) % 4 / 2) + 512 * k.val, 0] := by decide +kernel
theorem place18 : ∀ (i : grid0.Coords) (k : Fin (k0_t5_loop i).trips), k0_off18 i k
    = ![0, (i 1).val + 1 + 4 * ((15 - (i 1).val) / 4) + 2 * ((15 - (i 1).val) % 4 / 2) + k.val, 0, 0] := by decide +kernel

/-! ## A loop -/

section Loop

variable {κ' : Kind} {sp : Space} (w8 : View sig κ' sp S1x8192x256 .f32) (w9 : View sig κ' sp S1x512x256 .f32)
  (w10 : View sig κ' sp S1x512x128 .f32) {A : Data} {b : ℕ} {D : ℕ → Fin 256 → ℝ}

/-- A loop whose every step meets `W` more queries meets `W` queries a step. -/
theorem Upto.loop {n : ℕ} (W : ℕ) (f8 : Fin n → w8.ty.Contents (Elt Ideal) → w8.ty.Contents (Elt Ideal))
    (f9 : Fin n → w9.ty.Contents (Elt Ideal) → w9.ty.Contents (Elt Ideal))
    (f10 : Fin n → w10.ty.Contents (Elt Ideal) → w10.ty.Contents (Elt Ideal)) (o o' : ℕ) (ho : o + W * n = o') (g8 : w8.ty.Contents (Elt Ideal))
    (g9 : w9.ty.Contents (Elt Ideal)) (g10 : w10.ty.Contents (Elt Ideal))
    (hstep : ∀ (k : Fin n) (g8 : w8.ty.Contents (Elt Ideal)) (g9 : w9.ty.Contents (Elt Ideal)) (g10 : w10.ty.Contents (Elt Ideal)),
      Upto A b (o + W * k.val) D (w8.read _ g8) (w9.read _ g9) (w10.read _ g10)
      → Upto A b (o + W * k.val + W) D (w8.read _ (f8 k g8)) (w9.read _ (f9 k g9)) (w10.read _ (f10 k g10)))
    (h : Upto A b o D (w8.read _ g8) (w9.read _ g9) (w10.read _ g10)) :
    Upto A b o' D (w8.read _ (total n f8 g8 n)) (w9.read _ (total n f9 g9 n)) (w10.read _ (total n f10 g10 n)) := by
  subst ho
  simp only [← steps_total]
  suffices ∀ m, m ≤ n → Upto A b (o + W * m) D (w8.read _ (steps n f8 g8 m)) (w9.read _ (steps n f9 g9 m)) (w10.read _ (steps n f10 g10 m))
    from this n le_rfl
  intro m
  induction m with
  | zero => exact fun _ => h
  | succ m ih =>
    intro hm
    have := hstep ⟨m, hm⟩ _ _ _ (ih (by omega))
    rw [← steps_succ n f8 g8 ⟨m, hm⟩, ← steps_succ n f9 g9 ⟨m, hm⟩, ← steps_succ n f10 g10 ⟨m, hm⟩] at this
    rwa [Nat.mul_succ, ← Nat.add_assoc]

end Loop

/-! ## The body -/

variable (i : grid0.Coords) (arg2 : Memref sig .tc .vmem S1x8192x256 .bf16) (harg2 : arg2.IsWhole)
  (arg3 : Memref sig .tc .vmem S1x8192x128 .bf16) (harg3 : arg3.IsWhole) (arg4 : Memref sig .tc .vmem S1x16x1x512 .f32)
  (harg4 : arg4.IsWhole) (arg5 : Memref sig .tc .vmem S1x16x1x512 .f32) (harg5 : arg5.IsWhole)
  (arg6 : Memref sig .tc .vmem S1x512x256 .bf16) (harg6 : arg6.IsWhole) (arg7 : Memref sig .tc .vmem S1x512x128 .bf16)
  (harg7 : arg7.IsWhole) (arg8 : Memref sig .tc .vmem S1x8192x256 .f32) (harg8 : arg8.IsWhole)
  (arg9 : Memref sig .tc .vmem S1x512x256 .f32) (harg9 : arg9.IsWhole) (arg10 : Memref sig .tc .vmem S1x512x128 .f32)
  (harg10 : arg10.IsWhole) (arg11 : Memref sig .tc .vmem S512x2048 .f32) (harg11 : arg11.IsWhole)
  (arg12 : Memref sig .tc .vmem S512x2048 .f32) (harg12 : arg12.IsWhole) (arg13 : Memref sig .tc .vmem S512x2048 .bf16)
  (harg13 : arg13.IsWhole) (arg14 : Memref sig .tc .vmem S512x2048 .bf16) (harg14 : arg14.IsWhole)
  (c : Dev nD) (x2 : Vec Ideal S1x8192x256 .bf16) (x3 : Vec Ideal S1x8192x128 .bf16) (x4 x5 : Vec Ideal S1x16x1x512 .f32)
  (x6 : Vec Ideal S1x512x256 .bf16) (x7 : Vec Ideal S1x512x128 .bf16)

/-- The steps of the three loops. -/
abbrev wide (k : Fin (k0_t1_loop i).trips) := trip1 i arg2 harg2 arg3 harg3 arg4 harg4 arg5 harg5 arg6 harg6 arg7 harg7 arg8 harg8 arg9 harg9 arg10 harg10
      arg11 harg11 arg12 harg12 arg13 harg13 arg14 harg14 (runLater.sl.r arg6 harg6 c x6) (runLater.sl.r_1 arg7 harg7 c x7)
  (harg2.unread x2) (harg3.unread x3) (harg4.unread x4) (harg5.unread x5) c k
abbrev middle (k : Fin (k0_t3_loop i).trips) := trip3 i arg2 harg2 arg3 harg3 arg4 harg4 arg5 harg5 arg6 harg6 arg7 harg7 arg8 harg8 arg9 harg9 arg10 harg10
      arg11 harg11 arg12 harg12 arg13 harg13 arg14 harg14 (runLater.sl.r arg6 harg6 c x6) (runLater.sl.r_1 arg7 harg7 c x7)
  (harg2.unread x2) (harg3.unread x3) (harg4.unread x4) (harg5.unread x5) c k
abbrev narrow (k : Fin (k0_t5_loop i).trips) := trip5 i arg2 harg2 arg3 harg3 arg4 harg4 arg5 harg5 arg6 harg6 arg7 harg7 arg8 harg8 arg9 harg9 arg10 harg10
      arg11 harg11 arg12 harg12 arg13 harg13 arg14 harg14 (runLater.sl.r arg6 harg6 c x6) (runLater.sl.r_1 arg7 harg7 c x7)
  (harg2.unread x2) (harg3.unread x3) (harg4.unread x4) (harg5.unread x5) c k

/-- The three sums after the body. -/
def body8 (g8 : arg8.view.ty.Contents (Elt Ideal)) : arg8.view.ty.Contents (Elt Ideal) :=
  total (k0_t5_loop i).trips (fun k => (narrow i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).1)
    (total (k0_t3_loop i).trips (fun k => (middle i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).1)
      (total (k0_t1_loop i).trips (fun k => (wide i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).1)
        (start8 i arg2 harg2 arg3 harg3 arg4 harg4 arg5 harg5 arg6 harg6 arg7 harg7 arg11 arg12 arg14 c x2 x3 x4 x5 x6 x7 arg8 g8)
        (k0_t1_loop i).trips) (k0_t3_loop i).trips) (k0_t5_loop i).trips
def body9 : arg9.view.ty.Contents (Elt Ideal) :=
  total (k0_t5_loop i).trips (fun k => (narrow i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).2.1)
    (total (k0_t3_loop i).trips (fun k => (middle i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).2.1)
      (total (k0_t1_loop i).trips (fun k => (wide i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).2.1)
        (arg9.view.writes (Elt Ideal) arg9.view.junk
          (runLater.sl.H9_2 i arg2 harg2 arg3 harg3 arg4 harg4 arg5 harg5 arg6 harg6 arg7 harg7 arg9 arg11 arg12 arg14 c x2 x3 x4 x5 x6 x7))
        (k0_t1_loop i).trips) (k0_t3_loop i).trips) (k0_t5_loop i).trips
def body10 : arg10.view.ty.Contents (Elt Ideal) :=
  total (k0_t5_loop i).trips (fun k => (narrow i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).2.2.1)
    (total (k0_t3_loop i).trips (fun k => (middle i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).2.2.1)
      (total (k0_t1_loop i).trips (fun k => (wide i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).2.2.1)
        (arg10.view.writes (Elt Ideal) arg10.view.junk
          (runLater.sl.H10_2 i arg2 harg2 arg3 harg3 arg4 harg4 arg6 harg6 arg10 arg11 arg13 c x2 x3 x4 x6))
        (k0_t1_loop i).trips) (k0_t3_loop i).trips) (k0_t5_loop i).trips

/-- A point that is not its head's first. -/
theorem later8 (h : ¬ first i) (g8 : arg8.view.ty.Contents (Elt Ideal)) :
    (runLater i arg2 harg2 arg3 harg3 arg4 harg4 arg5 harg5 arg6 harg6 arg7 harg7 arg8 harg8 arg9 harg9 arg10 harg10
      arg11 harg11 arg12 harg12 arg13 harg13 arg14 harg14 h c x2 x3 x4 x5 x6 x7).1 g8 = body8 i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 g8 := by
  rw [runLater.eq_1]; rfl
theorem later9 (h : ¬ first i) : (runLater i arg2 harg2 arg3 harg3 arg4 harg4 arg5 harg5 arg6 harg6 arg7 harg7 arg8 harg8 arg9 harg9 arg10 harg10
      arg11 harg11 arg12 harg12 arg13 harg13 arg14 harg14 h c x2 x3 x4 x5 x6 x7).2.1 = body9 i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 := by
  rw [runLater.eq_1]; rfl
theorem later10 (h : ¬ first i) : (runLater i arg2 harg2 arg3 harg3 arg4 harg4 arg5 harg5 arg6 harg6 arg7 harg7 arg8 harg8 arg9 harg9 arg10 harg10
      arg11 harg11 arg12 harg12 arg13 harg13 arg14 harg14 h c x2 x3 x4 x5 x6 x7).2.2.1 = body10 i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 := by
  rw [runLater.eq_1]; rfl

/-- The first sum as a head's first point sets it before anything is added: zero. -/
def blank : arg8.view.ty.Contents (Elt Ideal) := arg8.view.writes (Elt Ideal) arg8.view.junk runFirst.sl.H8_1

theorem blank_read (t : Fin 8192) (e : Fin 256) : arg8.view.read (Elt Ideal) (blank arg8) (ix3 0 t e) = 0 :=
  (stored_last arg8.view _ inb_S1x8192x256_S1x8192x256_0_0_0 (k0_pay383 : FVec Ideal S1x8192x256 .f32) [] t e).trans (zero_q t e)

/-- A head's first point. -/
theorem first8 (h : first i) : (runFirst i arg2 harg2 arg3 harg3 arg4 harg4 arg5 harg5 arg6 harg6 arg7 harg7 arg8 harg8 arg9 harg9 arg10 harg10
      arg11 harg11 arg12 harg12 arg13 harg13 arg14 harg14 h c x2 x3 x4 x5 x6 x7).1 = body8 i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 (blank arg8) := by
  rw [runFirst.eq_1]; rfl
theorem first9 (h : first i) : (runFirst i arg2 harg2 arg3 harg3 arg4 harg4 arg5 harg5 arg6 harg6 arg7 harg7 arg8 harg8 arg9 harg9 arg10 harg10
      arg11 harg11 arg12 harg12 arg13 harg13 arg14 harg14 h c x2 x3 x4 x5 x6 x7).2.1 = body9 i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 := by
  rw [runFirst.eq_1]; rfl
theorem first10 (h : first i) : (runFirst i arg2 harg2 arg3 harg3 arg4 harg4 arg5 harg5 arg6 harg6 arg7 harg7 arg8 harg8 arg9 harg9 arg10 harg10
      arg11 harg11 arg12 harg12 arg13 harg13 arg14 harg14 h c x2 x3 x4 x5 x6 x7).2.2.1 = body10 i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 := by
  rw [runFirst.eq_1]; rfl

/-- After the body every query of the row has met the block of keys. -/
theorem body_upto (A : Data)
    (hq : ∀ (t : Fin 8192) e, x2 (ix3 0 t e) = (A.q t e : EReal))
    (hdo : ∀ (t : Fin 8192) e, x3 (ix3 0 t e) = (A.d t e : EReal))
    (hlse : ∀ (B : Fin 16) (t : Fin 512), x4 (ix4 0 B 0 t) = (A.lse (512 * B + t) : EReal))
    (hsum : ∀ (B : Fin 16) (t : Fin 512), x5 (ix4 0 B 0 t) = (A.sum (512 * B + t) : EReal))
    (hk : ∀ (c : Fin 512) e, x6 (ix3 0 c e) = (A.k (512 * (i 1).val + c) e : EReal))
    (hv : ∀ (c : Fin 512) e, x7 (ix3 0 c e) = (A.v (512 * (i 1).val + c) e : EReal))
    (D : ℕ → Fin 256 → ℝ) (g8 : arg8.view.ty.Contents (Elt Ideal))
    (hD : ∀ (t : Fin 8192) e, arg8.view.read (Elt Ideal) g8 (ix3 0 t e) = (D t e : EReal)) :
    Upto A (512 * (i 1).val) 8192 D (arg8.view.read _ (body8 i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 g8))
      (arg9.view.read _ (body9 i arg2 harg2 arg3 harg3 arg4 harg4 arg5 harg5 arg6 harg6 arg7 harg7 arg8 harg8 arg9 harg9 arg10 harg10
      arg11 harg11 arg12 harg12 arg13 harg13 arg14 harg14 c x2 x3 x4 x5 x6 x7)) (arg10.view.read _ (body10 i arg2 harg2 arg3 harg3 arg4 harg4 arg5 harg5 arg6 harg6 arg7 harg7 arg8 harg8 arg9 harg9 arg10 harg10
      arg11 harg11 arg12 harg12 arg13 harg13 arg14 harg14 c x2 x3 x4 x5 x6 x7)) := by
  have hi : (i 1).val < 16 := (i 1).isLt
  have t1 := trips1 i
  have t3 := trips3 i
  have t5 := trips5 i
  have rk (c' : Fin 512) (e : Fin 256) : runLater.sl.r arg6 harg6 c x6 (ix2 c' e) = (A.k (512 * (i 1).val + c') e : EReal) := by
    unfold runLater.sl.r
    pointwise [k0_pay384]
    rw [load_rows arg6.view _ 0 rfl _ c' e c' (Nat.zero_add _).symm, harg6.read_unread, hk]
  have rv (c' : Fin 512) (e : Fin 128) : runLater.sl.r_1 arg7 harg7 c x7 (ix2 c' e) = (A.v (512 * (i 1).val + c') e : EReal) := by
    unfold runLater.sl.r_1
    pointwise [k0_pay385]
    rw [load_rows arg7.view _ 0 rfl _ c' e c' (Nat.zero_add _).symm, harg7.read_unread, hv]
  rw [← harg2.read_unread (Val := Elt Ideal) x2] at hq
  rw [← harg3.read_unread (Val := Elt Ideal) x3] at hdo
  rw [← harg4.read_unread (Val := Elt Ideal) x4] at hlse
  rw [← harg5.read_unread (Val := Elt Ideal) x5] at hsum
  have h0 := diag_step i arg2 harg2 arg3 harg3 arg4 harg4 arg5 harg5 arg6 harg6 arg7 harg7 arg11 arg12 arg13 arg14 c x2 x3 x4 x5 x6 x7 A
    (512 * (i 1).val) arg8 arg9 arg10 ⟨(i 1).val, hi⟩ rfl (place1 i) (place2 i) (place3 i)
    (by simpa only [harg2.read_unread] using hq) (by simpa only [harg3.read_unread] using hdo)
    (by simpa only [harg4.read_unread] using hlse) (by simpa only [harg5.read_unread] using hsum) hk hv D g8 hD
  have h1 := h0.loop arg8.view arg9.view arg10.view 2048 (fun k => (wide i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).1)
    (fun k => (wide i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).2.1) (fun k => (wide i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).2.2.1) _
    (512 * (i 1).val + 512 + 2048 * ((15 - (i 1).val) / 4)) (by rw [t1]) _ _ _
    fun k g8 g9 g10 h => wide_step i arg2 arg3 arg4 arg5 arg11 arg12 arg13 arg14 _ _ _ _ _ _ k A (512 * (i 1).val)
      (512 * (i 1).val + 512 + 2048 * k.val) c
      ⟨(i 1).val + 1 + 4 * k.val, by omega⟩ (by simp only; omega) (by omega) (by omega) (place4 i k) (place5 i k) (place6 i k)
      hq hdo hlse hsum rk rv D g8 g9 g10 h
  have h3 := h1.loop arg8.view arg9.view arg10.view 1024 (fun k => (middle i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).1)
    (fun k => (middle i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).2.1) (fun k => (middle i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).2.2.1) _
    (512 * (i 1).val + 512 + 2048 * ((15 - (i 1).val) / 4) + 1024 * ((15 - (i 1).val) % 4 / 2)) (by rw [t3]) _ _ _
    fun k g8 g9 g10 h => middle_step i arg2 arg3 arg4 arg5 arg11 arg12 arg13 arg14 _ _ _ _ _ _ k A (512 * (i 1).val)
      (512 * (i 1).val + 512 + 2048 * ((15 - (i 1).val) / 4) + 1024 * k.val) c
      ⟨(i 1).val + 1 + 4 * ((15 - (i 1).val) / 4) + 2 * k.val, by omega⟩ (by simp only; omega) (by omega) (by omega)
      (place10 i k) (place11 i k) (place12 i k) hq hdo hlse hsum rk rv D g8 g9 g10 h
  have h5 := h3.loop arg8.view arg9.view arg10.view 512 (fun k => (narrow i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).1)
    (fun k => (narrow i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).2.1) (fun k => (narrow i arg2 harg2 arg3 harg3 arg4 harg4 arg5 harg5 arg6 harg6 arg7 harg7 arg8 harg8 arg9 harg9 arg10 harg10
      arg11 harg11 arg12 harg12 arg13 harg13 arg14 harg14 c x2 x3 x4 x5 x6 x7 k).2.2.1) _
    8192 (by rw [t5]; omega) _ _ _
    fun k g8 g9 g10 h => narrow_step i arg2 arg3 arg4 arg5 arg11 arg12 arg13 arg14 _ _ _ _ _ _ k A (512 * (i 1).val)
      (512 * (i 1).val + 512 + 2048 * ((15 - (i 1).val) / 4) + 1024 * ((15 - (i 1).val) % 4 / 2) + 512 * k.val) c
      ⟨(i 1).val + 1 + 4 * ((15 - (i 1).val) / 4) + 2 * ((15 - (i 1).val) % 4 / 2) + k.val, by omega⟩ (by simp only; omega) (by omega)
      (place16 i k) (place17 i k) (place18 i k) hq hdo hlse hsum rk rv D g8 g9 g10 h
  exact h5

end Cert.Bwd

end
-- ==== Proof.BwdFwd.lean ====
/- What the attention backward kernel leaves in its three arrays: the sums over keys for the queries' gradient, added up
   over the 16 points of a head, and the sums over queries for the keys' and the values' gradients. -/
module

public import proofs.«01_k».proof.Proof.BwdFrame
public import proofs.«01_k».proof.Proof.BwdBody
public import Idealize.ShloMosaic.Lib.KernelVsHost

@[expose] public section

set_option maxRecDepth 16384

noncomputable section

namespace Cert.Bwd

open Idealize.ShloMosaic Idealize.ShloMosaic.TcCoe Idealize.SL.Sem
open Cert.Kernel3Ideal Cert.Kernel3Ideal.Gen Cert.Kernel3Ideal.Run

/-- A key after the query has no slope. -/
theorem slope_after (A : Data) {s t : ℕ} (h : t < s) : A.slope s t = 0 := by
  rw [Data.slope, Data.weight, if_neg (not_le.2 h), zero_mul, zero_mul]
theorem weight_after (A : Data) {s t : ℕ} (h : t < s) : A.weight s t = 0 := by
  rw [Data.weight, if_neg (not_le.2 h)]

/-- The sum over the first `n` keys. -/
def dqUpto (A : Data) (n t : ℕ) (e : Fin 256) : ℝ := ∑ s ∈ Finset.range n, A.slope s t * A.k s e

/-- One more block of 512 keys. -/
theorem dqUpto_add (A : Data) (b t : ℕ) (ht : t < 8192) (e : Fin 256) :
    dqUpto A b t e + (if b ≤ t ∧ t < 8192 then ∑ c : Fin 512, A.slope (b + c) t * A.k (b + c) e else 0)
      = dqUpto A (b + 512) t e := by
  rw [dqUpto, dqUpto, Finset.sum_range_add, Finset.sum_range (fun i => A.slope (b + i) t * A.k (b + i) e)]
  congr 1
  split
  · rfl
  · refine (Finset.sum_eq_zero fun c _ => ?_).symm
    rw [slope_after A (by omega), zero_mul]

/-- The sum over the queries, for a key. -/
def dkAll (A : Data) (s : ℕ) (e : Fin 256) : ℝ := ∑ t ∈ Finset.range 8192, A.slope s t * A.q t e
def dvAll (A : Data) (s : ℕ) (e : Fin 128) : ℝ := ∑ t ∈ Finset.range 8192, A.weight s t * A.d t e

/-- Queries before the key's block add nothing. -/
theorem sum_from (f : ℕ → ℝ) (b : ℕ) (hb : b ≤ 8192) (hf : ∀ t < b, f t = 0) :
    ∑ t ∈ Finset.Ico b 8192, f t = ∑ t ∈ Finset.range 8192, f t := by
  rw [Finset.range_eq_Ico, ← Finset.sum_Ico_consecutive f (Nat.zero_le b) hb,
    Finset.sum_eq_zero fun t ht => hf t (Finset.mem_Ico.1 ht).2, zero_add]

variable (m : (a : Loc nD τ sig) → Buf (Elt Ideal) a) (c : Dev nD) (A : Fin 4 → Data)

/-- The arrays the kernel is given hold the data of each head. -/
structure Given : Prop where
  q : ∀ h (t : Fin 8192) e, (V m c main_v48 (ix3 h t e) : EReal) = ((A h).q t e : EReal)
  d : ∀ h (t : Fin 8192) e, (V m c main_v55 (ix3 h t e) : EReal) = ((A h).d t e : EReal)
  lse : ∀ h (B : Fin 16) (t : Fin 512), (V m c main_v56 (ix4 h B 0 t) : EReal) = ((A h).lse (512 * B + t) : EReal)
  sum : ∀ h (B : Fin 16) (t : Fin 512), (V m c main_v57 (ix4 h B 0 t) : EReal) = ((A h).sum (512 * B + t) : EReal)
  k : ∀ h (t : Fin 8192) e, (V m c main_v51 (ix3 h t e) : EReal) = ((A h).k t e : EReal)
  v : ∀ h (t : Fin 8192) e, (V m c main_v53 (ix3 h t e) : EReal) = ((A h).v t e : EReal)

/-- The block each window holds at a point. -/
theorem bwd_idx : ∀ t : Fin cfg0.N, win0_0.index t = ![t.val / 16, 0, 0] ∧ win0_1.index t = ![t.val / 16, 0, 0]
    ∧ win0_2.index t = ![t.val / 16, 0, 0, 0] ∧ win0_3.index t = ![t.val / 16, 0, 0, 0]
    ∧ win0_4.index t = ![t.val / 16, t.val % 16, 0] ∧ win0_5.index t = ![t.val / 16, t.val % 16, 0]
    ∧ win0_6.index t = ![t.val / 16, 0, 0] ∧ win0_7.index t = ![t.val / 16, t.val % 16, 0]
    ∧ win0_8.index t = ![t.val / 16, t.val % 16, 0] ∧ (grid0.coords t 1).val = t.val % 16 :=
  (by decide +kernel : ∀ t : Fin grid0.N, _)

/-- The head a point works on. -/
abbrev head (t : Fin cfg0.N) : Fin 4 := ⟨t / 16, by have := lt_of_lt_of_eq t.isLt N_0; omega⟩
/-- The token of row `p` of its block of keys. -/
abbrev tok (t : Fin cfg0.N) (p : Fin 512) : Fin 8192 := ⟨512 * (t % 16) + p, by omega⟩

/-- The three sums after a point. -/
abbrev sum8 (t : Fin cfg0.N) (g8 : (ms6 t).view.ty.Contents (Elt Ideal)) := body8 (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) c (iblk m c 0 t) (iblk m c 1 t) (iblk m c 2 t) (iblk m c 3 t) (iblk m c 4 t) (iblk m c 5 t) g8
abbrev sum9 (t : Fin cfg0.N) := body9 (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) c (iblk m c 0 t) (iblk m c 1 t) (iblk m c 2 t) (iblk m c 3 t) (iblk m c 4 t) (iblk m c 5 t)
abbrev sum10 (t : Fin cfg0.N) := body10 (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) c (iblk m c 0 t) (iblk m c 1 t) (iblk m c 2 t) (iblk m c 3 t) (iblk m c 4 t) (iblk m c 5 t)

variable {m c A} (G : Given m c A)
include G

/-! ## The blocks at a point -/

theorem q_block (t : Fin cfg0.N) (t' : Fin 8192) (e : Fin 256) : (iblk m c 0 t (ix3 0 t' e) : EReal) = ((A (head t)).q t' e : EReal) :=
  (show _ = V m c main_v48 (ix3 (head t) t' e) by blk_ext [iblk, bwd_idx t]).trans (G.q _ _ _)
theorem d_block (t : Fin cfg0.N) (t' : Fin 8192) (e : Fin 128) : (iblk m c 1 t (ix3 0 t' e) : EReal) = ((A (head t)).d t' e : EReal) :=
  (show _ = V m c main_v55 (ix3 (head t) t' e) by blk_ext [iblk, bwd_idx t]).trans (G.d _ _ _)
theorem lse_block (t : Fin cfg0.N) (B : Fin 16) (t' : Fin 512) :
    (iblk m c 2 t (ix4 0 B 0 t') : EReal) = ((A (head t)).lse (512 * B + t') : EReal) :=
  (show _ = V m c main_v56 (ix4 (head t) B 0 t') by blk_ext [iblk, bwd_idx t]).trans (G.lse _ _ _)
theorem rowsum_block (t : Fin cfg0.N) (B : Fin 16) (t' : Fin 512) :
    (iblk m c 3 t (ix4 0 B 0 t') : EReal) = ((A (head t)).sum (512 * B + t') : EReal) :=
  (show _ = V m c main_v57 (ix4 (head t) B 0 t') by blk_ext [iblk, bwd_idx t]).trans (G.sum _ _ _)
theorem k_block (t : Fin cfg0.N) (p : Fin 512) (e : Fin 256) :
    (iblk m c 4 t (ix3 0 p e) : EReal) = ((A (head t)).k (512 * (grid0.coords t 1).val + p) e : EReal) := by
  rw [(bwd_idx t).2.2.2.2.2.2.2.2.2]
  exact (show _ = V m c main_v51 (ix3 (head t) (tok t p) e) by blk_ext [iblk, bwd_idx t]).trans (G.k _ _ _)
theorem v_block (t : Fin cfg0.N) (p : Fin 512) (e : Fin 128) :
    (iblk m c 5 t (ix3 0 p e) : EReal) = ((A (head t)).v (512 * (grid0.coords t 1).val + p) e : EReal) := by
  rw [(bwd_idx t).2.2.2.2.2.2.2.2.2]
  exact (show _ = V m c main_v53 (ix3 (head t) (tok t p) e) by blk_ext [iblk, bwd_idx t]).trans (G.v _ _ _)

/-- The sums at a point, from what the queries' sum was. -/
theorem at_point (t : Fin cfg0.N) (D : ℕ → Fin 256 → ℝ) (g8 : (ms6 t).view.ty.Contents (Elt Ideal))
    (hD : ∀ (t' : Fin 8192) e, (ms6 t).view.read (Elt Ideal) g8 (ix3 0 t' e) = (D t' e : EReal)) :
    Upto (A (head t)) (512 * (t.val % 16)) 8192 D
      ((ms6 t).view.read (Elt Ideal) (sum8 m c t g8))
      ((ms7 t).view.read (Elt Ideal) (sum9 m c t))
      ((ms8 t).view.read (Elt Ideal) (sum10 m c t)) := by
  rw [← (bwd_idx t).2.2.2.2.2.2.2.2.2]
  exact body_upto (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t) (Memref.whole cc0_scratch0) (Memref.isWhole_whole _) (Memref.whole cc0_scratch1) (Memref.isWhole_whole _) (Memref.whole cc0_scratch2) (Memref.isWhole_whole _) (Memref.whole cc0_scratch3) (Memref.isWhole_whole _) c (iblk m c 0 t) (iblk m c 1 t) (iblk m c 2 t) (iblk m c 3 t) (iblk m c 4 t) (iblk m c 5 t) (A (head t)) (q_block G t) (d_block G t) (lse_block G t)
    (rowsum_block G t) (k_block G t) (v_block G t) D g8 hD

/-- The queries' sum after a point: over the keys of the blocks up to the point's. -/
theorem dq_at (n : ℕ) (hn : n < cfg0.N) (t : Fin 8192) (e : Fin 256) :
    dqAt m c n hn (ix3 0 t e) = (dqUpto (A (head ⟨n, hn⟩)) (512 * (n % 16) + 512) t e : EReal) := by
  induction n generalizing t e with
  | zero =>
    rw [dqAt_first m c ⟨0, hn⟩ rfl, first8]
    rw [(at_point G ⟨0, hn⟩ (fun _ _ => 0) _ (fun t' e => blank_read _ t' e)).dq]
    rw [← dqUpto_add _ _ _ t.isLt]
    simp [dqUpto]
  | succ n ih =>
    by_cases h : (n + 1) % 16 = 0
    · rw [dqAt_first m c ⟨n + 1, hn⟩ h, first8]
      rw [(at_point G ⟨n + 1, hn⟩ (fun _ _ => 0) _ (fun t' e => blank_read _ t' e)).dq]
      rw [← dqUpto_add _ _ _ t.isLt, h]
      simp [dqUpto]
    · rw [dqAt_later m c ⟨n + 1, hn⟩ h, later8]
      rw [(at_point G ⟨n + 1, hn⟩ (dqUpto (A (head ⟨n + 1, hn⟩)) (512 * ((n + 1) % 16))) _ (fun t' e => ?_)).dq]
      · rw [← dqUpto_add _ _ _ t.isLt]
      · rw [(hs6 _).read_unread]
        refine (ih _ t' e).trans ?_
        rw [show head ⟨n, Nat.lt_of_succ_lt hn⟩ = head ⟨n + 1, hn⟩ from Fin.ext (by simp only; omega),
          show 512 * (n % 16) + 512 = 512 * ((n + 1) % 16) by omega]

theorem dk_at (t : Fin cfg0.N) (p : Fin 512) (e : Fin 256) :
    dkAt m c t (ix3 0 p e) = (dkAll (A (head t)) (512 * (t.val % 16) + p) e : EReal) := by
  rw [dkAll, ← sum_from _ (512 * (t.val % 16)) (by omega) fun s hs => by rw [slope_after _ (by omega), zero_mul], dkAt]
  split
  · rw [first9, (at_point G t (fun _ _ => 0) _ (fun t' e => blank_read _ t' e)).dk]
  · rw [later9, (at_point G t (fun _ _ => 0) _ (fun t' e => blank_read _ t' e)).dk]

theorem dv_at (t : Fin cfg0.N) (p : Fin 512) (e : Fin 128) :
    dvAt m c t (ix3 0 p e) = (dvAll (A (head t)) (512 * (t.val % 16) + p) e : EReal) := by
  rw [dvAll, ← sum_from _ (512 * (t.val % 16)) (by omega) fun s hs => by rw [weight_after _ (by omega), zero_mul], dvAt]
  split
  · rw [first10, (at_point G t (fun _ _ => 0) _ (fun t' e => blank_read _ t' e)).dv]
  · rw [later10, (at_point G t (fun _ _ => 0) _ (fun t' e => blank_read _ t' e)).dv]

end Cert.Bwd

end
-- ==== Proof.BwdArrays.lean ====
/- The three arrays of gradients the attention backward kernel leaves, read at an index. -/
module

public import proofs.«01_k».proof.Proof.BwdFwd

@[expose] public section

set_option maxRecDepth 16384

noncomputable section

namespace Cert.Bwd

open Idealize.ShloMosaic Idealize.ShloMosaic.TcCoe Idealize.SL.Sem
open Cert.Kernel3Ideal Cert.Kernel3Ideal.Gen Cert.Kernel3Ideal.Run

/-! ## The arrays -/

theorem exKey {n : ℕ} (y : (⟨3, ![1, 512, n]⟩ : Shape).Idx) : ∃ (p : Fin 512) (d : Fin n), y = ix3 0 p d := by
  refine ⟨y 1, y 2, ?_⟩
  funext a; fin_cases a <;> first | rfl | exact Subsingleton.elim (α := Fin 1) _ _
theorem exQuery {n : ℕ} (y : (⟨3, ![1, 8192, n]⟩ : Shape).Idx) : ∃ (p : Fin 8192) (d : Fin n), y = ix3 0 p d := by
  refine ⟨y 1, y 2, ?_⟩
  funext a; fin_cases a <;> first | rfl | exact Subsingleton.elim (α := Fin 1) _ _

/-- The three arrays. -/
def dqArr (A : Fin 4 → Data) (j : S4x8192x256.Idx) : EReal := (dqUpto (A (j 0)) 8192 (j 1).val (j 2) : ℝ)
def dkArr (A : Fin 4 → Data) (j : S4x8192x256.Idx) : EReal := (dkAll (A (j 0)) (j 1).val (j 2) : ℝ)
def dvArr (A : Fin 4 → Data) (j : S4x8192x128.Idx) : EReal := (dvAll (A (j 0)) (j 1).val (j 2) : ℝ)

variable {m : (a : Loc nD τ sig) → Buf (Elt Ideal) a} {c : Dev nD} {A : Fin 4 → Data} (G : Given m c A)
include G

/-- The gradient of the queries at the end of a point that writes it back. -/
theorem dq_point (t : Fin cfg0.N) (hf : (cfg0.win 6).flush t = true) (p : Fin 8192) (e : Fin 256) :
    (dats m 0 c).after 6 t (ix3 0 p e) = dqArr A (ix3 (head t) p e) := by
  rw [after6]
  have hl := (flush0_6 t).mp hf
  refine (dq_at G t.val t.isLt p e).trans ?_
  rw [show 512 * (t.val % 16) + 512 = 8192 by omega]
  rfl

/-- The gradient of the queries. -/
theorem dq_array : (dats m 0 c).arrAt 6 cfg0.N = dqArr A := by
  refine (dats m 0 c).arrAt_eq_of_covers 6 (dqArr A) (by decide +kernel) fun t hf y => ?_
  obtain ⟨p, e, rfl⟩ := exQuery y
  refine (dq_point G t hf p e).trans ?_
  exact congrArg (dqArr A) (show (win0_6.blk t).view.emb (ix3 0 p e) = ix3 (head t) p e by blk_ext [bwd_idx t]).symm

/-- The gradient of the keys at the end of a point that writes it back. -/
theorem dk_point (t : Fin cfg0.N) (hf : (cfg0.win 7).flush t = true) (p : Fin 512) (e : Fin 256) :
    (dats m 0 c).after 7 t (ix3 0 p e) = dkArr A (ix3 (head t) (tok t p) e) := by
  rw [after7]
  exact dk_at G t p e

/-- The gradient of the keys. -/
theorem dk_array : (dats m 0 c).arrAt 7 cfg0.N = dkArr A := by
  refine (dats m 0 c).arrAt_eq_of_covers 7 (dkArr A) (by decide +kernel) fun t hf y => ?_
  obtain ⟨p, e, rfl⟩ := exKey y
  refine (dk_point G t hf p e).trans ?_
  exact congrArg (dkArr A) (show (win0_7.blk t).view.emb (ix3 0 p e) = ix3 (head t) (tok t p) e by blk_ext [bwd_idx t]).symm

/-- The gradient of the values at the end of a point that writes it back. -/
theorem dv_point (t : Fin cfg0.N) (hf : (cfg0.win 8).flush t = true) (p : Fin 512) (e : Fin 128) :
    (dats m 0 c).after 8 t (ix3 0 p e) = dvArr A (ix3 (head t) (tok t p) e) := by
  rw [after8]
  exact dv_at G t p e

/-- The gradient of the values. -/
theorem dv_array : (dats m 0 c).arrAt 8 cfg0.N = dvArr A := by
  refine (dats m 0 c).arrAt_eq_of_covers 8 (dvArr A) (by decide +kernel) fun t hf y => ?_
  obtain ⟨p, e, rfl⟩ := exKey y
  refine (dv_point G t hf p e).trans ?_
  exact congrArg (dvArr A) (show (win0_8.blk t).view.emb (ix3 0 p e) = ix3 (head t) (tok t p) e by blk_ext [bwd_idx t]).symm

end Cert.Bwd

end
-- ==== Proof.BwdHost.lean ====
/- The arrays the attention backward kernel is given, over real arguments: the padded queries and keys, the values, the
   output's gradient, and the two rows the host computes from them. -/
module

public import proofs.«01_k».proof.Proof.AttRef
public import proofs.«01_k».proof.Proof.BwdArrays

@[expose] public section

set_option maxRecDepth 16384

noncomputable section

namespace Cert.Bwd

open Idealize.ShloMosaic Idealize.ShloMosaic.TcCoe Idealize.SL.Sem
open Cert.Kernel3Ideal Cert.Kernel3Ideal.Gen Cert.Kernel3Ideal.Run
open Cert.Att (Lanes Vals filled lanes_array values_array)

/-- The rows' sums of products, from real arrays. -/
theorem rowsum_array (x : FVec Ideal S8192x4x128 .f32) (y : FVec Ideal S4x8192x128 .f32) (d : Vals) (o : Fin 4 → ℕ → Fin 128 → ℝ)
    (hx : ∀ (j : Fin 8192) h e, x (ix3 j h e) = (d j h e : EReal)) (hy : ∀ h (j : Fin 8192) e, y (ix3 h j e) = (o h j e : EReal))
    (h : Fin 4) (B : Fin 16) (t : Fin 512) :
    shapeCast S4x16x1x512 (Host.reduceAdd (F := Ideal) (mulf (F := Ideal)
      (transpose S4x8192x128 [1, 0, 2] x transposes_S8192x4x128_S4x8192x128_1_0_2) y)
      (constant (F := Ideal) S_ .f32 0x00000000#32) reducesTo_S4x8192x128_S4x8192_d2 h_S_) shapeCasts_S4x8192_S4x16x1x512
      (ix4 h B 0 t) = ((∑ e, d (512 * B + t) h e * o h (512 * B + t) e : ℝ) : EReal) := by
  pointwise []
  simp only [hx, hy, ← EReal.coe_mul, Cert.Ffn.coe_sum, Nat.mul_comm B.val 512]

variable (m : (a : Loc nD τ sig) → Buf (Elt Ideal) a) (c : Dev nD) (q k : Lanes) (v d : Vals)

/-- The arguments hold the real inputs. -/
structure Args : Prop where
  q : ∀ (j : Fin 8192) h e, (m ((c : Thread nD τ).loc main_arg0) (ix3 j h e) : EReal) = (q j h e : EReal)
  k : ∀ (j : Fin 8192) h e, (m ((c : Thread nD τ).loc main_arg1) (ix3 j h e) : EReal) = (k j h e : EReal)
  v : ∀ (j : Fin 8192) h d, (m ((c : Thread nD τ).loc main_arg2) (ix3 j h d) : EReal) = (v j h d : EReal)
  d : ∀ (j : Fin 8192) h e, (m ((c : Thread nD τ).loc main_arg3) (ix3 j h e) : EReal) = (d j h e : EReal)

/-- One head's data. -/
def data (h : Fin 4) : Data where
  q t := filled (q t h)
  k t := filled (k t h)
  v t := v t h
  d t := d t h
  lse t := Att.lse (Att.raw q k h t) (t + 1)
  sum t := ∑ e, d t h e * Att.out (Att.raw q k h t) (fun c => v c h) (t + 1) e

theorem host_q : V m c main_v48 = truncf (F := Ideal) .bf16 (transpose S4x8192x256 [1, 0, 2] (pad S8192x4x256 ![0, 0, 0]
    ![0, 0, 64] ![0, 0, 0] (m ((c : Thread nD τ).loc main_arg0)) (sitofp (F := Ideal) .f32 (constantI S_ 32 0#32))
    pads_S8192x4x192_S8192x4x256_000_000_0640 h_S_) transposes_S8192x4x256_S4x8192x256_1_0_2) bitsLt_bf16_f32 := by
  simp only [V, hostOps0, hostOps0_1, hostOps0_2, hostOps0_3, hostOps0_4, hostOps0_5, hostOps0_6, hostOps0_7, hostOps0_8,
    List.flatten, List.append]
  after_results_simp <;> rfl
theorem host_k : V m c main_v51 = truncf (F := Ideal) .bf16 (transpose S4x8192x256 [1, 0, 2] (pad S8192x4x256 ![0, 0, 0]
    ![0, 0, 64] ![0, 0, 0] (m ((c : Thread nD τ).loc main_arg1)) (sitofp (F := Ideal) .f32 (constantI S_ 32 0#32))
    pads_S8192x4x192_S8192x4x256_000_000_0640 h_S_) transposes_S8192x4x256_S4x8192x256_1_0_2) bitsLt_bf16_f32 := by
  simp only [V, hostOps0, hostOps0_1, hostOps0_2, hostOps0_3, hostOps0_4, hostOps0_5, hostOps0_6, hostOps0_7, hostOps0_8,
    List.flatten, List.append]
  after_results_simp <;> rfl
theorem host_v : V m c main_v53 = truncf (F := Ideal) .bf16 (transpose S4x8192x128 [1, 0, 2]
    (m ((c : Thread nD τ).loc main_arg2)) transposes_S8192x4x128_S4x8192x128_1_0_2) bitsLt_bf16_f32 := by
  simp only [V, hostOps0, hostOps0_1, hostOps0_2, hostOps0_3, hostOps0_4, hostOps0_5, hostOps0_6, hostOps0_7, hostOps0_8,
    List.flatten, List.append]
  after_results_simp <;> rfl
theorem host_d : V m c main_v55 = truncf (F := Ideal) .bf16 (transpose S4x8192x128 [1, 0, 2]
    (m ((c : Thread nD τ).loc main_arg3)) transposes_S8192x4x128_S4x8192x128_1_0_2) bitsLt_bf16_f32 := by
  simp only [V, hostOps0, hostOps0_1, hostOps0_2, hostOps0_3, hostOps0_4, hostOps0_5, hostOps0_6, hostOps0_7, hostOps0_8,
    List.flatten, List.append]
  after_results_simp <;> rfl

/-- The logarithms are those of the forward call's reference, computed by the same lines. -/
theorem host_lse : V m c main_v56 = shapeCast S4x16x1x512 (Cert.Reference2Ideal.Read.val_main_v15 (F := Ideal)
    (m ((c : Thread nD τ).loc main_arg0)) (m ((c : Thread nD τ).loc main_arg1))) shapeCasts_S4x8192_S4x16x1x512 := by
  simp only [V, hostOps0, hostOps0_1, hostOps0_2, hostOps0_3, hostOps0_4, hostOps0_5, hostOps0_6, hostOps0_7, hostOps0_8,
    List.flatten, List.append]
  after_results_simp <;> rfl

/-- And so is the output that the rows' sums are taken over. -/
theorem host_sum : V m c main_v57 = shapeCast S4x16x1x512 (Host.reduceAdd (F := Ideal) (mulf (F := Ideal)
    (transpose S4x8192x128 [1, 0, 2] (m ((c : Thread nD τ).loc main_arg3)) transposes_S8192x4x128_S4x8192x128_1_0_2)
    (Cert.Reference2Ideal.Read.val_main_v42 (F := Ideal) (m ((c : Thread nD τ).loc main_arg0))
      (m ((c : Thread nD τ).loc main_arg1)) (m ((c : Thread nD τ).loc main_arg2))))
    (constant (F := Ideal) S_ .f32 0x00000000#32) reducesTo_S4x8192x128_S4x8192_d2 h_S_) shapeCasts_S4x8192_S4x16x1x512 := by
  simp only [V, hostOps0, hostOps0_1, hostOps0_2, hostOps0_3, hostOps0_4, hostOps0_5, hostOps0_6, hostOps0_7, hostOps0_8,
    List.flatten, List.append]
  after_results_simp <;> rfl

variable {m c q k v d} (H : Args m c q k v d)
include H

/-- The same arguments, as the forward call's reference takes them. -/
theorem Args.forward : Att.RefArgs q k v (m ((c : Thread nD τ).loc main_arg0)) (m ((c : Thread nD τ).loc main_arg1))
    (m ((c : Thread nD τ).loc main_arg2)) := ⟨H.q, H.k, H.v⟩

theorem Args.given : Given m c (data q k v d) where
  q h t e := by
    rw [host_q]
    refine (lanes_array _ h t e).trans ?_
    change _ = ((filled (q t h) e : ℝ) : EReal)
    unfold filled
    split
    · exact H.q t h _
    · rfl
  k h t e := by
    rw [host_k]
    refine (lanes_array _ h t e).trans ?_
    change _ = ((filled (k t h) e : ℝ) : EReal)
    unfold filled
    split
    · exact H.k t h _
    · rfl
  v h t e := by rw [host_v]; exact (values_array _ h t e).trans (H.v t h e)
  d h t e := by rw [host_d]; exact (values_array _ h t e).trans (H.d t h e)
  lse h B t := by
    rw [host_lse]
    exact (Att.ref_lse h B t).trans (Att.ref_logsum H.forward h _)
  sum h B t := by
    rw [host_sum]
    exact rowsum_array _ _ d (fun h t => Att.out (Att.raw q k h t) (fun c => v c h) (t + 1)) H.d
      (fun h t e => Att.ref_out H.forward h t e) h B t

end Cert.Bwd

end
-- ==== Proof.BwdRef.lean ====
/- What the attention backward reference computes, stage by stage at an index: over real arguments it holds the gradients
   of `BwdFwd`. -/
module

public import proofs.«01_k».proof.Proof.BwdHost
public import proofs.«01_k».proof.Proof.Gen.Reference3Ideal.Read

@[expose] public section

set_option maxRecDepth 16384

noncomputable section

namespace Cert.Bwd

open Idealize.ShloMosaic Idealize.SL.Sem
open Cert.Reference3Ideal Cert.Reference3Ideal.Gen Cert.Reference3Ideal.Read
open Cert.Att (Lanes Vals filled scale RefArgs)
open Cert.Ffn (coe_sum)

/-! ## The soft-max and its slope over the reals -/

section

variable (q k : Lanes) (v d : Vals) (h : Fin 4) (s t : ℕ) (M : ℝ)

theorem data_score : (data q k v d h).score s t = Att.raw q k h t s := by
  rw [← Att.score_filled]
  exact Finset.sum_congr rfl fun e _ => mul_comm _ _

/-- The weight of a key, relative to any maximum. -/
theorem data_weight : (data q k v d h).weight s t
    = if s ≤ t then Real.exp (scale * (Att.raw q k h t s - M)) / Att.weight (Att.raw q k h t) (t + 1) M else 0 := by
  rw [Data.weight, data_score]
  refine if_congr Iff.rfl ?_ rfl
  change Real.exp (_ - Att.lse (Att.raw q k h t) (t + 1)) = _
  rw [← Att.lse_shift _ (Nat.succ_pos t) M, ← sub_sub, Real.exp_sub, Real.exp_log (Att.weight_pos _ (Nat.succ_pos t) M)]
  congr 2
  ring

/-- The row's sum of gradient and output, as a sum over its keys. -/
theorem data_sum : (data q k v d h).sum t = (∑ c ∈ Finset.range (t + 1), (data q k v d h).along c t
    * Real.exp (scale * (Att.raw q k h t c - M))) / Att.weight (Att.raw q k h t) (t + 1) M := by
  change ∑ e, d t h e * Att.out (Att.raw q k h t) (fun c => v c h) (t + 1) e = _
  simp only [← Att.out_shift _ _ _ M, Att.mean, mul_div_assoc', ← Finset.sum_div, Finset.mul_sum]
  rw [Finset.sum_comm]
  congr 1
  refine Finset.sum_congr rfl fun c _ => ?_
  change _ = (∑ e, v c h e * d t h e) * _
  rw [Finset.sum_mul]
  refine Finset.sum_congr rfl fun e _ => ?_
  ring

/-- The slope of a soft-max in its score, from the reference's order of operations. -/
theorem slope_real (t : Fin 8192) (a e W r : ℝ) (L E : ℕ → ℝ) (hW : W ≠ 0) :
    (a * (1 / W) + ∑ _i : Fin 1, -∑ i : Fin 8192, L i * (1 / (W * W)) * (if i.val < t.val + 1 then E i else 0)) * e * r
      = e / W * (a - (∑ c ∈ Finset.range (t.val + 1), L c * E c) / W) * r := by
  have hs : ∑ i : Fin 8192, L i * (1 / (W * W)) * (if i.val < t.val + 1 then E i else 0)
      = (∑ c ∈ Finset.range (t.val + 1), L c * E c) / (W * W) := by
    rw [← Att.sum_kept t fun c => L c * E c, Finset.sum_div]
    refine Finset.sum_congr rfl fun c _ => ?_
    split
    · ring
    · simp
  rw [Fin.sum_univ_one, hs]
  generalize ∑ c ∈ Finset.range (t.val + 1), L c * E c = S
  field_simp
  ring

end

/-! ## The reference's stages -/

variable {q k : Lanes} {v d : Vals} {x0 x1 : FVec Ideal S8192x4x192 .f32} {x2 x3 : FVec Ideal S8192x4x128 .f32}
    (H : RefArgs q k v x0 x1 x2) (hd : ∀ (j : Fin 8192) h e, x3 (ix3 j h e) = (d j h e : EReal)) (h : Fin 4) (s t : Fin 8192)

theorem exp_entry : val_main_v33 (F := Ideal) x0 x1 (ix3 h t s)
    = Ideal.exp (Cert.Reference2Ideal.Read.val_main_v12 (F := Ideal) x0 x1 (ix3 h t s)
      - Cert.Reference2Ideal.Read.val_main_v31 (F := Ideal) x0 x1 (ix2 h t)) := by
  pointwise [val_main_v33, val_main_v32, val_main_v31, val_main_v30]
  rfl

include H in
/-- The exponentials and their sum. -/
theorem soft : ∃ M : ℝ, (∀ s : Fin 8192, val_main_v33 (F := Ideal) x0 x1 (ix3 h t s)
      = ((if s.val < t.val + 1 then Real.exp (scale * (Att.raw q k h t s - M)) else 0 : ℝ) : EReal))
    ∧ val_main_v34 (F := Ideal) x0 x1 (ix2 h t) = (Att.weight (Att.raw q k h t) (t.val + 1) M : EReal) := by
  obtain ⟨M, hM⟩ := Att.ref_exp H h t
  have he (s : Fin 8192) := (exp_entry (x0 := x0) (x1 := x1) h s t).trans (hM s)
  refine ⟨M, he, ?_⟩
  pointwise [val_main_v34, val_main_cst_10]
  simp only [he]
  rw [coe_sum, Att.sum_kept t (fun c => Real.exp (scale * (Att.raw q k h t c - M)))]
  rfl

include H hd in
theorem along_entry : val_main_v44 (F := Ideal) x2 x3 (ix3 h t s) = ((data q k v d h).along s t : EReal) := by
  pointwise [val_main_v44, val_main_v43]
  simp only [hd, H.v, ← EReal.coe_mul, coe_sum]
  exact congrArg _ (Finset.sum_congr rfl fun e _ => mul_comm _ _)

include H in
theorem weight_entry : val_main_v37 (F := Ideal) x0 x1 (ix3 h t s) = ((data q k v d h).weight s t : EReal) := by
  obtain ⟨M, he, hw⟩ := soft H h t
  pointwise [val_main_v37, val_main_v36, val_main_v35]
  rw [he, hw, Ideal.div_coe (Att.weight_pos _ (Nat.succ_pos t.val) M).ne', ← EReal.coe_mul, data_weight (M := M)]
  simp only [Nat.lt_succ_iff]
  congr 1
  split <;> ring

include H hd in
theorem slope_entry : val_main_v61 (F := Ideal) x0 x1 x2 x3 (ix3 h t s) = ((data q k v d h).slope s t : EReal) := by
  obtain ⟨M, he, hw⟩ := soft H h t
  pointwise [val_main_v61, val_main_v60, val_main_v59, val_main_call1_v0, val_main_call1_cst, val_main_v58, val_main_v57,
    val_main_v56, val_main_v55, val_main_v54, val_main_v53, val_main_v52, val_main_v51, val_main_v50, val_main_v49,
    val_main_v48, val_main_v47, val_main_v40, val_main_v39, val_main_v38, val_main_v35, val_main_cst_11, val_main_cst_12,
    val_main_cst_13, val_main_v12_1, val_main_v11, val_main_v10, val_main_v9, val_main_v8, val_main_v7, val_main_v6, val_main_v5]
  have hW := Att.weight_pos (Att.raw q k h t) (Nat.succ_pos t.val) M
  have hs : val_main_v2 (F := Ideal) ix0 = (scale : EReal) := Att.ref_scale _
  have h1 : Ideal.div 1 ((Att.weight (Att.raw q k h t) (t.val + 1) M * Att.weight (Att.raw q k h t) (t.val + 1) M : ℝ) : EReal)
      = ((1 / (Att.weight (Att.raw q k h t) (t.val + 1) M * Att.weight (Att.raw q k h t) (t.val + 1) M) : ℝ) : EReal) := by
    rw [Ideal.div_coe (mul_pos hW hW).ne', one_mul]
  rw [Att.le_place s.val t.val s.isLt t.isLt]
  simp only [along_entry H hd, he, hw, hs, ← EReal.coe_mul, h1, Ideal.div_coe hW.ne', coe_sum, ← EReal.coe_neg, ← EReal.coe_add]
  rw [Data.slope, data_weight (M := M), data_sum (M := M)]
  by_cases hc : s.val < t.val + 1
  · rw [if_pos hc, if_pos hc, if_pos (Nat.lt_succ_iff.1 hc)]
    refine congrArg (fun r : ℝ => (r : EReal)) ?_
    exact slope_real t _ _ _ scale (fun c => (data q k v d h).along c t) (fun c => Real.exp (scale * (Att.raw q k h t c - M))) hW.ne'
  · rw [if_neg hc, if_neg fun h => hc (Nat.lt_succ_iff.2 h), zero_mul, zero_mul]
    rfl

/-! ## The three gradients -/

/-- Heads first, lanes filled up. -/
theorem padded (x : FVec Ideal S8192x4x192 .f32) (h : Fin 4) (j : Fin 8192) (e : Fin 256) :
    transpose S4x8192x256 [1, 0, 2] (pad S8192x4x256 ![0, 0, 0] ![0, 0, 64] ![0, 0, 0] x
      (sitofp (F := Ideal) .f32 (constantI S_ 32 0#32)) pads_S8192x4x192_S8192x4x256_000_000_0640 h_S_)
      transposes_S8192x4x256_S4x8192x256_1_0_2 (ix3 h j e)
      = if he : e.val < 192 then x (ix3 j h ⟨e, he⟩) else (0 : EReal) :=
  Att.lanes_array x h j e

include H hd in
theorem dq_entry (e : Fin 256) : val_main_v67 (F := Ideal) x0 x1 x2 x3 (ix3 h t e) = dqArr (data q k v d) (ix3 h t e) := by
  refine (padded (val_main_v65 (F := Ideal) x0 x1 x2 x3) h t e).trans ?_
  change _ = ((∑ s ∈ Finset.range 8192, (data q k v d h).slope s t * filled (k s h) e : ℝ) : EReal)
  rw [Finset.sum_range]
  unfold filled
  split
  · next he =>
    pointwise [val_main_v65, val_main_v64]
    simp only [slope_entry H hd, H.k, ← EReal.coe_mul, coe_sum]
  · simp

include H hd in
theorem dk_entry (e : Fin 256) : val_main_v69 (F := Ideal) x0 x1 x2 x3 (ix3 h s e) = dkArr (data q k v d) (ix3 h s e) := by
  refine (padded (val_main_v63 (F := Ideal) x0 x1 x2 x3) h s e).trans ?_
  change _ = ((∑ t ∈ Finset.range 8192, (data q k v d h).slope s t * filled (q t h) e : ℝ) : EReal)
  rw [Finset.sum_range]
  unfold filled
  split
  · next he =>
    pointwise [val_main_v63, val_main_v62]
    simp only [slope_entry H hd, H.q, ← EReal.coe_mul, coe_sum]
  · simp

include H hd in
theorem dv_entry (e : Fin 128) : val_main_v70 (F := Ideal) x0 x1 x3 (ix3 h s e) = dvArr (data q k v d) (ix3 h s e) := by
  change _ = ((∑ t ∈ Finset.range 8192, (data q k v d h).weight s t * d t h e : ℝ) : EReal)
  rw [Finset.sum_range]
  pointwise [val_main_v70, val_main_v46, val_main_v45, val_main_v43]
  simp only [weight_entry (d := d) H, hd, ← EReal.coe_mul, coe_sum]
  exact congrArg (fun r : ℝ => (r : EReal)) (Finset.sum_congr rfl fun t _ => mul_comm _ _)

end Cert.Bwd

end
-- ==== Proof.BwdEquation.lean ====
/- The value claim of the attention backward call: from finite queries, keys, values and output gradient the kernel program
   and the reference end with the same three gradients. -/
module

public import proofs.«01_k».proof.Defs
public import proofs.«01_k».proof.Proof.AttEquation
public import proofs.«01_k».proof.Proof.BwdRef
public import proofs.«01_k».proof.Proof.Gen.Kernel3Ideal

@[expose] public section

set_option maxRecDepth 16384

noncomputable section

namespace Cert.Bwd

open Idealize.ShloMosaic Idealize.ShloMosaic.TcCoe Idealize.SL.Sem
open Cert.Ffn (real_of_all)
open Cert.Att (Lanes Vals ofNat_val ext3)

section

open Cert.Pre_finite_qkvd

/-- The side conditions of the precondition. -/
theorem qkvd_facts : Cert.Pre_finite_qkvd.Facts where
  bcast_S_S8192x4x192 := by decide
  reducesTo_S8192x4x192_S_d0_1_2 := by decide
  h_S_ := by decide
  bcast_S_S8192x4x128 := by decide
  reducesTo_S8192x4x128_S_d0_1_2 := by decide

/-- Under the precondition every argument holds real numbers. -/
theorem real_of_finite_qkvd [Facts] (x0 x1 : FVec Ideal S8192x4x192 .f32) (x2 x3 : FVec Ideal S8192x4x128 .f32)
    (h : fn (F := Ideal) x0 x1 x2 x3 = fun _ => 1#1) :
    (∀ i, x0 i = ((x0 i).toReal : EReal)) ∧ (∀ i, x1 i = ((x1 i).toReal : EReal))
    ∧ (∀ i, x2 i = ((x2 i).toReal : EReal)) ∧ (∀ i, x3 i = ((x3 i).toReal : EReal)) := by
  have e := congrFun h (Shape.Idx.first Facts.h_S_)
  obtain ⟨e, e3⟩ := IntOp.andi_eq_one.1 e
  obtain ⟨e, e2⟩ := IntOp.andi_eq_one.1 e
  obtain ⟨e0, e1⟩ := IntOp.andi_eq_one.1 e
  exact ⟨real_of_all x0 _ _ _ _ e0, real_of_all x1 _ _ _ _ e1, real_of_all x2 _ _ _ _ e2, real_of_all x3 _ _ _ _ e3⟩

end

section

open Cert.Kernel3Ideal

variable (m : (ℓ : Loc nD τ sig) → Buf (Elt Ideal) ℓ) (c : Dev nD)

/-- The real queries, keys, values and output gradient that the kernel program's argument arrays hold. -/
def queries : Lanes := fun j h e => EReal.toReal (m ((c : Thread nD τ).loc main_arg0) (ix3 (Fin.ofNat 8192 j) h e))
def keys : Lanes := fun j h e => EReal.toReal (m ((c : Thread nD τ).loc main_arg1) (ix3 (Fin.ofNat 8192 j) h e))
def values : Vals := fun j h d => EReal.toReal (m ((c : Thread nD τ).loc main_arg2) (ix3 (Fin.ofNat 8192 j) h d))
def gradient : Vals := fun j h d => EReal.toReal (m ((c : Thread nD τ).loc main_arg3) (ix3 (Fin.ofNat 8192 j) h d))

theorem args_in (h : Cert.Pre_Kernel3Ideal_finite_qkvd (hPre_finite_qkvd := qkvd_facts) m) :
    Args m c (queries m c) (keys m c) (values m c) (gradient m c) := by
  obtain ⟨h0, h1, h2, h3⟩ := @real_of_finite_qkvd qkvd_facts _ _ _ _ (h c)
  exact ⟨fun j _ _ => by rw [queries, ofNat_val]; exact h0 _, fun j _ _ => by rw [keys, ofNat_val]; exact h1 _,
    fun j _ _ => by rw [values, ofNat_val]; exact h2 _, fun j _ _ => by rw [gradient, ofNat_val]; exact h3 _⟩

/-- What the kernel program ends with. -/
theorem run_kernel (g : Dev nD → PrngReg) (h : Cert.Pre_Kernel3Ideal_finite_qkvd (hPre_finite_qkvd := qkvd_facts) m) :
    θ_run (defs (F := Ideal)) (onTc (τ := τ) (main (F := Ideal))) ⟨m, fun _ => 0, g⟩ (fun r => ∀ c : Dev nD,
      r.2.mem ((c.tc : Thread nD τ).loc main_v58_0) = dqArr (data (queries m c) (keys m c) (values m c) (gradient m c))
      ∧ r.2.mem ((c.tc : Thread nD τ).loc main_v58_1) = dkArr (data (queries m c) (keys m c) (values m c) (gradient m c))
      ∧ r.2.mem ((c.tc : Thread nD τ).loc main_v58_2) = dvArr (data (queries m c) (keys m c) (values m c) (gradient m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) := by
  refine (θ_run _ _ _).mono (fun r p c => ?_) (Cert.Kernel3Ideal.Run.run_main m g)
  have G := (args_in m c h).given
  exact ⟨((p c).1 6).trans (dq_array G), ((p c).1 7).trans (dk_array G), ((p c).1 8).trans (dv_array G),
    Cert.Kernel3Ideal.Run.kept_args m p c⟩

end

theorem algebraic : Cert.algebraic_Kernel3Ideal_Reference3Ideal_pre_finite_qkvd
    (hKernel3Ideal := Cert.Kernel3Ideal.Gen.facts) (hReference3Ideal := Cert.Reference3Ideal.Gen.facts)
    (hPre_finite_qkvd := qkvd_facts) := by
  intro m g m' g' hpre hagree
  have hin c := args_in m c hpre
  refine ⟨_, _, _, run_kernel m g hpre, ?_⟩
  refine (θ_run _ _ _).mono (fun r h c => ?_) (Cert.Reference3Ideal.Value.run m' g')
  obtain ⟨a0, a1, a2, a3⟩ := hagree c
  obtain ⟨r0, r1, r2, hargs⟩ := h c
  rw [Cert.Reference3Ideal.Read.val_main_v67_eq, a0, a1, a2, a3] at r0
  rw [Cert.Reference3Ideal.Read.val_main_v69_eq, a0, a1, a2, a3] at r1
  rw [Cert.Reference3Ideal.Read.val_main_v70_eq, a0, a1, a3] at r2
  refine ⟨r0.trans (ext3 _ _ fun h t e => ?_), r1.trans (ext3 _ _ fun h s e => ?_), r2.trans (ext3 _ _ fun h s e => ?_), hargs⟩
  · exact dq_entry (hin c).forward (hin c).d h t e
  · exact dk_entry (hin c).forward (hin c).d h s e
  · exact dv_entry (hin c).forward (hin c).d h s e

end Cert.Bwd

end
-- ==== Proof.MixSpec.lean ====
/- The mixers' output block over the extended real numbers, one token row at a time: two groups of 512 features, each
   divided by its root mean square and scaled by a gain, and one product of the two groups side by side with the output weights;
   its gradients, and the row sums of each group's gradient times its features. -/
module

public import proofs.«01_k».proof.Proof.Spec

@[expose] public section

noncomputable section

namespace Cert.Mix

open Idealize.ShloMosaic
open Cert.Ffn (eps eps_pos)

theorem bits_512th : Ideal.ofBits .f32 0x3B000000#32 = ((1 / 512 : ℝ) : EReal) := by
  simp [Ideal.ofBits, Ideal.ieee, -EReal.coe_mul]; norm_num
theorem bits_512 : Ideal.ofBits .f32 0x44000000#32 = ((512 : ℝ) : EReal) := by
  simp [Ideal.ofBits, Ideal.ieee, -EReal.coe_mul]; norm_num

/-- One group's features of a token. -/
abbrev Feat := Fin 512 → EReal

/-- Mean square of a group's features plus the small constant. -/
def power (o : Feat) : EReal := (∑ f, o f * o f) * ((1 / 512 : ℝ) : EReal) + (eps : EReal)

theorem square_nonneg (x : EReal) : 0 ≤ x * x := by
  rw [EReal.mul_nonneg_iff]
  exact (le_total 0 x).imp (fun h => ⟨h, h⟩) fun h => ⟨h, h⟩

theorem power_pos (o : Feat) : 0 < power o :=
  lt_of_lt_of_le (EReal.coe_pos.2 eps_pos) (le_add_of_nonneg_left (EReal.mul_nonneg
    (Finset.sum_nonneg fun k _ => square_nonneg _) (EReal.coe_nonneg.2 (by norm_num))))

/-- One over the root mean square. -/
def inv (o : Feat) : EReal := Ideal.rsqrt (power o)

/-- The group's features, normalised. -/
def unit (o : Feat) (f : Fin 512) : EReal := o f * inv o
/-- The normalised features, scaled by the gain. -/
def nrm (o g : Feat) (f : Fin 512) : EReal := unit o f * g f
/-- The cotangent of the normalised, scaled features, from the output's cotangent `y` and the group's weight rows. -/
def dm (w : Fin 512 → Fin 1024 → EReal) (y : Fin 1024 → EReal) (f : Fin 512) : EReal := ∑ k, y k * w f k
/-- The cotangent of the normalised features. -/
def dn (g : Feat) (w : Fin 512 → Fin 1024 → EReal) (y : Fin 1024 → EReal) (f : Fin 512) : EReal := dm w y f * g f
/-- Mean of the normalised features times their cotangent. -/
def pull (o g : Feat) (w : Fin 512 → Fin 1024 → EReal) (y : Fin 1024 → EReal) : EReal :=
  (∑ f, dn g w y f * unit o f) * ((1 / 512 : ℝ) : EReal)
/-- The cotangent of the features. -/
def dout (o g : Feat) (w : Fin 512 → Fin 1024 → EReal) (y : Fin 1024 → EReal) (f : Fin 512) : EReal :=
  inv o * (dn g w y f - unit o f * pull o g w y)
/-- The row's part of the gain's gradient. -/
def dg (o : Feat) (w : Fin 512 → Fin 1024 → EReal) (y : Fin 1024 → EReal) (f : Fin 512) : EReal := dm w y f * unit o f
/-- The features' cotangent times the features. -/
def prod (o g : Feat) (w : Fin 512 → Fin 1024 → EReal) (y : Fin 1024 → EReal) (f : Fin 512) : EReal := dout o g w y f * o f

/-- Feature `l` of the 128 in slab `h` of a group. -/
abbrev at4 (h : Fin 4) (l : Fin 128) : Fin 512 := ⟨h * 128 + l, by omega⟩
/-- Feature `l` of the 64 in head `h` of a group. -/
abbrev at8 (h : Fin 8) (l : Fin 64) : Fin 512 := ⟨h * 64 + l, by omega⟩
/-- The first group's place among the 1024 features side by side. -/
abbrev lo (f : Fin 512) : Fin 1024 := ⟨f, by omega⟩
/-- The second group's place. -/
abbrev hi (f : Fin 512) : Fin 1024 := ⟨512 + f, by omega⟩

/-- Token `p` of block `t`. -/
abbrev tok {n : ℕ} (hn : n = 16) (t : Fin n) (p : Fin 512) : Fin 8192 := ⟨t * 512 + p, by omega⟩

theorem sum_slabs (F : Fin 512 → EReal) :
    ∑ f, F f = (∑ l, F (at4 0 l)) + (∑ l, F (at4 1 l)) + (∑ l, F (at4 2 l)) + ∑ l, F (at4 3 l) := by
  rw [← Fin.sum_univ_four (fun h : Fin 4 => ∑ l, F (at4 h l))]
  exact (Fin.sum_mul_add_congr fun h l hl => rfl).symm

theorem sum_sides (F : Fin 1024 → EReal) : ∑ f, F f = (∑ f, F (lo f)) + ∑ f, F (hi f) :=
  Fin.sum_univ_add (a := 512) (b := 512) F

/-- The parameters: each group's gain and its rows of the output weights. -/
structure Par where
  ga : Feat
  gb : Feat
  wa : Fin 512 → Fin 1024 → EReal
  wb : Fin 512 → Fin 1024 → EReal

/-- The output row: the input plus both groups' products. -/
def out (P : Par) (x : Fin 1024 → EReal) (a b : Feat) (k : Fin 1024) : EReal :=
  x k + (∑ f, nrm a P.ga f * P.wa f k) + ∑ f, nrm b P.gb f * P.wb f k

/-- The two groups' normalised, scaled features side by side. -/
def mixed (P : Par) (a b : Feat) (f : Fin 1024) : EReal :=
  if h : f.val < 512 then nrm a P.ga ⟨f, h⟩ else nrm b P.gb ⟨f.val - 512, by omega⟩

theorem mixed_lo (P : Par) (a b : Feat) (f : Fin 512) : mixed P a b (lo f) = nrm a P.ga f := by
  rw [mixed, dif_pos f.isLt]
theorem mixed_hi (P : Par) (a b : Feat) (f : Fin 512) : mixed P a b (hi f) = nrm b P.gb f := by
  rw [mixed, dif_neg (by dsimp only; omega)]
  exact congrArg (nrm b P.gb) (Fin.ext (by dsimp only; omega))

end Cert.Mix

end
-- ==== Proof.MixRef.lean ====
/- What the output block's reference computes, stage by stage at an index: each stage holds the numbers of `MixSpec`. The
   features' cotangent has another form there, equal to the kernel's on all extended real numbers. -/
module

public import proofs.«01_k».proof.Proof.MixSpec
public import proofs.«01_k».proof.Proof.Gen.Reference4Ideal.Read

@[expose] public section

set_option maxRecDepth 16384

noncomputable section

namespace Cert.Mix

open Idealize.ShloMosaic Idealize.SL.Sem
open Cert.Reference4Ideal Cert.Reference4Ideal.Gen Cert.Reference4Ideal.Read
open Cert.Ffn (bits_eps bits_neg_half)

/-- The reference's arguments: input rows, the two groups' features, the parameters, the cotangent rows. -/
structure RefArgs (P : Par) (X Y : Fin 8192 → Fin 1024 → EReal) (A B : Fin 8192 → Feat) (x0 : FVec Ideal S8192x1024 .f32)
    (x1 x2 : FVec Ideal S8192x512 .f32) (x3 x4 : FVec Ideal S512 .f32) (x5 : FVec Ideal S1024x1024 .f32)
    (x6 : FVec Ideal S8192x1024 .f32) : Prop where
  x : ∀ i k, x0 (ix2 i k) = (X i k : EReal)
  a : ∀ i f, x1 (ix2 i f) = (A i f : EReal)
  b : ∀ i f, x2 (ix2 i f) = (B i f : EReal)
  ga : ∀ f, x3 (ix1 f) = (P.ga f : EReal)
  gb : ∀ f, x4 (ix1 f) = (P.gb f : EReal)
  wa : ∀ f k, x5 (ix2 (lo f) k) = (P.wa f k : EReal)
  wb : ∀ f k, x5 (ix2 (hi f) k) = (P.wb f k : EReal)
  y : ∀ i k, x6 (ix2 i k) = (Y i k : EReal)

/-- A positive real factor moves out of a sum. -/
theorem sum_mul_pos (F : Fin 512 → EReal) {r : ℝ} (hr : 0 < r) : ∑ f, F f * (r : EReal) = (∑ f, F f) * (r : EReal) :=
  (map_sum ({ toFun := (· * (r : EReal)), map_zero' := zero_mul _, map_add' :=
    EReal.right_distrib_of_nonneg_of_ne_top (EReal.coe_nonneg.2 hr.le) (EReal.coe_ne_top r) } : EReal →+ EReal) F _).symm

/-- A negative real multiple, taken twice. -/
theorem twice_neg (T : EReal) {c : ℝ} (hc : c < 0) : T * (c : EReal) + T * (c : EReal) = T * ((c + c : ℝ) : EReal) := by
  induction T with
  | bot => rw [EReal.bot_mul_coe_of_neg hc, EReal.bot_mul_coe_of_neg (add_neg hc hc)]; rfl
  | top => rw [EReal.top_mul_coe_of_neg hc, EReal.top_mul_coe_of_neg (add_neg hc hc)]; rfl
  | coe t => rw [← EReal.coe_mul, ← EReal.coe_add, ← EReal.coe_mul, mul_add]

/-- The two forms of the cotangent, for a reciprocal root `r`. -/
theorem two_forms (D S t : EReal) {r c k : ℝ} (hr : 0 < r) (hc : c < 0) (hk : c + c = -(r * (r * (r * k)))) :
    D * (r : EReal) + t * (S * (c : EReal)) + S * (c : EReal) * t
      = (r : EReal) * (D - t * (r : EReal) * (S * (r : EReal) * (k : EReal))) := by
  rw [sub_eq_add_neg, EReal.left_distrib_of_nonneg_of_ne_top (EReal.coe_nonneg.2 hr.le) (EReal.coe_ne_top r), mul_comm D,
    add_assoc, show t * (S * (c : EReal)) = t * S * (c : EReal) from (mul_assoc _ _ _).symm,
    show S * (c : EReal) * t = t * S * (c : EReal) by rw [mul_comm, mul_assoc], twice_neg _ hc, hk]
  refine congrArg _ ?_
  simp only [EReal.coe_neg, EReal.coe_mul, mul_neg]
  ac_rfl

/-- The gradient through the reciprocal root, in the reference's order of operations. -/
def slope (o g : Feat) (w : Fin 512 → Fin 1024 → EReal) (y : Fin 1024 → EReal) : EReal :=
  Ideal.div ((∑ f, o f * dn g w y f) * (((-1 / 2 : ℝ) : EReal) * Ideal.div (inv o) (power o))) ((512 : ℝ) : EReal)

/-- The features' cotangent from it. Where the power is infinite the reciprocal root is zero, and both forms are zero. -/
theorem dout_slope (o g : Feat) (w : Fin 512 → Fin 1024 → EReal) (y : Fin 1024 → EReal) (f : Fin 512) :
    dn g w y f * inv o + o f * slope o g w y + slope o g w y * o f = dout o g w y f := by
  rcases eq_or_ne (power o) ⊤ with hp | hp
  · have h0 : inv o = 0 := by rw [inv, hp]; rfl
    rw [slope, dout, h0, Ideal.div_coe (by norm_num), hp]
    simp [Ideal.div]
  · obtain ⟨q, hq⟩ : ∃ q : ℝ, power o = (q : EReal) :=
      ⟨(power o).toReal, (EReal.coe_toReal hp ((EReal.bot_lt_zero.trans (power_pos o)).ne')).symm⟩
    have q0 : 0 < q := EReal.coe_pos.1 (hq ▸ power_pos o)
    have r0 : 0 < (Real.sqrt q)⁻¹ := inv_pos.2 (Real.sqrt_pos.2 q0)
    have hi : inv o = (((Real.sqrt q)⁻¹ : ℝ) : EReal) := by
      rw [inv, hq, Ideal.rsqrt_coe, if_neg (not_lt.mpr q0.le), if_neg q0.ne']
    have hq' : 1 / q = (Real.sqrt q)⁻¹ * (Real.sqrt q)⁻¹ := by rw [← mul_inv, Real.mul_self_sqrt q0.le, one_div]
    rw [slope, dout, pull, hq, show (∑ f, dn g w y f * unit o f) = (∑ f, o f * dn g w y f) * inv o by
      rw [hi, ← sum_mul_pos _ r0]; exact Finset.sum_congr rfl fun f _ => by rw [unit, hi, mul_left_comm, mul_assoc],
      unit, hi, Ideal.div_coe q0.ne', Ideal.div_coe (by norm_num), hq', ← EReal.coe_mul, ← EReal.coe_mul, mul_assoc,
      ← EReal.coe_mul]
    exact two_forms _ _ _ r0 (by nlinarith [mul_pos r0 (mul_pos r0 r0)]) (by ring)

/-- The rows of the output weights, both groups'. -/
def rows (P : Par) (f k : Fin 1024) : EReal :=
  if h : f.val < 512 then P.wa ⟨f, h⟩ k else P.wb ⟨f - 512, by omega⟩ k

/-! ## One group's normalisation -/

section

variable {O : Fin 8192 → Feat} {G : Feat} {x : FVec Ideal S8192x512 .f32} {g : FVec Ideal S512 .f32}
    (hx : ∀ i f, x (ix2 i f) = (O i f : EReal)) (hg : ∀ f, g (ix1 f) = (G f : EReal)) (i : Fin 8192) (f : Fin 512)
include hx

theorem ref_power : val_main_v6 (F := Ideal) x (ix2 i 0) = (power (O i) : EReal) := by
  pointwise [val_main_v6, val_main_v5, val_main_v4, val_main_v3, val_main_v2, val_main_v1, val_main_v0, val_main_cst,
    val_main_cst_0, val_main_cst_1]
  simp only [hx, bits_512, bits_eps, zero_add]
  rw [Ideal.div_coe (by norm_num)]; rfl

theorem ref_inv : val_main_v7 (F := Ideal) x (ix2 i 0) = (inv (O i) : EReal) := by
  pointwise [val_main_v7]
  rw [ref_power hx]; rfl

theorem ref_unit : val_main_v12 (F := Ideal) x (ix2 i f) = (unit (O i) f : EReal) := by
  pointwise [val_main_v12, val_main_v11]
  rw [ref_inv hx, hx]; rfl

/-- The slope of the reciprocal root in the power. -/
theorem ref_root : val_main_v10 (F := Ideal) x (ix2 i 0) = ((-1 / 2 : ℝ) : EReal) * Ideal.div (inv (O i)) (power (O i)) := by
  pointwise [val_main_v10, val_main_v9, val_main_v8, val_main_cst_2]
  rw [ref_inv hx, ref_power hx, bits_neg_half]

include hg
theorem ref_nrm : val_main_v15 (F := Ideal) x g (ix2 i f) = (nrm (O i) G f : EReal) := by
  pointwise [val_main_v15, val_main_v14, val_main_v13]
  rw [ref_unit hx, hg]; rfl

end

section

variable {P : Par} {X Y : Fin 8192 → Fin 1024 → EReal} {A B : Fin 8192 → Feat} {x0 : FVec Ideal S8192x1024 .f32}
    {x1 x2 : FVec Ideal S8192x512 .f32} {x3 x4 : FVec Ideal S512 .f32} {x5 : FVec Ideal S1024x1024 .f32}
    {x6 : FVec Ideal S8192x1024 .f32} (H : RefArgs P X Y A B x0 x1 x2 x3 x4 x5 x6)
    (i : Fin 8192) (k : Fin 1024) (f : Fin 512)
include H

/-! ## The forward pass and the output weights' gradient -/

theorem ref_side : val_main_v32 (F := Ideal) x1 x2 x3 x4 (ix2 i k) = (mixed P (A i) (B i) k : EReal) := by
  unfold val_main_v32
  rw [mixed]
  split
  · next hk =>
    exact (concatenate_pair_apply_left (t := S8192x1024) (s₁ := S8192x512) 1 _ _ _ (ix2 i k) rfl (ix2 i (⟨k, hk⟩ : Fin 512))
      (fun a => match a with | ⟨0, _⟩ => rfl | ⟨1, _⟩ => rfl)).trans (ref_nrm H.a H.ga i _)
  · next hk =>
    exact (concatenate_pair_apply_right (t := S8192x1024) (s₁ := S8192x512) (s₂ := S8192x512) 1 _ _ _ (ix2 i k) rfl rfl
      (ix2 i (⟨k - 512, by omega⟩ : Fin 512)) (fun a => match a with | ⟨0, _⟩ => fun _ => rfl | ⟨1, _⟩ => fun h => absurd rfl h)
      (Nat.sub_add_cancel (not_lt.1 hk))).trans (ref_nrm H.b H.gb i _)

theorem ref_rows (f k : Fin 1024) : x5 (ix2 f k) = (rows P f k : EReal) := by
  rw [rows]
  split
  · next h => exact H.wa ⟨f, h⟩ k
  · next h => rw [← H.wb]; exact congrArg (fun f => x5 (ix2 f k)) (Fin.ext (by dsimp only; omega))

theorem ref_out : val_main_v34 (F := Ideal) x0 x1 x2 x3 x4 x5 (ix2 i k) = (out P (X i) (A i) (B i) k : EReal) := by
  pointwise [val_main_v34, val_main_v33]
  simp only [ref_side H, ref_rows H, H.x]
  rw [sum_sides, out, add_assoc]
  refine congrArg _ (congrArg₂ _ ?_ ?_) <;> refine Finset.sum_congr rfl fun f _ => ?_
  · rw [mixed_lo, rows, dif_pos f.isLt]
  · rw [mixed_hi, rows, dif_neg (by dsimp only; omega)]
    exact congrArg (fun h => nrm (B i) P.gb f * P.wb h k) (Fin.ext (Nat.add_sub_cancel_left 512 f.1))

theorem ref_y : val_main_v35 (F := Ideal) x6 (ix2 i k) = (Y i k : EReal) := by
  pointwise [val_main_v35]
  exact H.y i k

theorem ref_dwo (f : Fin 1024) : val_main_v37 (F := Ideal) x1 x2 x3 x4 x6 (ix2 f k)
    = (∑ i, mixed P (A i) (B i) f * Y i k : EReal) := by
  pointwise [val_main_v37, val_main_v36]
  simp only [ref_y H, ref_side H, mul_comm]

/-! ## The gradients of the first group -/

theorem ref_dma : val_main_v39 (F := Ideal) x5 x6 (ix2 i f) = (dm P.wa (Y i) f : EReal) := by
  pointwise [val_main_v39, val_main_v38]
  simp only [ref_y H, H.wa]; rfl

theorem ref_dga (g : Fin 4) (l : Fin 128) : val_main_v97 (F := Ideal) x1 x5 x6 (ix3 g (0 : Fin 1) l)
    = (∑ i, dg (A i) P.wa (Y i) (at4 g l) : EReal) := by
  pointwise [val_main_v97, val_main_v66, val_main_v63, val_main_v62, val_main_v61, val_main_cst_13, val_main_cst_12]
  simp only [ref_unit H.a, ref_dma H, zero_add]
  simp only [Finset.univ_unique, Finset.sum_singleton, mul_comm _ (dm _ _ _)]
  rfl

theorem ref_dna : val_main_v65 (F := Ideal) x3 x5 x6 (ix2 i f) = (dn P.ga P.wa (Y i) f : EReal) := by
  pointwise [val_main_v65, val_main_v64, val_main_v13]
  rw [ref_dma H, H.ga]; rfl

theorem ref_slopea : val_main_v75 (F := Ideal) x1 x3 x5 x6 (ix1 i) = (slope (A i) P.ga P.wa (Y i) : EReal) := by
  pointwise [val_main_v75, val_main_v74, val_main_v73, val_main_v72, val_main_v69, val_main_v68, val_main_v67,
    val_main_cst_14, val_main_cst_15, val_main_cst_16]
  simp only [H.a, ref_dna H, bits_512, zero_add]
  rw [Fin.sum_univ_one, ref_root H.a]; rfl

theorem ref_doa : val_main_v80 (F := Ideal) x1 x3 x5 x6 (ix2 i f) = (dout (A i) P.ga P.wa (Y i) f : EReal) := by
  pointwise [val_main_v80, val_main_v79, val_main_v78, val_main_v77, val_main_v76, val_main_v71, val_main_v70]
  simp only [H.a, ref_dna H, ref_inv H.a, ref_slopea H]
  exact dout_slope _ _ _ _ f

theorem ref_doa_slabs (g : Fin 4) (l : Fin 128) : val_main_v94 (F := Ideal) x1 x3 x5 x6 (ix3 g i l)
    = (dout (A i) P.ga P.wa (Y i) (at4 g l) : EReal) := by
  pointwise [val_main_v94, val_main_v93, val_main_v92]
  exact ref_doa H i _

theorem ref_dsa (g : Fin 4) (t : Fin 16) (p : Fin 512) : val_main_v85 (F := Ideal) x1 x3 x5 x6 (ix4 g t (0 : Fin 1) p)
    = (∑ l, prod (A (tok rfl t p)) P.ga P.wa (Y (tok rfl t p)) (at4 g l) : EReal) := by
  pointwise [val_main_v85, val_main_v84, val_main_v83, val_main_v82, val_main_v81, val_main_cst_17]
  simp only [ref_doa H, H.a, zero_add]
  rfl

/-! ## The gradients of the second group -/

theorem ref_dmb : val_main_v40 (F := Ideal) x5 x6 (ix2 i f) = (dm P.wb (Y i) f : EReal) := by
  pointwise [val_main_v40, val_main_v38]
  simp only [ref_y H, H.wb]; rfl

theorem ref_dgb (g : Fin 4) (l : Fin 128) : val_main_v98 (F := Ideal) x2 x5 x6 (ix3 g (0 : Fin 1) l)
    = (∑ i, dg (B i) P.wb (Y i) (at4 g l) : EReal) := by
  have hu (i f) : val_main_v28 (F := Ideal) x2 (ix2 i f) = (unit (B i) f : EReal) := ref_unit H.b i f
  pointwise [val_main_v98, val_main_v46, val_main_v43, val_main_v42, val_main_v41, val_main_cst_8, val_main_cst_7]
  simp only [hu, ref_dmb H, zero_add]
  simp only [Finset.univ_unique, Finset.sum_singleton, mul_comm _ (dm _ _ _)]
  rfl

theorem ref_dnb : val_main_v45 (F := Ideal) x4 x5 x6 (ix2 i f) = (dn P.gb P.wb (Y i) f : EReal) := by
  pointwise [val_main_v45, val_main_v44, val_main_v29]
  rw [ref_dmb H, H.gb]; rfl

theorem ref_slopeb : val_main_v55 (F := Ideal) x2 x4 x5 x6 (ix1 i) = (slope (B i) P.gb P.wb (Y i) : EReal) := by
  have hr : val_main_v26 (F := Ideal) x2 (ix2 i 0) = _ := ref_root H.b i
  pointwise [val_main_v55, val_main_v54, val_main_v53, val_main_v52, val_main_v49, val_main_v48, val_main_v47,
    val_main_cst_9, val_main_cst_10, val_main_cst_11]
  simp only [H.b, ref_dnb H, bits_512, zero_add]
  rw [Fin.sum_univ_one, hr]; rfl

theorem ref_dob : val_main_v60 (F := Ideal) x2 x4 x5 x6 (ix2 i f) = (dout (B i) P.gb P.wb (Y i) f : EReal) := by
  have hi : val_main_v23 (F := Ideal) x2 (ix2 i 0) = _ := ref_inv H.b i
  pointwise [val_main_v60, val_main_v59, val_main_v58, val_main_v57, val_main_v56, val_main_v51, val_main_v50]
  simp only [H.b, ref_dnb H, hi, ref_slopeb H]
  exact dout_slope _ _ _ _ f

theorem ref_dob_slabs (g : Fin 4) (l : Fin 128) : val_main_v96 (F := Ideal) x2 x4 x5 x6 (ix3 g i l)
    = (dout (B i) P.gb P.wb (Y i) (at4 g l) : EReal) := by
  pointwise [val_main_v96, val_main_v95]
  exact ref_dob H i _

theorem ref_dsb (j : Fin 8) (l : Fin 128) : val_main_v91 (F := Ideal) x2 x4 x5 x6 (ix3 j i l)
    = (∑ l, prod (B i) P.gb P.wb (Y i) (at8 j l) : EReal) := by
  pointwise [val_main_v91, val_main_v90, val_main_v89, val_main_v88, val_main_v87, val_main_v86, val_main_cst_18]
  simp only [ref_dob H, H.b, zero_add]
  rfl

end

end Cert.Mix

end
-- ==== Proof.MixRun.lean ====
/- The kernel program's run, concluding what every result array and every argument array holds and that every
   semaphore counter is zero: the launch of the generated frame, its last state read at the results too. -/
module

public import proofs.«01_k».proof.Proof.Gen.Kernel4Ideal.Frame

@[expose] public section

set_option maxRecDepth 16384

noncomputable section

namespace Cert.Mix

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.Kernel4Ideal Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every execution terminates with every buffer of the TensorCore's program at the last boundary's contents `W5`. -/
theorem run_buffers : θ_run defs (onTc (τ := τ) (main (F := F))) ⟨m, fun _ => 0, ρ⟩ (fun r =>
      ∀ c : Dev nD, ∀ b : Ref sig .tc, ¬ (Proc.tc.devRef (τ := τ) b).isScoped = true →
        r.2.mem ((c.tc : Thread nD τ).loc b) = W5 m ρ c (Proc.devRef .tc b)) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by
        rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b))
          = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h hz => fun c b hb => h c _ (mem_uc b hb))

end Cert.Mix

end
-- ==== Proof.MixRow.lean ====
/- The two kernels' stores at one row of a block: each holds the numbers of `MixSpec`. The four
   slabs of a group are treated alike, so each statement names one slab `h`. -/
module

public import proofs.«01_k».proof.Proof.MixSpec
public import proofs.«01_k».proof.Proof.Gen.Kernel4Ideal.Skeleton
public import Idealize.ShloMosaic.Lib.Pipeline.ValueKit

@[expose] public section

set_option maxRecDepth 16384

noncomputable section

namespace Cert.Mix

open Idealize.ShloMosaic Idealize.SL.Sem
open Cert.Kernel4Ideal Cert.Kernel4Ideal.Gen
open Cert.Ffn (bits_zero bits_eps)

variable (o g : Feat) (w : Fin 512 → Fin 1024 → EReal) (y : Fin 1024 → EReal) (p : Fin 512) (h : Fin 4)

theorem rsqrt_slabs : Ideal.rsqrt (((∑ l, o (at4 0 l) * o (at4 0 l)) + (∑ l, o (at4 1 l) * o (at4 1 l))
    + (∑ l, o (at4 2 l) * o (at4 2 l)) + ∑ l, o (at4 3 l) * o (at4 3 l)) * ((1 / 512 : ℝ) : EReal) + (Cert.Ffn.eps : EReal))
    = (inv o : EReal) := by
  rw [inv, power, sum_slabs]

/-- The group's reciprocal root mean square, from its four slabs. -/
theorem inv_row (v0 v1 v2 v3 : Vec Ideal S1x512x128 .f32)
    (h0 : ∀ l, v0 (ix3 (0 : Fin 1) p l) = (o (at4 0 l) : EReal)) (h1 : ∀ l, v1 (ix3 (0 : Fin 1) p l) = (o (at4 1 l) : EReal))
    (h2 : ∀ l, v2 (ix3 (0 : Fin 1) p l) = (o (at4 2 l) : EReal)) (h3 : ∀ l, v3 (ix3 (0 : Fin 1) p l) = (o (at4 3 l) : EReal)) :
    k1_pay48 v0 v1 v2 v3 (ix2 p (0 : Fin 1)) = (inv o : EReal) := by
  pointwise [k1_pay48]
  simp only [h0, h1, h2, h3, bits_512th, bits_eps, bits_zero, zero_add, rsqrt_slabs]

section Slab

variable (r : FVec Ideal S512x1 .f32) (v : Vec Ideal S1x512x128 .f32) (gv : Vec Ideal S1x1x128 .f32)
  (wv : Vec Ideal S1x128x1024 .bf16) (yv : FVec Ideal S512x1024 .bf16)
  (hr : r (ix2 p (0 : Fin 1)) = (inv o : EReal)) (hv : ∀ l, v (ix3 (0 : Fin 1) p l) = (o (at4 h l) : EReal))
  (hg : ∀ l, gv (ix3 (0 : Fin 1) (0 : Fin 1) l) = (g (at4 h l) : EReal))
  (hw : ∀ l k, wv (ix3 (0 : Fin 1) l k) = (w (at4 h l) k : EReal)) (hy : ∀ k, yv (ix2 p k) = (y k : EReal))
  (l : Fin 128)

include hr hv in
theorem unit_row : k1_pay19 r v (ix2 p l) = (unit o (at4 h l) : EReal) := by
  pointwise [k1_pay19]
  simp only [hr, hv]
  rfl

include hr hv hg in
theorem nrm_row : k1_pay20 r v gv (ix2 p l) = (nrm o g (at4 h l) : EReal) := by
  pointwise [k1_pay20]
  simp only [unit_row o p h r v hr hv, hg]
  rfl

include hw hy in
theorem dm_row : k1_pay21 yv wv (ix2 p l) = (dm w y (at4 h l) : EReal) := by
  pointwise [k1_pay21]
  simp only [hw, hy]
  rfl

include hw hy hg in
theorem dn_row : k1_pay23 yv wv gv (ix2 p l) = (dn g w y (at4 h l) : EReal) := by
  pointwise [k1_pay23]
  simp only [dm_row w y p h wv yv hw hy, hg]
  rfl

variable (xh dv : FVec Ideal S512x128 .f32) (cv : FVec Ideal S512x1 .f32)
  (hx : ∀ l, xh (ix2 p l) = (unit o (at4 h l) : EReal)) (hd : ∀ l, dv (ix2 p l) = (dn g w y (at4 h l) : EReal))
  (hc : cv (ix2 p (0 : Fin 1)) = (pull o g w y : EReal))

include hr hx hd hc in
theorem dout_row : k1_pay34 r xh dv cv (ix2 p l) = (dout o g w y (at4 h l) : EReal) := by
  pointwise [k1_pay34]
  simp only [hr, hx, hd, hc]
  rfl

include hr hx hd hc hv in
theorem prod_row : k1_pay36 r xh dv cv v (ix2 p l) = (prod o g w y (at4 h l) : EReal) := by
  pointwise [k1_pay36]
  simp only [dout_row o g w y p h r hr _ xh dv cv hx hd hc, hv]
  rfl

end Slab

/-- The mean of the normalised features times their cotangent, from the four slabs. -/
theorem pull_row (x0 x1 x2 x3 d0 d1 d2 m3 : FVec Ideal S512x128 .f32) (g3 : Vec Ideal S1x1x128 .f32)
    (hx0 : ∀ l, x0 (ix2 p l) = (unit o (at4 0 l) : EReal)) (hx1 : ∀ l, x1 (ix2 p l) = (unit o (at4 1 l) : EReal))
    (hx2 : ∀ l, x2 (ix2 p l) = (unit o (at4 2 l) : EReal)) (hx3 : ∀ l, x3 (ix2 p l) = (unit o (at4 3 l) : EReal))
    (hd0 : ∀ l, d0 (ix2 p l) = (dn g w y (at4 0 l) : EReal)) (hd1 : ∀ l, d1 (ix2 p l) = (dn g w y (at4 1 l) : EReal))
    (hd2 : ∀ l, d2 (ix2 p l) = (dn g w y (at4 2 l) : EReal)) (hm3 : ∀ l, m3 (ix2 p l) = (dm w y (at4 3 l) : EReal))
    (hg3 : ∀ l, g3 (ix3 (0 : Fin 1) (0 : Fin 1) l) = (g (at4 3 l) : EReal)) :
    k1_pay29 x0 d0 x1 d1 x2 d2 x3 m3 g3 (ix2 p (0 : Fin 1)) = (pull o g w y : EReal) := by
  pointwise [k1_pay29, k1_pay28]
  simp only [hx0, hx1, hx2, hx3, hd0, hd1, hd2, hm3, hg3, bits_512th, bits_zero, zero_add]
  rw [pull, sum_slabs]
  rfl

/-- A block's part of the gain's gradient, added to what was there. -/
theorem dg_rows (O : Fin 512 → Feat) (Y : Fin 512 → Fin 1024 → EReal) (yv : FVec Ideal S512x1024 .bf16)
    (xh : FVec Ideal S512x128 .f32) (wv : Vec Ideal S1x128x1024 .bf16) (acc : Vec Ideal S1x1x128 .f32)
    (hx : ∀ p l, xh (ix2 p l) = (unit (O p) (at4 h l) : EReal)) (hw : ∀ l k, wv (ix3 (0 : Fin 1) l k) = (w (at4 h l) k : EReal))
    (hy : ∀ p k, yv (ix2 p k) = (Y p k : EReal)) (l : Fin 128) :
    k1_pay22 yv xh wv acc (ix3 (0 : Fin 1) (0 : Fin 1) l)
      = acc (ix3 (0 : Fin 1) (0 : Fin 1) l) + (∑ p, dg (O p) w (Y p) (at4 h l) : EReal) := by
  pointwise [k1_pay22]
  simp only [hx, fun p => dm_row w (Y p) p h wv yv hw (hy p)]
  rfl

/-- The row sums of a slab, laid along the lanes. -/
theorem rowsum_lanes (u : FVec Ideal S512x128 .f32) (F : Fin 128 → EReal) (hu : ∀ l, u (ix2 p l) = (F l : EReal)) :
    k1_pay42 u (ix4 (0 : Fin 1) (0 : Fin 1) (0 : Fin 1) p) = (∑ l, F l : EReal) := by
  pointwise [k1_pay42]
  simp only [hu]

theorem lane_low : ∀ l : Fin 64, IntOp.cmpi .slt (BitVec.ofNat 32 (Fin.castAdd 64 l).val) 64#32 = 1#1 := by decide +kernel
theorem lane_high : ∀ l : Fin 64, IntOp.cmpi .slt (BitVec.ofNat 32 (Fin.natAdd 64 l).val) 64#32 = 0#1 := by decide +kernel

/-- The row sums of a slab's first 64 lanes, in every lane. -/
theorem rowsum_low (u : FVec Ideal S512x128 .f32) (F : Fin 128 → EReal) (hu : ∀ l, u (ix2 p l) = (F l : EReal)) (l : Fin 128) :
    k1_pay89 (k1_pay47) u (ix3 (0 : Fin 1) p l) = (∑ l : Fin 64, F (Fin.castAdd 64 l) : EReal) := by
  pointwise [k1_pay89, k1_pay47]
  refine (Fin.sum_univ_add (a := 64) (b := 64) _).trans ?_
  simp only [hu, lane_low, lane_high, Scalar.select]
  simp

/-- The row sums of a slab's last 64 lanes, in every lane. -/
theorem rowsum_high (u : FVec Ideal S512x128 .f32) (F : Fin 128 → EReal) (hu : ∀ l, u (ix2 p l) = (F l : EReal)) (l : Fin 128) :
    k1_pay88 (k1_pay47) u (ix3 (0 : Fin 1) p l) = (∑ l : Fin 64, F (Fin.natAdd 64 l) : EReal) := by
  pointwise [k1_pay88, k1_pay47]
  refine (Fin.sum_univ_add (a := 64) (b := 64) _).trans ?_
  simp only [hu, lane_low, lane_high, Scalar.select]
  simp

end Cert.Mix

end
-- ==== Proof.MixFwd.lean ====
/- What the forward kernel leaves in its array: 16 blocks of 512 rows, each row the numbers of `MixSpec`. -/
module

public import proofs.«01_k».proof.Proof.MixRow
public import proofs.«01_k».proof.Proof.Gen.Kernel4Ideal.Frame.Region0

@[expose] public section

set_option maxRecDepth 16384

noncomputable section

namespace Cert.Mix

open Idealize.ShloMosaic Idealize.ShloMosaic.TcCoe Idealize.SL.Sem
open Idealize.ShloMosaic.Pipeline (Dat)
open Cert.Kernel4Ideal Cert.Kernel4Ideal.Gen
open Cert.Ffn (bits_zero bits_eps)

/-- A load of one slab of an array of slabs, at an index. -/
theorem ld_slab {H R C : ℕ} {e : EltTy} (x : Vec Ideal ⟨3, ![H, R, C]⟩ e) (n : Fin H)
    (inb : ∀ a, (![(n : ℕ), 0, 0] : Fin 3 → ℕ) a + (![1, R, C] : Fin 3 → ℕ) a ≤ (![H, R, C] : Fin 3 → ℕ) a)
    (p : Fin R) (l : Fin C) :
    View.ld x (Rect.unit (s := ⟨3, ![H, R, C]⟩) ![(n : ℕ), 0, 0] ![1, R, C] inb) (ix3 (0 : Fin 1) p l) = x (ix3 n p l) := by
  rw [View.ld_apply]; blk_ext [Rect.idx_unit_val]

section Block

variable (P : Par) (x : Fin 1024 → EReal) (a b : Feat) (p : Fin 512)
variable (x0 : Vec Ideal S512x1024 .f32) (x1 x2 : Vec Ideal S4x512x128 .f32) (x3 x4 : Vec Ideal S4x1x128 .f32)
  (x5 x6 : Vec Ideal S4x128x1024 .bf16)

/-- The blocks: row `p` of the first array is `x`, of the two groups `a` and `b`, the others the parameters. -/
structure Blocks : Prop where
  x : ∀ k, x0 (ix2 p k) = (x k : EReal)
  a : ∀ h l, x1 (ix3 h p l) = (a (at4 h l) : EReal)
  b : ∀ h l, x2 (ix3 h p l) = (b (at4 h l) : EReal)
  ga : ∀ h l, x3 (ix3 h (0 : Fin 1) l) = (P.ga (at4 h l) : EReal)
  gb : ∀ h l, x4 (ix3 h (0 : Fin 1) l) = (P.gb (at4 h l) : EReal)
  wa : ∀ h l k, x5 (ix3 h l k) = (P.wa (at4 h l) k : EReal)
  wb : ∀ h l k, x6 (ix3 h l k) = (P.wb (at4 h l) k : EReal)

theorem at_row {p : Fin 512} {k : Fin 1024} {i : S512x1024.Idx} (h0 : (p : ℕ) = i 0) (h1 : (k : ℕ) = i 1) :
    i = ix2 p k := funext fun a => Fin.ext (match a with | ⟨0, _⟩ => h0.symm | ⟨1, _⟩ => h1.symm)

variable {P x a b p x0 x1 x2 x3 x4 x5 x6} (h : Blocks P x a b p x0 x1 x2 x3 x4 x5 x6)
include h

theorem y_block (k : Fin 1024) : out0_7 x0 x1 x2 x3 x4 x5 x6 (ix2 p k) = (out P x a b k : EReal) := by
  canon_tiles i hi
  obtain rfl := at_row hi0 hi1
  have hA : k0_pay2 (View.ld x1 r0_1) (View.ld x1 r0_2) (View.ld x1 r0_3) (View.ld x1 r0_4) (ix2 p (0 : Fin 1))
      = (inv a : EReal) :=
    inv_row a p _ _ _ _ (fun l => (ld_slab x1 0 _ p l).trans (h.a 0 l)) (fun l => (ld_slab x1 1 _ p l).trans (h.a 1 l))
      (fun l => (ld_slab x1 2 _ p l).trans (h.a 2 l)) (fun l => (ld_slab x1 3 _ p l).trans (h.a 3 l))
  have hB : k0_pay9 (k0_pay12 x0 x1 x2 x3 x4 x5 x6) (View.ld x2 r0_4) (ix2 p (0 : Fin 1)) = (inv b : EReal) :=
    inv_row b p _ _ _ _ (fun l => (ld_slab x2 0 _ p l).trans (h.b 0 l)) (fun l => (ld_slab x2 1 _ p l).trans (h.b 1 l))
      (fun l => (ld_slab x2 2 _ p l).trans (h.b 2 l)) (fun l => (ld_slab x2 3 _ p l).trans (h.b 3 l))
  have hA' : k0_pay11 x0 x1 x2 x3 x4 x5 x6 (ix2 p (0 : Fin 1)) = (inv a : EReal) := hA
  pointwise [k0_pay1, k0_pay10, k0_pay7, k0_pay4, k0_pay3, k0_pay5, k0_pay6]
  simp only [hA, hA', hB, h.x, h.a, h.b, h.ga, h.gb, h.wa, h.wb]
  rw [out, sum_slabs, sum_slabs]
  unfold nrm unit
  simp only [add_assoc]

end Block

/-- The block each window of the forward kernel holds at a point. -/
theorem fwd_idx : ∀ t : Fin cfg0.N, win0_0.index t = ![t.val, 0] ∧ win0_1.index t = ![0, t.val, 0]
    ∧ win0_2.index t = ![0, t.val, 0] ∧ win0_3.index t = ![0, 0, 0] ∧ win0_4.index t = ![0, 0, 0]
    ∧ win0_5.index t = ![0, 0, 0] ∧ win0_6.index t = ![0, 0, 0] ∧ win0_7.index t = ![t.val, 0] :=
  (by decide +kernel : ∀ t : Fin grid0.N, _)

variable (P : Par) (X : Fin 8192 → Fin 1024 → EReal) (A B : Fin 8192 → Feat)
variable (V : (c : Dev nD) → (b : Ref sig .tc) → Buf (Elt Ideal) ((c : Thread nD τ).loc b)) (c : Dev nD)

/-- The arrays the parameters are read from. -/
structure ParIn : Prop where
  ga : ∀ h l, (V c main_v1 (ix3 h (0 : Fin 1) l) : EReal) = (P.ga (at4 h l) : EReal)
  gb : ∀ h l, (V c main_v2 (ix3 h (0 : Fin 1) l) : EReal) = (P.gb (at4 h l) : EReal)
  wa : ∀ h l (k : Fin 1024), (V c main_v4 (ix3 h l k) : EReal) = (P.wa (at4 h l) k : EReal)
  wb : ∀ h l (k : Fin 1024), (V c main_v6 (ix3 h l k) : EReal) = (P.wb (at4 h l) k : EReal)

/-- The arrays the forward kernel is given hold the inputs. -/
structure FwdIn : Prop extends ParIn P V c where
  x : ∀ (i : Fin 8192) (k : Fin 1024), (V c main_arg0 (ix2 i k) : EReal) = (X i k : EReal)
  a : ∀ h (i : Fin 8192) l, (V c main_v8 (ix3 h i l) : EReal) = (A i (at4 h l) : EReal)
  b : ∀ h (i : Fin 8192) l, (V c main_v10 (ix3 h i l) : EReal) = (B i (at4 h l) : EReal)

variable {P X A B V c} (h : FwdIn P X A B V c)
include h

/-- The blocks the body reads at point `t` hold the tokens from `512 t` on, and the parameters. -/
theorem fwd_blocks (t : Fin cfg0.N) (p : Fin 512) : Blocks P (X (tok N_0 t p)) (A (tok N_0 t p)) (B (tok N_0 t p)) p
    (iblk0 V c 0 t) (iblk0 V c 1 t) (iblk0 V c 2 t) (iblk0 V c 3 t) (iblk0 V c 4 t) (iblk0 V c 5 t) (iblk0 V c 6 t) where
  x k := (show _ = V c main_arg0 (ix2 (tok N_0 t p) k) by blk_ext [iblk0, fwd_idx t]).trans (h.x _ k)
  a g l := (show _ = V c main_v8 (ix3 g (tok N_0 t p) l) by blk_ext [iblk0, fwd_idx t]).trans (h.a g _ l)
  b g l := (show _ = V c main_v10 (ix3 g (tok N_0 t p) l) by blk_ext [iblk0, fwd_idx t]).trans (h.b g _ l)
  ga g l := (show _ = V c main_v1 (ix3 g (0 : Fin 1) l) by blk_ext [iblk0, fwd_idx t]).trans (h.ga g l)
  gb g l := (show _ = V c main_v2 (ix3 g (0 : Fin 1) l) by blk_ext [iblk0, fwd_idx t]).trans (h.gb g l)
  wa g l k := (show _ = V c main_v4 (ix3 g l k) by blk_ext [iblk0, fwd_idx t]).trans (h.wa g l k)
  wb g l k := (show _ = V c main_v6 (ix3 g l k) by blk_ext [iblk0, fwd_idx t]).trans (h.wb g l k)

theorem y_array (i : Fin 8192) (k : Fin 1024) :
    ((dat0 V c).arrAt 7 cfg0.N (ix2 i k) : EReal) = (out P (X i) (A i) (B i) k : EReal) := by
  refine congrFun ((dat0 V c).arrAt_eq_of_covers 7 (fun j => (out P (X (j 0)) (A (j 0)) (B (j 0)) (j 1) : EReal))
    (by decide +kernel) fun t _ y => ?_) (ix2 i k)
  blk_simp
  rw [after0_7]
  obtain ⟨p, k, rfl⟩ : ∃ (p : Fin 512) (k : Fin 1024), y = ix2 p k :=
    ⟨y 0, y 1, funext fun a => match a with | ⟨0, _⟩ => rfl | ⟨1, _⟩ => rfl⟩
  rw [show (win0_7.blk t).view.emb (ix2 p k) = ix2 (tok N_0 t p) k by blk_ext [fwd_idx t]]
  exact y_block (fwd_blocks h t p) k

end Cert.Mix

end
-- ==== Proof.MixBwd.lean ====
/- What the backward kernel leaves in its eight arrays: six of them a block of 512 tokens per point, the two gains'
   gradients each one resident block every point adds its rows to. -/
module

public import Idealize.ShloMosaic.Lib.Pipeline.RowLoads
public import proofs.«01_k».proof.Proof.MixFwd
public import proofs.«01_k».proof.Proof.Gen.Kernel4Ideal.Frame.Region1

@[expose] public section

set_option maxRecDepth 16384

noncomputable section

namespace Cert.Mix

open Idealize.ShloMosaic Idealize.ShloMosaic.TcCoe Idealize.SL.Sem
open Idealize.ShloMosaic.Pipeline (Dat)
open Cert.Kernel4Ideal Cert.Kernel4Ideal.Gen

/-- The two heads of 64 in a slab. -/
abbrev head (h : Fin 4) (s : Fin 2) : Fin 8 := ⟨2 * h + s, by omega⟩

/-! ## One group at one point -/

section Group

variable (o g : Feat) (w : Fin 512 → Fin 1024 → EReal) (y : Fin 1024 → EReal) (p : Fin 512)
variable (v : Fin 4 → Vec Ideal S1x512x128 .f32) (gv : Fin 4 → Vec Ideal S1x1x128 .f32)
  (wv : Fin 4 → Vec Ideal S1x128x1024 .bf16) (yv : FVec Ideal S512x1024 .bf16)

/-- The slabs of a group: row `p` of its features and of the cotangent, its gain and its weight rows. -/
structure Group : Prop where
  v : ∀ h l, v h (ix3 (0 : Fin 1) p l) = (o (at4 h l) : EReal)
  g : ∀ h l, gv h (ix3 (0 : Fin 1) (0 : Fin 1) l) = (g (at4 h l) : EReal)
  w : ∀ h l k, wv h (ix3 (0 : Fin 1) l k) = (w (at4 h l) k : EReal)
  y : ∀ k, yv (ix2 p k) = (y k : EReal)

/-- The reciprocal root mean squares, as the body computes them. -/
abbrev rV : FVec Ideal S512x1 .f32 := k1_pay48 (v 0) (v 1) (v 2) (v 3)
/-- A slab's normalised features. -/
abbrev xV (h : Fin 4) : FVec Ideal S512x128 .f32 := k1_pay19 (rV v) (v h)
/-- The cotangent of a slab's normalised features. -/
abbrev dV (h : Fin 4) : FVec Ideal S512x128 .f32 := k1_pay23 yv (wv h) (gv h)
/-- The means of the normalised features times their cotangent. -/
abbrev cV : FVec Ideal S512x1 .f32 :=
  k1_pay29 (xV v 0) (dV gv wv yv 0) (xV v 1) (dV gv wv yv 1) (xV v 2) (dV gv wv yv 2) (xV v 3) (k1_pay21 yv (wv 3)) (gv 3)

variable {o g w y p v gv wv yv} (G : Group o g w y p v gv wv yv)
include G

theorem Group.inv : rV v (ix2 p (0 : Fin 1)) = (Mix.inv o : EReal) :=
  inv_row o p _ _ _ _ (G.v 0) (G.v 1) (G.v 2) (G.v 3)
theorem Group.unit (h : Fin 4) (l : Fin 128) : xV v h (ix2 p l) = (Mix.unit o (at4 h l) : EReal) :=
  unit_row o p h _ _ G.inv (G.v h) l
theorem Group.nrm (h : Fin 4) (l : Fin 128) : k1_pay20 (rV v) (v h) (gv h) (ix2 p l) = (Mix.nrm o g (at4 h l) : EReal) :=
  nrm_row o g p h _ _ _ G.inv (G.v h) (G.g h) l
theorem Group.dn (h : Fin 4) (l : Fin 128) : dV gv wv yv h (ix2 p l) = (Mix.dn g w y (at4 h l) : EReal) :=
  dn_row g w y p h _ _ _ (G.g h) (G.w h) G.y l
theorem Group.pull : cV v gv wv yv (ix2 p (0 : Fin 1)) = (Mix.pull o g w y : EReal) :=
  pull_row o g w y p _ _ _ _ _ _ _ _ _ (G.unit 0) (G.unit 1) (G.unit 2) (G.unit 3) (G.dn 0) (G.dn 1) (G.dn 2)
    (fun l => dm_row w y p 3 _ _ (G.w 3) G.y l) (G.g 3)
theorem Group.dout (h : Fin 4) (l : Fin 128) :
    k1_pay34 (rV v) (xV v h) (dV gv wv yv h) (cV v gv wv yv) (ix2 p l) = (Mix.dout o g w y (at4 h l) : EReal) :=
  dout_row o g w y p h _ G.inv l _ _ _ (G.unit h) (G.dn h) G.pull
theorem Group.prod (h : Fin 4) (l : Fin 128) :
    k1_pay36 (rV v) (xV v h) (dV gv wv yv h) (cV v gv wv yv) (v h) (ix2 p l) = (Mix.prod o g w y (at4 h l) : EReal) :=
  prod_row o g w y p h _ _ G.inv (G.v h) l _ _ _ (G.unit h) (G.dn h) G.pull
theorem Group.doutA (h : Fin 4) (l : Fin 128) : k1_pay41 (rV v) (xV v h) (dV gv wv yv h) (cV v gv wv yv)
    (ix3 (0 : Fin 1) p l) = (Mix.dout o g w y (at4 h l) : EReal) := by
  pointwise [k1_pay41]
  exact G.dout h l
theorem Group.doutB (h : Fin 4) (l : Fin 128) : k1_pay84 (rV v) (xV v h) (dV gv wv yv h) (cV v gv wv yv)
    (ix3 (0 : Fin 1) p l) = (Mix.dout o g w y (at4 h l) : EReal) := by
  pointwise [k1_pay84]
  exact G.dout h l
theorem Group.sumA (h : Fin 4) : k1_pay42 (k1_pay36 (rV v) (xV v h) (dV gv wv yv h) (cV v gv wv yv) (v h))
    (ix4 (0 : Fin 1) (0 : Fin 1) (0 : Fin 1) p) = (∑ l, Mix.prod o g w y (at4 h l) : EReal) :=
  rowsum_lanes p _ _ (G.prod h)
theorem Group.sumLow (h : Fin 4) (l : Fin 128) :
    k1_pay89 (k1_pay47) (k1_pay36 (rV v) (xV v h) (dV gv wv yv h) (cV v gv wv yv) (v h)) (ix3 (0 : Fin 1) p l)
      = (∑ l, Mix.prod o g w y (at8 (head h 0) l) : EReal) :=
  (rowsum_low p _ _ (G.prod h) l).trans (Finset.sum_congr rfl fun l _ => congrArg _
    (Fin.ext (by simp only [Fin.coe_castAdd, Fin.val_zero]; omega)))
theorem Group.sumHigh (h : Fin 4) (l : Fin 128) :
    k1_pay88 (k1_pay47) (k1_pay36 (rV v) (xV v h) (dV gv wv yv h) (cV v gv wv yv) (v h)) (ix3 (0 : Fin 1) p l)
      = (∑ l, Mix.prod o g w y (at8 (head h 1) l) : EReal) :=
  (rowsum_high p _ _ (G.prod h) l).trans (Finset.sum_congr rfl fun l _ => congrArg _
    (Fin.ext (by simp only [Fin.coe_natAdd, Fin.val_one]; omega)))

end Group

/-! ## The arrays -/

/-- The block each window of the backward kernel holds at a point. -/
theorem bwd_idx : ∀ t : Fin cfg1.N, win1_0.index t = ![t.val, 0] ∧ win1_1.index t = ![0, t.val, 0]
    ∧ win1_2.index t = ![0, t.val, 0] ∧ win1_3.index t = ![0, 0, 0] ∧ win1_4.index t = ![0, 0, 0]
    ∧ win1_5.index t = ![0, 0, 0] ∧ win1_6.index t = ![0, 0, 0] ∧ win1_7.index t = ![0, t.val, 0]
    ∧ win1_8.index t = ![0, t.val, 0, 0] ∧ win1_9.index t = ![0, t.val, 0] ∧ win1_10.index t = ![0, t.val, 0]
    ∧ win1_11.index t = ![t.val, 0] ∧ win1_12.index t = ![t.val, 0] ∧ win1_13.index t = ![0, 0, 0]
    ∧ win1_14.index t = ![0, 0, 0] :=
  (by decide +kernel : ∀ t : Fin grid1.N, _)

/-- A slab of an array of four. -/
abbrev slab {R C : ℕ} {e : EltTy} (x : Vec Ideal ⟨3, ![4, R, C]⟩ e) (h : Fin 4) : Vec Ideal ⟨3, ![1, R, C]⟩ e :=
  View.ld x (Rect.unit (s := ⟨3, ![4, R, C]⟩) ![(h : ℕ), 0, 0] ![1, R, C]
    (fun a => match a with | ⟨0, _⟩ => h.isLt | ⟨1, _⟩ => (Nat.zero_add R).le | ⟨2, _⟩ => (Nat.zero_add C).le))

theorem at_slab {H R C : ℕ} (n : Fin H) {h : Fin H} {p : Fin R} {l : Fin C} {i : Shape.Idx ⟨3, ![1, R, C]⟩}
    (h0 : (h : ℕ) = n + i 0) (h1 : (p : ℕ) = i 1) (h2 : (l : ℕ) = i 2) : h = n ∧ i = ix3 (0 : Fin 1) p l := by
  have z : i 0 = (0 : Fin 1) := Fin.ext (Nat.lt_one_iff.mp (i 0).isLt)
  exact ⟨Fin.ext (by rw [h0, z]; rfl),
    funext fun a => match a with | ⟨0, _⟩ => z | ⟨1, _⟩ => Fin.ext h1.symm | ⟨2, _⟩ => Fin.ext h2.symm⟩

theorem at_lanes (n : Fin 4) {h : Fin 4} {p : Fin 512} {i : S1x1x1x512.Idx} (h0 : (h : ℕ) = n + i 0)
    (h3 : (p : ℕ) = i 3) : h = n ∧ i = ix4 (0 : Fin 1) (0 : Fin 1) (0 : Fin 1) p := by
  have z : i 0 = (0 : Fin 1) := Fin.ext (Nat.lt_one_iff.mp (i 0).isLt)
  exact ⟨Fin.ext (by rw [h0, z]; rfl), funext fun a => match a with
    | ⟨0, _⟩ => z | ⟨1, _⟩ => Fin.ext (Nat.lt_one_iff.mp (i 1).isLt) | ⟨2, _⟩ => Fin.ext (Nat.lt_one_iff.mp (i 2).isLt)
    | ⟨3, _⟩ => Fin.ext h3.symm⟩

theorem at_cols (n : Fin 8) {p : Fin 512} {f : Fin 1024} {i : S512x128.Idx} (h0 : (p : ℕ) = i 0)
    (h1 : (f : ℕ) = 128 * n + i 1) : ∃ l : Fin 128, (f : ℕ) = 128 * n + l ∧ i = ix2 p l :=
  ⟨i 1, h1, funext fun a => match a with | ⟨0, _⟩ => Fin.ext h0.symm | ⟨1, _⟩ => rfl⟩

theorem mixed_atA (P : Par) (a b : Feat) (g : Fin 4) (n : Fin 8) {f : Fin 1024} {l : Fin 128}
    (e : (f : ℕ) = 128 * n + l) (hn : (n : ℕ) = g) : (mixed P a b f : EReal) = (nrm a P.ga (at4 g l) : EReal) := by
  rw [show f = lo (at4 g l) from Fin.ext (by rw [e, hn]; exact congrArg (· + _) (Nat.mul_comm _ _)), mixed_lo]

theorem mixed_atB (P : Par) (a b : Feat) (g : Fin 4) (n : Fin 8) {f : Fin 1024} {l : Fin 128}
    (e : (f : ℕ) = 128 * n + l) (hn : (n : ℕ) = 4 + g) : (mixed P a b f : EReal) = (nrm b P.gb (at4 g l) : EReal) := by
  rw [show f = hi (at4 g l) from Fin.ext (by rw [e, hn]; dsimp only; omega), mixed_hi]

theorem ex_gain (j : S4x1x128.Idx) : ∃ (g : Fin 4) (l : Fin 128), j = ix3 g (0 : Fin 1) l :=
  ⟨j 0, j 2, funext fun a => match a with
    | ⟨0, _⟩ => rfl | ⟨1, _⟩ => Fin.ext (Nat.lt_one_iff.mp (j 1).isLt) | ⟨2, _⟩ => rfl⟩

/-- Reading one slab of the resident gradient past a store into another. -/
theorem acc_skip (w : View sig .tc .vmem S4x1x128 .f32) (m n : Fin 4) (hmn : (m : ℕ) + 1 ≤ n ∨ (n : ℕ) + 1 ≤ m)
    {im : ∀ a, (![(m : ℕ), 0, 0] : Fin 3 → ℕ) a + (![1, 1, 128] : Fin 3 → ℕ) a ≤ S4x1x128.size a}
    {jn : ∀ a, (![(n : ℕ), 0, 0] : Fin 3 → ℕ) a + (![1, 1, 128] : Fin 3 → ℕ) a ≤ S4x1x128.size a}
    (u : S1x1x128.Idx → Elt Ideal .f32) (L : List (View.Piece (Elt Ideal) S4x1x128 .f32)) :
    w.readCov ((⟨Rect.unit (s := S4x1x128) ![(m : ℕ), 0, 0] ![1, 1, 128] im, u⟩ : View.Piece (Elt Ideal) S4x1x128 .f32) :: L)
      (Rect.unit (s := S4x1x128) ![(n : ℕ), 0, 0] ![1, 1, 128] jn).toLoadRect
      = w.readCov L (Rect.unit (s := S4x1x128) ![(n : ℕ), 0, 0] ![1, 1, 128] jn).toLoadRect :=
  View.readCov_cons_of_disjoint w _ L _ (Rect.unit_disjoint (inb := im) (inb' := jn) 0 hmn)

/-- Reading one slab of the resident gradient right after the zero block was stored. -/
theorem acc_zero (w : View sig .tc .vmem S4x1x128 .f32) (n : Fin 4) (z : Vec Ideal S4x1x128 .f32) (hz : ∀ j, z j = 0)
    (j : S1x1x128.Idx) {inb : ∀ a, (![0, 0, 0] : Fin 3 → ℕ) a + (![4, 1, 128] : Fin 3 → ℕ) a ≤ S4x1x128.size a}
    {jn : ∀ a, (![(n : ℕ), 0, 0] : Fin 3 → ℕ) a + (![1, 1, 128] : Fin 3 → ℕ) a ≤ S4x1x128.size a} :
    w.readCov [(⟨Rect.unit (s := S4x1x128) ![0, 0, 0] ![4, 1, 128] inb, z⟩ : View.Piece (Elt Ideal) S4x1x128 .f32)]
      (Rect.unit (s := S4x1x128) ![(n : ℕ), 0, 0] ![1, 1, 128] jn).toLoadRect j = 0 := by
  rw [View.readCov_eq_canon']
  exact (congrFun (View.canon_unit_zero (S := S4x1x128) (off := ![0, 0, 0]) (by decide) inb z) _).trans (hz _)

/-- One point's part of a gain's gradient. -/
def dgPart (O : Fin 8192 → Feat) (w : Fin 512 → Fin 1024 → EReal) (Y : Fin 8192 → Fin 1024 → EReal) {n : ℕ} (hn : n = 16)
    (t : Fin n) (j : S4x1x128.Idx) : EReal :=
  ∑ p, dg (O (tok hn t p)) w (Y (tok hn t p)) (at4 (j 0) (j 2))

/-- A store of slab `n` of the resident gradient. -/
abbrev slabPiece (n : Fin 4) (i : ∀ a, (![(n : ℕ), 0, 0] : Fin 3 → ℕ) a + (![1, 1, 128] : Fin 3 → ℕ) a ≤ S4x1x128.size a)
    (u : Vec Ideal S1x1x128 .f32) : View.Piece (Elt Ideal) S4x1x128 .f32 :=
  ⟨Rect.unit (s := S4x1x128) ![(n : ℕ), 0, 0] ![1, 1, 128] i, u⟩

/-- After stores of all four slabs, an index holds what its own slab's store put there. -/
theorem canon_four {i0 i1 i2 i3} (u3 u2 u1 u0 : Vec Ideal S1x1x128 .f32) (L : List (View.Piece (Elt Ideal) S4x1x128 .f32))
    (g : Fin 4) (l : Fin 128) (v : EReal) (h3 : g = 3 → u3 (ix3 (0 : Fin 1) (0 : Fin 1) l) = v)
    (h2 : g = 2 → u2 (ix3 (0 : Fin 1) (0 : Fin 1) l) = v) (h1 : g = 1 → u1 (ix3 (0 : Fin 1) (0 : Fin 1) l) = v)
    (h0 : g = 0 → u0 (ix3 (0 : Fin 1) (0 : Fin 1) l) = v) :
    View.canon (slabPiece 3 i3 u3 :: slabPiece 2 i2 u2 :: slabPiece 1 i1 u1 :: slabPiece 0 i0 u0 :: L)
      (ix3 g (0 : Fin 1) l) = v := by
  have at_ (n : Fin 4) (i u L) : View.canon (slabPiece n i u :: L) (ix3 n (0 : Fin 1) l) = u (ix3 (0 : Fin 1) (0 : Fin 1) l) :=
    View.canon_storedRow1 n l i u L
  have off (n g : Fin 4) (e : (n : ℕ) ≠ g) (i u L) : View.canon (slabPiece n i u :: L) (ix3 g (0 : Fin 1) l)
      = View.canon L (ix3 g (0 : Fin 1) l) := View.canon_storedRow1_of_ne g n e l i u L
  fin_cases g
  · exact (off 3 0 (by decide) _ _ _).trans ((off 2 0 (by decide) _ _ _).trans ((off 1 0 (by decide) _ _ _).trans
      ((at_ 0 _ _ _).trans (h0 rfl))))
  · exact (off 3 1 (by decide) _ _ _).trans ((off 2 1 (by decide) _ _ _).trans ((at_ 1 _ _ _).trans (h1 rfl)))
  · exact (off 3 2 (by decide) _ _ _).trans ((at_ 2 _ _ _).trans (h2 rfl))
  · exact (at_ 3 _ _ _).trans (h3 rfl)

/-- When the four stores each add a slab of `d` to what was read back, every index holds that plus its entry of `d`. -/
theorem four_added {f : Fin 4 → Vec Ideal S1x1x128 .f32 → Vec Ideal S1x1x128 .f32} {d : S4x1x128.Idx → EReal}
    (hf : ∀ g acc l, f g acc (ix3 (0 : Fin 1) (0 : Fin 1) l) = acc (ix3 (0 : Fin 1) (0 : Fin 1) l) + d (ix3 g (0 : Fin 1) l))
    {i0 i1 i2 i3} (a3 a2 a1 a0 : Vec Ideal S1x1x128 .f32) (L : List (View.Piece (Elt Ideal) S4x1x128 .f32))
    (v : S4x1x128.Idx → EReal) (h3 : ∀ l, a3 (ix3 (0 : Fin 1) (0 : Fin 1) l) = v (ix3 (3 : Fin 4) (0 : Fin 1) l))
    (h2 : ∀ l, a2 (ix3 (0 : Fin 1) (0 : Fin 1) l) = v (ix3 (2 : Fin 4) (0 : Fin 1) l))
    (h1 : ∀ l, a1 (ix3 (0 : Fin 1) (0 : Fin 1) l) = v (ix3 (1 : Fin 4) (0 : Fin 1) l))
    (h0 : ∀ l, a0 (ix3 (0 : Fin 1) (0 : Fin 1) l) = v (ix3 (0 : Fin 4) (0 : Fin 1) l)) (j : S4x1x128.Idx) :
    View.canon (slabPiece 3 i3 (f 3 a3) :: slabPiece 2 i2 (f 2 a2) :: slabPiece 1 i1 (f 1 a1) :: slabPiece 0 i0 (f 0 a0) :: L) j
      = v j + d j := by
  obtain ⟨g, l, rfl⟩ := ex_gain j
  refine canon_four _ _ _ _ _ g l _ ?_ ?_ ?_ ?_ <;> rintro rfl
  · rw [hf, h3]
  · rw [hf, h2]
  · rw [hf, h1]
  · rw [hf, h0]

variable (P : Par) (Y : Fin 8192 → Fin 1024 → EReal) (A B : Fin 8192 → Feat)
variable (V : (c : Dev nD) → (b : Ref sig .tc) → Buf (Elt Ideal) ((c : Thread nD τ).loc b)) (c : Dev nD)

/-- The arrays the backward kernel is given hold the inputs. -/
structure BwdIn : Prop extends ParIn P V c where
  y : ∀ (i : Fin 8192) (k : Fin 1024), (V c main_arg6 (ix2 i k) : EReal) = (Y i k : EReal)
  a : ∀ h (i : Fin 8192) l, (V c main_v13 (ix3 h i l) : EReal) = (A i (at4 h l) : EReal)
  b : ∀ h (i : Fin 8192) l, (V c main_v15 (ix3 h i l) : EReal) = (B i (at4 h l) : EReal)

variable {P Y A B V c} (h : BwdIn P Y A B V c)
include h

theorem dy_at (t : Fin cfg1.N) (p : Fin 512) (k : Fin 1024) :
    k1_pay4 (iblk1 V c 0 t) (ix2 p k) = (Y (tok N_1 t p) k : EReal) := by
  pointwise [k1_pay4]
  exact (show _ = V c main_arg6 (ix2 (tok N_1 t p) k) by blk_ext [iblk1, bwd_idx t]).trans (h.y _ k)

theorem groupA (t : Fin cfg1.N) (p : Fin 512) : Group (A (tok N_1 t p)) P.ga P.wa (Y (tok N_1 t p)) p
    (slab (iblk1 V c 1 t)) (slab (iblk1 V c 3 t)) (slab (iblk1 V c 5 t)) (k1_pay4 (iblk1 V c 0 t)) where
  v g l := (ld_slab _ g _ p l).trans
    ((show _ = V c main_v13 (ix3 g (tok N_1 t p) l) by blk_ext [iblk1, bwd_idx t]).trans (h.a g _ l))
  g g l := (ld_slab _ g _ 0 l).trans
    ((show _ = V c main_v1 (ix3 g (0 : Fin 1) l) by blk_ext [iblk1, bwd_idx t]).trans (h.ga g l))
  w g l k := (ld_slab _ g _ l k).trans
    ((show _ = V c main_v4 (ix3 g l k) by blk_ext [iblk1, bwd_idx t]).trans (h.wa g l k))
  y := dy_at h t p

theorem groupB (t : Fin cfg1.N) (p : Fin 512) : Group (B (tok N_1 t p)) P.gb P.wb (Y (tok N_1 t p)) p
    (slab (iblk1 V c 2 t)) (slab (iblk1 V c 4 t)) (slab (iblk1 V c 6 t)) (k1_pay4 (iblk1 V c 0 t)) where
  v g l := (ld_slab _ g _ p l).trans
    ((show _ = V c main_v15 (ix3 g (tok N_1 t p) l) by blk_ext [iblk1, bwd_idx t]).trans (h.b g _ l))
  g g l := (ld_slab _ g _ 0 l).trans
    ((show _ = V c main_v2 (ix3 g (0 : Fin 1) l) by blk_ext [iblk1, bwd_idx t]).trans (h.gb g l))
  w g l k := (ld_slab _ g _ l k).trans
    ((show _ = V c main_v6 (ix3 g l k) by blk_ext [iblk1, bwd_idx t]).trans (h.wb g l k))
  y := dy_at h t p

theorem doa_at (t : Fin cfg1.N) (g : Fin 4) (p : Fin 512) (l : Fin 128) : (outsAt1 V c t.val t.isLt).1 (ix3 g p l)
    = (dout (A (tok N_1 t p)) P.ga P.wa (Y (tok N_1 t p)) (at4 g l) : EReal) := by
  have G := groupA h t p
  refine (congrFun (?_ : (outsAt1 V c t.val t.isLt).1 = ?tiles) _).trans ?_
  rotate_left
  · by_cases h0 : t.val % 16 = 0
    · rw [outsAt1_A V c t h0]; frame_out; rfl
    · rw [outsAt1_B V c t h0]; frame_out
  canon_tiles i hi
  · obtain ⟨rfl, rfl⟩ : g = 3 ∧ _ := at_slab 3 hi0 hi1 hi2; exact G.doutA 3 l
  · obtain ⟨rfl, rfl⟩ : g = 2 ∧ _ := at_slab 2 hi0 hi1 hi2; exact G.doutA 2 l
  · obtain ⟨rfl, rfl⟩ : g = 1 ∧ _ := at_slab 1 hi0 hi1 hi2; exact G.doutA 1 l
  · obtain ⟨rfl, rfl⟩ : g = 0 ∧ _ := at_slab 0 (hi0.trans (Nat.zero_add _).symm) hi1 hi2; exact G.doutA 0 l

theorem dob_at (t : Fin cfg1.N) (g : Fin 4) (p : Fin 512) (l : Fin 128) : (outsAt1 V c t.val t.isLt).2.2.1 (ix3 g p l)
    = (dout (B (tok N_1 t p)) P.gb P.wb (Y (tok N_1 t p)) (at4 g l) : EReal) := by
  have G := groupB h t p
  refine (congrFun (?_ : (outsAt1 V c t.val t.isLt).2.2.1 = ?tiles) _).trans ?_
  rotate_left
  · by_cases h0 : t.val % 16 = 0
    · rw [outsAt1_A V c t h0]; frame_out; rfl
    · rw [outsAt1_B V c t h0]; frame_out
  canon_tiles i hi
  · obtain ⟨rfl, rfl⟩ : g = 3 ∧ _ := at_slab 3 hi0 hi1 hi2; exact G.doutB 3 l
  · obtain ⟨rfl, rfl⟩ : g = 2 ∧ _ := at_slab 2 hi0 hi1 hi2; exact G.doutB 2 l
  · obtain ⟨rfl, rfl⟩ : g = 1 ∧ _ := at_slab 1 hi0 hi1 hi2; exact G.doutB 1 l
  · obtain ⟨rfl, rfl⟩ : g = 0 ∧ _ := at_slab 0 (hi0.trans (Nat.zero_add _).symm) hi1 hi2; exact G.doutB 0 l

theorem dsa_at (t : Fin cfg1.N) (g : Fin 4) (p : Fin 512) : (outsAt1 V c t.val t.isLt).2.1 (ix4 g (0 : Fin 1) (0 : Fin 1) p)
    = (∑ l, prod (A (tok N_1 t p)) P.ga P.wa (Y (tok N_1 t p)) (at4 g l) : EReal) := by
  have G := groupA h t p
  refine (congrFun (?_ : (outsAt1 V c t.val t.isLt).2.1 = ?tiles) _).trans ?_
  rotate_left
  · by_cases h0 : t.val % 16 = 0
    · rw [outsAt1_A V c t h0]; frame_out; rfl
    · rw [outsAt1_B V c t h0]; frame_out
  canon_tiles i hi
  · obtain ⟨rfl, rfl⟩ : g = 3 ∧ _ := at_lanes 3 hi0 hi3; exact G.sumA 3
  · obtain ⟨rfl, rfl⟩ : g = 2 ∧ _ := at_lanes 2 hi0 hi3; exact G.sumA 2
  · obtain ⟨rfl, rfl⟩ : g = 1 ∧ _ := at_lanes 1 hi0 hi3; exact G.sumA 1
  · obtain ⟨rfl, rfl⟩ : g = 0 ∧ _ := at_lanes 0 (hi0.trans (Nat.zero_add _).symm) hi3; exact G.sumA 0

theorem dsb_at (t : Fin cfg1.N) (j : Fin 8) (p : Fin 512) (l : Fin 128) : (outsAt1 V c t.val t.isLt).2.2.2.1 (ix3 j p l)
    = (∑ l, prod (B (tok N_1 t p)) P.gb P.wb (Y (tok N_1 t p)) (at8 j l) : EReal) := by
  have G := groupB h t p
  refine (congrFun (?_ : (outsAt1 V c t.val t.isLt).2.2.2.1 = ?tiles) _).trans ?_
  rotate_left
  · by_cases h0 : t.val % 16 = 0
    · rw [outsAt1_A V c t h0]; frame_out; rfl
    · rw [outsAt1_B V c t h0]; frame_out
  canon_tiles i hi
  · obtain ⟨rfl, rfl⟩ : j = 7 ∧ _ := at_slab 7 hi0 hi1 hi2; exact G.sumHigh 3 l
  · obtain ⟨rfl, rfl⟩ : j = 6 ∧ _ := at_slab 6 hi0 hi1 hi2; exact G.sumLow 3 l
  · obtain ⟨rfl, rfl⟩ : j = 5 ∧ _ := at_slab 5 hi0 hi1 hi2; exact G.sumHigh 2 l
  · obtain ⟨rfl, rfl⟩ : j = 4 ∧ _ := at_slab 4 hi0 hi1 hi2; exact G.sumLow 2 l
  · obtain ⟨rfl, rfl⟩ : j = 3 ∧ _ := at_slab 3 hi0 hi1 hi2; exact G.sumHigh 1 l
  · obtain ⟨rfl, rfl⟩ : j = 2 ∧ _ := at_slab 2 hi0 hi1 hi2; exact G.sumLow 1 l
  · obtain ⟨rfl, rfl⟩ : j = 1 ∧ _ := at_slab 1 hi0 hi1 hi2; exact G.sumHigh 0 l
  · obtain ⟨rfl, rfl⟩ : j = 0 ∧ _ := at_slab 0 (hi0.trans (Nat.zero_add _).symm) hi1 hi2; exact G.sumLow 0 l

theorem n_at (t : Fin cfg1.N) (p : Fin 512) (f : Fin 1024) : (outsAt1 V c t.val t.isLt).2.2.2.2.1 (ix2 p f)
    = (mixed P (A (tok N_1 t p)) (B (tok N_1 t p)) f : EReal) := by
  have G := groupA h t p
  have GB := groupB h t p
  refine (congrFun (?_ : (outsAt1 V c t.val t.isLt).2.2.2.2.1 = ?tiles) _).trans ?_
  rotate_left
  · by_cases h0 : t.val % 16 = 0
    · rw [outsAt1_A V c t h0]; frame_out; rfl
    · rw [outsAt1_B V c t h0]; frame_out
  canon_tiles i hi
  · obtain ⟨l, e, rfl⟩ := at_cols 7 hi0 hi1; exact (GB.nrm 3 l).trans (mixed_atB P _ _ 3 7 e rfl).symm
  · obtain ⟨l, e, rfl⟩ := at_cols 6 hi0 hi1; exact (GB.nrm 2 l).trans (mixed_atB P _ _ 2 6 e rfl).symm
  · obtain ⟨l, e, rfl⟩ := at_cols 5 hi0 hi1; exact (GB.nrm 1 l).trans (mixed_atB P _ _ 1 5 e rfl).symm
  · obtain ⟨l, e, rfl⟩ := at_cols 4 hi0 hi1; exact (GB.nrm 0 l).trans (mixed_atB P _ _ 0 4 e rfl).symm
  · obtain ⟨l, e, rfl⟩ := at_cols 3 hi0 hi1; exact (G.nrm 3 l).trans (mixed_atA P _ _ 3 3 e rfl).symm
  · obtain ⟨l, e, rfl⟩ := at_cols 2 hi0 hi1; exact (G.nrm 2 l).trans (mixed_atA P _ _ 2 2 e rfl).symm
  · obtain ⟨l, e, rfl⟩ := at_cols 1 hi0 hi1; exact (G.nrm 1 l).trans (mixed_atA P _ _ 1 1 e rfl).symm
  · obtain ⟨l, e, rfl⟩ := at_cols 0 hi0 (hi1.trans (Nat.zero_add _).symm); exact (G.nrm 0 l).trans (mixed_atA P _ _ 0 0 e rfl).symm

theorem yb_at (t : Fin cfg1.N) (p : Fin 512) (k : Fin 1024) : (outsAt1 V c t.val t.isLt).2.2.2.2.2.1 (ix2 p k)
    = (Y (tok N_1 t p) k : EReal) := by
  by_cases h0 : t.val % 16 = 0
  · rw [outsAt1_A V c t h0]; frame_out; exact dy_at h t p k
  · rw [outsAt1_B V c t h0]; frame_out; exact dy_at h t p k

/-- A store into the resident gradient of group a: what was there plus the point's part. -/
theorem dga_store (t : Fin cfg1.N) (g : Fin 4) (acc : Vec Ideal S1x1x128 .f32) (l : Fin 128) :
    k1_pay22 (k1_pay4 (iblk1 V c 0 t)) (xV (slab (iblk1 V c 1 t)) g) (slab (iblk1 V c 5 t) g) acc (ix3 (0 : Fin 1) (0 : Fin 1) l)
      = acc (ix3 (0 : Fin 1) (0 : Fin 1) l) + (dgPart A P.wa Y N_1 t (ix3 g (0 : Fin 1) l) : EReal) :=
  dg_rows P.wa g (fun p => A (tok N_1 t p)) (fun p => Y (tok N_1 t p)) _ _ _ acc (fun p l => (groupA h t p).unit g l)
    ((groupA h t 0).w g) (fun p k => dy_at h t p k) l

theorem dga_first (t : Fin cfg1.N) (h0 : t.val % 16 = 0) (j : S4x1x128.Idx) :
    (outsAt1 V c t.val t.isLt).2.2.2.2.2.2.1 j = 0 + (dgPart A P.wa Y N_1 t j : EReal) := by
  have z (j) : k1_pay2 (F := Ideal) j = 0 := by pointwise [k1_pay2]
  rw [outsAt1_A V c t h0]; frame_out
  exact four_added (f := fun g => k1_pay22 (k1_pay4 (iblk1 V c 0 t)) (xV (slab (iblk1 V c 1 t)) g) (slab (iblk1 V c 5 t) g))
    (d := fun j => (dgPart A P.wa Y N_1 t j : EReal)) (dga_store h t) _ _ _ _ _ (fun _ => 0)
    (fun _ => (congrFun (acc_skip _ 2 3 (by decide) _ _) _).trans ((congrFun (acc_skip _ 1 3 (by decide) _ _) _).trans
      ((congrFun (acc_skip _ 0 3 (by decide) _ _) _).trans (acc_zero _ 3 _ z _))))
    (fun _ => (congrFun (acc_skip _ 1 2 (by decide) _ _) _).trans
      ((congrFun (acc_skip _ 0 2 (by decide) _ _) _).trans (acc_zero _ 2 _ z _)))
    (fun _ => (congrFun (acc_skip _ 0 1 (by decide) _ _) _).trans (acc_zero _ 1 _ z _))
    (fun _ => acc_zero _ 0 _ z _) j

theorem dga_next (t : Fin cfg1.N) (h0 : ¬ t.val % 16 = 0) (j : S4x1x128.Idx) :
    (outsAt1 V c t.val t.isLt).2.2.2.2.2.2.1 j
      = (outsAt1 V c (t.val - 1) (Nat.lt_of_le_of_lt (Nat.sub_le _ _) t.isLt)).2.2.2.2.2.2.1 j
        + (dgPart A P.wa Y N_1 t j : EReal) := by
  rw [outsAt1_B V c t h0]; frame_out
  exact four_added (f := fun g => k1_pay22 (k1_pay4 (iblk1 V c 0 t)) (xV (slab (iblk1 V c 1 t)) g) (slab (iblk1 V c 5 t) g))
    (d := fun j => (dgPart A P.wa Y N_1 t j : EReal)) (dga_store h t) _ _ _ _ _ _ (ld_slab _ 3 _ 0) (ld_slab _ 2 _ 0) (ld_slab _ 1 _ 0) (ld_slab _ 0 _ 0) j

/-- A store into the resident gradient of group b: what was there plus the point's part. -/
theorem dgb_store (t : Fin cfg1.N) (g : Fin 4) (acc : Vec Ideal S1x1x128 .f32) (l : Fin 128) :
    k1_pay22 (k1_pay4 (iblk1 V c 0 t)) (xV (slab (iblk1 V c 2 t)) g) (slab (iblk1 V c 6 t) g) acc (ix3 (0 : Fin 1) (0 : Fin 1) l)
      = acc (ix3 (0 : Fin 1) (0 : Fin 1) l) + (dgPart B P.wb Y N_1 t (ix3 g (0 : Fin 1) l) : EReal) :=
  dg_rows P.wb g (fun p => B (tok N_1 t p)) (fun p => Y (tok N_1 t p)) _ _ _ acc (fun p l => (groupB h t p).unit g l)
    ((groupB h t 0).w g) (fun p k => dy_at h t p k) l

theorem dgb_first (t : Fin cfg1.N) (h0 : t.val % 16 = 0) (j : S4x1x128.Idx) :
    (outsAt1 V c t.val t.isLt).2.2.2.2.2.2.2 j = 0 + (dgPart B P.wb Y N_1 t j : EReal) := by
  have z (j) : k1_pay3 (F := Ideal) j = 0 := by pointwise [k1_pay3]
  rw [outsAt1_A V c t h0]; frame_out
  exact four_added (f := fun g => k1_pay22 (k1_pay4 (iblk1 V c 0 t)) (xV (slab (iblk1 V c 2 t)) g) (slab (iblk1 V c 6 t) g))
    (d := fun j => (dgPart B P.wb Y N_1 t j : EReal)) (dgb_store h t) _ _ _ _ _ (fun _ => 0)
    (fun _ => (congrFun (acc_skip _ 2 3 (by decide) _ _) _).trans ((congrFun (acc_skip _ 1 3 (by decide) _ _) _).trans
      ((congrFun (acc_skip _ 0 3 (by decide) _ _) _).trans (acc_zero _ 3 _ z _))))
    (fun _ => (congrFun (acc_skip _ 1 2 (by decide) _ _) _).trans
      ((congrFun (acc_skip _ 0 2 (by decide) _ _) _).trans (acc_zero _ 2 _ z _)))
    (fun _ => (congrFun (acc_skip _ 0 1 (by decide) _ _) _).trans (acc_zero _ 1 _ z _))
    (fun _ => acc_zero _ 0 _ z _) j

theorem dgb_next (t : Fin cfg1.N) (h0 : ¬ t.val % 16 = 0) (j : S4x1x128.Idx) :
    (outsAt1 V c t.val t.isLt).2.2.2.2.2.2.2 j
      = (outsAt1 V c (t.val - 1) (Nat.lt_of_le_of_lt (Nat.sub_le _ _) t.isLt)).2.2.2.2.2.2.2 j
        + (dgPart B P.wb Y N_1 t j : EReal) := by
  rw [outsAt1_B V c t h0]; frame_out
  exact four_added (f := fun g => k1_pay22 (k1_pay4 (iblk1 V c 0 t)) (xV (slab (iblk1 V c 2 t)) g) (slab (iblk1 V c 6 t) g))
    (d := fun j => (dgPart B P.wb Y N_1 t j : EReal)) (dgb_store h t) _ _ _ _ _ _ (ld_slab _ 3 _ 0) (ld_slab _ 2 _ 0) (ld_slab _ 1 _ 0) (ld_slab _ 0 _ 0) j

omit h in
/-- The points' parts of a gain's gradient sum to the gradient. -/
theorem dg_total (O : Fin 8192 → Feat) (w : Fin 512 → Fin 1024 → EReal) (T : ℕ) (hT : T < 16) (j : S4x1x128.Idx)
    (hlt : ∀ s : Fin 16, 16 * (T / 16) + s.val < cfg1.N) :
    (∑ s : Fin 16, (dgPart O w Y N_1 ⟨16 * (T / 16) + s.val, hlt s⟩ j : EReal))
      = (∑ i, dg (O i) w (Y i) (at4 (j 0) (j 2)) : EReal) := by
  refine (Fin.sum_mul_add_congr fun s p hl => ?_)
  rw [show tok N_1 ⟨16 * (T / 16) + s.val, hlt s⟩ p = ⟨s.val * 512 + p.val, hl⟩ from Fin.ext (by dsimp only; omega)]

theorem dga_array (g : Fin 4) (l : Fin 128) : ((dat1 V c).arrAt 13 cfg1.N (ix3 g (0 : Fin 1) l) : EReal)
    = (∑ i, dg (A i) P.wa (Y i) (at4 g l) : EReal) := by
  refine congrFun ((dat1 V c).arrAt_eq_of_covers 13 (fun j => (∑ i, dg (A i) P.wa (Y i) (at4 (j 0) (j 2)) : EReal))
    (by decide +kernel) fun t hf y => ?_) (ix3 g (0 : Fin 1) l)
  blk_simp
  rw [after1_13, Pipeline.eq_sum_fin_of_reset_step_apply_of_flush (fun n h => (outsAt1 V c n h).2.2.2.2.2.2.1) 16
    (fun _ => 0) (fun t j => (dgPart A P.wa Y N_1 t j : EReal)) (dga_first h) (dga_next h) t ((flush1_13 t).mp hf) _, zero_add]
  have he : ((win1_13.blk t).view.emb y : S4x1x128.Idx) = y := by blk_ext [bwd_idx t]
  show (_ : EReal) = _
  rw [he]
  exact dg_total (Y := Y) A P.wa t.val (lt_of_lt_of_eq t.isLt N_1) y _

theorem dgb_array (g : Fin 4) (l : Fin 128) : ((dat1 V c).arrAt 14 cfg1.N (ix3 g (0 : Fin 1) l) : EReal)
    = (∑ i, dg (B i) P.wb (Y i) (at4 g l) : EReal) := by
  refine congrFun ((dat1 V c).arrAt_eq_of_covers 14 (fun j => (∑ i, dg (B i) P.wb (Y i) (at4 (j 0) (j 2)) : EReal))
    (by decide +kernel) fun t hf y => ?_) (ix3 g (0 : Fin 1) l)
  blk_simp
  rw [after1_14, Pipeline.eq_sum_fin_of_reset_step_apply_of_flush (fun n h => (outsAt1 V c n h).2.2.2.2.2.2.2) 16
    (fun _ => 0) (fun t j => (dgPart B P.wb Y N_1 t j : EReal)) (dgb_first h) (dgb_next h) t ((flush1_14 t).mp hf) _, zero_add]
  have he : ((win1_14.blk t).view.emb y : S4x1x128.Idx) = y := by blk_ext [bwd_idx t]
  show (_ : EReal) = _
  rw [he]
  exact dg_total (Y := Y) B P.wb t.val (lt_of_lt_of_eq t.isLt N_1) y _

theorem doa_array (g : Fin 4) (i : Fin 8192) (l : Fin 128) : ((dat1 V c).arrAt 7 cfg1.N (ix3 g i l) : EReal)
    = (dout (A i) P.ga P.wa (Y i) (at4 g l) : EReal) := by
  refine congrFun ((dat1 V c).arrAt_eq_of_covers 7 (fun j => (dout (A (j 1)) P.ga P.wa (Y (j 1)) (at4 (j 0) (j 2)) : EReal))
    (by decide +kernel) fun t _ y => ?_) (ix3 g i l)
  blk_simp
  rw [after1_7]
  obtain ⟨g, p, l, rfl⟩ : ∃ (g : Fin 4) (p : Fin 512) (l : Fin 128), y = ix3 g p l := ⟨_, _, _, eq_ix3 y⟩
  rw [show (win1_7.blk t).view.emb (ix3 g p l) = ix3 g (tok N_1 t p) l by blk_ext [bwd_idx t]]
  exact doa_at h t g p l

theorem dob_array (g : Fin 4) (i : Fin 8192) (l : Fin 128) : ((dat1 V c).arrAt 9 cfg1.N (ix3 g i l) : EReal)
    = (dout (B i) P.gb P.wb (Y i) (at4 g l) : EReal) := by
  refine congrFun ((dat1 V c).arrAt_eq_of_covers 9 (fun j => (dout (B (j 1)) P.gb P.wb (Y (j 1)) (at4 (j 0) (j 2)) : EReal))
    (by decide +kernel) fun t _ y => ?_) (ix3 g i l)
  blk_simp
  rw [after1_9]
  obtain ⟨g, p, l, rfl⟩ : ∃ (g : Fin 4) (p : Fin 512) (l : Fin 128), y = ix3 g p l := ⟨_, _, _, eq_ix3 y⟩
  rw [show (win1_9.blk t).view.emb (ix3 g p l) = ix3 g (tok N_1 t p) l by blk_ext [bwd_idx t]]
  exact dob_at h t g p l

theorem dsb_array (g : Fin 8) (i : Fin 8192) (l : Fin 128) : ((dat1 V c).arrAt 10 cfg1.N (ix3 g i l) : EReal)
    = (∑ l, prod (B i) P.gb P.wb (Y i) (at8 g l) : EReal) := by
  refine congrFun ((dat1 V c).arrAt_eq_of_covers 10
    (fun j => (∑ l, prod (B (j 1)) P.gb P.wb (Y (j 1)) (at8 (j 0) l) : EReal))
    (by decide +kernel) fun t _ y => ?_) (ix3 g i l)
  blk_simp
  rw [after1_10]
  obtain ⟨g, p, l, rfl⟩ : ∃ (g : Fin 8) (p : Fin 512) (l : Fin 128), y = ix3 g p l := ⟨_, _, _, eq_ix3 y⟩
  rw [show (win1_10.blk t).view.emb (ix3 g p l) = ix3 g (tok N_1 t p) l by blk_ext [bwd_idx t]]
  exact dsb_at h t g p l

theorem dsa_array (g : Fin 4) (t : Fin 16) (p : Fin 512) : ((dat1 V c).arrAt 8 cfg1.N (ix4 g t (0 : Fin 1) p) : EReal)
    = (∑ l, prod (A (tok rfl t p)) P.ga P.wa (Y (tok rfl t p)) (at4 g l) : EReal) := by
  refine congrFun ((dat1 V c).arrAt_eq_of_covers 8
    (fun j => (∑ l, prod (A (tok rfl (j 1) (j 3))) P.ga P.wa (Y (tok rfl (j 1) (j 3))) (at4 (j 0) l) : EReal))
    (by decide +kernel) fun t _ y => ?_) (ix4 g t (0 : Fin 1) p)
  blk_simp
  rw [after1_8]
  obtain ⟨g, p, rfl⟩ : ∃ (g : Fin 4) (p : Fin 512), y = ix4 g (0 : Fin 1) (0 : Fin 1) p :=
    ⟨y 0, y 3, funext fun a => match a with
      | ⟨0, _⟩ => rfl | ⟨1, _⟩ => Subsingleton.elim (α := Fin 1) _ _ | ⟨2, _⟩ => Subsingleton.elim (α := Fin 1) _ _ | ⟨3, _⟩ => rfl⟩
  rw [show (win1_8.blk t).view.emb (ix4 g (0 : Fin 1) (0 : Fin 1) p) = ix4 g (t.cast N_1) (0 : Fin 1) p by blk_ext [bwd_idx t] <;> rfl]
  exact dsa_at h t g p

theorem mixed_array (i : Fin 8192) (f : Fin 1024) : ((dat1 V c).arrAt 11 cfg1.N (ix2 i f) : EReal)
    = (mixed P (A i) (B i) f : EReal) := by
  refine congrFun ((dat1 V c).arrAt_eq_of_covers 11 (fun j => (mixed P (A (j 0)) (B (j 0)) (j 1) : EReal))
    (by decide +kernel) fun t _ y => ?_) (ix2 i f)
  blk_simp
  rw [after1_11]
  obtain ⟨p, f, rfl⟩ : ∃ (p : Fin 512) (f : Fin 1024), y = ix2 p f := ⟨_, _, eq_ix2 y⟩
  rw [show (win1_11.blk t).view.emb (ix2 p f) = ix2 (tok N_1 t p) f by blk_ext [bwd_idx t]]
  exact n_at h t p f

theorem dyb_array (i : Fin 8192) (k : Fin 1024) : ((dat1 V c).arrAt 12 cfg1.N (ix2 i k) : EReal) = (Y i k : EReal) := by
  refine congrFun ((dat1 V c).arrAt_eq_of_covers 12 (fun j => (Y (j 0) (j 1) : EReal))
    (by decide +kernel) fun t _ y => ?_) (ix2 i k)
  blk_simp
  rw [after1_12]
  obtain ⟨p, k, rfl⟩ : ∃ (p : Fin 512) (k : Fin 1024), y = ix2 p k := ⟨_, _, eq_ix2 y⟩
  rw [show (win1_12.blk t).view.emb (ix2 p k) = ix2 (tok N_1 t p) k by blk_ext [bwd_idx t]]
  exact yb_at h t p k

end Cert.Mix

end
-- ==== Proof.MixWgrad.lean ====
/- The output weights' gradient: each of 8 points adds the product of 1024 tokens' rows to one resident block. -/
module

public import proofs.«01_k».proof.Proof.Wgrad
public import proofs.«01_k».proof.Proof.Gen.Kernel4Ideal.Frame.Region2

@[expose] public section

set_option maxRecDepth 16384

noncomputable section

namespace Cert.Mix

open Idealize.ShloMosaic Idealize.ShloMosaic.TcCoe Idealize.SL.Sem
open Idealize.ShloMosaic.Pipeline (Dat)
open Cert.Kernel4Ideal Cert.Kernel4Ideal.Gen
open Cert.Ffn (tok8)

variable {L R : Fin 8192 → Fin 1024 → EReal}

/-- The product over one point's tokens. -/
def part (L R : Fin 8192 → Fin 1024 → EReal) {n : ℕ} (hn : n = 8) (t : Fin n) (f k : Fin 1024) : EReal :=
  ∑ q, L (tok8 hn t q) f * R (tok8 hn t q) k

/-- The points' products sum to the product over all tokens. -/
theorem sum_part (L R : Fin 8192 → Fin 1024 → EReal) {n : ℕ} (hn : n = 8) (f k : Fin 1024) :
    ∑ t : Fin n, part L R hn t f k = ∑ i, L i f * R i k := by
  subst hn
  exact Fin.sum_mul_add_congr fun t q hl => rfl

/-- The accumulating store: what was there plus the product over the point's tokens. -/
theorem wgrad_step (acc : Vec Ideal S1024x1024 .f32) (l r : Vec Ideal S1024x1024 .bf16)
    {n : ℕ} (hn : n = 8) (t : Fin n) (hl : ∀ q f, l (ix2 q f) = (L (tok8 hn t q) f : EReal))
    (hr : ∀ q k, r (ix2 q k) = (R (tok8 hn t q) k : EReal)) (j : S1024x1024.Idx) :
    k2_pay2 acc l r j = acc j + (part L R hn t (j 0) (j 1) : EReal) := by
  obtain ⟨f, k, rfl⟩ : ∃ f k : Fin 1024, j = ix2 f k := ⟨_, _, eq_ix2 j⟩
  pointwise [k2_pay2]
  simp only [hl, hr]
  rfl

variable (V : (c : Dev nD) → (b : Ref sig .tc) → Buf (Elt Ideal) ((c : Thread nD τ).loc b)) (c : Dev nD)

theorem prod_idx : ∀ t : Fin cfg2.N, win2_0.index t = ![t.val, 0] ∧ win2_1.index t = ![t.val, 0] ∧ win2_2.index t = ![0, 0] :=
  (by decide +kernel : ∀ t : Fin grid2.N, _)

/-- The product's array. -/
theorem dwo_array (hl : ∀ i f : _, (V c main_v16_4 (ix2 i f) : EReal) = (L i f : EReal))
    (hr : ∀ i k : _, (V c main_v16_5 (ix2 i k) : EReal) = (R i k : EReal)) (f k : Fin 1024) :
    ((dat2 V c).arrAt 2 cfg2.N (ix2 f k) : EReal) = (∑ i, L i f * R i k : EReal) := by
  have el (t : Fin cfg2.N) (q f) : iblk2 V c 0 t (ix2 q f) = (L (tok8 N_2 t q) f : EReal) :=
    (show _ = V c main_v16_4 (ix2 (tok8 N_2 t q) f) by blk_ext [iblk2, prod_idx t]).trans (hl _ f)
  have er (t : Fin cfg2.N) (q k) : iblk2 V c 1 t (ix2 q k) = (R (tok8 N_2 t q) k : EReal) :=
    (show _ = V c main_v16_5 (ix2 (tok8 N_2 t q) k) by blk_ext [iblk2, prod_idx t]).trans (hr _ k)
  refine congrFun ((dat2 V c).arrAt_eq_of_after_last 2 t2_7 (by decide +kernel)
    (fun j => (∑ i, L i (j 0) * R i (j 1) : EReal)) fun j => ?_) (ix2 f k)
  blk_simp
  rw [after2_2, Pipeline.eq_sum_fin_of_reset_step_apply_last (fun n h => outsAt2 V c n h) 8 (fun _ => 0)
    (fun t j => (part L R N_2 t (j 0) (j 1) : EReal))
    (fun t h j => by
      rw [outsAt2_A V c t h]; frame_out
      exact (wgrad_step _ _ _ _ t (el t) (er t) j).trans (congrArg (· + _) (show k2_pay1 (F := Ideal) j = 0 by pointwise [k2_pay1])))
    (fun t h j => by rw [outsAt2_B V c t h]; frame_out; exact wgrad_step _ _ _ _ t (el t) (er t) j)
    (le_of_eq N_2) t2_7 rfl j, zero_add]
  exact sum_part L R N_2 (j 0) (j 1)

end Cert.Mix

end
-- ==== Proof.MixValues.lean ====
/- From the launch memory to the results of the mixers' output block: what the host's preparation hands each kernel
   call, and what each result array holds at the end. -/
module

public import proofs.«01_k».proof.Proof.MixBwd
public import proofs.«01_k».proof.Proof.MixWgrad
public import proofs.«01_k».proof.Proof.Gen.Kernel4Ideal.Frame.Fold0

@[expose] public section

set_option maxRecDepth 16384

noncomputable section

namespace Cert.Mix

open Idealize.ShloMosaic Idealize.ShloMosaic.TcCoe Idealize.SL.Sem Idealize.ShloMosaic.StableHlo
open Cert.Kernel4Ideal Cert.Kernel4Ideal.Gen

variable (P : Par) (X Y : Fin 8192 → Fin 1024 → EReal) (A B : Fin 8192 → Feat)
variable (m : (ℓ : Loc nD τ sig) → Buf (Elt Ideal) ℓ) (ρ : Dev nD → PrngReg) (c : Dev nD)

/-- The argument arrays hold the input rows, features, parameters and cotangent rows. -/
structure ArgsIn : Prop where
  x : ∀ i k, (m ((c : Thread nD τ).loc main_arg0) (ix2 i k) : EReal) = (X i k : EReal)
  a : ∀ i f, (m ((c : Thread nD τ).loc main_arg1) (ix2 i f) : EReal) = (A i f : EReal)
  b : ∀ i f, (m ((c : Thread nD τ).loc main_arg2) (ix2 i f) : EReal) = (B i f : EReal)
  ga : ∀ f, (m ((c : Thread nD τ).loc main_arg3) (ix1 f) : EReal) = (P.ga f : EReal)
  gb : ∀ f, (m ((c : Thread nD τ).loc main_arg4) (ix1 f) : EReal) = (P.gb f : EReal)
  wa : ∀ f k, (m ((c : Thread nD τ).loc main_arg5) (ix2 (lo f) k) : EReal) = (P.wa f k : EReal)
  wb : ∀ f k, (m ((c : Thread nD τ).loc main_arg5) (ix2 (hi f) k) : EReal) = (P.wb f k : EReal)
  y : ∀ i k, (m ((c : Thread nD τ).loc main_arg6) (ix2 i k) : EReal) = (Y i k : EReal)

/-! ## What the host prepares -/

/-- A group's features, a slab of 128 first. -/
theorem prep_slabs (v : FVec Ideal S8192x512 .f32) (g : Fin 4) (i : Fin 8192) (l : Fin 128) :
    transpose S4x8192x128 [1, 0, 2] (shapeCast S8192x4x128 v shapeCasts_S8192x512_S8192x4x128)
      transposes_S8192x4x128_S4x8192x128_1_0_2 (ix3 g i l) = v (ix2 i (at4 g l)) := by
  pointwise []

theorem prep_gain (v : FVec Ideal S512 .f32) (g : Fin 4) (l : Fin 128) :
    shapeCast S4x1x128 v shapeCasts_S512_S4x1x128 (ix3 g (0 : Fin 1) l) = v (ix1 (at4 g l)) := by
  pointwise []

theorem prep_low (w : FVec Ideal S1024x1024 .f32) (g : Fin 4) (l : Fin 128) (k : Fin 1024) :
    shapeCast S4x128x1024 (extractStridedSlice S512x1024 ![0, 0] (truncf (F := Ideal) .bf16 w bitsLt_bf16_f32)
      slices_S1024x1024_S512x1024_0_0) shapeCasts_S512x1024_S4x128x1024 (ix3 g l k) = w (ix2 (lo (at4 g l)) k) := by
  pointwise []

theorem prep_high (w : FVec Ideal S1024x1024 .f32) (g : Fin 4) (l : Fin 128) (k : Fin 1024) :
    shapeCast S4x128x1024 (extractStridedSlice S512x1024 ![512, 0] (truncf (F := Ideal) .bf16 w bitsLt_bf16_f32)
      slices_S1024x1024_S512x1024_512_0) shapeCasts_S512x1024_S4x128x1024 (ix3 g l k) = w (ix2 (hi (at4 g l)) k) := by
  pointwise []

variable {P X Y A B m c} (h : ArgsIn P X Y A B m c)
include h

theorem par_in : ParIn P (V1 m ρ) c where
  ga g l := by
    rw [show V1 m ρ c main_v1 = shapeCast S4x1x128 (m ((c : Thread nD τ).loc main_arg3)) shapeCasts_S512_S4x1x128 by
      simp only [V1, W1, hostOps0]; after_results_simp <;> rfl]
    exact (prep_gain _ g l).trans (h.ga _)
  gb g l := by
    rw [show V1 m ρ c main_v2 = shapeCast S4x1x128 (m ((c : Thread nD τ).loc main_arg4)) shapeCasts_S512_S4x1x128 by
      simp only [V1, W1, hostOps0]; after_results_simp <;> rfl]
    exact (prep_gain _ g l).trans (h.gb _)
  wa g l k := by
    rw [show V1 m ρ c main_v4 = shapeCast S4x128x1024 (extractStridedSlice S512x1024 ![0, 0]
        (truncf (F := Ideal) .bf16 (m ((c : Thread nD τ).loc main_arg5)) bitsLt_bf16_f32) slices_S1024x1024_S512x1024_0_0)
        shapeCasts_S512x1024_S4x128x1024 by simp only [V1, W1, hostOps0]; after_results_simp <;> rfl]
    exact (prep_low _ g l k).trans (h.wa _ k)
  wb g l k := by
    rw [show V1 m ρ c main_v6 = shapeCast S4x128x1024 (extractStridedSlice S512x1024 ![512, 0]
        (truncf (F := Ideal) .bf16 (m ((c : Thread nD τ).loc main_arg5)) bitsLt_bf16_f32) slices_S1024x1024_S512x1024_512_0)
        shapeCasts_S512x1024_S4x128x1024 by simp only [V1, W1, hostOps0]; after_results_simp <;> rfl]
    exact (prep_high _ g l k).trans (h.wb _ k)

theorem fwd_in : FwdIn P X A B (V1 m ρ) c where
  toParIn := par_in ρ h
  x i k := (congrFun (W1_args m ρ c main_arg0 (by decide)) _).trans (h.x i k)
  a g i l := by
    rw [show V1 m ρ c main_v8 = transpose S4x8192x128 [1, 0, 2] (shapeCast S8192x4x128 (m ((c : Thread nD τ).loc main_arg1))
        shapeCasts_S8192x512_S8192x4x128) transposes_S8192x4x128_S4x8192x128_1_0_2 by
      simp only [V1, W1, hostOps0]; after_results_simp <;> rfl]
    exact (prep_slabs _ g i l).trans (h.a i _)
  b g i l := by
    rw [show V1 m ρ c main_v10 = transpose S4x8192x128 [1, 0, 2] (shapeCast S8192x4x128 (m ((c : Thread nD τ).loc main_arg2))
        shapeCasts_S8192x512_S8192x4x128) transposes_S8192x4x128_S4x8192x128_1_0_2 by
      simp only [V1, W1, hostOps0]; after_results_simp <;> rfl]
    exact (prep_slabs _ g i l).trans (h.b i _)

/-- The parameters, as the backward call finds them. -/
theorem par_kept : ParIn P (V3 m ρ) c where
  ga g l := (congrFun ((W3_of m ρ c main_v1 (by decide)).trans (W2_of m ρ c main_v1 (by decide +kernel))) _).trans
    ((par_in ρ h).ga g l)
  gb g l := (congrFun ((W3_of m ρ c main_v2 (by decide)).trans (W2_of m ρ c main_v2 (by decide +kernel))) _).trans
    ((par_in ρ h).gb g l)
  wa g l k := (congrFun ((W3_of m ρ c main_v4 (by decide)).trans (W2_of m ρ c main_v4 (by decide +kernel))) _).trans
    ((par_in ρ h).wa g l k)
  wb g l k := (congrFun ((W3_of m ρ c main_v6 (by decide)).trans (W2_of m ρ c main_v6 (by decide +kernel))) _).trans
    ((par_in ρ h).wb g l k)

theorem bwd_in : BwdIn P Y A B (V3 m ρ) c where
  toParIn := par_kept ρ h
  y i k := (congrFun (W3_args m ρ c main_arg6 (by decide)) _).trans (h.y i k)
  a g i l := by
    rw [show V3 m ρ c main_v13 = transpose S4x8192x128 [1, 0, 2] (shapeCast S8192x4x128 (W2 m ρ c (Proc.devRef .tc main_arg1))
        shapeCasts_S8192x512_S8192x4x128) transposes_S8192x4x128_S4x8192x128_1_0_2 by
      simp only [V3, W3, hostOps1]; after_results_simp <;> rfl]
    rw [W2_args m ρ c main_arg1 (by decide)]
    exact (prep_slabs _ g i l).trans (h.a i _)
  b g i l := by
    rw [show V3 m ρ c main_v15 = transpose S4x8192x128 [1, 0, 2] (shapeCast S8192x4x128 (W2 m ρ c (Proc.devRef .tc main_arg2))
        shapeCasts_S8192x512_S8192x4x128) transposes_S8192x4x128_S4x8192x128_1_0_2 by
      simp only [V3, W3, hostOps1]; after_results_simp <;> rfl]
    rw [W2_args m ρ c main_arg2 (by decide)]
    exact (prep_slabs _ g i l).trans (h.b i _)

/-! ## The results -/

theorem out_y (i : Fin 8192) (k : Fin 1024) :
    (W5 m ρ c (Proc.devRef .tc main_v11) (ix2 i k) : EReal) = (out P (X i) (A i) (B i) k : EReal) :=
  (congrFun ((W5_of m ρ c main_v11 (by decide +kernel)).trans <| (W4_of m ρ c main_v11 (by decide +kernel)).trans <|
    (W3_of m ρ c main_v11 (by decide)).trans (W2_arr m ρ c 7)) _).trans (y_array (fwd_in ρ h) i k)

theorem out_doa (g : Fin 4) (i : Fin 8192) (l : Fin 128) :
    (W5 m ρ c (Proc.devRef .tc main_v16_0) (ix3 g i l) : EReal) = (dout (A i) P.ga P.wa (Y i) (at4 g l) : EReal) :=
  (congrFun ((W5_of m ρ c main_v16_0 (by decide +kernel)).trans (W4_arr m ρ c 7)) _).trans (doa_array (bwd_in ρ h) g i l)

theorem out_dsa (g : Fin 4) (t : Fin 16) (p : Fin 512) :
    (W5 m ρ c (Proc.devRef .tc main_v16_1) (ix4 g t (0 : Fin 1) p) : EReal)
      = (∑ l, prod (A (tok rfl t p)) P.ga P.wa (Y (tok rfl t p)) (at4 g l) : EReal) :=
  (congrFun ((W5_of m ρ c main_v16_1 (by decide +kernel)).trans (W4_arr m ρ c 8)) _).trans (dsa_array (bwd_in ρ h) g t p)

theorem out_dob (g : Fin 4) (i : Fin 8192) (l : Fin 128) :
    (W5 m ρ c (Proc.devRef .tc main_v16_2) (ix3 g i l) : EReal) = (dout (B i) P.gb P.wb (Y i) (at4 g l) : EReal) :=
  (congrFun ((W5_of m ρ c main_v16_2 (by decide +kernel)).trans (W4_arr m ρ c 9)) _).trans (dob_array (bwd_in ρ h) g i l)

theorem out_dsb (j : Fin 8) (i : Fin 8192) (l : Fin 128) : (W5 m ρ c (Proc.devRef .tc main_v16_3) (ix3 j i l) : EReal)
    = (∑ l, prod (B i) P.gb P.wb (Y i) (at8 j l) : EReal) :=
  (congrFun ((W5_of m ρ c main_v16_3 (by decide +kernel)).trans (W4_arr m ρ c 10)) _).trans (dsb_array (bwd_in ρ h) j i l)

theorem out_dga (g : Fin 4) (l : Fin 128) : (W5 m ρ c (Proc.devRef .tc main_v16_6) (ix3 g (0 : Fin 1) l) : EReal)
    = (∑ i, dg (A i) P.wa (Y i) (at4 g l) : EReal) :=
  (congrFun ((W5_of m ρ c main_v16_6 (by decide +kernel)).trans (W4_arr m ρ c 13)) _).trans (dga_array (bwd_in ρ h) g l)

theorem out_dgb (g : Fin 4) (l : Fin 128) : (W5 m ρ c (Proc.devRef .tc main_v16_7) (ix3 g (0 : Fin 1) l) : EReal)
    = (∑ i, dg (B i) P.wb (Y i) (at4 g l) : EReal) :=
  (congrFun ((W5_of m ρ c main_v16_7 (by decide +kernel)).trans (W4_arr m ρ c 14)) _).trans (dgb_array (bwd_in ρ h) g l)

theorem out_dwo (f k : Fin 1024) : (W5 m ρ c (Proc.devRef .tc main_v17) (ix2 f k) : EReal)
    = (∑ i, mixed P (A i) (B i) f * Y i k : EReal) :=
  (congrFun (W5_arr m ρ c 2) _).trans (dwo_array (V4 m ρ) c (L := fun i => mixed P (A i) (B i)) (R := Y)
    (fun i f => (congrFun (W4_arr m ρ c 11) _).trans (mixed_array (bwd_in ρ h) i f))
    (fun i k => (congrFun (W4_arr m ρ c 12) _).trans (dyb_array (bwd_in ρ h) i k)) f k)

end Cert.Mix

end
-- ==== Proof.MixEquation.lean ====
/- The value claim of the mixers' output block: from any arguments the kernel program and the reference end with the
   same eight arrays. -/
module

public import proofs.«01_k».proof.Defs
public import proofs.«01_k».proof.Proof.AttEquation
public import proofs.«01_k».proof.Proof.Equation
public import proofs.«01_k».proof.Proof.MixRef
public import proofs.«01_k».proof.Proof.MixRun
public import proofs.«01_k».proof.Proof.MixValues
public import Idealize.ShloMosaic.Lib.Claim

@[expose] public section

set_option maxRecDepth 16384

noncomputable section

namespace Cert.Mix

open Idealize.ShloMosaic Idealize.ShloMosaic.TcCoe Idealize.SL.Sem
open Cert.Ffn (ext2)
open Cert.Att (ext3 ext4)

section

open Cert.Kernel4Ideal

variable (m : (ℓ : Loc nD τ sig) → Buf (Elt Ideal) ℓ) (c : Dev nD)

/-- The rows, features and parameters that the kernel program's argument arrays hold. -/
def rowsX : Fin 8192 → Fin 1024 → EReal := fun i k => m ((c : Thread nD τ).loc main_arg0) (ix2 i k)
def rowsY : Fin 8192 → Fin 1024 → EReal := fun i k => m ((c : Thread nD τ).loc main_arg6) (ix2 i k)
def featsA : Fin 8192 → Feat := fun i f => m ((c : Thread nD τ).loc main_arg1) (ix2 i f)
def featsB : Fin 8192 → Feat := fun i f => m ((c : Thread nD τ).loc main_arg2) (ix2 i f)
def par : Par where
  ga f := m ((c : Thread nD τ).loc main_arg3) (ix1 f)
  gb f := m ((c : Thread nD τ).loc main_arg4) (ix1 f)
  wa f k := m ((c : Thread nD τ).loc main_arg5) (ix2 (lo f) k)
  wb f k := m ((c : Thread nD τ).loc main_arg5) (ix2 (hi f) k)

theorem args_in : ArgsIn (par m c) (rowsX m c) (rowsY m c) (featsA m c) (featsB m c) m c :=
  ⟨fun _ _ => rfl, fun _ _ => rfl, fun _ _ => rfl, fun _ => rfl, fun _ => rfl, fun _ _ => rfl, fun _ _ => rfl,
    fun _ _ => rfl⟩

end

theorem algebraic : Cert.algebraic_Kernel4Ideal_Reference4Ideal
    (hKernel4Ideal := Cert.Kernel4Ideal.Gen.facts) (hReference4Ideal := Cert.Reference4Ideal.Gen.facts) := by
  intro m g m' g' _ hagree
  have hin c := args_in m c
  have href c := RefArgs.mk (P := par m c) (X := rowsX m c) (Y := rowsY m c) (A := featsA m c) (B := featsB m c)
    (hin c).x (hin c).a (hin c).b (hin c).ga (hin c).gb (hin c).wa (hin c).wb (hin c).y
  refine ⟨_, _, _, _, _, _, _, _, (θ_run _ _ _).mono (fun r h c => ⟨h c _ (by decide), h c _ (by decide),
    h c _ (by decide), h c _ (by decide), h c _ (by decide), h c _ (by decide), h c _ (by decide), h c _ (by decide),
    ?_, ?_, ?_, ?_, ?_, ?_, ?_⟩) (run_buffers m g), ?_⟩
  · exact (h c _ (by decide)).trans (Cert.Kernel4Ideal.Gen.W5_main_arg0 m g c)
  · exact (h c _ (by decide)).trans (Cert.Kernel4Ideal.Gen.W5_main_arg1 m g c)
  · exact (h c _ (by decide)).trans (Cert.Kernel4Ideal.Gen.W5_main_arg2 m g c)
  · exact (h c _ (by decide)).trans (Cert.Kernel4Ideal.Gen.W5_main_arg3 m g c)
  · exact (h c _ (by decide)).trans (Cert.Kernel4Ideal.Gen.W5_main_arg4 m g c)
  · exact (h c _ (by decide)).trans (Cert.Kernel4Ideal.Gen.W5_main_arg5 m g c)
  · exact (h c _ (by decide)).trans (Cert.Kernel4Ideal.Gen.W5_main_arg6 m g c)
  refine (θ_run _ _ _).mono (fun r h c => ?_) (Cert.Reference4Ideal.Value.run m' g')
  obtain ⟨a0, a1, a2, a3, a4, a5, a6⟩ := hagree c
  obtain ⟨r0, r1, r2, r3, r4, r5, r6, r7, hargs⟩ := h c
  rw [Cert.Reference4Ideal.Read.val_main_v34_eq] at r0
  rw [Cert.Reference4Ideal.Read.val_main_v94_eq] at r1
  rw [Cert.Reference4Ideal.Read.val_main_v96_eq] at r2
  rw [Cert.Reference4Ideal.Read.val_main_v97_eq] at r3
  rw [Cert.Reference4Ideal.Read.val_main_v98_eq] at r4
  rw [Cert.Reference4Ideal.Read.val_main_v37_eq] at r5
  rw [Cert.Reference4Ideal.Read.val_main_v85_eq] at r6
  rw [Cert.Reference4Ideal.Read.val_main_v91_eq] at r7
  rw [a0, a1, a2, a3, a4, a5] at r0
  rw [a1, a3, a5, a6] at r1 r6
  rw [a2, a4, a5, a6] at r2 r7
  rw [a1, a5, a6] at r3
  rw [a2, a5, a6] at r4
  rw [a1, a2, a3, a4, a6] at r5
  refine ⟨r0.trans (ext2 _ _ fun i k => ?_), r1.trans (ext3 _ _ fun s i l => ?_), r2.trans (ext3 _ _ fun s i l => ?_),
    r3.trans (ext3 _ _ fun s z l => ?_), r4.trans (ext3 _ _ fun s z l => ?_), r5.trans (ext2 _ _ fun f k => ?_),
    r6.trans (ext4 _ _ fun s t p => ?_), r7.trans (ext3 _ _ fun j i l => ?_), hargs⟩
  · exact (ref_out (href c) i k).trans (out_y g (hin c) i k).symm
  · exact (ref_doa_slabs (href c) i s l).trans (out_doa g (hin c) s i l).symm
  · exact (ref_dob_slabs (href c) i s l).trans (out_dob g (hin c) s i l).symm
  · obtain rfl : z = 0 := Fin.fin_one_eq_zero z
    exact (ref_dga (href c) s l).trans (out_dga g (hin c) s l).symm
  · obtain rfl : z = 0 := Fin.fin_one_eq_zero z
    exact (ref_dgb (href c) s l).trans (out_dgb g (hin c) s l).symm
  · exact (ref_dwo (href c) k f).trans (out_dwo g (hin c) f k).symm
  · exact (ref_dsa (href c) s t p).trans (out_dsa g (hin c) s t p).symm
  · exact (ref_dsb (href c) i j l).trans (out_dsb g (hin c) j i l).symm

end Cert.Mix

end
-- ==== Proof.Opt.lean ====
/- The value claim of the optimiser's step: from any weights, gradients and moments the kernel program and the reference
   end with the same step and the same two moments. -/
module

public import proofs.«01_k».proof.Defs
public import proofs.«01_k».proof.Proof.Gen.Kernel5Ideal.Value
public import proofs.«01_k».proof.Proof.Gen.Reference5Ideal.Read

@[expose] public section

set_option maxRecDepth 16384

noncomputable section

namespace Cert.Opt

open Idealize.ShloMosaic Idealize.ShloMosaic.TcCoe Idealize.SL.Sem
open Cert.Reference5Ideal.Read

theorem algebraic : Cert.algebraic_Kernel5Ideal_Reference5Ideal
    (hKernel5Ideal := Cert.Kernel5Ideal.Gen.facts) (hReference5Ideal := Cert.Reference5Ideal.Gen.facts) := by
  intro m g m' g' _ hagree
  refine ⟨_, _, _, Cert.Kernel5Ideal.Value.run m g, ?_⟩
  refine (θ_run _ _ _).mono (fun r h c => ?_) (Cert.Reference5Ideal.Value.run m' g')
  obtain ⟨a0, a1, a2, a3⟩ := hagree c
  obtain ⟨r0, r1, r2, hargs⟩ := h c
  rw [val_main_v23_eq, a0, a1, a2, a3] at r0
  rw [val_main_v4_eq, a1, a2] at r1
  rw [val_main_v10_eq, a1, a3] at r2
  refine ⟨r0.trans (funext fun i => ?_), r1.trans (funext fun i => ?_), r2.trans (funext fun i => ?_), hargs⟩ <;> rfl

end Cert.Opt

end
-- ==== Proof.PrepSpec.lean ====
/- The projections of a token over the extended real numbers: the normalised row times the input weights; the two latent
   vectors, normalised and widened to heads; each head divided by its root mean square and scaled by a gain; and the rotary
   embedding of the heads that carry it. -/
module

public import proofs.«01_k».proof.Proof.Spec

@[expose] public section

noncomputable section

namespace Cert.Prep

open Idealize.ShloMosaic
open Cert.Ffn (eps eps_pos)

/-- One over the root mean square of `n` numbers, `c` being `1/n`. -/
def inv {n : ℕ} (c : ℝ) (o : Fin n → EReal) : EReal := Ideal.rsqrt ((∑ f, o f * o f) * (c : EReal) + (eps : EReal))
/-- The numbers divided by their root mean square and scaled by a gain. -/
def nrm {n : ℕ} (c : ℝ) (o g : Fin n → EReal) (f : Fin n) : EReal := o f * inv c o * g f

/-- The rotary embedding of 64 numbers: lane `e` of the first half is paired with lane `e + 32`. -/
def rot (t : Fin 64 → EReal) (c s : Fin 32 → EReal) (e : Fin 64) : EReal :=
  if h : e.val < 32 then t e * c ⟨e, h⟩ - t ⟨e + 32, by omega⟩ * s ⟨e, h⟩
  else t e * c ⟨e - 32, by omega⟩ + t ⟨e - 32, by omega⟩ * s ⟨e - 32, by omega⟩

/-- The parameters: the gains and the weights. -/
structure Par where
  mix : Fin 1024 → EReal
  win : Fin 1024 → Fin 1216 → EReal
  qa : Fin 256 → EReal
  wq : Fin 256 → Fin 768 → EReal
  kva : Fin 128 → EReal
  wkv : Fin 128 → Fin 1024 → EReal
  q : Fin 192 → EReal
  k : Fin 192 → EReal
  sq : Fin 64 → EReal
  sk : Fin 64 → EReal

/-- The first 128 of a head's 192 lanes, and the last 64. -/
abbrev lo192 (l : Fin 128) : Fin 192 := ⟨l, by omega⟩
abbrev hi192 (e : Fin 64) : Fin 192 := ⟨128 + e, by omega⟩
/-- The first 128 of 256 lanes, and the last 128. -/
abbrev lo256 (l : Fin 128) : Fin 256 := ⟨l, by omega⟩
abbrev hi256 (l : Fin 128) : Fin 256 := ⟨128 + l, by omega⟩
/-- Lane `l` of 128 in the tables of 32. -/
abbrev wrap (l : Fin 128) : Fin 32 := ⟨l % 32, by omega⟩
/-- Lane `e` of head `h` among the queries' 768 columns. -/
abbrev atq (h : Fin 4) (e : Fin 192) : Fin 768 := ⟨h * 192 + e, by omega⟩
/-- Lane `e` of head `h` among the keys' and values' 1024 columns. -/
abbrev atkv (h : Fin 4) (e : Fin 256) : Fin 1024 := ⟨h * 256 + e, by omega⟩

variable (P : Par) (x : Fin 1024 → EReal) (c s : Fin 32 → EReal)

/-- A column of the input projection. -/
def proj (k : Fin 1216) : EReal := ∑ d, nrm (1 / 1024) x P.mix d * P.win d k

/-- The latent vector of the queries. -/
def cq (f : Fin 256) : EReal := proj P x ⟨f, by omega⟩
/-- Head `h` of the queries, before its norm. -/
def qraw (h : Fin 4) (e : Fin 192) : EReal := ∑ f, nrm (1 / 256) (cq P x) P.qa f * P.wq f (atq h e)
/-- Head `h` of the queries, normalised. -/
def qn (h : Fin 4) : Fin 192 → EReal := nrm (1 / 192) (qraw P x h) P.q

/-- The latent vector of the keys and values. -/
def ckv (f : Fin 128) : EReal := proj P x ⟨256 + f, by omega⟩
/-- Head `h` of the keys' first part and the values, side by side. -/
def kv (h : Fin 4) (e : Fin 256) : EReal := ∑ f, nrm (1 / 128) (ckv P x) P.kva f * P.wkv f (atkv h e)
/-- The keys' part that every head shares. -/
def kpe (e : Fin 64) : EReal := proj P x ⟨384 + e, by omega⟩
/-- Head `h` of the keys, before its norm. -/
def kraw (h : Fin 4) (e : Fin 192) : EReal :=
  if he : e.val < 128 then kv P x h ⟨e, by omega⟩ else kpe P x ⟨e - 128, by omega⟩
/-- Head `h` of the keys, normalised. -/
def kn (h : Fin 4) : Fin 192 → EReal := nrm (1 / 192) (kraw P x h) P.k

/-- A normalised head with its last 64 lanes rotated, and 64 zero lanes after it. -/
def head (t : Fin 192 → EReal) (l : Fin 256) : EReal :=
  if h : l.val < 128 then t ⟨l, by omega⟩
  else if h' : l.val < 192 then rot (fun e => t (hi192 e)) c s ⟨l - 128, by omega⟩ else 0

/-- Head `h` of the local queries. -/
def sq (h : Fin 8) (e : Fin 64) : EReal := proj P x ⟨448 + h * 64 + e, by omega⟩
/-- Head `h` of the local keys. -/
def sk (h : Fin 2) (e : Fin 64) : EReal := proj P x ⟨960 + h * 64 + e, by omega⟩
/-- Head `h` of the local values. -/
def sv (h : Fin 2) (e : Fin 64) : EReal := proj P x ⟨1088 + h * 64 + e, by omega⟩

/-- The head of a pair that lane `l` belongs to, and its place there. -/
abbrev side (l : Fin 128) : Fin 2 := ⟨l / 64, by omega⟩
abbrev lane (l : Fin 128) : Fin 64 := ⟨l % 64, by omega⟩

/-- The six results, at one token. -/
def qa (h : Fin 4) : Fin 256 → EReal := head c s (qn P x h)
def ka (h : Fin 4) : Fin 256 → EReal := head c s (kn P x h)
def va (h : Fin 4) (l : Fin 128) : EReal := kv P x h (hi256 l)
def qb (h : Fin 4) (l : Fin 128) : EReal :=
  rot (nrm (1 / 64) (sq P x ⟨2 * h + l / 64, by omega⟩) P.sq) c s (lane l)
def kb (h : Fin 2) (l : Fin 128) : EReal := rot (nrm (1 / 64) (sk P x h) P.sk) c s (lane l)
def vb (h : Fin 2) (l : Fin 128) : EReal := sv P x h (lane l)

end Cert.Prep

end
-- ==== Proof.PrepRow.lean ====
/- The kernel's stores at one row of a block: each holds the numbers of `PrepSpec`. -/
module

public import proofs.«01_k».proof.Proof.PrepSpec
public import proofs.«01_k».proof.Proof.Gen.Kernel6Ideal.Skeleton
public import Idealize.ShloMosaic.Lib.Pipeline.ValueKit

@[expose] public section

set_option maxRecDepth 16384

noncomputable section

namespace Cert.Prep

open Idealize.ShloMosaic Idealize.SL.Sem
open Cert.Kernel6Ideal Cert.Kernel6Ideal.Gen
open Cert.Ffn (bits_zero bits_eps)

theorem bits_256th : Ideal.ofBits .f32 0x3B800000#32 = ((1 / 256 : ℝ) : EReal) := by
  simp [Ideal.ofBits, Ideal.ieee, -EReal.coe_mul]; norm_num
theorem bits_128th : Ideal.ofBits .f32 0x3C000000#32 = ((1 / 128 : ℝ) : EReal) := by
  simp [Ideal.ofBits, Ideal.ieee, -EReal.coe_mul]; norm_num
theorem bits_64th : Ideal.ofBits .f32 0x3C800000#32 = ((1 / 64 : ℝ) : EReal) := by
  simp [Ideal.ofBits, Ideal.ieee, -EReal.coe_mul]; norm_num

/-- The lane a rotary pair's other number is in, for the first and for the second of the pair. -/
abbrev ahead (l : Fin 128) : Fin 128 := ⟨(l + 32) % 128, by omega⟩
abbrev behind (l : Fin 128) : Fin 128 := ⟨(l + 96) % 128, by omega⟩
/-- The same place in the other half of the lanes. -/
abbrev opposite (l : Fin 128) : Fin 128 := ⟨(l + 64) % 128, by omega⟩
/-- Place `e` of the half that lane `l` is in. -/
abbrev mate (l : Fin 128) (e : Fin 64) : Fin 128 := ⟨l / 64 * 64 + e, by omega⟩

theorem pair_first : ∀ l : Fin 128, IntOp.cmpi .eq (IntOp.andi (BitVec.ofNat 32 l.val) 32#32) 0#32
    = if l.val % 64 < 32 then 1#1 else 0#1 := by decide +kernel
theorem half_first : ∀ l : Fin 128, IntOp.cmpi .slt (BitVec.ofNat 32 l.val) 64#32
    = if l.val < 64 then 1#1 else 0#1 := by decide +kernel

theorem select_ite {α : Type} (q : Prop) [Decidable q] (a b : α) :
    Scalar.select (if q then 1#1 else 0#1) a b = if q then a else b := by
  split <;> rfl

/-- The sum over the lanes of the first half, and of the second, the other half's lanes being zero. -/
theorem sum_first (F : Fin 128 → EReal) : (∑ l : Fin 128, if l.val < 64 then F l else 0) = ∑ e : Fin 64, F ⟨e, by omega⟩ := by
  refine (Fin.sum_univ_add (a := 64) (b := 64) _).trans ?_
  rw [Finset.sum_congr rfl fun e _ => if_pos (by simp), Finset.sum_congr rfl fun (e : Fin 64) _ => if_neg (by simp)]
  simp only [Finset.sum_const_zero, add_zero]
  rfl
theorem sum_second (F : Fin 128 → EReal) :
    (∑ l : Fin 128, if l.val < 64 then 0 else F l) = ∑ e : Fin 64, F ⟨64 + e, by omega⟩ := by
  refine (Fin.sum_univ_add (a := 64) (b := 64) _).trans ?_
  rw [Finset.sum_congr rfl fun e _ => if_pos (by simp), Finset.sum_congr rfl fun (e : Fin 64) _ => if_neg (by simp)]
  simp only [Finset.sum_const_zero, zero_add]
  rfl

/-- The rotary embedding of a block of 128 lanes. -/
def rope (t C S : FVec Ideal S512x128 .f32) : FVec Ideal S512x128 .f32 :=
  addf (mulf t C) (mulf (select (broadcastTo S512x128 (shapeCast S1x128 k0_pay19 shapeCasts_S1x128_S1x128)
    broadcasts_S1x128_S512x128) (dynamicRotate 1 96#32 none t rotates_S512x128_d1)
    (dynamicRotate 1 32#32 none t rotates_S512x128_d1)) S)

/-- A block divided by the root mean square of each half of its lanes, and scaled by a gain. -/
def halves (u : FVec Ideal S512x128 .f32) (g : FVec Ideal S1x128 .f32) : FVec Ideal S512x128 .f32 :=
  mulf (mulf u (rsqrt (addf (mulf (select (broadcastTo S512x128 (shapeCast S1x128 k0_pay99 shapeCasts_S1x128_S1x128)
      broadcasts_S1x128_S512x128)
    (broadcastTo S512x128 (shapeCast S512x1 (shapeCast S512x1 (multiReduction .add [1] S512 (select
      (broadcastTo S512x128 (shapeCast S1x128 k0_pay99 shapeCasts_S1x128_S1x128) broadcasts_S1x128_S512x128) (mulf u u)
      (broadcast S512x128 (Scalar.ofBits .f32 0x00000000#32))) 0x00000000#32 reduces_S512x128_S512 (.inl rfl) rfl)
      shapeCasts_S512_S512x1) shapeCasts_S512x1_S512x1) broadcasts_S512x1_S512x128)
    (broadcastTo S512x128 (shapeCast S512x1 (shapeCast S512x1 (multiReduction .add [1] S512 (select
      (broadcastTo S512x128 (shapeCast S1x128 k0_pay99 shapeCasts_S1x128_S1x128) broadcasts_S1x128_S512x128)
      (broadcast S512x128 (Scalar.ofBits .f32 0x00000000#32)) (mulf u u)) 0x00000000#32 reduces_S512x128_S512 (.inl rfl) rfl)
      shapeCasts_S512_S512x1) shapeCasts_S512x1_S512x1) broadcasts_S512x1_S512x128))
    (broadcast S512x128 (Scalar.ofBits .f32 0x3C800000#32))) (broadcast S512x128 (Scalar.ofBits .f32 0x358637BD#32)))))
    (broadcastTo S512x128 (shapeCast S1x128 g shapeCasts_S1x128_S1x128) broadcasts_S1x128_S512x128)

/-- The mean square of a key head from its first part and the sum of squares of the shared part. -/
def meansq (k : FVec Ideal S512x128 .f32) (ss : FVec Ideal S512x1 .f32) : FVec Ideal S512x1 .f32 :=
  mulf (addf (shapeCast S512x1 (multiReduction .add [1] S512 (mulf k k) 0x00000000#32 reduces_S512x128_S512 (.inl rfl) rfl)
    shapeCasts_S512_S512x1) ss) (broadcast S512x1 (Named.named κ "inv192" 0x3BAAAAAB#32))

section Lanes

variable (p : Fin 512) (t C S : FVec Ideal S512x128 .f32) (T : Fin 128 → EReal) (c s : Fin 32 → EReal)
  (hT : ∀ l, t (ix2 p l) = (T l : EReal)) (hC : ∀ l : Fin 128, C (ix2 p l) = (c (wrap l) : EReal))
  (hS : ∀ l : Fin 128, S (ix2 p l) = (if l.val % 64 < 32 then -s (wrap l) else s (wrap l) : EReal))
include hT hC hS

theorem rope_row (l : Fin 128) : rope t C S (ix2 p l) = (rot (fun e => T (mate l e)) c s (lane l) : EReal) := by
  pointwise [rope, k0_pay19]
  rw [pair_first, select_ite, hT, hT, hT, hC, hS]
  unfold rot
  by_cases h : l.val % 64 < 32
  · have h1 : wrap l = ⟨(lane l).val, h⟩ := Fin.ext (by dsimp only; omega)
    have h2 : (⟨(l + 128 - 96) % 128, by omega⟩ : Fin 128) = mate l ⟨(lane l).val + 32, by dsimp only; omega⟩ :=
      Fin.ext (by dsimp only; omega)
    have h3 : l = mate l (lane l) := Fin.ext (by dsimp only; omega)
    rw [if_pos h, if_pos h, dif_pos h, h1, h2, mul_neg, ← sub_eq_add_neg]
    show _ = T (mate l (lane l)) * _ - _
    rw [← h3]
  · have h1 : wrap l = ⟨(lane l).val - 32, by dsimp only; omega⟩ := Fin.ext (by dsimp only; omega)
    have h2 : (⟨(l + 128 - 32) % 128, by omega⟩ : Fin 128) = mate l ⟨(lane l).val - 32, by dsimp only; omega⟩ :=
      Fin.ext (by dsimp only; omega)
    have h3 : l = mate l (lane l) := Fin.ext (by dsimp only; omega)
    rw [if_neg h, if_neg h, dif_neg h, h1, h2]
    show _ = T (mate l (lane l)) * _ + _
    rw [← h3]

end Lanes

section Halves

variable (p : Fin 512) (u : FVec Ideal S512x128 .f32) (g : FVec Ideal S1x128 .f32) (U : Fin 2 → Fin 64 → EReal)
  (G : Fin 64 → EReal) (hu : ∀ l, u (ix2 p l) = (U (side l) (lane l) : EReal))
  (hg : ∀ l, g (ix2 (0 : Fin 1) l) = (G (lane l) : EReal))
include hu hg

theorem halves_row (l : Fin 128) : halves u g (ix2 p l) = (nrm (1 / 64) (U (side l)) G (lane l) : EReal) := by
  pointwise [halves, k0_pay99]
  simp only [half_first, select_ite, hu, hg, bits_zero, EReal.coe_zero, bits_64th, bits_eps]
  rw [sum_first (fun l => U (side l) (lane l) * U (side l) (lane l)),
    sum_second (fun l => U (side l) (lane l) * U (side l) (lane l))]
  have e0 : ∀ e : Fin 64, side ⟨e, by omega⟩ = 0 := fun e => Fin.ext (by show e.val / 64 = 0; omega)
  have e1 : ∀ e : Fin 64, side ⟨64 + e, by omega⟩ = 1 := fun e => Fin.ext (by show (64 + e.val) / 64 = 1; omega)
  have f0 : ∀ e : Fin 64, lane ⟨e, by omega⟩ = e := fun e => Fin.ext (by show e.val % 64 = e; omega)
  have f1 : ∀ e : Fin 64, lane ⟨64 + e, by omega⟩ = e := fun e => Fin.ext (by show (64 + e.val) % 64 = e; omega)
  simp only [e0, e1, f0, f1]
  rw [nrm, inv]
  by_cases h : l.val < 64
  · rw [if_pos h, show side l = 0 from Fin.ext (by show l.val / 64 = 0; omega)]
  · rw [if_neg h, show side l = 1 from Fin.ext (by show l.val / 64 = 1; omega)]

end Halves

theorem inv192_eq : Named.named (F := Ideal) κ "inv192" (φ := .f32) 0x3BAAAAAB#32 = ((1 / 192 : ℝ) : EReal) :=
  (IdealRules.named_const.statement κ "inv192" .f32 0x3BAAAAAB#32 _ rfl).2.2.trans (by rw [one_div])

/-- The columns of the input projection with 64 zero columns after the first 448. -/
def filled (t : Fin 1216 → EReal) (k : Fin 1280) : EReal :=
  if h : k.val < 448 then t ⟨k, by omega⟩ else if h' : k.val < 512 then 0 else t ⟨k - 64, by omega⟩
/-- A head of 192 lanes with 64 zero lanes after it. -/
def filled192 (t : Fin 192 → EReal) (e : Fin 256) : EReal := if h : e.val < 192 then t ⟨e, h⟩ else 0
/-- 64 numbers with 64 zeros after them. -/
def filled64 (t : Fin 64 → EReal) (l : Fin 128) : EReal := if h : l.val < 64 then t ⟨l, h⟩ else 0

variable (P : Par) (x : Fin 1024 → EReal) (c s : Fin 32 → EReal) (p : Fin 512)
variable (x0 : Vec Ideal S512x1024 .f32) (x1 x2 : Vec Ideal S512x128 .f32) (x3 : Vec Ideal S1x1024 .f32)
  (x4 : Vec Ideal S1280x1024 .bf16) (x5 : Vec Ideal S1x256 .f32) (x6 : Vec Ideal S4x256x256 .bf16)
  (x7 : Vec Ideal S1x128 .f32) (x8 : Vec Ideal S1024x128 .bf16) (x9 x10 x11 x12 x13 x14 : Vec Ideal S1x128 .f32)

/-- The blocks the body reads: row `p` of the first is `x`, its rotary tables hold `c` and `s`, the others the parameters. -/
structure Blocks : Prop where
  x : ∀ k, x0 (ix2 p k) = (x k : EReal)
  cos : ∀ l : Fin 128, x1 (ix2 p l) = (c (wrap l) : EReal)
  sin : ∀ l : Fin 128, x2 (ix2 p l) = (if l.val % 64 < 32 then -s (wrap l) else s (wrap l) : EReal)
  mix : ∀ k, x3 (ix2 (0 : Fin 1) k) = (P.mix k : EReal)
  win : ∀ k d, x4 (ix2 k d) = (filled (P.win d) k : EReal)
  qa : ∀ f, x5 (ix2 (0 : Fin 1) f) = (P.qa f : EReal)
  wq : ∀ (h : Fin 4) e f, x6 (ix3 h e f) = (filled192 (fun e => P.wq f (atq h e)) e : EReal)
  kva : ∀ f, x7 (ix2 (0 : Fin 1) f) = (P.kva f : EReal)
  wkv : ∀ k f, x8 (ix2 k f) = (P.wkv f k : EReal)
  qlo : ∀ l : Fin 128, x9 (ix2 (0 : Fin 1) l) = (P.q (lo192 l) : EReal)
  qhi : ∀ l, x10 (ix2 (0 : Fin 1) l) = (filled64 (fun e => P.q (hi192 e)) l : EReal)
  klo : ∀ l : Fin 128, x11 (ix2 (0 : Fin 1) l) = (P.k (lo192 l) : EReal)
  khi : ∀ l, x12 (ix2 (0 : Fin 1) l) = (filled64 (fun e => P.k (hi192 e)) l : EReal)
  sq : ∀ l, x13 (ix2 (0 : Fin 1) l) = (P.sq (lane l) : EReal)
  sk : ∀ l, x14 (ix2 (0 : Fin 1) l) = (P.sk (lane l) : EReal)

/-- The sum over 192 lanes, from the first 128 and the padded last 64. -/
theorem sum_head (F : Fin 192 → EReal) : (∑ l : Fin 128, F (lo192 l)) + (∑ e : Fin 64, F (hi192 e)) = ∑ e, F e :=
  (Fin.sum_univ_add (a := 128) (b := 64) F).symm

theorem sum_filled64 (t : Fin 64 → EReal) : (∑ l, filled64 t l * filled64 t l) = ∑ e, t e * t e := by
  refine Eq.trans ?_ (sum_first fun l => t (lane l) * t (lane l)) |>.trans ?_
  · refine Finset.sum_congr rfl fun l _ => ?_
    unfold filled64
    by_cases h : l.val < 64
    · rw [dif_pos h, if_pos h, show lane l = ⟨l, h⟩ from Fin.ext (by show l.val % 64 = l; omega)]
    · rw [dif_neg h, if_neg h, mul_zero]
  · exact Finset.sum_congr rfl fun e _ => by
      rw [show lane ⟨e.val, by omega⟩ = e from Fin.ext (by show e.val % 64 = e; omega)]

/-- The rotary embedding of 64 numbers and 64 zeros is that of the 64 numbers, and zeros. -/
theorem rot_filled64 (t : Fin 64 → EReal) (l : Fin 128) :
    rot (fun e => filled64 t (mate l e)) c s (lane l) = filled64 (rot t c s) l := by
  by_cases h : l.val < 64
  · have : (fun e => filled64 t (mate l e)) = t := funext fun e => by
      unfold filled64
      rw [dif_pos (by show l.val / 64 * 64 + e.val < 64; omega)]
      exact congrArg t (Fin.ext (by show l.val / 64 * 64 + e.val = e; omega))
    rw [this, filled64, dif_pos h]
    exact congrArg _ (Fin.ext (by show l.val % 64 = l; omega))
  · have : (fun e => filled64 t (mate l e)) = fun _ => 0 := funext fun e => by
      unfold filled64
      rw [dif_neg (by show ¬ l.val / 64 * 64 + e.val < 64; omega)]
    rw [this, filled64, dif_neg h, rot]
    split <;> simp

variable {P x c s p x0 x1 x2 x3 x4 x5 x6 x7 x8 x9 x10 x11 x12 x13 x14}
  (H : Blocks P x c s p x0 x1 x2 x3 x4 x5 x6 x7 x8 x9 x10 x11 x12 x13 x14)
include H

theorem proj_row (k : Fin 1280) : k0_pay10 x0 x3 x4 (ix2 p k) = (filled (proj P x) k : EReal) := by
  pointwise [k0_pay10]
  simp only [H.x, H.mix, H.win, bits_zero, EReal.coe_zero, zero_add, Cert.Ffn.bits_1024th, bits_eps]
  unfold filled
  split
  · rfl
  · split
    · simp
    · rfl

theorem cqn_row (f : Fin 256) : k0_pay11 x0 x3 x4 x5 (ix2 p f) = (nrm (1 / 256) (cq P x) P.qa f : EReal) := by
  have e : ∀ f : Fin 256, filled (proj P x) ⟨f, by omega⟩ = cq P x f := fun f => by
    rw [filled, dif_pos (by dsimp only; omega)]; rfl
  pointwise [k0_pay11]
  simp only [proj_row H, H.qa, bits_zero, EReal.coe_zero, zero_add, bits_256th, bits_eps]
  simp only [e]
  rfl

omit H in
theorem rope_filled64 (t C S : FVec Ideal S512x128 .f32) (T : Fin 64 → EReal) (ht : ∀ l, t (ix2 p l) = (filled64 T l : EReal))
    (hC : ∀ l : Fin 128, C (ix2 p l) = (c (wrap l) : EReal))
    (hS : ∀ l : Fin 128, S (ix2 p l) = (if l.val % 64 < 32 then -s (wrap l) else s (wrap l) : EReal))
    (l : Fin 128) : rope t C S (ix2 p l) = (filled64 (rot T c s) l : EReal) :=
  (rope_row p t C S (filled64 T) c s ht hC hS l).trans (rot_filled64 c s T l)

section Query

variable (h : Fin 4) (v : FVec Ideal S512x256 .bf16) (w : Vec Ideal S1x256x256 .bf16)
  (hv : ∀ f, v (ix2 p f) = (nrm (1 / 256) (cq P x) P.qa f : EReal))
  (hw : ∀ e f, w (ix3 (0 : Fin 1) e f) = (filled192 (fun e => P.wq f (atq h e)) e : EReal))
include hv hw

omit H in
theorem qraw_row (e : Fin 256) : k0_pay12 v w (ix2 p e) = (filled192 (qraw P x h) e : EReal) := by
  pointwise [k0_pay12]
  simp only [hv, hw, bits_zero, EReal.coe_zero, zero_add]
  unfold filled192
  split
  · rfl
  · simp

omit H in
theorem qlo_row (l : Fin 128) : k0_pay13 v w (ix2 p l) = (qraw P x h (lo192 l) : EReal) := by
  pointwise [k0_pay13]
  rw [qraw_row h v w hv hw, filled192, dif_pos (by dsimp only; omega)]

omit H in
theorem qhi_row (l : Fin 128) :
    k0_pay14 v w (ix2 p l) = (filled64 (fun e => qraw P x h (hi192 e)) l : EReal) := by
  pointwise [k0_pay14]
  rw [qraw_row h v w hv hw, filled192, filled64]
  by_cases hl : l.val < 64
  · rw [dif_pos (by dsimp only; omega), dif_pos hl]
  · rw [dif_neg (by dsimp only; omega), dif_neg hl]

omit H in
theorem qinv_row : k0_pay15 v w (ix2 p (0 : Fin 1)) = (inv (1 / 192) (qraw P x h) : EReal) := by
  pointwise [k0_pay15]
  simp only [qlo_row h v w hv hw, qhi_row h v w hv hw, bits_zero, EReal.coe_zero, zero_add, inv192_eq, bits_eps]
  rw [sum_filled64 fun e => qraw P x h (hi192 e), sum_head fun e => qraw P x h e * qraw P x h e, inv]

/-- The first 128 lanes of a query head. -/
theorem q_first (l : Fin 128) : k0_pay16 v w x9 (ix3 (0 : Fin 1) p l) = (qn P x h (lo192 l) : EReal) := by
  pointwise [k0_pay16]
  rw [qlo_row h v w hv hw, qinv_row h v w hv hw, H.qlo]
  rfl

/-- The last 128 lanes of a query head. -/
theorem q_last (l : Fin 128) : k0_pay2 (rope (k0_pay17 v w x10) x1 x2) (ix3 (0 : Fin 1) p l)
    = (filled64 (rot (fun e => qn P x h (hi192 e)) c s) l : EReal) := by
  pointwise [k0_pay2]
  refine rope_filled64 _ _ _ (fun e => qn P x h (hi192 e)) (fun l => ?_) H.cos H.sin l
  pointwise [k0_pay17]
  rw [qhi_row h v w hv hw, qinv_row h v w hv hw, H.qhi]
  unfold filled64
  split
  · rfl
  · simp

end Query

theorem ckv_row (l : Fin 128) : k0_pay45 (k0_pay10 x0 x3 x4) (ix2 p l) = (ckv P x l : EReal) := by
  pointwise [k0_pay45]
  rw [proj_row H, filled, dif_pos (by dsimp only; omega)]
  rfl

theorem kv_row (k : Fin 1024) : k0_pay49 (k0_pay45 (k0_pay10 x0 x3 x4)) (k0_pay46 (k0_pay10 x0 x3 x4)) x7 x8 (ix2 p k)
    = (∑ f, nrm (1 / 128) (ckv P x) P.kva f * P.wkv f k : EReal) := by
  pointwise [k0_pay49, k0_pay46]
  simp only [ckv_row H, H.kva, H.wkv, bits_zero, EReal.coe_zero, zero_add, bits_128th, bits_eps]
  rfl

theorem kpe_row (l : Fin 128) : k0_pay47 (k0_pay10 x0 x3 x4) (ix2 p l) = (filled64 (kpe P x) l : EReal) := by
  pointwise [k0_pay47]
  rw [proj_row H, filled, filled64]
  by_cases hl : l.val < 64
  · rw [dif_pos (by dsimp only; omega), dif_pos hl]; rfl
  · rw [dif_neg (by dsimp only; omega), dif_neg hl, dif_pos (by dsimp only; omega)]

theorem ss_row : k0_pay48 (k0_pay10 x0 x3 x4) (ix2 p (0 : Fin 1)) = (∑ e, kpe P x e * kpe P x e : EReal) := by
  pointwise [k0_pay48]
  simp only [kpe_row H, bits_zero, EReal.coe_zero, zero_add]
  exact sum_filled64 _

section Key

variable (h : Fin 4) (k : FVec Ideal S512x128 .f32) (hk : ∀ l : Fin 128, k (ix2 p l) = (kv P x h (lo256 l) : EReal))
include hk

theorem kinv_row : k0_pay65 (meansq k (k0_pay48 (k0_pay10 x0 x3 x4))) k0_pay64 (ix2 p (0 : Fin 1))
    = (inv (1 / 192) (kraw P x h) : EReal) := by
  have e0 : ∀ l : Fin 128, kv P x h (lo256 l) = kraw P x h (lo192 l) := fun l => by
    rw [kraw, dif_pos (by dsimp only; omega)]
  have e1 : ∀ e : Fin 64, kpe P x e = kraw P x h (hi192 e) := fun e => by
    rw [kraw, dif_neg (by dsimp only; omega)]; exact congrArg _ (Fin.ext (by dsimp only; omega))
  pointwise [k0_pay65, k0_pay64, meansq]
  simp only [hk, ss_row H, bits_zero, EReal.coe_zero, zero_add, inv192_eq, bits_eps, e0, e1]
  rw [sum_head fun e => kraw P x h e * kraw P x h e, inv]

/-- The first 128 lanes of a key head. -/
theorem k_first (l : Fin 128) : k0_pay66 k (meansq k (k0_pay48 (k0_pay10 x0 x3 x4))) k0_pay64 x11 (ix3 (0 : Fin 1) p l)
    = (kn P x h (lo192 l) : EReal) := by
  pointwise [k0_pay66]
  rw [hk, kinv_row H h k hk, H.klo, kn, nrm, kraw, dif_pos (by dsimp only; omega)]

/-- The last 128 lanes of a key head. -/
theorem k_last (l : Fin 128) : k0_pay67 x1 x2 (k0_pay47 (k0_pay10 x0 x3 x4)) (meansq k (k0_pay48 (k0_pay10 x0 x3 x4))) k0_pay64
    x12 (ix3 (0 : Fin 1) p l) = (filled64 (rot (fun e => kn P x h (hi192 e)) c s) l : EReal) := by
  change k0_pay2 (rope (mulf (mulf (k0_pay47 (k0_pay10 x0 x3 x4)) (broadcastTo S512x128
    (k0_pay65 (meansq k (k0_pay48 (k0_pay10 x0 x3 x4))) k0_pay64) broadcasts_S512x1_S512x128))
    (broadcastTo S512x128 (shapeCast S1x128 x12 shapeCasts_S1x128_S1x128) broadcasts_S1x128_S512x128)) x1 x2) _ = _
  pointwise [k0_pay2]
  refine rope_filled64 _ _ _ (fun e => kn P x h (hi192 e)) (fun l => ?_) H.cos H.sin l
  pointwise []
  rw [kpe_row H, kinv_row H h k hk, H.khi]
  unfold filled64
  split
  · show _ = nrm (1 / 192) (kraw P x h) P.k _
    rw [nrm, kraw, dif_neg (by dsimp only; omega)]
    exact congrArg (fun z => z * _ * _) (congrArg _ (Fin.ext (by dsimp only; omega)))
  · simp

end Key

/-- Two heads of 64 lanes side by side, normalised and rotated. -/
theorem pair_row (u : FVec Ideal S512x128 .f32) (g : FVec Ideal S1x128 .f32) (U : Fin 2 → Fin 64 → EReal) (G : Fin 64 → EReal)
    (hu : ∀ l, u (ix2 p l) = (U (side l) (lane l) : EReal)) (hg : ∀ l, g (ix2 (0 : Fin 1) l) = (G (lane l) : EReal))
    (l : Fin 128) : rope (halves u g) x1 x2 (ix2 p l) = (rot (nrm (1 / 64) (U (side l)) G) c s (lane l) : EReal) := by
  refine (rope_row p _ _ _ (fun l => nrm (1 / 64) (U (side l)) G (lane l)) c s (halves_row p u g U G hu hg) H.cos H.sin l).trans ?_
  refine congrArg (fun t => rot t c s (lane l)) (funext fun e => ?_)
  rw [show side (mate l e) = side l from Fin.ext (by show (l.val / 64 * 64 + e.val) / 64 = l / 64; omega),
    show lane (mate l e) = e from Fin.ext (by show (l.val / 64 * 64 + e.val) % 64 = e; omega)]

theorem late_row (k : ℕ) (hk : 512 ≤ k) (hk' : k < 1280) :
    k0_pay10 x0 x3 x4 (ix2 p ⟨k, hk'⟩) = (proj P x ⟨k - 64, by omega⟩ : EReal) := by
  rw [proj_row H, filled, dif_neg (by dsimp only; omega), dif_neg (by dsimp only; omega)]

/-- Both halves' lanes hold the first half's numbers. -/
theorem first_twice (u : FVec Ideal S512x128 .f32) (U : Fin 2 → Fin 64 → EReal)
    (hu : ∀ l, u (ix2 p l) = (U (side l) (lane l) : EReal)) (l : Fin 128) :
    select (broadcastTo S512x128 (shapeCast S1x128 k0_pay99 shapeCasts_S1x128_S1x128) broadcasts_S1x128_S512x128) u
      (dynamicRotate 1 64#32 none u rotates_S512x128_d1) (ix2 p l) = (U 0 (lane l) : EReal) := by
  pointwise [k0_pay99]
  rw [half_first, select_ite, hu, hu]
  by_cases h : l.val < 64
  · rw [if_pos h, show side l = 0 from Fin.ext (by show l.val / 64 = 0; omega)]
  · rw [if_neg h]
    exact congrArg₂ U (Fin.ext (by show (l.val + 128 - 64) % 128 / 64 = 0; omega))
      (Fin.ext (by show (l.val + 128 - 64) % 128 % 64 = l % 64; omega))

/-- Both halves' lanes hold the second half's numbers. -/
theorem second_twice (u : FVec Ideal S512x128 .f32) (U : Fin 2 → Fin 64 → EReal)
    (hu : ∀ l, u (ix2 p l) = (U (side l) (lane l) : EReal)) (l : Fin 128) :
    select (broadcastTo S512x128 (shapeCast S1x128 k0_pay99 shapeCasts_S1x128_S1x128) broadcasts_S1x128_S512x128)
      (dynamicRotate 1 64#32 none u rotates_S512x128_d1) u (ix2 p l) = (U 1 (lane l) : EReal) := by
  pointwise [k0_pay99]
  rw [half_first, select_ite, hu, hu]
  by_cases h : l.val < 64
  · rw [if_pos h]
    exact congrArg₂ U (Fin.ext (by show (l.val + 128 - 64) % 128 / 64 = 1; omega))
      (Fin.ext (by show (l.val + 128 - 64) % 128 % 64 = l % 64; omega))
  · rw [if_neg h, show side l = 1 from Fin.ext (by show l.val / 64 = 1; omega)]

end Cert.Prep

end
-- ==== Proof.PrepFwd.lean ====
/- What the kernel leaves in its six arrays: 16 blocks of 512 rows, each row the numbers of `PrepSpec`. -/
module

public import proofs.«01_k».proof.Proof.PrepRow
public import proofs.«01_k».proof.Proof.MixFwd
public import proofs.«01_k».proof.Proof.Gen.Kernel6Ideal.Value

@[expose] public section

set_option maxRecDepth 16384

noncomputable section

namespace Cert.Prep

open Idealize.ShloMosaic Idealize.ShloMosaic.TcCoe Idealize.SL.Sem
open Idealize.ShloMosaic.Pipeline (Dat)
open Cert.Kernel6Ideal Cert.Kernel6Ideal.Gen
open Cert.Mix (ld_slab)

/-- A row of a block of one slab, in the slab it came from. -/
theorem slab_at {p : Fin 512} {i : S1x512x128.Idx} (h1 : (p : ℕ) = i 1) : ∃ m : Fin 128, i = ix3 (0 : Fin 1) p m ∧ (i 2 : ℕ) = m :=
  ⟨i 2, funext fun a => Fin.ext (match a with
    | ⟨0, _⟩ => by have h : (i 0 : ℕ) < 1 := (i 0).isLt; show (i 0 : ℕ) = 0; omega
    | ⟨1, _⟩ => h1.symm | ⟨2, _⟩ => rfl), rfl⟩

theorem head_first (c s : Fin 32 → EReal) (t : Fin 192 → EReal) (m : Fin 128) (l : Fin 256) (hl : (l : ℕ) = m) :
    head c s t l = t (lo192 m) := by
  rw [head, dif_pos (by omega)]
  exact congrArg t (Fin.ext hl)
theorem head_last (c s : Fin 32 → EReal) (t : Fin 192 → EReal) (m : Fin 128) (l : Fin 256) (hl : (l : ℕ) = 128 + m) :
    head c s t l = filled64 (rot (fun e => t (hi192 e)) c s) m := by
  rw [head, dif_neg (by omega), filled64]
  by_cases h : m.val < 64
  · rw [dif_pos (by omega), dif_pos h]
    exact congrArg _ (Fin.ext (by dsimp only; omega))
  · rw [dif_neg (by omega), dif_neg h]

section Block

variable {P : Par} {x : Fin 1024 → EReal} {c s : Fin 32 → EReal} {p : Fin 512}
variable {x0 : Vec Ideal S512x1024 .f32} {x1 x2 : Vec Ideal S512x128 .f32} {x3 : Vec Ideal S1x1024 .f32}
  {x4 : Vec Ideal S1280x1024 .bf16} {x5 : Vec Ideal S1x256 .f32} {x6 : Vec Ideal S4x256x256 .bf16}
  {x7 : Vec Ideal S1x128 .f32} {x8 : Vec Ideal S1024x128 .bf16} {x9 x10 x11 x12 x13 x14 : Vec Ideal S1x128 .f32}
  (H : Blocks P x c s p x0 x1 x2 x3 x4 x5 x6 x7 x8 x9 x10 x11 x12 x13 x14)
include H

omit H in
theorem e103 : k0_pay103 x0 x1 x2 x3 x4 x5 x6 x7 x8 x9 x10 x11 x12 x13 x14 = x1 := by
  funext i; pointwise [k0_pay103, k0_pay8]
omit H in
theorem e104 : k0_pay104 x0 x1 x2 x3 x4 x5 x6 x7 x8 x9 x10 x11 x12 x13 x14 = x2 := by
  funext i; pointwise [k0_pay104, k0_pay9]
omit H in
theorem e105 : k0_pay105 x0 x1 x2 x3 x4 x5 x6 x7 x8 x9 x10 x11 x12 x13 x14 = k0_pay10 x0 x3 x4 := by
  rw [k0_pay105, View.ld_unit_lit, View.ld_unit_lit, View.ld_unit_lit] <;> decide
omit H in
theorem e106 : k0_pay106 x0 x1 x2 x3 x4 x5 x6 x7 x8 x9 x10 x11 x12 x13 x14 = k0_pay11 x0 x3 x4 x5 := by
  rw [k0_pay106, View.ld_unit_lit, View.ld_unit_lit, View.ld_unit_lit, View.ld_unit_lit] <;> decide
omit H in
theorem ld6 (v : Vec Ideal S1x128 .f32) : View.ld v r0_6 = v := by rw [View.ld_unit_lit] <;> decide
omit H in
theorem ld18 (v : Vec Ideal S1024x128 .bf16) : View.ld v r0_18 = v := by rw [View.ld_unit_lit] <;> decide

theorem w_slab (n : Fin 4) (inb) (e f : Fin 256) : View.ld x6 (Rect.unit (s := S4x256x256) ![(n : ℕ), 0, 0] S1x256x256.size inb)
    (ix3 (0 : Fin 1) e f) = (filled192 (fun e => P.wq f (atq n e)) e : EReal) :=
  (ld_slab x6 n inb e f).trans (H.wq n e f)

theorem qa_block (h : Fin 4) (l : Fin 256) : out0_15 x0 x1 x2 x3 x4 x5 x6 x7 x8 x9 x10 x11 x12 x13 x14 (ix3 h p l)
    = (qa P x c s h l : EReal) := by
  canon_tiles i hi
  all_goals
    obtain ⟨m, rfl, hm⟩ := slab_at hi1
    rw [hm] at hi2
    replace hi2 : (l : ℕ) = _ := hi2
    replace hi0 : (h : ℕ) = _ := hi0
    rw [qa, e106]
  · rw [show h = 3 from Fin.ext hi0, head_last c s _ m l hi2, k0_pay107, e103, e104, e106, ld6]
    exact q_last H 3 _ _ (cqn_row H) (w_slab H 3 _) m
  · rw [show h = 3 from Fin.ext hi0, head_first c s _ m l hi2, k0_pay107, e106, ld6]
    exact q_first H 3 _ _ (cqn_row H) (w_slab H 3 _) m
  · rw [show h = 2 from Fin.ext hi0, head_last c s _ m l hi2, e103, e104, ld6]
    exact q_last H 2 _ _ (cqn_row H) (w_slab H 2 _) m
  · rw [show h = 2 from Fin.ext hi0, head_first c s _ m l hi2, ld6]
    exact q_first H 2 _ _ (cqn_row H) (w_slab H 2 _) m
  · rw [show h = 1 from Fin.ext hi0, head_last c s _ m l hi2, e103, e104, ld6]
    exact q_last H 1 _ _ (cqn_row H) (w_slab H 1 _) m
  · rw [show h = 1 from Fin.ext hi0, head_first c s _ m l hi2, ld6]
    exact q_first H 1 _ _ (cqn_row H) (w_slab H 1 _) m
  · rw [show h = 0 from Fin.ext hi0, head_last c s _ m l hi2, e103, e104, ld6]
    exact q_last H 0 _ _ (cqn_row H) (w_slab H 0 _) m
  · rw [show h = 0 from Fin.ext hi0, head_first c s _ m l hi2, ld6]
    exact q_first H 0 _ _ (cqn_row H) (w_slab H 0 _) m

/-- The widened keys and values of a block. -/
abbrev wide (x0 : Vec Ideal S512x1024 .f32) (x3 : Vec Ideal S1x1024 .f32) (x4 : Vec Ideal S1280x1024 .bf16)
    (x7 : Vec Ideal S1x128 .f32) (x8 : Vec Ideal S1024x128 .bf16) : FVec Ideal S512x1024 .f32 :=
  k0_pay49 (k0_pay45 (k0_pay10 x0 x3 x4)) (k0_pay46 (k0_pay10 x0 x3 x4)) x7 x8

omit H in
theorem e112 : k0_pay112 x0 x1 x2 x3 x4 x5 x6 x7 x8 x9 x10 x11 x12 x13 x14 = wide x0 x3 x4 x7 x8 := by
  rw [k0_pay112, k0_pay108, k0_pay109, e105, ld6, ld18]

theorem kv_at (h : Fin 4) (e : Fin 256) (k : ℕ) (hk : k < 1024) (hke : k = h * 256 + e) :
    wide x0 x3 x4 x7 x8 (ix2 p ⟨k, hk⟩) = (kv P x h e : EReal) := by
  subst hke; exact kv_row H _

theorem k0_at (l : Fin 128) : k0_pay50 (k0_pay45 (k0_pay10 x0 x3 x4)) (k0_pay46 (k0_pay10 x0 x3 x4)) x7 x8 (ix2 p l)
    = (kv P x 0 (lo256 l) : EReal) := by
  pointwise [k0_pay50]; exact kv_at H 0 _ _ _ (by show l.val = 0 * 256 + l.val; omega)
theorem k1_at (l : Fin 128) : k0_pay56 (wide x0 x3 x4 x7 x8) (ix2 p l) = (kv P x 1 (lo256 l) : EReal) := by
  pointwise [k0_pay56]; exact kv_at H 1 _ _ _ rfl
theorem k2_at (l : Fin 128) : k0_pay62 (wide x0 x3 x4 x7 x8) (ix2 p l) = (kv P x 2 (lo256 l) : EReal) := by
  pointwise [k0_pay62]; exact kv_at H 2 _ _ _ rfl
theorem k3_at (l : Fin 128) : k0_pay69 (wide x0 x3 x4 x7 x8) (ix2 p l) = (kv P x 3 (lo256 l) : EReal) := by
  pointwise [k0_pay69]; exact kv_at H 3 _ _ _ rfl

theorem ka_block (h : Fin 4) (l : Fin 256) : out0_16 x0 x1 x2 x3 x4 x5 x6 x7 x8 x9 x10 x11 x12 x13 x14 (ix3 h p l)
    = (ka P x c s h l : EReal) := by
  canon_tiles i hi
  all_goals
    obtain ⟨m, rfl, hm⟩ := slab_at hi1
    rw [hm] at hi2
    replace hi2 : (l : ℕ) = _ := hi2
    replace hi0 : (h : ℕ) = _ := hi0
    rw [ka]
  · rw [show h = 3 from Fin.ext hi0, head_last c s _ m l hi2, k0_pay110, k0_pay111, e103, e104, e105, e112, ld6]
    exact k_last H 3 _ (k3_at H) m
  · rw [show h = 3 from Fin.ext hi0, head_first c s _ m l hi2, k0_pay111, e105, e112, ld6]
    exact k_first H 3 _ (k3_at H) m
  · rw [show h = 2 from Fin.ext hi0, head_last c s _ m l hi2, k0_pay113, k0_pay114, k0_pay110, k0_pay111, e103, e104, e105, e112, ld6]
    exact k_last H 2 _ (k2_at H) m
  · rw [show h = 2 from Fin.ext hi0, head_first c s _ m l hi2, k0_pay113, k0_pay114, k0_pay111, e105, e112, ld6]
    exact k_first H 2 _ (k2_at H) m
  · rw [show h = 1 from Fin.ext hi0, head_last c s _ m l hi2, k0_pay110, k0_pay111, e103, e104, e105, e112, ld6]
    exact k_last H 1 _ (k1_at H) m
  · rw [show h = 1 from Fin.ext hi0, head_first c s _ m l hi2, k0_pay111, e105, e112, ld6]
    exact k_first H 1 _ (k1_at H) m
  · rw [show h = 0 from Fin.ext hi0, head_last c s _ m l hi2, k0_pay108, k0_pay109, e103, e104, e105, ld6, ld6, ld18]
    exact k_last H 0 _ (k0_at H) m
  · rw [show h = 0 from Fin.ext hi0, head_first c s _ m l hi2, k0_pay108, k0_pay109, e105, ld6, ld6, ld18]
    exact k_first H 0 _ (k0_at H) m

theorem va_block (h : Fin 4) (l : Fin 128) : out0_17 x0 x1 x2 x3 x4 x5 x6 x7 x8 x9 x10 x11 x12 x13 x14 (ix3 h p l)
    = (va P x h l : EReal) := by
  canon_tiles i hi
  all_goals
    obtain ⟨m, rfl, hm⟩ := slab_at hi1
    rw [hm] at hi2
    obtain rfl : l = m := Fin.ext hi2
    replace hi0 : (h : ℕ) = _ := hi0
    rw [va, e112]
  · pointwise [k0_pay74]; exact kv_at H h _ _ _ (by dsimp only; omega)
  · pointwise [k0_pay68]; exact kv_at H h _ _ _ (by dsimp only; omega)
  · pointwise [k0_pay61]; exact kv_at H h _ _ _ (by dsimp only; omega)
  · pointwise [k0_pay55]; exact kv_at H h _ _ _ (by dsimp only; omega)

/-- The columns of the second pair of local query heads, and of the first. -/
def cut1 (pr : FVec Ideal S512x1280 .f32) : FVec Ideal S512x128 .f32 :=
  extractStridedSlice S512x128 ![0, 640] pr slices_S512x1280_o0_640_S512x128
def cut0 (pr : FVec Ideal S512x1280 .f32) : FVec Ideal S512x128 .f32 :=
  extractStridedSlice S512x128 ![0, 512] pr slices_S512x1280_o0_512_S512x128

omit H in
theorem pair3 (pr : FVec Ideal S512x1280 .f32) (g : Vec Ideal S1x128 .f32) : k0_pay92 x1 x2 (k0_pay86 pr) (k0_pay87 g) k0_pay89
    (k0_pay90 pr) (k0_pay91 pr) = k0_pay2 (rope (halves (k0_pay86 pr) g) x1 x2) := by
  simp only [k0_pay92, k0_pay87, k0_pay90, k0_pay91, k0_pay88, k0_pay89, k0_pay2, rope, halves, k0_pay19, k0_pay99]
omit H in
theorem pair2 (pr : FVec Ideal S512x1280 .f32) (g : Vec Ideal S1x128 .f32) : k0_pay85 x1 x2 (k0_pay82 pr) (k0_pay83 g)
    (k0_pay84 pr) = k0_pay2 (rope (halves (k0_pay82 pr) g) x1 x2) := by
  simp only [k0_pay85, k0_pay83, k0_pay84, k0_pay2, rope, halves, k0_pay19, k0_pay99]
omit H in
theorem pair1 (pr : FVec Ideal S512x1280 .f32) (g : Vec Ideal S1x128 .f32) : k0_pay81 x1 x2 (k0_pay79 g) (k0_pay80 pr)
    = k0_pay2 (rope (halves (cut1 pr) g) x1 x2) := by
  simp only [k0_pay81, k0_pay79, k0_pay80, cut1, k0_pay2, rope, halves, k0_pay19, k0_pay99]
omit H in
theorem pair0 (pr : FVec Ideal S512x1280 .f32) (g : Vec Ideal S1x128 .f32) : k0_pay78 x2 (k0_pay75 pr g) (k0_pay76 x1 pr g)
    k0_pay77 0#32
    = k0_pay2 (rope (halves (cut0 pr) g) x1 x2) := by
  simp only [k0_pay78, k0_pay76, k0_pay77, k0_pay75, cut0, k0_pay2, rope, halves, k0_pay19, k0_pay99]
omit H in
theorem pairk (pr : FVec Ideal S512x1280 .f32) (g : Vec Ideal S1x128 .f32) : k0_pay98 x1 x2 (k0_pay93 pr) (k0_pay94 g)
    (k0_pay95 pr) k0_pay96 (k0_pay97 pr) = rope (halves (k0_pay93 pr) g) x1 x2 := by
  simp only [k0_pay98, k0_pay94, k0_pay95, k0_pay96, k0_pay97, rope, halves, k0_pay19, k0_pay99]

/-- The column of lane `l` of pair `h` of the local queries. -/
abbrev pairAt (h : Fin 4) (l : Fin 128) : Fin 1216 := ⟨448 + 128 * h + l, by omega⟩

theorem slice_at (h : Fin 4) (k : ℕ) (hk : k < 1280) (l : Fin 128) (e : k = 512 + 128 * h + l) :
    k0_pay10 x0 x3 x4 (ix2 p ⟨k, hk⟩) = (proj P x (pairAt h l) : EReal) := by
  rw [late_row H _ (by omega) hk]
  exact congrArg (proj P x) (Fin.ext (by show k - 64 = 448 + 128 * h.val + l.val; omega))

theorem slice3 (l : Fin 128) : k0_pay86 (k0_pay10 x0 x3 x4) (ix2 p l) = (proj P x (pairAt 3 l) : EReal) := by
  pointwise [k0_pay86]; exact slice_at H 3 _ _ l rfl
theorem slice2 (l : Fin 128) : k0_pay82 (k0_pay10 x0 x3 x4) (ix2 p l) = (proj P x (pairAt 2 l) : EReal) := by
  pointwise [k0_pay82]; exact slice_at H 2 _ _ l rfl
theorem slice1 (l : Fin 128) : cut1 (k0_pay10 x0 x3 x4) (ix2 p l) = (proj P x (pairAt 1 l) : EReal) := by
  pointwise [cut1]; exact slice_at H 1 _ _ l rfl
theorem slice0 (l : Fin 128) : cut0 (k0_pay10 x0 x3 x4) (ix2 p l) = (proj P x (pairAt 0 l) : EReal) := by
  pointwise [cut0]; exact slice_at H 0 _ _ l rfl

theorem q_pair (h : Fin 4) (u : FVec Ideal S512x128 .f32)
    (hu : ∀ l : Fin 128, u (ix2 p l) = (proj P x (pairAt h l) : EReal)) (l : Fin 128) :
    k0_pay2 (rope (halves u x13) x1 x2) (ix3 (0 : Fin 1) p l) = (qb P x c s h l : EReal) := by
  pointwise [k0_pay2]
  refine (pair_row H u x13 (fun b => Cert.Prep.sq P x ⟨2 * h + b, by omega⟩) P.sq (fun l => ?_) H.sq l).trans rfl
  rw [hu]
  exact congrArg (proj P x) (Fin.ext (by show 448 + 128 * h.val + l.val = 448 + (2 * h.val + l.val / 64) * 64 + l.val % 64; omega))

theorem qb_block (h : Fin 4) (l : Fin 128) : out0_18 x0 x1 x2 x3 x4 x5 x6 x7 x8 x9 x10 x11 x12 x13 x14 (ix3 h p l)
    = (qb P x c s h l : EReal) := by
  canon_tiles i hi
  all_goals
    obtain ⟨m, rfl, hm⟩ := slab_at hi1
    rw [hm] at hi2
    obtain rfl : l = m := Fin.ext hi2
    replace hi0 : (h : ℕ) = _ := hi0
    rw [e103, e104, e105, ld6]
  · rw [show h = 3 from Fin.ext hi0, pair3]
    exact q_pair H 3 (k0_pay86 (k0_pay10 x0 x3 x4)) (slice3 H) l
  · rw [show h = 2 from Fin.ext hi0, pair2]
    exact q_pair H 2 (k0_pay82 (k0_pay10 x0 x3 x4)) (slice2 H) l
  · rw [show h = 1 from Fin.ext hi0, pair1]
    exact q_pair H 1 (cut1 (k0_pay10 x0 x3 x4))
      (slice1 H) l
  · rw [show h = 0 from Fin.ext hi0, pair0]
    exact q_pair H 0 (cut0 (k0_pay10 x0 x3 x4))
      (slice0 H) l

omit H in
theorem store2 (v : FVec Ideal S512x128 .f32) (p : Fin 512) (l : Fin 128) : k0_pay2 v (ix3 (0 : Fin 1) p l) = (v (ix2 p l) : EReal) := by
  pointwise [k0_pay2]
omit H in
theorem store1 (v : FVec Ideal S512x128 .bf16) (p : Fin 512) (l : Fin 128) : k0_pay1 v (ix3 (0 : Fin 1) p l) = (v (ix2 p l) : EReal) := by
  pointwise [k0_pay1]

theorem k_pair (l : Fin 128) : rope (halves (k0_pay93 (k0_pay10 x0 x3 x4)) x14) x1 x2 (ix2 p l)
    = (rot (nrm (1 / 64) (Cert.Prep.sk P x (side l)) P.sk) c s (lane l) : EReal) := by
  refine pair_row H _ x14 (Cert.Prep.sk P x) P.sk (fun l => ?_) H.sk l
  pointwise [k0_pay93]
  rw [late_row H _ (by omega) (by omega)]
  exact congrArg (proj P x) (Fin.ext (by show 1024 + l.val - 64 = 960 + l.val / 64 * 64 + l.val % 64; omega))

theorem kb_block (h : Fin 2) (l : Fin 128) : out0_19 x0 x1 x2 x3 x4 x5 x6 x7 x8 x9 x10 x11 x12 x13 x14 (ix3 h p l)
    = (kb P x c s h l : EReal) := by
  canon_tiles i hi
  all_goals
    obtain ⟨m, rfl, hm⟩ := slab_at hi1
    rw [hm] at hi2
    obtain rfl : l = m := Fin.ext hi2
    replace hi0 : (h : ℕ) = _ := hi0
    rw [k0_pay115, k0_pay116, k0_pay117, k0_pay118, k0_pay119, e103, e104, e105, ld6]
  · rw [show h = 1 from Fin.ext hi0]
    rw [k0_pay101, k0_pay100, pairk]
    refine (store2 _ p l).trans ?_
    exact second_twice H (rope (halves (k0_pay93 (k0_pay10 x0 x3 x4)) x14) x1 x2) (fun b => rot (nrm (1 / 64) (Cert.Prep.sk P x b) P.sk) c s) (k_pair H) l
  · rw [show h = 0 from Fin.ext hi0]
    rw [k0_pay102, k0_pay100, pairk]
    refine (store1 _ p l).trans ?_
    exact first_twice H (rope (halves (k0_pay93 (k0_pay10 x0 x3 x4)) x14) x1 x2) (fun b => rot (nrm (1 / 64) (Cert.Prep.sk P x b) P.sk) c s) (k_pair H) l

theorem v_pair (l : Fin 128) : k0_pay3 (k0_pay10 x0 x3 x4) (ix2 p l) = (Cert.Prep.sv P x (side l) (lane l) : EReal) := by
  pointwise [k0_pay3]
  rw [late_row H _ (by omega) (by omega)]
  exact congrArg (proj P x) (Fin.ext (by show 1152 + l.val - 64 = 1088 + l.val / 64 * 64 + l.val % 64; omega))

theorem vb_block (h : Fin 2) (l : Fin 128) : out0_20 x0 x1 x2 x3 x4 x5 x6 x7 x8 x9 x10 x11 x12 x13 x14 (ix3 h p l)
    = (vb P x h l : EReal) := by
  canon_tiles i hi
  all_goals
    obtain ⟨m, rfl, hm⟩ := slab_at hi1
    rw [hm] at hi2
    obtain rfl : l = m := Fin.ext hi2
    replace hi0 : (h : ℕ) = _ := hi0
    rw [e105]
  · rw [show h = 1 from Fin.ext hi0]
    exact (show _ = _ by pointwise [k0_pay7, k0_pay5, k0_pay4, k0_pay99]).trans (second_twice H _ (Cert.Prep.sv P x) (v_pair H) l)
  · rw [show h = 0 from Fin.ext hi0]
    exact (show _ = _ by pointwise [k0_pay6, k0_pay5, k0_pay4, k0_pay99]).trans (first_twice H _ (Cert.Prep.sv P x) (v_pair H) l)

end Block

end Cert.Prep

end
-- ==== Proof.PrepRef.lean ====
/- What the projections' reference computes, stage by stage at an index: each stage holds the numbers of `PrepSpec`. -/
module

public import proofs.«01_k».proof.Proof.PrepSpec
public import proofs.«01_k».proof.Proof.AttRef
public import proofs.«01_k».proof.Proof.Gen.Reference6Ideal.Read

@[expose] public section

set_option maxRecDepth 16384

noncomputable section

namespace Cert.Prep

open Idealize.ShloMosaic Idealize.SL.Sem
open Cert.Reference6Ideal Cert.Reference6Ideal.Gen Cert.Reference6Ideal.Read
open Cert.Ffn (bits_eps bits_1024)
open Cert.Att (bits_192)

theorem bits_256 : Ideal.ofBits .f32 0x43800000#32 = ((256 : ℝ) : EReal) := by
  simp [Ideal.ofBits, Ideal.ieee, -EReal.coe_mul]; norm_num
theorem bits_128 : Ideal.ofBits .f32 0x43000000#32 = ((128 : ℝ) : EReal) := by
  simp [Ideal.ofBits, Ideal.ieee, -EReal.coe_mul]; norm_num
theorem bits_64 : Ideal.ofBits .f32 0x42800000#32 = ((64 : ℝ) : EReal) := by
  simp [Ideal.ofBits, Ideal.ieee, -EReal.coe_mul]; norm_num

/-- The cosines and sines of token `i`. -/
def cosRow (i : Fin 8192) (e : Fin 32) : EReal := val_main_v17 (F := Ideal) (ix2 i e)
def sinRow (i : Fin 8192) (e : Fin 32) : EReal := val_main_v18 (F := Ideal) (ix2 i e)

/-- The reference's arguments: the token rows and the parameters. -/
structure RefArgs (P : Par) (X : Fin 8192 → Fin 1024 → EReal) (x0 : FVec Ideal S8192x1024 .f32) (x1 : FVec Ideal S1024 .f32)
    (x2 : FVec Ideal S1024x1216 .f32) (x3 : FVec Ideal S256 .f32) (x4 : FVec Ideal S256x768 .f32) (x5 : FVec Ideal S128 .f32)
    (x6 : FVec Ideal S128x1024 .f32) (x7 x8 : FVec Ideal S192 .f32) (x9 x10 : FVec Ideal S64 .f32) : Prop where
  x : ∀ i k, x0 (ix2 i k) = (X i k : EReal)
  mix : ∀ k, x1 (ix1 k) = (P.mix k : EReal)
  win : ∀ d k, x2 (ix2 d k) = (P.win d k : EReal)
  qa : ∀ f, x3 (ix1 f) = (P.qa f : EReal)
  wq : ∀ f k, x4 (ix2 f k) = (P.wq f k : EReal)
  kva : ∀ f, x5 (ix1 f) = (P.kva f : EReal)
  wkv : ∀ f k, x6 (ix2 f k) = (P.wkv f k : EReal)
  q : ∀ e, x7 (ix1 e) = (P.q e : EReal)
  k : ∀ e, x8 (ix1 e) = (P.k e : EReal)
  sq : ∀ e, x9 (ix1 e) = (P.sq e : EReal)
  sk : ∀ e, x10 (ix1 e) = (P.sk e : EReal)

/-- The rotary embedding in the first half, and in the second, at lane `e` of 32. -/
theorem rot_lo (t : Fin 64 → EReal) (c s : Fin 32 → EReal) (e : Fin 64) (h : e.val < 32) :
    rot t c s e = t ⟨e, by omega⟩ * c ⟨e, h⟩ - t ⟨e + 32, by omega⟩ * s ⟨e, h⟩ := by
  rw [rot, dif_pos h]
theorem rot_hi (t : Fin 64 → EReal) (c s : Fin 32 → EReal) (e : Fin 64) (h : ¬ e.val < 32) :
    rot t c s e = t ⟨e - 32 + 32, by omega⟩ * c ⟨e - 32, by omega⟩ + t ⟨e - 32, by omega⟩ * s ⟨e - 32, by omega⟩ := by
  rw [rot, dif_neg h, show (⟨e - 32 + 32, by omega⟩ : Fin 64) = e from Fin.ext (by dsimp only; omega)]

/-- Two arrays joined along the last axis: an index before the first one's end, and one behind it. -/
theorem joined_left {α : Type} {g a b n : ℕ} (u : Shape.Idx ⟨3, ![8192, g, a]⟩ → α) (v : Shape.Idx ⟨3, ![8192, g, b]⟩ → α)
    (hc : Shape.Concatenates [⟨3, ![8192, g, a]⟩, ⟨3, ![8192, g, b]⟩] ⟨3, ![8192, g, n]⟩ 2) (i : Fin 8192) (h : Fin g) (e : Fin n)
    (he : e.val < a) : concatenate ⟨3, ![8192, g, n]⟩ 2 [⟨_, u⟩, ⟨_, v⟩] hc (ix3 i h e) = u (ix3 i h ⟨e, he⟩) :=
  concatenate_pair_apply_left (t := ⟨3, ![8192, g, n]⟩) (s₁ := ⟨3, ![8192, g, a]⟩) 2 _ _ _ (ix3 i h e) rfl
    (ix3 i h (⟨e, he⟩ : Fin a)) (fun a => match a with | ⟨0, _⟩ => rfl | ⟨1, _⟩ => rfl | ⟨2, _⟩ => rfl)
theorem joined_right {α : Type} {g a b n : ℕ} (u : Shape.Idx ⟨3, ![8192, g, a]⟩ → α) (v : Shape.Idx ⟨3, ![8192, g, b]⟩ → α)
    (hc : Shape.Concatenates [⟨3, ![8192, g, a]⟩, ⟨3, ![8192, g, b]⟩] ⟨3, ![8192, g, n]⟩ 2) (i : Fin 8192) (h : Fin g) (e : Fin n)
    (he : ¬ e.val < a) (hb : e.val - a < b) :
    concatenate ⟨3, ![8192, g, n]⟩ 2 [⟨_, u⟩, ⟨_, v⟩] hc (ix3 i h e) = v (ix3 i h ⟨e - a, hb⟩) :=
  concatenate_pair_apply_right (t := ⟨3, ![8192, g, n]⟩) (s₁ := ⟨3, ![8192, g, a]⟩) (s₂ := ⟨3, ![8192, g, b]⟩) 2 _ _ _ (ix3 i h e)
    rfl rfl (ix3 i h (⟨e - a, hb⟩ : Fin b)) (fun a => match a with
      | ⟨0, _⟩ => fun _ => rfl | ⟨1, _⟩ => fun _ => rfl | ⟨2, _⟩ => fun h => absurd rfl h)
    (Nat.sub_add_cancel (not_lt.1 he))

/-- The two rotated halves of a head, joined, are its rotary embedding. -/
theorem rotated {g : ℕ} (u v : Shape.Idx ⟨3, ![8192, g, 32]⟩ → EReal)
    (hc : Shape.Concatenates [⟨3, ![8192, g, 32]⟩, ⟨3, ![8192, g, 32]⟩] ⟨3, ![8192, g, 64]⟩ 2) (i : Fin 8192) (h : Fin g)
    (t : Fin 64 → EReal) (c s : Fin 32 → EReal)
    (hu : ∀ e : Fin 32, u (ix3 i h e) = t ⟨e, by omega⟩ * c e - t ⟨e + 32, by omega⟩ * s e)
    (hv : ∀ e : Fin 32, v (ix3 i h e) = t ⟨e + 32, by omega⟩ * c e + t ⟨e, by omega⟩ * s e) (e : Fin 64) :
    concatenate ⟨3, ![8192, g, 64]⟩ 2 [⟨_, u⟩, ⟨_, v⟩] hc (ix3 i h e) = rot t c s e := by
  by_cases he : e.val < 32
  · rw [rot_lo _ _ _ e he, joined_left u v hc i h e he, hu]
  · rw [rot_hi _ _ _ e he, joined_right u v hc i h e he (by omega), hv]

/-- A head beside itself: lane `l` of 128 is lane `l` modulo 64. -/
theorem repeated (u : FVec Ideal S8192x2x64 .f32) (i : Fin 8192) (h : Fin 2) (l : Fin 128) :
    concatenate S8192x2x128 2 [⟨S8192x2x64, u⟩, ⟨S8192x2x64, u⟩] concatenates_S8192x2x64_S8192x2x64_S8192x2x128_d2 (ix3 i h l)
      = u (ix3 i h (lane l)) := by
  by_cases he : l.val < 64
  · rw [joined_left u u _ i h l he]
    exact congrArg (fun e : Fin 64 => u (ix3 i h e)) (Fin.ext (by show l.val = l.val % 64; omega))
  · rw [joined_right u u _ i h l he (by omega)]
    exact congrArg (fun e : Fin 64 => u (ix3 i h e)) (Fin.ext (by show l.val - 64 = l.val % 64; omega))

/-- The lanes of a head without a position and the rotated ones, joined and filled up with zeros. -/
theorem filled_head (u : FVec Ideal S8192x4x128 .f32) (v : FVec Ideal S8192x4x64 .f32) (z : FVec Ideal S_ .f32)
    (i : Fin 8192) (h : Fin 4) (t : Fin 192 → EReal) (c s : Fin 32 → EReal)
    (hu : ∀ e : Fin 128, u (ix3 i h e) = t ⟨e, by omega⟩) (hv : ∀ e, v (ix3 i h e) = rot (fun e => t (hi192 e)) c s e)
    (hz : ∀ j, z j = 0) (l : Fin 256) :
    pad S8192x4x256 ![0, 0, 0] ![0, 0, 64] ![0, 0, 0] (concatenate S8192x4x192 2 [⟨S8192x4x128, u⟩, ⟨S8192x4x64, v⟩]
      concatenates_S8192x4x128_S8192x4x64_S8192x4x192_d2) z pads_S8192x4x192_S8192x4x256_000_000_0640 h_S_ (ix3 i h l)
      = head c s t l := by
  rw [head]
  by_cases hl : l.val < 192
  · refine (pad_apply_of_inside _ _ _ _ _ _ _ _ (ix3 i h (⟨l, hl⟩ : Fin 192)) fun a => ?_).trans ?_
    · fin_cases a <;> simp [ix3]
    split
    · next he => exact (joined_left u v _ i h ⟨l, hl⟩ he).trans (hu ⟨l, he⟩)
    · next he => exact (joined_right u v _ i h ⟨l, hl⟩ he (by dsimp only; omega)).trans (hv _)
  · rw [pad_apply_of_not_inside _ _ _ _ _ _ _ _ (2 : Fin 3) (by simp [ix3]; omega), dif_neg (by omega), dif_neg hl]
    exact hz _

section

variable {P : Par} {X : Fin 8192 → Fin 1024 → EReal} {x0 : FVec Ideal S8192x1024 .f32} {x1 : FVec Ideal S1024 .f32}
    {x2 : FVec Ideal S1024x1216 .f32} {x3 : FVec Ideal S256 .f32} {x4 : FVec Ideal S256x768 .f32} {x5 : FVec Ideal S128 .f32}
    {x6 : FVec Ideal S128x1024 .f32} {x7 x8 : FVec Ideal S192 .f32} {x9 x10 : FVec Ideal S64 .f32}
    (H : RefArgs P X x0 x1 x2 x3 x4 x5 x6 x7 x8 x9 x10) (i : Fin 8192)
include H

/-! ## The input projection and the latent vectors -/

theorem ref_inv : val_main_v26 (F := Ideal) x0 (ix2 i 0) = (inv (1 / 1024) (X i) : EReal) := by
  pointwise [val_main_v26, val_main_v25, val_main_v24, val_main_v23, val_main_v22, val_main_v21, val_main_v20, val_main_v19,
    val_main_cst_4, val_main_cst_5, val_main_cst_6]
  simp only [H.x, bits_1024, bits_eps, zero_add]
  rw [Ideal.div_coe (by norm_num)]; rfl

theorem ref_norm (d : Fin 1024) : val_main_v31 (F := Ideal) x0 x1 (ix2 i d) = (nrm (1 / 1024) (X i) P.mix d : EReal) := by
  pointwise [val_main_v31, val_main_v30, val_main_v29, val_main_v28, val_main_v27]
  rw [ref_inv H, H.x, H.mix]; rfl

theorem ref_proj (k : Fin 1216) : val_main_v32 (F := Ideal) x0 x1 x2 (ix2 i k) = (proj P (X i) k : EReal) := by
  pointwise [val_main_v32]
  simp only [ref_norm H, H.win]; rfl

theorem ref_cq (f : Fin 256) : val_main_v33 (F := Ideal) x0 x1 x2 (ix2 i f) = (cq P (X i) f : EReal) := by
  pointwise [val_main_v33]
  exact ref_proj H i _
theorem ref_ckv (f : Fin 128) : val_main_v34 (F := Ideal) x0 x1 x2 (ix2 i f) = (ckv P (X i) f : EReal) := by
  pointwise [val_main_v34]
  exact ref_proj H i _
theorem ref_kpe (e : Fin 64) : val_main_v35 (F := Ideal) x0 x1 x2 (ix2 i e) = (kpe P (X i) e : EReal) := by
  pointwise [val_main_v35]
  exact ref_proj H i _

theorem ref_qinv : val_main_v46 (F := Ideal) x0 x1 x2 (ix2 i 0) = (inv (1 / 256) (cq P (X i)) : EReal) := by
  pointwise [val_main_v46, val_main_v45, val_main_v44, val_main_v43, val_main_v42, val_main_v41, val_main_v40, val_main_v39,
    val_main_cst_7, val_main_cst_8, val_main_cst_9]
  simp only [ref_cq H, bits_256, bits_eps, zero_add]
  rw [Ideal.div_coe (by norm_num)]; rfl
theorem ref_qnorm (f : Fin 256) : val_main_v51 (F := Ideal) x0 x1 x2 x3 (ix2 i f)
    = (nrm (1 / 256) (cq P (X i)) P.qa f : EReal) := by
  pointwise [val_main_v51, val_main_v50, val_main_v49, val_main_v48, val_main_v47]
  rw [ref_qinv H, ref_cq H, H.qa]; rfl
theorem ref_qraw (h : Fin 4) (e : Fin 192) : val_main_v53 (F := Ideal) x0 x1 x2 x3 x4 (ix3 i h e)
    = (qraw P (X i) h e : EReal) := by
  pointwise [val_main_v53, val_main_v52]
  simp only [ref_qnorm H, H.wq]; rfl

theorem ref_kinv : val_main_v61 (F := Ideal) x0 x1 x2 (ix2 i 0) = (inv (1 / 128) (ckv P (X i)) : EReal) := by
  pointwise [val_main_v61, val_main_v60, val_main_v59, val_main_v58, val_main_v57, val_main_v56, val_main_v55, val_main_v54,
    val_main_cst_10, val_main_cst_11, val_main_cst_12]
  simp only [ref_ckv H, bits_128, bits_eps, zero_add]
  rw [Ideal.div_coe (by norm_num)]; rfl
theorem ref_knorm (f : Fin 128) : val_main_v66 (F := Ideal) x0 x1 x2 x5 (ix2 i f)
    = (nrm (1 / 128) (ckv P (X i)) P.kva f : EReal) := by
  pointwise [val_main_v66, val_main_v65, val_main_v64, val_main_v63, val_main_v62]
  rw [ref_kinv H, ref_ckv H, H.kva]; rfl
theorem ref_kv (h : Fin 4) (e : Fin 256) : val_main_v68 (F := Ideal) x0 x1 x2 x5 x6 (ix3 i h e) = (kv P (X i) h e : EReal) := by
  pointwise [val_main_v68, val_main_v67]
  simp only [ref_knorm H, H.wkv]; rfl

theorem ref_kraw (h : Fin 4) (e : Fin 192) : val_main_v73 (F := Ideal) x0 x1 x2 x5 x6 (ix3 i h e)
    = (kraw P (X i) h e : EReal) := by
  unfold val_main_v73
  rw [kraw]
  split
  · next he =>
    refine (joined_left _ _ _ i h e he).trans ?_
    pointwise [val_main_v69]
    exact ref_kv H i h _
  · next he =>
    refine (joined_right _ _ _ i h e he (by omega)).trans ?_
    pointwise [val_main_v72, val_main_v71]
    exact ref_kpe H i _

/-! ## The heads' norms -/

theorem ref_qninv (h : Fin 4) : val_main_v81 (F := Ideal) x0 x1 x2 x3 x4 (ix3 i h 0)
    = (inv (1 / 192) (qraw P (X i) h) : EReal) := by
  pointwise [val_main_v81, val_main_v80, val_main_v79, val_main_v78, val_main_v77, val_main_v76, val_main_v75, val_main_v74,
    val_main_cst_13, val_main_cst_14, val_main_cst_15]
  simp only [ref_qraw H, bits_192, bits_eps, zero_add]
  rw [Ideal.div_coe (by norm_num)]; rfl
theorem ref_qn (h : Fin 4) (e : Fin 192) : val_main_v86 (F := Ideal) x0 x1 x2 x3 x4 x7 (ix3 i h e)
    = (qn P (X i) h e : EReal) := by
  pointwise [val_main_v86, val_main_v85, val_main_v84, val_main_v83, val_main_v82]
  rw [ref_qninv H, ref_qraw H, H.q]; rfl
theorem ref_kninv (h : Fin 4) : val_main_v94 (F := Ideal) x0 x1 x2 x5 x6 (ix3 i h 0)
    = (inv (1 / 192) (kraw P (X i) h) : EReal) := by
  pointwise [val_main_v94, val_main_v93, val_main_v92, val_main_v91, val_main_v90, val_main_v89, val_main_v88, val_main_v87,
    val_main_cst_16, val_main_cst_17, val_main_cst_18]
  simp only [ref_kraw H, bits_192, bits_eps, zero_add]
  rw [Ideal.div_coe (by norm_num)]; rfl
theorem ref_kn (h : Fin 4) (e : Fin 192) : val_main_v99 (F := Ideal) x0 x1 x2 x5 x6 x8 (ix3 i h e)
    = (kn P (X i) h e : EReal) := by
  pointwise [val_main_v99, val_main_v98, val_main_v97, val_main_v96, val_main_v95]
  rw [ref_kninv H, ref_kraw H, H.k]; rfl

theorem ref_sqraw (h : Fin 8) (e : Fin 64) : val_main_v136 (F := Ideal) x0 x1 x2 (ix3 i h e) = (sq P (X i) h e : EReal) := by
  pointwise [val_main_v136, val_main_v36]
  rw [ref_proj H]; exact congrArg (proj P (X i)) (Fin.ext (by dsimp only; omega))
theorem ref_skraw (h : Fin 2) (e : Fin 64) : val_main_v165 (F := Ideal) x0 x1 x2 (ix3 i h e) = (sk P (X i) h e : EReal) := by
  pointwise [val_main_v165, val_main_v37]
  rw [ref_proj H]; exact congrArg (proj P (X i)) (Fin.ext (by dsimp only; omega))
theorem ref_sv (h : Fin 2) (e : Fin 64) : val_main_v194 (F := Ideal) x0 x1 x2 (ix3 i h e) = (sv P (X i) h e : EReal) := by
  pointwise [val_main_v194, val_main_v38]
  rw [ref_proj H]; exact congrArg (proj P (X i)) (Fin.ext (by dsimp only; omega))

theorem ref_sqinv (h : Fin 8) : val_main_v144 (F := Ideal) x0 x1 x2 (ix3 i h 0) = (inv (1 / 64) (sq P (X i) h) : EReal) := by
  pointwise [val_main_v144, val_main_v143, val_main_v142, val_main_v141, val_main_v140, val_main_v139, val_main_v138,
    val_main_v137, val_main_cst_19, val_main_cst_20, val_main_cst_21]
  simp only [ref_sqraw H, bits_64, bits_eps, zero_add]
  rw [Ideal.div_coe (by norm_num)]; rfl
theorem ref_sqn (h : Fin 8) (e : Fin 64) : val_main_v149 (F := Ideal) x0 x1 x2 x9 (ix3 i h e)
    = (nrm (1 / 64) (sq P (X i) h) P.sq e : EReal) := by
  pointwise [val_main_v149, val_main_v148, val_main_v147, val_main_v146, val_main_v145]
  rw [ref_sqinv H, ref_sqraw H, H.sq]; rfl
theorem ref_skinv (h : Fin 2) : val_main_v173 (F := Ideal) x0 x1 x2 (ix3 i h 0) = (inv (1 / 64) (sk P (X i) h) : EReal) := by
  pointwise [val_main_v173, val_main_v172, val_main_v171, val_main_v170, val_main_v169, val_main_v168, val_main_v167,
    val_main_v166, val_main_cst_22, val_main_cst_23, val_main_cst_24]
  simp only [ref_skraw H, bits_64, bits_eps, zero_add]
  rw [Ideal.div_coe (by norm_num)]; rfl
theorem ref_skn (h : Fin 2) (e : Fin 64) : val_main_v178 (F := Ideal) x0 x1 x2 x10 (ix3 i h e)
    = (nrm (1 / 64) (sk P (X i) h) P.sk e : EReal) := by
  pointwise [val_main_v178, val_main_v177, val_main_v176, val_main_v175, val_main_v174]
  rw [ref_skinv H, ref_skraw H, H.sk]; rfl

/-! ## The rotary embedding -/

theorem ref_qrot (h : Fin 4) (e : Fin 64) : val_main_v116 (F := Ideal) x0 x1 x2 x3 x4 x7 (ix3 i h e)
    = (rot (fun e => qn P (X i) h (hi192 e)) (cosRow i) (sinRow i) e : EReal) := by
  have a (e : Fin 32) : val_main_v102 (F := Ideal) x0 x1 x2 x3 x4 x7 (ix3 i h e) = ((fun e => qn P (X i) h (hi192 e)) ⟨e, by omega⟩ : EReal) := by
    pointwise [val_main_v101, val_main_v102]
    exact ref_qn H i h _
  have b (e : Fin 32) : val_main_v103 (F := Ideal) x0 x1 x2 x3 x4 x7 (ix3 i h e) = ((fun e => qn P (X i) h (hi192 e)) ⟨e + 32, by omega⟩ : EReal) := by
    pointwise [val_main_v101, val_main_v103]
    rw [ref_qn H]
    exact congrArg (qn P (X i) h) (Fin.ext (by dsimp only; omega))
  exact rotated _ _ _ i h _ _ _
    (fun e => by pointwise [val_main_v110, val_main_v109, val_main_v108, val_main_v107, val_main_v106, val_main_v105, val_main_v104]; rw [a, b]; rfl)
    (fun e => by pointwise [val_main_v115, val_main_v114, val_main_v113, val_main_v112, val_main_v111, val_main_v105, val_main_v104]; rw [a, b]; rfl) e

theorem ref_krot (h : Fin 4) (e : Fin 64) : val_main_v134 (F := Ideal) x0 x1 x2 x5 x6 x8 (ix3 i h e)
    = (rot (fun e => kn P (X i) h (hi192 e)) (cosRow i) (sinRow i) e : EReal) := by
  have a (e : Fin 32) : val_main_v120 (F := Ideal) x0 x1 x2 x5 x6 x8 (ix3 i h e) = ((fun e => kn P (X i) h (hi192 e)) ⟨e, by omega⟩ : EReal) := by
    pointwise [val_main_v119, val_main_v120]
    exact ref_kn H i h _
  have b (e : Fin 32) : val_main_v121 (F := Ideal) x0 x1 x2 x5 x6 x8 (ix3 i h e) = ((fun e => kn P (X i) h (hi192 e)) ⟨e + 32, by omega⟩ : EReal) := by
    pointwise [val_main_v119, val_main_v121]
    rw [ref_kn H]
    exact congrArg (kn P (X i) h) (Fin.ext (by dsimp only; omega))
  exact rotated _ _ _ i h _ _ _
    (fun e => by pointwise [val_main_v128, val_main_v127, val_main_v126, val_main_v125, val_main_v124, val_main_v123, val_main_v122]; rw [a, b]; rfl)
    (fun e => by pointwise [val_main_v133, val_main_v132, val_main_v131, val_main_v130, val_main_v129, val_main_v123, val_main_v122]; rw [a, b]; rfl) e

theorem ref_sqrot (h : Fin 8) (e : Fin 64) : val_main_v164 (F := Ideal) x0 x1 x2 x9 (ix3 i h e)
    = (rot (nrm (1 / 64) (sq P (X i) h) P.sq) (cosRow i) (sinRow i) e : EReal) := by
  have a (e : Fin 32) : val_main_v150 (F := Ideal) x0 x1 x2 x9 (ix3 i h e) = ((nrm (1 / 64) (sq P (X i) h) P.sq) ⟨e, by omega⟩ : EReal) := by
    pointwise [val_main_v150]
    exact ref_sqn H i h _
  have b (e : Fin 32) : val_main_v151 (F := Ideal) x0 x1 x2 x9 (ix3 i h e) = ((nrm (1 / 64) (sq P (X i) h) P.sq) ⟨e + 32, by omega⟩ : EReal) := by
    pointwise [val_main_v151]
    rw [ref_sqn H]
    exact congrArg (nrm (1 / 64) (sq P (X i) h) P.sq) (Fin.ext (by dsimp only; omega))
  exact rotated _ _ _ i h _ _ _
    (fun e => by pointwise [val_main_v158, val_main_v157, val_main_v156, val_main_v155, val_main_v154, val_main_v153, val_main_v152]; rw [a, b]; rfl)
    (fun e => by pointwise [val_main_v163, val_main_v162, val_main_v161, val_main_v160, val_main_v159, val_main_v153, val_main_v152]; rw [a, b]; rfl) e

theorem ref_skrot (h : Fin 2) (e : Fin 64) : val_main_v193 (F := Ideal) x0 x1 x2 x10 (ix3 i h e)
    = (rot (nrm (1 / 64) (sk P (X i) h) P.sk) (cosRow i) (sinRow i) e : EReal) := by
  have a (e : Fin 32) : val_main_v179 (F := Ideal) x0 x1 x2 x10 (ix3 i h e) = ((nrm (1 / 64) (sk P (X i) h) P.sk) ⟨e, by omega⟩ : EReal) := by
    pointwise [val_main_v179]
    exact ref_skn H i h _
  have b (e : Fin 32) : val_main_v180 (F := Ideal) x0 x1 x2 x10 (ix3 i h e) = ((nrm (1 / 64) (sk P (X i) h) P.sk) ⟨e + 32, by omega⟩ : EReal) := by
    pointwise [val_main_v180]
    rw [ref_skn H]
    exact congrArg (nrm (1 / 64) (sk P (X i) h) P.sk) (Fin.ext (by dsimp only; omega))
  exact rotated _ _ _ i h _ _ _
    (fun e => by pointwise [val_main_v187, val_main_v186, val_main_v185, val_main_v184, val_main_v183, val_main_v182, val_main_v181]; rw [a, b]; rfl)
    (fun e => by pointwise [val_main_v192, val_main_v191, val_main_v190, val_main_v189, val_main_v188, val_main_v182, val_main_v181]; rw [a, b]; rfl) e

/-! ## The six results -/

omit H in
/-- The filling. -/
theorem zero_fill : ((((0#32 : BitVec 32).toInt : ℝ)) : EReal) = 0 := by simp

theorem ref_qa (h : Fin 4) (l : Fin 256) : val_main_v197 (F := Ideal) x0 x1 x2 x3 x4 x7 (ix3 h i l)
    = (qa P (X i) (cosRow i) (sinRow i) h l : EReal) := by
  have e : val_main_v197 (F := Ideal) x0 x1 x2 x3 x4 x7 (ix3 h i l) = (val_main_v195 (F := Ideal) x0 x1 x2 x3 x4 x7 (ix3 i h l) : EReal) := by
    pointwise [val_main_v197, val_main_v196]
  rw [e]
  exact filled_head _ _ _ i h _ _ _ (fun e => by pointwise [val_main_v100]; exact ref_qn H i h _) (ref_qrot H i h)
    (fun _ => zero_fill) l

theorem ref_ka (h : Fin 4) (l : Fin 256) : val_main_v200 (F := Ideal) x0 x1 x2 x5 x6 x8 (ix3 h i l)
    = (ka P (X i) (cosRow i) (sinRow i) h l : EReal) := by
  have e : val_main_v200 (F := Ideal) x0 x1 x2 x5 x6 x8 (ix3 h i l) = (val_main_v198 (F := Ideal) x0 x1 x2 x5 x6 x8 (ix3 i h l) : EReal) := by
    pointwise [val_main_v200, val_main_v199]
  rw [e]
  exact filled_head _ _ _ i h _ _ _ (fun e => by pointwise [val_main_v118]; exact ref_kn H i h _) (ref_krot H i h)
    (fun _ => zero_fill) l

theorem ref_va (h : Fin 4) (l : Fin 128) : val_main_v202 (F := Ideal) x0 x1 x2 x5 x6 (ix3 h i l) = (va P (X i) h l : EReal) := by
  pointwise [val_main_v202, val_main_v201, val_main_v70]
  exact ref_kv H i h _

theorem ref_qb (h : Fin 4) (l : Fin 128) : val_main_v205 (F := Ideal) x0 x1 x2 x9 (ix3 h i l)
    = (qb P (X i) (cosRow i) (sinRow i) h l : EReal) := by
  have e : val_main_v205 (F := Ideal) x0 x1 x2 x9 (ix3 h i l) = (val_main_v164 (F := Ideal) x0 x1 x2 x9
      (ix3 i (⟨2 * h + l / 64, by omega⟩ : Fin 8) (lane l)) : EReal) := by
    pointwise [val_main_v205, val_main_v204, val_main_v203]
    exact congrArg (fun g : Fin 8 => val_main_v164 (F := Ideal) x0 x1 x2 x9 (ix3 i g (lane l))) (Fin.ext (by dsimp only; omega))
  rw [e, qb]
  exact ref_sqrot H i _ _

theorem ref_kb (h : Fin 2) (l : Fin 128) : val_main_v208 (F := Ideal) x0 x1 x2 x10 (ix3 h i l)
    = (kb P (X i) (cosRow i) (sinRow i) h l : EReal) := by
  have e : val_main_v208 (F := Ideal) x0 x1 x2 x10 (ix3 h i l) = (val_main_v206 (F := Ideal) x0 x1 x2 x10 (ix3 i h l) : EReal) := by
    pointwise [val_main_v208, val_main_v207]
  rw [e, val_main_v206, repeated]
  exact ref_skrot H i h _

theorem ref_vb (h : Fin 2) (l : Fin 128) : val_main_v211 (F := Ideal) x0 x1 x2 (ix3 h i l)
    = (vb P (X i) h l : EReal) := by
  have e : val_main_v211 (F := Ideal) x0 x1 x2 (ix3 h i l) = (val_main_v209 (F := Ideal) x0 x1 x2 (ix3 i h l) : EReal) := by
    pointwise [val_main_v211, val_main_v210]
  rw [e, val_main_v209, repeated]
  exact ref_sv H i h _

end

end Cert.Prep

end
-- ==== Proof.PrepHost.lean ====
/- The arrays the projection kernel is given: what the host's slices, fillings and tables hold. -/
module

public import proofs.«01_k».proof.Proof.PrepRow
public import proofs.«01_k».proof.Proof.PrepRef
public import proofs.«01_k».proof.Proof.Gen.Kernel6Ideal.Value

@[expose] public section

set_option maxRecDepth 16384

noncomputable section

namespace Cert.Prep

open Idealize.ShloMosaic Idealize.ShloMosaic.TcCoe Idealize.SL.Sem
open Cert.Kernel6Ideal Cert.Kernel6Ideal.Gen

/-! ## Fillings and repetitions -/

/-- Four tables of 32 lanes side by side. -/
theorem four_tables (y0 y1 y2 y3 : FVec Ideal S8192x32 .f32) (i : Fin 8192) (l : Fin 128) :
    concatenate S8192x128 1 [⟨S8192x32, y0⟩, ⟨S8192x32, y1⟩, ⟨S8192x32, y2⟩, ⟨S8192x32, y3⟩]
      concatenates_S8192x32_S8192x32_S8192x32_S8192x32_S8192x128_d1 (ix2 i l)
      = if l.val < 32 then y0 (ix2 i (wrap l)) else if l.val < 64 then y1 (ix2 i (wrap l))
        else if l.val < 96 then y2 (ix2 i (wrap l)) else y3 (ix2 i (wrap l)) := by
  split
  · exact concatenate_apply_piece 1 _ _ (ix2 i l) 0 (by simp) S8192x32 y0 rfl rfl 0 rfl (ix2 i (wrap l))
      (fun b => match b with | ⟨0, _⟩ => fun _ => rfl | ⟨1, _⟩ => fun h => absurd rfl h)
      (by show 0 + l.val % 32 = l.val; omega)
  split
  · exact concatenate_apply_piece 1 _ _ (ix2 i l) 1 (by simp) S8192x32 y1 rfl rfl 32 rfl (ix2 i (wrap l))
      (fun b => match b with | ⟨0, _⟩ => fun _ => rfl | ⟨1, _⟩ => fun h => absurd rfl h)
      (by show 32 + l.val % 32 = l.val; omega)
  split
  · exact concatenate_apply_piece 1 _ _ (ix2 i l) 2 (by simp) S8192x32 y2 rfl rfl 64 rfl (ix2 i (wrap l))
      (fun b => match b with | ⟨0, _⟩ => fun _ => rfl | ⟨1, _⟩ => fun h => absurd rfl h)
      (by show 64 + l.val % 32 = l.val; omega)
  · exact concatenate_apply_piece 1 _ _ (ix2 i l) 3 (by simp) S8192x32 y3 rfl rfl 96 rfl (ix2 i (wrap l))
      (fun b => match b with | ⟨0, _⟩ => fun _ => rfl | ⟨1, _⟩ => fun h => absurd rfl h)
      (by show 96 + l.val % 32 = l.val; omega)

/-- The input weights' rows with 64 zero rows after the first 448. -/
theorem win_rows (w : FVec Ideal S1216x1024 .bf16) (k : Fin 1280) (d : Fin 1024) :
    (concatenate S1280x1024 0 [⟨S448x1024, extractStridedSlice S448x1024 ![0, 0] w slices_S1216x1024_S448x1024_0_0⟩,
      ⟨S64x1024, broadcastInDim S64x1024 ![] bcast_S_S64x1024 (constant (F := Ideal) S_ .bf16 0x0000#16)⟩,
      ⟨S768x1024, extractStridedSlice S768x1024 ![448, 0] w slices_S1216x1024_S768x1024_448_0⟩]
      concatenates_S448x1024_S64x1024_S768x1024_S1280x1024_d0 (ix2 k d) : EReal) = filled (fun j => w (ix2 j d)) k := by
  rw [filled]
  split
  · next h =>
    refine (concatenate_apply_piece 0 _ _ (ix2 k d) 0 (by simp) S448x1024 _ rfl rfl 0 rfl (ix2 (⟨k, h⟩ : Fin 448) d)
      (fun b => match b with | ⟨0, _⟩ => fun h => absurd rfl h | ⟨1, _⟩ => fun _ => rfl)
      (by show 0 + k.val = k.val; omega)).trans ?_
    pointwise []
  split
  · next h h' =>
    refine (concatenate_apply_piece 0 _ _ (ix2 k d) 1 (by simp) S64x1024 _ rfl rfl 448 rfl
      (ix2 (⟨k - 448, by omega⟩ : Fin 64) d)
      (fun b => match b with | ⟨0, _⟩ => fun h => absurd rfl h | ⟨1, _⟩ => fun _ => rfl)
      (by show 448 + (k.val - 448) = k.val; omega)).trans ?_
    pointwise []
  · next h h' =>
    refine (concatenate_apply_piece 0 _ _ (ix2 k d) 2 (by simp) S768x1024 _ rfl rfl 512 rfl
      (ix2 (⟨k - 512, by omega⟩ : Fin 768) d)
      (fun b => match b with | ⟨0, _⟩ => fun h => absurd rfl h | ⟨1, _⟩ => fun _ => rfl)
      (by show 512 + (k.val - 512) = k.val; omega)).trans ?_
    pointwise []
    exact congrArg (fun j : Fin 1216 => w (ix2 j d)) (Fin.ext (by dsimp only; omega))

/-- A head's 192 rows with 64 zero rows after them. -/
theorem fill_heads (w : FVec Ideal S4x192x256 .bf16) (h : Fin 4) (e f : Fin 256) :
    (pad S4x256x256 ![0, 0, 0] ![0, 64, 0] ![0, 0, 0] w (sitofp (F := Ideal) .bf16 (constantI S_ 32 0#32))
      pads_S4x192x256_S4x256x256_000_0640_000 h_S_ (ix3 h e f) : EReal) = filled192 (fun e => w (ix3 h e f)) e := by
  rw [filled192]
  split
  · next he =>
    refine pad_apply_of_inside _ _ _ _ _ _ _ _ (ix3 h ⟨e, he⟩ f) fun a => ?_
    fin_cases a <;> simp [ix3]
  · next he =>
    rw [pad_apply_of_not_inside _ _ _ _ _ _ _ _ (1 : Fin 3) (by simp [ix3]; omega)]
    pointwise []
    change (((0#32 : BitVec 32).toInt : ℝ) : EReal) = 0
    simp

/-- 64 lanes with 64 zero lanes after them. -/
theorem fill_lanes (w : FVec Ideal S1x64 .f32) (l : Fin 128) :
    (pad S1x128 ![0, 0] ![0, 64] ![0, 0] w (sitofp (F := Ideal) .f32 (constantI S_ 32 0#32))
      pads_S1x64_S1x128_000_0640 h_S_ (ix2 (0 : Fin 1) l) : EReal) = filled64 (fun e => w (ix2 (0 : Fin 1) e)) l := by
  rw [filled64]
  split
  · next he =>
    refine pad_apply_of_inside _ _ _ _ _ _ _ _ (ix2 (0 : Fin 1) ⟨l, he⟩) fun a => ?_
    fin_cases a <;> simp [ix2]
  · next he =>
    rw [pad_apply_of_not_inside _ _ _ _ _ _ _ _ (1 : Fin 2) (by simp [ix2]; omega)]
    pointwise []
    change (((0#32 : BitVec 32).toInt : ℝ) : EReal) = 0
    simp

/-- 64 lanes twice. -/
theorem twice_lanes (w : FVec Ideal S1x64 .f32) (l : Fin 128) :
    concatenate S1x128 1 [⟨S1x64, w⟩, ⟨S1x64, w⟩] concatenates_S1x64_S1x64_S1x128_d1 (ix2 (0 : Fin 1) l)
      = w (ix2 (0 : Fin 1) (lane l)) := by
  by_cases h : l.val < 64
  · exact concatenate_apply_piece 1 _ _ (ix2 (0 : Fin 1) l) 0 (by simp) S1x64 w rfl rfl 0 rfl (ix2 (0 : Fin 1) (lane l))
      (fun b => match b with | ⟨0, _⟩ => fun _ => rfl | ⟨1, _⟩ => fun h => absurd rfl h)
      (by show 0 + l.val % 64 = l.val; omega)
  · exact concatenate_apply_piece 1 _ _ (ix2 (0 : Fin 1) l) 1 (by simp) S1x64 w rfl rfl 64 rfl (ix2 (0 : Fin 1) (lane l))
      (fun b => match b with | ⟨0, _⟩ => fun _ => rfl | ⟨1, _⟩ => fun h => absurd rfl h)
      (by show 64 + l.val % 64 = l.val; omega)

/-! ## The windows' arrays -/

variable (m : (a : Loc nD τ sig) → Buf (Elt Ideal) a) (c : Dev nD)

/-- The kernel program's arguments hold the token rows and the parameters. -/
abbrev ArgsIn (P : Par) (X : Fin 8192 → Fin 1024 → EReal) : Prop :=
  RefArgs P X (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10))

theorem host_cos (i : Fin 8192) (l : Fin 128) : (V m c main_v48 (ix2 i l) : EReal) = cosRow i (wrap l) := by
  rw [show V m c main_v48 = concatenate S8192x128 1 [⟨S8192x32, Cert.Reference6Ideal.Read.val_main_v17 (F := Ideal)⟩,
    ⟨S8192x32, Cert.Reference6Ideal.Read.val_main_v17 (F := Ideal)⟩,
    ⟨S8192x32, Cert.Reference6Ideal.Read.val_main_v17 (F := Ideal)⟩,
    ⟨S8192x32, Cert.Reference6Ideal.Read.val_main_v17 (F := Ideal)⟩]
    concatenates_S8192x32_S8192x32_S8192x32_S8192x32_S8192x128_d1 by
      simp only [V, hostOps0, hostOps0_1, hostOps0_2, hostOps0_3, hostOps0_4, hostOps0_5, hostOps0_6, List.flatten, List.append]
      after_results_simp <;> rfl]
  refine (four_tables _ _ _ _ i l).trans ?_
  simp only [ite_self]; rfl

/-- The negated table of sines. -/
def negSin : FVec Ideal S8192x32 .f32 := Host.negf (F := Ideal) (φ := .f32) (Cert.Reference6Ideal.Read.val_main_v18 (F := Ideal))

theorem host_sin (i : Fin 8192) (l : Fin 128) : (V m c main_v51 (ix2 i l) : EReal)
    = if l.val % 64 < 32 then -sinRow i (wrap l) else sinRow i (wrap l) := by
  rw [show V m c main_v51 = concatenate S8192x128 1 [⟨S8192x32, negSin⟩,
    ⟨S8192x32, Cert.Reference6Ideal.Read.val_main_v18 (F := Ideal)⟩,
    ⟨S8192x32, negSin⟩,
    ⟨S8192x32, Cert.Reference6Ideal.Read.val_main_v18 (F := Ideal)⟩]
    concatenates_S8192x32_S8192x32_S8192x32_S8192x32_S8192x128_d1 by
      simp only [V, hostOps0, hostOps0_1, hostOps0_2, hostOps0_3, hostOps0_4, hostOps0_5, hostOps0_6, List.flatten, List.append]
      after_results_simp <;> rfl]
  refine (four_tables _ _ _ _ i l).trans ?_
  split_ifs <;> first | rfl | (exfalso; omega)

variable {m c} {P : Par} {X : Fin 8192 → Fin 1024 → EReal} (H : ArgsIn m c P X)
include H

theorem host_x (i : Fin 8192) (k : Fin 1024) : (V m c main_arg0 (ix2 i k) : EReal) = (X i k : EReal) := by
  rw [show V m c main_arg0 = m ((c : Thread nD τ).loc main_arg0) by
      simp only [V, hostOps0, hostOps0_1, hostOps0_2, hostOps0_3, hostOps0_4, hostOps0_5, hostOps0_6, List.flatten, List.append]
      after_results_simp <;> rfl]
  exact H.x i k

theorem host_mix (k : Fin 1024) : (V m c main_v10 (ix2 (0 : Fin 1) k) : EReal) = (P.mix k : EReal) := by
  rw [show V m c main_v10 = broadcastInDim S1x1024 ![1] bcast_S1024_S1x1024_1 (m ((c : Thread nD τ).loc main_arg1)) by
      simp only [V, hostOps0, hostOps0_1, hostOps0_2, hostOps0_3, hostOps0_4, hostOps0_5, hostOps0_6, List.flatten, List.append]
      after_results_simp <;> rfl]
  pointwise []
  exact H.mix k

theorem host_win (k : Fin 1280) (d : Fin 1024) : (V m c main_v5 (ix2 k d) : EReal) = (filled (P.win d) k : EReal) := by
  rw [show V m c main_v5 = concatenate S1280x1024 0 [⟨S448x1024, extractStridedSlice S448x1024 ![0, 0] (truncf (F := Ideal) .bf16
      (transpose S1216x1024 [1, 0] (m ((c : Thread nD τ).loc main_arg2)) transposes_S1024x1216_S1216x1024_1_0) bitsLt_bf16_f32)
      slices_S1216x1024_S448x1024_0_0⟩,
    ⟨S64x1024, broadcastInDim S64x1024 ![] bcast_S_S64x1024 (constant (F := Ideal) S_ .bf16 0x0000#16)⟩,
    ⟨S768x1024, extractStridedSlice S768x1024 ![448, 0] (truncf (F := Ideal) .bf16
      (transpose S1216x1024 [1, 0] (m ((c : Thread nD τ).loc main_arg2)) transposes_S1024x1216_S1216x1024_1_0) bitsLt_bf16_f32)
      slices_S1216x1024_S768x1024_448_0⟩] concatenates_S448x1024_S64x1024_S768x1024_S1280x1024_d0 by
      simp only [V, hostOps0, hostOps0_1, hostOps0_2, hostOps0_3, hostOps0_4, hostOps0_5, hostOps0_6, List.flatten, List.append]
      after_results_simp <;> rfl]
  refine (win_rows _ k d).trans (congrArg (filled · k) (funext fun j => ?_))
  pointwise []
  exact H.win d j

theorem host_qa (f : Fin 256) : (V m c main_v11 (ix2 (0 : Fin 1) f) : EReal) = (P.qa f : EReal) := by
  rw [show V m c main_v11 = broadcastInDim S1x256 ![1] bcast_S256_S1x256_1 (m ((c : Thread nD τ).loc main_arg3)) by
      simp only [V, hostOps0, hostOps0_1, hostOps0_2, hostOps0_3, hostOps0_4, hostOps0_5, hostOps0_6, List.flatten, List.append]
      after_results_simp <;> rfl]
  pointwise []
  exact H.qa f

theorem host_wq (h : Fin 4) (e f : Fin 256) : (V m c main_v9 (ix3 h e f) : EReal) = (filled192 (fun e => P.wq f (atq h e)) e : EReal) := by
  rw [show V m c main_v9 = pad S4x256x256 ![0, 0, 0] ![0, 64, 0] ![0, 0, 0] (shapeCast S4x192x256 (truncf (F := Ideal) .bf16
    (transpose S768x256 [1, 0] (m ((c : Thread nD τ).loc main_arg4)) transposes_S256x768_S768x256_1_0) bitsLt_bf16_f32)
    shapeCasts_S768x256_S4x192x256) (sitofp (F := Ideal) .bf16 (constantI S_ 32 0#32))
    pads_S4x192x256_S4x256x256_000_0640_000 h_S_ by
      simp only [V, hostOps0, hostOps0_1, hostOps0_2, hostOps0_3, hostOps0_4, hostOps0_5, hostOps0_6, List.flatten, List.append]
      after_results_simp <;> rfl]
  refine (fill_heads _ h e f).trans (congrArg (filled192 · e) (funext fun j => ?_))
  pointwise []
  exact H.wq f _

theorem host_kva (f : Fin 128) : (V m c main_v12 (ix2 (0 : Fin 1) f) : EReal) = (P.kva f : EReal) := by
  rw [show V m c main_v12 = broadcastInDim S1x128 ![1] bcast_S128_S1x128_1 (m ((c : Thread nD τ).loc main_arg5)) by
      simp only [V, hostOps0, hostOps0_1, hostOps0_2, hostOps0_3, hostOps0_4, hostOps0_5, hostOps0_6, List.flatten, List.append]
      after_results_simp <;> rfl]
  pointwise []
  exact H.kva f

theorem host_wkv (k : Fin 1024) (f : Fin 128) : (V m c main_v14 (ix2 k f) : EReal) = (P.wkv f k : EReal) := by
  rw [show V m c main_v14 = truncf (F := Ideal) .bf16 (transpose S1024x128 [1, 0] (m ((c : Thread nD τ).loc main_arg6))
    transposes_S128x1024_S1024x128_1_0) bitsLt_bf16_f32 by
      simp only [V, hostOps0, hostOps0_1, hostOps0_2, hostOps0_3, hostOps0_4, hostOps0_5, hostOps0_6, List.flatten, List.append]
      after_results_simp <;> rfl]
  pointwise []
  exact H.wkv f k

theorem host_qlo (l : Fin 128) : (V m c main_v16 (ix2 (0 : Fin 1) l) : EReal) = (P.q (lo192 l) : EReal) := by
  rw [show V m c main_v16 = extractStridedSlice S1x128 ![0, 0] (broadcastInDim S1x192 ![1] bcast_S192_S1x192_1
    (m ((c : Thread nD τ).loc main_arg7))) slices_S1x192_S1x128_0_0 by
      simp only [V, hostOps0, hostOps0_1, hostOps0_2, hostOps0_3, hostOps0_4, hostOps0_5, hostOps0_6, List.flatten, List.append]
      after_results_simp <;> rfl]
  pointwise []
  exact H.q _

theorem host_qhi (l : Fin 128) : (V m c main_v19 (ix2 (0 : Fin 1) l) : EReal) = (filled64 (fun e => P.q (hi192 e)) l : EReal) := by
  rw [show V m c main_v19 = pad S1x128 ![0, 0] ![0, 64] ![0, 0] (extractStridedSlice S1x64 ![0, 128] (broadcastInDim S1x192 ![1]
    bcast_S192_S1x192_1 (m ((c : Thread nD τ).loc main_arg7))) slices_S1x192_S1x64_0_128)
    (sitofp (F := Ideal) .f32 (constantI S_ 32 0#32)) pads_S1x64_S1x128_000_0640 h_S_ by
      simp only [V, hostOps0, hostOps0_1, hostOps0_2, hostOps0_3, hostOps0_4, hostOps0_5, hostOps0_6, List.flatten, List.append]
      after_results_simp <;> rfl]
  refine (fill_lanes _ l).trans (congrArg (filled64 · l) (funext fun j => ?_))
  pointwise []
  exact H.q _

theorem host_klo (l : Fin 128) : (V m c main_v21 (ix2 (0 : Fin 1) l) : EReal) = (P.k (lo192 l) : EReal) := by
  rw [show V m c main_v21 = extractStridedSlice S1x128 ![0, 0] (broadcastInDim S1x192 ![1] bcast_S192_S1x192_1
    (m ((c : Thread nD τ).loc main_arg8))) slices_S1x192_S1x128_0_0 by
      simp only [V, hostOps0, hostOps0_1, hostOps0_2, hostOps0_3, hostOps0_4, hostOps0_5, hostOps0_6, List.flatten, List.append]
      after_results_simp <;> rfl]
  pointwise []
  exact H.k _

theorem host_khi (l : Fin 128) : (V m c main_v24 (ix2 (0 : Fin 1) l) : EReal) = (filled64 (fun e => P.k (hi192 e)) l : EReal) := by
  rw [show V m c main_v24 = pad S1x128 ![0, 0] ![0, 64] ![0, 0] (extractStridedSlice S1x64 ![0, 128] (broadcastInDim S1x192 ![1]
    bcast_S192_S1x192_1 (m ((c : Thread nD τ).loc main_arg8))) slices_S1x192_S1x64_0_128)
    (sitofp (F := Ideal) .f32 (constantI S_ 32 0#32)) pads_S1x64_S1x128_000_0640 h_S_ by
      simp only [V, hostOps0, hostOps0_1, hostOps0_2, hostOps0_3, hostOps0_4, hostOps0_5, hostOps0_6, List.flatten, List.append]
      after_results_simp <;> rfl]
  refine (fill_lanes _ l).trans (congrArg (filled64 · l) (funext fun j => ?_))
  pointwise []
  exact H.k _

theorem host_sq (l : Fin 128) : (V m c main_v26 (ix2 (0 : Fin 1) l) : EReal) = (P.sq (lane l) : EReal) := by
  rw [show V m c main_v26 = concatenate S1x128 1 [⟨S1x64, broadcastInDim S1x64 ![1] bcast_S64_S1x64_1
    (m ((c : Thread nD τ).loc main_arg9))⟩,
    ⟨S1x64, broadcastInDim S1x64 ![1] bcast_S64_S1x64_1
    (m ((c : Thread nD τ).loc main_arg9))⟩] concatenates_S1x64_S1x64_S1x128_d1 by
      simp only [V, hostOps0, hostOps0_1, hostOps0_2, hostOps0_3, hostOps0_4, hostOps0_5, hostOps0_6, List.flatten, List.append]
      after_results_simp <;> rfl]
  refine (twice_lanes _ l).trans ?_
  pointwise []
  exact H.sq _

theorem host_sk (l : Fin 128) : (V m c main_v28 (ix2 (0 : Fin 1) l) : EReal) = (P.sk (lane l) : EReal) := by
  rw [show V m c main_v28 = concatenate S1x128 1 [⟨S1x64, broadcastInDim S1x64 ![1] bcast_S64_S1x64_1
    (m ((c : Thread nD τ).loc main_arg10))⟩,
    ⟨S1x64, broadcastInDim S1x64 ![1] bcast_S64_S1x64_1
    (m ((c : Thread nD τ).loc main_arg10))⟩] concatenates_S1x64_S1x64_S1x128_d1 by
      simp only [V, hostOps0, hostOps0_1, hostOps0_2, hostOps0_3, hostOps0_4, hostOps0_5, hostOps0_6, List.flatten, List.append]
      after_results_simp <;> rfl]
  refine (twice_lanes _ l).trans ?_
  pointwise []
  exact H.sk _

end Cert.Prep

end
-- ==== Proof.PrepEquation.lean ====
/- The value claim of the projections' forward call: the kernel program and the reference end with the same six arrays,
   whatever extended real numbers the arguments hold. -/
module

public import proofs.«01_k».proof.Defs
public import proofs.«01_k».proof.Proof.PrepFwd
public import proofs.«01_k».proof.Proof.PrepHost
public import proofs.«01_k».proof.Proof.AttEquation
public import Idealize.ShloMosaic.Lib.Claim

@[expose] public section

set_option maxRecDepth 16384

noncomputable section

namespace Cert.Prep

open Idealize.ShloMosaic Idealize.ShloMosaic.TcCoe Idealize.SL.Sem
open Cert.Mix (tok)

attribute [local irreducible] cosRow sinRow

section

open Cert.Kernel6Ideal Cert.Kernel6Ideal.Gen

/-! ## The arrays the kernel leaves -/

/-- An index of a block: its head, its row and its lane. -/
theorem split3 {a b n : ℕ} (y : Shape.Idx ⟨3, ![a, b, n]⟩) : ∃ (h : Fin a) (p : Fin b) (l : Fin n), y = ix3 h p l :=
  ⟨y 0, y 1, y 2, funext fun a => match a with | ⟨0, _⟩ => rfl | ⟨1, _⟩ => rfl | ⟨2, _⟩ => rfl⟩

/-- The block each window holds at a point. -/
theorem prep_idx : ∀ t : Fin cfg0.N, win0_0.index t = ![t.val, 0] ∧ win0_1.index t = ![t.val, 0] ∧ win0_2.index t = ![t.val, 0]
    ∧ win0_3.index t = ![0, 0] ∧ win0_4.index t = ![0, 0] ∧ win0_5.index t = ![0, 0] ∧ win0_6.index t = ![0, 0, 0]
    ∧ win0_7.index t = ![0, 0] ∧ win0_8.index t = ![0, 0] ∧ win0_9.index t = ![0, 0] ∧ win0_10.index t = ![0, 0]
    ∧ win0_11.index t = ![0, 0] ∧ win0_12.index t = ![0, 0] ∧ win0_13.index t = ![0, 0] ∧ win0_14.index t = ![0, 0]
    ∧ win0_15.index t = ![0, t.val, 0] ∧ win0_16.index t = ![0, t.val, 0] ∧ win0_17.index t = ![0, t.val, 0]
    ∧ win0_18.index t = ![0, t.val, 0] ∧ win0_19.index t = ![0, t.val, 0] ∧ win0_20.index t = ![0, t.val, 0] :=
  (by decide +kernel : ∀ t : Fin grid0.N, _)

variable {m : (a : Loc nD τ sig) → Buf (Elt Ideal) a} {c : Dev nD} {P : Par} {X : Fin 8192 → Fin 1024 → EReal}
    (H : ArgsIn m c P X)
include H

set_option maxHeartbeats 4000000 in
/-- The blocks the body reads at point `t` hold the tokens from `512 t` on, and the parameters. -/
theorem prep_blocks (t : Fin cfg0.N) (p : Fin 512) : Blocks P (X (tok N_0 t p)) (cosRow (tok N_0 t p)) (sinRow (tok N_0 t p)) p
    (iblk m c 0 t) (iblk m c 1 t) (iblk m c 2 t) (iblk m c 3 t) (iblk m c 4 t) (iblk m c 5 t) (iblk m c 6 t) (iblk m c 7 t)
    (iblk m c 8 t) (iblk m c 9 t) (iblk m c 10 t) (iblk m c 11 t) (iblk m c 12 t) (iblk m c 13 t) (iblk m c 14 t) where
  x k := (show _ = V m c main_arg0 (ix2 (tok N_0 t p) k) by blk_ext [iblk, prep_idx t]).trans (host_x H _ k)
  cos l := (show _ = V m c main_v48 (ix2 (tok N_0 t p) l) by blk_ext [iblk, prep_idx t]).trans (host_cos m c _ l)
  sin l := (show _ = V m c main_v51 (ix2 (tok N_0 t p) l) by blk_ext [iblk, prep_idx t]).trans (host_sin m c _ l)
  mix k := (show _ = V m c main_v10 (ix2 (0 : Fin 1) k) by blk_ext [iblk, prep_idx t]).trans (host_mix H k)
  win k d := (show _ = V m c main_v5 (ix2 k d) by blk_ext [iblk, prep_idx t]).trans (host_win H k d)
  qa f := (show _ = V m c main_v11 (ix2 (0 : Fin 1) f) by blk_ext [iblk, prep_idx t]).trans (host_qa H f)
  wq h e f := (show _ = V m c main_v9 (ix3 h e f) by blk_ext [iblk, prep_idx t]).trans (host_wq H h e f)
  kva f := (show _ = V m c main_v12 (ix2 (0 : Fin 1) f) by blk_ext [iblk, prep_idx t]).trans (host_kva H f)
  wkv k f := (show _ = V m c main_v14 (ix2 k f) by blk_ext [iblk, prep_idx t]).trans (host_wkv H k f)
  qlo l := (show _ = V m c main_v16 (ix2 (0 : Fin 1) l) by blk_ext [iblk, prep_idx t]).trans (host_qlo H l)
  qhi l := (show _ = V m c main_v19 (ix2 (0 : Fin 1) l) by blk_ext [iblk, prep_idx t]).trans (host_qhi H l)
  klo l := (show _ = V m c main_v21 (ix2 (0 : Fin 1) l) by blk_ext [iblk, prep_idx t]).trans (host_klo H l)
  khi l := (show _ = V m c main_v24 (ix2 (0 : Fin 1) l) by blk_ext [iblk, prep_idx t]).trans (host_khi H l)
  sq l := (show _ = V m c main_v26 (ix2 (0 : Fin 1) l) by blk_ext [iblk, prep_idx t]).trans (host_sq H l)
  sk l := (show _ = V m c main_v28 (ix2 (0 : Fin 1) l) by blk_ext [iblk, prep_idx t]).trans (host_sk H l)

set_option maxHeartbeats 4000000 in
theorem qa_array (h : Fin 4) (i : Fin 8192) (l : Fin 256) :
    ((dats m 0 c).arrAt 15 cfg0.N (ix3 h i l) : EReal) = (qa P (X i) (cosRow i) (sinRow i) h l : EReal) := by
  refine congrFun ((dats m 0 c).arrAt_eq_of_covers 15 (fun j => (qa P (X (j 1)) (cosRow (j 1)) (sinRow (j 1)) (j 0) (j 2) : EReal))
    (by decide +kernel) fun t _ y => ?_) (ix3 h i l)
  obtain ⟨h, p, l, rfl⟩ := split3 y
  blk_simp
  rw [after0_15, show (win0_15.blk t).view.emb (ix3 h p l) = ix3 h (tok N_0 t p) l by blk_ext [prep_idx t]]
  exact qa_block (prep_blocks H t p) h l

set_option maxHeartbeats 4000000 in
theorem ka_array (h : Fin 4) (i : Fin 8192) (l : Fin 256) :
    ((dats m 0 c).arrAt 16 cfg0.N (ix3 h i l) : EReal) = (ka P (X i) (cosRow i) (sinRow i) h l : EReal) := by
  refine congrFun ((dats m 0 c).arrAt_eq_of_covers 16 (fun j => (ka P (X (j 1)) (cosRow (j 1)) (sinRow (j 1)) (j 0) (j 2) : EReal))
    (by decide +kernel) fun t _ y => ?_) (ix3 h i l)
  obtain ⟨h, p, l, rfl⟩ := split3 y
  blk_simp
  rw [after0_16, show (win0_16.blk t).view.emb (ix3 h p l) = ix3 h (tok N_0 t p) l by blk_ext [prep_idx t]]
  exact ka_block (prep_blocks H t p) h l

theorem va_array (h : Fin 4) (i : Fin 8192) (l : Fin 128) :
    ((dats m 0 c).arrAt 17 cfg0.N (ix3 h i l) : EReal) = (va P (X i) h l : EReal) := by
  refine congrFun ((dats m 0 c).arrAt_eq_of_covers 17 (fun j => (va P (X (j 1)) (j 0) (j 2) : EReal))
    (by decide +kernel) fun t _ y => ?_) (ix3 h i l)
  obtain ⟨h, p, l, rfl⟩ := split3 y
  blk_simp
  rw [after0_17, show (win0_17.blk t).view.emb (ix3 h p l) = ix3 h (tok N_0 t p) l by blk_ext [prep_idx t]]
  exact va_block (prep_blocks H t p) h l

set_option maxHeartbeats 4000000 in
theorem qb_array (h : Fin 4) (i : Fin 8192) (l : Fin 128) :
    ((dats m 0 c).arrAt 18 cfg0.N (ix3 h i l) : EReal) = (qb P (X i) (cosRow i) (sinRow i) h l : EReal) := by
  refine congrFun ((dats m 0 c).arrAt_eq_of_covers 18 (fun j => (qb P (X (j 1)) (cosRow (j 1)) (sinRow (j 1)) (j 0) (j 2) : EReal))
    (by decide +kernel) fun t _ y => ?_) (ix3 h i l)
  obtain ⟨h, p, l, rfl⟩ := split3 y
  blk_simp
  rw [after0_18, show (win0_18.blk t).view.emb (ix3 h p l) = ix3 h (tok N_0 t p) l by blk_ext [prep_idx t]]
  exact qb_block (prep_blocks H t p) h l

set_option maxHeartbeats 4000000 in
theorem kb_array (h : Fin 2) (i : Fin 8192) (l : Fin 128) :
    ((dats m 0 c).arrAt 19 cfg0.N (ix3 h i l) : EReal) = (kb P (X i) (cosRow i) (sinRow i) h l : EReal) := by
  refine congrFun ((dats m 0 c).arrAt_eq_of_covers 19 (fun j => (kb P (X (j 1)) (cosRow (j 1)) (sinRow (j 1)) (j 0) (j 2) : EReal))
    (by decide +kernel) fun t _ y => ?_) (ix3 h i l)
  obtain ⟨h, p, l, rfl⟩ := split3 y
  blk_simp
  rw [after0_19, show (win0_19.blk t).view.emb (ix3 h p l) = ix3 h (tok N_0 t p) l by blk_ext [prep_idx t]]
  exact kb_block (prep_blocks H t p) h l

theorem vb_array (h : Fin 2) (i : Fin 8192) (l : Fin 128) :
    ((dats m 0 c).arrAt 20 cfg0.N (ix3 h i l) : EReal) = (vb P (X i) h l : EReal) := by
  refine congrFun ((dats m 0 c).arrAt_eq_of_covers 20 (fun j => (vb P (X (j 1)) (j 0) (j 2) : EReal))
    (by decide +kernel) fun t _ y => ?_) (ix3 h i l)
  obtain ⟨h, p, l, rfl⟩ := split3 y
  blk_simp
  rw [after0_20, show (win0_20.blk t).view.emb (ix3 h p l) = ix3 h (tok N_0 t p) l by blk_ext [prep_idx t]]
  exact vb_block (prep_blocks H t p) h l

end

section

open Cert.Kernel6Ideal

variable (m : (ℓ : Loc nD τ sig) → Buf (Elt Ideal) ℓ) (c : Dev nD)

/-- The parameters and the token rows that the kernel program's argument arrays hold. -/
def par : Par where
  mix k := m ((c : Thread nD τ).loc main_arg1) (ix1 k)
  win d k := m ((c : Thread nD τ).loc main_arg2) (ix2 d k)
  qa f := m ((c : Thread nD τ).loc main_arg3) (ix1 f)
  wq f k := m ((c : Thread nD τ).loc main_arg4) (ix2 f k)
  kva f := m ((c : Thread nD τ).loc main_arg5) (ix1 f)
  wkv f k := m ((c : Thread nD τ).loc main_arg6) (ix2 f k)
  q e := m ((c : Thread nD τ).loc main_arg7) (ix1 e)
  k e := m ((c : Thread nD τ).loc main_arg8) (ix1 e)
  sq e := m ((c : Thread nD τ).loc main_arg9) (ix1 e)
  sk e := m ((c : Thread nD τ).loc main_arg10) (ix1 e)
def token (i : Fin 8192) (k : Fin 1024) : EReal := m ((c : Thread nD τ).loc main_arg0) (ix2 i k)

theorem args_in : ArgsIn m c (par m c) (token m c) where
  x _ _ := rfl
  mix _ := rfl
  win _ _ := rfl
  qa _ := rfl
  wq _ _ := rfl
  kva _ := rfl
  wkv _ _ := rfl
  q _ := rfl
  k _ := rfl
  sq _ := rfl
  sk _ := rfl

end

theorem algebraic : Cert.algebraic_Kernel6Ideal_Reference6Ideal
    (hKernel6Ideal := Cert.Kernel6Ideal.Gen.facts) (hReference6Ideal := Cert.Reference6Ideal.Gen.facts) := by
  intro m g m' g' _ hagree
  have hin c := args_in m c
  refine ⟨_, _, _, _, _, _, Cert.Kernel6Ideal.Value.run_blocks m g, ?_⟩
  refine (θ_run _ _ _).mono (fun r h c => ?_) (Cert.Reference6Ideal.Value.run m' g')
  obtain ⟨a0, a1, a2, a3, a4, a5, a6, a7, a8, a9, a10⟩ := hagree c
  obtain ⟨r0, r1, r2, r3, r4, r5, hargs⟩ := h c
  have at_launch (r : Ref Cert.Reference6Ideal.sig .tc) : StableHlo.launchContents m' c (Proc.tc.devRef r)
      = m' ((c : Thread Cert.Reference6Ideal.nD Cert.Reference6Ideal.τ).loc r) := rfl
  rw [Cert.Reference6Ideal.Read.val_main_v197_eq] at r0
  rw [Cert.Reference6Ideal.Read.val_main_v200_eq] at r1
  rw [Cert.Reference6Ideal.Read.val_main_v202_eq] at r2
  rw [Cert.Reference6Ideal.Read.val_main_v205_eq] at r3
  rw [Cert.Reference6Ideal.Read.val_main_v208_eq] at r4
  rw [Cert.Reference6Ideal.Read.val_main_v211_eq] at r5
  simp only [at_launch, a0, a1, a2, a3, a4, a5, a6, a7, a8, a9, a10] at r0 r1 r2 r3 r4 r5
  refine ⟨r0.trans (Cert.Att.ext3 _ _ fun h i l => ?_), r1.trans (Cert.Att.ext3 _ _ fun h i l => ?_),
    r2.trans (Cert.Att.ext3 _ _ fun h i l => ?_), r3.trans (Cert.Att.ext3 _ _ fun h i l => ?_),
    r4.trans (Cert.Att.ext3 _ _ fun h i l => ?_), r5.trans (Cert.Att.ext3 _ _ fun h i l => ?_), hargs⟩
  · exact (ref_qa (hin c) i h l).trans (qa_array (hin c) h i l).symm
  · exact (ref_ka (hin c) i h l).trans (ka_array (hin c) h i l).symm
  · exact (ref_va (hin c) i h l).trans (va_array (hin c) h i l).symm
  · exact (ref_qb (hin c) i h l).trans (qb_array (hin c) h i l).symm
  · exact (ref_kb (hin c) i h l).trans (kb_array (hin c) h i l).symm
  · exact (ref_vb (hin c) i h l).trans (vb_array (hin c) h i l).symm

end Cert.Prep

end
-- ==== Proof.lean ====
/- The proof of this directory's certificate: the frames of the programs, the named constants of the attention programs
   and of the projections, and the six value claims: the feed-forward block's forward and backward pass, the latent
   attention's forward call, its backward call, the mixers' output block forward and backward, the optimiser's step, and
   the forward call of the projections. -/
module

public import proofs.«01_k».proof.Defs
public import proofs.«01_k».proof.Proof.Gen.Kernel.Frame
public import proofs.«01_k».proof.Proof.Gen.KernelIdeal.Frame
public import proofs.«01_k».proof.Proof.Gen.ReferenceIdeal.Read
public import proofs.«01_k».proof.Proof.Gen.Kernel2.Frame
public import proofs.«01_k».proof.Proof.Gen.Kernel2Ideal.Value
public import proofs.«01_k».proof.Proof.Gen.Reference2Ideal.Read
public import proofs.«01_k».proof.Proof.Gen.Kernel3
public import proofs.«01_k».proof.Proof.BwdFrameBits
public import proofs.«01_k».proof.Proof.Gen.Reference3Ideal.Read
public import proofs.«01_k».proof.Proof.Gen.Kernel4.Frame
public import proofs.«01_k».proof.Proof.Gen.Kernel4Ideal.Frame
public import proofs.«01_k».proof.Proof.Gen.Reference4Ideal.Read
public import proofs.«01_k».proof.Proof.Gen.Kernel5.Frame
public import proofs.«01_k».proof.Proof.Gen.Kernel5Ideal.Value
public import proofs.«01_k».proof.Proof.Gen.Reference5Ideal.Read
public import proofs.«01_k».proof.Proof.Gen.Kernel6.Frame
public import proofs.«01_k».proof.Proof.Gen.Kernel6Ideal.Value
public import proofs.«01_k».proof.Proof.Gen.Reference6Ideal.Read
public import proofs.«01_k».proof.Proof.Equation
public import proofs.«01_k».proof.Proof.AttEquation
public import proofs.«01_k».proof.Proof.BwdEquation
public import proofs.«01_k».proof.Proof.MixEquation
public import proofs.«01_k».proof.Proof.Opt
public import proofs.«01_k».proof.Proof.PrepEquation
public import Idealize.ShloMosaic.Lib.Quiescent

@[expose] public section

noncomputable section

namespace Cert.Proof

open Idealize.ShloMosaic Idealize.SL.Sem

/-- The reference leaves its arguments unchanged, and it has no semaphore whose counter could move. -/
theorem frame_reference : Cert.quiescent_ReferenceIdeal (hReferenceIdeal := Cert.ReferenceIdeal.Gen.facts) := by
  intro m g _
  exact (θ_run _ _ _).mono (fun r h => ⟨fun c => (h c).2.2.2.2.2.2, sem_eq_zero_of_no_sems rfl r.2⟩)
    (Cert.ReferenceIdeal.Value.run m g)

/-- The same for the attention reference. -/
theorem frame_attention_reference :
    Cert.quiescent_Reference2Ideal (hReference2Ideal := Cert.Reference2Ideal.Gen.facts) := by
  intro m g _
  exact (θ_run _ _ _).mono (fun r h => ⟨fun c => (h c).2.2, sem_eq_zero_of_no_sems rfl r.2⟩)
    (Cert.Reference2Ideal.Value.run m g)

/-- And for the reference of the attention's backward call. -/
theorem frame_backward_reference :
    Cert.quiescent_Reference3Ideal (hReference3Ideal := Cert.Reference3Ideal.Gen.facts) := by
  intro m g _
  exact (θ_run _ _ _).mono (fun r h => ⟨fun c => (h c).2.2.2, sem_eq_zero_of_no_sems rfl r.2⟩)
    (Cert.Reference3Ideal.Value.run m g)

/-- And for the reference of the mixers' output block. -/
theorem frame_mix_reference : Cert.quiescent_Reference4Ideal (hReference4Ideal := Cert.Reference4Ideal.Gen.facts) := by
  intro m g _
  exact (θ_run _ _ _).mono (fun r h => ⟨fun c => (h c).2.2.2.2.2.2.2.2, sem_eq_zero_of_no_sems rfl r.2⟩)
    (Cert.Reference4Ideal.Value.run m g)

/-- And for the reference of the optimiser's step. -/
theorem frame_step_reference : Cert.quiescent_Reference5Ideal (hReference5Ideal := Cert.Reference5Ideal.Gen.facts) := by
  intro m g _
  exact (θ_run _ _ _).mono (fun r h => ⟨fun c => (h c).2.2.2, sem_eq_zero_of_no_sems rfl r.2⟩)
    (Cert.Reference5Ideal.Value.run m g)

/-- And for the reference of the projections' forward call. -/
theorem frame_prep_reference : Cert.quiescent_Reference6Ideal (hReference6Ideal := Cert.Reference6Ideal.Gen.facts) := by
  intro m g _
  exact (θ_run _ _ _).mono (fun r h => ⟨fun c => (h c).2.2.2.2.2.2, sem_eq_zero_of_no_sems rfl r.2⟩)
    (Cert.Reference6Ideal.Value.run m g)

/-- Each named constant's literal is that constant, rounded. -/
theorem named : Cert.preserves_Kernel2_Kernel2Ideal :=
  ⟨IdealRules.named_const.statement Cert.Kernel2Ideal.κ "masked" .f32 0xF149F2CA#32 _ rfl,
    IdealRules.named_const.statement Cert.Kernel2Ideal.κ "scale2" .f32 0x3DD53B95#32 _ rfl,
    IdealRules.named_const.statement Cert.Kernel2Ideal.κ "scale" .f32 0x3D93CD3A#32 _ rfl⟩

/-- The same for the backward call. -/
theorem named_backward : Cert.preserves_Kernel3_Kernel3Ideal :=
  ⟨IdealRules.named_const.statement Cert.Kernel3Ideal.κ "log2e" .f32 0x3FB8AA3B#32 _ rfl,
    IdealRules.named_const.statement Cert.Kernel3Ideal.κ "scale2" .f32 0x3DD53B95#32 _ rfl,
    IdealRules.named_const.statement Cert.Kernel3Ideal.κ "scale" .f32 0x3D93CD3A#32 _ rfl⟩

/-- And for the projections' forward call, which divides by the number of a head's lanes. -/
theorem named_prep : Cert.preserves_Kernel6_Kernel6Ideal :=
  IdealRules.named_const.statement Cert.Kernel6Ideal.κ "inv192" .f32 0x3BAAAAAB#32 _ rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts,
  Cert.Kernel3Ideal.Gen.facts, Cert.Reference3Ideal.Gen.facts, Cert.Kernel4.Gen.facts, Cert.Kernel4Ideal.Gen.facts,
  Cert.Reference4Ideal.Gen.facts, Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Pre_finite.Gen.facts, Cert.Att.qkv_facts, Cert.Bwd.qkvd_facts,
  fun m g _ => Cert.Kernel.Gen.frame m g, fun m g _ => Cert.KernelIdeal.Gen.frame m g,
  fun m g _ => Cert.KernelIdeal.Gen.frame m g, frame_reference, fun m g _ => frame_reference m g trivial,
  fun m g _ => Cert.Kernel2.Gen.frame m g, fun m g _ => Cert.Kernel2Ideal.Gen.frame m g,
  fun m g _ => Cert.Kernel2Ideal.Gen.frame m g, frame_attention_reference,
  fun m g _ => frame_attention_reference m g trivial, fun m g _ => Cert.Kernel3.Run.frame m g,
  fun m g _ => Cert.Kernel3Ideal.Run.frame m g, fun m g _ => Cert.Kernel3Ideal.Run.frame m g, frame_backward_reference,
  fun m g _ => frame_backward_reference m g trivial, fun m g _ => Cert.Kernel4.Gen.frame m g,
  fun m g _ => Cert.Kernel4Ideal.Gen.frame m g, frame_mix_reference, fun m g _ => Cert.Kernel5.Gen.frame m g,
  fun m g _ => Cert.Kernel5Ideal.Gen.frame m g, frame_step_reference, fun m g _ => Cert.Kernel6.Gen.frame m g,
  fun m g _ => Cert.Kernel6Ideal.Gen.frame m g, frame_prep_reference, trivial, Cert.Ffn.algebraic, named,
  Cert.Att.algebraic, named_backward, Cert.Bwd.algebraic, trivial, Cert.Mix.algebraic, trivial, Cert.Opt.algebraic,
  named_prep, Cert.Prep.algebraic⟩

end Cert.Proof

end
